-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdPlainIdeal (m : (ℓ : Loc Cert.FwdPlainIdeal.nD Cert.FwdPlainIdeal.τ Cert.FwdPlainIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjPlainIdeal (m : (ℓ : Loc Cert.InProjPlainIdeal.nD Cert.InProjPlainIdeal.τ Cert.InProjPlainIdeal.sig) → Buf (Elt Ideal) ℓ) : Prop :=
  True

def Pre_DIn (m : (ℓ : Loc Cert.DIn.nD Cert.DIn.τ Cert.DIn.sig) → Buf (Elt Bits) ℓ) : Prop :=
  True

def Pre_DInIdeal (m : (ℓ : Loc Cert.DInIdeal.nD Cert.DInIdeal.τ Cert.DInIdeal.sig) → Buf (Elt Ideal) ℓ) : Prop :=
  True

def Pre_DInPlainIdeal (m : (ℓ : Loc Cert.DInPlainIdeal.nD Cert.DInPlainIdeal.τ Cert.DInPlainIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluPlainIdeal (m : (ℓ : Loc Cert.GluPlainIdeal.nD Cert.GluPlainIdeal.τ Cert.GluPlainIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjPlainIdeal (m : (ℓ : Loc Cert.PleProjPlainIdeal.nD Cert.PleProjPlainIdeal.τ Cert.PleProjPlainIdeal.sig) → Buf (Elt Ideal) ℓ) : Prop :=
  True

def Pre_DPleGate (m : (ℓ : Loc Cert.DPleGate.nD Cert.DPleGate.τ Cert.DPleGate.sig) → Buf (Elt Bits) ℓ) : Prop :=
  True

def Pre_DPleGateIdeal (m : (ℓ : Loc Cert.DPleGateIdeal.nD Cert.DPleGateIdeal.τ Cert.DPleGateIdeal.sig) → Buf (Elt Ideal) ℓ) : Prop :=
  True

def Pre_DPleGatePlainIdeal (m : (ℓ : Loc Cert.DPleGatePlainIdeal.nD Cert.DPleGatePlainIdeal.τ Cert.DPleGatePlainIdeal.sig) → Buf (Elt Ideal) ℓ) : Prop :=
  True

def Pre_DPleProj (m : (ℓ : Loc Cert.DPleProj.nD Cert.DPleProj.τ Cert.DPleProj.sig) → Buf (Elt Bits) ℓ) : Prop :=
  True

def Pre_DPleProjIdeal (m : (ℓ : Loc Cert.DPleProjIdeal.nD Cert.DPleProjIdeal.τ Cert.DPleProjIdeal.sig) → Buf (Elt Ideal) ℓ) : Prop :=
  True

def Pre_DPleProjPlainIdeal (m : (ℓ : Loc Cert.DPleProjPlainIdeal.nD Cert.DPleProjPlainIdeal.τ Cert.DPleProjPlainIdeal.sig) → Buf (Elt Ideal) ℓ) : Prop :=
  True

def Pre_DOut (m : (ℓ : Loc Cert.DOut.nD Cert.DOut.τ Cert.DOut.sig) → Buf (Elt Bits) ℓ) : Prop :=
  True

def Pre_DOutIdeal (m : (ℓ : Loc Cert.DOutIdeal.nD Cert.DOutIdeal.τ Cert.DOutIdeal.sig) → Buf (Elt Ideal) ℓ) : Prop :=
  True

def Pre_DOutPlainIdeal (m : (ℓ : Loc Cert.DOutPlainIdeal.nD Cert.DOutPlainIdeal.τ Cert.DOutPlainIdeal.sig) → Buf (Elt Ideal) ℓ) : Prop :=
  True

def Pre_DGlu (m : (ℓ : Loc Cert.DGlu.nD Cert.DGlu.τ Cert.DGlu.sig) → Buf (Elt Bits) ℓ) : Prop :=
  True

def Pre_DGluIdeal (m : (ℓ : Loc Cert.DGluIdeal.nD Cert.DGluIdeal.τ Cert.DGluIdeal.sig) → Buf (Elt Ideal) ℓ) : Prop :=
  True

def Pre_DGluPlainIdeal (m : (ℓ : Loc Cert.DGluPlainIdeal.nD Cert.DGluPlainIdeal.τ Cert.DGluPlainIdeal.sig) → Buf (Elt Ideal) ℓ) : Prop :=
  True

def Pre_DYcat (m : (ℓ : Loc Cert.DYcat.nD Cert.DYcat.τ Cert.DYcat.sig) → Buf (Elt Bits) ℓ) : Prop :=
  True

def Pre_DYcatIdeal (m : (ℓ : Loc Cert.DYcatIdeal.nD Cert.DYcatIdeal.τ Cert.DYcatIdeal.sig) → Buf (Elt Ideal) ℓ) : Prop :=
  True

def Pre_DYcatPlainIdeal (m : (ℓ : Loc Cert.DYcatPlainIdeal.nD Cert.DYcatPlainIdeal.τ Cert.DYcatPlainIdeal.sig) → Buf (Elt Ideal) ℓ) : Prop :=
  True

def Pre_DZ (m : (ℓ : Loc Cert.DZ.nD Cert.DZ.τ Cert.DZ.sig) → Buf (Elt Bits) ℓ) : Prop :=
  True

def Pre_DZIdeal (m : (ℓ : Loc Cert.DZIdeal.nD Cert.DZIdeal.τ Cert.DZIdeal.sig) → Buf (Elt Ideal) ℓ) : Prop :=
  True

def Pre_DZPlainIdeal (m : (ℓ : Loc Cert.DZPlainIdeal.nD Cert.DZPlainIdeal.τ Cert.DZPlainIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGatePlainIdeal (m : (ℓ : Loc Cert.PleGatePlainIdeal.nD Cert.PleGatePlainIdeal.τ Cert.PleGatePlainIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutPlainIdeal (m : (ℓ : Loc Cert.MixOutPlainIdeal.nD Cert.MixOutPlainIdeal.τ Cert.MixOutPlainIdeal.sig) → Buf (Elt Ideal) ℓ) : Prop :=
  True

def Pre_DHn2 (m : (ℓ : Loc Cert.DHn2.nD Cert.DHn2.τ Cert.DHn2.sig) → Buf (Elt Bits) ℓ) : Prop :=
  True

def Pre_DHn2Ideal (m : (ℓ : Loc Cert.DHn2Ideal.nD Cert.DHn2Ideal.τ Cert.DHn2Ideal.sig) → Buf (Elt Ideal) ℓ) : Prop :=
  True

def Pre_DHn2PlainIdeal (m : (ℓ : Loc Cert.DHn2PlainIdeal.nD Cert.DHn2PlainIdeal.τ Cert.DHn2PlainIdeal.sig) → Buf (Elt Ideal) ℓ) : Prop :=
  True

def Pre_DHn (m : (ℓ : Loc Cert.DHn.nD Cert.DHn.τ Cert.DHn.sig) → Buf (Elt Bits) ℓ) : Prop :=
  True

def Pre_DHnIdeal (m : (ℓ : Loc Cert.DHnIdeal.nD Cert.DHnIdeal.τ Cert.DHnIdeal.sig) → Buf (Elt Ideal) ℓ) : Prop :=
  True

def Pre_DHnPlainIdeal (m : (ℓ : Loc Cert.DHnPlainIdeal.nD Cert.DHnPlainIdeal.τ Cert.DHnPlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdPlainIdeal [hFwdPlainIdeal : Cert.FwdPlainIdeal.Facts] : Prop :=
  ∀ (m : (ℓ : Loc Cert.FwdPlainIdeal.nD Cert.FwdPlainIdeal.τ Cert.FwdPlainIdeal.sig) → Buf (Elt Ideal) ℓ) (g : Dev Cert.FwdPlainIdeal.nD → PrngReg), Pre_FwdPlainIdeal m →
    θ_run (Cert.FwdPlainIdeal.defs (F := Ideal)) (onTc (τ := Cert.FwdPlainIdeal.τ) (Cert.FwdPlainIdeal.main (F := Ideal))) ⟨m, fun _ => 0, g⟩ (fun r => (∀ c : Dev Cert.FwdPlainIdeal.nD,
      r.2.mem ((c.tc : Thread Cert.FwdPlainIdeal.nD Cert.FwdPlainIdeal.τ).loc Cert.FwdPlainIdeal.main_arg0) = m ((c.tc : Thread Cert.FwdPlainIdeal.nD Cert.FwdPlainIdeal.τ).loc Cert.FwdPlainIdeal.main_arg0)
      ∧ r.2.mem ((c.tc : Thread Cert.FwdPlainIdeal.nD Cert.FwdPlainIdeal.τ).loc Cert.FwdPlainIdeal.main_arg1) = m ((c.tc : Thread Cert.FwdPlainIdeal.nD Cert.FwdPlainIdeal.τ).loc Cert.FwdPlainIdeal.main_arg1)
      ∧ r.2.mem ((c.tc : Thread Cert.FwdPlainIdeal.nD Cert.FwdPlainIdeal.τ).loc Cert.FwdPlainIdeal.main_arg2) = m ((c.tc : Thread Cert.FwdPlainIdeal.nD Cert.FwdPlainIdeal.τ).loc Cert.FwdPlainIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjPlainIdeal [hInProjPlainIdeal : Cert.InProjPlainIdeal.Facts] : Prop :=
  ∀ (m : (ℓ : Loc Cert.InProjPlainIdeal.nD Cert.InProjPlainIdeal.τ Cert.InProjPlainIdeal.sig) → Buf (Elt Ideal) ℓ) (g : Dev Cert.InProjPlainIdeal.nD → PrngReg), Pre_InProjPlainIdeal m →
    θ_run (Cert.InProjPlainIdeal.defs (F := Ideal)) (onTc (τ := Cert.InProjPlainIdeal.τ) (Cert.InProjPlainIdeal.main (F := Ideal))) ⟨m, fun _ => 0, g⟩ (fun r => (∀ c : Dev Cert.InProjPlainIdeal.nD,
      r.2.mem ((c.tc : Thread Cert.InProjPlainIdeal.nD Cert.InProjPlainIdeal.τ).loc Cert.InProjPlainIdeal.main_arg0) = m ((c.tc : Thread Cert.InProjPlainIdeal.nD Cert.InProjPlainIdeal.τ).loc Cert.InProjPlainIdeal.main_arg0)
      ∧ r.2.mem ((c.tc : Thread Cert.InProjPlainIdeal.nD Cert.InProjPlainIdeal.τ).loc Cert.InProjPlainIdeal.main_arg1) = m ((c.tc : Thread Cert.InProjPlainIdeal.nD Cert.InProjPlainIdeal.τ).loc Cert.InProjPlainIdeal.main_arg1))
      ∧ r.2.sem = fun _ => 0)

def quiescent_DIn [hDIn : Cert.DIn.Facts] : Prop :=
  ∀ (m : (ℓ : Loc Cert.DIn.nD Cert.DIn.τ Cert.DIn.sig) → Buf (Elt Bits) ℓ) (g : Dev Cert.DIn.nD → PrngReg), Pre_DIn m →
    θ_run (Cert.DIn.defs (F := Bits)) (onTc (τ := Cert.DIn.τ) (Cert.DIn.main (F := Bits))) ⟨m, fun _ => 0, g⟩ (fun r => (∀ c : Dev Cert.DIn.nD,
      r.2.mem ((c.tc : Thread Cert.DIn.nD Cert.DIn.τ).loc Cert.DIn.main_arg0) = m ((c.tc : Thread Cert.DIn.nD Cert.DIn.τ).loc Cert.DIn.main_arg0)
      ∧ r.2.mem ((c.tc : Thread Cert.DIn.nD Cert.DIn.τ).loc Cert.DIn.main_arg1) = m ((c.tc : Thread Cert.DIn.nD Cert.DIn.τ).loc Cert.DIn.main_arg1)
      ∧ r.2.mem ((c.tc : Thread Cert.DIn.nD Cert.DIn.τ).loc Cert.DIn.main_arg2) = m ((c.tc : Thread Cert.DIn.nD Cert.DIn.τ).loc Cert.DIn.main_arg2))
      ∧ r.2.sem = fun _ => 0)

def quiescent_DInIdeal [hDInIdeal : Cert.DInIdeal.Facts] : Prop :=
  ∀ (m : (ℓ : Loc Cert.DInIdeal.nD Cert.DInIdeal.τ Cert.DInIdeal.sig) → Buf (Elt Ideal) ℓ) (g : Dev Cert.DInIdeal.nD → PrngReg), Pre_DInIdeal m →
    θ_run (Cert.DInIdeal.defs (F := Ideal)) (onTc (τ := Cert.DInIdeal.τ) (Cert.DInIdeal.main (F := Ideal))) ⟨m, fun _ => 0, g⟩ (fun r => (∀ c : Dev Cert.DInIdeal.nD,
      r.2.mem ((c.tc : Thread Cert.DInIdeal.nD Cert.DInIdeal.τ).loc Cert.DInIdeal.main_arg0) = m ((c.tc : Thread Cert.DInIdeal.nD Cert.DInIdeal.τ).loc Cert.DInIdeal.main_arg0)
      ∧ r.2.mem ((c.tc : Thread Cert.DInIdeal.nD Cert.DInIdeal.τ).loc Cert.DInIdeal.main_arg1) = m ((c.tc : Thread Cert.DInIdeal.nD Cert.DInIdeal.τ).loc Cert.DInIdeal.main_arg1)
      ∧ r.2.mem ((c.tc : Thread Cert.DInIdeal.nD Cert.DInIdeal.τ).loc Cert.DInIdeal.main_arg2) = m ((c.tc : Thread Cert.DInIdeal.nD Cert.DInIdeal.τ).loc Cert.DInIdeal.main_arg2))
      ∧ r.2.sem = fun _ => 0)

def quiescent_DInPlainIdeal [hDInPlainIdeal : Cert.DInPlainIdeal.Facts] : Prop :=
  ∀ (m : (ℓ : Loc Cert.DInPlainIdeal.nD Cert.DInPlainIdeal.τ Cert.DInPlainIdeal.sig) → Buf (Elt Ideal) ℓ) (g : Dev Cert.DInPlainIdeal.nD → PrngReg), Pre_DInPlainIdeal m →
    θ_run (Cert.DInPlainIdeal.defs (F := Ideal)) (onTc (τ := Cert.DInPlainIdeal.τ) (Cert.DInPlainIdeal.main (F := Ideal))) ⟨m, fun _ => 0, g⟩ (fun r => (∀ c : Dev Cert.DInPlainIdeal.nD,
      r.2.mem ((c.tc : Thread Cert.DInPlainIdeal.nD Cert.DInPlainIdeal.τ).loc Cert.DInPlainIdeal.main_arg0) = m ((c.tc : Thread Cert.DInPlainIdeal.nD Cert.DInPlainIdeal.τ).loc Cert.DInPlainIdeal.main_arg0)
      ∧ r.2.mem ((c.tc : Thread Cert.DInPlainIdeal.nD Cert.DInPlainIdeal.τ).loc Cert.DInPlainIdeal.main_arg1) = m ((c.tc : Thread Cert.DInPlainIdeal.nD Cert.DInPlainIdeal.τ).loc Cert.DInPlainIdeal.main_arg1)
      ∧ r.2.mem ((c.tc : Thread Cert.DInPlainIdeal.nD Cert.DInPlainIdeal.τ).loc Cert.DInPlainIdeal.main_arg2) = m ((c.tc : Thread Cert.DInPlainIdeal.nD Cert.DInPlainIdeal.τ).loc Cert.DInPlainIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluPlainIdeal [hGluPlainIdeal : Cert.GluPlainIdeal.Facts] : Prop :=
  ∀ (m : (ℓ : Loc Cert.GluPlainIdeal.nD Cert.GluPlainIdeal.τ Cert.GluPlainIdeal.sig) → Buf (Elt Ideal) ℓ) (g : Dev Cert.GluPlainIdeal.nD → PrngReg), Pre_GluPlainIdeal m →
    θ_run (Cert.GluPlainIdeal.defs (F := Ideal)) (onTc (τ := Cert.GluPlainIdeal.τ) (Cert.GluPlainIdeal.main (F := Ideal))) ⟨m, fun _ => 0, g⟩ (fun r => (∀ c : Dev Cert.GluPlainIdeal.nD,
      r.2.mem ((c.tc : Thread Cert.GluPlainIdeal.nD Cert.GluPlainIdeal.τ).loc Cert.GluPlainIdeal.main_arg0) = m ((c.tc : Thread Cert.GluPlainIdeal.nD Cert.GluPlainIdeal.τ).loc Cert.GluPlainIdeal.main_arg0)
      ∧ r.2.mem ((c.tc : Thread Cert.GluPlainIdeal.nD Cert.GluPlainIdeal.τ).loc Cert.GluPlainIdeal.main_arg1) = m ((c.tc : Thread Cert.GluPlainIdeal.nD Cert.GluPlainIdeal.τ).loc Cert.GluPlainIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjPlainIdeal [hPleProjPlainIdeal : Cert.PleProjPlainIdeal.Facts] : Prop :=
  ∀ (m : (ℓ : Loc Cert.PleProjPlainIdeal.nD Cert.PleProjPlainIdeal.τ Cert.PleProjPlainIdeal.sig) → Buf (Elt Ideal) ℓ) (g : Dev Cert.PleProjPlainIdeal.nD → PrngReg), Pre_PleProjPlainIdeal m →
    θ_run (Cert.PleProjPlainIdeal.defs (F := Ideal)) (onTc (τ := Cert.PleProjPlainIdeal.τ) (Cert.PleProjPlainIdeal.main (F := Ideal))) ⟨m, fun _ => 0, g⟩ (fun r => (∀ c : Dev Cert.PleProjPlainIdeal.nD,
      r.2.mem ((c.tc : Thread Cert.PleProjPlainIdeal.nD Cert.PleProjPlainIdeal.τ).loc Cert.PleProjPlainIdeal.main_arg0) = m ((c.tc : Thread Cert.PleProjPlainIdeal.nD Cert.PleProjPlainIdeal.τ).loc Cert.PleProjPlainIdeal.main_arg0)
      ∧ r.2.mem ((c.tc : Thread Cert.PleProjPlainIdeal.nD Cert.PleProjPlainIdeal.τ).loc Cert.PleProjPlainIdeal.main_arg1) = m ((c.tc : Thread Cert.PleProjPlainIdeal.nD Cert.PleProjPlainIdeal.τ).loc Cert.PleProjPlainIdeal.main_arg1))
      ∧ r.2.sem = fun _ => 0)

def quiescent_DPleGate [hDPleGate : Cert.DPleGate.Facts] : Prop :=
  ∀ (m : (ℓ : Loc Cert.DPleGate.nD Cert.DPleGate.τ Cert.DPleGate.sig) → Buf (Elt Bits) ℓ) (g : Dev Cert.DPleGate.nD → PrngReg), Pre_DPleGate m →
    θ_run (Cert.DPleGate.defs (F := Bits)) (onTc (τ := Cert.DPleGate.τ) (Cert.DPleGate.main (F := Bits))) ⟨m, fun _ => 0, g⟩ (fun r => (∀ c : Dev Cert.DPleGate.nD,
      r.2.mem ((c.tc : Thread Cert.DPleGate.nD Cert.DPleGate.τ).loc Cert.DPleGate.main_arg0) = m ((c.tc : Thread Cert.DPleGate.nD Cert.DPleGate.τ).loc Cert.DPleGate.main_arg0)
      ∧ r.2.mem ((c.tc : Thread Cert.DPleGate.nD Cert.DPleGate.τ).loc Cert.DPleGate.main_arg1) = m ((c.tc : Thread Cert.DPleGate.nD Cert.DPleGate.τ).loc Cert.DPleGate.main_arg1)
      ∧ r.2.mem ((c.tc : Thread Cert.DPleGate.nD Cert.DPleGate.τ).loc Cert.DPleGate.main_arg2) = m ((c.tc : Thread Cert.DPleGate.nD Cert.DPleGate.τ).loc Cert.DPleGate.main_arg2))
      ∧ r.2.sem = fun _ => 0)

def quiescent_DPleGateIdeal [hDPleGateIdeal : Cert.DPleGateIdeal.Facts] : Prop :=
  ∀ (m : (ℓ : Loc Cert.DPleGateIdeal.nD Cert.DPleGateIdeal.τ Cert.DPleGateIdeal.sig) → Buf (Elt Ideal) ℓ) (g : Dev Cert.DPleGateIdeal.nD → PrngReg), Pre_DPleGateIdeal m →
    θ_run (Cert.DPleGateIdeal.defs (F := Ideal)) (onTc (τ := Cert.DPleGateIdeal.τ) (Cert.DPleGateIdeal.main (F := Ideal))) ⟨m, fun _ => 0, g⟩ (fun r => (∀ c : Dev Cert.DPleGateIdeal.nD,
      r.2.mem ((c.tc : Thread Cert.DPleGateIdeal.nD Cert.DPleGateIdeal.τ).loc Cert.DPleGateIdeal.main_arg0) = m ((c.tc : Thread Cert.DPleGateIdeal.nD Cert.DPleGateIdeal.τ).loc Cert.DPleGateIdeal.main_arg0)
      ∧ r.2.mem ((c.tc : Thread Cert.DPleGateIdeal.nD Cert.DPleGateIdeal.τ).loc Cert.DPleGateIdeal.main_arg1) = m ((c.tc : Thread Cert.DPleGateIdeal.nD Cert.DPleGateIdeal.τ).loc Cert.DPleGateIdeal.main_arg1)
      ∧ r.2.mem ((c.tc : Thread Cert.DPleGateIdeal.nD Cert.DPleGateIdeal.τ).loc Cert.DPleGateIdeal.main_arg2) = m ((c.tc : Thread Cert.DPleGateIdeal.nD Cert.DPleGateIdeal.τ).loc Cert.DPleGateIdeal.main_arg2))
      ∧ r.2.sem = fun _ => 0)

def quiescent_DPleGatePlainIdeal [hDPleGatePlainIdeal : Cert.DPleGatePlainIdeal.Facts] : Prop :=
  ∀ (m : (ℓ : Loc Cert.DPleGatePlainIdeal.nD Cert.DPleGatePlainIdeal.τ Cert.DPleGatePlainIdeal.sig) → Buf (Elt Ideal) ℓ) (g : Dev Cert.DPleGatePlainIdeal.nD → PrngReg), Pre_DPleGatePlainIdeal m →
    θ_run (Cert.DPleGatePlainIdeal.defs (F := Ideal)) (onTc (τ := Cert.DPleGatePlainIdeal.τ) (Cert.DPleGatePlainIdeal.main (F := Ideal))) ⟨m, fun _ => 0, g⟩ (fun r => (∀ c : Dev Cert.DPleGatePlainIdeal.nD,
      r.2.mem ((c.tc : Thread Cert.DPleGatePlainIdeal.nD Cert.DPleGatePlainIdeal.τ).loc Cert.DPleGatePlainIdeal.main_arg0) = m ((c.tc : Thread Cert.DPleGatePlainIdeal.nD Cert.DPleGatePlainIdeal.τ).loc Cert.DPleGatePlainIdeal.main_arg0)
      ∧ r.2.mem ((c.tc : Thread Cert.DPleGatePlainIdeal.nD Cert.DPleGatePlainIdeal.τ).loc Cert.DPleGatePlainIdeal.main_arg1) = m ((c.tc : Thread Cert.DPleGatePlainIdeal.nD Cert.DPleGatePlainIdeal.τ).loc Cert.DPleGatePlainIdeal.main_arg1)
      ∧ r.2.mem ((c.tc : Thread Cert.DPleGatePlainIdeal.nD Cert.DPleGatePlainIdeal.τ).loc Cert.DPleGatePlainIdeal.main_arg2) = m ((c.tc : Thread Cert.DPleGatePlainIdeal.nD Cert.DPleGatePlainIdeal.τ).loc Cert.DPleGatePlainIdeal.main_arg2))
      ∧ r.2.sem = fun _ => 0)

def quiescent_DPleProj [hDPleProj : Cert.DPleProj.Facts] : Prop :=
  ∀ (m : (ℓ : Loc Cert.DPleProj.nD Cert.DPleProj.τ Cert.DPleProj.sig) → Buf (Elt Bits) ℓ) (g : Dev Cert.DPleProj.nD → PrngReg), Pre_DPleProj m →
    θ_run (Cert.DPleProj.defs (F := Bits)) (onTc (τ := Cert.DPleProj.τ) (Cert.DPleProj.main (F := Bits))) ⟨m, fun _ => 0, g⟩ (fun r => (∀ c : Dev Cert.DPleProj.nD,
      r.2.mem ((c.tc : Thread Cert.DPleProj.nD Cert.DPleProj.τ).loc Cert.DPleProj.main_arg0) = m ((c.tc : Thread Cert.DPleProj.nD Cert.DPleProj.τ).loc Cert.DPleProj.main_arg0)
      ∧ r.2.mem ((c.tc : Thread Cert.DPleProj.nD Cert.DPleProj.τ).loc Cert.DPleProj.main_arg1) = m ((c.tc : Thread Cert.DPleProj.nD Cert.DPleProj.τ).loc Cert.DPleProj.main_arg1)
      ∧ r.2.mem ((c.tc : Thread Cert.DPleProj.nD Cert.DPleProj.τ).loc Cert.DPleProj.main_arg2) = m ((c.tc : Thread Cert.DPleProj.nD Cert.DPleProj.τ).loc Cert.DPleProj.main_arg2))
      ∧ r.2.sem = fun _ => 0)

def quiescent_DPleProjIdeal [hDPleProjIdeal : Cert.DPleProjIdeal.Facts] : Prop :=
  ∀ (m : (ℓ : Loc Cert.DPleProjIdeal.nD Cert.DPleProjIdeal.τ Cert.DPleProjIdeal.sig) → Buf (Elt Ideal) ℓ) (g : Dev Cert.DPleProjIdeal.nD → PrngReg), Pre_DPleProjIdeal m →
    θ_run (Cert.DPleProjIdeal.defs (F := Ideal)) (onTc (τ := Cert.DPleProjIdeal.τ) (Cert.DPleProjIdeal.main (F := Ideal))) ⟨m, fun _ => 0, g⟩ (fun r => (∀ c : Dev Cert.DPleProjIdeal.nD,
      r.2.mem ((c.tc : Thread Cert.DPleProjIdeal.nD Cert.DPleProjIdeal.τ).loc Cert.DPleProjIdeal.main_arg0) = m ((c.tc : Thread Cert.DPleProjIdeal.nD Cert.DPleProjIdeal.τ).loc Cert.DPleProjIdeal.main_arg0)
      ∧ r.2.mem ((c.tc : Thread Cert.DPleProjIdeal.nD Cert.DPleProjIdeal.τ).loc Cert.DPleProjIdeal.main_arg1) = m ((c.tc : Thread Cert.DPleProjIdeal.nD Cert.DPleProjIdeal.τ).loc Cert.DPleProjIdeal.main_arg1)
      ∧ r.2.mem ((c.tc : Thread Cert.DPleProjIdeal.nD Cert.DPleProjIdeal.τ).loc Cert.DPleProjIdeal.main_arg2) = m ((c.tc : Thread Cert.DPleProjIdeal.nD Cert.DPleProjIdeal.τ).loc Cert.DPleProjIdeal.main_arg2))
      ∧ r.2.sem = fun _ => 0)

def quiescent_DPleProjPlainIdeal [hDPleProjPlainIdeal : Cert.DPleProjPlainIdeal.Facts] : Prop :=
  ∀ (m : (ℓ : Loc Cert.DPleProjPlainIdeal.nD Cert.DPleProjPlainIdeal.τ Cert.DPleProjPlainIdeal.sig) → Buf (Elt Ideal) ℓ) (g : Dev Cert.DPleProjPlainIdeal.nD → PrngReg), Pre_DPleProjPlainIdeal m →
    θ_run (Cert.DPleProjPlainIdeal.defs (F := Ideal)) (onTc (τ := Cert.DPleProjPlainIdeal.τ) (Cert.DPleProjPlainIdeal.main (F := Ideal))) ⟨m, fun _ => 0, g⟩ (fun r => (∀ c : Dev Cert.DPleProjPlainIdeal.nD,
      r.2.mem ((c.tc : Thread Cert.DPleProjPlainIdeal.nD Cert.DPleProjPlainIdeal.τ).loc Cert.DPleProjPlainIdeal.main_arg0) = m ((c.tc : Thread Cert.DPleProjPlainIdeal.nD Cert.DPleProjPlainIdeal.τ).loc Cert.DPleProjPlainIdeal.main_arg0)
      ∧ r.2.mem ((c.tc : Thread Cert.DPleProjPlainIdeal.nD Cert.DPleProjPlainIdeal.τ).loc Cert.DPleProjPlainIdeal.main_arg1) = m ((c.tc : Thread Cert.DPleProjPlainIdeal.nD Cert.DPleProjPlainIdeal.τ).loc Cert.DPleProjPlainIdeal.main_arg1)
      ∧ r.2.mem ((c.tc : Thread Cert.DPleProjPlainIdeal.nD Cert.DPleProjPlainIdeal.τ).loc Cert.DPleProjPlainIdeal.main_arg2) = m ((c.tc : Thread Cert.DPleProjPlainIdeal.nD Cert.DPleProjPlainIdeal.τ).loc Cert.DPleProjPlainIdeal.main_arg2))
      ∧ r.2.sem = fun _ => 0)

def quiescent_DOut [hDOut : Cert.DOut.Facts] : Prop :=
  ∀ (m : (ℓ : Loc Cert.DOut.nD Cert.DOut.τ Cert.DOut.sig) → Buf (Elt Bits) ℓ) (g : Dev Cert.DOut.nD → PrngReg), Pre_DOut m →
    θ_run (Cert.DOut.defs (F := Bits)) (onTc (τ := Cert.DOut.τ) (Cert.DOut.main (F := Bits))) ⟨m, fun _ => 0, g⟩ (fun r => (∀ c : Dev Cert.DOut.nD,
      r.2.mem ((c.tc : Thread Cert.DOut.nD Cert.DOut.τ).loc Cert.DOut.main_arg0) = m ((c.tc : Thread Cert.DOut.nD Cert.DOut.τ).loc Cert.DOut.main_arg0)
      ∧ r.2.mem ((c.tc : Thread Cert.DOut.nD Cert.DOut.τ).loc Cert.DOut.main_arg1) = m ((c.tc : Thread Cert.DOut.nD Cert.DOut.τ).loc Cert.DOut.main_arg1)
      ∧ r.2.mem ((c.tc : Thread Cert.DOut.nD Cert.DOut.τ).loc Cert.DOut.main_arg2) = m ((c.tc : Thread Cert.DOut.nD Cert.DOut.τ).loc Cert.DOut.main_arg2))
      ∧ r.2.sem = fun _ => 0)

def quiescent_DOutIdeal [hDOutIdeal : Cert.DOutIdeal.Facts] : Prop :=
  ∀ (m : (ℓ : Loc Cert.DOutIdeal.nD Cert.DOutIdeal.τ Cert.DOutIdeal.sig) → Buf (Elt Ideal) ℓ) (g : Dev Cert.DOutIdeal.nD → PrngReg), Pre_DOutIdeal m →
    θ_run (Cert.DOutIdeal.defs (F := Ideal)) (onTc (τ := Cert.DOutIdeal.τ) (Cert.DOutIdeal.main (F := Ideal))) ⟨m, fun _ => 0, g⟩ (fun r => (∀ c : Dev Cert.DOutIdeal.nD,
      r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
      ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1)
      ∧ r.2.mem ((c.tc : Thread Cert.DOutIdeal.nD Cert.DOutIdeal.τ).loc Cert.DOutIdeal.main_arg2) = m ((c.tc : Thread Cert.DOutIdeal.nD Cert.DOutIdeal.τ).loc Cert.DOutIdeal.main_arg2))
      ∧ r.2.sem = fun _ => 0)

def quiescent_DOutPlainIdeal [hDOutPlainIdeal : Cert.DOutPlainIdeal.Facts] : Prop :=
  ∀ (m : (ℓ : Loc Cert.DOutPlainIdeal.nD Cert.DOutPlainIdeal.τ Cert.DOutPlainIdeal.sig) → Buf (Elt Ideal) ℓ) (g : Dev Cert.DOutPlainIdeal.nD → PrngReg), Pre_DOutPlainIdeal m →
    θ_run (Cert.DOutPlainIdeal.defs (F := Ideal)) (onTc (τ := Cert.DOutPlainIdeal.τ) (Cert.DOutPlainIdeal.main (F := Ideal))) ⟨m, fun _ => 0, g⟩ (fun r => (∀ c : Dev Cert.DOutPlainIdeal.nD,
      r.2.mem ((c.tc : Thread Cert.DOutPlainIdeal.nD Cert.DOutPlainIdeal.τ).loc Cert.DOutPlainIdeal.main_arg0) = m ((c.tc : Thread Cert.DOutPlainIdeal.nD Cert.DOutPlainIdeal.τ).loc Cert.DOutPlainIdeal.main_arg0)
      ∧ r.2.mem ((c.tc : Thread Cert.DOutPlainIdeal.nD Cert.DOutPlainIdeal.τ).loc Cert.DOutPlainIdeal.main_arg1) = m ((c.tc : Thread Cert.DOutPlainIdeal.nD Cert.DOutPlainIdeal.τ).loc Cert.DOutPlainIdeal.main_arg1)
      ∧ r.2.mem ((c.tc : Thread Cert.DOutPlainIdeal.nD Cert.DOutPlainIdeal.τ).loc Cert.DOutPlainIdeal.main_arg2) = m ((c.tc : Thread Cert.DOutPlainIdeal.nD Cert.DOutPlainIdeal.τ).loc Cert.DOutPlainIdeal.main_arg2))
      ∧ r.2.sem = fun _ => 0)

def quiescent_DGlu [hDGlu : Cert.DGlu.Facts] : Prop :=
  ∀ (m : (ℓ : Loc Cert.DGlu.nD Cert.DGlu.τ Cert.DGlu.sig) → Buf (Elt Bits) ℓ) (g : Dev Cert.DGlu.nD → PrngReg), Pre_DGlu m →
    θ_run (Cert.DGlu.defs (F := Bits)) (onTc (τ := Cert.DGlu.τ) (Cert.DGlu.main (F := Bits))) ⟨m, fun _ => 0, g⟩ (fun r => (∀ c : Dev Cert.DGlu.nD,
      r.2.mem ((c.tc : Thread Cert.DGlu.nD Cert.DGlu.τ).loc Cert.DGlu.main_arg0) = m ((c.tc : Thread Cert.DGlu.nD Cert.DGlu.τ).loc Cert.DGlu.main_arg0)
      ∧ r.2.mem ((c.tc : Thread Cert.DGlu.nD Cert.DGlu.τ).loc Cert.DGlu.main_arg1) = m ((c.tc : Thread Cert.DGlu.nD Cert.DGlu.τ).loc Cert.DGlu.main_arg1)
      ∧ r.2.mem ((c.tc : Thread Cert.DGlu.nD Cert.DGlu.τ).loc Cert.DGlu.main_arg2) = m ((c.tc : Thread Cert.DGlu.nD Cert.DGlu.τ).loc Cert.DGlu.main_arg2))
      ∧ r.2.sem = fun _ => 0)

def quiescent_DGluIdeal [hDGluIdeal : Cert.DGluIdeal.Facts] : Prop :=
  ∀ (m : (ℓ : Loc Cert.DGluIdeal.nD Cert.DGluIdeal.τ Cert.DGluIdeal.sig) → Buf (Elt Ideal) ℓ) (g : Dev Cert.DGluIdeal.nD → PrngReg), Pre_DGluIdeal m →
    θ_run (Cert.DGluIdeal.defs (F := Ideal)) (onTc (τ := Cert.DGluIdeal.τ) (Cert.DGluIdeal.main (F := Ideal))) ⟨m, fun _ => 0, g⟩ (fun r => (∀ c : Dev Cert.DGluIdeal.nD,
      r.2.mem ((c.tc : Thread Cert.DGluIdeal.nD Cert.DGluIdeal.τ).loc Cert.DGluIdeal.main_arg0) = m ((c.tc : Thread Cert.DGluIdeal.nD Cert.DGluIdeal.τ).loc Cert.DGluIdeal.main_arg0)
      ∧ r.2.mem ((c.tc : Thread Cert.DGluIdeal.nD Cert.DGluIdeal.τ).loc Cert.DGluIdeal.main_arg1) = m ((c.tc : Thread Cert.DGluIdeal.nD Cert.DGluIdeal.τ).loc Cert.DGluIdeal.main_arg1)
      ∧ r.2.mem ((c.tc : Thread Cert.DGluIdeal.nD Cert.DGluIdeal.τ).loc Cert.DGluIdeal.main_arg2) = m ((c.tc : Thread Cert.DGluIdeal.nD Cert.DGluIdeal.τ).loc Cert.DGluIdeal.main_arg2))
      ∧ r.2.sem = fun _ => 0)

def quiescent_DGluPlainIdeal [hDGluPlainIdeal : Cert.DGluPlainIdeal.Facts] : Prop :=
  ∀ (m : (ℓ : Loc Cert.DGluPlainIdeal.nD Cert.DGluPlainIdeal.τ Cert.DGluPlainIdeal.sig) → Buf (Elt Ideal) ℓ) (g : Dev Cert.DGluPlainIdeal.nD → PrngReg), Pre_DGluPlainIdeal m →
    θ_run (Cert.DGluPlainIdeal.defs (F := Ideal)) (onTc (τ := Cert.DGluPlainIdeal.τ) (Cert.DGluPlainIdeal.main (F := Ideal))) ⟨m, fun _ => 0, g⟩ (fun r => (∀ c : Dev Cert.DGluPlainIdeal.nD,
      r.2.mem ((c.tc : Thread Cert.DGluPlainIdeal.nD Cert.DGluPlainIdeal.τ).loc Cert.DGluPlainIdeal.main_arg0) = m ((c.tc : Thread Cert.DGluPlainIdeal.nD Cert.DGluPlainIdeal.τ).loc Cert.DGluPlainIdeal.main_arg0)
      ∧ r.2.mem ((c.tc : Thread Cert.DGluPlainIdeal.nD Cert.DGluPlainIdeal.τ).loc Cert.DGluPlainIdeal.main_arg1) = m ((c.tc : Thread Cert.DGluPlainIdeal.nD Cert.DGluPlainIdeal.τ).loc Cert.DGluPlainIdeal.main_arg1)
      ∧ r.2.mem ((c.tc : Thread Cert.DGluPlainIdeal.nD Cert.DGluPlainIdeal.τ).loc Cert.DGluPlainIdeal.main_arg2) = m ((c.tc : Thread Cert.DGluPlainIdeal.nD Cert.DGluPlainIdeal.τ).loc Cert.DGluPlainIdeal.main_arg2))
      ∧ r.2.sem = fun _ => 0)

def quiescent_DYcat [hDYcat : Cert.DYcat.Facts] : Prop :=
  ∀ (m : (ℓ : Loc Cert.DYcat.nD Cert.DYcat.τ Cert.DYcat.sig) → Buf (Elt Bits) ℓ) (g : Dev Cert.DYcat.nD → PrngReg), Pre_DYcat m →
    θ_run (Cert.DYcat.defs (F := Bits)) (onTc (τ := Cert.DYcat.τ) (Cert.DYcat.main (F := Bits))) ⟨m, fun _ => 0, g⟩ (fun r => (∀ c : Dev Cert.DYcat.nD,
      r.2.mem ((c.tc : Thread Cert.DYcat.nD Cert.DYcat.τ).loc Cert.DYcat.main_arg0) = m ((c.tc : Thread Cert.DYcat.nD Cert.DYcat.τ).loc Cert.DYcat.main_arg0)
      ∧ r.2.mem ((c.tc : Thread Cert.DYcat.nD Cert.DYcat.τ).loc Cert.DYcat.main_arg1) = m ((c.tc : Thread Cert.DYcat.nD Cert.DYcat.τ).loc Cert.DYcat.main_arg1)
      ∧ r.2.mem ((c.tc : Thread Cert.DYcat.nD Cert.DYcat.τ).loc Cert.DYcat.main_arg2) = m ((c.tc : Thread Cert.DYcat.nD Cert.DYcat.τ).loc Cert.DYcat.main_arg2))
      ∧ r.2.sem = fun _ => 0)

def quiescent_DYcatIdeal [hDYcatIdeal : Cert.DYcatIdeal.Facts] : Prop :=
  ∀ (m : (ℓ : Loc Cert.DYcatIdeal.nD Cert.DYcatIdeal.τ Cert.DYcatIdeal.sig) → Buf (Elt Ideal) ℓ) (g : Dev Cert.DYcatIdeal.nD → PrngReg), Pre_DYcatIdeal m →
    θ_run (Cert.DYcatIdeal.defs (F := Ideal)) (onTc (τ := Cert.DYcatIdeal.τ) (Cert.DYcatIdeal.main (F := Ideal))) ⟨m, fun _ => 0, g⟩ (fun r => (∀ c : Dev Cert.DYcatIdeal.nD,
      r.2.mem ((c.tc : Thread Cert.DYcatIdeal.nD Cert.DYcatIdeal.τ).loc Cert.DYcatIdeal.main_arg0) = m ((c.tc : Thread Cert.DYcatIdeal.nD Cert.DYcatIdeal.τ).loc Cert.DYcatIdeal.main_arg0)
      ∧ r.2.mem ((c.tc : Thread Cert.DYcatIdeal.nD Cert.DYcatIdeal.τ).loc Cert.DYcatIdeal.main_arg1) = m ((c.tc : Thread Cert.DYcatIdeal.nD Cert.DYcatIdeal.τ).loc Cert.DYcatIdeal.main_arg1)
      ∧ r.2.mem ((c.tc : Thread Cert.DYcatIdeal.nD Cert.DYcatIdeal.τ).loc Cert.DYcatIdeal.main_arg2) = m ((c.tc : Thread Cert.DYcatIdeal.nD Cert.DYcatIdeal.τ).loc Cert.DYcatIdeal.main_arg2))
      ∧ r.2.sem = fun _ => 0)

def quiescent_DYcatPlainIdeal [hDYcatPlainIdeal : Cert.DYcatPlainIdeal.Facts] : Prop :=
  ∀ (m : (ℓ : Loc Cert.DYcatPlainIdeal.nD Cert.DYcatPlainIdeal.τ Cert.DYcatPlainIdeal.sig) → Buf (Elt Ideal) ℓ) (g : Dev Cert.DYcatPlainIdeal.nD → PrngReg), Pre_DYcatPlainIdeal m →
    θ_run (Cert.DYcatPlainIdeal.defs (F := Ideal)) (onTc (τ := Cert.DYcatPlainIdeal.τ) (Cert.DYcatPlainIdeal.main (F := Ideal))) ⟨m, fun _ => 0, g⟩ (fun r => (∀ c : Dev Cert.DYcatPlainIdeal.nD,
      r.2.mem ((c.tc : Thread Cert.DYcatPlainIdeal.nD Cert.DYcatPlainIdeal.τ).loc Cert.DYcatPlainIdeal.main_arg0) = m ((c.tc : Thread Cert.DYcatPlainIdeal.nD Cert.DYcatPlainIdeal.τ).loc Cert.DYcatPlainIdeal.main_arg0)
      ∧ r.2.mem ((c.tc : Thread Cert.DYcatPlainIdeal.nD Cert.DYcatPlainIdeal.τ).loc Cert.DYcatPlainIdeal.main_arg1) = m ((c.tc : Thread Cert.DYcatPlainIdeal.nD Cert.DYcatPlainIdeal.τ).loc Cert.DYcatPlainIdeal.main_arg1)
      ∧ r.2.mem ((c.tc : Thread Cert.DYcatPlainIdeal.nD Cert.DYcatPlainIdeal.τ).loc Cert.DYcatPlainIdeal.main_arg2) = m ((c.tc : Thread Cert.DYcatPlainIdeal.nD Cert.DYcatPlainIdeal.τ).loc Cert.DYcatPlainIdeal.main_arg2))
      ∧ r.2.sem = fun _ => 0)

def quiescent_DZ [hDZ : Cert.DZ.Facts] : Prop :=
  ∀ (m : (ℓ : Loc Cert.DZ.nD Cert.DZ.τ Cert.DZ.sig) → Buf (Elt Bits) ℓ) (g : Dev Cert.DZ.nD → PrngReg), Pre_DZ m →
    θ_run (Cert.DZ.defs (F := Bits)) (onTc (τ := Cert.DZ.τ) (Cert.DZ.main (F := Bits))) ⟨m, fun _ => 0, g⟩ (fun r => (∀ c : Dev Cert.DZ.nD,
      r.2.mem ((c.tc : Thread Cert.DZ.nD Cert.DZ.τ).loc Cert.DZ.main_arg0) = m ((c.tc : Thread Cert.DZ.nD Cert.DZ.τ).loc Cert.DZ.main_arg0)
      ∧ r.2.mem ((c.tc : Thread Cert.DZ.nD Cert.DZ.τ).loc Cert.DZ.main_arg1) = m ((c.tc : Thread Cert.DZ.nD Cert.DZ.τ).loc Cert.DZ.main_arg1)
      ∧ r.2.mem ((c.tc : Thread Cert.DZ.nD Cert.DZ.τ).loc Cert.DZ.main_arg2) = m ((c.tc : Thread Cert.DZ.nD Cert.DZ.τ).loc Cert.DZ.main_arg2))
      ∧ r.2.sem = fun _ => 0)

def quiescent_DZIdeal [hDZIdeal : Cert.DZIdeal.Facts] : Prop :=
  ∀ (m : (ℓ : Loc Cert.DZIdeal.nD Cert.DZIdeal.τ Cert.DZIdeal.sig) → Buf (Elt Ideal) ℓ) (g : Dev Cert.DZIdeal.nD → PrngReg), Pre_DZIdeal m →
    θ_run (Cert.DZIdeal.defs (F := Ideal)) (onTc (τ := Cert.DZIdeal.τ) (Cert.DZIdeal.main (F := Ideal))) ⟨m, fun _ => 0, g⟩ (fun r => (∀ c : Dev Cert.DZIdeal.nD,
      r.2.mem ((c.tc : Thread Cert.DZIdeal.nD Cert.DZIdeal.τ).loc Cert.DZIdeal.main_arg0) = m ((c.tc : Thread Cert.DZIdeal.nD Cert.DZIdeal.τ).loc Cert.DZIdeal.main_arg0)
      ∧ r.2.mem ((c.tc : Thread Cert.DZIdeal.nD Cert.DZIdeal.τ).loc Cert.DZIdeal.main_arg1) = m ((c.tc : Thread Cert.DZIdeal.nD Cert.DZIdeal.τ).loc Cert.DZIdeal.main_arg1)
      ∧ r.2.mem ((c.tc : Thread Cert.DZIdeal.nD Cert.DZIdeal.τ).loc Cert.DZIdeal.main_arg2) = m ((c.tc : Thread Cert.DZIdeal.nD Cert.DZIdeal.τ).loc Cert.DZIdeal.main_arg2))
      ∧ r.2.sem = fun _ => 0)

def quiescent_DZPlainIdeal [hDZPlainIdeal : Cert.DZPlainIdeal.Facts] : Prop :=
  ∀ (m : (ℓ : Loc Cert.DZPlainIdeal.nD Cert.DZPlainIdeal.τ Cert.DZPlainIdeal.sig) → Buf (Elt Ideal) ℓ) (g : Dev Cert.DZPlainIdeal.nD → PrngReg), Pre_DZPlainIdeal m →
    θ_run (Cert.DZPlainIdeal.defs (F := Ideal)) (onTc (τ := Cert.DZPlainIdeal.τ) (Cert.DZPlainIdeal.main (F := Ideal))) ⟨m, fun _ => 0, g⟩ (fun r => (∀ c : Dev Cert.DZPlainIdeal.nD,
      r.2.mem ((c.tc : Thread Cert.DZPlainIdeal.nD Cert.DZPlainIdeal.τ).loc Cert.DZPlainIdeal.main_arg0) = m ((c.tc : Thread Cert.DZPlainIdeal.nD Cert.DZPlainIdeal.τ).loc Cert.DZPlainIdeal.main_arg0)
      ∧ r.2.mem ((c.tc : Thread Cert.DZPlainIdeal.nD Cert.DZPlainIdeal.τ).loc Cert.DZPlainIdeal.main_arg1) = m ((c.tc : Thread Cert.DZPlainIdeal.nD Cert.DZPlainIdeal.τ).loc Cert.DZPlainIdeal.main_arg1)
      ∧ r.2.mem ((c.tc : Thread Cert.DZPlainIdeal.nD Cert.DZPlainIdeal.τ).loc Cert.DZPlainIdeal.main_arg2) = m ((c.tc : Thread Cert.DZPlainIdeal.nD Cert.DZPlainIdeal.τ).loc Cert.DZPlainIdeal.main_arg2))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1)
      ∧ r.2.mem ((c.tc : Thread Cert.PleGate.nD Cert.PleGate.τ).loc Cert.PleGate.main_arg2) = m ((c.tc : Thread Cert.PleGate.nD Cert.PleGate.τ).loc Cert.PleGate.main_arg2)
      ∧ r.2.mem ((c.tc : Thread Cert.PleGate.nD Cert.PleGate.τ).loc Cert.PleGate.main_arg3) = m ((c.tc : Thread Cert.PleGate.nD Cert.PleGate.τ).loc Cert.PleGate.main_arg3))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
      ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2)
      ∧ r.2.mem ((c.tc : Thread Cert.PleGateIdeal.nD Cert.PleGateIdeal.τ).loc Cert.PleGateIdeal.main_arg3) = m ((c.tc : Thread Cert.PleGateIdeal.nD Cert.PleGateIdeal.τ).loc Cert.PleGateIdeal.main_arg3))
      ∧ r.2.sem = fun _ => 0)

def quiescent_PleGatePlainIdeal [hPleGatePlainIdeal : Cert.PleGatePlainIdeal.Facts] : Prop :=
  ∀ (m : (ℓ : Loc Cert.PleGatePlainIdeal.nD Cert.PleGatePlainIdeal.τ Cert.PleGatePlainIdeal.sig) → Buf (Elt Ideal) ℓ) (g : Dev Cert.PleGatePlainIdeal.nD → PrngReg), Pre_PleGatePlainIdeal m →
    θ_run (Cert.PleGatePlainIdeal.defs (F := Ideal)) (onTc (τ := Cert.PleGatePlainIdeal.τ) (Cert.PleGatePlainIdeal.main (F := Ideal))) ⟨m, fun _ => 0, g⟩ (fun r => (∀ c : Dev Cert.PleGatePlainIdeal.nD,
      r.2.mem ((c.tc : Thread Cert.PleGatePlainIdeal.nD Cert.PleGatePlainIdeal.τ).loc Cert.PleGatePlainIdeal.main_arg0) = m ((c.tc : Thread Cert.PleGatePlainIdeal.nD Cert.PleGatePlainIdeal.τ).loc Cert.PleGatePlainIdeal.main_arg0)
      ∧ r.2.mem ((c.tc : Thread Cert.PleGatePlainIdeal.nD Cert.PleGatePlainIdeal.τ).loc Cert.PleGatePlainIdeal.main_arg1) = m ((c.tc : Thread Cert.PleGatePlainIdeal.nD Cert.PleGatePlainIdeal.τ).loc Cert.PleGatePlainIdeal.main_arg1)
      ∧ r.2.mem ((c.tc : Thread Cert.PleGatePlainIdeal.nD Cert.PleGatePlainIdeal.τ).loc Cert.PleGatePlainIdeal.main_arg2) = m ((c.tc : Thread Cert.PleGatePlainIdeal.nD Cert.PleGatePlainIdeal.τ).loc Cert.PleGatePlainIdeal.main_arg2)
      ∧ r.2.mem ((c.tc : Thread Cert.PleGatePlainIdeal.nD Cert.PleGatePlainIdeal.τ).loc Cert.PleGatePlainIdeal.main_arg3) = m ((c.tc : Thread Cert.PleGatePlainIdeal.nD Cert.PleGatePlainIdeal.τ).loc Cert.PleGatePlainIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutPlainIdeal [hMixOutPlainIdeal : Cert.MixOutPlainIdeal.Facts] : Prop :=
  ∀ (m : (ℓ : Loc Cert.MixOutPlainIdeal.nD Cert.MixOutPlainIdeal.τ Cert.MixOutPlainIdeal.sig) → Buf (Elt Ideal) ℓ) (g : Dev Cert.MixOutPlainIdeal.nD → PrngReg), Pre_MixOutPlainIdeal m →
    θ_run (Cert.MixOutPlainIdeal.defs (F := Ideal)) (onTc (τ := Cert.MixOutPlainIdeal.τ) (Cert.MixOutPlainIdeal.main (F := Ideal))) ⟨m, fun _ => 0, g⟩ (fun r => (∀ c : Dev Cert.MixOutPlainIdeal.nD,
      r.2.mem ((c.tc : Thread Cert.MixOutPlainIdeal.nD Cert.MixOutPlainIdeal.τ).loc Cert.MixOutPlainIdeal.main_arg0) = m ((c.tc : Thread Cert.MixOutPlainIdeal.nD Cert.MixOutPlainIdeal.τ).loc Cert.MixOutPlainIdeal.main_arg0)
      ∧ r.2.mem ((c.tc : Thread Cert.MixOutPlainIdeal.nD Cert.MixOutPlainIdeal.τ).loc Cert.MixOutPlainIdeal.main_arg1) = m ((c.tc : Thread Cert.MixOutPlainIdeal.nD Cert.MixOutPlainIdeal.τ).loc Cert.MixOutPlainIdeal.main_arg1)
      ∧ r.2.mem ((c.tc : Thread Cert.MixOutPlainIdeal.nD Cert.MixOutPlainIdeal.τ).loc Cert.MixOutPlainIdeal.main_arg2) = m ((c.tc : Thread Cert.MixOutPlainIdeal.nD Cert.MixOutPlainIdeal.τ).loc Cert.MixOutPlainIdeal.main_arg2)
      ∧ r.2.mem ((c.tc : Thread Cert.MixOutPlainIdeal.nD Cert.MixOutPlainIdeal.τ).loc Cert.MixOutPlainIdeal.main_arg3) = m ((c.tc : Thread Cert.MixOutPlainIdeal.nD Cert.MixOutPlainIdeal.τ).loc Cert.MixOutPlainIdeal.main_arg3))
      ∧ r.2.sem = fun _ => 0)

def quiescent_DHn2 [hDHn2 : Cert.DHn2.Facts] : Prop :=
  ∀ (m : (ℓ : Loc Cert.DHn2.nD Cert.DHn2.τ Cert.DHn2.sig) → Buf (Elt Bits) ℓ) (g : Dev Cert.DHn2.nD → PrngReg), Pre_DHn2 m →
    θ_run (Cert.DHn2.defs (F := Bits)) (onTc (τ := Cert.DHn2.τ) (Cert.DHn2.main (F := Bits))) ⟨m, fun _ => 0, g⟩ (fun r => (∀ c : Dev Cert.DHn2.nD,
      r.2.mem ((c.tc : Thread Cert.DHn2.nD Cert.DHn2.τ).loc Cert.DHn2.main_arg0) = m ((c.tc : Thread Cert.DHn2.nD Cert.DHn2.τ).loc Cert.DHn2.main_arg0)
      ∧ r.2.mem ((c.tc : Thread Cert.DHn2.nD Cert.DHn2.τ).loc Cert.DHn2.main_arg1) = m ((c.tc : Thread Cert.DHn2.nD Cert.DHn2.τ).loc Cert.DHn2.main_arg1)
      ∧ r.2.mem ((c.tc : Thread Cert.DHn2.nD Cert.DHn2.τ).loc Cert.DHn2.main_arg2) = m ((c.tc : Thread Cert.DHn2.nD Cert.DHn2.τ).loc Cert.DHn2.main_arg2)
      ∧ r.2.mem ((c.tc : Thread Cert.DHn2.nD Cert.DHn2.τ).loc Cert.DHn2.main_arg3) = m ((c.tc : Thread Cert.DHn2.nD Cert.DHn2.τ).loc Cert.DHn2.main_arg3)
      ∧ r.2.mem ((c.tc : Thread Cert.DHn2.nD Cert.DHn2.τ).loc Cert.DHn2.main_arg4) = m ((c.tc : Thread Cert.DHn2.nD Cert.DHn2.τ).loc Cert.DHn2.main_arg4))
      ∧ r.2.sem = fun _ => 0)

def quiescent_DHn2Ideal [hDHn2Ideal : Cert.DHn2Ideal.Facts] : Prop :=
  ∀ (m : (ℓ : Loc Cert.DHn2Ideal.nD Cert.DHn2Ideal.τ Cert.DHn2Ideal.sig) → Buf (Elt Ideal) ℓ) (g : Dev Cert.DHn2Ideal.nD → PrngReg), Pre_DHn2Ideal m →
    θ_run (Cert.DHn2Ideal.defs (F := Ideal)) (onTc (τ := Cert.DHn2Ideal.τ) (Cert.DHn2Ideal.main (F := Ideal))) ⟨m, fun _ => 0, g⟩ (fun r => (∀ c : Dev Cert.DHn2Ideal.nD,
      r.2.mem ((c.tc : Thread Cert.DHn2Ideal.nD Cert.DHn2Ideal.τ).loc Cert.DHn2Ideal.main_arg0) = m ((c.tc : Thread Cert.DHn2Ideal.nD Cert.DHn2Ideal.τ).loc Cert.DHn2Ideal.main_arg0)
      ∧ r.2.mem ((c.tc : Thread Cert.DHn2Ideal.nD Cert.DHn2Ideal.τ).loc Cert.DHn2Ideal.main_arg1) = m ((c.tc : Thread Cert.DHn2Ideal.nD Cert.DHn2Ideal.τ).loc Cert.DHn2Ideal.main_arg1)
      ∧ r.2.mem ((c.tc : Thread Cert.DHn2Ideal.nD Cert.DHn2Ideal.τ).loc Cert.DHn2Ideal.main_arg2) = m ((c.tc : Thread Cert.DHn2Ideal.nD Cert.DHn2Ideal.τ).loc Cert.DHn2Ideal.main_arg2)
      ∧ r.2.mem ((c.tc : Thread Cert.DHn2Ideal.nD Cert.DHn2Ideal.τ).loc Cert.DHn2Ideal.main_arg3) = m ((c.tc : Thread Cert.DHn2Ideal.nD Cert.DHn2Ideal.τ).loc Cert.DHn2Ideal.main_arg3)
      ∧ r.2.mem ((c.tc : Thread Cert.DHn2Ideal.nD Cert.DHn2Ideal.τ).loc Cert.DHn2Ideal.main_arg4) = m ((c.tc : Thread Cert.DHn2Ideal.nD Cert.DHn2Ideal.τ).loc Cert.DHn2Ideal.main_arg4))
      ∧ r.2.sem = fun _ => 0)

def quiescent_DHn2PlainIdeal [hDHn2PlainIdeal : Cert.DHn2PlainIdeal.Facts] : Prop :=
  ∀ (m : (ℓ : Loc Cert.DHn2PlainIdeal.nD Cert.DHn2PlainIdeal.τ Cert.DHn2PlainIdeal.sig) → Buf (Elt Ideal) ℓ) (g : Dev Cert.DHn2PlainIdeal.nD → PrngReg), Pre_DHn2PlainIdeal m →
    θ_run (Cert.DHn2PlainIdeal.defs (F := Ideal)) (onTc (τ := Cert.DHn2PlainIdeal.τ) (Cert.DHn2PlainIdeal.main (F := Ideal))) ⟨m, fun _ => 0, g⟩ (fun r => (∀ c : Dev Cert.DHn2PlainIdeal.nD,
      r.2.mem ((c.tc : Thread Cert.DHn2PlainIdeal.nD Cert.DHn2PlainIdeal.τ).loc Cert.DHn2PlainIdeal.main_arg0) = m ((c.tc : Thread Cert.DHn2PlainIdeal.nD Cert.DHn2PlainIdeal.τ).loc Cert.DHn2PlainIdeal.main_arg0)
      ∧ r.2.mem ((c.tc : Thread Cert.DHn2PlainIdeal.nD Cert.DHn2PlainIdeal.τ).loc Cert.DHn2PlainIdeal.main_arg1) = m ((c.tc : Thread Cert.DHn2PlainIdeal.nD Cert.DHn2PlainIdeal.τ).loc Cert.DHn2PlainIdeal.main_arg1)
      ∧ r.2.mem ((c.tc : Thread Cert.DHn2PlainIdeal.nD Cert.DHn2PlainIdeal.τ).loc Cert.DHn2PlainIdeal.main_arg2) = m ((c.tc : Thread Cert.DHn2PlainIdeal.nD Cert.DHn2PlainIdeal.τ).loc Cert.DHn2PlainIdeal.main_arg2)
      ∧ r.2.mem ((c.tc : Thread Cert.DHn2PlainIdeal.nD Cert.DHn2PlainIdeal.τ).loc Cert.DHn2PlainIdeal.main_arg3) = m ((c.tc : Thread Cert.DHn2PlainIdeal.nD Cert.DHn2PlainIdeal.τ).loc Cert.DHn2PlainIdeal.main_arg3)
      ∧ r.2.mem ((c.tc : Thread Cert.DHn2PlainIdeal.nD Cert.DHn2PlainIdeal.τ).loc Cert.DHn2PlainIdeal.main_arg4) = m ((c.tc : Thread Cert.DHn2PlainIdeal.nD Cert.DHn2PlainIdeal.τ).loc Cert.DHn2PlainIdeal.main_arg4))
      ∧ r.2.sem = fun _ => 0)

def quiescent_DHn [hDHn : Cert.DHn.Facts] : Prop :=
  ∀ (m : (ℓ : Loc Cert.DHn.nD Cert.DHn.τ Cert.DHn.sig) → Buf (Elt Bits) ℓ) (g : Dev Cert.DHn.nD → PrngReg), Pre_DHn m →
    θ_run (Cert.DHn.defs (F := Bits)) (onTc (τ := Cert.DHn.τ) (Cert.DHn.main (F := Bits))) ⟨m, fun _ => 0, g⟩ (fun r => (∀ c : Dev Cert.DHn.nD,
      r.2.mem ((c.tc : Thread Cert.DHn.nD Cert.DHn.τ).loc Cert.DHn.main_arg0) = m ((c.tc : Thread Cert.DHn.nD Cert.DHn.τ).loc Cert.DHn.main_arg0)
      ∧ r.2.mem ((c.tc : Thread Cert.DHn.nD Cert.DHn.τ).loc Cert.DHn.main_arg1) = m ((c.tc : Thread Cert.DHn.nD Cert.DHn.τ).loc Cert.DHn.main_arg1)
      ∧ r.2.mem ((c.tc : Thread Cert.DHn.nD Cert.DHn.τ).loc Cert.DHn.main_arg2) = m ((c.tc : Thread Cert.DHn.nD Cert.DHn.τ).loc Cert.DHn.main_arg2)
      ∧ r.2.mem ((c.tc : Thread Cert.DHn.nD Cert.DHn.τ).loc Cert.DHn.main_arg3) = m ((c.tc : Thread Cert.DHn.nD Cert.DHn.τ).loc Cert.DHn.main_arg3)
      ∧ r.2.mem ((c.tc : Thread Cert.DHn.nD Cert.DHn.τ).loc Cert.DHn.main_arg4) = m ((c.tc : Thread Cert.DHn.nD Cert.DHn.τ).loc Cert.DHn.main_arg4))
      ∧ r.2.sem = fun _ => 0)

def quiescent_DHnIdeal [hDHnIdeal : Cert.DHnIdeal.Facts] : Prop :=
  ∀ (m : (ℓ : Loc Cert.DHnIdeal.nD Cert.DHnIdeal.τ Cert.DHnIdeal.sig) → Buf (Elt Ideal) ℓ) (g : Dev Cert.DHnIdeal.nD → PrngReg), Pre_DHnIdeal m →
    θ_run (Cert.DHnIdeal.defs (F := Ideal)) (onTc (τ := Cert.DHnIdeal.τ) (Cert.DHnIdeal.main (F := Ideal))) ⟨m, fun _ => 0, g⟩ (fun r => (∀ c : Dev Cert.DHnIdeal.nD,
      r.2.mem ((c.tc : Thread Cert.DHnIdeal.nD Cert.DHnIdeal.τ).loc Cert.DHnIdeal.main_arg0) = m ((c.tc : Thread Cert.DHnIdeal.nD Cert.DHnIdeal.τ).loc Cert.DHnIdeal.main_arg0)
      ∧ r.2.mem ((c.tc : Thread Cert.DHnIdeal.nD Cert.DHnIdeal.τ).loc Cert.DHnIdeal.main_arg1) = m ((c.tc : Thread Cert.DHnIdeal.nD Cert.DHnIdeal.τ).loc Cert.DHnIdeal.main_arg1)
      ∧ r.2.mem ((c.tc : Thread Cert.DHnIdeal.nD Cert.DHnIdeal.τ).loc Cert.DHnIdeal.main_arg2) = m ((c.tc : Thread Cert.DHnIdeal.nD Cert.DHnIdeal.τ).loc Cert.DHnIdeal.main_arg2)
      ∧ r.2.mem ((c.tc : Thread Cert.DHnIdeal.nD Cert.DHnIdeal.τ).loc Cert.DHnIdeal.main_arg3) = m ((c.tc : Thread Cert.DHnIdeal.nD Cert.DHnIdeal.τ).loc Cert.DHnIdeal.main_arg3)
      ∧ r.2.mem ((c.tc : Thread Cert.DHnIdeal.nD Cert.DHnIdeal.τ).loc Cert.DHnIdeal.main_arg4) = m ((c.tc : Thread Cert.DHnIdeal.nD Cert.DHnIdeal.τ).loc Cert.DHnIdeal.main_arg4))
      ∧ r.2.sem = fun _ => 0)

def quiescent_DHnPlainIdeal [hDHnPlainIdeal : Cert.DHnPlainIdeal.Facts] : Prop :=
  ∀ (m : (ℓ : Loc Cert.DHnPlainIdeal.nD Cert.DHnPlainIdeal.τ Cert.DHnPlainIdeal.sig) → Buf (Elt Ideal) ℓ) (g : Dev Cert.DHnPlainIdeal.nD → PrngReg), Pre_DHnPlainIdeal m →
    θ_run (Cert.DHnPlainIdeal.defs (F := Ideal)) (onTc (τ := Cert.DHnPlainIdeal.τ) (Cert.DHnPlainIdeal.main (F := Ideal))) ⟨m, fun _ => 0, g⟩ (fun r => (∀ c : Dev Cert.DHnPlainIdeal.nD,
      r.2.mem ((c.tc : Thread Cert.DHnPlainIdeal.nD Cert.DHnPlainIdeal.τ).loc Cert.DHnPlainIdeal.main_arg0) = m ((c.tc : Thread Cert.DHnPlainIdeal.nD Cert.DHnPlainIdeal.τ).loc Cert.DHnPlainIdeal.main_arg0)
      ∧ r.2.mem ((c.tc : Thread Cert.DHnPlainIdeal.nD Cert.DHnPlainIdeal.τ).loc Cert.DHnPlainIdeal.main_arg1) = m ((c.tc : Thread Cert.DHnPlainIdeal.nD Cert.DHnPlainIdeal.τ).loc Cert.DHnPlainIdeal.main_arg1)
      ∧ r.2.mem ((c.tc : Thread Cert.DHnPlainIdeal.nD Cert.DHnPlainIdeal.τ).loc Cert.DHnPlainIdeal.main_arg2) = m ((c.tc : Thread Cert.DHnPlainIdeal.nD Cert.DHnPlainIdeal.τ).loc Cert.DHnPlainIdeal.main_arg2)
      ∧ r.2.mem ((c.tc : Thread Cert.DHnPlainIdeal.nD Cert.DHnPlainIdeal.τ).loc Cert.DHnPlainIdeal.main_arg3) = m ((c.tc : Thread Cert.DHnPlainIdeal.nD Cert.DHnPlainIdeal.τ).loc Cert.DHnPlainIdeal.main_arg3)
      ∧ r.2.mem ((c.tc : Thread Cert.DHnPlainIdeal.nD Cert.DHnPlainIdeal.τ).loc Cert.DHnPlainIdeal.main_arg4) = m ((c.tc : Thread Cert.DHnPlainIdeal.nD Cert.DHnPlainIdeal.τ).loc Cert.DHnPlainIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59_0)) (v1 : (c : Dev Cert.KernelIdeal.nD) → Buf (Elt Ideal) ((c.tc : Thread Cert.KernelIdeal.nD Cert.KernelIdeal.τ).loc Cert.KernelIdeal.main_v59_1)) (v2 : (c : Dev Cert.KernelIdeal.nD) → Buf (Elt Ideal) ((c.tc : Thread Cert.KernelIdeal.nD Cert.KernelIdeal.τ).loc Cert.KernelIdeal.main_v59_2)) (v3 : (c : Dev Cert.KernelIdeal.nD) → Buf (Elt Ideal) ((c.tc : Thread Cert.KernelIdeal.nD Cert.KernelIdeal.τ).loc Cert.KernelIdeal.main_v59_3)) (v4 : (c : Dev Cert.KernelIdeal.nD) → Buf (Elt Ideal) ((c.tc : Thread Cert.KernelIdeal.nD Cert.KernelIdeal.τ).loc Cert.KernelIdeal.main_v59_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_0) = v0 c
          ∧ r.2.mem ((c.tc : Thread Cert.KernelIdeal.nD Cert.KernelIdeal.τ).loc Cert.KernelIdeal.main_v59_1) = v1 c
          ∧ r.2.mem ((c.tc : Thread Cert.KernelIdeal.nD Cert.KernelIdeal.τ).loc Cert.KernelIdeal.main_v59_2) = v2 c
          ∧ r.2.mem ((c.tc : Thread Cert.KernelIdeal.nD Cert.KernelIdeal.τ).loc Cert.KernelIdeal.main_v59_3) = v3 c
          ∧ r.2.mem ((c.tc : Thread Cert.KernelIdeal.nD Cert.KernelIdeal.τ).loc Cert.KernelIdeal.main_v59_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v131) = v3 c
          ∧ r.2.mem ((c.tc : Thread Cert.ReferenceIdeal.nD Cert.ReferenceIdeal.τ).loc Cert.ReferenceIdeal.main_v132) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Fwd_FwdIdeal : Prop :=
  True

def preserves_InProj_InProjIdeal : Prop :=
  True

def algebraic_InProjIdeal_InProjPlainIdeal [hInProjIdeal : Cert.InProjIdeal.Facts] [hInProjPlainIdeal : Cert.InProjPlainIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjPlainIdeal.nD Cert.InProjPlainIdeal.τ Cert.InProjPlainIdeal.sig) → Buf (Elt Ideal) ℓ) (g' : Dev Cert.InProjPlainIdeal.nD → PrngReg), Pre_InProjIdeal m →
    (∀ c : Dev Cert.InProjIdeal.nD,
      m' ((c.tc : Thread Cert.InProjPlainIdeal.nD Cert.InProjPlainIdeal.τ).loc Cert.InProjPlainIdeal.main_arg0) = m ((c.tc : Thread Cert.InProjIdeal.nD Cert.InProjIdeal.τ).loc Cert.InProjIdeal.main_arg0)
      ∧ m' ((c.tc : Thread Cert.InProjPlainIdeal.nD Cert.InProjPlainIdeal.τ).loc Cert.InProjPlainIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjPlainIdeal.defs (F := Ideal)) (onTc (τ := Cert.InProjPlainIdeal.τ) (Cert.InProjPlainIdeal.main (F := Ideal))) ⟨m', fun _ => 0, g'⟩ (fun r => ∀ c : Dev Cert.InProjPlainIdeal.nD,
          r.2.mem ((c.tc : Thread Cert.InProjPlainIdeal.nD Cert.InProjPlainIdeal.τ).loc Cert.InProjPlainIdeal.main_v0) = v0 c
          ∧ r.2.mem ((c.tc : Thread Cert.InProjPlainIdeal.nD Cert.InProjPlainIdeal.τ).loc Cert.InProjPlainIdeal.main_arg0) = m' ((c.tc : Thread Cert.InProjPlainIdeal.nD Cert.InProjPlainIdeal.τ).loc Cert.InProjPlainIdeal.main_arg0)
          ∧ r.2.mem ((c.tc : Thread Cert.InProjPlainIdeal.nD Cert.InProjPlainIdeal.τ).loc Cert.InProjPlainIdeal.main_arg1) = m' ((c.tc : Thread Cert.InProjPlainIdeal.nD Cert.InProjPlainIdeal.τ).loc Cert.InProjPlainIdeal.main_arg1))

def preserves_DIn_DInIdeal : Prop :=
  True

def algebraic_DInIdeal_DInPlainIdeal [hDInIdeal : Cert.DInIdeal.Facts] [hDInPlainIdeal : Cert.DInPlainIdeal.Facts] : Prop :=
  ∀ (m : (ℓ : Loc Cert.DInIdeal.nD Cert.DInIdeal.τ Cert.DInIdeal.sig) → Buf (Elt Ideal) ℓ) (g : Dev Cert.DInIdeal.nD → PrngReg)
    (m' : (ℓ : Loc Cert.DInPlainIdeal.nD Cert.DInPlainIdeal.τ Cert.DInPlainIdeal.sig) → Buf (Elt Ideal) ℓ) (g' : Dev Cert.DInPlainIdeal.nD → PrngReg), Pre_DInIdeal m →
    (∀ c : Dev Cert.DInIdeal.nD,
      m' ((c.tc : Thread Cert.DInPlainIdeal.nD Cert.DInPlainIdeal.τ).loc Cert.DInPlainIdeal.main_arg0) = m ((c.tc : Thread Cert.DInIdeal.nD Cert.DInIdeal.τ).loc Cert.DInIdeal.main_arg0)
      ∧ m' ((c.tc : Thread Cert.DInPlainIdeal.nD Cert.DInPlainIdeal.τ).loc Cert.DInPlainIdeal.main_arg1) = m ((c.tc : Thread Cert.DInIdeal.nD Cert.DInIdeal.τ).loc Cert.DInIdeal.main_arg1)
      ∧ m' ((c.tc : Thread Cert.DInPlainIdeal.nD Cert.DInPlainIdeal.τ).loc Cert.DInPlainIdeal.main_arg2) = m ((c.tc : Thread Cert.DInIdeal.nD Cert.DInIdeal.τ).loc Cert.DInIdeal.main_arg2)) →
    ∃ (v0 : (c : Dev Cert.DInIdeal.nD) → Buf (Elt Ideal) ((c.tc : Thread Cert.DInIdeal.nD Cert.DInIdeal.τ).loc Cert.DInIdeal.main_v1)),
      θ_run (Cert.DInIdeal.defs (F := Ideal)) (onTc (τ := Cert.DInIdeal.τ) (Cert.DInIdeal.main (F := Ideal))) ⟨m, fun _ => 0, g⟩ (fun r => ∀ c : Dev Cert.DInIdeal.nD,
          r.2.mem ((c.tc : Thread Cert.DInIdeal.nD Cert.DInIdeal.τ).loc Cert.DInIdeal.main_v1) = v0 c
          ∧ r.2.mem ((c.tc : Thread Cert.DInIdeal.nD Cert.DInIdeal.τ).loc Cert.DInIdeal.main_arg0) = m ((c.tc : Thread Cert.DInIdeal.nD Cert.DInIdeal.τ).loc Cert.DInIdeal.main_arg0)
          ∧ r.2.mem ((c.tc : Thread Cert.DInIdeal.nD Cert.DInIdeal.τ).loc Cert.DInIdeal.main_arg1) = m ((c.tc : Thread Cert.DInIdeal.nD Cert.DInIdeal.τ).loc Cert.DInIdeal.main_arg1)
          ∧ r.2.mem ((c.tc : Thread Cert.DInIdeal.nD Cert.DInIdeal.τ).loc Cert.DInIdeal.main_arg2) = m ((c.tc : Thread Cert.DInIdeal.nD Cert.DInIdeal.τ).loc Cert.DInIdeal.main_arg2))
      ∧ θ_run (Cert.DInPlainIdeal.defs (F := Ideal)) (onTc (τ := Cert.DInPlainIdeal.τ) (Cert.DInPlainIdeal.main (F := Ideal))) ⟨m', fun _ => 0, g'⟩ (fun r => ∀ c : Dev Cert.DInPlainIdeal.nD,
          r.2.mem ((c.tc : Thread Cert.DInPlainIdeal.nD Cert.DInPlainIdeal.τ).loc Cert.DInPlainIdeal.main_v3) = v0 c
          ∧ r.2.mem ((c.tc : Thread Cert.DInPlainIdeal.nD Cert.DInPlainIdeal.τ).loc Cert.DInPlainIdeal.main_arg0) = m' ((c.tc : Thread Cert.DInPlainIdeal.nD Cert.DInPlainIdeal.τ).loc Cert.DInPlainIdeal.main_arg0)
          ∧ r.2.mem ((c.tc : Thread Cert.DInPlainIdeal.nD Cert.DInPlainIdeal.τ).loc Cert.DInPlainIdeal.main_arg1) = m' ((c.tc : Thread Cert.DInPlainIdeal.nD Cert.DInPlainIdeal.τ).loc Cert.DInPlainIdeal.main_arg1)
          ∧ r.2.mem ((c.tc : Thread Cert.DInPlainIdeal.nD Cert.DInPlainIdeal.τ).loc Cert.DInPlainIdeal.main_arg2) = m' ((c.tc : Thread Cert.DInPlainIdeal.nD Cert.DInPlainIdeal.τ).loc Cert.DInPlainIdeal.main_arg2))

def preserves_Glu_GluIdeal : Prop :=
  True

def algebraic_GluIdeal_GluPlainIdeal [hGluIdeal : Cert.GluIdeal.Facts] [hGluPlainIdeal : Cert.GluPlainIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluPlainIdeal.nD Cert.GluPlainIdeal.τ Cert.GluPlainIdeal.sig) → Buf (Elt Ideal) ℓ) (g' : Dev Cert.GluPlainIdeal.nD → PrngReg), Pre_GluIdeal m →
    (∀ c : Dev Cert.GluIdeal.nD,
      m' ((c.tc : Thread Cert.GluPlainIdeal.nD Cert.GluPlainIdeal.τ).loc Cert.GluPlainIdeal.main_arg0) = m ((c.tc : Thread Cert.GluIdeal.nD Cert.GluIdeal.τ).loc Cert.GluIdeal.main_arg0)
      ∧ m' ((c.tc : Thread Cert.GluPlainIdeal.nD Cert.GluPlainIdeal.τ).loc Cert.GluPlainIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluPlainIdeal.defs (F := Ideal)) (onTc (τ := Cert.GluPlainIdeal.τ) (Cert.GluPlainIdeal.main (F := Ideal))) ⟨m', fun _ => 0, g'⟩ (fun r => ∀ c : Dev Cert.GluPlainIdeal.nD,
          r.2.mem ((c.tc : Thread Cert.GluPlainIdeal.nD Cert.GluPlainIdeal.τ).loc Cert.GluPlainIdeal.main_v0) = v0 c
          ∧ r.2.mem ((c.tc : Thread Cert.GluPlainIdeal.nD Cert.GluPlainIdeal.τ).loc Cert.GluPlainIdeal.main_arg0) = m' ((c.tc : Thread Cert.GluPlainIdeal.nD Cert.GluPlainIdeal.τ).loc Cert.GluPlainIdeal.main_arg0)
          ∧ r.2.mem ((c.tc : Thread Cert.GluPlainIdeal.nD Cert.GluPlainIdeal.τ).loc Cert.GluPlainIdeal.main_arg1) = m' ((c.tc : Thread Cert.GluPlainIdeal.nD Cert.GluPlainIdeal.τ).loc Cert.GluPlainIdeal.main_arg1))

def preserves_PleProj_PleProjIdeal : Prop :=
  True

def algebraic_PleProjIdeal_PleProjPlainIdeal [hPleProjIdeal : Cert.PleProjIdeal.Facts] [hPleProjPlainIdeal : Cert.PleProjPlainIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjPlainIdeal.nD Cert.PleProjPlainIdeal.τ Cert.PleProjPlainIdeal.sig) → Buf (Elt Ideal) ℓ) (g' : Dev Cert.PleProjPlainIdeal.nD → PrngReg), Pre_PleProjIdeal m →
    (∀ c : Dev Cert.PleProjIdeal.nD,
      m' ((c.tc : Thread Cert.PleProjPlainIdeal.nD Cert.PleProjPlainIdeal.τ).loc Cert.PleProjPlainIdeal.main_arg0) = m ((c.tc : Thread Cert.PleProjIdeal.nD Cert.PleProjIdeal.τ).loc Cert.PleProjIdeal.main_arg0)
      ∧ m' ((c.tc : Thread Cert.PleProjPlainIdeal.nD Cert.PleProjPlainIdeal.τ).loc Cert.PleProjPlainIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v1)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v1) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjPlainIdeal.defs (F := Ideal)) (onTc (τ := Cert.PleProjPlainIdeal.τ) (Cert.PleProjPlainIdeal.main (F := Ideal))) ⟨m', fun _ => 0, g'⟩ (fun r => ∀ c : Dev Cert.PleProjPlainIdeal.nD,
          r.2.mem ((c.tc : Thread Cert.PleProjPlainIdeal.nD Cert.PleProjPlainIdeal.τ).loc Cert.PleProjPlainIdeal.main_v0) = v0 c
          ∧ r.2.mem ((c.tc : Thread Cert.PleProjPlainIdeal.nD Cert.PleProjPlainIdeal.τ).loc Cert.PleProjPlainIdeal.main_arg0) = m' ((c.tc : Thread Cert.PleProjPlainIdeal.nD Cert.PleProjPlainIdeal.τ).loc Cert.PleProjPlainIdeal.main_arg0)
          ∧ r.2.mem ((c.tc : Thread Cert.PleProjPlainIdeal.nD Cert.PleProjPlainIdeal.τ).loc Cert.PleProjPlainIdeal.main_arg1) = m' ((c.tc : Thread Cert.PleProjPlainIdeal.nD Cert.PleProjPlainIdeal.τ).loc Cert.PleProjPlainIdeal.main_arg1))

def preserves_DPleGate_DPleGateIdeal : Prop :=
  True

def algebraic_DPleGateIdeal_DPleGatePlainIdeal [hDPleGateIdeal : Cert.DPleGateIdeal.Facts] [hDPleGatePlainIdeal : Cert.DPleGatePlainIdeal.Facts] : Prop :=
  ∀ (m : (ℓ : Loc Cert.DPleGateIdeal.nD Cert.DPleGateIdeal.τ Cert.DPleGateIdeal.sig) → Buf (Elt Ideal) ℓ) (g : Dev Cert.DPleGateIdeal.nD → PrngReg)
    (m' : (ℓ : Loc Cert.DPleGatePlainIdeal.nD Cert.DPleGatePlainIdeal.τ Cert.DPleGatePlainIdeal.sig) → Buf (Elt Ideal) ℓ) (g' : Dev Cert.DPleGatePlainIdeal.nD → PrngReg), Pre_DPleGateIdeal m →
    (∀ c : Dev Cert.DPleGateIdeal.nD,
      m' ((c.tc : Thread Cert.DPleGatePlainIdeal.nD Cert.DPleGatePlainIdeal.τ).loc Cert.DPleGatePlainIdeal.main_arg0) = m ((c.tc : Thread Cert.DPleGateIdeal.nD Cert.DPleGateIdeal.τ).loc Cert.DPleGateIdeal.main_arg0)
      ∧ m' ((c.tc : Thread Cert.DPleGatePlainIdeal.nD Cert.DPleGatePlainIdeal.τ).loc Cert.DPleGatePlainIdeal.main_arg1) = m ((c.tc : Thread Cert.DPleGateIdeal.nD Cert.DPleGateIdeal.τ).loc Cert.DPleGateIdeal.main_arg1)
      ∧ m' ((c.tc : Thread Cert.DPleGatePlainIdeal.nD Cert.DPleGatePlainIdeal.τ).loc Cert.DPleGatePlainIdeal.main_arg2) = m ((c.tc : Thread Cert.DPleGateIdeal.nD Cert.DPleGateIdeal.τ).loc Cert.DPleGateIdeal.main_arg2)) →
    ∃ (v0 : (c : Dev Cert.DPleGateIdeal.nD) → Buf (Elt Ideal) ((c.tc : Thread Cert.DPleGateIdeal.nD Cert.DPleGateIdeal.τ).loc Cert.DPleGateIdeal.main_v2)),
      θ_run (Cert.DPleGateIdeal.defs (F := Ideal)) (onTc (τ := Cert.DPleGateIdeal.τ) (Cert.DPleGateIdeal.main (F := Ideal))) ⟨m, fun _ => 0, g⟩ (fun r => ∀ c : Dev Cert.DPleGateIdeal.nD,
          r.2.mem ((c.tc : Thread Cert.DPleGateIdeal.nD Cert.DPleGateIdeal.τ).loc Cert.DPleGateIdeal.main_v2) = v0 c
          ∧ r.2.mem ((c.tc : Thread Cert.DPleGateIdeal.nD Cert.DPleGateIdeal.τ).loc Cert.DPleGateIdeal.main_arg0) = m ((c.tc : Thread Cert.DPleGateIdeal.nD Cert.DPleGateIdeal.τ).loc Cert.DPleGateIdeal.main_arg0)
          ∧ r.2.mem ((c.tc : Thread Cert.DPleGateIdeal.nD Cert.DPleGateIdeal.τ).loc Cert.DPleGateIdeal.main_arg1) = m ((c.tc : Thread Cert.DPleGateIdeal.nD Cert.DPleGateIdeal.τ).loc Cert.DPleGateIdeal.main_arg1)
          ∧ r.2.mem ((c.tc : Thread Cert.DPleGateIdeal.nD Cert.DPleGateIdeal.τ).loc Cert.DPleGateIdeal.main_arg2) = m ((c.tc : Thread Cert.DPleGateIdeal.nD Cert.DPleGateIdeal.τ).loc Cert.DPleGateIdeal.main_arg2))
      ∧ θ_run (Cert.DPleGatePlainIdeal.defs (F := Ideal)) (onTc (τ := Cert.DPleGatePlainIdeal.τ) (Cert.DPleGatePlainIdeal.main (F := Ideal))) ⟨m', fun _ => 0, g'⟩ (fun r => ∀ c : Dev Cert.DPleGatePlainIdeal.nD,
          r.2.mem ((c.tc : Thread Cert.DPleGatePlainIdeal.nD Cert.DPleGatePlainIdeal.τ).loc Cert.DPleGatePlainIdeal.main_v3) = v0 c
          ∧ r.2.mem ((c.tc : Thread Cert.DPleGatePlainIdeal.nD Cert.DPleGatePlainIdeal.τ).loc Cert.DPleGatePlainIdeal.main_arg0) = m' ((c.tc : Thread Cert.DPleGatePlainIdeal.nD Cert.DPleGatePlainIdeal.τ).loc Cert.DPleGatePlainIdeal.main_arg0)
          ∧ r.2.mem ((c.tc : Thread Cert.DPleGatePlainIdeal.nD Cert.DPleGatePlainIdeal.τ).loc Cert.DPleGatePlainIdeal.main_arg1) = m' ((c.tc : Thread Cert.DPleGatePlainIdeal.nD Cert.DPleGatePlainIdeal.τ).loc Cert.DPleGatePlainIdeal.main_arg1)
          ∧ r.2.mem ((c.tc : Thread Cert.DPleGatePlainIdeal.nD Cert.DPleGatePlainIdeal.τ).loc Cert.DPleGatePlainIdeal.main_arg2) = m' ((c.tc : Thread Cert.DPleGatePlainIdeal.nD Cert.DPleGatePlainIdeal.τ).loc Cert.DPleGatePlainIdeal.main_arg2))

def preserves_DPleProj_DPleProjIdeal : Prop :=
  True

def algebraic_DPleProjIdeal_DPleProjPlainIdeal [hDPleProjIdeal : Cert.DPleProjIdeal.Facts] [hDPleProjPlainIdeal : Cert.DPleProjPlainIdeal.Facts] : Prop :=
  ∀ (m : (ℓ : Loc Cert.DPleProjIdeal.nD Cert.DPleProjIdeal.τ Cert.DPleProjIdeal.sig) → Buf (Elt Ideal) ℓ) (g : Dev Cert.DPleProjIdeal.nD → PrngReg)
    (m' : (ℓ : Loc Cert.DPleProjPlainIdeal.nD Cert.DPleProjPlainIdeal.τ Cert.DPleProjPlainIdeal.sig) → Buf (Elt Ideal) ℓ) (g' : Dev Cert.DPleProjPlainIdeal.nD → PrngReg), Pre_DPleProjIdeal m →
    (∀ c : Dev Cert.DPleProjIdeal.nD,
      m' ((c.tc : Thread Cert.DPleProjPlainIdeal.nD Cert.DPleProjPlainIdeal.τ).loc Cert.DPleProjPlainIdeal.main_arg0) = m ((c.tc : Thread Cert.DPleProjIdeal.nD Cert.DPleProjIdeal.τ).loc Cert.DPleProjIdeal.main_arg0)
      ∧ m' ((c.tc : Thread Cert.DPleProjPlainIdeal.nD Cert.DPleProjPlainIdeal.τ).loc Cert.DPleProjPlainIdeal.main_arg1) = m ((c.tc : Thread Cert.DPleProjIdeal.nD Cert.DPleProjIdeal.τ).loc Cert.DPleProjIdeal.main_arg1)
      ∧ m' ((c.tc : Thread Cert.DPleProjPlainIdeal.nD Cert.DPleProjPlainIdeal.τ).loc Cert.DPleProjPlainIdeal.main_arg2) = m ((c.tc : Thread Cert.DPleProjIdeal.nD Cert.DPleProjIdeal.τ).loc Cert.DPleProjIdeal.main_arg2)) →
    ∃ (v0 : (c : Dev Cert.DPleProjIdeal.nD) → Buf (Elt Ideal) ((c.tc : Thread Cert.DPleProjIdeal.nD Cert.DPleProjIdeal.τ).loc Cert.DPleProjIdeal.main_v1)),
      θ_run (Cert.DPleProjIdeal.defs (F := Ideal)) (onTc (τ := Cert.DPleProjIdeal.τ) (Cert.DPleProjIdeal.main (F := Ideal))) ⟨m, fun _ => 0, g⟩ (fun r => ∀ c : Dev Cert.DPleProjIdeal.nD,
          r.2.mem ((c.tc : Thread Cert.DPleProjIdeal.nD Cert.DPleProjIdeal.τ).loc Cert.DPleProjIdeal.main_v1) = v0 c
          ∧ r.2.mem ((c.tc : Thread Cert.DPleProjIdeal.nD Cert.DPleProjIdeal.τ).loc Cert.DPleProjIdeal.main_arg0) = m ((c.tc : Thread Cert.DPleProjIdeal.nD Cert.DPleProjIdeal.τ).loc Cert.DPleProjIdeal.main_arg0)
          ∧ r.2.mem ((c.tc : Thread Cert.DPleProjIdeal.nD Cert.DPleProjIdeal.τ).loc Cert.DPleProjIdeal.main_arg1) = m ((c.tc : Thread Cert.DPleProjIdeal.nD Cert.DPleProjIdeal.τ).loc Cert.DPleProjIdeal.main_arg1)
          ∧ r.2.mem ((c.tc : Thread Cert.DPleProjIdeal.nD Cert.DPleProjIdeal.τ).loc Cert.DPleProjIdeal.main_arg2) = m ((c.tc : Thread Cert.DPleProjIdeal.nD Cert.DPleProjIdeal.τ).loc Cert.DPleProjIdeal.main_arg2))
      ∧ θ_run (Cert.DPleProjPlainIdeal.defs (F := Ideal)) (onTc (τ := Cert.DPleProjPlainIdeal.τ) (Cert.DPleProjPlainIdeal.main (F := Ideal))) ⟨m', fun _ => 0, g'⟩ (fun r => ∀ c : Dev Cert.DPleProjPlainIdeal.nD,
          r.2.mem ((c.tc : Thread Cert.DPleProjPlainIdeal.nD Cert.DPleProjPlainIdeal.τ).loc Cert.DPleProjPlainIdeal.main_v3) = v0 c
          ∧ r.2.mem ((c.tc : Thread Cert.DPleProjPlainIdeal.nD Cert.DPleProjPlainIdeal.τ).loc Cert.DPleProjPlainIdeal.main_arg0) = m' ((c.tc : Thread Cert.DPleProjPlainIdeal.nD Cert.DPleProjPlainIdeal.τ).loc Cert.DPleProjPlainIdeal.main_arg0)
          ∧ r.2.mem ((c.tc : Thread Cert.DPleProjPlainIdeal.nD Cert.DPleProjPlainIdeal.τ).loc Cert.DPleProjPlainIdeal.main_arg1) = m' ((c.tc : Thread Cert.DPleProjPlainIdeal.nD Cert.DPleProjPlainIdeal.τ).loc Cert.DPleProjPlainIdeal.main_arg1)
          ∧ r.2.mem ((c.tc : Thread Cert.DPleProjPlainIdeal.nD Cert.DPleProjPlainIdeal.τ).loc Cert.DPleProjPlainIdeal.main_arg2) = m' ((c.tc : Thread Cert.DPleProjPlainIdeal.nD Cert.DPleProjPlainIdeal.τ).loc Cert.DPleProjPlainIdeal.main_arg2))

def preserves_DOut_DOutIdeal : Prop :=
  True

def algebraic_DOutIdeal_DOutPlainIdeal [hDOutIdeal : Cert.DOutIdeal.Facts] [hDOutPlainIdeal : Cert.DOutPlainIdeal.Facts] : Prop :=
  ∀ (m : (ℓ : Loc Cert.DOutIdeal.nD Cert.DOutIdeal.τ Cert.DOutIdeal.sig) → Buf (Elt Ideal) ℓ) (g : Dev Cert.DOutIdeal.nD → PrngReg)
    (m' : (ℓ : Loc Cert.DOutPlainIdeal.nD Cert.DOutPlainIdeal.τ Cert.DOutPlainIdeal.sig) → Buf (Elt Ideal) ℓ) (g' : Dev Cert.DOutPlainIdeal.nD → PrngReg), Pre_DOutIdeal m →
    (∀ c : Dev Cert.DOutIdeal.nD,
      m' ((c.tc : Thread Cert.DOutPlainIdeal.nD Cert.DOutPlainIdeal.τ).loc Cert.DOutPlainIdeal.main_arg0) = m ((c.tc : Thread Cert.DOutIdeal.nD Cert.DOutIdeal.τ).loc Cert.DOutIdeal.main_arg0)
      ∧ m' ((c.tc : Thread Cert.DOutPlainIdeal.nD Cert.DOutPlainIdeal.τ).loc Cert.DOutPlainIdeal.main_arg1) = m ((c.tc : Thread Cert.DOutIdeal.nD Cert.DOutIdeal.τ).loc Cert.DOutIdeal.main_arg1)
      ∧ m' ((c.tc : Thread Cert.DOutPlainIdeal.nD Cert.DOutPlainIdeal.τ).loc Cert.DOutPlainIdeal.main_arg2) = m ((c.tc : Thread Cert.DOutIdeal.nD Cert.DOutIdeal.τ).loc Cert.DOutIdeal.main_arg2)) →
    ∃ (v0 : (c : Dev Cert.DOutIdeal.nD) → Buf (Elt Ideal) ((c.tc : Thread Cert.DOutIdeal.nD Cert.DOutIdeal.τ).loc Cert.DOutIdeal.main_v1)),
      θ_run (Cert.DOutIdeal.defs (F := Ideal)) (onTc (τ := Cert.DOutIdeal.τ) (Cert.DOutIdeal.main (F := Ideal))) ⟨m, fun _ => 0, g⟩ (fun r => ∀ c : Dev Cert.DOutIdeal.nD,
          r.2.mem ((c.tc : Thread Cert.DOutIdeal.nD Cert.DOutIdeal.τ).loc Cert.DOutIdeal.main_v1) = v0 c
          ∧ r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
          ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1)
          ∧ r.2.mem ((c.tc : Thread Cert.DOutIdeal.nD Cert.DOutIdeal.τ).loc Cert.DOutIdeal.main_arg2) = m ((c.tc : Thread Cert.DOutIdeal.nD Cert.DOutIdeal.τ).loc Cert.DOutIdeal.main_arg2))
      ∧ θ_run (Cert.DOutPlainIdeal.defs (F := Ideal)) (onTc (τ := Cert.DOutPlainIdeal.τ) (Cert.DOutPlainIdeal.main (F := Ideal))) ⟨m', fun _ => 0, g'⟩ (fun r => ∀ c : Dev Cert.DOutPlainIdeal.nD,
          r.2.mem ((c.tc : Thread Cert.DOutPlainIdeal.nD Cert.DOutPlainIdeal.τ).loc Cert.DOutPlainIdeal.main_v3) = v0 c
          ∧ r.2.mem ((c.tc : Thread Cert.DOutPlainIdeal.nD Cert.DOutPlainIdeal.τ).loc Cert.DOutPlainIdeal.main_arg0) = m' ((c.tc : Thread Cert.DOutPlainIdeal.nD Cert.DOutPlainIdeal.τ).loc Cert.DOutPlainIdeal.main_arg0)
          ∧ r.2.mem ((c.tc : Thread Cert.DOutPlainIdeal.nD Cert.DOutPlainIdeal.τ).loc Cert.DOutPlainIdeal.main_arg1) = m' ((c.tc : Thread Cert.DOutPlainIdeal.nD Cert.DOutPlainIdeal.τ).loc Cert.DOutPlainIdeal.main_arg1)
          ∧ r.2.mem ((c.tc : Thread Cert.DOutPlainIdeal.nD Cert.DOutPlainIdeal.τ).loc Cert.DOutPlainIdeal.main_arg2) = m' ((c.tc : Thread Cert.DOutPlainIdeal.nD Cert.DOutPlainIdeal.τ).loc Cert.DOutPlainIdeal.main_arg2))

def preserves_DGlu_DGluIdeal : Prop :=
  True

def algebraic_DGluIdeal_DGluPlainIdeal [hDGluIdeal : Cert.DGluIdeal.Facts] [hDGluPlainIdeal : Cert.DGluPlainIdeal.Facts] : Prop :=
  ∀ (m : (ℓ : Loc Cert.DGluIdeal.nD Cert.DGluIdeal.τ Cert.DGluIdeal.sig) → Buf (Elt Ideal) ℓ) (g : Dev Cert.DGluIdeal.nD → PrngReg)
    (m' : (ℓ : Loc Cert.DGluPlainIdeal.nD Cert.DGluPlainIdeal.τ Cert.DGluPlainIdeal.sig) → Buf (Elt Ideal) ℓ) (g' : Dev Cert.DGluPlainIdeal.nD → PrngReg), Pre_DGluIdeal m →
    (∀ c : Dev Cert.DGluIdeal.nD,
      m' ((c.tc : Thread Cert.DGluPlainIdeal.nD Cert.DGluPlainIdeal.τ).loc Cert.DGluPlainIdeal.main_arg0) = m ((c.tc : Thread Cert.DGluIdeal.nD Cert.DGluIdeal.τ).loc Cert.DGluIdeal.main_arg0)
      ∧ m' ((c.tc : Thread Cert.DGluPlainIdeal.nD Cert.DGluPlainIdeal.τ).loc Cert.DGluPlainIdeal.main_arg1) = m ((c.tc : Thread Cert.DGluIdeal.nD Cert.DGluIdeal.τ).loc Cert.DGluIdeal.main_arg1)
      ∧ m' ((c.tc : Thread Cert.DGluPlainIdeal.nD Cert.DGluPlainIdeal.τ).loc Cert.DGluPlainIdeal.main_arg2) = m ((c.tc : Thread Cert.DGluIdeal.nD Cert.DGluIdeal.τ).loc Cert.DGluIdeal.main_arg2)) →
    ∃ (v0 : (c : Dev Cert.DGluIdeal.nD) → Buf (Elt Ideal) ((c.tc : Thread Cert.DGluIdeal.nD Cert.DGluIdeal.τ).loc Cert.DGluIdeal.main_v2)),
      θ_run (Cert.DGluIdeal.defs (F := Ideal)) (onTc (τ := Cert.DGluIdeal.τ) (Cert.DGluIdeal.main (F := Ideal))) ⟨m, fun _ => 0, g⟩ (fun r => ∀ c : Dev Cert.DGluIdeal.nD,
          r.2.mem ((c.tc : Thread Cert.DGluIdeal.nD Cert.DGluIdeal.τ).loc Cert.DGluIdeal.main_v2) = v0 c
          ∧ r.2.mem ((c.tc : Thread Cert.DGluIdeal.nD Cert.DGluIdeal.τ).loc Cert.DGluIdeal.main_arg0) = m ((c.tc : Thread Cert.DGluIdeal.nD Cert.DGluIdeal.τ).loc Cert.DGluIdeal.main_arg0)
          ∧ r.2.mem ((c.tc : Thread Cert.DGluIdeal.nD Cert.DGluIdeal.τ).loc Cert.DGluIdeal.main_arg1) = m ((c.tc : Thread Cert.DGluIdeal.nD Cert.DGluIdeal.τ).loc Cert.DGluIdeal.main_arg1)
          ∧ r.2.mem ((c.tc : Thread Cert.DGluIdeal.nD Cert.DGluIdeal.τ).loc Cert.DGluIdeal.main_arg2) = m ((c.tc : Thread Cert.DGluIdeal.nD Cert.DGluIdeal.τ).loc Cert.DGluIdeal.main_arg2))
      ∧ θ_run (Cert.DGluPlainIdeal.defs (F := Ideal)) (onTc (τ := Cert.DGluPlainIdeal.τ) (Cert.DGluPlainIdeal.main (F := Ideal))) ⟨m', fun _ => 0, g'⟩ (fun r => ∀ c : Dev Cert.DGluPlainIdeal.nD,
          r.2.mem ((c.tc : Thread Cert.DGluPlainIdeal.nD Cert.DGluPlainIdeal.τ).loc Cert.DGluPlainIdeal.main_v3) = v0 c
          ∧ r.2.mem ((c.tc : Thread Cert.DGluPlainIdeal.nD Cert.DGluPlainIdeal.τ).loc Cert.DGluPlainIdeal.main_arg0) = m' ((c.tc : Thread Cert.DGluPlainIdeal.nD Cert.DGluPlainIdeal.τ).loc Cert.DGluPlainIdeal.main_arg0)
          ∧ r.2.mem ((c.tc : Thread Cert.DGluPlainIdeal.nD Cert.DGluPlainIdeal.τ).loc Cert.DGluPlainIdeal.main_arg1) = m' ((c.tc : Thread Cert.DGluPlainIdeal.nD Cert.DGluPlainIdeal.τ).loc Cert.DGluPlainIdeal.main_arg1)
          ∧ r.2.mem ((c.tc : Thread Cert.DGluPlainIdeal.nD Cert.DGluPlainIdeal.τ).loc Cert.DGluPlainIdeal.main_arg2) = m' ((c.tc : Thread Cert.DGluPlainIdeal.nD Cert.DGluPlainIdeal.τ).loc Cert.DGluPlainIdeal.main_arg2))

def preserves_DYcat_DYcatIdeal : Prop :=
  True

def algebraic_DYcatIdeal_DYcatPlainIdeal [hDYcatIdeal : Cert.DYcatIdeal.Facts] [hDYcatPlainIdeal : Cert.DYcatPlainIdeal.Facts] : Prop :=
  ∀ (m : (ℓ : Loc Cert.DYcatIdeal.nD Cert.DYcatIdeal.τ Cert.DYcatIdeal.sig) → Buf (Elt Ideal) ℓ) (g : Dev Cert.DYcatIdeal.nD → PrngReg)
    (m' : (ℓ : Loc Cert.DYcatPlainIdeal.nD Cert.DYcatPlainIdeal.τ Cert.DYcatPlainIdeal.sig) → Buf (Elt Ideal) ℓ) (g' : Dev Cert.DYcatPlainIdeal.nD → PrngReg), Pre_DYcatIdeal m →
    (∀ c : Dev Cert.DYcatIdeal.nD,
      m' ((c.tc : Thread Cert.DYcatPlainIdeal.nD Cert.DYcatPlainIdeal.τ).loc Cert.DYcatPlainIdeal.main_arg0) = m ((c.tc : Thread Cert.DYcatIdeal.nD Cert.DYcatIdeal.τ).loc Cert.DYcatIdeal.main_arg0)
      ∧ m' ((c.tc : Thread Cert.DYcatPlainIdeal.nD Cert.DYcatPlainIdeal.τ).loc Cert.DYcatPlainIdeal.main_arg1) = m ((c.tc : Thread Cert.DYcatIdeal.nD Cert.DYcatIdeal.τ).loc Cert.DYcatIdeal.main_arg1)
      ∧ m' ((c.tc : Thread Cert.DYcatPlainIdeal.nD Cert.DYcatPlainIdeal.τ).loc Cert.DYcatPlainIdeal.main_arg2) = m ((c.tc : Thread Cert.DYcatIdeal.nD Cert.DYcatIdeal.τ).loc Cert.DYcatIdeal.main_arg2)) →
    ∃ (v0 : (c : Dev Cert.DYcatIdeal.nD) → Buf (Elt Ideal) ((c.tc : Thread Cert.DYcatIdeal.nD Cert.DYcatIdeal.τ).loc Cert.DYcatIdeal.main_v1)),
      θ_run (Cert.DYcatIdeal.defs (F := Ideal)) (onTc (τ := Cert.DYcatIdeal.τ) (Cert.DYcatIdeal.main (F := Ideal))) ⟨m, fun _ => 0, g⟩ (fun r => ∀ c : Dev Cert.DYcatIdeal.nD,
          r.2.mem ((c.tc : Thread Cert.DYcatIdeal.nD Cert.DYcatIdeal.τ).loc Cert.DYcatIdeal.main_v1) = v0 c
          ∧ r.2.mem ((c.tc : Thread Cert.DYcatIdeal.nD Cert.DYcatIdeal.τ).loc Cert.DYcatIdeal.main_arg0) = m ((c.tc : Thread Cert.DYcatIdeal.nD Cert.DYcatIdeal.τ).loc Cert.DYcatIdeal.main_arg0)
          ∧ r.2.mem ((c.tc : Thread Cert.DYcatIdeal.nD Cert.DYcatIdeal.τ).loc Cert.DYcatIdeal.main_arg1) = m ((c.tc : Thread Cert.DYcatIdeal.nD Cert.DYcatIdeal.τ).loc Cert.DYcatIdeal.main_arg1)
          ∧ r.2.mem ((c.tc : Thread Cert.DYcatIdeal.nD Cert.DYcatIdeal.τ).loc Cert.DYcatIdeal.main_arg2) = m ((c.tc : Thread Cert.DYcatIdeal.nD Cert.DYcatIdeal.τ).loc Cert.DYcatIdeal.main_arg2))
      ∧ θ_run (Cert.DYcatPlainIdeal.defs (F := Ideal)) (onTc (τ := Cert.DYcatPlainIdeal.τ) (Cert.DYcatPlainIdeal.main (F := Ideal))) ⟨m', fun _ => 0, g'⟩ (fun r => ∀ c : Dev Cert.DYcatPlainIdeal.nD,
          r.2.mem ((c.tc : Thread Cert.DYcatPlainIdeal.nD Cert.DYcatPlainIdeal.τ).loc Cert.DYcatPlainIdeal.main_v1) = v0 c
          ∧ r.2.mem ((c.tc : Thread Cert.DYcatPlainIdeal.nD Cert.DYcatPlainIdeal.τ).loc Cert.DYcatPlainIdeal.main_arg0) = m' ((c.tc : Thread Cert.DYcatPlainIdeal.nD Cert.DYcatPlainIdeal.τ).loc Cert.DYcatPlainIdeal.main_arg0)
          ∧ r.2.mem ((c.tc : Thread Cert.DYcatPlainIdeal.nD Cert.DYcatPlainIdeal.τ).loc Cert.DYcatPlainIdeal.main_arg1) = m' ((c.tc : Thread Cert.DYcatPlainIdeal.nD Cert.DYcatPlainIdeal.τ).loc Cert.DYcatPlainIdeal.main_arg1)
          ∧ r.2.mem ((c.tc : Thread Cert.DYcatPlainIdeal.nD Cert.DYcatPlainIdeal.τ).loc Cert.DYcatPlainIdeal.main_arg2) = m' ((c.tc : Thread Cert.DYcatPlainIdeal.nD Cert.DYcatPlainIdeal.τ).loc Cert.DYcatPlainIdeal.main_arg2))

def preserves_DZ_DZIdeal : Prop :=
  True

def algebraic_DZIdeal_DZPlainIdeal [hDZIdeal : Cert.DZIdeal.Facts] [hDZPlainIdeal : Cert.DZPlainIdeal.Facts] : Prop :=
  ∀ (m : (ℓ : Loc Cert.DZIdeal.nD Cert.DZIdeal.τ Cert.DZIdeal.sig) → Buf (Elt Ideal) ℓ) (g : Dev Cert.DZIdeal.nD → PrngReg)
    (m' : (ℓ : Loc Cert.DZPlainIdeal.nD Cert.DZPlainIdeal.τ Cert.DZPlainIdeal.sig) → Buf (Elt Ideal) ℓ) (g' : Dev Cert.DZPlainIdeal.nD → PrngReg), Pre_DZIdeal m →
    (∀ c : Dev Cert.DZIdeal.nD,
      m' ((c.tc : Thread Cert.DZPlainIdeal.nD Cert.DZPlainIdeal.τ).loc Cert.DZPlainIdeal.main_arg0) = m ((c.tc : Thread Cert.DZIdeal.nD Cert.DZIdeal.τ).loc Cert.DZIdeal.main_arg0)
      ∧ m' ((c.tc : Thread Cert.DZPlainIdeal.nD Cert.DZPlainIdeal.τ).loc Cert.DZPlainIdeal.main_arg1) = m ((c.tc : Thread Cert.DZIdeal.nD Cert.DZIdeal.τ).loc Cert.DZIdeal.main_arg1)
      ∧ m' ((c.tc : Thread Cert.DZPlainIdeal.nD Cert.DZPlainIdeal.τ).loc Cert.DZPlainIdeal.main_arg2) = m ((c.tc : Thread Cert.DZIdeal.nD Cert.DZIdeal.τ).loc Cert.DZIdeal.main_arg2)) →
    ∃ (v0 : (c : Dev Cert.DZIdeal.nD) → Buf (Elt Ideal) ((c.tc : Thread Cert.DZIdeal.nD Cert.DZIdeal.τ).loc Cert.DZIdeal.main_v2)),
      θ_run (Cert.DZIdeal.defs (F := Ideal)) (onTc (τ := Cert.DZIdeal.τ) (Cert.DZIdeal.main (F := Ideal))) ⟨m, fun _ => 0, g⟩ (fun r => ∀ c : Dev Cert.DZIdeal.nD,
          r.2.mem ((c.tc : Thread Cert.DZIdeal.nD Cert.DZIdeal.τ).loc Cert.DZIdeal.main_v2) = v0 c
          ∧ r.2.mem ((c.tc : Thread Cert.DZIdeal.nD Cert.DZIdeal.τ).loc Cert.DZIdeal.main_arg0) = m ((c.tc : Thread Cert.DZIdeal.nD Cert.DZIdeal.τ).loc Cert.DZIdeal.main_arg0)
          ∧ r.2.mem ((c.tc : Thread Cert.DZIdeal.nD Cert.DZIdeal.τ).loc Cert.DZIdeal.main_arg1) = m ((c.tc : Thread Cert.DZIdeal.nD Cert.DZIdeal.τ).loc Cert.DZIdeal.main_arg1)
          ∧ r.2.mem ((c.tc : Thread Cert.DZIdeal.nD Cert.DZIdeal.τ).loc Cert.DZIdeal.main_arg2) = m ((c.tc : Thread Cert.DZIdeal.nD Cert.DZIdeal.τ).loc Cert.DZIdeal.main_arg2))
      ∧ θ_run (Cert.DZPlainIdeal.defs (F := Ideal)) (onTc (τ := Cert.DZPlainIdeal.τ) (Cert.DZPlainIdeal.main (F := Ideal))) ⟨m', fun _ => 0, g'⟩ (fun r => ∀ c : Dev Cert.DZPlainIdeal.nD,
          r.2.mem ((c.tc : Thread Cert.DZPlainIdeal.nD Cert.DZPlainIdeal.τ).loc Cert.DZPlainIdeal.main_v1) = v0 c
          ∧ r.2.mem ((c.tc : Thread Cert.DZPlainIdeal.nD Cert.DZPlainIdeal.τ).loc Cert.DZPlainIdeal.main_arg0) = m' ((c.tc : Thread Cert.DZPlainIdeal.nD Cert.DZPlainIdeal.τ).loc Cert.DZPlainIdeal.main_arg0)
          ∧ r.2.mem ((c.tc : Thread Cert.DZPlainIdeal.nD Cert.DZPlainIdeal.τ).loc Cert.DZPlainIdeal.main_arg1) = m' ((c.tc : Thread Cert.DZPlainIdeal.nD Cert.DZPlainIdeal.τ).loc Cert.DZPlainIdeal.main_arg1)
          ∧ r.2.mem ((c.tc : Thread Cert.DZPlainIdeal.nD Cert.DZPlainIdeal.τ).loc Cert.DZPlainIdeal.main_arg2) = m' ((c.tc : Thread Cert.DZPlainIdeal.nD Cert.DZPlainIdeal.τ).loc Cert.DZPlainIdeal.main_arg2))

def preserves_PleGate_PleGateIdeal : Prop :=
  True

def algebraic_PleGateIdeal_PleGatePlainIdeal [hPleGateIdeal : Cert.PleGateIdeal.Facts] [hPleGatePlainIdeal : Cert.PleGatePlainIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGatePlainIdeal.nD Cert.PleGatePlainIdeal.τ Cert.PleGatePlainIdeal.sig) → Buf (Elt Ideal) ℓ) (g' : Dev Cert.PleGatePlainIdeal.nD → PrngReg), Pre_PleGateIdeal m →
    (∀ c : Dev Cert.PleGateIdeal.nD,
      m' ((c.tc : Thread Cert.PleGatePlainIdeal.nD Cert.PleGatePlainIdeal.τ).loc Cert.PleGatePlainIdeal.main_arg0) = m ((c.tc : Thread Cert.PleGateIdeal.nD Cert.PleGateIdeal.τ).loc Cert.PleGateIdeal.main_arg0)
      ∧ m' ((c.tc : Thread Cert.PleGatePlainIdeal.nD Cert.PleGatePlainIdeal.τ).loc Cert.PleGatePlainIdeal.main_arg1) = m ((c.tc : Thread Cert.PleGateIdeal.nD Cert.PleGateIdeal.τ).loc Cert.PleGateIdeal.main_arg1)
      ∧ m' ((c.tc : Thread Cert.PleGatePlainIdeal.nD Cert.PleGatePlainIdeal.τ).loc Cert.PleGatePlainIdeal.main_arg2) = m ((c.tc : Thread Cert.PleGateIdeal.nD Cert.PleGateIdeal.τ).loc Cert.PleGateIdeal.main_arg2)
      ∧ m' ((c.tc : Thread Cert.PleGatePlainIdeal.nD Cert.PleGatePlainIdeal.τ).loc Cert.PleGatePlainIdeal.main_arg3) = m ((c.tc : Thread Cert.PleGateIdeal.nD Cert.PleGateIdeal.τ).loc Cert.PleGateIdeal.main_arg3)) →
    ∃ (v0 : (c : Dev Cert.PleGateIdeal.nD) → Buf (Elt Ideal) ((c.tc : Thread Cert.PleGateIdeal.nD Cert.PleGateIdeal.τ).loc Cert.PleGateIdeal.main_v2_0)) (v1 : (c : Dev Cert.PleGateIdeal.nD) → Buf (Elt Ideal) ((c.tc : Thread Cert.PleGateIdeal.nD Cert.PleGateIdeal.τ).loc Cert.PleGateIdeal.main_v2_1)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v2_0) = v0 c
          ∧ r.2.mem ((c.tc : Thread Cert.PleGateIdeal.nD Cert.PleGateIdeal.τ).loc Cert.PleGateIdeal.main_v2_1) = v1 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
          ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2)
          ∧ r.2.mem ((c.tc : Thread Cert.PleGateIdeal.nD Cert.PleGateIdeal.τ).loc Cert.PleGateIdeal.main_arg3) = m ((c.tc : Thread Cert.PleGateIdeal.nD Cert.PleGateIdeal.τ).loc Cert.PleGateIdeal.main_arg3))
      ∧ θ_run (Cert.PleGatePlainIdeal.defs (F := Ideal)) (onTc (τ := Cert.PleGatePlainIdeal.τ) (Cert.PleGatePlainIdeal.main (F := Ideal))) ⟨m', fun _ => 0, g'⟩ (fun r => ∀ c : Dev Cert.PleGatePlainIdeal.nD,
          r.2.mem ((c.tc : Thread Cert.PleGatePlainIdeal.nD Cert.PleGatePlainIdeal.τ).loc Cert.PleGatePlainIdeal.main_v0) = v0 c
          ∧ r.2.mem ((c.tc : Thread Cert.PleGatePlainIdeal.nD Cert.PleGatePlainIdeal.τ).loc Cert.PleGatePlainIdeal.main_v8) = v1 c
          ∧ r.2.mem ((c.tc : Thread Cert.PleGatePlainIdeal.nD Cert.PleGatePlainIdeal.τ).loc Cert.PleGatePlainIdeal.main_arg0) = m' ((c.tc : Thread Cert.PleGatePlainIdeal.nD Cert.PleGatePlainIdeal.τ).loc Cert.PleGatePlainIdeal.main_arg0)
          ∧ r.2.mem ((c.tc : Thread Cert.PleGatePlainIdeal.nD Cert.PleGatePlainIdeal.τ).loc Cert.PleGatePlainIdeal.main_arg1) = m' ((c.tc : Thread Cert.PleGatePlainIdeal.nD Cert.PleGatePlainIdeal.τ).loc Cert.PleGatePlainIdeal.main_arg1)
          ∧ r.2.mem ((c.tc : Thread Cert.PleGatePlainIdeal.nD Cert.PleGatePlainIdeal.τ).loc Cert.PleGatePlainIdeal.main_arg2) = m' ((c.tc : Thread Cert.PleGatePlainIdeal.nD Cert.PleGatePlainIdeal.τ).loc Cert.PleGatePlainIdeal.main_arg2)
          ∧ r.2.mem ((c.tc : Thread Cert.PleGatePlainIdeal.nD Cert.PleGatePlainIdeal.τ).loc Cert.PleGatePlainIdeal.main_arg3) = m' ((c.tc : Thread Cert.PleGatePlainIdeal.nD Cert.PleGatePlainIdeal.τ).loc Cert.PleGatePlainIdeal.main_arg3))

def preserves_MixOut_MixOutIdeal : Prop :=
  True

def algebraic_MixOutIdeal_MixOutPlainIdeal [hMixOutIdeal : Cert.MixOutIdeal.Facts] [hMixOutPlainIdeal : Cert.MixOutPlainIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutPlainIdeal.nD Cert.MixOutPlainIdeal.τ Cert.MixOutPlainIdeal.sig) → Buf (Elt Ideal) ℓ) (g' : Dev Cert.MixOutPlainIdeal.nD → PrngReg), Pre_MixOutIdeal m →
    (∀ c : Dev Cert.MixOutIdeal.nD,
      m' ((c.tc : Thread Cert.MixOutPlainIdeal.nD Cert.MixOutPlainIdeal.τ).loc Cert.MixOutPlainIdeal.main_arg0) = m ((c.tc : Thread Cert.MixOutIdeal.nD Cert.MixOutIdeal.τ).loc Cert.MixOutIdeal.main_arg0)
      ∧ m' ((c.tc : Thread Cert.MixOutPlainIdeal.nD Cert.MixOutPlainIdeal.τ).loc Cert.MixOutPlainIdeal.main_arg1) = m ((c.tc : Thread Cert.MixOutIdeal.nD Cert.MixOutIdeal.τ).loc Cert.MixOutIdeal.main_arg1)
      ∧ m' ((c.tc : Thread Cert.MixOutPlainIdeal.nD Cert.MixOutPlainIdeal.τ).loc Cert.MixOutPlainIdeal.main_arg2) = m ((c.tc : Thread Cert.MixOutIdeal.nD Cert.MixOutIdeal.τ).loc Cert.MixOutIdeal.main_arg2)
      ∧ m' ((c.tc : Thread Cert.MixOutPlainIdeal.nD Cert.MixOutPlainIdeal.τ).loc Cert.MixOutPlainIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v3_0)) (v1 : (c : Dev Cert.MixOutIdeal.nD) → Buf (Elt Ideal) ((c.tc : Thread Cert.MixOutIdeal.nD Cert.MixOutIdeal.τ).loc Cert.MixOutIdeal.main_v3_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3_0) = v0 c
          ∧ r.2.mem ((c.tc : Thread Cert.MixOutIdeal.nD Cert.MixOutIdeal.τ).loc Cert.MixOutIdeal.main_v3_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutPlainIdeal.defs (F := Ideal)) (onTc (τ := Cert.MixOutPlainIdeal.τ) (Cert.MixOutPlainIdeal.main (F := Ideal))) ⟨m', fun _ => 0, g'⟩ (fun r => ∀ c : Dev Cert.MixOutPlainIdeal.nD,
          r.2.mem ((c.tc : Thread Cert.MixOutPlainIdeal.nD Cert.MixOutPlainIdeal.τ).loc Cert.MixOutPlainIdeal.main_v1) = v0 c
          ∧ r.2.mem ((c.tc : Thread Cert.MixOutPlainIdeal.nD Cert.MixOutPlainIdeal.τ).loc Cert.MixOutPlainIdeal.main_v15) = v1 c
          ∧ r.2.mem ((c.tc : Thread Cert.MixOutPlainIdeal.nD Cert.MixOutPlainIdeal.τ).loc Cert.MixOutPlainIdeal.main_arg0) = m' ((c.tc : Thread Cert.MixOutPlainIdeal.nD Cert.MixOutPlainIdeal.τ).loc Cert.MixOutPlainIdeal.main_arg0)
          ∧ r.2.mem ((c.tc : Thread Cert.MixOutPlainIdeal.nD Cert.MixOutPlainIdeal.τ).loc Cert.MixOutPlainIdeal.main_arg1) = m' ((c.tc : Thread Cert.MixOutPlainIdeal.nD Cert.MixOutPlainIdeal.τ).loc Cert.MixOutPlainIdeal.main_arg1)
          ∧ r.2.mem ((c.tc : Thread Cert.MixOutPlainIdeal.nD Cert.MixOutPlainIdeal.τ).loc Cert.MixOutPlainIdeal.main_arg2) = m' ((c.tc : Thread Cert.MixOutPlainIdeal.nD Cert.MixOutPlainIdeal.τ).loc Cert.MixOutPlainIdeal.main_arg2)
          ∧ r.2.mem ((c.tc : Thread Cert.MixOutPlainIdeal.nD Cert.MixOutPlainIdeal.τ).loc Cert.MixOutPlainIdeal.main_arg3) = m' ((c.tc : Thread Cert.MixOutPlainIdeal.nD Cert.MixOutPlainIdeal.τ).loc Cert.MixOutPlainIdeal.main_arg3))

def preserves_DHn2_DHn2Ideal : Prop :=
  True

def algebraic_DHn2Ideal_DHn2PlainIdeal [hDHn2Ideal : Cert.DHn2Ideal.Facts] [hDHn2PlainIdeal : Cert.DHn2PlainIdeal.Facts] : Prop :=
  ∀ (m : (ℓ : Loc Cert.DHn2Ideal.nD Cert.DHn2Ideal.τ Cert.DHn2Ideal.sig) → Buf (Elt Ideal) ℓ) (g : Dev Cert.DHn2Ideal.nD → PrngReg)
    (m' : (ℓ : Loc Cert.DHn2PlainIdeal.nD Cert.DHn2PlainIdeal.τ Cert.DHn2PlainIdeal.sig) → Buf (Elt Ideal) ℓ) (g' : Dev Cert.DHn2PlainIdeal.nD → PrngReg), Pre_DHn2Ideal m →
    (∀ c : Dev Cert.DHn2Ideal.nD,
      m' ((c.tc : Thread Cert.DHn2PlainIdeal.nD Cert.DHn2PlainIdeal.τ).loc Cert.DHn2PlainIdeal.main_arg0) = m ((c.tc : Thread Cert.DHn2Ideal.nD Cert.DHn2Ideal.τ).loc Cert.DHn2Ideal.main_arg0)
      ∧ m' ((c.tc : Thread Cert.DHn2PlainIdeal.nD Cert.DHn2PlainIdeal.τ).loc Cert.DHn2PlainIdeal.main_arg1) = m ((c.tc : Thread Cert.DHn2Ideal.nD Cert.DHn2Ideal.τ).loc Cert.DHn2Ideal.main_arg1)
      ∧ m' ((c.tc : Thread Cert.DHn2PlainIdeal.nD Cert.DHn2PlainIdeal.τ).loc Cert.DHn2PlainIdeal.main_arg2) = m ((c.tc : Thread Cert.DHn2Ideal.nD Cert.DHn2Ideal.τ).loc Cert.DHn2Ideal.main_arg2)
      ∧ m' ((c.tc : Thread Cert.DHn2PlainIdeal.nD Cert.DHn2PlainIdeal.τ).loc Cert.DHn2PlainIdeal.main_arg3) = m ((c.tc : Thread Cert.DHn2Ideal.nD Cert.DHn2Ideal.τ).loc Cert.DHn2Ideal.main_arg3)
      ∧ m' ((c.tc : Thread Cert.DHn2PlainIdeal.nD Cert.DHn2PlainIdeal.τ).loc Cert.DHn2PlainIdeal.main_arg4) = m ((c.tc : Thread Cert.DHn2Ideal.nD Cert.DHn2Ideal.τ).loc Cert.DHn2Ideal.main_arg4)) →
    ∃ (v0 : (c : Dev Cert.DHn2Ideal.nD) → Buf (Elt Ideal) ((c.tc : Thread Cert.DHn2Ideal.nD Cert.DHn2Ideal.τ).loc Cert.DHn2Ideal.main_v3_0)) (v1 : (c : Dev Cert.DHn2Ideal.nD) → Buf (Elt Ideal) ((c.tc : Thread Cert.DHn2Ideal.nD Cert.DHn2Ideal.τ).loc Cert.DHn2Ideal.main_v3_1)),
      θ_run (Cert.DHn2Ideal.defs (F := Ideal)) (onTc (τ := Cert.DHn2Ideal.τ) (Cert.DHn2Ideal.main (F := Ideal))) ⟨m, fun _ => 0, g⟩ (fun r => ∀ c : Dev Cert.DHn2Ideal.nD,
          r.2.mem ((c.tc : Thread Cert.DHn2Ideal.nD Cert.DHn2Ideal.τ).loc Cert.DHn2Ideal.main_v3_0) = v0 c
          ∧ r.2.mem ((c.tc : Thread Cert.DHn2Ideal.nD Cert.DHn2Ideal.τ).loc Cert.DHn2Ideal.main_v3_1) = v1 c
          ∧ r.2.mem ((c.tc : Thread Cert.DHn2Ideal.nD Cert.DHn2Ideal.τ).loc Cert.DHn2Ideal.main_arg0) = m ((c.tc : Thread Cert.DHn2Ideal.nD Cert.DHn2Ideal.τ).loc Cert.DHn2Ideal.main_arg0)
          ∧ r.2.mem ((c.tc : Thread Cert.DHn2Ideal.nD Cert.DHn2Ideal.τ).loc Cert.DHn2Ideal.main_arg1) = m ((c.tc : Thread Cert.DHn2Ideal.nD Cert.DHn2Ideal.τ).loc Cert.DHn2Ideal.main_arg1)
          ∧ r.2.mem ((c.tc : Thread Cert.DHn2Ideal.nD Cert.DHn2Ideal.τ).loc Cert.DHn2Ideal.main_arg2) = m ((c.tc : Thread Cert.DHn2Ideal.nD Cert.DHn2Ideal.τ).loc Cert.DHn2Ideal.main_arg2)
          ∧ r.2.mem ((c.tc : Thread Cert.DHn2Ideal.nD Cert.DHn2Ideal.τ).loc Cert.DHn2Ideal.main_arg3) = m ((c.tc : Thread Cert.DHn2Ideal.nD Cert.DHn2Ideal.τ).loc Cert.DHn2Ideal.main_arg3)
          ∧ r.2.mem ((c.tc : Thread Cert.DHn2Ideal.nD Cert.DHn2Ideal.τ).loc Cert.DHn2Ideal.main_arg4) = m ((c.tc : Thread Cert.DHn2Ideal.nD Cert.DHn2Ideal.τ).loc Cert.DHn2Ideal.main_arg4))
      ∧ θ_run (Cert.DHn2PlainIdeal.defs (F := Ideal)) (onTc (τ := Cert.DHn2PlainIdeal.τ) (Cert.DHn2PlainIdeal.main (F := Ideal))) ⟨m', fun _ => 0, g'⟩ (fun r => ∀ c : Dev Cert.DHn2PlainIdeal.nD,
          r.2.mem ((c.tc : Thread Cert.DHn2PlainIdeal.nD Cert.DHn2PlainIdeal.τ).loc Cert.DHn2PlainIdeal.main_v38) = v0 c
          ∧ r.2.mem ((c.tc : Thread Cert.DHn2PlainIdeal.nD Cert.DHn2PlainIdeal.τ).loc Cert.DHn2PlainIdeal.main_v39) = v1 c
          ∧ r.2.mem ((c.tc : Thread Cert.DHn2PlainIdeal.nD Cert.DHn2PlainIdeal.τ).loc Cert.DHn2PlainIdeal.main_arg0) = m' ((c.tc : Thread Cert.DHn2PlainIdeal.nD Cert.DHn2PlainIdeal.τ).loc Cert.DHn2PlainIdeal.main_arg0)
          ∧ r.2.mem ((c.tc : Thread Cert.DHn2PlainIdeal.nD Cert.DHn2PlainIdeal.τ).loc Cert.DHn2PlainIdeal.main_arg1) = m' ((c.tc : Thread Cert.DHn2PlainIdeal.nD Cert.DHn2PlainIdeal.τ).loc Cert.DHn2PlainIdeal.main_arg1)
          ∧ r.2.mem ((c.tc : Thread Cert.DHn2PlainIdeal.nD Cert.DHn2PlainIdeal.τ).loc Cert.DHn2PlainIdeal.main_arg2) = m' ((c.tc : Thread Cert.DHn2PlainIdeal.nD Cert.DHn2PlainIdeal.τ).loc Cert.DHn2PlainIdeal.main_arg2)
          ∧ r.2.mem ((c.tc : Thread Cert.DHn2PlainIdeal.nD Cert.DHn2PlainIdeal.τ).loc Cert.DHn2PlainIdeal.main_arg3) = m' ((c.tc : Thread Cert.DHn2PlainIdeal.nD Cert.DHn2PlainIdeal.τ).loc Cert.DHn2PlainIdeal.main_arg3)
          ∧ r.2.mem ((c.tc : Thread Cert.DHn2PlainIdeal.nD Cert.DHn2PlainIdeal.τ).loc Cert.DHn2PlainIdeal.main_arg4) = m' ((c.tc : Thread Cert.DHn2PlainIdeal.nD Cert.DHn2PlainIdeal.τ).loc Cert.DHn2PlainIdeal.main_arg4))

def preserves_DHn_DHnIdeal : Prop :=
  True

def algebraic_DHnIdeal_DHnPlainIdeal [hDHnIdeal : Cert.DHnIdeal.Facts] [hDHnPlainIdeal : Cert.DHnPlainIdeal.Facts] : Prop :=
  ∀ (m : (ℓ : Loc Cert.DHnIdeal.nD Cert.DHnIdeal.τ Cert.DHnIdeal.sig) → Buf (Elt Ideal) ℓ) (g : Dev Cert.DHnIdeal.nD → PrngReg)
    (m' : (ℓ : Loc Cert.DHnPlainIdeal.nD Cert.DHnPlainIdeal.τ Cert.DHnPlainIdeal.sig) → Buf (Elt Ideal) ℓ) (g' : Dev Cert.DHnPlainIdeal.nD → PrngReg), Pre_DHnIdeal m →
    (∀ c : Dev Cert.DHnIdeal.nD,
      m' ((c.tc : Thread Cert.DHnPlainIdeal.nD Cert.DHnPlainIdeal.τ).loc Cert.DHnPlainIdeal.main_arg0) = m ((c.tc : Thread Cert.DHnIdeal.nD Cert.DHnIdeal.τ).loc Cert.DHnIdeal.main_arg0)
      ∧ m' ((c.tc : Thread Cert.DHnPlainIdeal.nD Cert.DHnPlainIdeal.τ).loc Cert.DHnPlainIdeal.main_arg1) = m ((c.tc : Thread Cert.DHnIdeal.nD Cert.DHnIdeal.τ).loc Cert.DHnIdeal.main_arg1)
      ∧ m' ((c.tc : Thread Cert.DHnPlainIdeal.nD Cert.DHnPlainIdeal.τ).loc Cert.DHnPlainIdeal.main_arg2) = m ((c.tc : Thread Cert.DHnIdeal.nD Cert.DHnIdeal.τ).loc Cert.DHnIdeal.main_arg2)
      ∧ m' ((c.tc : Thread Cert.DHnPlainIdeal.nD Cert.DHnPlainIdeal.τ).loc Cert.DHnPlainIdeal.main_arg3) = m ((c.tc : Thread Cert.DHnIdeal.nD Cert.DHnIdeal.τ).loc Cert.DHnIdeal.main_arg3)
      ∧ m' ((c.tc : Thread Cert.DHnPlainIdeal.nD Cert.DHnPlainIdeal.τ).loc Cert.DHnPlainIdeal.main_arg4) = m ((c.tc : Thread Cert.DHnIdeal.nD Cert.DHnIdeal.τ).loc Cert.DHnIdeal.main_arg4)) →
    ∃ (v0 : (c : Dev Cert.DHnIdeal.nD) → Buf (Elt Ideal) ((c.tc : Thread Cert.DHnIdeal.nD Cert.DHnIdeal.τ).loc Cert.DHnIdeal.main_v2_0)) (v1 : (c : Dev Cert.DHnIdeal.nD) → Buf (Elt Ideal) ((c.tc : Thread Cert.DHnIdeal.nD Cert.DHnIdeal.τ).loc Cert.DHnIdeal.main_v2_1)),
      θ_run (Cert.DHnIdeal.defs (F := Ideal)) (onTc (τ := Cert.DHnIdeal.τ) (Cert.DHnIdeal.main (F := Ideal))) ⟨m, fun _ => 0, g⟩ (fun r => ∀ c : Dev Cert.DHnIdeal.nD,
          r.2.mem ((c.tc : Thread Cert.DHnIdeal.nD Cert.DHnIdeal.τ).loc Cert.DHnIdeal.main_v2_0) = v0 c
          ∧ r.2.mem ((c.tc : Thread Cert.DHnIdeal.nD Cert.DHnIdeal.τ).loc Cert.DHnIdeal.main_v2_1) = v1 c
          ∧ r.2.mem ((c.tc : Thread Cert.DHnIdeal.nD Cert.DHnIdeal.τ).loc Cert.DHnIdeal.main_arg0) = m ((c.tc : Thread Cert.DHnIdeal.nD Cert.DHnIdeal.τ).loc Cert.DHnIdeal.main_arg0)
          ∧ r.2.mem ((c.tc : Thread Cert.DHnIdeal.nD Cert.DHnIdeal.τ).loc Cert.DHnIdeal.main_arg1) = m ((c.tc : Thread Cert.DHnIdeal.nD Cert.DHnIdeal.τ).loc Cert.DHnIdeal.main_arg1)
          ∧ r.2.mem ((c.tc : Thread Cert.DHnIdeal.nD Cert.DHnIdeal.τ).loc Cert.DHnIdeal.main_arg2) = m ((c.tc : Thread Cert.DHnIdeal.nD Cert.DHnIdeal.τ).loc Cert.DHnIdeal.main_arg2)
          ∧ r.2.mem ((c.tc : Thread Cert.DHnIdeal.nD Cert.DHnIdeal.τ).loc Cert.DHnIdeal.main_arg3) = m ((c.tc : Thread Cert.DHnIdeal.nD Cert.DHnIdeal.τ).loc Cert.DHnIdeal.main_arg3)
          ∧ r.2.mem ((c.tc : Thread Cert.DHnIdeal.nD Cert.DHnIdeal.τ).loc Cert.DHnIdeal.main_arg4) = m ((c.tc : Thread Cert.DHnIdeal.nD Cert.DHnIdeal.τ).loc Cert.DHnIdeal.main_arg4))
      ∧ θ_run (Cert.DHnPlainIdeal.defs (F := Ideal)) (onTc (τ := Cert.DHnPlainIdeal.τ) (Cert.DHnPlainIdeal.main (F := Ideal))) ⟨m', fun _ => 0, g'⟩ (fun r => ∀ c : Dev Cert.DHnPlainIdeal.nD,
          r.2.mem ((c.tc : Thread Cert.DHnPlainIdeal.nD Cert.DHnPlainIdeal.τ).loc Cert.DHnPlainIdeal.main_v38) = v0 c
          ∧ r.2.mem ((c.tc : Thread Cert.DHnPlainIdeal.nD Cert.DHnPlainIdeal.τ).loc Cert.DHnPlainIdeal.main_v39) = v1 c
          ∧ r.2.mem ((c.tc : Thread Cert.DHnPlainIdeal.nD Cert.DHnPlainIdeal.τ).loc Cert.DHnPlainIdeal.main_arg0) = m' ((c.tc : Thread Cert.DHnPlainIdeal.nD Cert.DHnPlainIdeal.τ).loc Cert.DHnPlainIdeal.main_arg0)
          ∧ r.2.mem ((c.tc : Thread Cert.DHnPlainIdeal.nD Cert.DHnPlainIdeal.τ).loc Cert.DHnPlainIdeal.main_arg1) = m' ((c.tc : Thread Cert.DHnPlainIdeal.nD Cert.DHnPlainIdeal.τ).loc Cert.DHnPlainIdeal.main_arg1)
          ∧ r.2.mem ((c.tc : Thread Cert.DHnPlainIdeal.nD Cert.DHnPlainIdeal.τ).loc Cert.DHnPlainIdeal.main_arg2) = m' ((c.tc : Thread Cert.DHnPlainIdeal.nD Cert.DHnPlainIdeal.τ).loc Cert.DHnPlainIdeal.main_arg2)
          ∧ r.2.mem ((c.tc : Thread Cert.DHnPlainIdeal.nD Cert.DHnPlainIdeal.τ).loc Cert.DHnPlainIdeal.main_arg3) = m' ((c.tc : Thread Cert.DHnPlainIdeal.nD Cert.DHnPlainIdeal.τ).loc Cert.DHnPlainIdeal.main_arg3)
          ∧ r.2.mem ((c.tc : Thread Cert.DHnPlainIdeal.nD Cert.DHnPlainIdeal.τ).loc Cert.DHnPlainIdeal.main_arg4) = m' ((c.tc : Thread Cert.DHnPlainIdeal.nD Cert.DHnPlainIdeal.τ).loc Cert.DHnPlainIdeal.main_arg4))

def Claim : Prop :=
  ∃ (hKernel : Cert.Kernel.Facts) (hKernelIdeal : Cert.KernelIdeal.Facts) (hReferenceIdeal : Cert.ReferenceIdeal.Facts) (hFwd : Cert.Fwd.Facts) (hFwdIdeal : Cert.FwdIdeal.Facts) (hFwdPlainIdeal : Cert.FwdPlainIdeal.Facts) (hInProj : Cert.InProj.Facts) (hInProjIdeal : Cert.InProjIdeal.Facts) (hInProjPlainIdeal : Cert.InProjPlainIdeal.Facts) (hDIn : Cert.DIn.Facts) (hDInIdeal : Cert.DInIdeal.Facts) (hDInPlainIdeal : Cert.DInPlainIdeal.Facts) (hGlu : Cert.Glu.Facts) (hGluIdeal : Cert.GluIdeal.Facts) (hGluPlainIdeal : Cert.GluPlainIdeal.Facts) (hPleProj : Cert.PleProj.Facts) (hPleProjIdeal : Cert.PleProjIdeal.Facts) (hPleProjPlainIdeal : Cert.PleProjPlainIdeal.Facts) (hDPleGate : Cert.DPleGate.Facts) (hDPleGateIdeal : Cert.DPleGateIdeal.Facts) (hDPleGatePlainIdeal : Cert.DPleGatePlainIdeal.Facts) (hDPleProj : Cert.DPleProj.Facts) (hDPleProjIdeal : Cert.DPleProjIdeal.Facts) (hDPleProjPlainIdeal : Cert.DPleProjPlainIdeal.Facts) (hDOut : Cert.DOut.Facts) (hDOutIdeal : Cert.DOutIdeal.Facts) (hDOutPlainIdeal : Cert.DOutPlainIdeal.Facts) (hDGlu : Cert.DGlu.Facts) (hDGluIdeal : Cert.DGluIdeal.Facts) (hDGluPlainIdeal : Cert.DGluPlainIdeal.Facts) (hDYcat : Cert.DYcat.Facts) (hDYcatIdeal : Cert.DYcatIdeal.Facts) (hDYcatPlainIdeal : Cert.DYcatPlainIdeal.Facts) (hDZ : Cert.DZ.Facts) (hDZIdeal : Cert.DZIdeal.Facts) (hDZPlainIdeal : Cert.DZPlainIdeal.Facts) (hPleGate : Cert.PleGate.Facts) (hPleGateIdeal : Cert.PleGateIdeal.Facts) (hPleGatePlainIdeal : Cert.PleGatePlainIdeal.Facts) (hMixOut : Cert.MixOut.Facts) (hMixOutIdeal : Cert.MixOutIdeal.Facts) (hMixOutPlainIdeal : Cert.MixOutPlainIdeal.Facts) (hDHn2 : Cert.DHn2.Facts) (hDHn2Ideal : Cert.DHn2Ideal.Facts) (hDHn2PlainIdeal : Cert.DHn2PlainIdeal.Facts) (hDHn : Cert.DHn.Facts) (hDHnIdeal : Cert.DHnIdeal.Facts) (hDHnPlainIdeal : Cert.DHnPlainIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Fwd (hFwd := hFwd)
    ∧ quiescent_FwdIdeal (hFwdIdeal := hFwdIdeal)
    ∧ quiescent_FwdPlainIdeal (hFwdPlainIdeal := hFwdPlainIdeal)
    ∧ quiescent_InProj (hInProj := hInProj)
    ∧ quiescent_InProjIdeal (hInProjIdeal := hInProjIdeal)
    ∧ quiescent_InProjPlainIdeal (hInProjPlainIdeal := hInProjPlainIdeal)
    ∧ quiescent_DIn (hDIn := hDIn)
    ∧ quiescent_DInIdeal (hDInIdeal := hDInIdeal)
    ∧ quiescent_DInPlainIdeal (hDInPlainIdeal := hDInPlainIdeal)
    ∧ quiescent_Glu (hGlu := hGlu)
    ∧ quiescent_GluIdeal (hGluIdeal := hGluIdeal)
    ∧ quiescent_GluPlainIdeal (hGluPlainIdeal := hGluPlainIdeal)
    ∧ quiescent_PleProj (hPleProj := hPleProj)
    ∧ quiescent_PleProjIdeal (hPleProjIdeal := hPleProjIdeal)
    ∧ quiescent_PleProjPlainIdeal (hPleProjPlainIdeal := hPleProjPlainIdeal)
    ∧ quiescent_DPleGate (hDPleGate := hDPleGate)
    ∧ quiescent_DPleGateIdeal (hDPleGateIdeal := hDPleGateIdeal)
    ∧ quiescent_DPleGatePlainIdeal (hDPleGatePlainIdeal := hDPleGatePlainIdeal)
    ∧ quiescent_DPleProj (hDPleProj := hDPleProj)
    ∧ quiescent_DPleProjIdeal (hDPleProjIdeal := hDPleProjIdeal)
    ∧ quiescent_DPleProjPlainIdeal (hDPleProjPlainIdeal := hDPleProjPlainIdeal)
    ∧ quiescent_DOut (hDOut := hDOut)
    ∧ quiescent_DOutIdeal (hDOutIdeal := hDOutIdeal)
    ∧ quiescent_DOutPlainIdeal (hDOutPlainIdeal := hDOutPlainIdeal)
    ∧ quiescent_DGlu (hDGlu := hDGlu)
    ∧ quiescent_DGluIdeal (hDGluIdeal := hDGluIdeal)
    ∧ quiescent_DGluPlainIdeal (hDGluPlainIdeal := hDGluPlainIdeal)
    ∧ quiescent_DYcat (hDYcat := hDYcat)
    ∧ quiescent_DYcatIdeal (hDYcatIdeal := hDYcatIdeal)
    ∧ quiescent_DYcatPlainIdeal (hDYcatPlainIdeal := hDYcatPlainIdeal)
    ∧ quiescent_DZ (hDZ := hDZ)
    ∧ quiescent_DZIdeal (hDZIdeal := hDZIdeal)
    ∧ quiescent_DZPlainIdeal (hDZPlainIdeal := hDZPlainIdeal)
    ∧ quiescent_PleGate (hPleGate := hPleGate)
    ∧ quiescent_PleGateIdeal (hPleGateIdeal := hPleGateIdeal)
    ∧ quiescent_PleGatePlainIdeal (hPleGatePlainIdeal := hPleGatePlainIdeal)
    ∧ quiescent_MixOut (hMixOut := hMixOut)
    ∧ quiescent_MixOutIdeal (hMixOutIdeal := hMixOutIdeal)
    ∧ quiescent_MixOutPlainIdeal (hMixOutPlainIdeal := hMixOutPlainIdeal)
    ∧ quiescent_DHn2 (hDHn2 := hDHn2)
    ∧ quiescent_DHn2Ideal (hDHn2Ideal := hDHn2Ideal)
    ∧ quiescent_DHn2PlainIdeal (hDHn2PlainIdeal := hDHn2PlainIdeal)
    ∧ quiescent_DHn (hDHn := hDHn)
    ∧ quiescent_DHnIdeal (hDHnIdeal := hDHnIdeal)
    ∧ quiescent_DHnPlainIdeal (hDHnPlainIdeal := hDHnPlainIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Fwd_FwdIdeal
    ∧ preserves_InProj_InProjIdeal
    ∧ algebraic_InProjIdeal_InProjPlainIdeal (hInProjIdeal := hInProjIdeal) (hInProjPlainIdeal := hInProjPlainIdeal)
    ∧ preserves_DIn_DInIdeal
    ∧ algebraic_DInIdeal_DInPlainIdeal (hDInIdeal := hDInIdeal) (hDInPlainIdeal := hDInPlainIdeal)
    ∧ preserves_Glu_GluIdeal
    ∧ algebraic_GluIdeal_GluPlainIdeal (hGluIdeal := hGluIdeal) (hGluPlainIdeal := hGluPlainIdeal)
    ∧ preserves_PleProj_PleProjIdeal
    ∧ algebraic_PleProjIdeal_PleProjPlainIdeal (hPleProjIdeal := hPleProjIdeal) (hPleProjPlainIdeal := hPleProjPlainIdeal)
    ∧ preserves_DPleGate_DPleGateIdeal
    ∧ algebraic_DPleGateIdeal_DPleGatePlainIdeal (hDPleGateIdeal := hDPleGateIdeal) (hDPleGatePlainIdeal := hDPleGatePlainIdeal)
    ∧ preserves_DPleProj_DPleProjIdeal
    ∧ algebraic_DPleProjIdeal_DPleProjPlainIdeal (hDPleProjIdeal := hDPleProjIdeal) (hDPleProjPlainIdeal := hDPleProjPlainIdeal)
    ∧ preserves_DOut_DOutIdeal
    ∧ algebraic_DOutIdeal_DOutPlainIdeal (hDOutIdeal := hDOutIdeal) (hDOutPlainIdeal := hDOutPlainIdeal)
    ∧ preserves_DGlu_DGluIdeal
    ∧ algebraic_DGluIdeal_DGluPlainIdeal (hDGluIdeal := hDGluIdeal) (hDGluPlainIdeal := hDGluPlainIdeal)
    ∧ preserves_DYcat_DYcatIdeal
    ∧ algebraic_DYcatIdeal_DYcatPlainIdeal (hDYcatIdeal := hDYcatIdeal) (hDYcatPlainIdeal := hDYcatPlainIdeal)
    ∧ preserves_DZ_DZIdeal
    ∧ algebraic_DZIdeal_DZPlainIdeal (hDZIdeal := hDZIdeal) (hDZPlainIdeal := hDZPlainIdeal)
    ∧ preserves_PleGate_PleGateIdeal
    ∧ algebraic_PleGateIdeal_PleGatePlainIdeal (hPleGateIdeal := hPleGateIdeal) (hPleGatePlainIdeal := hPleGatePlainIdeal)
    ∧ preserves_MixOut_MixOutIdeal
    ∧ algebraic_MixOutIdeal_MixOutPlainIdeal (hMixOutIdeal := hMixOutIdeal) (hMixOutPlainIdeal := hMixOutPlainIdeal)
    ∧ preserves_DHn2_DHn2Ideal
    ∧ algebraic_DHn2Ideal_DHn2PlainIdeal (hDHn2Ideal := hDHn2Ideal) (hDHn2PlainIdeal := hDHn2PlainIdeal)
    ∧ preserves_DHn_DHnIdeal
    ∧ algebraic_DHnIdeal_DHnPlainIdeal (hDHnIdeal := hDHnIdeal) (hDHnPlainIdeal := hDHnPlainIdeal)
-- ==== Pre_finite.lean ====
abbrev S4096x3072 : Shape := ⟨2, ![4096, 3072]⟩
abbrev S64 : Shape := ⟨1, ![64]⟩
abbrev S4096x512 : Shape := ⟨2, ![4096, 512]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S64 : S_.BroadcastsInDim S64 (![] : Fin 0 → Fin S64.rank)
  reducesTo_S64_S_d0 : S64.ReducesTo [0] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x3072 .f32) (main_arg1 : FVec F S64 .f32) (main_arg2 : FVec F S64 .f32) (main_arg3 : FVec F S4096x512 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Kernel.lean ====
abbrev S4096x3072 : Shape := ⟨2, ![4096, 3072]⟩
abbrev S64 : Shape := ⟨1, ![64]⟩
abbrev S4096x512 : Shape := ⟨2, ![4096, 512]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4096x8x64 : Shape := ⟨3, ![4096, 8, 64]⟩
abbrev S8x4096x64 : Shape := ⟨3, ![8, 4096, 64]⟩
abbrev S_ : Shape := ⟨0, ![]⟩
abbrev S8x4096 : Shape := ⟨2, ![8, 4096]⟩
abbrev S8x4096x1 : Shape := ⟨3, ![8, 4096, 1]⟩
abbrev S1x1x64 : Shape := ⟨3, ![1, 1, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x1x128 : Shape := ⟨3, ![4, 1, 128]⟩
abbrev S512x128 : Shape := ⟨2, ![512, 128]⟩
abbrev S4096x128 : Shape := ⟨2, ![4096, 128]⟩
abbrev S2x512x1 : Shape := ⟨3, ![2, 512, 1]⟩
abbrev S1x1x128 : Shape := ⟨3, ![1, 1, 128]⟩
abbrev S128x4096 : Shape := ⟨2, ![128, 4096]⟩
abbrev S512 : Shape := ⟨1, ![512]⟩
abbrev S512x1 : Shape := ⟨2, ![512, 1]⟩
abbrev S128x512 : Shape := ⟨2, ![128, 512]⟩
abbrev S256x256 : Shape := ⟨2, ![256, 256]⟩
abbrev S1x512x1 : Shape := ⟨3, ![1, 512, 1]⟩
abbrev S512x512 : Shape := ⟨2, ![512, 512]⟩
abbrev S512x256 : Shape := ⟨2, ![512, 256]⟩

abbrev nBuf : Space → Nat
  | .hbm => 95
  | .vmem => 26
  | .smem => 0
  | _ => 0

abbrev bufTy : (tb : Table) → Fin (tcTables nBuf tb) → BufTy
  | .hbm, ⟨0, _⟩ => ⟨S4096x3072, .f32⟩
  | .hbm, ⟨1, _⟩ => ⟨S64, .f32⟩
  | .hbm, ⟨2, _⟩ => ⟨S64, .f32⟩
  | .hbm, ⟨3, _⟩ => ⟨S4096x512, .f32⟩
  | .hbm, ⟨4, _⟩ => ⟨S1x64, .f32⟩
  | .hbm, ⟨5, _⟩ => ⟨S2x64, .f32⟩
  | .hbm, ⟨6, _⟩ => ⟨S128, .f32⟩
  | .hbm, ⟨7, _⟩ => ⟨S1x128, .f32⟩
  | .hbm, ⟨8, _⟩ => ⟨S1x64, .f32⟩
  | .hbm, ⟨9, _⟩ => ⟨S2x64, .f32⟩
  | .hbm, ⟨10, _⟩ => ⟨S128, .f32⟩
  | .hbm, ⟨11, _⟩ => ⟨S1x128, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x8x64, .f32⟩
  | .hbm, ⟨19, _⟩ => ⟨S8x4096x64, .f32⟩
  | .hbm, ⟨20, _⟩ => ⟨S8x4096x64, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x64, .f32⟩
  | .hbm, ⟨32, _⟩ => ⟨S8x4096x64, .f32⟩
  | .hbm, ⟨33, _⟩ => ⟨S1x1x64, .f32⟩
  | .hbm, ⟨34, _⟩ => ⟨S8x4096x64, .f32⟩
  | .hbm, ⟨35, _⟩ => ⟨S8x4096x64, .f32⟩
  | .hbm, ⟨36, _⟩ => ⟨S4096x8x64, .f32⟩
  | .hbm, ⟨37, _⟩ => ⟨S8x4096x64, .f32⟩
  | .hbm, ⟨38, _⟩ => ⟨S8x4096x64, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x64, .f32⟩
  | .hbm, ⟨50, _⟩ => ⟨S8x4096x64, .f32⟩
  | .hbm, ⟨51, _⟩ => ⟨S1x1x64, .f32⟩
  | .hbm, ⟨52, _⟩ => ⟨S8x4096x64, .f32⟩
  | .hbm, ⟨53, _⟩ => ⟨S8x4096x64, .f32⟩
  | .hbm, ⟨54, _⟩ => ⟨S8x4096x4096, .f32⟩
  | .hbm, ⟨55, _⟩ => ⟨S_, .f32⟩
  | .hbm, ⟨56, _⟩ => ⟨S8x4096x4096, .f32⟩
  | .hbm, ⟨57, _⟩ => ⟨S8x4096x4096, .f32⟩
  | .hbm, ⟨58, _⟩ => ⟨S4096, .i32⟩
  | .hbm, ⟨59, _⟩ => ⟨S1x4096, .i32⟩
  | .hbm, ⟨60, _⟩ => ⟨S4096, .i32⟩
  | .hbm, ⟨61, _⟩ => ⟨S4096x1, .i32⟩
  | .hbm, ⟨62, _⟩ => ⟨S4096x4096, .i32⟩
  | .hbm, ⟨63, _⟩ => ⟨S4096x4096, .i32⟩
  | .hbm, ⟨64, _⟩ => ⟨S4096x4096, .i1⟩
  | .hbm, ⟨65, _⟩ => ⟨S8x4096x4096, .f32⟩
  | .hbm, ⟨66, _⟩ => ⟨S8x4096x4096, .f32⟩
  | .hbm, ⟨67, _⟩ => ⟨S_, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S8x4096x4096, .f32⟩
  | .hbm, ⟨72, _⟩ => ⟨S8x4096x4096, .i1⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S8x4096x4096, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S_, .f32⟩
  | .hbm, ⟨84, _⟩ => ⟨S8x4096x4096, .i1⟩
  | .hbm, ⟨85, _⟩ => ⟨S8x4096x4096, .f32⟩
  | .hbm, ⟨86, _⟩ => ⟨S8x4096x4096, .f32⟩
  | .hbm, ⟨87, _⟩ => ⟨S_, .f32⟩
  | .hbm, ⟨88, _⟩ => ⟨S8x4096, .f32⟩
  | .hbm, ⟨89, _⟩ => ⟨S8x4096x1, .f32⟩
  | .hbm, ⟨90, _⟩ => ⟨S4096x512, .f32⟩
  | .hbm, ⟨91, _⟩ => ⟨S4096x512, .f32⟩
  | .hbm, ⟨92, _⟩ => ⟨S4096x512, .f32⟩
  | .hbm, ⟨93, _⟩ => ⟨S4x1x128, .f32⟩
  | .hbm, ⟨94, _⟩ => ⟨S4x1x128, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x128, .f32⟩
  | .local _ .vmem, ⟨7, _⟩ => ⟨S1x128, .f32⟩
  | .local _ .vmem, ⟨8, _⟩ => ⟨S2x512x1, .f32⟩
  | .local _ .vmem, ⟨9, _⟩ => ⟨S2x512x1, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S4096x128, .bf16⟩
  | .local _ .vmem, ⟨23, _⟩ => ⟨S4096x128, .bf16⟩
  | .local _ .vmem, ⟨24, _⟩ => ⟨S128x4096, .f32⟩
  | .local _ .vmem, ⟨25, _⟩ => ⟨S128x4096, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_call0_v0 : Ref sig .tc := ⟨.hbm, 66, rfl⟩
abbrev main_call0_call0_cst : Ref sig .tc := ⟨.hbm, 67, rfl⟩
abbrev main_call0_call0_v0 : Ref sig .tc := ⟨.hbm, 68, rfl⟩
abbrev main_call0_call0_v1 : Ref sig .tc := ⟨.hbm, 69, rfl⟩
abbrev main_call0_call0_v2 : Ref sig .tc := ⟨.hbm, 70, rfl⟩
abbrev main_call0_call0_v3 : Ref sig .tc := ⟨.hbm, 71, rfl⟩
abbrev main_call0_call0_v4 : Ref sig .tc := ⟨.hbm, 72, rfl⟩
abbrev main_call0_call0_v5 : Ref sig .tc := ⟨.hbm, 73, rfl⟩
abbrev main_call0_call0_v6 : Ref sig .tc := ⟨.hbm, 74, rfl⟩
abbrev main_call0_call0_v7 : Ref sig .tc := ⟨.hbm, 75, rfl⟩
abbrev main_call0_call0_v8 : Ref sig .tc := ⟨.hbm, 76, rfl⟩
abbrev main_call0_call0_v9 : Ref sig .tc := ⟨.hbm, 77, rfl⟩
abbrev main_call0_call0_v10 : Ref sig .tc := ⟨.hbm, 78, rfl⟩
abbrev main_call0_call0_v11 : Ref sig .tc := ⟨.hbm, 79, rfl⟩
abbrev main_call0_v1 : Ref sig .tc := ⟨.hbm, 80, rfl⟩
abbrev main_v55 : Ref sig .tc := ⟨.hbm, 81, rfl⟩
abbrev main_cst_6 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_v59_0 : Ref sig .tc := ⟨.hbm, 90, rfl⟩
abbrev main_v59_1 : Ref sig .tc := ⟨.hbm, 91, rfl⟩
abbrev main_v59_2 : Ref sig .tc := ⟨.hbm, 92, rfl⟩
abbrev main_v59_3 : Ref sig .tc := ⟨.hbm, 93, rfl⟩
abbrev main_v59_4 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_117 : BitVec 32 := 0#32
  let c8_i32 : BitVec 32 := 8#32
  let v453 : BitVec 32 := Scalar.addi c0_i32_117 c8_i32
  let c1_i32_118 : BitVec 32 := 1#32
  ⟨c0_i32_117, v453, c1_i32_118⟩
def k0_mult1 (k0_t1 : Fin k0_t1_loop.trips) : BitVec 32 :=
  let c0_i32_117 : BitVec 32 := 0#32
  let c1_i32_118 : BitVec 32 := 1#32
  let arg18 : BitVec 32 := Scf.iv c0_i32_117 c1_i32_118 k0_t1
  let c512_i32_130 : BitVec 32 := 512#32
  let v464 : BitVec 32 := Scalar.muli arg18 c512_i32_130
  v464
def k0_off1 (k0_t1 : Fin k0_t1_loop.trips) : Fin 2 → Nat :=
  let c0_i32_117 : BitVec 32 := 0#32
  let c1_i32_118 : BitVec 32 := 1#32
  let arg18 : BitVec 32 := Scf.iv c0_i32_117 c1_i32_118 k0_t1
  let c512_i32_130 : BitVec 32 := 512#32
  let v464 : BitVec 32 := Scalar.muli arg18 c512_i32_130
  let v465 : BitVec 32 := v464
  let v466 : Index := Scalar.indexCast v465
  let c0_131 : Index := 0#32
  ![v466.toNat, 0]
@[reducible] def k0_t2_loop (i : grid0.Coords) : Scf.Loop 32 :=
  let c0_i32_49 : BitVec 32 := 0#32
  let arg1 : BitVec 32 := BitVec.ofNat 32 (i 1).val
  let v135 : BitVec 32 := Scalar.subi arg1 c0_i32_49
  let c1_i32_50 : BitVec 32 := 1#32
  let v137 : BitVec 32 := Scalar.divsi v135 c1_i32_50
  let v138 : BitVec 32 := Scalar.muli v137 c1_i32_50
  let v139 : BitVec 32 := Scalar.addi c0_i32_49 v138
  let c1_i32_51 : BitVec 32 := 1#32
  ⟨c0_i32_49, v139, c1_i32_51⟩
def k0_mult2 (i : grid0.Coords) (k0_t2 : Fin (k0_t2_loop i).trips) : BitVec 32 :=
  let c0_i32_49 : BitVec 32 := 0#32
  let c1_i32_51 : BitVec 32 := 1#32
  let arg18 : BitVec 32 := Scf.iv c0_i32_49 c1_i32_51 k0_t2
  let c512_i32_117 : BitVec 32 := 512#32
  let v453 : BitVec 32 := Scalar.muli arg18 c512_i32_117
  v453
def k0_off2 (i : grid0.Coords) (k0_t2 : Fin (k0_t2_loop i).trips) : Fin 2 → Nat :=
  let c0_i32_49 : BitVec 32 := 0#32
  let c1_i32_51 : BitVec 32 := 1#32
  let arg18 : BitVec 32 := Scf.iv c0_i32_49 c1_i32_51 k0_t2
  let c512_i32_117 : BitVec 32 := 512#32
  let v453 : BitVec 32 := Scalar.muli arg18 c512_i32_117
  let v454 : BitVec 32 := v453
  let v455 : Index := Scalar.indexCast v454
  let c0_118 : Index := 0#32
  ![v455.toNat, 0]
def k0_off3 (i : grid0.Coords) (k0_t2 : Fin (k0_t2_loop i).trips) : Fin 2 → Nat :=
  let c0_148 : Index := 0#32
  let c0_i32_49 : BitVec 32 := 0#32
  let c1_i32_51 : BitVec 32 := 1#32
  let arg18 : BitVec 32 := Scf.iv c0_i32_49 c1_i32_51 k0_t2
  let c512_i32_117 : BitVec 32 := 512#32
  let v453 : BitVec 32 := Scalar.muli arg18 c512_i32_117
  let v454 : BitVec 32 := v453
  let v683 : Index := Scalar.indexCast v454
  ![0, v683.toNat]
@[reducible] def k0_t3_loop (i : grid0.Coords) : Scf.Loop 32 :=
  let c0_i32_49 : BitVec 32 := 0#32
  let arg1 : BitVec 32 := BitVec.ofNat 32 (i 1).val
  let v135 : BitVec 32 := Scalar.subi arg1 c0_i32_49
  let c1_i32_50 : BitVec 32 := 1#32
  let v137 : BitVec 32 := Scalar.divsi v135 c1_i32_50
  let v138 : BitVec 32 := Scalar.muli v137 c1_i32_50
  let v139 : BitVec 32 := Scalar.addi c0_i32_49 v138
  let v136 : BitVec 32 := Scalar.addi c0_i32_49 v135
  let c1_i32_52 : BitVec 32 := 1#32
  ⟨v139, v136, c1_i32_52⟩
def k0_mult3 (i : grid0.Coords) (k0_t3 : Fin (k0_t3_loop i).trips) : BitVec 32 :=
  let c0_i32_49 : BitVec 32 := 0#32
  let arg1 : BitVec 32 := BitVec.ofNat 32 (i 1).val
  let v135 : BitVec 32 := Scalar.subi arg1 c0_i32_49
  let c1_i32_50 : BitVec 32 := 1#32
  let v137 : BitVec 32 := Scalar.divsi v135 c1_i32_50
  let v138 : BitVec 32 := Scalar.muli v137 c1_i32_50
  let v139 : BitVec 32 := Scalar.addi c0_i32_49 v138
  let c1_i32_52 : BitVec 32 := 1#32
  let arg18 : BitVec 32 := Scf.iv v139 c1_i32_52 k0_t3
  let c512_i32_117 : BitVec 32 := 512#32
  let v453 : BitVec 32 := Scalar.muli arg18 c512_i32_117
  v453
def k0_off4 (i : grid0.Coords) (k0_t3 : Fin (k0_t3_loop i).trips) : Fin 2 → Nat :=
  let c0_i32_49 : BitVec 32 := 0#32
  let arg1 : BitVec 32 := BitVec.ofNat 32 (i 1).val
  let v135 : BitVec 32 := Scalar.subi arg1 c0_i32_49
  let c1_i32_50 : BitVec 32 := 1#32
  let v137 : BitVec 32 := Scalar.divsi v135 c1_i32_50
  let v138 : BitVec 32 := Scalar.muli v137 c1_i32_50
  let v139 : BitVec 32 := Scalar.addi c0_i32_49 v138
  let c1_i32_52 : BitVec 32 := 1#32
  let arg18 : BitVec 32 := Scf.iv v139 c1_i32_52 k0_t3
  let c512_i32_117 : BitVec 32 := 512#32
  let v453 : BitVec 32 := Scalar.muli arg18 c512_i32_117
  let v454 : BitVec 32 := v453
  let v455 : Index := Scalar.indexCast v454
  let c0_118 : Index := 0#32
  ![v455.toNat, 0]
def k0_off5 (i : grid0.Coords) (k0_t3 : Fin (k0_t3_loop i).trips) : Fin 2 → Nat :=
  let c0_148 : Index := 0#32
  let c0_i32_49 : BitVec 32 := 0#32
  let arg1 : BitVec 32 := BitVec.ofNat 32 (i 1).val
  let v135 : BitVec 32 := Scalar.subi arg1 c0_i32_49
  let c1_i32_50 : BitVec 32 := 1#32
  let v137 : BitVec 32 := Scalar.divsi v135 c1_i32_50
  let v138 : BitVec 32 := Scalar.muli v137 c1_i32_50
  let v139 : BitVec 32 := Scalar.addi c0_i32_49 v138
  let c1_i32_52 : BitVec 32 := 1#32
  let arg18 : BitVec 32 := Scf.iv v139 c1_i32_52 k0_t3
  let c512_i32_117 : BitVec 32 := 512#32
  let v453 : BitVec 32 := Scalar.muli arg18 c512_i32_117
  let v454 : BitVec 32 := v453
  let v683 : Index := Scalar.indexCast v454
  ![0, v683.toNat]
def k0_mult4 (i : grid0.Coords) : BitVec 32 :=
  let arg1 : BitVec 32 := BitVec.ofNat 32 (i 1).val
  let c512_i32 : BitVec 32 := 512#32
  let v144 : BitVec 32 := Scalar.muli arg1 c512_i32
  v144
def k0_off6 (i : grid0.Coords) : Fin 2 → Nat :=
  let arg1 : BitVec 32 := BitVec.ofNat 32 (i 1).val
  let c512_i32 : BitVec 32 := 512#32
  let v144 : BitVec 32 := Scalar.muli arg1 c512_i32
  let v145 : BitVec 32 := v144
  let v146 : Index := Scalar.indexCast v145
  let c0_55 : Index := 0#32
  ![v146.toNat, 0]
def k0_off7 (i : grid0.Coords) : Fin 2 → Nat :=
  let c0_91 : Index := 0#32
  let arg1 : BitVec 32 := BitVec.ofNat 32 (i 1).val
  let c512_i32 : BitVec 32 := 512#32
  let v144 : BitVec 32 := Scalar.muli arg1 c512_i32
  let v145 : BitVec 32 := v144
  let v384 : Index := Scalar.indexCast v145
  ![0, v384.toNat]
def k0_cond2 (i : grid0.Coords) : BitVec 1 :=
  let arg1 : BitVec 32 := BitVec.ofNat 32 (i 1).val
  let c7_i32 : BitVec 32 := 7#32
  let v450 : BitVec 1 := Scalar.cmpi .eq arg1 c7_i32
  let v451 : BitVec 32 := Scalar.extui v450
  let c0_i32_116 : BitVec 32 := 0#32
  let v452 : BitVec 1 := Scalar.cmpi .ne v451 c0_i32_116
  v452

@[reducible] def k0_t4_loop : Scf.Loop 32 :=
  let c0_i32_118 : BitVec 32 := 0#32
  let c8_i32 : BitVec 32 := 8#32
  let v454 : BitVec 32 := Scalar.addi c0_i32_118 c8_i32
  let c1_i32_119 : BitVec 32 := 1#32
  ⟨c0_i32_118, v454, c1_i32_119⟩
def k0_mult5 (k0_t4 : Fin k0_t4_loop.trips) : BitVec 32 :=
  let c0_i32_118 : BitVec 32 := 0#32
  let c1_i32_119 : BitVec 32 := 1#32
  let arg18 : BitVec 32 := Scf.iv c0_i32_118 c1_i32_119 k0_t4
  let c512_i32_124 : BitVec 32 := 512#32
  let v459 : BitVec 32 := Scalar.muli arg18 c512_i32_124
  v459
def k0_off8 (k0_t4 : Fin k0_t4_loop.trips) : Fin 2 → Nat :=
  let c0_i32_118 : BitVec 32 := 0#32
  let c1_i32_119 : BitVec 32 := 1#32
  let arg18 : BitVec 32 := Scf.iv c0_i32_118 c1_i32_119 k0_t4
  let c512_i32_124 : BitVec 32 := 512#32
  let v459 : BitVec 32 := Scalar.muli arg18 c512_i32_124
  let v460 : BitVec 32 := v459
  let v461 : Index := Scalar.indexCast v460
  let c0_125 : Index := 0#32
  ![v461.toNat, 0]
def k0_off9 (k0_t4 : Fin k0_t4_loop.trips) : Fin 2 → Nat :=
  let c0_137 : Index := 0#32
  let c0_i32_118 : BitVec 32 := 0#32
  let c1_i32_119 : BitVec 32 := 1#32
  let arg18 : BitVec 32 := Scf.iv c0_i32_118 c1_i32_119 k0_t4
  let c512_i32_124 : BitVec 32 := 512#32
  let v459 : BitVec 32 := Scalar.muli arg18 c512_i32_124
  let v460 : BitVec 32 := v459
  let v492 : Index := Scalar.indexCast v460
  ![0, v492.toNat]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4096x3072 : Shape := ⟨2, ![4096, 3072]⟩
abbrev S64 : Shape := ⟨1, ![64]⟩
abbrev S4096x512 : Shape := ⟨2, ![4096, 512]⟩
abbrev S1x1x64 : Shape := ⟨3, ![1, 1, 64]⟩
abbrev S8x1x64 : Shape := ⟨3, ![8, 1, 64]⟩
abbrev S4096x8x64 : Shape := ⟨3, ![4096, 8, 64]⟩
abbrev S8x4096x64 : Shape := ⟨3, ![8, 4096, 64]⟩
abbrev S_ : Shape := ⟨0, ![]⟩
abbrev S8x4096 : Shape := ⟨2, ![8, 4096]⟩
abbrev S8x4096x1 : Shape := ⟨3, ![8, 4096, 1]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x64 : Shape := ⟨2, ![8, 64]⟩
abbrev S4x1x128 : Shape := ⟨3, ![4, 1, 128]⟩

abbrev nBuf : Space → Nat
  | .hbm => 273
  | .vmem => 0
  | .smem => 0
  | _ => 0

abbrev hbmTy0_0 (i : Nat) : BufTy := match i % 128 with
  | 0 => ⟨S4096x3072, .f32⟩
  | 1 => ⟨S64, .f32⟩
  | 2 => ⟨S64, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S1x1x64, .f32⟩
  | 11 => ⟨S8x1x64, .f32⟩
  | 12 => ⟨S1x1x64, .f32⟩
  | 13 => ⟨S8x1x64, .f32⟩
  | 14 => ⟨S4096x8x64, .f32⟩
  | 15 => ⟨S8x4096x64, .f32⟩
  | 16 => ⟨S8x4096x64, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x1, .f32⟩
  | 27 => ⟨S8x4096x1, .f32⟩
  | 28 => ⟨S_, .f32⟩
  | 29 => ⟨S8x4096x1, .f32⟩
  | 30 => ⟨S8x4096x1, .f32⟩
  | 31 => ⟨S8x4096x64, .f32⟩
  | 32 => ⟨S8x4096x64, .f32⟩
  | 33 => ⟨S8x4096x64, .f32⟩
  | 34 => ⟨S8x4096x64, .f32⟩
  | 35 => ⟨S4096x8x64, .f32⟩
  | 36 => ⟨S8x4096x64, .f32⟩
  | 37 => ⟨S8x4096x64, .f32⟩
  | 38 => ⟨S_, .f32⟩
  | 39 => ⟨S8x4096, .f32⟩
  | 40 => ⟨S8x4096x1, .f32⟩
  | 41 => ⟨S_, .f32⟩
  | 42 => ⟨S8x4096x1, .f32⟩
  | 43 => ⟨S8x4096x1, .f32⟩
  | 44 => ⟨S_, .f32⟩
  | 45 => ⟨S8x4096x1, .f32⟩
  | 46 => ⟨S8x4096x1, .f32⟩
  | 47 => ⟨S8x4096x1, .f32⟩
  | 48 => ⟨S8x4096x1, .f32⟩
  | 49 => ⟨S_, .f32⟩
  | 50 => ⟨S8x4096x1, .f32⟩
  | 51 => ⟨S8x4096x1, .f32⟩
  | 52 => ⟨S8x4096x64, .f32⟩
  | 53 => ⟨S8x4096x64, .f32⟩
  | 54 => ⟨S8x4096x64, .f32⟩
  | 55 => ⟨S8x4096x64, .f32⟩
  | 56 => ⟨S4096x8x64, .f32⟩
  | 57 => ⟨S8x4096x64, .f32⟩
  | 58 => ⟨S8x4096x4096, .f32⟩
  | 59 => ⟨S_, .f32⟩
  | 60 => ⟨S8x4096x4096, .f32⟩
  | 61 => ⟨S8x4096x4096, .f32⟩
  | 62 => ⟨S4096, .i32⟩
  | 63 => ⟨S1x4096, .i32⟩
  | 64 => ⟨S4096, .i32⟩
  | 65 => ⟨S4096x1, .i32⟩
  | 66 => ⟨S4096x4096, .i32⟩
  | 67 => ⟨S4096x4096, .i32⟩
  | 68 => ⟨S4096x4096, .i1⟩
  | 69 => ⟨S8x4096x4096, .f32⟩
  | 70 => ⟨S8x4096x4096, .f32⟩
  | 71 => ⟨S_, .f32⟩
  | 72 => ⟨S8x4096x4096, .f32⟩
  | 73 => ⟨S8x4096x4096, .f32⟩
  | 74 => ⟨S8x4096x4096, .f32⟩
  | 75 => ⟨S8x4096x4096, .f32⟩
  | 76 => ⟨S8x4096x4096, .i1⟩
  | 77 => ⟨S8x4096x4096, .f32⟩
  | 78 => ⟨S8x4096x4096, .f32⟩
  | 79 => ⟨S8x4096x4096, .f32⟩
  | 80 => ⟨S8x4096x4096, .f32⟩
  | 81 => ⟨S8x4096x4096, .f32⟩
  | 82 => ⟨S8x4096x4096, .f32⟩
  | 83 => ⟨S8x4096x4096, .f32⟩
  | 84 => ⟨S8x4096x4096, .f32⟩
  | 85 => ⟨S_, .f32⟩
  | 86 => ⟨S8x4096x4096, .f32⟩
  | 87 => ⟨S8x4096x4096, .i1⟩
  | 88 => ⟨S_, .f32⟩
  | 89 => ⟨S8x4096x4096, .f32⟩
  | 90 => ⟨S8x4096x4096, .f32⟩
  | 91 => ⟨S_, .f32⟩
  | 92 => ⟨S8x4096x4096, .f32⟩
  | 93 => ⟨S8x4096x4096, .i1⟩
  | 94 => ⟨S_, .f32⟩
  | 95 => ⟨S8x4096x4096, .f32⟩
  | 96 => ⟨S8x4096x4096, .f32⟩
  | 97 => ⟨S8x4096x4096, .f32⟩
  | 98 => ⟨S8x4096x4096, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S8x4096x4096, .f32⟩
  | 107 => ⟨S8x4096x4096, .i1⟩
  | 108 => ⟨S_, .f32⟩
  | 109 => ⟨S8x4096x4096, .f32⟩
  | 110 => ⟨S8x4096x4096, .f32⟩
  | 111 => ⟨S8x4096x4096, .f32⟩
  | 112 => ⟨S8x4096x4096, .f32⟩
  | 113 => ⟨S8x4096x4096, .f32⟩
  | 114 => ⟨S_, .f32⟩
  | 115 => ⟨S8x4096x4096, .f32⟩
  | 116 => ⟨S8x4096x4096, .f32⟩
  | 117 => ⟨S8x4096x4096, .f32⟩
  | 118 => ⟨S_, .f32⟩
  | 119 => ⟨S_, .f32⟩
  | 120 => ⟨S8x4096x4096, .i1⟩
  | 121 => ⟨S8x4096x4096, .f32⟩
  | 122 => ⟨S8x4096x4096, .f32⟩
  | 123 => ⟨S_, .f32⟩
  | 124 => ⟨S8x4096x4096, .f32⟩
  | 125 => ⟨S_, .f32⟩
  | 126 => ⟨S_, .f32⟩
  | 127 => ⟨S8x4096x4096, .f32⟩
  | _ => ⟨S4096x3072, .f32⟩

abbrev hbmTy0_1 (i : Nat) : BufTy := match i % 128 with
  | 0 => ⟨S8x4096x4096, .f32⟩
  | 1 => ⟨S8x4096x4096, .f32⟩
  | 2 => ⟨S_, .f32⟩
  | 3 => ⟨S8x4096x4096, .f32⟩
  | 4 => ⟨S8x4096x4096, .f32⟩
  | 5 => ⟨S8x4096x4096, .f32⟩
  | 6 => ⟨S8x4096x4096, .f32⟩
  | 7 => ⟨S8x4096x4096, .i1⟩
  | 8 => ⟨S8x4096x4096, .f32⟩
  | 9 => ⟨S8x4096x4096, .f32⟩
  | 10 => ⟨S8x4096x4096, .f32⟩
  | 11 => ⟨S8x4096x4096, .f32⟩
  | 12 => ⟨S8x4096x4096, .f32⟩
  | 13 => ⟨S8x4096x4096, .f32⟩
  | 14 => ⟨S8x4096x4096, .f32⟩
  | 15 => ⟨S8x4096x4096, .f32⟩
  | 16 => ⟨S_, .f32⟩
  | 17 => ⟨S8x4096x4096, .f32⟩
  | 18 => ⟨S8x4096x4096, .i1⟩
  | 19 => ⟨S_, .f32⟩
  | 20 => ⟨S8x4096x4096, .f32⟩
  | 21 => ⟨S8x4096x4096, .f32⟩
  | 22 => ⟨S_, .f32⟩
  | 23 => ⟨S8x4096x4096, .f32⟩
  | 24 => ⟨S8x4096x4096, .i1⟩
  | 25 => ⟨S_, .f32⟩
  | 26 => ⟨S8x4096x4096, .f32⟩
  | 27 => ⟨S8x4096x4096, .f32⟩
  | 28 => ⟨S8x4096x4096, .f32⟩
  | 29 => ⟨S8x4096x4096, .f32⟩
  | 30 => ⟨S_, .f32⟩
  | 31 => ⟨S_, .f32⟩
  | 32 => ⟨S_, .i1⟩
  | 33 => ⟨S_, .f32⟩
  | 34 => ⟨S_, .f32⟩
  | 35 => ⟨S_, .f32⟩
  | 36 => ⟨S_, .f32⟩
  | 37 => ⟨S8x4096x4096, .f32⟩
  | 38 => ⟨S8x4096x4096, .i1⟩
  | 39 => ⟨S_, .f32⟩
  | 40 => ⟨S8x4096x4096, .f32⟩
  | 41 => ⟨S8x4096x4096, .f32⟩
  | 42 => ⟨S8x4096x4096, .f32⟩
  | 43 => ⟨S8x4096x4096, .f32⟩
  | 44 => ⟨S8x4096x4096, .f32⟩
  | 45 => ⟨S_, .f32⟩
  | 46 => ⟨S8x4096x4096, .f32⟩
  | 47 => ⟨S8x4096x4096, .f32⟩
  | 48 => ⟨S8x4096x4096, .f32⟩
  | 49 => ⟨S8x4096x4096, .f32⟩
  | 50 => ⟨S8x4096x4096, .f32⟩
  | 51 => ⟨S_, .f32⟩
  | 52 => ⟨S_, .f32⟩
  | 53 => ⟨S8x4096x4096, .i1⟩
  | 54 => ⟨S8x4096x4096, .f32⟩
  | 55 => ⟨S8x4096x4096, .f32⟩
  | 56 => ⟨S_, .f32⟩
  | 57 => ⟨S8x4096x4096, .f32⟩
  | 58 => ⟨S8x4096x64, .f32⟩
  | 59 => ⟨S4096x8x64, .f32⟩
  | 60 => ⟨S4096x512, .f32⟩
  | 61 => ⟨S4096x8x64, .f32⟩
  | 62 => ⟨S8x4096x64, .f32⟩
  | 63 => ⟨S8x64x4096, .f32⟩
  | 64 => ⟨S8x4096x64, .f32⟩
  | 65 => ⟨S8x4096x4096, .f32⟩
  | 66 => ⟨S_, .f32⟩
  | 67 => ⟨S8x4096x4096, .f32⟩
  | 68 => ⟨S8x4096x4096, .f32⟩
  | 69 => ⟨S8x4096x4096, .f32⟩
  | 70 => ⟨S8x4096x4096, .f32⟩
  | 71 => ⟨S8x4096x4096, .f32⟩
  | 72 => ⟨S8x4096x4096, .f32⟩
  | 73 => ⟨S8x4096x4096, .f32⟩
  | 74 => ⟨S_, .f32⟩
  | 75 => ⟨S_, .f32⟩
  | 76 => ⟨S8x4096x4096, .f32⟩
  | 77 => ⟨S8x4096x4096, .f32⟩
  | 78 => ⟨S_, .f32⟩
  | 79 => ⟨S8x4096x4096, .f32⟩
  | 80 => ⟨S8x4096x4096, .f32⟩
  | 81 => ⟨S8x4096x4096, .f32⟩
  | 82 => ⟨S8x4096x4096, .f32⟩
  | 83 => ⟨S8x4096x4096, .f32⟩
  | 84 => ⟨S8x4096x4096, .f32⟩
  | 85 => ⟨S8x4096x4096, .f32⟩
  | 86 => ⟨S_, .f32⟩
  | 87 => ⟨S8x4096x4096, .f32⟩
  | 88 => ⟨S8x4096x4096, .f32⟩
  | 89 => ⟨S8x4096x64, .f32⟩
  | 90 => ⟨S8x4096x64, .f32⟩
  | 91 => ⟨S4096x8x64, .f32⟩
  | 92 => ⟨S4096x512, .f32⟩
  | 93 => ⟨S8x4096x64, .f32⟩
  | 94 => ⟨S_, .f32⟩
  | 95 => ⟨S8x64, .f32⟩
  | 96 => ⟨S8x1x64, .f32⟩
  | 97 => ⟨S8x4096x64, .f32⟩
  | 98 => ⟨S8x4096x64, .f32⟩
  | 99 => ⟨S8x4096x64, .f32⟩
  | 100 => ⟨S_, .f32⟩
  | 101 => ⟨S8x4096, .f32⟩
  | 102 => ⟨S8x4096x1, .f32⟩
  | 103 => ⟨S8x4096x64, .f32⟩
  | 104 => ⟨S8x4096x64, .f32⟩
  | 105 => ⟨S8x4096x1, .f32⟩
  | 106 => ⟨S_, .f32⟩
  | 107 => ⟨S8x4096x1, .f32⟩
  | 108 => ⟨S8x4096x1, .f32⟩
  | 109 => ⟨S_, .f32⟩
  | 110 => ⟨S8x4096, .f32⟩
  | 111 => ⟨S8x4096x64, .f32⟩
  | 112 => ⟨S8x4096x64, .f32⟩
  | 113 => ⟨S8x4096x64, .f32⟩
  | 114 => ⟨S8x4096x64, .f32⟩
  | 115 => ⟨S8x4096x64, .f32⟩
  | 116 => ⟨S4096x8x64, .f32⟩
  | 117 => ⟨S4096x512, .f32⟩
  | 118 => ⟨S8x4096x64, .f32⟩
  | 119 => ⟨S_, .f32⟩
  | 120 => ⟨S8x64, .f32⟩
  | 121 => ⟨S8x1x64, .f32⟩
  | 122 => ⟨S8x4096x64, .f32⟩
  | 123 => ⟨S8x4096x64, .f32⟩
  | 124 => ⟨S8x4096x64, .f32⟩
  | 125 => ⟨S_, .f32⟩
  | 126 => ⟨S8x4096, .f32⟩
  | 127 => ⟨S8x4096x1, .f32⟩
  | _ => ⟨S4096x3072, .f32⟩

abbrev hbmTy0_2 (i : Nat) : BufTy := match i % 128 with
  | 0 => ⟨S8x4096x64, .f32⟩
  | 1 => ⟨S8x4096x64, .f32⟩
  | 2 => ⟨S8x4096x1, .f32⟩
  | 3 => ⟨S_, .f32⟩
  | 4 => ⟨S8x4096x1, .f32⟩
  | 5 => ⟨S8x4096x1, .f32⟩
  | 6 => ⟨S_, .f32⟩
  | 7 => ⟨S8x4096, .f32⟩
  | 8 => ⟨S8x4096x64, .f32⟩
  | 9 => ⟨S8x4096x64, .f32⟩
  | 10 => ⟨S8x4096x64, .f32⟩
  | 11 => ⟨S8x4096x64, .f32⟩
  | 12 => ⟨S8x4096x64, .f32⟩
  | 13 => ⟨S4096x8x64, .f32⟩
  | 14 => ⟨S4096x512, .f32⟩
  | 15 => ⟨S4x1x128, .f32⟩
  | 16 => ⟨S4x1x128, .f32⟩
  | _ => ⟨S4096x3072, .f32⟩

abbrev hbmTy (i : Nat) : BufTy := match i / 128 with
  | 0 => hbmTy0_0 i
  | 1 => hbmTy0_1 i
  | 2 => hbmTy0_2 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_call0_v0 : Ref sig .tc := ⟨.hbm, 70, rfl⟩
abbrev main_call0_call0_cst : Ref sig .tc := ⟨.hbm, 71, rfl⟩
abbrev main_call0_call0_v0 : Ref sig .tc := ⟨.hbm, 72, rfl⟩
abbrev main_call0_call0_v1 : Ref sig .tc := ⟨.hbm, 73, rfl⟩
abbrev main_call0_call0_v2 : Ref sig .tc := ⟨.hbm, 74, rfl⟩
abbrev main_call0_call0_v3 : Ref sig .tc := ⟨.hbm, 75, rfl⟩
abbrev main_call0_call0_v4 : Ref sig .tc := ⟨.hbm, 76, rfl⟩
abbrev main_call0_call0_v5 : Ref sig .tc := ⟨.hbm, 77, rfl⟩
abbrev main_call0_call0_v6 : Ref sig .tc := ⟨.hbm, 78, rfl⟩
abbrev main_call0_call0_v7 : Ref sig .tc := ⟨.hbm, 79, rfl⟩
abbrev main_call0_call0_v8 : Ref sig .tc := ⟨.hbm, 80, rfl⟩
abbrev main_call0_call0_v9 : Ref sig .tc := ⟨.hbm, 81, rfl⟩
abbrev main_call0_call0_v10 : Ref sig .tc := ⟨.hbm, 82, rfl⟩
abbrev main_call0_call0_v11 : Ref sig .tc := ⟨.hbm, 83, rfl⟩
abbrev main_call0_v1_0 : Ref sig .tc := ⟨.hbm, 84, rfl⟩
abbrev main_call0_call0_cst_0 : Ref sig .tc := ⟨.hbm, 85, rfl⟩
abbrev main_call0_call0_v13 : Ref sig .tc := ⟨.hbm, 86, rfl⟩
abbrev main_call0_call0_v14 : Ref sig .tc := ⟨.hbm, 87, rfl⟩
abbrev main_call0_call0_cst_1 : Ref sig .tc := ⟨.hbm, 88, rfl⟩
abbrev main_call0_call0_v15 : Ref sig .tc := ⟨.hbm, 89, rfl⟩
abbrev main_call0_call0_v16 : Ref sig .tc := ⟨.hbm, 90, rfl⟩
abbrev main_call0_call0_cst_2 : Ref sig .tc := ⟨.hbm, 91, rfl⟩
abbrev main_call0_call0_v17 : Ref sig .tc := ⟨.hbm, 92, rfl⟩
abbrev main_call0_call0_v18 : Ref sig .tc := ⟨.hbm, 93, rfl⟩
abbrev main_call0_call0_cst_3 : Ref sig .tc := ⟨.hbm, 94, rfl⟩
abbrev main_call0_call0_v19 : Ref sig .tc := ⟨.hbm, 95, rfl⟩
abbrev main_call0_call0_v20 : Ref sig .tc := ⟨.hbm, 96, rfl⟩
abbrev main_call0_call0_v21 : Ref sig .tc := ⟨.hbm, 97, rfl⟩
abbrev main_v57_1 : Ref sig .tc := ⟨.hbm, 98, rfl⟩
abbrev main_call0_call0_cst_4 : Ref sig .tc := ⟨.hbm, 99, rfl⟩
abbrev main_call0_call0_cst_5 : Ref sig .tc := ⟨.hbm, 100, rfl⟩
abbrev main_call0_call0_v23 : Ref sig .tc := ⟨.hbm, 101, rfl⟩
abbrev main_call0_call0_cst_6 : Ref sig .tc := ⟨.hbm, 102, rfl⟩
abbrev main_call0_call0_cst_7 : Ref sig .tc := ⟨.hbm, 103, rfl⟩
abbrev main_call0_call0_v24 : Ref sig .tc := ⟨.hbm, 104, rfl⟩
abbrev main_call0_call0_cst_8 : Ref sig .tc := ⟨.hbm, 105, rfl⟩
abbrev main_call0_call0_v25 : Ref sig .tc := ⟨.hbm, 106, rfl⟩
abbrev main_call0_call0_v26 : Ref sig .tc := ⟨.hbm, 107, rfl⟩
abbrev main_call0_call0_cst_9 : Ref sig .tc := ⟨.hbm, 108, rfl⟩
abbrev main_call0_call0_v27 : Ref sig .tc := ⟨.hbm, 109, rfl⟩
abbrev main_call0_call0_v28 : Ref sig .tc := ⟨.hbm, 110, rfl⟩
abbrev main_call0_call0_v29 : Ref sig .tc := ⟨.hbm, 111, rfl⟩
abbrev main_call0_call0_v30 : Ref sig .tc := ⟨.hbm, 112, rfl⟩
abbrev main_call0_call0_v31 : Ref sig .tc := ⟨.hbm, 113, rfl⟩
abbrev main_call0_call0_cst_10 : Ref sig .tc := ⟨.hbm, 114, rfl⟩
abbrev main_call0_call0_v32 : Ref sig .tc := ⟨.hbm, 115, rfl⟩
abbrev main_v57_2 : Ref sig .tc := ⟨.hbm, 116, rfl⟩
abbrev main_v57_0 : Ref sig .tc := ⟨.hbm, 117, rfl⟩
abbrev main_cst_8 : Ref sig .tc := ⟨.hbm, 118, rfl⟩
abbrev main_call1_v0 : Ref sig .tc := ⟨.hbm, 119, rfl⟩
abbrev main_v58_1 : Ref sig .tc := ⟨.hbm, 120, rfl⟩
abbrev main_call1_v2 : Ref sig .tc := ⟨.hbm, 121, rfl⟩
abbrev main_v58_0 : Ref sig .tc := ⟨.hbm, 122, rfl⟩
abbrev main_call1_cst : Ref sig .tc := ⟨.hbm, 123, rfl⟩
abbrev main_v58_2 : Ref sig .tc := ⟨.hbm, 124, rfl⟩
abbrev main_call2_cst : Ref sig .tc := ⟨.hbm, 125, rfl⟩
abbrev main_call2_v0 : Ref sig .tc := ⟨.hbm, 126, rfl⟩
abbrev main_v59 : Ref sig .tc := ⟨.hbm, 127, rfl⟩
abbrev main_v60 : Ref sig .tc := ⟨.hbm, 128, rfl⟩
abbrev main_call3_v0 : Ref sig .tc := ⟨.hbm, 129, rfl⟩
abbrev main_call3_call0_cst : Ref sig .tc := ⟨.hbm, 130, rfl⟩
abbrev main_call3_call0_v0 : Ref sig .tc := ⟨.hbm, 131, rfl⟩
abbrev main_call3_call0_v1 : Ref sig .tc := ⟨.hbm, 132, rfl⟩
abbrev main_call3_call0_v2 : Ref sig .tc := ⟨.hbm, 133, rfl⟩
abbrev main_call3_call0_v3 : Ref sig .tc := ⟨.hbm, 134, rfl⟩
abbrev main_call3_call0_v4 : Ref sig .tc := ⟨.hbm, 135, rfl⟩
abbrev main_call3_call0_v5 : Ref sig .tc := ⟨.hbm, 136, rfl⟩
abbrev main_call3_call0_v6 : Ref sig .tc := ⟨.hbm, 137, rfl⟩
abbrev main_call3_call0_v7 : Ref sig .tc := ⟨.hbm, 138, rfl⟩
abbrev main_call3_call0_v8 : Ref sig .tc := ⟨.hbm, 139, rfl⟩
abbrev main_call3_call0_v9 : Ref sig .tc := ⟨.hbm, 140, rfl⟩
abbrev main_call3_call0_v10 : Ref sig .tc := ⟨.hbm, 141, rfl⟩
abbrev main_call3_call0_v11 : Ref sig .tc := ⟨.hbm, 142, rfl⟩
abbrev main_call3_v1_0 : Ref sig .tc := ⟨.hbm, 143, rfl⟩
abbrev main_call3_call0_cst_0 : Ref sig .tc := ⟨.hbm, 144, rfl⟩
abbrev main_call3_call0_v13 : Ref sig .tc := ⟨.hbm, 145, rfl⟩
abbrev main_call3_call0_v14 : Ref sig .tc := ⟨.hbm, 146, rfl⟩
abbrev main_call3_call0_cst_1 : Ref sig .tc := ⟨.hbm, 147, rfl⟩
abbrev main_call3_call0_v15 : Ref sig .tc := ⟨.hbm, 148, rfl⟩
abbrev main_call3_call0_v16 : Ref sig .tc := ⟨.hbm, 149, rfl⟩
abbrev main_call3_call0_cst_2 : Ref sig .tc := ⟨.hbm, 150, rfl⟩
abbrev main_call3_call0_v17 : Ref sig .tc := ⟨.hbm, 151, rfl⟩
abbrev main_call3_call0_v18 : Ref sig .tc := ⟨.hbm, 152, rfl⟩
abbrev main_call3_call0_cst_3 : Ref sig .tc := ⟨.hbm, 153, rfl⟩
abbrev main_call3_call0_v19 : Ref sig .tc := ⟨.hbm, 154, rfl⟩
abbrev main_call3_call0_v20 : Ref sig .tc := ⟨.hbm, 155, rfl⟩
abbrev main_call3_call0_v21 : Ref sig .tc := ⟨.hbm, 156, rfl⟩
abbrev main_v61_1 : Ref sig .tc := ⟨.hbm, 157, rfl⟩
abbrev main_call3_call0_cst_4 : Ref sig .tc := ⟨.hbm, 158, rfl⟩
abbrev main_call3_call0_cst_5 : Ref sig .tc := ⟨.hbm, 159, rfl⟩
abbrev main_call3_call0_v23 : Ref sig .tc := ⟨.hbm, 160, rfl⟩
abbrev main_call3_call0_cst_6 : Ref sig .tc := ⟨.hbm, 161, rfl⟩
abbrev main_call3_call0_cst_7 : Ref sig .tc := ⟨.hbm, 162, rfl⟩
abbrev main_call3_call0_v24 : Ref sig .tc := ⟨.hbm, 163, rfl⟩
abbrev main_call3_call0_cst_8 : Ref sig .tc := ⟨.hbm, 164, rfl⟩
abbrev main_call3_call0_v25 : Ref sig .tc := ⟨.hbm, 165, rfl⟩
abbrev main_call3_call0_v26 : Ref sig .tc := ⟨.hbm, 166, rfl⟩
abbrev main_call3_call0_cst_9 : Ref sig .tc := ⟨.hbm, 167, rfl⟩
abbrev main_call3_call0_v27 : Ref sig .tc := ⟨.hbm, 168, rfl⟩
abbrev main_call3_call0_v28 : Ref sig .tc := ⟨.hbm, 169, rfl⟩
abbrev main_call3_call0_v29 : Ref sig .tc := ⟨.hbm, 170, rfl⟩
abbrev main_call3_call0_v30 : Ref sig .tc := ⟨.hbm, 171, rfl⟩
abbrev main_call3_call0_v31 : Ref sig .tc := ⟨.hbm, 172, rfl⟩
abbrev main_call3_call0_cst_10 : Ref sig .tc := ⟨.hbm, 173, rfl⟩
abbrev main_call3_call0_v32 : Ref sig .tc := ⟨.hbm, 174, rfl⟩
abbrev main_v61_2 : Ref sig .tc := ⟨.hbm, 175, rfl⟩
abbrev main_v61_0 : Ref sig .tc := ⟨.hbm, 176, rfl⟩
abbrev main_v62 : Ref sig .tc := ⟨.hbm, 177, rfl⟩
abbrev main_v63 : Ref sig .tc := ⟨.hbm, 178, rfl⟩
abbrev main_cst_9 : Ref sig .tc := ⟨.hbm, 179, rfl⟩
abbrev main_call4_v0 : Ref sig .tc := ⟨.hbm, 180, rfl⟩
abbrev main_v64_1 : Ref sig .tc := ⟨.hbm, 181, rfl⟩
abbrev main_call4_v2 : Ref sig .tc := ⟨.hbm, 182, rfl⟩
abbrev main_v64_0 : Ref sig .tc := ⟨.hbm, 183, rfl⟩
abbrev main_call4_cst : Ref sig .tc := ⟨.hbm, 184, rfl⟩
abbrev main_v64_2 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_v72 : Ref sig .tc := ⟨.hbm, 193, rfl⟩
abbrev main_call5_cst : Ref sig .tc := ⟨.hbm, 194, rfl⟩
abbrev main_call5_v0 : Ref sig .tc := ⟨.hbm, 195, rfl⟩
abbrev main_v73 : Ref sig .tc := ⟨.hbm, 196, rfl⟩
abbrev main_v74 : Ref sig .tc := ⟨.hbm, 197, rfl⟩
abbrev main_call6_v0 : Ref sig .tc := ⟨.hbm, 198, rfl⟩
abbrev main_call6_v1 : Ref sig .tc := ⟨.hbm, 199, rfl⟩
abbrev main_v75 : Ref sig .tc := ⟨.hbm, 200, rfl⟩
abbrev main_v76 : Ref sig .tc := ⟨.hbm, 201, rfl⟩
abbrev main_call7_cst : Ref sig .tc := ⟨.hbm, 202, rfl⟩
abbrev main_call7_v0 : Ref sig .tc := ⟨.hbm, 203, rfl⟩
abbrev main_v77 : Ref sig .tc := ⟨.hbm, 204, rfl⟩
abbrev main_v78 : Ref sig .tc := ⟨.hbm, 205, rfl⟩
abbrev main_call8_cst : Ref sig .tc := ⟨.hbm, 206, rfl⟩
abbrev main_call8_v0 : Ref sig .tc := ⟨.hbm, 207, rfl⟩
abbrev main_v79 : Ref sig .tc := ⟨.hbm, 208, rfl⟩
abbrev main_call9_v0 : Ref sig .tc := ⟨.hbm, 209, rfl⟩
abbrev main_call9_v1 : Ref sig .tc := ⟨.hbm, 210, rfl⟩
abbrev main_v80 : Ref sig .tc := ⟨.hbm, 211, rfl⟩
abbrev main_v81 : Ref sig .tc := ⟨.hbm, 212, rfl⟩
abbrev main_v82 : Ref sig .tc := ⟨.hbm, 213, rfl⟩
abbrev main_cst_10 : Ref sig .tc := ⟨.hbm, 214, rfl⟩
abbrev main_v83 : Ref sig .tc := ⟨.hbm, 215, rfl⟩
abbrev main_v84 : Ref sig .tc := ⟨.hbm, 216, rfl⟩
abbrev main_v85 : Ref sig .tc := ⟨.hbm, 217, rfl⟩
abbrev main_v86 : Ref sig .tc := ⟨.hbm, 218, rfl⟩
abbrev main_v87 : Ref sig .tc := ⟨.hbm, 219, rfl⟩
abbrev main_v88 : Ref sig .tc := ⟨.hbm, 220, rfl⟩
abbrev main_v89 : Ref sig .tc := ⟨.hbm, 221, rfl⟩
abbrev main_cst_11 : Ref sig .tc := ⟨.hbm, 222, rfl⟩
abbrev main_v90 : Ref sig .tc := ⟨.hbm, 223, rfl⟩
abbrev main_v91 : Ref sig .tc := ⟨.hbm, 224, rfl⟩
abbrev main_v92 : Ref sig .tc := ⟨.hbm, 225, rfl⟩
abbrev main_v93 : Ref sig .tc := ⟨.hbm, 226, rfl⟩
abbrev main_v94 : Ref sig .tc := ⟨.hbm, 227, rfl⟩
abbrev main_cst_12 : Ref sig .tc := ⟨.hbm, 228, rfl⟩
abbrev main_v95 : Ref sig .tc := ⟨.hbm, 229, rfl⟩
abbrev main_v96 : Ref sig .tc := ⟨.hbm, 230, rfl⟩
abbrev main_v97 : Ref sig .tc := ⟨.hbm, 231, rfl⟩
abbrev main_v98 : Ref sig .tc := ⟨.hbm, 232, rfl⟩
abbrev main_v99 : Ref sig .tc := ⟨.hbm, 233, rfl⟩
abbrev main_cst_13 : Ref sig .tc := ⟨.hbm, 234, rfl⟩
abbrev main_v100 : Ref sig .tc := ⟨.hbm, 235, rfl⟩
abbrev main_v101 : Ref sig .tc := ⟨.hbm, 236, rfl⟩
abbrev main_cst_14 : Ref sig .tc := ⟨.hbm, 237, rfl⟩
abbrev main_v102 : Ref sig .tc := ⟨.hbm, 238, rfl⟩
abbrev main_v103 : Ref sig .tc := ⟨.hbm, 239, rfl⟩
abbrev main_v104 : Ref sig .tc := ⟨.hbm, 240, rfl⟩
abbrev main_v105 : Ref sig .tc := ⟨.hbm, 241, rfl⟩
abbrev main_v106 : Ref sig .tc := ⟨.hbm, 242, rfl⟩
abbrev main_v107 : Ref sig .tc := ⟨.hbm, 243, rfl⟩
abbrev main_v108 : Ref sig .tc := ⟨.hbm, 244, rfl⟩
abbrev main_v109 : Ref sig .tc := ⟨.hbm, 245, rfl⟩
abbrev main_v110 : Ref sig .tc := ⟨.hbm, 246, rfl⟩
abbrev main_cst_15 : Ref sig .tc := ⟨.hbm, 247, rfl⟩
abbrev main_v111 : Ref sig .tc := ⟨.hbm, 248, rfl⟩
abbrev main_v112 : Ref sig .tc := ⟨.hbm, 249, rfl⟩
abbrev main_v113 : Ref sig .tc := ⟨.hbm, 250, rfl⟩
abbrev main_v114 : Ref sig .tc := ⟨.hbm, 251, rfl⟩
abbrev main_v115 : Ref sig .tc := ⟨.hbm, 252, rfl⟩
abbrev main_cst_16 : Ref sig .tc := ⟨.hbm, 253, rfl⟩
abbrev main_v116 : Ref sig .tc := ⟨.hbm, 254, rfl⟩
abbrev main_v117 : Ref sig .tc := ⟨.hbm, 255, rfl⟩
abbrev main_v118 : Ref sig .tc := ⟨.hbm, 256, rfl⟩
abbrev main_v119 : Ref sig .tc := ⟨.hbm, 257, rfl⟩
abbrev main_v120 : Ref sig .tc := ⟨.hbm, 258, rfl⟩
abbrev main_cst_17 : Ref sig .tc := ⟨.hbm, 259, rfl⟩
abbrev main_v121 : Ref sig .tc := ⟨.hbm, 260, rfl⟩
abbrev main_v122 : Ref sig .tc := ⟨.hbm, 261, rfl⟩
abbrev main_cst_18 : Ref sig .tc := ⟨.hbm, 262, rfl⟩
abbrev main_v123 : Ref sig .tc := ⟨.hbm, 263, rfl⟩
abbrev main_v124 : Ref sig .tc := ⟨.hbm, 264, rfl⟩
abbrev main_v125 : Ref sig .tc := ⟨.hbm, 265, rfl⟩
abbrev main_v126 : Ref sig .tc := ⟨.hbm, 266, rfl⟩
abbrev main_v127 : Ref sig .tc := ⟨.hbm, 267, rfl⟩
abbrev main_v128 : Ref sig .tc := ⟨.hbm, 268, rfl⟩
abbrev main_v129 : Ref sig .tc := ⟨.hbm, 269, rfl⟩
abbrev main_v130 : Ref sig .tc := ⟨.hbm, 270, rfl⟩
abbrev main_v131 : Ref sig .tc := ⟨.hbm, 271, rfl⟩
abbrev main_v132 : Ref sig .tc := ⟨.hbm, 272, rfl⟩

abbrev nD : Nat := 1
abbrev τ : Topo := Topo.v7x

variable {F : FTy → Type} [FloatOps F]
-- ==== Fwd.lean ====
abbrev S4096x3072 : Shape := ⟨2, ![4096, 3072]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4096x512 : Shape := ⟨2, ![4096, 512]⟩
abbrev S8x4096x1 : Shape := ⟨3, ![8, 4096, 1]⟩
abbrev S512x128 : Shape := ⟨2, ![512, 128]⟩
abbrev S4096x128 : Shape := ⟨2, ![4096, 128]⟩
abbrev S2x512x1 : Shape := ⟨3, ![2, 512, 1]⟩
abbrev S512 : Shape := ⟨1, ![512]⟩
abbrev S512x1 : Shape := ⟨2, ![512, 1]⟩
abbrev S256x256 : Shape := ⟨2, ![256, 256]⟩
abbrev S512x512 : Shape := ⟨2, ![512, 512]⟩
abbrev S512x256 : Shape := ⟨2, ![512, 256]⟩
abbrev S1x512x1 : Shape := ⟨3, ![1, 512, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S2x64, .f32⟩
  | .hbm, ⟨5, _⟩ => ⟨S128, .f32⟩
  | .hbm, ⟨6, _⟩ => ⟨S1x128, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x128, .f32⟩
  | .hbm, ⟨11, _⟩ => ⟨S4096x512, .f32⟩
  | .hbm, ⟨12, _⟩ => ⟨S8x4096x1, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S2x512x1, .f32⟩
  | .local _ .vmem, ⟨11, _⟩ => ⟨S2x512x1, .f32⟩
  | .local _ .vmem, ⟨12, _⟩ => ⟨S4096x128, .bf16⟩
  | .local _ .vmem, ⟨13, _⟩ => ⟨S4096x128, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_59 : BitVec 32 := 0#32
  let c8_i32 : BitVec 32 := 8#32
  let v235 : BitVec 32 := Scalar.addi c0_i32_59 c8_i32
  let c1_i32_60 : BitVec 32 := 1#32
  ⟨c0_i32_59, v235, c1_i32_60⟩
def k0_mult1 (k0_t1 : Fin k0_t1_loop.trips) : BitVec 32 :=
  let c0_i32_59 : BitVec 32 := 0#32
  let c1_i32_60 : BitVec 32 := 1#32
  let arg11 : BitVec 32 := Scf.iv c0_i32_59 c1_i32_60 k0_t1
  let c512_i32_62 : BitVec 32 := 512#32
  let v236 : BitVec 32 := Scalar.muli arg11 c512_i32_62
  v236
def k0_off1 (k0_t1 : Fin k0_t1_loop.trips) : Fin 2 → Nat :=
  let c0_i32_59 : BitVec 32 := 0#32
  let c1_i32_60 : BitVec 32 := 1#32
  let arg11 : BitVec 32 := Scf.iv c0_i32_59 c1_i32_60 k0_t1
  let c512_i32_62 : BitVec 32 := 512#32
  let v236 : BitVec 32 := Scalar.muli arg11 c512_i32_62
  let v237 : BitVec 32 := v236
  let v238 : Index := Scalar.indexCast v237
  let c0_63 : Index := 0#32
  ![v238.toNat, 0]
def k0_mult2 (i : grid0.Coords) : BitVec 32 :=
  let arg1 : BitVec 32 := BitVec.ofNat 32 (i 1).val
  let c512_i32 : BitVec 32 := 512#32
  let v75 : BitVec 32 := Scalar.muli arg1 c512_i32
  v75
def k0_off2 (i : grid0.Coords) : Fin 2 → Nat :=
  let arg1 : BitVec 32 := BitVec.ofNat 32 (i 1).val
  let c512_i32 : BitVec 32 := 512#32
  let v75 : BitVec 32 := Scalar.muli arg1 c512_i32
  let v76 : BitVec 32 := v75
  let v77 : Index := Scalar.indexCast v76
  let c0_24 : Index := 0#32
  ![v77.toNat, 0]
@[reducible] def k0_t2_loop (i : grid0.Coords) : Scf.Loop 32 :=
  let c0_i32_48 : BitVec 32 := 0#32
  let arg1 : BitVec 32 := BitVec.ofNat 32 (i 1).val
  let v219 : BitVec 32 := Scalar.subi arg1 c0_i32_48
  let c1_i32_49 : BitVec 32 := 1#32
  let v221 : BitVec 32 := Scalar.divsi v219 c1_i32_49
  let v222 : BitVec 32 := Scalar.muli v221 c1_i32_49
  let v223 : BitVec 32 := Scalar.addi c0_i32_48 v222
  let c1_i32_50 : BitVec 32 := 1#32
  ⟨c0_i32_48, v223, c1_i32_50⟩
def k0_mult3 (i : grid0.Coords) (k0_t2 : Fin (k0_t2_loop i).trips) : BitVec 32 :=
  let arg1 : BitVec 32 := BitVec.ofNat 32 (i 1).val
  let c1_i32_59 : BitVec 32 := 1#32
  let v235 : BitVec 32 := Scalar.subi arg1 c1_i32_59
  let c0_i32_48 : BitVec 32 := 0#32
  let c1_i32_50 : BitVec 32 := 1#32
  let arg11 : BitVec 32 := Scf.iv c0_i32_48 c1_i32_50 k0_t2
  let v236 : BitVec 32 := Scalar.subi v235 arg11
  let c512_i32_60 : BitVec 32 := 512#32
  let v237 : BitVec 32 := Scalar.muli v236 c512_i32_60
  v237
def k0_off3 (i : grid0.Coords) (k0_t2 : Fin (k0_t2_loop i).trips) : Fin 2 → Nat :=
  let arg1 : BitVec 32 := BitVec.ofNat 32 (i 1).val
  let c1_i32_59 : BitVec 32 := 1#32
  let v235 : BitVec 32 := Scalar.subi arg1 c1_i32_59
  let c0_i32_48 : BitVec 32 := 0#32
  let c1_i32_50 : BitVec 32 := 1#32
  let arg11 : BitVec 32 := Scf.iv c0_i32_48 c1_i32_50 k0_t2
  let v236 : BitVec 32 := Scalar.subi v235 arg11
  let c512_i32_60 : BitVec 32 := 512#32
  let v237 : BitVec 32 := Scalar.muli v236 c512_i32_60
  let v238 : BitVec 32 := v237
  let v239 : Index := Scalar.indexCast v238
  let c0_61 : Index := 0#32
  ![v239.toNat, 0]
@[reducible] def k0_t3_loop (i : grid0.Coords) : Scf.Loop 32 :=
  let c0_i32_48 : BitVec 32 := 0#32
  let arg1 : BitVec 32 := BitVec.ofNat 32 (i 1).val
  let v219 : BitVec 32 := Scalar.subi arg1 c0_i32_48
  let c1_i32_49 : BitVec 32 := 1#32
  let v221 : BitVec 32 := Scalar.divsi v219 c1_i32_49
  let v222 : BitVec 32 := Scalar.muli v221 c1_i32_49
  let v223 : BitVec 32 := Scalar.addi c0_i32_48 v222
  let v220 : BitVec 32 := Scalar.addi c0_i32_48 v219
  let c1_i32_51 : BitVec 32 := 1#32
  ⟨v223, v220, c1_i32_51⟩
def k0_mult4 (i : grid0.Coords) (k0_t3 : Fin (k0_t3_loop i).trips) : BitVec 32 :=
  let arg1 : BitVec 32 := BitVec.ofNat 32 (i 1).val
  let c1_i32_59 : BitVec 32 := 1#32
  let v235 : BitVec 32 := Scalar.subi arg1 c1_i32_59
  let c0_i32_48 : BitVec 32 := 0#32
  let v219 : BitVec 32 := Scalar.subi arg1 c0_i32_48
  let c1_i32_49 : BitVec 32 := 1#32
  let v221 : BitVec 32 := Scalar.divsi v219 c1_i32_49
  let v222 : BitVec 32 := Scalar.muli v221 c1_i32_49
  let v223 : BitVec 32 := Scalar.addi c0_i32_48 v222
  let c1_i32_51 : BitVec 32 := 1#32
  let arg11 : BitVec 32 := Scf.iv v223 c1_i32_51 k0_t3
  let v236 : BitVec 32 := Scalar.subi v235 arg11
  let c512_i32_60 : BitVec 32 := 512#32
  let v237 : BitVec 32 := Scalar.muli v236 c512_i32_60
  v237
def k0_off4 (i : grid0.Coords) (k0_t3 : Fin (k0_t3_loop i).trips) : Fin 2 → Nat :=
  let arg1 : BitVec 32 := BitVec.ofNat 32 (i 1).val
  let c1_i32_59 : BitVec 32 := 1#32
  let v235 : BitVec 32 := Scalar.subi arg1 c1_i32_59
  let c0_i32_48 : BitVec 32 := 0#32
  let v219 : BitVec 32 := Scalar.subi arg1 c0_i32_48
  let c1_i32_49 : BitVec 32 := 1#32
  let v221 : BitVec 32 := Scalar.divsi v219 c1_i32_49
  let v222 : BitVec 32 := Scalar.muli v221 c1_i32_49
  let v223 : BitVec 32 := Scalar.addi c0_i32_48 v222
  let c1_i32_51 : BitVec 32 := 1#32
  let arg11 : BitVec 32 := Scf.iv v223 c1_i32_51 k0_t3
  let v236 : BitVec 32 := Scalar.subi v235 arg11
  let c512_i32_60 : BitVec 32 := 512#32
  let v237 : BitVec 32 := Scalar.muli v236 c512_i32_60
  let v238 : BitVec 32 := v237
  let v239 : Index := Scalar.indexCast v238
  let c0_61 : Index := 0#32
  ![v239.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FwdPlainIdeal.lean ====
abbrev S4096x3072 : Shape := ⟨2, ![4096, 3072]⟩
abbrev S64 : Shape := ⟨1, ![64]⟩
abbrev S4096x512 : Shape := ⟨2, ![4096, 512]⟩
abbrev S1x1x64 : Shape := ⟨3, ![1, 1, 64]⟩
abbrev S8x1x64 : Shape := ⟨3, ![8, 1, 64]⟩
abbrev S4096x8x64 : Shape := ⟨3, ![4096, 8, 64]⟩
abbrev S8x4096x64 : Shape := ⟨3, ![8, 4096, 64]⟩
abbrev S_ : Shape := ⟨0, ![]⟩
abbrev S8x4096 : Shape := ⟨2, ![8, 4096]⟩
abbrev S8x4096x1 : Shape := ⟨3, ![8, 4096, 1]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 190
  | .vmem => 0
  | .smem => 0
  | _ => 0

abbrev hbmTy0_0 (i : Nat) : BufTy := match i % 128 with
  | 0 => ⟨S4096x3072, .f32⟩
  | 1 => ⟨S64, .f32⟩
  | 2 => ⟨S64, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S1x1x64, .f32⟩
  | 10 => ⟨S8x1x64, .f32⟩
  | 11 => ⟨S1x1x64, .f32⟩
  | 12 => ⟨S8x1x64, .f32⟩
  | 13 => ⟨S4096x8x64, .f32⟩
  | 14 => ⟨S8x4096x64, .f32⟩
  | 15 => ⟨S8x4096x64, .f32⟩
  | 16 => ⟨S_, .f32⟩
  | 17 => ⟨S8x4096, .f32⟩
  | 18 => ⟨S8x4096x1, .f32⟩
  | 19 => ⟨S_, .f32⟩
  | 20 => ⟨S8x4096x1, .f32⟩
  | 21 => ⟨S8x4096x1, .f32⟩
  | 22 => ⟨S_, .f32⟩
  | 23 => ⟨S8x4096x1, .f32⟩
  | 24 => ⟨S8x4096x1, .f32⟩
  | 25 => ⟨S8x4096x1, .f32⟩
  | 26 => ⟨S8x4096x64, .f32⟩
  | 27 => ⟨S8x4096x64, .f32⟩
  | 28 => ⟨S8x4096x64, .f32⟩
  | 29 => ⟨S8x4096x64, .f32⟩
  | 30 => ⟨S4096x8x64, .f32⟩
  | 31 => ⟨S8x4096x64, .f32⟩
  | 32 => ⟨S8x4096x64, .f32⟩
  | 33 => ⟨S_, .f32⟩
  | 34 => ⟨S8x4096, .f32⟩
  | 35 => ⟨S8x4096x1, .f32⟩
  | 36 => ⟨S_, .f32⟩
  | 37 => ⟨S8x4096x1, .f32⟩
  | 38 => ⟨S8x4096x1, .f32⟩
  | 39 => ⟨S_, .f32⟩
  | 40 => ⟨S8x4096x1, .f32⟩
  | 41 => ⟨S8x4096x1, .f32⟩
  | 42 => ⟨S8x4096x1, .f32⟩
  | 43 => ⟨S8x4096x64, .f32⟩
  | 44 => ⟨S8x4096x64, .f32⟩
  | 45 => ⟨S8x4096x64, .f32⟩
  | 46 => ⟨S8x4096x64, .f32⟩
  | 47 => ⟨S4096x8x64, .f32⟩
  | 48 => ⟨S8x4096x64, .f32⟩
  | 49 => ⟨S8x4096x4096, .f32⟩
  | 50 => ⟨S_, .f32⟩
  | 51 => ⟨S8x4096x4096, .f32⟩
  | 52 => ⟨S8x4096x4096, .f32⟩
  | 53 => ⟨S4096, .i32⟩
  | 54 => ⟨S1x4096, .i32⟩
  | 55 => ⟨S4096, .i32⟩
  | 56 => ⟨S4096x1, .i32⟩
  | 57 => ⟨S4096x4096, .i32⟩
  | 58 => ⟨S4096x4096, .i32⟩
  | 59 => ⟨S4096x4096, .i1⟩
  | 60 => ⟨S8x4096x4096, .f32⟩
  | 61 => ⟨S8x4096x4096, .f32⟩
  | 62 => ⟨S_, .f32⟩
  | 63 => ⟨S8x4096x4096, .f32⟩
  | 64 => ⟨S8x4096x4096, .f32⟩
  | 65 => ⟨S8x4096x4096, .f32⟩
  | 66 => ⟨S8x4096x4096, .f32⟩
  | 67 => ⟨S8x4096x4096, .i1⟩
  | 68 => ⟨S8x4096x4096, .f32⟩
  | 69 => ⟨S8x4096x4096, .f32⟩
  | 70 => ⟨S8x4096x4096, .f32⟩
  | 71 => ⟨S8x4096x4096, .f32⟩
  | 72 => ⟨S8x4096x4096, .f32⟩
  | 73 => ⟨S8x4096x4096, .f32⟩
  | 74 => ⟨S8x4096x4096, .f32⟩
  | 75 => ⟨S8x4096x4096, .f32⟩
  | 76 => ⟨S8x4096x4096, .f32⟩
  | 77 => ⟨S_, .f32⟩
  | 78 => ⟨S_, .f32⟩
  | 79 => ⟨S8x4096x4096, .i1⟩
  | 80 => ⟨S8x4096x4096, .f32⟩
  | 81 => ⟨S8x4096x4096, .f32⟩
  | 82 => ⟨S_, .f32⟩
  | 83 => ⟨S_, .f32⟩
  | 84 => ⟨S8x4096x4096, .f32⟩
  | 85 => ⟨S8x4096x4096, .f32⟩
  | 86 => ⟨S8x4096x4096, .f32⟩
  | 87 => ⟨S_, .f32⟩
  | 88 => ⟨S8x4096x4096, .f32⟩
  | 89 => ⟨S8x4096x4096, .f32⟩
  | 90 => ⟨S8x4096x4096, .f32⟩
  | 91 => ⟨S8x4096x4096, .f32⟩
  | 92 => ⟨S8x4096x4096, .i1⟩
  | 93 => ⟨S8x4096x4096, .f32⟩
  | 94 => ⟨S8x4096x4096, .f32⟩
  | 95 => ⟨S8x4096x4096, .f32⟩
  | 96 => ⟨S8x4096x4096, .f32⟩
  | 97 => ⟨S8x4096x4096, .f32⟩
  | 98 => ⟨S8x4096x4096, .f32⟩
  | 99 => ⟨S8x4096x4096, .f32⟩
  | 100 => ⟨S8x4096x4096, .f32⟩
  | 101 => ⟨S8x4096x4096, .f32⟩
  | 102 => ⟨S8x4096x4096, .f32⟩
  | 103 => ⟨S8x4096x4096, .f32⟩
  | 104 => ⟨S_, .f32⟩
  | 105 => ⟨S_, .f32⟩
  | 106 => ⟨S8x4096x4096, .i1⟩
  | 107 => ⟨S8x4096x4096, .f32⟩
  | 108 => ⟨S8x4096x4096, .f32⟩
  | 109 => ⟨S8x4096x64, .f32⟩
  | 110 => ⟨S4096x8x64, .f32⟩
  | 111 => ⟨S4096x512, .f32⟩
  | 112 => ⟨S4096x512, .f32⟩
  | 113 => ⟨S4096x512, .f32⟩
  | 114 => ⟨S4096x512, .f32⟩
  | 115 => ⟨S4096x512, .f32⟩
  | 116 => ⟨S4096x512, .f32⟩
  | 117 => ⟨S4096x512, .f32⟩
  | 118 => ⟨S4096x8x64, .f32⟩
  | 119 => ⟨S8x4096x64, .f32⟩
  | 120 => ⟨S8x4096x64, .f32⟩
  | 121 => ⟨S_, .f32⟩
  | 122 => ⟨S8x4096, .f32⟩
  | 123 => ⟨S8x4096x1, .f32⟩
  | 124 => ⟨S_, .f32⟩
  | 125 => ⟨S8x4096x1, .f32⟩
  | 126 => ⟨S8x4096x1, .f32⟩
  | 127 => ⟨S_, .f32⟩
  | _ => ⟨S4096x3072, .f32⟩

abbrev hbmTy0_1 (i : Nat) : BufTy := match i % 128 with
  | 0 => ⟨S8x4096x1, .f32⟩
  | 1 => ⟨S8x4096x1, .f32⟩
  | 2 => ⟨S8x4096x1, .f32⟩
  | 3 => ⟨S8x4096x64, .f32⟩
  | 4 => ⟨S8x4096x64, .f32⟩
  | 5 => ⟨S1x1x64, .f32⟩
  | 6 => ⟨S8x4096x64, .f32⟩
  | 7 => ⟨S8x4096x64, .f32⟩
  | 8 => ⟨S4096x8x64, .f32⟩
  | 9 => ⟨S8x4096x64, .f32⟩
  | 10 => ⟨S8x4096x64, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x64, .f32⟩
  | 22 => ⟨S8x4096x64, .f32⟩
  | 23 => ⟨S1x1x64, .f32⟩
  | 24 => ⟨S8x4096x64, .f32⟩
  | 25 => ⟨S8x4096x64, .f32⟩
  | 26 => ⟨S8x4096x4096, .f32⟩
  | 27 => ⟨S_, .f32⟩
  | 28 => ⟨S8x4096x4096, .f32⟩
  | 29 => ⟨S8x4096x4096, .f32⟩
  | 30 => ⟨S4096, .i32⟩
  | 31 => ⟨S1x4096, .i32⟩
  | 32 => ⟨S4096, .i32⟩
  | 33 => ⟨S4096x1, .i32⟩
  | 34 => ⟨S4096x4096, .i32⟩
  | 35 => ⟨S4096x4096, .i32⟩
  | 36 => ⟨S4096x4096, .i1⟩
  | 37 => ⟨S8x4096x4096, .f32⟩
  | 38 => ⟨S8x4096x4096, .f32⟩
  | 39 => ⟨S_, .f32⟩
  | 40 => ⟨S8x4096x4096, .f32⟩
  | 41 => ⟨S8x4096x4096, .f32⟩
  | 42 => ⟨S8x4096x4096, .f32⟩
  | 43 => ⟨S8x4096x4096, .f32⟩
  | 44 => ⟨S8x4096x4096, .i1⟩
  | 45 => ⟨S8x4096x4096, .f32⟩
  | 46 => ⟨S8x4096x4096, .f32⟩
  | 47 => ⟨S8x4096x4096, .f32⟩
  | 48 => ⟨S8x4096x4096, .f32⟩
  | 49 => ⟨S8x4096x4096, .f32⟩
  | 50 => ⟨S8x4096x4096, .f32⟩
  | 51 => ⟨S8x4096x4096, .f32⟩
  | 52 => ⟨S8x4096x4096, .f32⟩
  | 53 => ⟨S8x4096x4096, .f32⟩
  | 54 => ⟨S_, .f32⟩
  | 55 => ⟨S_, .f32⟩
  | 56 => ⟨S8x4096x4096, .i1⟩
  | 57 => ⟨S8x4096x4096, .f32⟩
  | 58 => ⟨S8x4096x4096, .f32⟩
  | 59 => ⟨S_, .f32⟩
  | 60 => ⟨S8x4096, .f32⟩
  | 61 => ⟨S8x4096x1, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_call0_v0 : Ref sig .tc := ⟨.hbm, 61, rfl⟩
abbrev main_call0_call0_cst : Ref sig .tc := ⟨.hbm, 62, rfl⟩
abbrev main_call0_call0_v0 : Ref sig .tc := ⟨.hbm, 63, rfl⟩
abbrev main_call0_call0_v1 : Ref sig .tc := ⟨.hbm, 64, rfl⟩
abbrev main_call0_call0_v2 : Ref sig .tc := ⟨.hbm, 65, rfl⟩
abbrev main_call0_call0_v3 : Ref sig .tc := ⟨.hbm, 66, rfl⟩
abbrev main_call0_call0_v4 : Ref sig .tc := ⟨.hbm, 67, rfl⟩
abbrev main_call0_call0_v5 : Ref sig .tc := ⟨.hbm, 68, rfl⟩
abbrev main_call0_call0_v6 : Ref sig .tc := ⟨.hbm, 69, rfl⟩
abbrev main_call0_call0_v7 : Ref sig .tc := ⟨.hbm, 70, rfl⟩
abbrev main_call0_call0_v8 : Ref sig .tc := ⟨.hbm, 71, rfl⟩
abbrev main_call0_call0_v9 : Ref sig .tc := ⟨.hbm, 72, rfl⟩
abbrev main_call0_call0_v10 : Ref sig .tc := ⟨.hbm, 73, rfl⟩
abbrev main_call0_call0_v11 : Ref sig .tc := ⟨.hbm, 74, rfl⟩
abbrev main_call0_v1 : Ref sig .tc := ⟨.hbm, 75, rfl⟩
abbrev main_v51 : Ref sig .tc := ⟨.hbm, 76, rfl⟩
abbrev main_cst_6 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v52 : Ref sig .tc := ⟨.hbm, 81, rfl⟩
abbrev main_call2_cst : Ref sig .tc := ⟨.hbm, 82, rfl⟩
abbrev main_call2_v0 : Ref sig .tc := ⟨.hbm, 83, rfl⟩
abbrev main_v53 : Ref sig .tc := ⟨.hbm, 84, rfl⟩
abbrev main_v54 : Ref sig .tc := ⟨.hbm, 85, rfl⟩
abbrev main_call3_v0 : Ref sig .tc := ⟨.hbm, 86, rfl⟩
abbrev main_call3_call0_cst : Ref sig .tc := ⟨.hbm, 87, rfl⟩
abbrev main_call3_call0_v0 : Ref sig .tc := ⟨.hbm, 88, rfl⟩
abbrev main_call3_call0_v1 : Ref sig .tc := ⟨.hbm, 89, rfl⟩
abbrev main_call3_call0_v2 : Ref sig .tc := ⟨.hbm, 90, rfl⟩
abbrev main_call3_call0_v3 : Ref sig .tc := ⟨.hbm, 91, rfl⟩
abbrev main_call3_call0_v4 : Ref sig .tc := ⟨.hbm, 92, rfl⟩
abbrev main_call3_call0_v5 : Ref sig .tc := ⟨.hbm, 93, rfl⟩
abbrev main_call3_call0_v6 : Ref sig .tc := ⟨.hbm, 94, rfl⟩
abbrev main_call3_call0_v7 : Ref sig .tc := ⟨.hbm, 95, rfl⟩
abbrev main_call3_call0_v8 : Ref sig .tc := ⟨.hbm, 96, rfl⟩
abbrev main_call3_call0_v9 : Ref sig .tc := ⟨.hbm, 97, rfl⟩
abbrev main_call3_call0_v10 : Ref sig .tc := ⟨.hbm, 98, rfl⟩
abbrev main_call3_call0_v11 : Ref sig .tc := ⟨.hbm, 99, rfl⟩
abbrev main_call3_v1 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_7 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_8 : Ref sig .tc := ⟨.hbm, 121, rfl⟩
abbrev main_v71 : Ref sig .tc := ⟨.hbm, 122, rfl⟩
abbrev main_v72 : Ref sig .tc := ⟨.hbm, 123, rfl⟩
abbrev main_cst_9 : Ref sig .tc := ⟨.hbm, 124, rfl⟩
abbrev main_v73 : Ref sig .tc := ⟨.hbm, 125, rfl⟩
abbrev main_v74 : Ref sig .tc := ⟨.hbm, 126, rfl⟩
abbrev main_cst_10 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst_11 : Ref sig .tc := ⟨.hbm, 139, rfl⟩
abbrev main_v86 : Ref sig .tc := ⟨.hbm, 140, rfl⟩
abbrev main_v87 : Ref sig .tc := ⟨.hbm, 141, rfl⟩
abbrev main_cst_12 : Ref sig .tc := ⟨.hbm, 142, rfl⟩
abbrev main_v88 : Ref sig .tc := ⟨.hbm, 143, rfl⟩
abbrev main_v89 : Ref sig .tc := ⟨.hbm, 144, rfl⟩
abbrev main_cst_13 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_14 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_call5_v0 : Ref sig .tc := ⟨.hbm, 166, rfl⟩
abbrev main_call5_call0_cst : Ref sig .tc := ⟨.hbm, 167, rfl⟩
abbrev main_call5_call0_v0 : Ref sig .tc := ⟨.hbm, 168, rfl⟩
abbrev main_call5_call0_v1 : Ref sig .tc := ⟨.hbm, 169, rfl⟩
abbrev main_call5_call0_v2 : Ref sig .tc := ⟨.hbm, 170, rfl⟩
abbrev main_call5_call0_v3 : Ref sig .tc := ⟨.hbm, 171, rfl⟩
abbrev main_call5_call0_v4 : Ref sig .tc := ⟨.hbm, 172, rfl⟩
abbrev main_call5_call0_v5 : Ref sig .tc := ⟨.hbm, 173, rfl⟩
abbrev main_call5_call0_v6 : Ref sig .tc := ⟨.hbm, 174, rfl⟩
abbrev main_call5_call0_v7 : Ref sig .tc := ⟨.hbm, 175, rfl⟩
abbrev main_call5_call0_v8 : Ref sig .tc := ⟨.hbm, 176, rfl⟩
abbrev main_call5_call0_v9 : Ref sig .tc := ⟨.hbm, 177, rfl⟩
abbrev main_call5_call0_v10 : Ref sig .tc := ⟨.hbm, 178, rfl⟩
abbrev main_call5_call0_v11 : Ref sig .tc := ⟨.hbm, 179, rfl⟩
abbrev main_call5_v1 : Ref sig .tc := ⟨.hbm, 180, rfl⟩
abbrev main_v109 : Ref sig .tc := ⟨.hbm, 181, rfl⟩
abbrev main_cst_15 : Ref sig .tc := ⟨.hbm, 182, rfl⟩
abbrev main_call6_v0 : Ref sig .tc := ⟨.hbm, 183, rfl⟩
abbrev main_call6_v1 : Ref sig .tc := ⟨.hbm, 184, rfl⟩
abbrev main_call6_v2 : Ref sig .tc := ⟨.hbm, 185, rfl⟩
abbrev main_v110 : Ref sig .tc := ⟨.hbm, 186, rfl⟩
abbrev main_cst_16 : Ref sig .tc := ⟨.hbm, 187, rfl⟩
abbrev main_v111 : Ref sig .tc := ⟨.hbm, 188, rfl⟩
abbrev main_v112 : Ref sig .tc := ⟨.hbm, 189, rfl⟩

abbrev nD : Nat := 1
abbrev τ : Topo := Topo.v7x

variable {F : FTy → Type} [FloatOps F]
-- ==== InProj.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjPlainIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DIn.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1024, .bf16⟩
  | .hbm, ⟨4, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInPlainIdeal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S3072x1024, .f32⟩
  | .hbm, ⟨5, _⟩ => ⟨S1024x3072, .f32⟩
  | .hbm, ⟨6, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Glu.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x512, .bf16⟩
  | .hbm, ⟨3, _⟩ => ⟨S512x1024, .bf16⟩
  | .hbm, ⟨4, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluPlainIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleProj.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S256x1024, .bf16⟩
  | .hbm, ⟨3, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjPlainIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DPleGate.lean ====
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DPleGatePlainIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DPleProj.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .bf16⟩
  | .hbm, ⟨4, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DPleProjPlainIdeal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .f32⟩
  | .hbm, ⟨4, _⟩ => ⟨S1024x256, .f32⟩
  | .hbm, ⟨5, _⟩ => ⟨S256x1024, .f32⟩
  | .hbm, ⟨6, _⟩ => ⟨S256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DOut.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DOutPlainIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DGlu.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .bf16⟩
  | .hbm, ⟨4, _⟩ => ⟨S4096x1024, .bf16⟩
  | .hbm, ⟨5, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DGluPlainIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DYcat.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYcatPlainIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DZ.lean ====
abbrev S4096x512 : Shape := ⟨2, ![4096, 512]⟩
abbrev S512x1024 : Shape := ⟨2, ![512, 1024]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .bf16⟩
  | .hbm, ⟨4, _⟩ => ⟨S512x1024, .bf16⟩
  | .hbm, ⟨5, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DZPlainIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== PleGate.lean ====
abbrev S4096x1024 : Shape := ⟨2, ![4096, 1024]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== PleGatePlainIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== MixOutPlainIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== DHn2.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DHn2PlainIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== DHn.lean ====
abbrev S4096x3072 : Shape := ⟨2, ![4096, 3072]⟩
abbrev S1024x3072 : Shape := ⟨2, ![1024, 3072]⟩
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x3072, .bf16⟩
  | .hbm, ⟨6, _⟩ => ⟨S1x1024, .f32⟩
  | .hbm, ⟨7, _⟩ => ⟨S4096x1024, .f32⟩
  | .hbm, ⟨8, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_23 : BitVec 32 := 0#32
  let v49 : BitVec 1 := Scalar.cmpi .eq arg0 c0_i32_23
  let v50 : BitVec 32 := Scalar.extui v49
  let c0_i32_24 : BitVec 32 := 0#32
  let v51 : BitVec 1 := Scalar.cmpi .ne v50 c0_i32_24
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DHnPlainIdeal.lean ====
abbrev S4096x3072 : Shape := ⟨2, ![4096, 3072]⟩
abbrev S1024x3072 : Shape := ⟨2, ![1024, 3072]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.Body.lean ====
/-
  Hand-written, untrusted. The body of the attention backward kernel, run once for each of its three control cases over a
  symbolic grid point, at any value instance: the first query block of a head pair (the normalised keys are stored and
  the accumulators cleared), a middle one, and the last one (the key and value gradients are written out).
  Each run names what it leaves in every buffer it writes .
-/
module

public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer on core `c`, held whole at the contents `f`. -/
abbrev pt (c : Dev nD) {S : Shape} {e : EltTy} (M : Memref sig .tc .vmem S e) (f : BufTy.Contents (Elt F) M.view.ty) : sProp 𝕄 :=
  M.view.loc (c : Thread nD τ) ↦[M.view.set]{fullShare} f

variable (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S128x4096 .f32) (harg16 : arg16.IsWhole) (arg17 : Memref sig .tc .vmem S128x4096 .f32) (harg17 : arg17.IsWhole)

/-- Every buffer that the body is handed, each at its contents. -/
abbrev AllPt (c : Dev nD) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) : sProp 𝕄 :=
  iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17)

/-- The body at the first query block of a head pair: what it leaves in each buffer that it writes, and the run. -/
@[irreducible] def runA (𝒱 : Variants) (c : Dev nD) (bd : Option 𝒱.V) (i : grid0.Coords) (h1 : k0_cond1 i = 1#1) (h2 : ¬ k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    Σ' (G9 : BufTy.Contents (Elt F) arg9.view.ty) (G12 : BufTy.Contents (Elt F) arg12.view.ty) (G14 : BufTy.Contents (Elt F) arg14.view.ty) (G15 : BufTy.Contents (Elt F) arg15.view.ty) (G16 : BufTy.Contents (Elt F) arg16.view.ty), { G17 : BufTy.Contents (Elt F) arg17.view.ty // ∀ E : Set ℕ,
      AllPt arg2 arg3 arg4 arg5 arg6 arg7 arg8 arg9 arg10 arg11 arg12 arg13 arg14 arg15 arg16 arg17 c f2 f3 f4 f5 f6 f7 f8 f9 f10 f11 f12 f13 f14 f15 f16 f17
      ⊢ wp frame (wpE (defs₀ (F := F)) 𝒱 (c : Thread nD τ) bd) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => AllPt arg2 arg3 arg4 arg5 arg6 arg7 arg8 arg9 arg10 arg11 arg12 arg13 arg14 arg15 arg16 arg17 c f2 f3 f4 f5 f6 f7 f8 G9 f10 f11 G12 f13 G14 G15 G16 G17) } := by
  refine ⟨?_, ?_, ?_, ?_, ?_, ?_, fun E => ?run⟩
  case run =>
    simp only [cc0_attn_bwd_eq_skeleton]; unfold cc0_attn_bwd_skel
    iintro ⟨H2, H3, H4, H5, H6, H7, H8, H9, H10, H11, H12, H13, H14, H15, H16, H17⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

/-- The body at a middle query block: what it leaves in each buffer that it writes, and the run. -/
@[irreducible] def runM (𝒱 : Variants) (c : Dev nD) (bd : Option 𝒱.V) (i : grid0.Coords) (h1 : ¬ k0_cond1 i = 1#1) (h2 : ¬ k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    Σ' (G9 : BufTy.Contents (Elt F) arg9.view.ty) (G12 : BufTy.Contents (Elt F) arg12.view.ty) (G16 : BufTy.Contents (Elt F) arg16.view.ty), { G17 : BufTy.Contents (Elt F) arg17.view.ty // ∀ E : Set ℕ,
      AllPt arg2 arg3 arg4 arg5 arg6 arg7 arg8 arg9 arg10 arg11 arg12 arg13 arg14 arg15 arg16 arg17 c f2 f3 f4 f5 f6 f7 f8 f9 f10 f11 f12 f13 f14 f15 f16 f17
      ⊢ wp frame (wpE (defs₀ (F := F)) 𝒱 (c : Thread nD τ) bd) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => AllPt arg2 arg3 arg4 arg5 arg6 arg7 arg8 arg9 arg10 arg11 arg12 arg13 arg14 arg15 arg16 arg17 c f2 f3 f4 f5 f6 f7 f8 G9 f10 f11 G12 f13 f14 f15 G16 G17) } := by
  refine ⟨?_, ?_, ?_, ?_, fun E => ?run⟩
  case run =>
    simp only [cc0_attn_bwd_eq_skeleton]; unfold cc0_attn_bwd_skel
    iintro ⟨H2, H3, H4, H5, H6, H7, H8, H9, H10, H11, H12, H13, H14, H15, H16, H17⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

/-- The body at the last query block of a head pair: what it leaves in each buffer that it writes, and the run. -/
@[irreducible] def runZ (𝒱 : Variants) (c : Dev nD) (bd : Option 𝒱.V) (i : grid0.Coords) (h1 : ¬ k0_cond1 i = 1#1) (h2 : k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    Σ' (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G16 : BufTy.Contents (Elt F) arg16.view.ty), { G17 : BufTy.Contents (Elt F) arg17.view.ty // ∀ E : Set ℕ,
      AllPt arg2 arg3 arg4 arg5 arg6 arg7 arg8 arg9 arg10 arg11 arg12 arg13 arg14 arg15 arg16 arg17 c f2 f3 f4 f5 f6 f7 f8 f9 f10 f11 f12 f13 f14 f15 f16 f17
      ⊢ wp frame (wpE (defs₀ (F := F)) 𝒱 (c : Thread nD τ) bd) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => AllPt arg2 arg3 arg4 arg5 arg6 arg7 arg8 arg9 arg10 arg11 arg12 arg13 arg14 arg15 arg16 arg17 c f2 f3 f4 f5 f6 f7 f8 G9 G10 G11 G12 G13 f14 f15 G16 G17) } := by
  refine ⟨?_, ?_, ?_, ?_, ?_, ?_, ?_, fun E => ?run⟩
  case run =>
    simp only [cc0_attn_bwd_eq_skeleton]; unfold cc0_attn_bwd_skel
    iintro ⟨H2, H3, H4, H5, H6, H7, H8, H9, H10, H11, H12, H13, H14, H15, H16, H17⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.KernelIdeal.Hand
end
-- ==== Proof.Rel.lean ====
/-
  Hand-written, untrusted. The launch of the attention backward kernel: the three runs of its body put together into one relation between
  what a grid point finds and what it leaves, the scratch carried from point to point by that relation, and the
  run of the whole program to it, from which the frames are read.
-/
module

public import proofs.«01_k».proof.Proof.Body

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (UR sig nD τ) ℕ

section

variable (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S128x4096 .f32) (harg16 : arg16.IsWhole) (arg17 : Memref sig .tc .vmem S128x4096 .f32) (harg17 : arg17.IsWhole)

/-- What the body run at the coordinates `i` leaves (`g`) where it found `f`: the words of the run of its case; a buffer that the
    case does not write is left as it was. -/
def BodyRel (c : Dev nD) (i : grid0.Coords) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) : Prop :=
  (∃ (h1 : k0_cond1 i = 1#1) (h2 : ¬ k0_cond2 i = 1#1),
    g9 = (runA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).1
    ∧ g10 = f10
    ∧ g11 = f11
    ∧ g12 = (runA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.1
    ∧ g13 = f13
    ∧ g14 = (runA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.1
    ∧ g15 = (runA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.1
    ∧ g16 = (runA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.2.1
    ∧ g17 = (runA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.2.2.1)
  ∨ (∃ (h1 : ¬ k0_cond1 i = 1#1) (h2 : ¬ k0_cond2 i = 1#1),
    g9 = (runM arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).1
    ∧ g10 = f10
    ∧ g11 = f11
    ∧ g12 = (runM arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.1
    ∧ g13 = f13
    ∧ g14 = f14
    ∧ g15 = f15
    ∧ g16 = (runM arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.1
    ∧ g17 = (runM arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.1)
  ∨ (∃ (h1 : ¬ k0_cond1 i = 1#1) (h2 : k0_cond2 i = 1#1),
    g9 = (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).1
    ∧ g10 = (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.1
    ∧ g11 = (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.1
    ∧ g12 = (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.1
    ∧ g13 = (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.2.1
    ∧ g14 = f14
    ∧ g15 = f15
    ∧ g16 = (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.2.2.1
    ∧ g17 = (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.2.2.2.1)

/-- The body at any coordinates runs to what the relation `BodyRel` says. The two conditions are never both met. -/
theorem run_all (c : Dev nD) (i : grid0.Coords) (hx : ¬ (k0_cond1 i = 1#1 ∧ k0_cond2 i = 1#1)) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (E : Set ℕ) :
    AllPt arg2 arg3 arg4 arg5 arg6 arg7 arg8 arg9 arg10 arg11 arg12 arg13 arg14 arg15 arg16 arg17 c f2 f3 f4 f5 f6 f7 f8 f9 f10 f11 f12 f13 f14 f15 f16 f17
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(∃ g9 g10 g11 g12 g13 g14 g15 g16 g17, ⌜BodyRel arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i f2 f3 f4 f5 f6 f7 f8 f9 f10 f11 f12 f13 f14 f15 f16 f17 g9 g10 g11 g12 g13 g14 g15 g16 g17⌝ ∗ AllPt arg2 arg3 arg4 arg5 arg6 arg7 arg8 arg9 arg10 arg11 arg12 arg13 arg14 arg15 arg16 arg17 c f2 f3 f4 f5 f6 f7 f8 g9 g10 g11 g12 g13 g14 g15 g16 g17)) := by
  by_cases h1 : k0_cond1 i = 1#1
  · have h2 : ¬ k0_cond2 i = 1#1 := fun h => hx ⟨h1, h⟩
    refine ((runA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.2.2.2 E).trans (Idealize.SL.Sem.wp_mono _ _ _ (fun _ => ?_))
    iintro H
    iexists (runA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).1, f10, f11, (runA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.1, f13, (runA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.1, (runA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.1, (runA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.2.1, (runA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.2.2.1
    isplitr; swap; · iexact H
    ipureintro
    exact Or.inl ⟨h1, h2, rfl, rfl, rfl, rfl, rfl, rfl, rfl, rfl, rfl⟩
  by_cases h2 : k0_cond2 i = 1#1
  · refine ((runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.2.2.2.2 E).trans (Idealize.SL.Sem.wp_mono _ _ _ (fun _ => ?_))
    iintro H
    iexists (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).1, (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.1, (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.1, (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.1, (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.2.1, f14, f15, (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.2.2.1, (runZ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.2.2.2.1
    isplitr; swap; · iexact H
    ipureintro
    exact Or.inr (Or.inr ⟨h1, h2, rfl, rfl, rfl, rfl, rfl, rfl, rfl, rfl, rfl⟩)
  · refine ((runM arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.2 E).trans (Idealize.SL.Sem.wp_mono _ _ _ (fun _ => ?_))
    iintro H
    iexists (runM arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).1, f10, f11, (runM arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.1, f13, f14, f15, (runM arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.1, (runM arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i h1 h2 f2 f3 f4 f5 f6 f7 f8 f9 f10 f11 f12 f13 f14 f15 f16 f17).2.2.2.1
    isplitr; swap; · iexact H
    ipureintro
    exact Or.inr (Or.inl ⟨h1, h2, rfl, rfl, rfl, rfl, rfl, rfl, rfl, rfl, rfl⟩)

end

end Cert.KernelIdeal.Hand
end
-- ==== Proof.Run.lean ====
/-
  Hand-written, untrusted. The launch of the attention backward kernel: relational proof data. Before point `t` the four scratch buffers hold
  something that the chain of the points so far may have left in them (`Inv`), and an output window's buffer is left at what
  the body leaves there when it is handed the point's blocks and such scratch (`Point`). From it the run of the whole
  program, at any value instance, and both frames' reading of it.
-/
module

public import proofs.«01_k».proof.Proof.Rel

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the four scratch buffers: the normalised keys, the values, and the two accumulators. -/
structure Scr (F : FTy → Type) where
  s14 : BufTy.Contents (Elt F) (Memref.whole (sig := sig) (κ := .tc) cc0_scratch0).view.ty
  s15 : BufTy.Contents (Elt F) (Memref.whole (sig := sig) (κ := .tc) cc0_scratch1).view.ty
  s16 : BufTy.Contents (Elt F) (Memref.whole (sig := sig) (κ := .tc) cc0_scratch2).view.ty
  s17 : BufTy.Contents (Elt F) (Memref.whole (sig := sig) (κ := .tc) cc0_scratch3).view.ty

/-- The contents of every window's block. -/
abbrev Blocks (F : FTy → Type) : Type := (w : Fin cfg0.W) → (cfg0.win w).block.Idx → Elt F (cfg0.win w).elt

/-- At point `t`, from the windows' contents `Y` and the scratch `s`, the body may leave the windows at `X` and the scratch at `s'`. -/
def Point (c : Dev nD) (t : Fin cfg0.N) (Y : Blocks F) (s : Scr F) (X : Blocks F) (s' : Scr F) : Prop :=
  ∃ (f2 : BufTy.Contents (Elt F) (st0_0 t).view.ty) (f3 : BufTy.Contents (Elt F) (st0_1 t).view.ty) (f4 : BufTy.Contents (Elt F) (st0_2 t).view.ty) (f5 : BufTy.Contents (Elt F) (st0_3 t).view.ty) (f6 : BufTy.Contents (Elt F) (st0_4 t).view.ty) (f7 : BufTy.Contents (Elt F) (st0_5 t).view.ty) (f8 : BufTy.Contents (Elt F) (st0_6 t).view.ty) (f9 : BufTy.Contents (Elt F) (st0_7 t).view.ty) (f10 : BufTy.Contents (Elt F) (st0_8 t).view.ty) (f11 : BufTy.Contents (Elt F) (st0_9 t).view.ty) (f12 : BufTy.Contents (Elt F) (st0_10 t).view.ty) (f13 : BufTy.Contents (Elt F) (st0_11 t).view.ty)
    (g9 : BufTy.Contents (Elt F) (st0_7 t).view.ty) (g10 : BufTy.Contents (Elt F) (st0_8 t).view.ty) (g11 : BufTy.Contents (Elt F) (st0_9 t).view.ty) (g12 : BufTy.Contents (Elt F) (st0_10 t).view.ty) (g13 : BufTy.Contents (Elt F) (st0_11 t).view.ty),
    (st0_0 t).view.read (Elt F) f2 = Y 0 ∧
    (st0_1 t).view.read (Elt F) f3 = Y 1 ∧
    (st0_2 t).view.read (Elt F) f4 = Y 2 ∧
    (st0_3 t).view.read (Elt F) f5 = Y 3 ∧
    (st0_4 t).view.read (Elt F) f6 = Y 4 ∧
    (st0_5 t).view.read (Elt F) f7 = Y 5 ∧
    (st0_6 t).view.read (Elt F) f8 = Y 6 ∧
    (st0_7 t).view.read (Elt F) f9 = Y 7 ∧
    (st0_8 t).view.read (Elt F) f10 = Y 8 ∧
    (st0_9 t).view.read (Elt F) f11 = Y 9 ∧
    (st0_10 t).view.read (Elt F) f12 = Y 10 ∧
    (st0_11 t).view.read (Elt F) f13 = Y 11 ∧
    (st0_7 t).view.read (Elt F) g9 = X 7 ∧
    (st0_8 t).view.read (Elt F) g10 = X 8 ∧
    (st0_9 t).view.read (Elt F) g11 = X 9 ∧
    (st0_10 t).view.read (Elt F) g12 = X 10 ∧
    (st0_11 t).view.read (Elt F) g13 = X 11 ∧
    BodyRel (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) c (grid0.coords t) f2 f3 f4 f5 f6 f7 f8 f9 f10 f11 f12 f13 s.s14 s.s15 s.s16 s.s17 g9 g10 g11 g12 g13 s'.s14 s'.s15 s'.s16 s'.s17

/-- The input windows hold their blocks of the arrays as the region finds them. -/
def InBlocks (c : Dev nD) (t : Fin cfg0.N) (Y : Blocks F) : Prop :=
  Y 0 = iblk m c 0 t ∧ Y 1 = iblk m c 1 t ∧ Y 2 = iblk m c 2 t ∧ Y 3 = iblk m c 3 t ∧ Y 4 = iblk m c 4 t ∧ Y 5 = iblk m c 5 t ∧ Y 6 = iblk m c 6 t

/-- The scratch contents that the first `n` points may leave. -/
def Inv (c : Dev nD) : ℕ → Scr F → Prop
  | 0, _ => True
  | n + 1, s' => ∃ (h : n < cfg0.N) (Y : Blocks F) (s : Scr F) (X : Blocks F),
      InBlocks m c ⟨n, h⟩ Y ∧ Inv c n s ∧ Point c ⟨n, h⟩ Y s X s'

/-- What the body may leave in window `w`, found at `Y`: an input is left as found. -/
def After (c : Dev nD) (w : Fin cfg0.W) (t : Fin cfg0.N) (Y X : (cfg0.win w).block.Idx → Elt F (cfg0.win w).elt) : Prop :=
  (w.val < 7 → X = Y) ∧ (7 ≤ w.val → ∃ (Y' : Blocks F) (s : Scr F) (X' : Blocks F) (s' : Scr F),
    InBlocks m c t Y' ∧ Inv m c t.val s ∧ Point c t Y' s X' s' ∧ Y' w = Y ∧ X' w = X)

/-- The scratch held at contents that the points before the `n`-th may leave, and the generator register. -/
def Phi (c : Dev nD) (n : ℕ) : sProp 𝕄 :=
  iprop((∃ s : Scr F, ⌜Inv m c n s⌝ ∗ pt c (Memref.whole cc0_scratch0) s.s14 ∗ pt c (Memref.whole cc0_scratch1) s.s15 ∗ pt c (Memref.whole cc0_scratch2) s.s16 ∗ pt c (Memref.whole cc0_scratch3) s.s17) ∗ ∃ r, prngReg c r)

/-- The proof data on core `c`. -/
def rdats (_ : Fin 1) (c : Dev nD) : RDat τ (Elt F) Unit ℕ (UR sig nD τ) ℕ cfg0 c where
  A w := V m c (Pipeline.arrRef spec0 w)
  after w t Y X := After m c w t Y X
  Φ t := Phi m c t.val
  q w := Pipeline.shareOf spec0 w
  owed _ := 0

theorem rA_eq (c : Dev nD) (w : Fin cfg0.W) : (rdats m 0 c).A w = V m c (Pipeline.arrRef spec0 w) := by dsimp only [rdats]

theorem scr_pt (c : Dev nD) (b : Ref sig .tc) (f : Buf (Elt F) ((c : Thread nD τ).loc b)) :
    ((c : Thread nD τ).loc b ↦{fullShare} f : sProp 𝕄) = ((Memref.whole b).view.loc (c : Thread nD τ) ↦[(Memref.whole b).view.set]{fullShare} f) := by
  simp only [View.set_whole]

theorem phi_in (c : Dev nD) : (Pipeline.ΦA spec0 c : sProp 𝕄) ⊢ Phi m c 0 := by
  unfold Pipeline.ΦA Phi
  rw [scopedRest0_eq]
  simp only [scr_pt]
  iintro ⟨⟨⟨%a, Ha⟩, ⟨%b, Hb⟩, ⟨%d, Hd⟩, ⟨%e, He⟩⟩, Hg⟩
  isplitl [Ha Hb Hd He]
  · iexists (⟨a, b, d, e⟩ : Scr F)
    isplitr; · ipureintro; exact trivial
    isplitl [Ha]; · iexact Ha
    isplitl [Hb]; · iexact Hb
    isplitl [Hd]; · iexact Hd
    iexact He
  iexact Hg

theorem phi_out (c : Dev nD) (n : ℕ) : Phi m c n ⊢ (Pipeline.ΦA spec0 c : sProp 𝕄) := by
  unfold Pipeline.ΦA Phi
  rw [scopedRest0_eq]
  simp only [scr_pt]
  iintro ⟨⟨%s, -, Ha, Hb, Hd, He⟩, Hg⟩
  isplitl [Ha Hb Hd He]
  · isplitl [Ha]; · iexists _; iexact Ha
    isplitl [Hb]; · iexists _; iexact Hb
    isplitl [Hd]; · iexists _; iexact Hd
    iexists _; iexact He
  iexact Hg

/-- The first and the last query block are different ones. -/
theorem cond_excl : ∀ t : Fin cfg0.N, ¬ (k0_cond1 (grid0.coords t) = 1#1 ∧ k0_cond2 (grid0.coords t) = 1#1) := by decide +kernel

theorem finds_in0 (c : Dev nD) (t : Fin cfg0.N) (Y : (cfg0.win 0).block.Idx → Elt F (cfg0.win 0).elt)
    (h : (rdats m 0 c).Finds 0 t Y) : Y = iblk m c 0 t := by
  obtain ⟨d, hd⟩ := (rdats m 0 c).finds_in_eq_fetched 0 rfl (fun _ _ _ => rfl) (fun t Y X h => h.1 (by decide)) t Y h
  rw [hd]; unfold RDat.fetched RDat.blockOf iblk; rw [rA_eq]; try rfl
theorem finds_in1 (c : Dev nD) (t : Fin cfg0.N) (Y : (cfg0.win 1).block.Idx → Elt F (cfg0.win 1).elt)
    (h : (rdats m 0 c).Finds 1 t Y) : Y = iblk m c 1 t := by
  obtain ⟨d, hd⟩ := (rdats m 0 c).finds_in_eq_fetched 1 rfl (fun _ _ _ => rfl) (fun t Y X h => h.1 (by decide)) t Y h
  rw [hd]; unfold RDat.fetched RDat.blockOf iblk; rw [rA_eq]; try rfl
theorem finds_in2 (c : Dev nD) (t : Fin cfg0.N) (Y : (cfg0.win 2).block.Idx → Elt F (cfg0.win 2).elt)
    (h : (rdats m 0 c).Finds 2 t Y) : Y = iblk m c 2 t := by
  obtain ⟨d, hd⟩ := (rdats m 0 c).finds_in_eq_fetched 2 rfl (fun _ _ _ => rfl) (fun t Y X h => h.1 (by decide)) t Y h
  rw [hd]; unfold RDat.fetched RDat.blockOf iblk; rw [rA_eq]; try rfl
theorem finds_in3 (c : Dev nD) (t : Fin cfg0.N) (Y : (cfg0.win 3).block.Idx → Elt F (cfg0.win 3).elt)
    (h : (rdats m 0 c).Finds 3 t Y) : Y = iblk m c 3 t := by
  obtain ⟨d, hd⟩ := (rdats m 0 c).finds_in_eq_fetched 3 rfl (fun _ _ _ => rfl) (fun t Y X h => h.1 (by decide)) t Y h
  rw [hd]; unfold RDat.fetched RDat.blockOf iblk; rw [rA_eq]; try rfl
theorem finds_in4 (c : Dev nD) (t : Fin cfg0.N) (Y : (cfg0.win 4).block.Idx → Elt F (cfg0.win 4).elt)
    (h : (rdats m 0 c).Finds 4 t Y) : Y = iblk m c 4 t := by
  obtain ⟨d, hd⟩ := (rdats m 0 c).finds_in_eq_fetched 4 rfl (fun _ _ _ => rfl) (fun t Y X h => h.1 (by decide)) t Y h
  rw [hd]; unfold RDat.fetched RDat.blockOf iblk; rw [rA_eq]; try rfl
theorem finds_in5 (c : Dev nD) (t : Fin cfg0.N) (Y : (cfg0.win 5).block.Idx → Elt F (cfg0.win 5).elt)
    (h : (rdats m 0 c).Finds 5 t Y) : Y = iblk m c 5 t := by
  obtain ⟨d, hd⟩ := (rdats m 0 c).finds_in_eq_fetched 5 rfl (fun _ _ _ => rfl) (fun t Y X h => h.1 (by decide)) t Y h
  rw [hd]; unfold RDat.fetched RDat.blockOf iblk; rw [rA_eq]; try rfl
theorem finds_in6 (c : Dev nD) (t : Fin cfg0.N) (Y : (cfg0.win 6).block.Idx → Elt F (cfg0.win 6).elt)
    (h : (rdats m 0 c).Finds 6 t Y) : Y = iblk m c 6 t := by
  obtain ⟨d, hd⟩ := (rdats m 0 c).finds_in_eq_fetched 6 rfl (fun _ _ _ => rfl) (fun t Y X h => h.1 (by decide)) t Y h
  rw [hd]; unfold RDat.fetched RDat.blockOf iblk; rw [rA_eq]; try rfl

/-- Every window's buffer at the contents `X`. -/
abbrev OwnAll (c : Dev nD) (t : Fin cfg0.N) (X : Blocks F) : sProp 𝕄 :=
  iprop(owns (c : Thread nD τ) (st0_0 t) fullShare (X 0) ∗ owns (c : Thread nD τ) (st0_1 t) fullShare (X 1) ∗ owns (c : Thread nD τ) (st0_2 t) fullShare (X 2) ∗ owns (c : Thread nD τ) (st0_3 t) fullShare (X 3) ∗ owns (c : Thread nD τ) (st0_4 t) fullShare (X 4) ∗ owns (c : Thread nD τ) (st0_5 t) fullShare (X 5) ∗ owns (c : Thread nD τ) (st0_6 t) fullShare (X 6) ∗ owns (c : Thread nD τ) (st0_7 t) fullShare (X 7) ∗ owns (c : Thread nD τ) (st0_8 t) fullShare (X 8) ∗ owns (c : Thread nD τ) (st0_9 t) fullShare (X 9) ∗ owns (c : Thread nD τ) (st0_10 t) fullShare (X 10) ∗ owns (c : Thread nD τ) (st0_11 t) fullShare (X 11))
/-- The four scratch buffers. -/
abbrev ScrPt (c : Dev nD) (s : Scr F) : sProp 𝕄 :=
  iprop(pt c (Memref.whole cc0_scratch0) s.s14 ∗ pt c (Memref.whole cc0_scratch1) s.s15 ∗ pt c (Memref.whole cc0_scratch2) s.s16 ∗ pt c (Memref.whole cc0_scratch3) s.s17)

/-- The contents `X` with the input windows' replaced by `Y`'s. -/
def mix (Y : Blocks F) (X9 : S512x128.Idx → Elt F .f32) (X10 : S4096x128.Idx → Elt F .f32) (X11 : S4096x128.Idx → Elt F .f32) (X12 : S1x1x128.Idx → Elt F .f32) (X13 : S1x1x128.Idx → Elt F .f32) : Blocks F
  | 0 => Y 0 | 1 => Y 1 | 2 => Y 2 | 3 => Y 3 | 4 => Y 4 | 5 => Y 5 | 6 => Y 6
  | 7 => X9 | 8 => X10 | 9 => X11 | 10 => X12 | 11 => X13

/-- The body at a point, from every window's buffer at `Y` and the scratch at `s`. -/
theorem point_run (c : Dev nD) (t : Fin cfg0.N) (Y : Blocks F) (s : Scr F) (E : Set ℕ) :
    iprop(OwnAll c t Y ∗ ScrPt c s)
      ⊢ wp frame (wpE (defs₀ (F := F)) Variants.none (c : Thread nD τ) none) E (bodyAt0 t) (fun _ =>
        iprop(∃ (X : Blocks F) (s' : Scr F), ⌜Point c t Y s X s' ∧ X 0 = Y 0 ∧ X 1 = Y 1 ∧ X 2 = Y 2 ∧ X 3 = Y 3 ∧ X 4 = Y 4 ∧ X 5 = Y 5 ∧ X 6 = Y 6⌝ ∗ OwnAll c t X ∗ ScrPt c s')) := by
  unfold OwnAll ScrPt owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩, H14, H15, H16, H17⟩
  iapply ((run_all (F := F) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) c (grid0.coords t) (cond_excl t) f2 f3 f4 f5 f6 f7 f8 f9 f10 f11 f12 f13 s.s14 s.s15 s.s16 s.s17 E).trans (wp_mono _ _ _ (fun _ => ?post)))
  case post =>
    iintro ⟨%g9, %g10, %g11, %g12, %g13, %g14, %g15, %g16, %g17, %hr, H2, H3, H4, H5, H6, H7, H8, H9, H10, H11, H12, H13, H14, H15, H16, H17⟩
    iexists (mix Y ((st0_7 t).view.read (Elt F) g9) ((st0_8 t).view.read (Elt F) g10) ((st0_9 t).view.read (Elt F) g11) ((st0_10 t).view.read (Elt F) g12) ((st0_11 t).view.read (Elt F) g13)), (⟨g14, g15, g16, g17⟩ : Scr F)
    isplitr
    · ipureintro
      exact ⟨⟨f2, f3, f4, f5, f6, f7, f8, f9, f10, f11, f12, f13, g9, g10, g11, g12, g13, h2, h3, h4, h5, h6, h7, h8, h9, h10, h11, h12, h13, rfl, rfl, rfl, rfl, rfl, hr⟩, rfl, rfl, rfl, rfl, rfl, rfl, rfl⟩
    isplitl [H2 H3 H4 H5 H6 H7 H8 H9 H10 H11 H12 H13]
    · isplitl [H2]
      · iexists f2; isplitr; swap; · iexact H2
        ipureintro; exact h2
      isplitl [H3]
      · iexists f3; isplitr; swap; · iexact H3
        ipureintro; exact h3
      isplitl [H4]
      · iexists f4; isplitr; swap; · iexact H4
        ipureintro; exact h4
      isplitl [H5]
      · iexists f5; isplitr; swap; · iexact H5
        ipureintro; exact h5
      isplitl [H6]
      · iexists f6; isplitr; swap; · iexact H6
        ipureintro; exact h6
      isplitl [H7]
      · iexists f7; isplitr; swap; · iexact H7
        ipureintro; exact h7
      isplitl [H8]
      · iexists f8; isplitr; swap; · iexact H8
        ipureintro; exact h8
      isplitl [H9]
      · iexists g9; isplitr; swap; · iexact H9
        ipureintro; rfl
      isplitl [H10]
      · iexists g10; isplitr; swap; · iexact H10
        ipureintro; rfl
      isplitl [H11]
      · iexists g11; isplitr; swap; · iexact H11
        ipureintro; rfl
      isplitl [H12]
      · iexists g12; isplitr; swap; · iexact H12
        ipureintro; rfl
      iexists g13; isplitr; swap; · iexact H13
      ipureintro; rfl
    isplitl [H14]; · iexact H14
    isplitl [H15]; · iexact H15
    isplitl [H16]; · iexact H16
    iexact H17
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option backward.isDefEq.respectTransparency.types false in
/-- The body obligation of the relational proof data. -/
theorem body_obligation (c : Dev nD) : (rdats m 0 c).BodyObligation (defs₀ (F := F)) Variants.none () Set.univ := by
  intro t Y hY
  have hin : InBlocks m c t Y := ⟨finds_in0 m c t _ (hY 0), finds_in1 m c t _ (hY 1), finds_in2 m c t _ (hY 2), finds_in3 m c t _ (hY 3), finds_in4 m c t _ (hY 4), finds_in5 m c t _ (hY 5), finds_in6 m c t _ (hY 6)⟩
  rw [bigSep_W0, bigSep_W0, defs₀_row]
  rw [show (rdats m 0 c).Φ t.castSucc = Phi m c t.val from rfl, show (rdats m 0 c).Φ t.succ = Phi m c (t.val + 1) from rfl]
  unfold RDat.owesAt Pipeline.owesWithin
  rw [show (rdats m 0 c).owed t.castSucc = 0 from rfl, show (rdats m 0 c).owed t.succ = 0 from rfl]
  unfold Phi
  iintro ⟨⟨⟨%s, %hs, HS⟩, Hg⟩, ⟨%W, %hW, HO⟩, HW⟩
  have hpost : ∀ _ : PUnit, iprop((∃ (X : Blocks F) (s' : Scr F), ⌜Point c t Y s X s' ∧ X 0 = Y 0 ∧ X 1 = Y 1 ∧ X 2 = Y 2 ∧ X 3 = Y 3 ∧ X 4 = Y 4 ∧ X 5 = Y 5 ∧ X 6 = Y 6⌝ ∗ OwnAll c t X ∗ ScrPt c s')
        ∗ ((∃ r, prngReg c r) ∗ owes (c : Thread nD τ) 0 W))
      ⊢ (iprop(((∃ s : Scr F, ⌜Inv m c (t.val + 1) s⌝ ∗ ScrPt c s) ∗ ∃ r, prngReg c r)
        ∗ (∃ W' : Waits sig Unit, ⌜(↑W' : Set _) ⊆ (rdats m 0 c).bound () t.succ⌝ ∗ owes (c : Thread nD τ) 0 W')
        ∗ (∃ X, ⌜(rdats m 0 c).after 0 t (Y 0) X⌝ ∗ owns (c : Thread nD τ) (st0_0 t) fullShare X) ∗ (∃ X, ⌜(rdats m 0 c).after 1 t (Y 1) X⌝ ∗ owns (c : Thread nD τ) (st0_1 t) fullShare X) ∗ (∃ X, ⌜(rdats m 0 c).after 2 t (Y 2) X⌝ ∗ owns (c : Thread nD τ) (st0_2 t) fullShare X) ∗ (∃ X, ⌜(rdats m 0 c).after 3 t (Y 3) X⌝ ∗ owns (c : Thread nD τ) (st0_3 t) fullShare X) ∗ (∃ X, ⌜(rdats m 0 c).after 4 t (Y 4) X⌝ ∗ owns (c : Thread nD τ) (st0_4 t) fullShare X) ∗ (∃ X, ⌜(rdats m 0 c).after 5 t (Y 5) X⌝ ∗ owns (c : Thread nD τ) (st0_5 t) fullShare X) ∗ (∃ X, ⌜(rdats m 0 c).after 6 t (Y 6) X⌝ ∗ owns (c : Thread nD τ) (st0_6 t) fullShare X) ∗ (∃ X, ⌜(rdats m 0 c).after 7 t (Y 7) X⌝ ∗ owns (c : Thread nD τ) (st0_7 t) fullShare X) ∗ (∃ X, ⌜(rdats m 0 c).after 8 t (Y 8) X⌝ ∗ owns (c : Thread nD τ) (st0_8 t) fullShare X) ∗ (∃ X, ⌜(rdats m 0 c).after 9 t (Y 9) X⌝ ∗ owns (c : Thread nD τ) (st0_9 t) fullShare X) ∗ (∃ X, ⌜(rdats m 0 c).after 10 t (Y 10) X⌝ ∗ owns (c : Thread nD τ) (st0_10 t) fullShare X) ∗ (∃ X, ⌜(rdats m 0 c).after 11 t (Y 11) X⌝ ∗ owns (c : Thread nD τ) (st0_11 t) fullShare X)) : sProp 𝕄) := by
    intro _
    iintro ⟨⟨%X, %s', %hp, ⟨H0, H1, H2, H3, H4, H5, H6, H7, H8, H9, H10, H11⟩, HS⟩, Hg, HO⟩
    isplitl [HS Hg]
    · isplitl [HS]
      · iexists s'; isplitr
        · ipureintro; exact ⟨t.isLt, Y, s, X, hin, hs, hp.1⟩
        iexact HS
      iexact Hg
    isplitl [HO]
    · iexists W; isplitr
      · ipureintro; exact hW
      iexact HO
    isplitl [H0]
    · iexists X 0; isplitr
      · ipureintro; exact ⟨fun _ => hp.2.1, fun h => absurd h (by decide)⟩
      iexact H0
    isplitl [H1]
    · iexists X 1; isplitr
      · ipureintro; exact ⟨fun _ => hp.2.2.1, fun h => absurd h (by decide)⟩
      iexact H1
    isplitl [H2]
    · iexists X 2; isplitr
      · ipureintro; exact ⟨fun _ => hp.2.2.2.1, fun h => absurd h (by decide)⟩
      iexact H2
    isplitl [H3]
    · iexists X 3; isplitr
      · ipureintro; exact ⟨fun _ => hp.2.2.2.2.1, fun h => absurd h (by decide)⟩
      iexact H3
    isplitl [H4]
    · iexists X 4; isplitr
      · ipureintro; exact ⟨fun _ => hp.2.2.2.2.2.1, fun h => absurd h (by decide)⟩
      iexact H4
    isplitl [H5]
    · iexists X 5; isplitr
      · ipureintro; exact ⟨fun _ => hp.2.2.2.2.2.2.1, fun h => absurd h (by decide)⟩
      iexact H5
    isplitl [H6]
    · iexists X 6; isplitr
      · ipureintro; exact ⟨fun _ => hp.2.2.2.2.2.2.2, fun h => absurd h (by decide)⟩
      iexact H6
    isplitl [H7]
    · iexists X 7; isplitr
      · ipureintro; exact ⟨fun h => absurd h (by decide), fun _ => ⟨Y, s, X, s', hin, hs, hp.1, rfl, rfl⟩⟩
      iexact H7
    isplitl [H8]
    · iexists X 8; isplitr
      · ipureintro; exact ⟨fun h => absurd h (by decide), fun _ => ⟨Y, s, X, s', hin, hs, hp.1, rfl, rfl⟩⟩
      iexact H8
    isplitl [H9]
    · iexists X 9; isplitr
      · ipureintro; exact ⟨fun h => absurd h (by decide), fun _ => ⟨Y, s, X, s', hin, hs, hp.1, rfl, rfl⟩⟩
      iexact H9
    isplitl [H10]
    · iexists X 10; isplitr
      · ipureintro; exact ⟨fun h => absurd h (by decide), fun _ => ⟨Y, s, X, s', hin, hs, hp.1, rfl, rfl⟩⟩
      iexact H10
    iexists X 11; isplitr
    · ipureintro; exact ⟨fun h => absurd h (by decide), fun _ => ⟨Y, s, X, s', hin, hs, hp.1, rfl, rfl⟩⟩
    iexact H11
  have hw := (sep_mono_left (Q := iprop((∃ r, prngReg c r) ∗ owes (c : Thread nD τ) 0 W)) (point_run c t Y s Set.univ)).trans
    ((wp_frame_r _ _ _).trans (wp_mono _ _ _ hpost))
  iapply hw
  isplitl [HW HS]
  · isplitl [HW]; · iexact HW
    iexact HS
  isplitl [Hg]; · iexact Hg
  iexact HO

set_option backward.isDefEq.respectTransparency.types false in
/-- Every weakly fair execution of the program terminates, with the windows' arrays at what the points may write to them
    and every counter at zero. -/
theorem run_main :
    θ_run defs (onTc (τ := τ) (main (F := F))) (s₀ m ρ)
      (fun r => RDat.FramePost (cfgs 0) (fun c => rdats m 0 c) (V m) r ∧ r.2.sem = fun _ => 0) :=
  RDat.θ_run_frame_track_shared (Q' := _) cfgs (0 : Fin 1) launch₀0 defs₀ Variants.none (fun c => rdats m 0 c) m ρ main
    (hbody := fun c => body_obligation m c) (hq := fun _ _ _ => rfl)
    (howed := fun _ _ => rfl) (V := V m) (hmain := hmain m Variants.none) (hA := rA_eq m)
    (hin := fun c => phi_in m c) (hout := fun c => phi_out m c _)

variable {m ρ}

/-- What a run leaves in the arguments: nothing wrote them. -/
theorem args_kept {r : PUnit × MemSt nD τ sig (Elt F)}
    (h : RDat.FramePost (cfgs 0) (fun c => rdats m 0 c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(RDat.FramePost.arr_in h c 2 rfl).trans ((rA_eq m c 2).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (RDat.FramePost.arr_in h c 6 rfl).trans ((rA_eq m c 6).trans (V_main_arg3 m c))⟩

end Cert.KernelIdeal.Hand
end
-- ==== Proof.Frames.lean ====
/-
  Hand-written, untrusted. The three frames: the kernel's run (written once, at any value instance) read at the arguments and at the
  counters, for the compiled kernel and for the idealized one, and the reference's generated run read the same way.
-/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

set_option maxHeartbeats 2000000
set_option maxRecDepth 16384

noncomputable section

namespace Cert.Proof

open Idealize.ShloMosaic Idealize.SL.Sem
open Cert.KernelIdeal.Hand

/-- The two programs' body tables are one: both run the same body at the same buffers. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_eq : Cert.Kernel.defs (F := Bits) = Cert.KernelIdeal.defs (F := Bits) :=
  congrArg (Pipeline.defs (Cert.KernelIdeal.pcfgs (F := Bits))) bodies_eq

/-- What the frame says of a final state. -/
abbrev Kept {F : FTy → Type} (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) : Prop :=
  (∀ c : Dev Cert.KernelIdeal.nD,
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) ∧ r.2.sem = fun _ => 0

/-- The compiled kernel's frame: the run at the bit-exact floats. -/
theorem frame_kernel : Cert.quiescent_Kernel (hKernel := Cert.Kernel.Gen.facts) := fun m ρ _ => by
  have key : ∀ D, D = Cert.KernelIdeal.defs (F := Bits) →
      θ_run D (onTc (τ := Cert.KernelIdeal.τ) (Cert.KernelIdeal.main (F := Bits))) (s₀ m ρ) (Kept (F := Bits) m) := by
    rintro _ rfl
    exact (θ_run Cert.KernelIdeal.defs _ _).mono (fun _ h => ⟨fun c => args_kept h.1 c, h.2⟩) (run_main (F := Bits) m ρ)
  exact key (Cert.Kernel.defs (F := Bits)) defs_eq

/-- The idealized kernel's frame. -/
theorem frame_ideal : Cert.quiescent_KernelIdeal (hKernelIdeal := Cert.KernelIdeal.Gen.facts) := fun m ρ _ =>
  (θ_run Cert.KernelIdeal.defs _ _).mono (fun _ h => ⟨fun c => args_kept h.1 c, h.2⟩) (run_main (F := Ideal) m ρ)

/-- The reference's frame: it declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run m ρ)

end Cert.Proof

end
-- ==== Proof.Tile.lean ====
/-
  Hand-written, untrusted. One tile of the attention backward kernel (512 query rows against 512 keys), written once for either head and read
  off the body: the words that the loop over the earlier key tiles leaves are these functions.
-/
module

public import proofs.«01_k».proof.Proof.Gen.KernelIdeal.Loops

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The scores of a head: query rows against key rows. -/
def score (q k : FVec F S512x128 .bf16) : FVec F S512x512 .f32 :=
  matmul dot_S512x128_S512x128_S512x512_1_1_0_0_n_n none q k (constant S512x512 .f32 0x00000000#32)

/-- The logarithm of the sigmoid of the scores. -/
def logBeta (z : FVec F S512x512 .f32) : FVec F S512x512 .f32 :=
  subf (minimumf z (broadcast S512x512 (Scalar.ofBits .f32 0x00000000#32)))
    (log (addf (broadcast S512x512 (Scalar.ofBits .f32 0x3F800000#32))
      (exp (subf (broadcast S512x512 (Scalar.ofBits .f32 0x00000000#32)) (absf z)))))

/-- The sums of 128 columns, by a product of the two halves of each number with a table of zeros and ones. -/
def halves (x : FVec F S512x128 .f32) : FVec F S512x256 .bf16 :=
  concatenate S512x256 1 [⟨S512x128, truncf .bf16 x bitsLt_bf16_f32⟩, ⟨S512x128, truncf .bf16 (subf x (extf .f32 (truncf .bf16 x bitsLt_bf16_f32) bitsLt_bf16_f32)) bitsLt_bf16_f32⟩] concatenates_S512x128_S512x128_S512x256_d1

/-- The sums of 128 columns, by a product of the two halves of each number with a table of zeros and ones. -/
def colSums (tri : FVec F S256x256 .bf16) (x : FVec F S512x128 .f32) : FVec F S512x256 .f32 :=
  matmul dot_S512x256_S256x256_S512x256_1_0_0_1_n_n none (halves x) tri (constant S512x256 .f32 0x00000000#32)

/-- The first 128 columns of a tile. -/
def cut0 (x : FVec F S512x512 .f32) : FVec F S512x128 .f32 := extractStridedSlice S512x128 ![0, 0] x slices_S512x512_o0_0_S512x128
/-- The second 128 columns of a tile. -/
def cut1 (x : FVec F S512x512 .f32) : FVec F S512x128 .f32 := extractStridedSlice S512x128 ![0, 128] x slices_S512x512_o0_128_S512x128
/-- The third 128 columns of a tile. -/
def cut2 (x : FVec F S512x512 .f32) : FVec F S512x128 .f32 := extractStridedSlice S512x128 ![0, 256] x slices_S512x512_o0_256_S512x128
/-- The last 128 columns of a tile. -/
def cut3 (x : FVec F S512x512 .f32) : FVec F S512x128 .f32 := extractStridedSlice S512x128 ![0, 384] x slices_S512x512_o0_384_S512x128

/-- The running sums among column sums. -/
def lft (y : FVec F S512x256 .f32) : FVec F S512x128 .f32 := extractStridedSlice S512x128 ![0, 0] y slices_S512x256_o0_0_S512x128
/-- The whole sums among column sums. -/
def rgt (y : FVec F S512x256 .f32) : FVec F S512x128 .f32 := extractStridedSlice S512x128 ![0, 128] y slices_S512x256_o0_128_S512x128

/-- Four pieces side by side. -/
def side4 (a b c d : FVec F S512x128 .f32) : FVec F S512x512 .f32 :=
  concatenate S512x512 1 [⟨S512x128, a⟩, ⟨S512x128, b⟩, ⟨S512x128, c⟩, ⟨S512x128, d⟩] concatenates_S512x128_S512x128_S512x128_S512x128_S512x512_d1

/-- What is left of a row's sum after one, two, three and four quarters of the tile. -/
def rest1 (tri : FVec F S256x256 .bf16) (r : FVec F S512x128 .f32) (x : FVec F S512x512 .f32) := subf r (rgt (colSums tri (cut0 x)))
/-- See `rest1`. -/
def rest2 (tri : FVec F S256x256 .bf16) (r : FVec F S512x128 .f32) (x : FVec F S512x512 .f32) := subf (rest1 tri r x) (rgt (colSums tri (cut1 x)))
/-- See `rest1`. -/
def rest3 (tri : FVec F S256x256 .bf16) (r : FVec F S512x128 .f32) (x : FVec F S512x512 .f32) := subf (rest2 tri r x) (rgt (colSums tri (cut2 x)))
/-- See `rest1`. -/
def rest4 (tri : FVec F S256x256 .bf16) (r : FVec F S512x128 .f32) (x : FVec F S512x512 .f32) := subf (rest3 tri r x) (rgt (colSums tri (cut3 x)))

/-- What is left of a row's sum after each column. -/
def later (tri : FVec F S256x256 .bf16) (r : FVec F S512x128 .f32) (x : FVec F S512x512 .f32) : FVec F S512x512 .f32 :=
  side4 (subf r (lft (colSums tri (cut0 x)))) (subf (rest1 tri r x) (lft (colSums tri (cut1 x))))
    (subf (rest2 tri r x) (lft (colSums tri (cut2 x)))) (subf (rest3 tri r x) (lft (colSums tri (cut3 x))))

/-- A row's sum after one, two, three and four quarters of the tile. -/
def pre1 (tri : FVec F S256x256 .bf16) (r : FVec F S512x128 .f32) (x : FVec F S512x512 .f32) := addf r (rgt (colSums tri (cut0 x)))
/-- See `pre1`. -/
def pre2 (tri : FVec F S256x256 .bf16) (r : FVec F S512x128 .f32) (x : FVec F S512x512 .f32) := addf (pre1 tri r x) (rgt (colSums tri (cut1 x)))
/-- See `pre1`. -/
def pre3 (tri : FVec F S256x256 .bf16) (r : FVec F S512x128 .f32) (x : FVec F S512x512 .f32) := addf (pre2 tri r x) (rgt (colSums tri (cut2 x)))
/-- See `pre1`. -/
def pre4 (tri : FVec F S256x256 .bf16) (r : FVec F S512x128 .f32) (x : FVec F S512x512 .f32) := addf (pre3 tri r x) (rgt (colSums tri (cut3 x)))

/-- A row's sum before each column. -/
def before (tri : FVec F S256x256 .bf16) (r : FVec F S512x128 .f32) (x : FVec F S512x512 .f32) : FVec F S512x512 .f32 :=
  side4 (addf r (lft (colSums tri (cut0 x)))) (addf (pre1 tri r x) (lft (colSums tri (cut1 x))))
    (addf (pre2 tri r x) (lft (colSums tri (cut2 x)))) (addf (pre3 tri r x) (lft (colSums tri (cut3 x))))

/-- The weights of a tile, from the logarithms of the sigmoids and of their complements. -/
def weight (tri : FVec F S256x256 .bf16) (r : FVec F S512x128 .f32) (lb ls : FVec F S512x512 .f32) : FVec F S512x512 .f32 :=
  exp (addf lb (later tri r ls))

/-- The gradient by the scores of a tile. -/
def dscore (tri : FVec F S256x256 .bf16) (p : FVec F S512x128 .f32) (lb g : FVec F S512x512 .f32) : FVec F S512x512 .f32 :=
  subf g (mulf (exp lb) (addf g (before tri p g)))

/-- The part of a tile in the gradient by the queries. -/
def byQuery (first : IVec S512x128 1) (dz0 dz1 : FVec F S512x512 .bf16) (k : FVec F S512x128 .bf16) : FVec F S512x128 .f32 :=
  select first (matmul dot_S512x512_S512x128_S512x128_1_0_0_1_n_n none dz0 k (constant S512x128 .f32 0x00000000#32))
    (matmul dot_S512x512_S512x128_S512x128_1_0_0_1_n_n none dz1 k (constant S512x128 .f32 0x00000000#32))

/-- The part of a tile in the gradient by the keys or the values. -/
def byKey (a0 a1 : FVec F S128x512 .bf16) (x0 x1 : FVec F S512x512 .bf16) : FVec F S128x512 .f32 :=
  addf (matmul dot_S128x512_S512x512_S128x512_1_0_0_1_n_n none a0 x0 (constant S128x512 .f32 0x00000000#32))
    (matmul dot_S128x512_S512x512_S128x512_1_0_0_1_n_n none a1 x1 (constant S128x512 .f32 0x00000000#32))

/-- The weights of an earlier tile. -/
def tileW (triU : FVec F S256x256 .bf16) (q k : FVec F S512x128 .bf16) (r : FVec F S512x128 .f32) : FVec F S512x512 .f32 :=
  weight triU r (logBeta (score q k)) (subf (logBeta (score q k)) (score q k))
/-- What is left of the row sums after an earlier tile. -/
def tileR (triU : FVec F S256x256 .bf16) (q k : FVec F S512x128 .bf16) (r : FVec F S512x128 .f32) : FVec F S512x128 .f32 :=
  rest4 triU r (subf (logBeta (score q k)) (score q k))
/-- The products of the weights with their gradients in an earlier tile. -/
def tileG (triU : FVec F S256x256 .bf16) (q d k v : FVec F S512x128 .bf16) (r : FVec F S512x128 .f32) : FVec F S512x512 .f32 :=
  mulf (tileW triU q k r) (score d v)
/-- The row sums of those products after an earlier tile. -/
def tileP (triU triB : FVec F S256x256 .bf16) (q d k v : FVec F S512x128 .bf16) (r p : FVec F S512x128 .f32) : FVec F S512x128 .f32 :=
  pre4 triB p (tileG triU q d k v r)
/-- The gradient by the scores of an earlier tile. -/
def tileZ (triU triB : FVec F S256x256 .bf16) (q d k v : FVec F S512x128 .bf16) (r p : FVec F S512x128 .f32) : FVec F S512x512 .bf16 :=
  truncf .bf16 (dscore triB p (logBeta (score q k)) (tileG triU q d k v r)) bitsLt_bf16_f32

variable (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S128x4096 .f32) (harg16 : arg16.IsWhole) (arg17 : Memref sig .tc .vmem S128x4096 .f32) (harg17 : arg17.IsWhole)

/-- The keys of tile `k`. -/
def keysAt (i : grid0.Coords) (k : Fin (k0_t2_loop i).trips) (X : BufTy.Contents (Elt F) arg14.view.ty) : FVec F S512x128 .bf16 :=
  View.readAt (Elt F) arg14.view (Rect.unit (s := S4096x128) (k0_off2 i k) S512x128.size (k0_off2_inb i k)).toLoadRect X

theorem trip_row (𝒱 : Variants) (c : Dev nD) (bd : Option 𝒱.V) (i : grid0.Coords) (arg1 : BitVec 32) (v43 : IVec S512x128 1) (v72 : FVec F S256x256 .bf16) (v98 : FVec F S256x256 .bf16) (v103 : FVec F S512x128 .bf16) (v106 : FVec F S512x128 .bf16) (v109 : FVec F S128x512 .bf16) (v112 : FVec F S128x512 .bf16) (v115 : FVec F S512x128 .bf16) (v118 : FVec F S512x128 .bf16) (v121 : FVec F S128x512 .bf16) (v124 : FVec F S128x512 .bf16) (v125 : FVec F S512x128 .f32) (v126 : FVec F S512x128 .f32) (X14 : BufTy.Contents (Elt F) arg14.view.ty) (X15 : BufTy.Contents (Elt F) arg15.view.ty) (k : Fin (k0_t2_loop i).trips) (acc : FVec F S512x128 .f32 × FVec F S512x128 .f32 × FVec F S512x128 .f32 × FVec F S512x128 .f32 × FVec F S512x128 .f32) (f16 : BufTy.Contents (Elt F) arg16.view.ty) (f17 : BufTy.Contents (Elt F) arg17.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v43 v72 v98 v103 v106 v109 v112 v115 v118 v121 v124 v125 v126 X14 X15 k).1 acc f16 f17 =
      (addf acc.1 (byQuery v43 (tileZ v72 v98 v103 v115 (keysAt arg14 i k X14) (keysAt arg15 i k X15) acc.2.1 acc.2.2.2.1) (tileZ v72 v98 v106 v118 (keysAt arg14 i k X14) (keysAt arg15 i k X15) acc.2.2.1 acc.2.2.2.2) (keysAt arg14 i k X14)),
        tileR v72 v103 (keysAt arg14 i k X14) acc.2.1, tileR v72 v106 (keysAt arg14 i k X14) acc.2.2.1,
        tileP v72 v98 v103 v115 (keysAt arg14 i k X14) (keysAt arg15 i k X15) acc.2.1 acc.2.2.2.1,
        tileP v72 v98 v106 v118 (keysAt arg14 i k X14) (keysAt arg15 i k X15) acc.2.2.1 acc.2.2.2.2) := by
  unfold trip_k0_t2
  rfl

theorem trip_keys (𝒱 : Variants) (c : Dev nD) (bd : Option 𝒱.V) (i : grid0.Coords) (arg1 : BitVec 32) (v43 : IVec S512x128 1) (v72 : FVec F S256x256 .bf16) (v98 : FVec F S256x256 .bf16) (v103 : FVec F S512x128 .bf16) (v106 : FVec F S512x128 .bf16) (v109 : FVec F S128x512 .bf16) (v112 : FVec F S128x512 .bf16) (v115 : FVec F S512x128 .bf16) (v118 : FVec F S512x128 .bf16) (v121 : FVec F S128x512 .bf16) (v124 : FVec F S128x512 .bf16) (v125 : FVec F S512x128 .f32) (v126 : FVec F S512x128 .f32) (X14 : BufTy.Contents (Elt F) arg14.view.ty) (X15 : BufTy.Contents (Elt F) arg15.view.ty) (k : Fin (k0_t2_loop i).trips) (acc : FVec F S512x128 .f32 × FVec F S512x128 .f32 × FVec F S512x128 .f32 × FVec F S512x128 .f32 × FVec F S512x128 .f32) (f16 : BufTy.Contents (Elt F) arg16.view.ty) (f17 : BufTy.Contents (Elt F) arg17.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v43 v72 v98 v103 v106 v109 v112 v115 v118 v121 v124 v125 v126 X14 X15 k).2.1 acc f16 f17 =
      [⟨Rect.unit (s := S128x4096) (k0_off3 i k) S128x512.size (k0_off3_inb i k), shapeCast S128x512 (addf (View.readAt (Elt F) arg16.view (Rect.unit (s := S128x4096) (k0_off3 i k) S128x512.size (k0_off3_inb i k)).toLoadRect f16)
        (byKey v109 v112 (tileZ v72 v98 v103 v115 (keysAt arg14 i k X14) (keysAt arg15 i k X15) acc.2.1 acc.2.2.2.1) (tileZ v72 v98 v106 v118 (keysAt arg14 i k X14) (keysAt arg15 i k X15) acc.2.2.1 acc.2.2.2.2))) shapeCasts_S128x512_S128x512⟩] := by
  unfold trip_k0_t2
  rfl

theorem trip_values (𝒱 : Variants) (c : Dev nD) (bd : Option 𝒱.V) (i : grid0.Coords) (arg1 : BitVec 32) (v43 : IVec S512x128 1) (v72 : FVec F S256x256 .bf16) (v98 : FVec F S256x256 .bf16) (v103 : FVec F S512x128 .bf16) (v106 : FVec F S512x128 .bf16) (v109 : FVec F S128x512 .bf16) (v112 : FVec F S128x512 .bf16) (v115 : FVec F S512x128 .bf16) (v118 : FVec F S512x128 .bf16) (v121 : FVec F S128x512 .bf16) (v124 : FVec F S128x512 .bf16) (v125 : FVec F S512x128 .f32) (v126 : FVec F S512x128 .f32) (X14 : BufTy.Contents (Elt F) arg14.view.ty) (X15 : BufTy.Contents (Elt F) arg15.view.ty) (k : Fin (k0_t2_loop i).trips) (acc : FVec F S512x128 .f32 × FVec F S512x128 .f32 × FVec F S512x128 .f32 × FVec F S512x128 .f32 × FVec F S512x128 .f32) (f16 : BufTy.Contents (Elt F) arg16.view.ty) (f17 : BufTy.Contents (Elt F) arg17.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v43 v72 v98 v103 v106 v109 v112 v115 v118 v121 v124 v125 v126 X14 X15 k).2.2.1 acc f16 f17 =
      [⟨Rect.unit (s := S128x4096) (k0_off3 i k) S128x512.size (k0_off3_inb i k), shapeCast S128x512 (addf (View.readAt (Elt F) arg17.view (Rect.unit (s := S128x4096) (k0_off3 i k) S128x512.size (k0_off3_inb i k)).toLoadRect f17)
        (byKey v121 v124 (truncf .bf16 (tileW v72 v103 (keysAt arg14 i k X14) acc.2.1) bitsLt_bf16_f32) (truncf .bf16 (tileW v72 v106 (keysAt arg14 i k X14) acc.2.2.1) bitsLt_bf16_f32))) shapeCasts_S128x512_S128x512⟩] := by
  unfold trip_k0_t2
  rfl

end Cert.KernelIdeal.Hand
end
-- ==== Proof.Diag.lean ====
/-
  Hand-written, untrusted. The rest of the attention backward body, as functions of vectors: the normalised rows and their gradients, and the tile that the
  diagonal crosses.
-/
module

public import proofs.«01_k».proof.Proof.Tile

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The table of the sums before each column. -/
def triB : FVec F S256x256 .bf16 := k0_pay139 128#32 k0_pay136 k0_pay137 k0_pay138 0#32

/-- The mean of each head's 64 columns, in every column of the head. -/
def pairMean (x : FVec F S512x128 .f32) : FVec F S512x128 .f32 :=
  select k0_pay197 (broadcastTo S512x128 (shapeCast S512x1 (mulf (shapeCast S512x1 (multiReduction .add [1] S512 (select k0_pay197 x (broadcast S512x128 (Scalar.ofBits .f32 0x00000000#32))) 0x00000000#32 reduces_S512x128_S512 (.inl rfl) rfl) shapeCasts_S512_S512x1) (broadcast S512x1 (Scalar.ofBits .f32 0x3C800000#32))) shapeCasts_S512x1_S512x1) broadcasts_S512x1_S512x128)
    (broadcastTo S512x128 (shapeCast S512x1 (mulf (shapeCast S512x1 (multiReduction .add [1] S512 (select k0_pay197 (broadcast S512x128 (Scalar.ofBits .f32 0x00000000#32)) x) 0x00000000#32 reduces_S512x128_S512 (.inl rfl) rfl) shapeCasts_S512_S512x1) (broadcast S512x1 (Scalar.ofBits .f32 0x3C800000#32))) shapeCasts_S512x1_S512x1) broadcasts_S512x1_S512x128)

/-- A gain, the same for every row. -/
def gainRows (g : FVec F S1x128 .f32) : FVec F S512x128 .f32 := broadcastTo S512x128 (shapeCast S1x128 g shapeCasts_S1x128_S1x128) broadcasts_S1x128_S512x128

/-- The gradient by the rows before normalisation. -/
def rmsBack (x r : FVec F S512x128 .f32) (g : FVec F S1x128 .f32) (dn : FVec F S512x128 .f32) : FVec F S512x128 .f32 :=
  subf (mulf r (mulf dn (gainRows g))) (mulf x (mulf (mulf (mulf r r) r) (pairMean (mulf (mulf dn (gainRows g)) x))))

/-- What a block of rows adds to the gradient by the gain. -/
def gainBack (x r dn : FVec F S512x128 .f32) : FVec F S1x128 .f32 :=
  shapeCast S1x128 (multiReduction .add [0] S128 (mulf (mulf dn x) r) 0x00000000#32 reduces_S512x128_S128 (.inl rfl) rfl) shapeCasts_S128_S1x128

/-- Zeros. -/
def zeroTile : FVec F S512x512 .f32 := broadcast S512x512 (Scalar.ofBits .f32 0x00000000#32)

/-- The logarithms of what is left over, on the tile that the diagonal crosses. -/
def ownS (q k : FVec F S512x128 .bf16) : FVec F S512x512 .f32 := select k0_pay157 (subf (logBeta (score q k)) (score q k)) zeroTile
/-- The weights on the tile that the diagonal crosses. -/
def ownW (triU : FVec F S256x256 .bf16) (q k : FVec F S512x128 .bf16) (r : FVec F S512x128 .f32) : FVec F S512x512 .f32 :=
  select k0_pay157 (weight triU r (logBeta (score q k)) (ownS q k)) zeroTile
/-- The products of the weights with their gradients on that tile. -/
def ownG (triU : FVec F S256x256 .bf16) (q d k v : FVec F S512x128 .bf16) (r : FVec F S512x128 .f32) : FVec F S512x512 .f32 :=
  mulf (ownW triU q k r) (score d v)
/-- The gradient by the scores of that tile. -/
def ownZ (triU tB : FVec F S256x256 .bf16) (q d k v : FVec F S512x128 .bf16) (r p : FVec F S512x128 .f32) : FVec F S512x512 .bf16 :=
  truncf .bf16 (select k0_pay157 (dscore tB p (logBeta (score q k)) (ownG triU q d k v r)) zeroTile) bitsLt_bf16_f32

/-- The gradient by the normalised query rows, from what the loop over the earlier tiles accumulated. -/
def dqNorm (S : FVec F S512x128 .f32 × FVec F S512x128 .f32 × FVec F S512x128 .f32 × FVec F S512x128 .f32 × FVec F S512x128 .f32) (q0 q1 d0 d1 k v : FVec F S512x128 .bf16) : FVec F S512x128 .f32 :=
  mulf (addf S.1 (byQuery k0_pay133 (ownZ k0_pay135 triB q0 d0 k v S.2.1 S.2.2.2.1) (ownZ k0_pay135 triB q1 d1 k v S.2.2.1 S.2.2.2.2) k)) (broadcast S512x128 (Scalar.ofBits .f32 0x3E000000#32))

end Cert.KernelIdeal.Hand
end
-- ==== Proof.Reals.lean ====
/-
  Hand-written, untrusted. Matrices of real numbers among the values: what the operations of the body make of them.
-/
module

public import proofs.«01_k».proof.Proof.Tile
public import Idealize.ShloMosaic.Lib.Pointwise
public import Mathlib.Analysis.SpecialFunctions.Log.Basic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The vector `v` holds the real numbers `f`. -/
def Is {m n : ℕ} {φ : FTy} (v : FVec Ideal ⟨2, ![m, n]⟩ φ) (f : ℕ → ℕ → ℝ) : Prop :=
  ∀ (i : Fin m) (j : Fin n), v (ix2 i j) = ((f i j : ℝ) : EReal)

theorem Is.congr {m n : ℕ} {φ : FTy} {v : FVec Ideal ⟨2, ![m, n]⟩ φ} {f g : ℕ → ℕ → ℝ} (h : Is v f)
    (e : ∀ a b, a < m → b < n → f a b = g a b) : Is v g := fun i j => by rw [h i j, e _ _ i.isLt j.isLt]

theorem coe_sum_fin {n : ℕ} (f : Fin n → ℝ) : (∑ k : Fin n, ((f k : ℝ) : EReal)) = ((∑ k : Fin n, f k : ℝ) : EReal) :=
  (map_sum (⟨⟨Real.toEReal, EReal.coe_zero⟩, fun a b => EReal.coe_add a b⟩ : ℝ →+ EReal) f Finset.univ).symm

theorem coe_sum_val {n : ℕ} (f : ℕ → ℝ) : (∑ k : Fin n, ((f k : ℝ) : EReal)) = ((∑ k ∈ Finset.range n, f k : ℝ) : EReal) := by
  rw [coe_sum_fin, Finset.sum_range]

theorem coe_min (a b : ℝ) : ((min a b : ℝ) : EReal) = min (a : EReal) (b : EReal) :=
  EReal.coe_strictMono.monotone.map_min
theorem coe_max (a b : ℝ) : ((max a b : ℝ) : EReal) = max (a : EReal) (b : EReal) :=
  EReal.coe_strictMono.monotone.map_max

theorem exp_coe (a : ℝ) : Ideal.exp (a : EReal) = ((Real.exp a : ℝ) : EReal) := rfl
theorem log_coe {a : ℝ} (h : 0 < a) : Ideal.log (a : EReal) = ((Real.log a : ℝ) : EReal) := if_neg (not_le.2 h)

/-- The logarithm of the sigmoid of a real number, as the body computes it. -/
def lbR (z : ℝ) : ℝ := min z 0 - Real.log (1 + Real.exp (0 - max z (-z)))

theorem score_is {q k : FVec Ideal S512x128 .bf16} {f g : ℕ → ℕ → ℝ} (hq : Is q f) (hk : Is k g) :
    Is (score q k) (fun a b => ∑ c ∈ Finset.range 128, f a c * g b c) := by
  intro i j
  pointwise [score]
  rw [← coe_sum_val (fun c => f i c * g j c)]
  exact Finset.sum_congr rfl fun c _ => by rw [hq i c, hk j c, EReal.coe_mul]

theorem logBeta_is {z : FVec Ideal S512x512 .f32} {f : ℕ → ℕ → ℝ} (hz : Is z f) : Is (logBeta z) (fun a b => lbR (f a b)) := by
  intro i j
  pointwise [logBeta]
  rw [hz i j, Ideal.absf_def]
  unfold lbR
  have h1 : (1 : EReal) = ((1 : ℝ) : EReal) := rfl
  have h0 : (0 : EReal) = ((0 : ℝ) : EReal) := rfl
  rw [h0, h1, ← EReal.coe_neg, ← coe_max, ← coe_min, ← EReal.coe_sub, exp_coe, ← EReal.coe_add, log_coe (by positivity), ← EReal.coe_sub]

theorem sub_is {m n : ℕ} {φ : FTy} {x y : FVec Ideal ⟨2, ![m, n]⟩ φ} {f g : ℕ → ℕ → ℝ} (hx : Is x f) (hy : Is y g) :
    Is (subf x y) (fun a b => f a b - g a b) := by
  intro i j
  pointwise
  rw [hx i j, hy i j, EReal.coe_sub]

theorem add_is {m n : ℕ} {φ : FTy} {x y : FVec Ideal ⟨2, ![m, n]⟩ φ} {f g : ℕ → ℕ → ℝ} (hx : Is x f) (hy : Is y g) :
    Is (addf x y) (fun a b => f a b + g a b) := by
  intro i j
  pointwise
  rw [hx i j, hy i j, EReal.coe_add]

theorem mul_is {m n : ℕ} {φ : FTy} {x y : FVec Ideal ⟨2, ![m, n]⟩ φ} {f g : ℕ → ℕ → ℝ} (hx : Is x f) (hy : Is y g) :
    Is (mulf x y) (fun a b => f a b * g a b) := by
  intro i j
  pointwise
  rw [hx i j, hy i j, EReal.coe_mul]

theorem exp_is {m n : ℕ} {φ : FTy} {x : FVec Ideal ⟨2, ![m, n]⟩ φ} {f : ℕ → ℕ → ℝ} (hx : Is x f) :
    Is (exp x) (fun a b => Real.exp (f a b)) := by
  intro i j
  pointwise
  rw [hx i j, exp_coe]

theorem trunc_is {m n : ℕ} {x : FVec Ideal ⟨2, ![m, n]⟩ .f32} {f : ℕ → ℕ → ℝ} (hx : Is x f) :
    Is (truncf .bf16 x bitsLt_bf16_f32) f := by
  intro i j
  pointwise
  exact hx i j

theorem cut0_is {x : FVec Ideal S512x512 .f32} {f : ℕ → ℕ → ℝ} (h : Is x f) : Is (cut0 x) f := by
  intro i j
  pointwise [cut0]
  exact h _ _
theorem cut1_is {x : FVec Ideal S512x512 .f32} {f : ℕ → ℕ → ℝ} (h : Is x f) : Is (cut1 x) (fun a b => f a (128 + b)) := by
  intro i j
  pointwise [cut1]
  exact h _ _
theorem cut2_is {x : FVec Ideal S512x512 .f32} {f : ℕ → ℕ → ℝ} (h : Is x f) : Is (cut2 x) (fun a b => f a (256 + b)) := by
  intro i j
  pointwise [cut2]
  exact h _ _
theorem cut3_is {x : FVec Ideal S512x512 .f32} {f : ℕ → ℕ → ℝ} (h : Is x f) : Is (cut3 x) (fun a b => f a (384 + b)) := by
  intro i j
  pointwise [cut3]
  exact h _ _
theorem lft_is {x : FVec Ideal S512x256 .f32} {f : ℕ → ℕ → ℝ} (h : Is x f) : Is (lft x) f := by
  intro i j
  pointwise [lft]
  exact h _ _
theorem rgt_is {x : FVec Ideal S512x256 .f32} {f : ℕ → ℕ → ℝ} (h : Is x f) : Is (rgt x) (fun a b => f a (128 + b)) := by
  intro i j
  pointwise [rgt]
  exact h _ _

theorem side4_is {x y z w : FVec Ideal S512x128 .f32} {f : ℕ → ℕ → ℝ} (hx : Is x f) (hy : Is y (fun a b => f a (128 + b)))
    (hz : Is z (fun a b => f a (256 + b))) (hw : Is w (fun a b => f a (384 + b))) : Is (side4 x y z w) f := by
  intro i j
  pointwise [side4]
  split
  · exact hx _ _
  split
  · refine (hy _ _).trans (congrArg (fun b => ((f i b : ℝ) : EReal)) ?_); show 128 + ((j : ℕ) - 128) = _; omega
  split
  · refine (hz _ _).trans (congrArg (fun b => ((f i b : ℝ) : EReal)) ?_); show 256 + ((j : ℕ) - (128 + 128)) = _; omega
  · refine (hw _ _).trans (congrArg (fun b => ((f i b : ℝ) : EReal)) ?_); show 384 + ((j : ℕ) - (128 + 128 + 128)) = _; omega

/-- The table of zeros and ones of a running sum: the columns from 128 on are all ones. -/
def Tri (rel : ℕ → ℕ → Prop) [∀ a b, Decidable (rel a b)] (tri : FVec Ideal S256x256 .bf16) : Prop :=
  Is tri (fun a b => if 128 ≤ b ∨ rel (a % 128) b then 1 else 0)

theorem halves_is {x : FVec Ideal S512x128 .f32} {f : ℕ → ℕ → ℝ} (hx : Is x f) :
    Is (halves x) (fun a b => if b < 128 then f a b else 0) := by
  intro i j
  pointwise [halves]
  split
  · rename_i h; exact hx _ _
  · rename_i h; exact (congrArg₂ (fun a b : EReal => a - b) (hx _ _) (hx _ _)).trans (by rw [← EReal.coe_sub, sub_self])

theorem colSums_is {rel : ℕ → ℕ → Prop} [∀ a b, Decidable (rel a b)] {tri : FVec Ideal S256x256 .bf16} (ht : Tri rel tri)
    {x : FVec Ideal S512x128 .f32} {f : ℕ → ℕ → ℝ} (hx : Is x f) :
    Is (colSums tri x) (fun a b => ∑ r ∈ Finset.range 128, if 128 ≤ b ∨ rel r b then f a r else 0) := by
  intro i j
  have hh := halves_is hx
  generalize hy : halves x = y at hh
  unfold colSums; rw [hy]
  pointwise
  have : ∀ r : Fin 256, y (ix2 i r) * tri (ix2 r j) = (((if (r : ℕ) < 128 then f i r else 0) * (if 128 ≤ (j : ℕ) ∨ rel (r % 128) j then 1 else 0) : ℝ) : EReal) := by
    intro r; rw [hh i r, ht r j, EReal.coe_mul]
  rw [Finset.sum_congr rfl fun r _ => this r, coe_sum_val (fun r => (if r < 128 then f i r else 0) * (if 128 ≤ (j : ℕ) ∨ rel (r % 128) j then 1 else 0)),
    Finset.sum_range_add _ 128 128]
  congr 1
  rw [Finset.sum_eq_zero (s := Finset.range 128) (f := fun x => (if 128 + x < 128 then f i (128 + x) else 0) * (if 128 ≤ (j : ℕ) ∨ rel ((128 + x) % 128) j then (1 : ℝ) else 0)), add_zero]
  · refine Finset.sum_congr rfl fun r hr => ?_
    have hr' := Finset.mem_range.1 hr
    rw [if_pos hr', Nat.mod_eq_of_lt hr']
    split <;> simp
  · intro r _
    rw [if_neg (by omega), zero_mul]

theorem sum_upto (f : ℕ → ℝ) {b : ℕ} (h : b < 128) : (∑ r ∈ Finset.range 128, if 128 ≤ b ∨ r ≤ b then f r else 0) = ∑ r ∈ Finset.range (b + 1), f r := by
  rw [show (128 : ℕ) = (b + 1) + (127 - b) by omega, Finset.sum_range_add]
  rw [Finset.sum_congr rfl (g := f), Finset.sum_eq_zero (s := Finset.range (127 - b)), add_zero]
  · intro r _; rw [if_neg (by omega)]
  · intro r hr; have := Finset.mem_range.1 hr; rw [if_pos (by omega)]

theorem sum_before (f : ℕ → ℝ) {b : ℕ} (h : b < 128) : (∑ r ∈ Finset.range 128, if 128 ≤ b ∨ r < b then f r else 0) = ∑ r ∈ Finset.range b, f r := by
  rw [show (128 : ℕ) = b + (128 - b) by omega, Finset.sum_range_add]
  rw [Finset.sum_congr rfl (g := f), Finset.sum_eq_zero (s := Finset.range (128 - b)), add_zero]
  · intro r _; rw [if_neg (by omega)]
  · intro r hr; have := Finset.mem_range.1 hr; rw [if_pos (by omega)]

theorem rgtSums_is {rel : ℕ → ℕ → Prop} [∀ a b, Decidable (rel a b)] {tri : FVec Ideal S256x256 .bf16} (ht : Tri rel tri)
    {x : FVec Ideal S512x128 .f32} {f : ℕ → ℕ → ℝ} (hx : Is x f) :
    Is (rgt (colSums tri x)) (fun a _ => ∑ r ∈ Finset.range 128, f a r) :=
  (rgt_is (colSums_is ht hx)).congr fun a b _ _ => Finset.sum_congr rfl fun r _ => if_pos (Or.inl (by omega))

theorem lftUpto_is {tri : FVec Ideal S256x256 .bf16} (ht : Tri (· ≤ ·) tri) {x : FVec Ideal S512x128 .f32} {f : ℕ → ℕ → ℝ} (hx : Is x f) :
    Is (lft (colSums tri x)) (fun a b => ∑ r ∈ Finset.range (b + 1), f a r) :=
  (lft_is (colSums_is ht hx)).congr fun a b _ h => sum_upto _ h

theorem lftBefore_is {tri : FVec Ideal S256x256 .bf16} (ht : Tri (· < ·) tri) {x : FVec Ideal S512x128 .f32} {f : ℕ → ℕ → ℝ} (hx : Is x f) :
    Is (lft (colSums tri x)) (fun a b => ∑ r ∈ Finset.range b, f a r) :=
  (lft_is (colSums_is ht hx)).congr fun a b _ h => sum_before _ h

section
variable {rel : ℕ → ℕ → Prop} [∀ a b, Decidable (rel a b)] {tri : FVec Ideal S256x256 .bf16}
  {r : FVec Ideal S512x128 .f32} {x : FVec Ideal S512x512 .f32} {ρ : ℕ → ℝ} {f : ℕ → ℕ → ℝ}

theorem rest1_is (ht : Tri rel tri) (hr : Is r (fun a _ => ρ a)) (hx : Is x f) : Is (rest1 tri r x) (fun a _ => ρ a - ∑ j ∈ Finset.range 128, f a j) :=
  sub_is hr (rgtSums_is ht (cut0_is hx))
theorem rest2_is (ht : Tri rel tri) (hr : Is r (fun a _ => ρ a)) (hx : Is x f) : Is (rest2 tri r x) (fun a _ => ρ a - ∑ j ∈ Finset.range 256, f a j) :=
  (sub_is (rest1_is ht hr hx) (rgtSums_is ht (cut1_is hx))).congr fun a b _ _ => by
    rw [show 256 = 128 + 128 by rfl, Finset.sum_range_add (f a)]; ring
theorem rest3_is (ht : Tri rel tri) (hr : Is r (fun a _ => ρ a)) (hx : Is x f) : Is (rest3 tri r x) (fun a _ => ρ a - ∑ j ∈ Finset.range 384, f a j) :=
  (sub_is (rest2_is ht hr hx) (rgtSums_is ht (cut2_is hx))).congr fun a b _ _ => by
    rw [show 384 = 256 + 128 by rfl, Finset.sum_range_add (f a)]; ring
theorem rest4_is (ht : Tri rel tri) (hr : Is r (fun a _ => ρ a)) (hx : Is x f) : Is (rest4 tri r x) (fun a _ => ρ a - ∑ j ∈ Finset.range 512, f a j) :=
  (sub_is (rest3_is ht hr hx) (rgtSums_is ht (cut3_is hx))).congr fun a b _ _ => by
    rw [show 512 = 384 + 128 by rfl, Finset.sum_range_add (f a)]; ring

theorem later_is (ht : Tri (· ≤ ·) tri) (hr : Is r (fun a _ => ρ a)) (hx : Is x f) :
    Is (later tri r x) (fun a b => ρ a - ∑ j ∈ Finset.range (b + 1), f a j) :=
  side4_is (sub_is hr (lftUpto_is ht (cut0_is hx)))
    ((sub_is (rest1_is ht hr hx) (lftUpto_is ht (cut1_is hx))).congr fun a b _ _ => by
      rw [show 128 + b + 1 = 128 + (b + 1) by omega, Finset.sum_range_add (f a)]; ring)
    ((sub_is (rest2_is ht hr hx) (lftUpto_is ht (cut2_is hx))).congr fun a b _ _ => by
      rw [show 256 + b + 1 = 256 + (b + 1) by omega, Finset.sum_range_add (f a)]; ring)
    ((sub_is (rest3_is ht hr hx) (lftUpto_is ht (cut3_is hx))).congr fun a b _ _ => by
      rw [show 384 + b + 1 = 384 + (b + 1) by omega, Finset.sum_range_add (f a)]; ring)

theorem pre1_is (ht : Tri rel tri) (hr : Is r (fun a _ => ρ a)) (hx : Is x f) : Is (pre1 tri r x) (fun a _ => ρ a + ∑ j ∈ Finset.range 128, f a j) :=
  add_is hr (rgtSums_is ht (cut0_is hx))
theorem pre2_is (ht : Tri rel tri) (hr : Is r (fun a _ => ρ a)) (hx : Is x f) : Is (pre2 tri r x) (fun a _ => ρ a + ∑ j ∈ Finset.range 256, f a j) :=
  (add_is (pre1_is ht hr hx) (rgtSums_is ht (cut1_is hx))).congr fun a b _ _ => by
    rw [show 256 = 128 + 128 by rfl, Finset.sum_range_add (f a)]; ring
theorem pre3_is (ht : Tri rel tri) (hr : Is r (fun a _ => ρ a)) (hx : Is x f) : Is (pre3 tri r x) (fun a _ => ρ a + ∑ j ∈ Finset.range 384, f a j) :=
  (add_is (pre2_is ht hr hx) (rgtSums_is ht (cut2_is hx))).congr fun a b _ _ => by
    rw [show 384 = 256 + 128 by rfl, Finset.sum_range_add (f a)]; ring
theorem pre4_is (ht : Tri rel tri) (hr : Is r (fun a _ => ρ a)) (hx : Is x f) : Is (pre4 tri r x) (fun a _ => ρ a + ∑ j ∈ Finset.range 512, f a j) :=
  (add_is (pre3_is ht hr hx) (rgtSums_is ht (cut3_is hx))).congr fun a b _ _ => by
    rw [show 512 = 384 + 128 by rfl, Finset.sum_range_add (f a)]; ring

theorem before_is (ht : Tri (· < ·) tri) (hr : Is r (fun a _ => ρ a)) (hx : Is x f) :
    Is (before tri r x) (fun a b => ρ a + ∑ j ∈ Finset.range b, f a j) :=
  side4_is (add_is hr (lftBefore_is ht (cut0_is hx)))
    ((add_is (pre1_is ht hr hx) (lftBefore_is ht (cut1_is hx))).congr fun a b _ _ => by rw [Finset.sum_range_add (f a)]; ring)
    ((add_is (pre2_is ht hr hx) (lftBefore_is ht (cut2_is hx))).congr fun a b _ _ => by rw [Finset.sum_range_add (f a)]; ring)
    ((add_is (pre3_is ht hr hx) (lftBefore_is ht (cut3_is hx))).congr fun a b _ _ => by rw [Finset.sum_range_add (f a)]; ring)

end

/-- The table of the first head's columns of a pair. -/
def First (first : IVec S512x128 1) : Prop := ∀ (i : Fin 512) (j : Fin 128), first (ix2 i j) = if (j : ℕ) < 64 then 1#1 else 0#1

theorem byQuery_is {first : IVec S512x128 1} (hf : First first) {x y : FVec Ideal S512x512 .bf16} {k : FVec Ideal S512x128 .bf16}
    {f g c : ℕ → ℕ → ℝ} (hx : Is x f) (hy : Is y g) (hk : Is k c) :
    Is (byQuery first x y k) (fun a b => ∑ j ∈ Finset.range 512, (if b < 64 then f a j else g a j) * c j b) := by
  intro i j
  pointwise [byQuery]
  rw [hf i j, ← coe_sum_val (fun l => (if (j : ℕ) < 64 then f i l else g i l) * c l j)]
  by_cases h : (j : ℕ) < 64
  · simp only [if_pos h]
    refine (if_pos rfl).trans (Finset.sum_congr rfl fun l _ => by rw [hx i l, hk l j, EReal.coe_mul])
  · simp only [if_neg h]
    refine (if_neg (by decide)).trans (Finset.sum_congr rfl fun l _ => by rw [hy i l, hk l j, EReal.coe_mul])

theorem byKey_is {a0 a1 : FVec Ideal S128x512 .bf16} {x y : FVec Ideal S512x512 .bf16} {f0 f1 g0 g1 : ℕ → ℕ → ℝ}
    (h0 : Is a0 f0) (h1 : Is a1 f1) (hx : Is x g0) (hy : Is y g1) :
    Is (byKey a0 a1 x y) (fun c b => ∑ a ∈ Finset.range 512, (f0 c a * g0 a b + f1 c a * g1 a b)) := by
  intro i j
  pointwise [byKey]
  rw [Finset.sum_add_distrib, EReal.coe_add, ← coe_sum_val (fun a => f0 i a * g0 a j), ← coe_sum_val (fun a => f1 i a * g1 a j)]
  exact congrArg₂ _ (Finset.sum_congr rfl fun l _ => by rw [h0 i l, hx l j, EReal.coe_mul])
    (Finset.sum_congr rfl fun l _ => by rw [h1 i l, hy l j, EReal.coe_mul])

end Cert.KernelIdeal.Hand
end
-- ==== Proof.Loop.lean ====
/-
  Hand-written, untrusted. The stick-breaking attention and its gradient over the reals, by sums over keys and rows, and the loop over the earlier
  key tiles: what its trips leave is the part of those sums that the tiles cover.
-/
module

public import proofs.«01_k».proof.Proof.Reals
public import Idealize.ShloMosaic.Lib.WritesUnit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable (Q K D V : ℕ → ℕ → ℝ)

/-- The score of row `a` against key `k`. -/
def zS (a k : ℕ) : ℝ := ∑ c ∈ Finset.range 128, Q a c * K k c
/-- The logarithm of the part of the stick that key `k` leaves; a key that is not before the row leaves all. -/
def stayS (a k : ℕ) : ℝ := if k < a then lbR (zS Q K a k) - zS Q K a k else 0
/-- The sum of those logarithms from key `n` on. -/
def leftS (a n : ℕ) : ℝ := (∑ k ∈ Finset.range 4096, stayS Q K a k) - ∑ k ∈ Finset.range n, stayS Q K a k
/-- The weight of key `k` in row `a`. -/
def wS (a k : ℕ) : ℝ := if k < a then Real.exp (lbR (zS Q K a k) + leftS Q K a (k + 1)) else 0
/-- The weight times its gradient. -/
def gS (a k : ℕ) : ℝ := wS Q K a k * ∑ c ∈ Finset.range 128, D a c * V k c
/-- The sum of those products over the keys before `n`. -/
def preS (a n : ℕ) : ℝ := ∑ k ∈ Finset.range n, gS Q K D V a k
/-- The gradient by the score. -/
def dzS (a k : ℕ) : ℝ :=
  if k < a then gS Q K D V a k - Real.exp (lbR (zS Q K a k)) * (gS Q K D V a k + preS Q K D V a k) else 0

theorem leftS_add (a m b : ℕ) : leftS Q K a (m + b) = leftS Q K a m - ∑ j ∈ Finset.range b, stayS Q K a (m + j) := by
  unfold leftS; rw [Finset.sum_range_add (stayS Q K a)]; ring
theorem preS_add (a m b : ℕ) : preS Q K D V a (m + b) = preS Q K D V a m + ∑ j ∈ Finset.range b, gS Q K D V a (m + j) := by
  unfold preS; rw [Finset.sum_range_add (gS Q K D V a)]
theorem preS_zero (a : ℕ) : preS Q K D V a 0 = 0 := rfl
theorem leftS_zero (a : ℕ) : leftS Q K a 0 = ∑ k ∈ Finset.range 4096, stayS Q K a k := sub_zero _
end

section
variable {Q K D V : ℕ → ℕ → ℝ} {n m : ℕ} {triU triB : FVec Ideal S256x256 .bf16} {q k d v : FVec Ideal S512x128 .bf16}
  {r p : FVec Ideal S512x128 .f32}

theorem scores_is (hq : Is q fun a c => Q (n + a) c) (hk : Is k fun b c => K (m + b) c) :
    Is (score q k) (fun a b => zS Q K (n + a) (m + b)) := score_is hq hk
theorem lbs_is (hq : Is q fun a c => Q (n + a) c) (hk : Is k fun b c => K (m + b) c) :
    Is (logBeta (score q k)) (fun a b => lbR (zS Q K (n + a) (m + b))) := logBeta_is (scores_is hq hk)

theorem tileS_is (h : m + 512 ≤ n) (hq : Is q fun a c => Q (n + a) c) (hk : Is k fun b c => K (m + b) c) :
    Is (subf (logBeta (score q k)) (score q k)) (fun a b => stayS Q K (n + a) (m + b)) :=
  (sub_is (lbs_is hq hk) (scores_is hq hk)).congr fun a b _ hb => (if_pos (by omega)).symm

theorem tileW_is (h : m + 512 ≤ n) (hU : Tri (· ≤ ·) triU) (hq : Is q fun a c => Q (n + a) c) (hk : Is k fun b c => K (m + b) c)
    (hr : Is r fun a _ => leftS Q K (n + a) m) : Is (tileW triU q k r) (fun a b => wS Q K (n + a) (m + b)) :=
  (exp_is (add_is (lbs_is hq hk) (later_is hU hr (tileS_is h hq hk)))).congr fun a b _ hb => by
    unfold wS; rw [if_pos (by omega), add_assoc m b 1, leftS_add]

theorem tileR_is (h : m + 512 ≤ n) (hU : Tri (· ≤ ·) triU) (hq : Is q fun a c => Q (n + a) c) (hk : Is k fun b c => K (m + b) c)
    (hr : Is r fun a _ => leftS Q K (n + a) m) : Is (tileR triU q k r) (fun a _ => leftS Q K (n + a) (m + 512)) :=
  (rest4_is hU hr (tileS_is h hq hk)).congr fun a b _ _ => (leftS_add Q K _ _ _).symm

theorem tileG_is (h : m + 512 ≤ n) (hU : Tri (· ≤ ·) triU) (hq : Is q fun a c => Q (n + a) c) (hk : Is k fun b c => K (m + b) c)
    (hd : Is d fun a c => D (n + a) c) (hv : Is v fun b c => V (m + b) c)
    (hr : Is r fun a _ => leftS Q K (n + a) m) : Is (tileG triU q d k v r) (fun a b => gS Q K D V (n + a) (m + b)) :=
  mul_is (tileW_is h hU hq hk hr) (score_is hd hv)

theorem tileP_is (h : m + 512 ≤ n) (hU : Tri (· ≤ ·) triU) (hB : Tri (· < ·) triB) (hq : Is q fun a c => Q (n + a) c) (hk : Is k fun b c => K (m + b) c)
    (hd : Is d fun a c => D (n + a) c) (hv : Is v fun b c => V (m + b) c)
    (hr : Is r fun a _ => leftS Q K (n + a) m) (hp : Is p fun a _ => preS Q K D V (n + a) m) :
    Is (tileP triU triB q d k v r p) (fun a _ => preS Q K D V (n + a) (m + 512)) :=
  (pre4_is hB hp (tileG_is h hU hq hk hd hv hr)).congr fun a b _ _ => (preS_add Q K D V _ _ _).symm

theorem tileZ_is (h : m + 512 ≤ n) (hU : Tri (· ≤ ·) triU) (hB : Tri (· < ·) triB) (hq : Is q fun a c => Q (n + a) c) (hk : Is k fun b c => K (m + b) c)
    (hd : Is d fun a c => D (n + a) c) (hv : Is v fun b c => V (m + b) c)
    (hr : Is r fun a _ => leftS Q K (n + a) m) (hp : Is p fun a _ => preS Q K D V (n + a) m) :
    Is (tileZ triU triB q d k v r p) (fun a b => dzS Q K D V (n + a) (m + b)) :=
  (trunc_is (sub_is (tileG_is h hU hq hk hd hv hr) (mul_is (exp_is (lbs_is hq hk))
    (add_is (tileG_is h hU hq hk hd hv hr) (before_is hB hp (tileG_is h hU hq hk hd hv hr)))))).congr fun a b _ hb => by
      unfold dzS; rw [if_pos (by omega), preS_add]

end

theorem trips2 (i : grid0.Coords) : (k0_t2_loop i).trips = (i 1).val := by
  have key : ∀ x : Fin 8, Scf.trips 0#32 (Scalar.addi 0#32 (Scalar.muli (Scalar.divsi (Scalar.subi (BitVec.ofNat 32 x.val) 0#32) 1#32) 1#32)) 1#32 = x.val := by
    decide +kernel
  exact key (i 1)
theorem trips3 (i : grid0.Coords) : (k0_t3_loop i).trips = 0 := by
  have key : ∀ x : Fin 8, Scf.trips (Scalar.addi 0#32 (Scalar.muli (Scalar.divsi (Scalar.subi (BitVec.ofNat 32 x.val) 0#32) 1#32) 1#32)) (Scalar.addi 0#32 (Scalar.subi (BitVec.ofNat 32 x.val) 0#32)) 1#32 = 0 := by
    decide +kernel
  exact key (i 1)
theorem off_word (x : Fin 8) : (Scalar.indexCast (Scalar.muli (Scf.iv 0#32 1#32 x.val) 512#32)).toNat = 512 * x.val := by
  revert x; decide +kernel
theorem off2_closed (i : grid0.Coords) (k : Fin (k0_t2_loop i).trips) : k0_off2 i k = ![512 * k.val, 0] := by
  have h : (i 1).val < 8 := (i 1).isLt
  have hk : k.val < (i 1).val := lt_of_lt_of_eq k.isLt (trips2 i)
  have := off_word ⟨k.val, by omega⟩
  show ![_, 0] = _
  rw [← this]
theorem off3_closed (i : grid0.Coords) (k : Fin (k0_t2_loop i).trips) : k0_off3 i k = ![0, 512 * k.val] := by
  have h : (i 1).val < 8 := (i 1).isLt
  have hk : k.val < (i 1).val := lt_of_lt_of_eq k.isLt (trips2 i)
  have := off_word ⟨k.val, by omega⟩
  show ![0, _] = _
  rw [← this]

/-- The numbers that a buffer holds. -/
abbrev Holds {m n : ℕ} (M : Memref sig .tc .vmem ⟨2, ![m, n]⟩ .f32) (f : BufTy.Contents (Elt Ideal) M.view.ty) (E : ℕ → ℕ → ℝ) : Prop :=
  Is (m := m) (n := n) (φ := .f32) (M.view.read (Elt Ideal) f) E

/-- The numbers that a buffer holds. -/
abbrev Holds16 {m n : ℕ} (M : Memref sig .tc .vmem ⟨2, ![m, n]⟩ .bf16) (f : BufTy.Contents (Elt Ideal) M.view.ty) (E : ℕ → ℕ → ℝ) : Prop :=
  Is (m := m) (n := n) (φ := .bf16) (M.view.read (Elt Ideal) f) E

theorem rows_is {M : Memref sig .tc .vmem S4096x128 .f32} {f : BufTy.Contents (Elt Ideal) M.view.ty} {K : ℕ → ℕ → ℝ} (h : Holds M f K)
    {off : Fin 2 → ℕ} {m : ℕ} (ho : off = ![m, 0]) (inb : ∀ a, off a + S512x128.size a ≤ S4096x128.size a) :
    Is (m := 512) (n := 128) (φ := .f32) (View.readAt (Elt Ideal) M.view (Rect.unit (s := S4096x128) off S512x128.size inb).toLoadRect f) (fun b c => K (m + b) c) := by
  subst ho
  intro i j
  have hm : m + 512 ≤ 4096 := inb 0
  rw [View.readAt_apply]
  refine Eq.trans (congrArg _ ?_) (h ⟨m + i.val, by omega⟩ j)
  funext a
  refine Fin.ext ?_
  revert a
  refine Fin.forall_fin_two.2 ⟨?_, ?_⟩
  · show m + 1 * i.val = m + i.val; omega
  · show 0 + 1 * j.val = j.val; omega

theorem rows16_is {M : Memref sig .tc .vmem S4096x128 .bf16} {f : BufTy.Contents (Elt Ideal) M.view.ty} {K : ℕ → ℕ → ℝ} (h : Holds16 M f K)
    {off : Fin 2 → ℕ} {m : ℕ} (ho : off = ![m, 0]) (inb : ∀ a, off a + S512x128.size a ≤ S4096x128.size a) :
    Is (m := 512) (n := 128) (φ := .bf16) (View.readAt (Elt Ideal) M.view (Rect.unit (s := S4096x128) off S512x128.size inb).toLoadRect f) (fun b c => K (m + b) c) := by
  subst ho
  intro i j
  have hm : m + 512 ≤ 4096 := inb 0
  rw [View.readAt_apply]
  refine Eq.trans (congrArg _ ?_) (h ⟨m + i.val, by omega⟩ j)
  funext a
  refine Fin.ext ?_
  revert a
  refine Fin.forall_fin_two.2 ⟨?_, ?_⟩
  · show m + 1 * i.val = m + i.val; omega
  · show 0 + 1 * j.val = j.val; omega

theorem cols_is {M : Memref sig .tc .vmem S128x4096 .f32} {f : BufTy.Contents (Elt Ideal) M.view.ty} {K : ℕ → ℕ → ℝ} (h : Holds M f K)
    {off : Fin 2 → ℕ} {m : ℕ} (ho : off = ![0, m]) (inb : ∀ a, off a + S128x512.size a ≤ S128x4096.size a) :
    Is (m := 128) (n := 512) (φ := .f32) (View.readAt (Elt Ideal) M.view (Rect.unit (s := S128x4096) off S128x512.size inb).toLoadRect f) (fun b c => K b (m + c)) := by
  subst ho
  intro i j
  have hm : m + 512 ≤ 4096 := inb 1
  rw [View.readAt_apply]
  refine Eq.trans (congrArg _ ?_) (h i ⟨m + j.val, by omega⟩)
  funext a
  refine Fin.ext ?_
  revert a
  refine Fin.forall_fin_two.2 ⟨?_, ?_⟩
  · show 0 + 1 * i.val = i.val; omega
  · show m + 1 * j.val = m + j.val; omega

theorem put_is {M : Memref sig .tc .vmem S128x4096 .f32} {f : BufTy.Contents (Elt Ideal) M.view.ty} {L : List (View.Piece (Elt Ideal) S128x4096 .f32)}
    {E G : ℕ → ℕ → ℝ} (h : Holds M (M.view.writes (Elt Ideal) f L) E)
    {off : Fin 2 → ℕ} {m : ℕ} (ho : off = ![0, m]) (inb : ∀ a, off a + S128x512.size a ≤ S128x4096.size a) {w : FVec Ideal S128x512 .f32} (hw : Is w G) :
    Holds M (M.view.writes (Elt Ideal) f (⟨Rect.unit (s := S128x4096) off S128x512.size inb, w⟩ :: L))
      (fun c k => if m ≤ k ∧ k < m + 512 then G c (k - m) else E c k) := by
  intro i j
  by_cases hj : m ≤ j.val ∧ j.val < m + 512
  · simp only [if_pos hj]
    refine (View.read_writes_cons_unit_of_mem M.view f inb w L (ix2 i j) (ix2 i ⟨j.val - m, by omega⟩) ho ?_).trans (hw _ _)
    refine Fin.forall_fin_two.2 ⟨?_, ?_⟩
    · show i.val = 0 + i.val; omega
    · show j.val = m + (j.val - m); omega
  · simp only [if_neg hj]
    refine (View.read_writes_cons_unit_of_not_mem M.view f inb w L (ix2 i j) ho 1 ?_).trans (h i j)
    show j.val < m ∨ m + 512 ≤ j.val
    omega

theorem cast_is {w : FVec Ideal S128x512 .f32} {G : ℕ → ℕ → ℝ} (hw : Is w G) : Is (shapeCast S128x512 w shapeCasts_S128x512_S128x512) G := by
  intro i j
  pointwise
  exact hw i j

section
variable (Q0 Q1 K D0 D1 V : ℕ → ℕ → ℝ)
/-- What key `k` adds to the gradient by the query of row `a`, in the columns of the two heads. -/
def dqS (a k c : ℕ) : ℝ := (if c < 64 then dzS Q0 K D0 V a k else dzS Q1 K D1 V a k) * K k c
/-- What row `a` adds to the gradient by key `k`. -/
def dkS (a c k : ℕ) : ℝ := Q0 a c * dzS Q0 K D0 V a k + Q1 a c * dzS Q1 K D1 V a k
/-- What row `a` adds to the gradient by the value of key `k`. -/
def dvS (a c k : ℕ) : ℝ := D0 a c * wS Q0 K a k + D1 a c * wS Q1 K a k
end

variable {arg2 : Memref sig .tc .vmem S512x128 .f32} {harg2 : arg2.IsWhole} {arg3 : Memref sig .tc .vmem S4096x128 .f32} {harg3 : arg3.IsWhole} {arg4 : Memref sig .tc .vmem S4096x128 .f32} {harg4 : arg4.IsWhole} {arg5 : Memref sig .tc .vmem S1x128 .f32} {harg5 : arg5.IsWhole} {arg6 : Memref sig .tc .vmem S1x128 .f32} {harg6 : arg6.IsWhole} {arg7 : Memref sig .tc .vmem S2x512x1 .f32} {harg7 : arg7.IsWhole} {arg8 : Memref sig .tc .vmem S512x128 .f32} {harg8 : arg8.IsWhole} {arg9 : Memref sig .tc .vmem S512x128 .f32} {harg9 : arg9.IsWhole} {arg10 : Memref sig .tc .vmem S4096x128 .f32} {harg10 : arg10.IsWhole} {arg11 : Memref sig .tc .vmem S4096x128 .f32} {harg11 : arg11.IsWhole} {arg12 : Memref sig .tc .vmem S1x1x128 .f32} {harg12 : arg12.IsWhole} {arg13 : Memref sig .tc .vmem S1x1x128 .f32} {harg13 : arg13.IsWhole} {arg14 : Memref sig .tc .vmem S4096x128 .bf16} {harg14 : arg14.IsWhole} {arg15 : Memref sig .tc .vmem S4096x128 .bf16} {harg15 : arg15.IsWhole} {arg16 : Memref sig .tc .vmem S128x4096 .f32} {harg16 : arg16.IsWhole} {arg17 : Memref sig .tc .vmem S128x4096 .f32} {harg17 : arg17.IsWhole}

/-- What holds before trip `t` of the loop over the earlier tiles, `n` the first of the query rows. -/
def Before (Q0 Q1 K D0 D1 V E16 E17 : ℕ → ℕ → ℝ) (n t : ℕ) (acc : FVec Ideal S512x128 .f32 × FVec Ideal S512x128 .f32 × FVec Ideal S512x128 .f32 × FVec Ideal S512x128 .f32 × FVec Ideal S512x128 .f32)
    (f16 : BufTy.Contents (Elt Ideal) arg16.view.ty) (f17 : BufTy.Contents (Elt Ideal) arg17.view.ty) : Prop :=
  Is acc.1 (fun a b => ∑ k ∈ Finset.range (512 * t), dqS Q0 Q1 K D0 D1 V (n + a) k b) ∧
  Is acc.2.1 (fun a _ => leftS Q0 K (n + a) (512 * t)) ∧ Is acc.2.2.1 (fun a _ => leftS Q1 K (n + a) (512 * t)) ∧
  Is acc.2.2.2.1 (fun a _ => preS Q0 K D0 V (n + a) (512 * t)) ∧ Is acc.2.2.2.2 (fun a _ => preS Q1 K D1 V (n + a) (512 * t)) ∧
  Holds arg16 f16 (fun c k => E16 c k + if k < 512 * t then ∑ a ∈ Finset.range 512, dkS Q0 Q1 K D0 D1 V (n + a) c k else 0) ∧
  Holds arg17 f17 (fun c k => E17 c k + if k < 512 * t then ∑ a ∈ Finset.range 512, dvS Q0 Q1 K D0 D1 (n + a) c k else 0)

theorem join {A B : Type} {s : A × List B × List B} {a a' : A} {x x' y z z' w : List B} (h : s = (a, x ++ y, z ++ w)) (ha : a = a') (hx : x = x')
    (hz : z = z') : s = (a', x' ++ y, z' ++ w) := by subst ha hx hz; exact h

theorem loop_is {𝒱 : Variants} {c : Dev nD} {bd : Option 𝒱.V} {i : grid0.Coords} {arg1 : BitVec 32} {v43 : IVec S512x128 1} {v72 : FVec Ideal S256x256 .bf16} {v98 : FVec Ideal S256x256 .bf16} {v103 : FVec Ideal S512x128 .bf16} {v106 : FVec Ideal S512x128 .bf16} {v109 : FVec Ideal S128x512 .bf16} {v112 : FVec Ideal S128x512 .bf16} {v115 : FVec Ideal S512x128 .bf16} {v118 : FVec Ideal S512x128 .bf16} {v121 : FVec Ideal S128x512 .bf16} {v124 : FVec Ideal S128x512 .bf16} {v125 : FVec Ideal S512x128 .f32} {v126 : FVec Ideal S512x128 .f32} {X14 : BufTy.Contents (Elt Ideal) arg14.view.ty} {X15 : BufTy.Contents (Elt Ideal) arg15.view.ty} {G16 : BufTy.Contents (Elt Ideal) arg16.view.ty} {G17 : BufTy.Contents (Elt Ideal) arg17.view.ty} {init : FVec Ideal S512x128 .f32 × FVec Ideal S512x128 .f32 × FVec Ideal S512x128 .f32 × FVec Ideal S512x128 .f32 × FVec Ideal S512x128 .f32}
    {Q0 Q1 K D0 D1 V E16 E17 : ℕ → ℕ → ℝ} {n : ℕ} (hn : n = 512 * (i 1).val)
    (hF : First v43) (hU : Tri (· ≤ ·) v72) (hB : Tri (· < ·) v98)
    (hq0 : Is v103 fun a c => Q0 (n + a) c) (hq1 : Is v106 fun a c => Q1 (n + a) c)
    (ht0 : Is v109 fun c a => Q0 (n + a) c) (ht1 : Is v112 fun c a => Q1 (n + a) c)
    (hd0 : Is v115 fun a c => D0 (n + a) c) (hd1 : Is v118 fun a c => D1 (n + a) c)
    (hu0 : Is v121 fun c a => D0 (n + a) c) (hu1 : Is v124 fun c a => D1 (n + a) c)
    (hK : Holds16 arg14 X14 K) (hV : Holds16 arg15 X15 V)
    (h0 : Before (arg16 := arg16) (arg17 := arg17) Q0 Q1 K D0 D1 V E16 E17 n 0 init G16 G17) (t : ℕ) (ht : t ≤ (k0_t2_loop i).trips) :
    Before (arg16 := arg16) (arg17 := arg17) Q0 Q1 K D0 D1 V E16 E17 n t (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v43 v72 v98 v103 v106 v109 v112 v115 v118 v121 v124 v125 v126 X14 X15 G16 G17 init t).1 (arg16.view.writes (Elt Ideal) G16 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v43 v72 v98 v103 v106 v109 v112 v115 v118 v121 v124 v125 v126 X14 X15 G16 G17 init t).2.1) (arg17.view.writes (Elt Ideal) G17 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v43 v72 v98 v103 v106 v109 v112 v115 v118 v121 v124 v125 v126 X14 X15 G16 G17 init t).2.2) := by
  induction t with
  | zero => exact h0
  | succ t ih =>
    obtain ⟨b0, b1, b2, b3, b4, b5, b6⟩ := ih (by omega)
    have hlt : t < (i 1).val := by rw [← trips2 i]; exact ht
    have hm : 512 * t + 512 ≤ n := by omega
    have kk := rows16_is hK (off2_closed i ⟨t, ht⟩) (k0_off2_inb i ⟨t, ht⟩)
    have vv := rows16_is hV (off2_closed i ⟨t, ht⟩) (k0_off2_inb i ⟨t, ht⟩)
    have z0 := tileZ_is (q := v103) (d := v115) hm hU hB hq0 kk hd0 vv b1 b3
    have z1 := tileZ_is (q := v106) (d := v118) hm hU hB hq1 kk hd1 vv b2 b4
    have w0 := tileW_is hm hU hq0 kk b1
    have w1 := tileW_is hm hU hq1 kk b2
    have e := st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v43 v72 v98 v103 v106 v109 v112 v115 v118 v121 v124 v125 v126 X14 X15 G16 G17 init ⟨t, ht⟩
    simp only [] at e
    have e2 := join e (trip_row arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i arg1 v43 v72 v98 v103 v106 v109 v112 v115 v118 v121 v124 v125 v126 X14 X15 ⟨t, ht⟩ _ _ _) (trip_keys arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i arg1 v43 v72 v98 v103 v106 v109 v112 v115 v118 v121 v124 v125 v126 X14 X15 ⟨t, ht⟩ _ _ _) (trip_values arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i arg1 v43 v72 v98 v103 v106 v109 v112 v115 v118 v121 v124 v125 v126 X14 X15 ⟨t, ht⟩ _ _ _)
    rw [e2]
    clear e e2
    generalize (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v43 v72 v98 v103 v106 v109 v112 v115 v118 v121 v124 v125 v126 X14 X15 G16 G17 init t) = S at *
    refine ⟨?_, (tileR_is hm hU hq0 kk b1).congr fun a b _ _ => by rw [Nat.mul_succ], (tileR_is hm hU hq1 kk b2).congr fun a b _ _ => by rw [Nat.mul_succ],
      (tileP_is hm hU hB hq0 kk hd0 vv b1 b3).congr fun a b _ _ => by rw [Nat.mul_succ], (tileP_is hm hU hB hq1 kk hd1 vv b2 b4).congr fun a b _ _ => by rw [Nat.mul_succ], ?_, ?_⟩
    · refine (add_is b0 (byQuery_is hF z0 z1 kk)).congr fun a b _ _ => ?_
      rw [Nat.mul_succ, Finset.sum_range_add]
      rfl
    · refine (put_is b5 (off3_closed i ⟨t, ht⟩) (k0_off3_inb i ⟨t, ht⟩) (cast_is (add_is (cols_is b5 (off3_closed i ⟨t, ht⟩) (k0_off3_inb i ⟨t, ht⟩)) (byKey_is ht0 ht1 z0 z1)))).congr fun c k _ _ => ?_
      simp only []
      split
      · rename_i hk
        rw [show 512 * t + (k - 512 * t) = k by omega, if_neg (by omega), if_pos (by omega), add_zero]
        rfl
      · rename_i hk
        congr 1
        by_cases h1 : k < 512 * t
        · rw [if_pos h1, if_pos (by omega)]
        · rw [if_neg h1, if_neg (by omega)]
    · refine (put_is b6 (off3_closed i ⟨t, ht⟩) (k0_off3_inb i ⟨t, ht⟩) (cast_is (add_is (cols_is b6 (off3_closed i ⟨t, ht⟩) (k0_off3_inb i ⟨t, ht⟩)) (byKey_is hu0 hu1 (trunc_is w0) (trunc_is w1))))).congr fun c k _ _ => ?_
      simp only []
      split
      · rename_i hk
        rw [show 512 * t + (k - 512 * t) = k by omega, if_neg (by omega), if_pos (by omega), add_zero]
        rfl
      · rename_i hk
        congr 1
        by_cases h1 : k < 512 * t
        · rw [if_pos h1, if_pos (by omega)]
        · rw [if_neg h1, if_neg (by omega)]

end Cert.KernelIdeal.Hand
end
-- ==== Proof.Own.lean ====
/-
  Hand-written, untrusted. What the vectors of the tile on the diagonal, of the normalised rows and of their gradients hold, read as real numbers.
-/
module

public import proofs.«01_k».proof.Proof.Diag
public import proofs.«01_k».proof.Proof.Loop
public import Idealize.ShloMosaic.Lib.WordCmp

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem slt_nat {a b : ℕ} (ha : a < 2 ^ 31) (hb : b < 2 ^ 31) :
    IntOp.cmpi CmpIPredicate.slt (BitVec.ofNat 32 a) (BitVec.ofNat 32 b) = if a < b then 1#1 else 0#1 := by
  rw [WordCmp.cmpi_slt_ofNat (by simpa using ha) (by simpa using hb)]
  by_cases h : a < b <;> simp [h]

theorem first_row : First k0_pay133 := by
  intro i j
  unfold k0_pay133
  pointwise
  exact slt_nat (by omega) (by omega)

theorem first_row' : First k0_pay197 := first_row

theorem first_col (i : Fin 128) (j : Fin 512) : k0_pay134 (ix2 i j) = if (i : ℕ) < 64 then 1#1 else 0#1 := by
  unfold k0_pay134
  pointwise
  exact slt_nat (by omega) (by omega)

theorem own_mask (i j : Fin 512) : k0_pay157 (ix2 i j) = if (j : ℕ) < (i : ℕ) then 1#1 else 0#1 := by
  unfold k0_pay157
  pointwise
  exact slt_nat (by omega) (by omega)

theorem rem_row (i : Fin 256) : (Scalar.select
            (IntOp.andi
              (IntOp.xori
                (IntOp.cmpi CmpIPredicate.slt
                  (IntOp.remsi ArithUnit.vector (BitVec.ofNat 32 ↑i)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 ↑i)
                  (Scalar.select (Scalar.cmpi CmpIPredicate.eq 128#32 0#32) 1#32 128#32))
                0#32))
            (IntOp.addi
              (IntOp.remsi ArithUnit.vector (BitVec.ofNat 32 ↑i)
                (Scalar.select (Scalar.cmpi CmpIPredicate.eq 128#32 0#32) 1#32 128#32))
              (Scalar.select (Scalar.cmpi CmpIPredicate.eq 128#32 0#32) 1#32 128#32))
            (IntOp.remsi ArithUnit.vector (BitVec.ofNat 32 ↑i)
              (Scalar.select (Scalar.cmpi CmpIPredicate.eq 128#32 0#32) 1#32 128#32))) = BitVec.ofNat 32 (i.val % 128) := by
  revert i; decide +kernel

theorem sge_128 (j : Fin 256) : IntOp.cmpi CmpIPredicate.sge (BitVec.ofNat 32 ↑j) 128#32 = if 128 ≤ j.val then 1#1 else 0#1 := by
  revert j; decide +kernel

theorem sle_nat {a b : ℕ} (ha : a < 2 ^ 31) (hb : b < 2 ^ 31) :
    IntOp.cmpi CmpIPredicate.sle (BitVec.ofNat 32 a) (BitVec.ofNat 32 b) = if a ≤ b then 1#1 else 0#1 := by
  rw [WordCmp.cmpi_sle_ofNat (by simpa using ha) (by simpa using hb)]
  by_cases h : a ≤ b <;> simp [h]

theorem table {p q : Prop} [Decidable p] [Decidable q] : Scalar.select (IntOp.ori (if p then 1#1 else 0#1) (if q then 1#1 else 0#1)) (1 : EReal) 0 = ((if p ∨ q then 1 else 0 : ℝ) : EReal) := by
  by_cases hp : p <;> by_cases hq : q <;> simp [hp, hq, Scalar.select, IntOp.ori]

theorem ofBits_eighth : Ideal.ofBits FTy.f32 0x3E000000#32 = ((1 / 8 : ℝ) : EReal) := by
  simp [Ideal.ofBits, Ideal.ieee, -EReal.coe_mul]; norm_num
theorem ofBits_64th : Ideal.ofBits FTy.f32 0x3C800000#32 = ((1 / 64 : ℝ) : EReal) := by
  simp [Ideal.ofBits, Ideal.ieee, -EReal.coe_mul]; norm_num
theorem ofBits_eps : Ideal.ofBits FTy.f32 0x358637BD#32 = ((8796093 / 8796093022208 : ℝ) : EReal) := by
  simp [Ideal.ofBits, Ideal.ieee, -EReal.coe_mul]; norm_num

theorem triU_is : Tri (· ≤ ·) (k0_pay135 (F := Ideal)) := by
  intro i j
  unfold k0_pay135
  pointwise
  refine Eq.trans ?_ table
  refine congrArg₂ (fun a b => Scalar.select (IntOp.ori a b) (1 : EReal) 0) (sge_128 j) ?_
  refine (congrArg (fun w => IntOp.cmpi CmpIPredicate.sle w (BitVec.ofNat 32 j.val)) (rem_row i)).trans ?_
  exact sle_nat (by omega) (by omega)

theorem triB_is : Tri (· < ·) (triB (F := Ideal)) := by
  intro i j
  unfold triB k0_pay139 k0_pay138 k0_pay137 k0_pay136
  pointwise
  refine Eq.trans ?_ table
  refine congrArg₂ (fun a b => Scalar.select (IntOp.ori a b) (1 : EReal) 0) (sge_128 j) ?_
  refine (congrArg (fun w => IntOp.cmpi CmpIPredicate.slt w (BitVec.ofNat 32 j.val)) (rem_row i)).trans ?_
  exact slt_nat (by omega) (by omega)

/-- A choice between two vectors by a table. -/
theorem select_is {m n : ℕ} {φ : FTy} {s : IVec ⟨2, ![m, n]⟩ 1} (p : ℕ → ℕ → Prop) [∀ a b, Decidable (p a b)] {x y : FVec Ideal ⟨2, ![m, n]⟩ φ} {f g : ℕ → ℕ → ℝ}
    (hs : ∀ i j, s (ix2 i j) = if p i j then 1#1 else 0#1) (hx : Is x f) (hy : Is y g) :
    Is (select s x y) (fun a b => if p a b then f a b else g a b) := by
  intro i j
  pointwise
  rw [hs i j]
  by_cases h : p i j
  · simp only [if_pos h]; exact (if_pos rfl).trans (hx i j)
  · simp only [if_neg h]; exact (if_neg (by decide)).trans (hy i j)

theorem zero_is {m n : ℕ} : Is (broadcast ⟨2, ![m, n]⟩ (Scalar.ofBits (F := Ideal) .f32 0x00000000#32)) (fun _ _ => 0) := by
  intro i j
  pointwise
  simp

theorem eighth_is {m n : ℕ} : Is (broadcast ⟨2, ![m, n]⟩ (Scalar.ofBits (F := Ideal) .f32 0x3E000000#32)) (fun _ _ => 1 / 8) := by
  intro i j
  pointwise
  exact ofBits_eighth

section
variable {Q K D V : ℕ → ℕ → ℝ} {n : ℕ} {q k d v : FVec Ideal S512x128 .bf16} {r p : FVec Ideal S512x128 .f32} {triU tB : FVec Ideal S256x256 .bf16}

theorem ownS_is (hq : Is q fun a c => Q (n + a) c) (hk : Is k fun b c => K (n + b) c) :
    Is (ownS q k) (fun a b => stayS Q K (n + a) (n + b)) :=
  (select_is (fun a b => b < a) own_mask (sub_is (lbs_is hq hk) (scores_is hq hk)) zero_is).congr fun a b _ _ => by
    unfold stayS; simp only [Nat.add_lt_add_iff_left]

theorem ownW_is (hU : Tri (· ≤ ·) triU) (hq : Is q fun a c => Q (n + a) c) (hk : Is k fun b c => K (n + b) c)
    (hr : Is r fun a _ => leftS Q K (n + a) n) : Is (ownW triU q k r) (fun a b => wS Q K (n + a) (n + b)) :=
  (select_is (fun a b => b < a) own_mask (exp_is (add_is (lbs_is hq hk) (later_is hU hr (ownS_is hq hk)))) zero_is).congr fun a b _ _ => by
    unfold wS; simp only [Nat.add_lt_add_iff_left]; rw [add_assoc n b 1, leftS_add]

theorem ownG_is (hU : Tri (· ≤ ·) triU) (hq : Is q fun a c => Q (n + a) c) (hk : Is k fun b c => K (n + b) c)
    (hd : Is d fun a c => D (n + a) c) (hv : Is v fun b c => V (n + b) c)
    (hr : Is r fun a _ => leftS Q K (n + a) n) : Is (ownG triU q d k v r) (fun a b => gS Q K D V (n + a) (n + b)) :=
  mul_is (ownW_is hU hq hk hr) (score_is hd hv)

theorem ownZ_is (hU : Tri (· ≤ ·) triU) (hB : Tri (· < ·) tB) (hq : Is q fun a c => Q (n + a) c) (hk : Is k fun b c => K (n + b) c)
    (hd : Is d fun a c => D (n + a) c) (hv : Is v fun b c => V (n + b) c)
    (hr : Is r fun a _ => leftS Q K (n + a) n) (hp : Is p fun a _ => preS Q K D V (n + a) n) :
    Is (ownZ triU tB q d k v r p) (fun a b => dzS Q K D V (n + a) (n + b)) :=
  (trunc_is (select_is (fun a b => b < a) own_mask (sub_is (ownG_is hU hq hk hd hv hr) (mul_is (exp_is (lbs_is hq hk))
    (add_is (ownG_is hU hq hk hd hv hr) (before_is hB hp (ownG_is hU hq hk hd hv hr))))) zero_is)).congr fun a b _ hb => by
      unfold dzS; simp only [Nat.add_lt_add_iff_left]; rw [preS_add]
end

/-- The mean of the 64 columns of the head that column `c` is in. -/
def headMean (X : ℕ → ℕ → ℝ) (a c : ℕ) : ℝ := (∑ j ∈ Finset.range 64, X a (64 * (c / 64) + j)) * (1 / 64)
/-- The number added to a mean square. -/
def epsR : ℝ := 8796093 / 8796093022208
/-- The factor of a normalised row. -/
def rmsR (X : ℕ → ℕ → ℝ) (a c : ℕ) : ℝ := (Real.sqrt (headMean (fun a c => X a c * X a c) a c + epsR))⁻¹

theorem half_lo (f : ℕ → ℝ) : (∑ j ∈ Finset.range 128, if j < 64 then f j else 0) = ∑ j ∈ Finset.range 64, f j := by
  rw [show 128 = 64 + 64 by rfl, Finset.sum_range_add (fun j => if j < 64 then f j else 0)]
  rw [Finset.sum_congr rfl (fun j hj => if_pos (Finset.mem_range.1 hj)), Finset.sum_eq_zero (s := Finset.range 64) (f := fun j => if 64 + j < 64 then f (64 + j) else 0) (fun j _ => if_neg (by omega)), add_zero]

theorem half_hi (f : ℕ → ℝ) : (∑ j ∈ Finset.range 128, if j < 64 then 0 else f j) = ∑ j ∈ Finset.range 64, f (64 + j) := by
  rw [show 128 = 64 + 64 by rfl, Finset.sum_range_add (fun j => if j < 64 then 0 else f j)]
  rw [Finset.sum_eq_zero (s := Finset.range 64) (f := fun j => if j < 64 then (0 : ℝ) else f j) (fun j hj => if_pos (Finset.mem_range.1 hj)), zero_add]
  exact Finset.sum_congr rfl fun j _ => if_neg (by omega)

theorem rowSum_is {x : FVec Ideal S512x128 .f32} {f : ℕ → ℕ → ℝ} (hx : Is x f) :
    Is (broadcastTo S512x128 (shapeCast S512x1 (mulf (shapeCast S512x1 (multiReduction .add [1] S512 x 0x00000000#32 reduces_S512x128_S512 (.inl rfl) rfl) shapeCasts_S512_S512x1) (broadcast S512x1 (Scalar.ofBits .f32 0x3C800000#32))) shapeCasts_S512x1_S512x1) broadcasts_S512x1_S512x128)
      (fun a _ => (∑ j ∈ Finset.range 128, f a j) * (1 / 64)) := by
  intro i j
  pointwise
  rw [Finset.sum_congr rfl (fun k _ => hx i k), coe_sum_val (fun k => f i k), EReal.coe_mul]
  exact congrArg _ ofBits_64th

theorem pairMean_is {x : FVec Ideal S512x128 .f32} {f : ℕ → ℕ → ℝ} (hx : Is x f) : Is (pairMean x) (headMean f) :=
  (select_is (fun _ b => b < 64) first_row' (rowSum_is (select_is (fun _ b => b < 64) first_row' hx zero_is)) (rowSum_is (select_is (fun _ b => b < 64) first_row' zero_is hx))).congr fun a b _ hb => by
    unfold headMean
    by_cases h : b < 64
    · rw [if_pos h, half_lo, show b / 64 = 0 by omega]; simp
    · rw [if_neg h, half_hi, show b / 64 = 1 by omega]

theorem transpose_is {x : FVec Ideal S512x128 .f32} {f : ℕ → ℕ → ℝ} (hx : Is x f) :
    Is (transpose S128x512 [1, 0] x transposes_S512x128_p1_0_S128x512) (fun c a => f a c) := by
  intro i j
  pointwise
  exact hx j i

theorem transpose_is' {x : FVec Ideal S128x512 .f32} {f : ℕ → ℕ → ℝ} (hx : Is x f) :
    Is (transpose S512x128 [1, 0] x transposes_S128x512_p1_0_S512x128) (fun c a => f a c) := by
  intro i j
  pointwise
  exact hx j i

theorem gain_is {g : FVec Ideal S1x128 .f32} {G : ℕ → ℝ} (hg : Is g fun _ c => G c) : Is (gainRows g) (fun _ c => G c) := by
  intro i j
  unfold gainRows
  pointwise
  exact hg _ j

theorem headMean_nonneg {X : ℕ → ℕ → ℝ} (a c : ℕ) : 0 ≤ headMean (fun a c => X a c * X a c) a c :=
  mul_nonneg (Finset.sum_nonneg fun _ _ => mul_self_nonneg _) (by norm_num)

theorem rsqrt_coe {x : ℝ} (h : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.2 h.le), if_neg h.ne']

theorem factor_is {x : FVec Ideal S512x128 .f32} {X : ℕ → ℕ → ℝ} (hx : Is x X) : Is (k0_pay129 x) (rmsR X) := by
  have hlo := rowSum_is (select_is (fun _ b => b < 64) first_row' (mul_is hx hx) zero_is)
  have hhi := rowSum_is (select_is (fun _ b => b < 64) first_row' zero_is (mul_is hx hx))
  intro i j
  have h1 := hlo i j
  have h2 := hhi i j
  have hp : 0 < headMean (fun a c => X a c * X a c) i j + epsR := add_pos_of_nonneg_of_pos (headMean_nonneg _ _) (by norm_num [epsR])
  have hf := first_row' i j
  unfold k0_pay197 at hf
  unfold k0_pay129
  clear hlo hhi
  unfold k0_pay197 at h1 h2
  pointwise at h1 h2 hf
  pointwise
  rw [h1, h2, ofBits_eps, hf, ← EReal.coe_add, ← EReal.coe_add]
  by_cases h : (j : ℕ) < 64
  · have e : (∑ j ∈ Finset.range 128, if j < 64 then X (↑i) j * X (↑i) j else 0) * (1 / 64) = headMean (fun a c => X a c * X a c) i j := by
      rw [headMean, half_lo (fun k => X i k * X i k), Nat.div_eq_of_lt h, mul_zero]; simp
    rw [if_pos h, e]
    exact rsqrt_coe hp
  · have e : (∑ j ∈ Finset.range 128, if j < 64 then 0 else X (↑i) j * X (↑i) j) * (1 / 64) = headMean (fun a c => X a c * X a c) i j := by
      rw [headMean, half_hi (fun k => X i k * X i k), show (j : ℕ) / 64 = 1 by omega]
    rw [if_neg h, e]
    exact rsqrt_coe hp

theorem backs_is {x r dn : FVec Ideal S512x128 .f32} {g : FVec Ideal S1x128 .f32} {X R N : ℕ → ℕ → ℝ} {G : ℕ → ℝ}
    (hx : Is x X) (hr : Is r R) (hn : Is dn N) (hg : Is g fun _ c => G c) :
    Is (rmsBack x r g dn) (fun a c => R a c * (N a c * G c) - X a c * (R a c * R a c * R a c * headMean (fun a c => N a c * G c * X a c) a c)) :=
  sub_is (mul_is hr (mul_is hn (gain_is hg))) (mul_is hx (mul_is (mul_is (mul_is hr hr) hr) (pairMean_is (mul_is (mul_is hn (gain_is hg)) hx))))

theorem gainBack_is {x r dn : FVec Ideal S512x128 .f32} {X R N : ℕ → ℕ → ℝ} (hx : Is x X) (hr : Is r R) (hn : Is dn N) :
    Is (gainBack x r dn) (fun _ c => ∑ a ∈ Finset.range 512, N a c * X a c * R a c) := by
  have h := mul_is (mul_is hn hx) hr
  intro i j
  unfold gainBack
  generalize mulf (mulf dn x) r = y at h ⊢
  pointwise
  rw [Finset.sum_congr rfl (fun k _ => h k j), coe_sum_val (fun k => N k j * X k j * R k j)]

/-- The scaled normalised rows. -/
theorem scaled_is {x : FVec Ideal S512x128 .f32} {g : FVec Ideal S1x128 .f32} {X : ℕ → ℕ → ℝ} {G : ℕ → ℝ} (hx : Is x X) (hg : Is g fun _ c => G c) :
    Is (k0_pay130 x g) (fun a c => X a c * rmsR X a c * G c * (1 / 8)) :=
  mul_is (mul_is (mul_is hx (factor_is hx)) (gain_is hg)) eighth_is

theorem lo_is {x : FVec Ideal S512x128 .f32} {f : ℕ → ℕ → ℝ} (hx : Is x f) : Is (k0_pay142 x k0_pay133) (fun a c => if c < 64 then f a c else 0) :=
  trunc_is (select_is (fun _ b => b < 64) first_row hx zero_is)
theorem hi_is {x : FVec Ideal S512x128 .f32} {f : ℕ → ℕ → ℝ} (hx : Is x f) : Is (k0_pay143 x k0_pay133) (fun a c => if ¬ c < 64 then f a c else 0) := by
  refine trunc_is (select_is (fun _ b => ¬ b < 64) (fun i j => ?_) hx zero_is)
  unfold k0_pay140
  pointwise
  rw [first_row i j]
  by_cases h : (j : ℕ) < 64 <;> simp [h] <;> decide
theorem loT_is {x : FVec Ideal S128x512 .f32} {f : ℕ → ℕ → ℝ} (hx : Is x f) : Is (k0_pay144 x k0_pay134) (fun c a => if c < 64 then f c a else 0) :=
  trunc_is (select_is (fun b _ => b < 64) first_col hx zero_is)
theorem hiT_is {x : FVec Ideal S128x512 .f32} {f : ℕ → ℕ → ℝ} (hx : Is x f) : Is (k0_pay145 x k0_pay134) (fun c a => if ¬ c < 64 then f c a else 0) := by
  refine trunc_is (select_is (fun b _ => ¬ b < 64) (fun i j => ?_) hx zero_is)
  unfold k0_pay141
  pointwise
  rw [first_col i j]
  by_cases h : (i : ℕ) < 64 <;> simp [h] <;> decide

theorem dqNorm_is {S : FVec Ideal S512x128 .f32 × FVec Ideal S512x128 .f32 × FVec Ideal S512x128 .f32 × FVec Ideal S512x128 .f32 × FVec Ideal S512x128 .f32} {q0 q1 d0 d1 k v : FVec Ideal S512x128 .bf16}
    {Q0 Q1 K D0 D1 V : ℕ → ℕ → ℝ} {n : ℕ} (hq0 : Is q0 fun a c => Q0 (n + a) c) (hq1 : Is q1 fun a c => Q1 (n + a) c)
    (hd0 : Is d0 fun a c => D0 (n + a) c) (hd1 : Is d1 fun a c => D1 (n + a) c) (hk : Is k fun b c => K (n + b) c) (hv : Is v fun b c => V (n + b) c)
    (hS : Is S.1 (fun a b => ∑ k ∈ Finset.range n, dqS Q0 Q1 K D0 D1 V (n + a) k b))
    (hr0 : Is S.2.1 fun a _ => leftS Q0 K (n + a) n) (hr1 : Is S.2.2.1 fun a _ => leftS Q1 K (n + a) n)
    (hp0 : Is S.2.2.2.1 fun a _ => preS Q0 K D0 V (n + a) n) (hp1 : Is S.2.2.2.2 fun a _ => preS Q1 K D1 V (n + a) n) :
    Is (dqNorm S q0 q1 d0 d1 k v) (fun a b => (∑ k ∈ Finset.range (n + 512), dqS Q0 Q1 K D0 D1 V (n + a) k b) * (1 / 8)) :=
  (mul_is (add_is hS (byQuery_is first_row (ownZ_is triU_is triB_is hq0 hk hd0 hv hr0 hp0) (ownZ_is triU_is triB_is hq1 hk hd1 hv hr1 hp1) hk)) eighth_is).congr
    fun a b _ _ => by rw [Finset.sum_range_add (fun k => dqS Q0 Q1 K D0 D1 V (n + a) k b)]; rfl

end Cert.KernelIdeal.Hand
end
-- ==== Proof.Cumsum.lean ====
/-
  Hand-written, untrusted. The two running sums along the keys, read at an index.
-/
module

public import proofs.«01_k».proof.Proof.Own
public import proofs.«01_k».proof.Proof.Gen.ReferenceIdeal.Run
public import Idealize.ShloMosaic.Lib.Tactic.CleanTypes

@[expose] public section

set_option maxRecDepth 16384
set_option maxHeartbeats 1000000

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Cert.KernelIdeal.Hand (coe_sum_fin coe_sum_val coe_min coe_max exp_coe log_coe rsqrt_coe ofBits_eighth ofBits_eps epsR)

/-- The vector `v` of three axes holds the real numbers `f`. -/
def Is3 {l m n : ℕ} (v : FVec Ideal ⟨3, ![l, m, n]⟩ .f32) (f : ℕ → ℕ → ℕ → ℝ) : Prop :=
  ∀ (h : Fin l) (i : Fin m) (j : Fin n), v (ix3 h i j) = ((f h i j : ℝ) : EReal)

theorem Is3.congr {l m n : ℕ} {v : FVec Ideal ⟨3, ![l, m, n]⟩ .f32} {f g : ℕ → ℕ → ℕ → ℝ} (hv : Is3 v f)
    (e : ∀ h a b, a < m → b < n → f h a b = g h a b) : Is3 v g := fun h i j => by rw [hv h i j, e _ _ _ i.isLt j.isLt]

theorem foldl_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The positions of a window of one row are the numbers below its length. -/
def lineEquiv (n : ℕ) : Fin n ≃ (⟨3, ![1, 1, n]⟩ : Shape).Idx where
  toFun k := ix3 0 0 k
  invFun i := i 2
  left_inv k := rfl
  right_inv i := by
    have h0 : i 0 = (0 : Fin 1) := Fin.ext (Nat.lt_one_iff.1 (i 0).isLt)
    have h1 : i 1 = (0 : Fin 1) := Fin.ext (Nat.lt_one_iff.1 (i 1).isLt)
    refine Eq.trans ?_ (eq_ix3 i).symm
    exact (congrArg₂ (fun (a b : Fin 1) => (ix3 a b (i 2) : (⟨3, ![1, 1, n]⟩ : Shape).Idx)) h0 h1).symm

theorem foldl_line {n : ℕ} (g : (⟨3, ![1, 1, n]⟩ : Shape).Idx → EReal) (v : EReal) :
    (List.finRange (⟨3, ![1, 1, n]⟩ : Shape).numel).foldl (fun r k => r + g ((⟨3, ![1, 1, n]⟩ : Shape).rowMajor.symm k)) v = v + ∑ k : Fin n, g (ix3 0 0 k) := by
  rw [foldl_sum (fun k => g ((⟨3, ![1, 1, n]⟩ : Shape).rowMajor.symm k)), ← Fin.sum_univ_def,
    Equiv.sum_comp (⟨3, ![1, 1, n]⟩ : Shape).rowMajor.symm g]
  exact congrArg (v + ·) (Equiv.sum_comp (lineEquiv n) g).symm

theorem window_sum {l m n L : ℕ} {lo hi : Fin 3 → ℕ} (h0 : lo 0 = 0) (h1 : lo 1 = 0) (h2 : lo 2 = L)
    (x : FVec Ideal ⟨3, ![l, m, n]⟩ .f32) {u : Shape} (init : FVec Ideal u .f32) (hu : 0 < u.numel) (hinit : init (Shape.Idx.first hu) = 0)
    (hw : (⟨3, ![l, m, n]⟩ : Shape).ReduceWindows ![1, 1, n] ![1, 1, 1] lo hi ⟨3, ![l, m, n]⟩) {f : ℕ → ℕ → ℕ → ℝ} (hx : Is3 x f)
    (h : Fin l) (a : Fin m) (b : Fin n) :
    Host.reduceWindowAdd (t := ⟨3, ![l, m, n]⟩) ![1, 1, n] ![1, 1, 1] lo hi x init hw hu (ix3 h a b)
      = ((∑ k ∈ Finset.range n, if L ≤ b + k ∧ b + k - L < n then f h a (b + k - L) else 0 : ℝ) : EReal) := by
  have ha := a.isLt
  have hh := h.isLt
  show Host.reduceWindow (t := ⟨3, ![l, m, n]⟩) (· + ·) ![1, 1, n] ![1, 1, 1] lo hi x (fun _ : (⟨0, ![]⟩ : Shape).Idx => init (Shape.Idx.first hu)) hw (by decide) (ix3 h a b) = _
  unfold Host.reduceWindow
  dsimp only
  rw [hinit]
  refine (congrArg (fun F : EReal → Fin (⟨3, ![1, 1, n]⟩ : Shape).numel → EReal => List.foldl F (0 : EReal) (List.finRange _)) (funext fun r => funext fun k => congrArg (r + ·) ?_)).trans ((foldl_line (n := n) (fun w => if hin : ∀ c : Fin 3, lo c ≤ ((ix3 h a b : (⟨3, ![l, m, n]⟩ : Shape).Idx) c).val * (![1, 1, 1] : Fin 3 → ℕ) c + (w c).val ∧ ((ix3 h a b : (⟨3, ![l, m, n]⟩ : Shape).Idx) c).val * (![1, 1, 1] : Fin 3 → ℕ) c + (w c).val - lo c < (![l, m, n] : Fin 3 → ℕ) c then x (fun c => ⟨((ix3 h a b : (⟨3, ![l, m, n]⟩ : Shape).Idx) c).val * (![1, 1, 1] : Fin 3 → ℕ) c + (w c).val - lo c, (hin c).2⟩) else 0) 0).trans ?_)
  · dsimp only
    congr
  rw [zero_add, ← coe_sum_val]
  refine Finset.sum_congr rfl fun k _ => ?_
  dsimp only
  split
  · next hin =>
    have q := hin 2
    change lo 2 ≤ b.val * 1 + k.val ∧ b.val * 1 + k.val - lo 2 < n at q
    rw [h2, Nat.mul_one] at q
    rw [if_pos q]
    refine (congrArg x (funext fun c => Fin.ext ?_)).trans (hx h a ⟨b + k - L, q.2⟩)
    match c with
    | ⟨0, _⟩ => show h.val * 1 + 0 - lo 0 = h.val; rw [h0]; omega
    | ⟨1, _⟩ => show a.val * 1 + 0 - lo 1 = a.val; rw [h1]; omega
    | ⟨2, _⟩ => show b.val * 1 + k.val - lo 2 = b.val + k.val - L; rw [h2, Nat.mul_one]
  · next hin =>
    rw [if_neg fun q => hin fun c => by
      match c with
      | ⟨0, _⟩ => show lo 0 ≤ h.val * 1 + 0 ∧ h.val * 1 + 0 - lo 0 < l; rw [h0]; omega
      | ⟨1, _⟩ => show lo 1 ≤ a.val * 1 + 0 ∧ a.val * 1 + 0 - lo 1 < m; rw [h1]; omega
      | ⟨2, _⟩ => show lo 2 ≤ b.val * 1 + k.val ∧ b.val * 1 + k.val - lo 2 < n; rw [h2, Nat.mul_one]; exact q]
    rfl

/-- The entries from a position on. -/
theorem sum_from {n b : ℕ} (f : ℕ → ℝ) :
    (∑ k ∈ Finset.range n, if 0 ≤ b + k ∧ b + k - 0 < n then f (b + k - 0) else 0) = ∑ k ∈ Finset.range n, if b ≤ k then f k else 0 := by
  rw [← Finset.sum_filter, ← Finset.sum_filter]
  refine Finset.sum_nbij (fun k => b + k) (fun k hk => ?_) (fun k _ k' _ h => Nat.add_left_cancel h) (fun k hk => ?_) (fun k _ => rfl)
  · simp only [Finset.mem_filter, Finset.mem_range] at hk ⊢; omega
  · simp only [Finset.coe_filter, Finset.mem_range, Set.mem_setOf_eq, Set.mem_image] at hk ⊢
    exact ⟨k - b, by omega, by omega⟩

/-- The entries up to a position. -/
theorem sum_upto {n b L : ℕ} (hL : L + 1 = n) (hb : b < n) (f : ℕ → ℝ) :
    (∑ k ∈ Finset.range n, if L ≤ b + k ∧ b + k - L < n then f (b + k - L) else 0) = ∑ k ∈ Finset.range n, if k ≤ b then f k else 0 := by
  rw [← Finset.sum_filter, ← Finset.sum_filter]
  refine Finset.sum_nbij (fun k => b + k - L) (fun k hk => ?_) (fun k hk k' hk' h => ?_) (fun k hk => ?_) (fun k _ => rfl)
  · simp only [Finset.mem_filter, Finset.mem_range] at hk ⊢; omega
  · simp only [Finset.coe_filter, Finset.mem_range, Set.mem_setOf_eq] at hk hk' h; omega
  · simp only [Finset.coe_filter, Finset.mem_range, Set.mem_setOf_eq, Set.mem_image] at hk ⊢
    exact ⟨k + L - b, by omega, by omega⟩

end Cert.ReferenceIdeal.Hand
end
-- ==== Proof.Heads.lean ====
/-
  Hand-written, untrusted. The reference's values as real numbers, head by head.
-/
module

public import proofs.«01_k».proof.Proof.Cumsum

@[expose] public section

set_option maxRecDepth 16384
set_option maxHeartbeats 1000000

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Cert.KernelIdeal.Hand (coe_sum_fin coe_sum_val coe_min coe_max exp_coe log_coe rsqrt_coe ofBits_eighth ofBits_eps epsR slt_nat)

/-! ## Real numbers -/

theorem sum_is {n : ℕ} {u : Fin n → EReal} {f : ℕ → ℝ} (h : ∀ k : Fin n, u k = ((f k : ℝ) : EReal)) :
    ∑ k, u k = ((∑ k ∈ Finset.range n, f k : ℝ) : EReal) := by
  rw [← coe_sum_val]; exact Finset.sum_congr rfl fun k _ => h k

theorem div_coe (x : ℝ) {y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

theorem ofBits_64 : Ideal.ofBits FTy.f32 0x42800000#32 = ((64 : ℝ) : EReal) := by
  simp [Ideal.ofBits, Ideal.ieee, -EReal.coe_mul]; norm_num
theorem ofBits_neghalf : Ideal.ofBits FTy.f32 0xBF000000#32 = ((-(1 / 2) : ℝ) : EReal) := by
  simp [Ideal.ofBits, Ideal.ieee, -EReal.coe_mul]; norm_num
theorem ofBits_inf : Ideal.ofBits FTy.f32 0x7F800000#32 = (⊤ : EReal) := by
  simp [Ideal.ofBits, Ideal.ieee]

theorem eps_pos : (0 : ℝ) < epsR := by unfold epsR; norm_num

/-- `log (1 + exp z)`, as the reference computes it. -/
def sp (z : ℝ) : ℝ := max z 0 + Real.log (1 + Real.exp (-(max z (-z))))

theorem sp_coe (z : ℝ) : max (z : EReal) 0 + Ideal.log1p (Ideal.exp (-FloatOps.absf (F := Ideal) (φ := .f32) (z : EReal))) = ((sp z : ℝ) : EReal) := by
  have h1 : (1 : EReal) = ((1 : ℝ) : EReal) := rfl
  have h0 : (0 : EReal) = ((0 : ℝ) : EReal) := rfl
  unfold sp Ideal.log1p
  rw [Ideal.absf_def, h0, h1, ← EReal.coe_neg, ← coe_max, ← coe_max, ← EReal.coe_neg, exp_coe, ← EReal.coe_add, log_coe (by positivity), ← EReal.coe_add]

theorem select_if {p : Prop} [Decidable p] (x y : EReal) : Scalar.select (if p then 1#1 else 0#1) x y = if p then x else y := by
  by_cases h : p <;> simp [h, Scalar.select]

theorem if_coe {p : Prop} [Decidable p] (x y : ℝ) : (if p then (x : EReal) else (y : EReal)) = (((if p then x else y : ℝ)) : EReal) := by
  split <;> rfl

theorem mask_if {a b : ℕ} (ha : a < 4096) (hb : b < 4096) (x y : ℝ) :
    Scalar.select (IntOp.cmpi CmpIPredicate.slt (BitVec.ofNat 32 b) (BitVec.ofNat 32 a)) (x : EReal) (y : EReal) = (((if b < a then x else y : ℝ)) : EReal) := by
  rw [slt_nat (by omega) (by omega), select_if, if_coe]

/-- The inputs as real numbers, head by head. -/
structure HNums where
  q : ℕ → ℕ → ℕ → ℝ
  k : ℕ → ℕ → ℕ → ℝ
  v : ℕ → ℕ → ℕ → ℝ
  d : ℕ → ℕ → ℕ → ℝ
  gq : ℕ → ℝ
  gk : ℕ → ℝ

/-- The mean of the squares, with the small constant. -/
def msq (f : ℕ → ℕ → ℕ → ℝ) (h a : ℕ) : ℝ := (∑ x ∈ Finset.range 64, f h a x * f h a x) / 64 + epsR
/-- The factor of the normalisation. -/
def fac (f : ℕ → ℕ → ℕ → ℝ) (h a : ℕ) : ℝ := (Real.sqrt (msq f h a))⁻¹
/-- The normalised rows. -/
def nrm (f : ℕ → ℕ → ℕ → ℝ) (g : ℕ → ℝ) (h a x : ℕ) : ℝ := f h a x * fac f h a * g x

theorem msq_pos (f : ℕ → ℕ → ℕ → ℝ) (h a : ℕ) : 0 < msq f h a :=
  add_pos_of_nonneg_of_pos (div_nonneg (Finset.sum_nonneg fun x _ => mul_self_nonneg _) (by norm_num)) eps_pos

namespace HNums
variable (N : HNums)
/-- The normalised queries and keys. -/
def qn : ℕ → ℕ → ℕ → ℝ := nrm N.q N.gq
def kn : ℕ → ℕ → ℕ → ℝ := nrm N.k N.gk
/-- The scores. -/
def z (h a b : ℕ) : ℝ := (∑ x ∈ Finset.range 64, N.qn h a x * N.kn h b x) * (1 / 8)
/-- The logarithm of what a key leaves of the stick. -/
def stay (h a b : ℕ) : ℝ := if b < a then -sp (N.z h a b) else 0
/-- The weight before the mask. -/
def ex (h a b : ℕ) : ℝ := Real.exp (-sp (-N.z h a b) + ((∑ k ∈ Finset.range 4096, if b ≤ k then N.stay h a k else 0) - N.stay h a b))
/-- The weight. -/
def w (h a b : ℕ) : ℝ := if b < a then N.ex h a b else 0
/-- The gradient by the weight, times the weight. -/
def g (h a b : ℕ) : ℝ := (if b < a then ∑ x ∈ Finset.range 64, N.d h a x * N.v h b x else 0) * N.ex h a b
/-- The gradient by the unscaled score. -/
def dz (h a b : ℕ) : ℝ :=
  (-(-N.g h a b * Real.exp (-N.z h a b - sp (-N.z h a b)))
    + -(-(-(if b < a then -N.g h a b + (∑ k ∈ Finset.range 4096, if k ≤ b then N.g h a k else 0) else 0) * Real.exp (N.z h a b - sp (N.z h a b))))) * (1 / 8)
/-- The gradients by the normalised keys and queries and by the values. -/
def dk (h b x : ℕ) : ℝ := ∑ a ∈ Finset.range 4096, N.dz h a b * N.qn h a x
def dq (h a x : ℕ) : ℝ := ∑ b ∈ Finset.range 4096, N.dz h a b * N.kn h b x
def dv (h b x : ℕ) : ℝ := ∑ a ∈ Finset.range 4096, N.d h a x * N.w h a b
end HNums

/-- The gradient by the factor, shared over the row. -/
def back (f : ℕ → ℕ → ℕ → ℝ) (g : ℕ → ℝ) (n : ℕ → ℕ → ℕ → ℝ) (h a : ℕ) : ℝ :=
  (∑ x ∈ Finset.range 64, f h a x * (n h a x * g x)) * (-(1 / 2) * (fac f h a / msq f h a)) / 64
/-- The gradient by the rows before normalisation. -/
def rowGrad (f : ℕ → ℕ → ℕ → ℝ) (g : ℕ → ℝ) (n : ℕ → ℕ → ℕ → ℝ) (h a x : ℕ) : ℝ :=
  n h a x * g x * fac f h a + f h a x * back f g n h a + back f g n h a * f h a x
/-- The gradient by the gain. -/
def gainGrad (f n : ℕ → ℕ → ℕ → ℝ) (h x : ℕ) : ℝ := ∑ a ∈ Finset.range 4096, f h a x * fac f h a * n h a x

/-! ## The values -/

/-- The inputs are the real numbers `P`, `gq`, `gk`, `D`. -/
structure Reads (V0 : Valuation τ sig (Elt Ideal)) (P : ℕ → ℕ → ℝ) (gq gk : ℕ → ℝ) (D : ℕ → ℕ → ℝ) : Prop where
  proj : ∀ (a : Fin 4096) (c : Fin 3072), (V0 (Proc.devRef .tc main_arg0) : FVec Ideal S4096x3072 .f32) (ix2 a c) = ((P a c : ℝ) : EReal)
  gq : ∀ (c : Fin 64), (V0 (Proc.devRef .tc main_arg1) : FVec Ideal S64 .f32) (ix1 c) = ((gq c : ℝ) : EReal)
  gk : ∀ (c : Fin 64), (V0 (Proc.devRef .tc main_arg2) : FVec Ideal S64 .f32) (ix1 c) = ((gk c : ℝ) : EReal)
  do_ : ∀ (a : Fin 4096) (c : Fin 512), (V0 (Proc.devRef .tc main_arg3) : FVec Ideal S4096x512 .f32) (ix2 a c) = ((D a c : ℝ) : EReal)

/-- The heads' numbers in the inputs. -/
def headNums (P : ℕ → ℕ → ℝ) (gq gk : ℕ → ℝ) (D : ℕ → ℕ → ℝ) : HNums where
  q h a x := P a (1024 + (h * 64 + x))
  k h a x := P a (1536 + (h * 64 + x))
  v h a x := P a (2048 + (h * 64 + x))
  d h a x := D a (h * 64 + x)
  gq := gq
  gk := gk

variable {V0 : Valuation τ sig (Elt Ideal)} {P D : ℕ → ℕ → ℝ} {gq gk : ℕ → ℝ} (hV : Reads V0 P gq gk D)
include hV

theorem v11_is : Is3 (l := 8) (m := 4096) (n := 64) (res_main_v11 V0) (headNums P gq gk D).q := by
  intro h a x
  unfold res_main_v11
  clean_types
  pointwise
  exact (hV.proj _ _).trans rfl
theorem v28_is : Is3 (l := 8) (m := 4096) (n := 64) (res_main_v28 V0) (headNums P gq gk D).k := by
  intro h a x
  unfold res_main_v28
  clean_types
  pointwise
  exact (hV.proj _ _).trans rfl
theorem v45_is : Is3 (l := 8) (m := 4096) (n := 64) (res_main_v45 V0) (headNums P gq gk D).v := by
  intro h a x
  unfold res_main_v45
  clean_types
  pointwise
  exact (hV.proj _ _).trans rfl
theorem v69_is : Is3 (l := 8) (m := 4096) (n := 64) (res_main_v69 V0) (headNums P gq gk D).d := by
  intro h a x
  unfold res_main_v69
  clean_types
  pointwise
  exact (hV.do_ _ _).trans rfl

theorem v18_is : Is3 (l := 8) (m := 4096) (n := 1) (res_main_v18 V0) fun h a _ => msq (headNums P gq gk D).q h a := by
  intro h a x
  unfold res_main_v18
  clean_types
  pointwise
  rw [sum_is (f := fun x => (headNums P gq gk D).q h a x * (headNums P gq gk D).q h a x) (fun x => by rw [v11_is hV h a x, EReal.coe_mul]), ofBits_64, ofBits_eps, div_coe _ (by norm_num), ← EReal.coe_add]
  rfl
theorem v35_is : Is3 (l := 8) (m := 4096) (n := 1) (res_main_v35 V0) fun h a _ => msq (headNums P gq gk D).k h a := by
  intro h a x
  unfold res_main_v35
  clean_types
  pointwise
  rw [sum_is (f := fun x => (headNums P gq gk D).k h a x * (headNums P gq gk D).k h a x) (fun x => by rw [v28_is hV h a x, EReal.coe_mul]), ofBits_64, ofBits_eps, div_coe _ (by norm_num), ← EReal.coe_add]
  rfl
theorem v19_is : Is3 (l := 8) (m := 4096) (n := 1) (res_main_v19 V0) fun h a _ => fac (headNums P gq gk D).q h a := by
  intro h a x
  unfold res_main_v19
  clean_types
  pointwise
  rw [v18_is hV h a x, rsqrt_coe (msq_pos _ _ _)]
  rfl
theorem v36_is : Is3 (l := 8) (m := 4096) (n := 1) (res_main_v36 V0) fun h a _ => fac (headNums P gq gk D).k h a := by
  intro h a x
  unfold res_main_v36
  clean_types
  pointwise
  rw [v35_is hV h a x, rsqrt_coe (msq_pos _ _ _)]
  rfl
theorem v24_is : Is3 (l := 8) (m := 4096) (n := 64) (res_main_v24 V0) fun h a x => (headNums P gq gk D).q h a x * fac (headNums P gq gk D).q h a := by
  intro h a x
  unfold res_main_v24
  clean_types
  pointwise
  rw [v11_is hV h a x, v19_is hV h a, EReal.coe_mul]
theorem v41_is : Is3 (l := 8) (m := 4096) (n := 64) (res_main_v41 V0) fun h a x => (headNums P gq gk D).k h a x * fac (headNums P gq gk D).k h a := by
  intro h a x
  unfold res_main_v41
  clean_types
  pointwise
  rw [v28_is hV h a x, v36_is hV h a, EReal.coe_mul]
theorem v7_is : Is3 (l := 8) (m := 1) (n := 64) (res_main_v7 V0) fun _ _ x => gq x := by
  intro h a x
  unfold res_main_v7
  clean_types
  pointwise
  exact hV.gq x
theorem v9_is : Is3 (l := 8) (m := 1) (n := 64) (res_main_v9 V0) fun _ _ x => gk x := by
  intro h a x
  unfold res_main_v9
  clean_types
  pointwise
  exact hV.gk x
theorem v26_is : Is3 (l := 8) (m := 4096) (n := 64) (res_main_v26 V0) (headNums P gq gk D).qn := by
  intro h a x
  unfold res_main_v26
  clean_types
  pointwise
  rw [v24_is hV h a x, v7_is hV h, ← EReal.coe_mul]
  rfl
theorem v43_is : Is3 (l := 8) (m := 4096) (n := 64) (res_main_v43 V0) (headNums P gq gk D).kn := by
  intro h a x
  unfold res_main_v43
  clean_types
  pointwise
  rw [v41_is hV h a x, v9_is hV h, ← EReal.coe_mul]
  rfl
theorem v48_is : Is3 (l := 8) (m := 4096) (n := 4096) (res_main_v48 V0) (headNums P gq gk D).z := by
  intro h a b
  unfold res_main_v48
  clean_types
  pointwise
  rw [sum_is (f := fun x => (headNums P gq gk D).qn h a x * (headNums P gq gk D).kn h b x) (fun x => by rw [v26_is hV h a x, v43_is hV h b x, EReal.coe_mul]), ofBits_eighth, ← EReal.coe_mul]
  rfl

theorem c0v0_is : Is3 (l := 8) (m := 4096) (n := 4096) (res_main_call0_v0 V0) (headNums P gq gk D).z := by
  intro h a b
  unfold res_main_call0_v0
  clean_types
  pointwise
  rw [v48_is hV h a b, neg_neg]
theorem c3v0_is : Is3 (l := 8) (m := 4096) (n := 4096) (res_main_call3_v0 V0) fun h a b => -(headNums P gq gk D).z h a b := by
  intro h a b
  unfold res_main_call3_v0
  clean_types
  pointwise
  rw [v48_is hV h a b, EReal.coe_neg]
theorem c0v1_is : Is3 (l := 8) (m := 4096) (n := 4096) (res_main_call0_v1_0 V0) fun h a b => sp ((headNums P gq gk D).z h a b) := by
  intro h a b
  unfold res_main_call0_v1_0 res_main_call0_call0_v3 res_main_call0_call0_cst
  clean_types
  pointwise
  rw [if_neg (by simp), c0v0_is hV h a b]
  exact sp_coe _
theorem c3v1_is : Is3 (l := 8) (m := 4096) (n := 4096) (res_main_call3_v1_0 V0) fun h a b => sp (-(headNums P gq gk D).z h a b) := by
  intro h a b
  unfold res_main_call3_v1_0 res_main_call3_call0_v3 res_main_call3_call0_cst
  clean_types
  pointwise
  rw [if_neg (by simp), c3v0_is hV h a b]
  exact sp_coe _
theorem v58_is : Is3 (l := 8) (m := 4096) (n := 4096) (res_main_v58_0 V0) (headNums P gq gk D).stay := by
  intro h a b
  unfold res_main_v58_0 res_main_v58_1 res_main_v55
  clean_types
  pointwise
  rw [c0v1_is hV h a b, ← EReal.coe_neg]
  refine Eq.trans ?_ (mask_if a.isLt b.isLt _ _)
  exact congrArg _ Ideal.ofBits_zero_f32
theorem v63_is : Is3 (l := 8) (m := 4096) (n := 4096) (res_main_v63 V0) (headNums P gq gk D).ex := by
  intro h a b
  have hs := window_sum (l := 8) (m := 4096) (n := 4096) (L := 0) (lo := ![0, 0, 0]) (hi := ![0, 0, 4095]) rfl rfl rfl (res_main_v58_0 V0) (broadcastInDim S_ ![] bcast_S_S_ (constant S_ .f32 0x00000000#32)) h_S_
    (Ideal.ofBits_zero_f32) reduceWindows_S8x4096x4096_S8x4096x4096_w1s1p0_0_w1s1p0_0_w4096s1p0_4095 (v58_is hV) h a b
  rw [sum_from] at hs
  unfold res_main_v63
  clean_types
  pointwise
  rw [c3v1_is hV h a b, v58_is hV h a b]
  refine (congrArg (fun s : EReal => Ideal.exp (-((sp (-(headNums P gq gk D).z h a b) : ℝ) : EReal) + (s - (((headNums P gq gk D).stay h a b : ℝ) : EReal)))) hs).trans ?_
  rw [← EReal.coe_neg, ← EReal.coe_sub, ← EReal.coe_add, exp_coe]
  rfl
theorem v64_is : Is3 (l := 8) (m := 4096) (n := 4096) (res_main_v64_0 V0) (headNums P gq gk D).w := by
  intro h a b
  unfold res_main_v64_0 res_main_v64_1 res_main_v55
  clean_types
  pointwise
  rw [v63_is hV h a b]
  refine Eq.trans ?_ (mask_if a.isLt b.isLt _ _)
  exact congrArg _ Ideal.ofBits_zero_f32
theorem v74_is : Is3 (l := 8) (m := 4096) (n := 4096) (res_main_v74 V0) (headNums P gq gk D).g := by
  intro h a b
  unfold res_main_v74 res_main_v64_1 res_main_v55
  clean_types
  pointwise
  rw [sum_is (f := fun x => (headNums P gq gk D).d h a x * (headNums P gq gk D).v h b x) (fun x => by rw [v69_is hV h a x, v45_is hV h b x, EReal.coe_mul]), v63_is hV h a b]
  rw [← EReal.coe_mul]
  refine (mask_if a.isLt b.isLt _ 0).trans (congrArg Real.toEReal ?_)
  unfold HNums.g
  split <;> simp
theorem v84_is : Is3 (l := 8) (m := 4096) (n := 4096) (res_main_v84 V0) (headNums P gq gk D).dz := by
  intro h a b
  have hs := window_sum (l := 8) (m := 4096) (n := 4096) (L := 4095) (lo := ![0, 0, 4095]) (hi := ![0, 0, 0]) rfl rfl rfl (res_main_v74 V0) (broadcastInDim S_ ![] bcast_S_S_ (constant S_ .f32 0x00000000#32)) h_S_
    (Ideal.ofBits_zero_f32) reduceWindows_S8x4096x4096_S8x4096x4096_w1s1p0_0_w1s1p0_0_w4096s1p4095_0 (v74_is hV) h a b
  rw [sum_upto rfl b.isLt] at hs
  unfold res_main_v84 res_main_v58_1 res_main_v55
  clean_types
  pointwise
  rw [ofBits_inf, c3v0_is hV h a b, c3v1_is hV h a b, c0v0_is hV h a b, c0v1_is hV h a b, v74_is hV h a b, if_neg (EReal.coe_ne_top _), if_neg (EReal.coe_ne_top _), if_neg (EReal.coe_ne_top _), if_neg (EReal.coe_ne_top _), ofBits_eighth]
  refine (congrArg (fun s : EReal => (-(-(((headNums P gq gk D).g h a b : ℝ) : EReal) * Ideal.exp (((-(headNums P gq gk D).z h a b : ℝ) : EReal) - ((sp (-(headNums P gq gk D).z h a b) : ℝ) : EReal)))
    + -(-(-(Scalar.select (IntOp.cmpi CmpIPredicate.slt (BitVec.ofNat 32 b) (BitVec.ofNat 32 a)) (-(((headNums P gq gk D).g h a b : ℝ) : EReal) + s) 0)
      * Ideal.exp ((((headNums P gq gk D).z h a b : ℝ) : EReal) - ((sp ((headNums P gq gk D).z h a b) : ℝ) : EReal))))) * ((1 / 8 : ℝ) : EReal)) hs).trans ?_
  rw [← EReal.coe_neg, ← EReal.coe_add]
  have hm := mask_if a.isLt b.isLt (-(headNums P gq gk D).g h a b + (∑ k ∈ Finset.range (4095 + 1), if k ≤ (b : ℕ) then (headNums P gq gk D).g h a k else 0)) 0
  rw [EReal.coe_zero] at hm
  rw [hm]
  simp only [← EReal.coe_neg, ← EReal.coe_sub, exp_coe, ← EReal.coe_mul, ← EReal.coe_add]
  rfl
theorem v85_is : Is3 (l := 8) (m := 4096) (n := 64) (res_main_v85 V0) (headNums P gq gk D).dk := by
  intro h b x
  unfold res_main_v85
  clean_types
  pointwise
  rw [sum_is (f := fun a => (headNums P gq gk D).dz h a b * (headNums P gq gk D).qn h a x) (fun a => by rw [v84_is hV h a b, v26_is hV h a x, EReal.coe_mul])]
  rfl
theorem v86_is : Is3 (l := 8) (m := 4096) (n := 64) (res_main_v86 V0) (headNums P gq gk D).dq := by
  intro h a x
  unfold res_main_v86
  clean_types
  pointwise
  rw [sum_is (f := fun b => (headNums P gq gk D).dz h a b * (headNums P gq gk D).kn h b x) (fun b => by rw [v84_is hV h a b, v43_is hV h b x, EReal.coe_mul])]
  rfl
theorem v93_is : Is3 (l := 8) (m := 4096) (n := 64) (res_main_v93 V0) fun h a x => (headNums P gq gk D).dk h a x * gk x := by
  intro h a x
  unfold res_main_v93
  clean_types
  pointwise
  rw [v85_is hV h a x, v9_is hV h, EReal.coe_mul]
theorem v114_is : Is3 (l := 8) (m := 4096) (n := 64) (res_main_v114 V0) fun h a x => (headNums P gq gk D).dq h a x * gq x := by
  intro h a x
  unfold res_main_v114
  clean_types
  pointwise
  rw [v86_is hV h a x, v7_is hV h, EReal.coe_mul]
theorem v103_is : Is3 (l := 8) (m := 4096) (n := 64) (res_main_v103 V0) fun h a _ => back (headNums P gq gk D).k gk (headNums P gq gk D).dk h a := by
  intro h a x
  unfold res_main_v103
  clean_types
  pointwise
  rw [sum_is (f := fun _ => back (headNums P gq gk D).k gk (headNums P gq gk D).dk h a) (fun u => ?_), Finset.sum_range_one]
  rw [sum_is (f := fun x => (headNums P gq gk D).k h a x * ((headNums P gq gk D).dk h a x * gk x)) (fun x => by rw [v28_is hV h a x, v93_is hV h a x, EReal.coe_mul (_ : ℝ) (_ * _ : ℝ)]),
    v36_is hV h a, v35_is hV h a, ofBits_64, ofBits_neghalf, div_coe _ (msq_pos _ _ _).ne', ← EReal.coe_mul, ← EReal.coe_mul, div_coe _ (by norm_num)]
  rfl
theorem v124_is : Is3 (l := 8) (m := 4096) (n := 64) (res_main_v124 V0) fun h a _ => back (headNums P gq gk D).q gq (headNums P gq gk D).dq h a := by
  intro h a x
  unfold res_main_v124
  clean_types
  pointwise
  rw [sum_is (f := fun _ => back (headNums P gq gk D).q gq (headNums P gq gk D).dq h a) (fun u => ?_), Finset.sum_range_one]
  rw [sum_is (f := fun x => (headNums P gq gk D).q h a x * ((headNums P gq gk D).dq h a x * gq x)) (fun x => by rw [v11_is hV h a x, v114_is hV h a x, EReal.coe_mul (_ : ℝ) (_ * _ : ℝ)]),
    v19_is hV h a, v18_is hV h a, ofBits_64, ofBits_neghalf, div_coe _ (msq_pos _ _ _).ne', ← EReal.coe_mul, ← EReal.coe_mul, div_coe _ (by norm_num)]
  rfl

/-! ## The results -/

theorem res_dq (a : Fin 4096) (c : Fin 512) :
    (shapeCast S4096x512 (transpose S4096x8x64 [1, 0, 2] (addf (addf (mulf (res_main_v114 V0) (broadcastInDim S8x4096x64 ![0, 1, 2] bcast_S8x4096x1_S8x4096x64_0_1_2 (res_main_v19 V0))) (mulf (res_main_v11 V0) (res_main_v124 V0))) (mulf (res_main_v124 V0) (res_main_v11 V0))) transposes_S8x4096x64_S4096x8x64_1_0_2) shapeCasts_S4096x8x64_S4096x512 : FVec Ideal S4096x512 .f32) (ix2 a c)
      = ((rowGrad (headNums P gq gk D).q gq (headNums P gq gk D).dq (c / 64) a (c % 64) : ℝ) : EReal) := by
  clean_types
  pointwise
  rw [v114_is hV, v11_is hV, v124_is hV, v19_is hV]
  simp only [← EReal.coe_mul, ← EReal.coe_add]
  rfl
theorem res_dk (a : Fin 4096) (c : Fin 512) :
    (shapeCast S4096x512 (transpose S4096x8x64 [1, 0, 2] (addf (addf (mulf (res_main_v93 V0) (broadcastInDim S8x4096x64 ![0, 1, 2] bcast_S8x4096x1_S8x4096x64_0_1_2 (res_main_v36 V0))) (mulf (res_main_v28 V0) (res_main_v103 V0))) (mulf (res_main_v103 V0) (res_main_v28 V0))) transposes_S8x4096x64_S4096x8x64_1_0_2) shapeCasts_S4096x8x64_S4096x512 : FVec Ideal S4096x512 .f32) (ix2 a c)
      = ((rowGrad (headNums P gq gk D).k gk (headNums P gq gk D).dk (c / 64) a (c % 64) : ℝ) : EReal) := by
  clean_types
  pointwise
  rw [v93_is hV, v28_is hV, v103_is hV, v36_is hV]
  simp only [← EReal.coe_mul, ← EReal.coe_add]
  rfl
theorem res_dv (a : Fin 4096) (c : Fin 512) :
    (shapeCast S4096x512 (transpose S4096x8x64 [1, 0, 2] (transpose S8x4096x64 [0, 2, 1] (Host.dotGeneral (φ₁ := .f32) (φ₂ := .f32) dot_S8x4096x64_S8x4096x4096_S8x64x4096_1_1_2_2_0_0 none (res_main_v69 V0) (res_main_v64_0 V0)) transposes_S8x64x4096_S8x4096x64_0_2_1) transposes_S8x4096x64_S4096x8x64_1_0_2) shapeCasts_S4096x8x64_S4096x512 : FVec Ideal S4096x512 .f32) (ix2 a c)
      = (((headNums P gq gk D).dv (c / 64) a (c % 64) : ℝ) : EReal) := by
  clean_types
  pointwise
  exact sum_is (f := fun i => (headNums P gq gk D).d (c / 64) i (c % 64) * (headNums P gq gk D).w (c / 64) i a) fun i => by rw [v69_is hV, v64_is hV, EReal.coe_mul]
theorem res_gq (p : Fin 4) (j : Fin 128) :
    (shapeCast S4x1x128 (shapeCast S8x1x64 (Host.reduceAdd (mulf (res_main_v24 V0) (res_main_v86 V0)) (constant S_ .f32 0x00000000#32) reducesTo_S8x4096x64_S8x64_d1 h_S_) shapeCasts_S8x64_S8x1x64) shapeCasts_S8x1x64_S4x1x128 : FVec Ideal S4x1x128 .f32) (ix3 p 0 j)
      = ((gainGrad (headNums P gq gk D).q (headNums P gq gk D).dq (p * 2 + j / 64) (j % 64) : ℝ) : EReal) := by
  clean_types
  pointwise
  exact sum_is (f := fun i => (headNums P gq gk D).q (p * 2 + j / 64) i (j % 64) * fac (headNums P gq gk D).q (p * 2 + j / 64) i * (headNums P gq gk D).dq (p * 2 + j / 64) i (j % 64))
    fun i => by rw [v24_is hV, v86_is hV, EReal.coe_mul (_ * _ : ℝ)]
theorem res_gk (p : Fin 4) (j : Fin 128) :
    (shapeCast S4x1x128 (shapeCast S8x1x64 (Host.reduceAdd (mulf (res_main_v41 V0) (res_main_v85 V0)) (constant S_ .f32 0x00000000#32) reducesTo_S8x4096x64_S8x64_d1 h_S_) shapeCasts_S8x64_S8x1x64) shapeCasts_S8x1x64_S4x1x128 : FVec Ideal S4x1x128 .f32) (ix3 p 0 j)
      = ((gainGrad (headNums P gq gk D).k (headNums P gq gk D).dk (p * 2 + j / 64) (j % 64) : ℝ) : EReal) := by
  clean_types
  pointwise
  exact sum_is (f := fun i => (headNums P gq gk D).k (p * 2 + j / 64) i (j % 64) * fac (headNums P gq gk D).k (p * 2 + j / 64) i * (headNums P gq gk D).dk (p * 2 + j / 64) i (j % 64))
    fun i => by rw [v41_is hV, v85_is hV, EReal.coe_mul (_ * _ : ℝ)]

end Cert.ReferenceIdeal.Hand
end
-- ==== Proof.Words.lean ====
/-
  Hand-written, untrusted. The words that a run of the attention backward body leaves in its buffers, written as functions of what the buffers held.
-/
module

public import proofs.«01_k».proof.Proof.Diag
public import proofs.«01_k».proof.Proof.Body

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S128x4096 .f32) (harg16 : arg16.IsWhole) (arg17 : Memref sig .tc .vmem S128x4096 .f32) (harg17 : arg17.IsWhole)

/-- The query rows. -/
def qIn (f2 : BufTy.Contents (Elt F) arg2.view.ty) : FVec F S512x128 .f32 := View.readAt (Elt F) arg2.view (Rect.unit (s := S512x128) ![0, 0] S512x128.size inb_S512x128_S512x128_0_0).toLoadRect f2
/-- The gain of the queries. -/
def gqIn (f5 : BufTy.Contents (Elt F) arg5.view.ty) : FVec F S1x128 .f32 := View.readAt (Elt F) arg5.view (Rect.unit (s := S1x128) ![0, 0] S1x128.size inb_S1x128_S1x128_0_0).toLoadRect f5
/-- The gradient by the output rows. -/
def doIn (f8 : BufTy.Contents (Elt F) arg8.view.ty) : FVec F S512x128 .f32 := View.readAt (Elt F) arg8.view (Rect.unit (s := S512x128) ![0, 0] S512x128.size inb_S512x128_S512x128_0_0).toLoadRect f8
/-- The key rows of the query block itself. -/
def kOwn (i : grid0.Coords) (f14 : BufTy.Contents (Elt F) arg14.view.ty) : FVec F S512x128 .bf16 := View.readAt (Elt F) arg14.view (Rect.unit (s := S4096x128) (k0_off6 i) S512x128.size (k0_off6_inb i)).toLoadRect f14
/-- The value rows of the query block itself. -/
def vOwn (i : grid0.Coords) (f15 : BufTy.Contents (Elt F) arg15.view.ty) : FVec F S512x128 .bf16 := View.readAt (Elt F) arg15.view (Rect.unit (s := S4096x128) (k0_off6 i) S512x128.size (k0_off6_inb i)).toLoadRect f15
/-- What the loop over the earlier tiles starts from. -/
def start (f7 : BufTy.Contents (Elt F) arg7.view.ty) : FVec F S512x128 .f32 × FVec F S512x128 .f32 × FVec F S512x128 .f32 × FVec F S512x128 .f32 × FVec F S512x128 .f32 :=
  (k0_pay151, k0_pay152 (View.readAt (Elt F) arg7.view (Rect.unit (s := S2x512x1) ![0, 0, 0] S1x512x1.size inb_S2x512x1_S1x512x1_0_0_0).toLoadRect f7),
    k0_pay153 (View.readAt (Elt F) arg7.view (Rect.unit (s := S2x512x1) ![1, 0, 0] S1x512x1.size inb_S2x512x1_S1x512x1_1_0_0).toLoadRect f7), k0_pay150, k0_pay150)

/-- The scaled rows of the first head. -/
def q0 (f2 : BufTy.Contents (Elt F) arg2.view.ty) (f5 : BufTy.Contents (Elt F) arg5.view.ty) : FVec F S512x128 .bf16 := k0_pay142 (k0_pay130 (qIn arg2 f2) (gqIn arg5 f5)) k0_pay133
/-- The scaled rows of the second head. -/
def q1 (f2 : BufTy.Contents (Elt F) arg2.view.ty) (f5 : BufTy.Contents (Elt F) arg5.view.ty) : FVec F S512x128 .bf16 := k0_pay143 (k0_pay130 (qIn arg2 f2) (gqIn arg5 f5)) k0_pay133
/-- The transpose of `q0`. -/
def q0t (f2 : BufTy.Contents (Elt F) arg2.view.ty) (f5 : BufTy.Contents (Elt F) arg5.view.ty) : FVec F S128x512 .bf16 := k0_pay144 (k0_pay131 (qIn arg2 f2) (gqIn arg5 f5)) k0_pay134
/-- The transpose of `q1`. -/
def q1t (f2 : BufTy.Contents (Elt F) arg2.view.ty) (f5 : BufTy.Contents (Elt F) arg5.view.ty) : FVec F S128x512 .bf16 := k0_pay145 (k0_pay131 (qIn arg2 f2) (gqIn arg5 f5)) k0_pay134
/-- The rows of the output's gradient in the first head. -/
def d0 (f8 : BufTy.Contents (Elt F) arg8.view.ty) : FVec F S512x128 .bf16 := k0_pay146 (doIn arg8 f8) k0_pay133
/-- The rows of the output's gradient in the second head. -/
def d1 (f8 : BufTy.Contents (Elt F) arg8.view.ty) : FVec F S512x128 .bf16 := k0_pay147 (doIn arg8 f8) k0_pay133
/-- The transpose of `d0`. -/
def d0t (f8 : BufTy.Contents (Elt F) arg8.view.ty) : FVec F S128x512 .bf16 := k0_pay148 (k0_pay132 (doIn arg8 f8)) k0_pay134
/-- The transpose of `d1`. -/
def d1t (f8 : BufTy.Contents (Elt F) arg8.view.ty) : FVec F S128x512 .bf16 := k0_pay149 (k0_pay132 (doIn arg8 f8)) k0_pay134

/-- The loop over the earlier tiles, run to its end: what it carries and what it stores. -/
def loop2 (𝒱 : Variants) (c : Dev nD) (bd : Option 𝒱.V) (i : grid0.Coords) (X14 : BufTy.Contents (Elt F) arg14.view.ty) (X15 : BufTy.Contents (Elt F) arg15.view.ty) (X16 : BufTy.Contents (Elt F) arg16.view.ty) (X17 : BufTy.Contents (Elt F) arg17.view.ty) (f2 : BufTy.Contents (Elt F) arg2.view.ty) (f5 : BufTy.Contents (Elt F) arg5.view.ty) (f7 : BufTy.Contents (Elt F) arg7.view.ty) (f8 : BufTy.Contents (Elt F) arg8.view.ty) :=
  st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1)) k0_pay133 k0_pay135 triB (q0 arg2 arg5 f2 f5) (q1 arg2 arg5 f2 f5) (q0t arg2 arg5 f2 f5) (q1t arg2 arg5 f2 f5) (d0 arg8 f8) (d1 arg8 f8) (d0t arg8 f8) (d1t arg8 f8) k0_pay150 k0_pay151 X14 X15 X16 X17 (start arg7 f7) (k0_t2_loop i).trips

/-- The loop over what the first loop leaves of the earlier tiles (nothing). -/
def loop3 (𝒱 : Variants) (c : Dev nD) (bd : Option 𝒱.V) (i : grid0.Coords) (X14 : BufTy.Contents (Elt F) arg14.view.ty) (X15 : BufTy.Contents (Elt F) arg15.view.ty) (X16 : BufTy.Contents (Elt F) arg16.view.ty) (X17 : BufTy.Contents (Elt F) arg17.view.ty) (f2 : BufTy.Contents (Elt F) arg2.view.ty) (f5 : BufTy.Contents (Elt F) arg5.view.ty) (f7 : BufTy.Contents (Elt F) arg7.view.ty) (f8 : BufTy.Contents (Elt F) arg8.view.ty) (Y16 : BufTy.Contents (Elt F) arg16.view.ty) (Y17 : BufTy.Contents (Elt F) arg17.view.ty) :=
  st_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1)) k0_pay133 k0_pay135 triB (q0 arg2 arg5 f2 f5) (q1 arg2 arg5 f2 f5) (q0t arg2 arg5 f2 f5) (q1t arg2 arg5 f2 f5) (d0 arg8 f8) (d1 arg8 f8) (d0t arg8 f8) (d1t arg8 f8) k0_pay150 k0_pay151
    (Scalar.addi 0#32 (Scalar.muli (Scalar.divsi (Scalar.subi (BitVec.ofNat 32 (i 1)) 0#32) 1#32) 1#32)) X14 X15 Y16 Y17 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i X14 X15 X16 X17 f2 f5 f7 f8).1 (k0_t3_loop i).trips

theorem loop3_eq (𝒱 : Variants) (c : Dev nD) (bd : Option 𝒱.V) (i : grid0.Coords) (X14 : BufTy.Contents (Elt F) arg14.view.ty) (X15 : BufTy.Contents (Elt F) arg15.view.ty) (X16 : BufTy.Contents (Elt F) arg16.view.ty) (X17 : BufTy.Contents (Elt F) arg17.view.ty) (f2 : BufTy.Contents (Elt F) arg2.view.ty) (f5 : BufTy.Contents (Elt F) arg5.view.ty) (f7 : BufTy.Contents (Elt F) arg7.view.ty) (f8 : BufTy.Contents (Elt F) arg8.view.ty) (Y16 : BufTy.Contents (Elt F) arg16.view.ty) (Y17 : BufTy.Contents (Elt F) arg17.view.ty) (h : (k0_t3_loop i).trips = 0) :
    loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i X14 X15 X16 X17 f2 f5 f7 f8 Y16 Y17 = ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i X14 X15 X16 X17 f2 f5 f7 f8).1, [], []) := by
  unfold loop3
  rw [h]
  rfl

/-- What the query block stores as its gradient. -/
def outQ (i : grid0.Coords) (S : FVec F S512x128 .f32 × FVec F S512x128 .f32 × FVec F S512x128 .f32 × FVec F S512x128 .f32 × FVec F S512x128 .f32) (X14 : BufTy.Contents (Elt F) arg14.view.ty) (X15 : BufTy.Contents (Elt F) arg15.view.ty) (f2 : BufTy.Contents (Elt F) arg2.view.ty) (f5 : BufTy.Contents (Elt F) arg5.view.ty) (f8 : BufTy.Contents (Elt F) arg8.view.ty) : FVec F S512x128 .f32 :=
  rmsBack (qIn arg2 f2) (k0_pay129 (qIn arg2 f2)) (gqIn arg5 f5) (dqNorm S (q0 arg2 arg5 f2 f5) (q1 arg2 arg5 f2 f5) (d0 arg8 f8) (d1 arg8 f8) (kOwn arg14 i X14) (vOwn arg15 i X15))
/-- What the query block adds to the gradient by the gain. -/
def outG (i : grid0.Coords) (S : FVec F S512x128 .f32 × FVec F S512x128 .f32 × FVec F S512x128 .f32 × FVec F S512x128 .f32 × FVec F S512x128 .f32) (X14 : BufTy.Contents (Elt F) arg14.view.ty) (X15 : BufTy.Contents (Elt F) arg15.view.ty) (f2 : BufTy.Contents (Elt F) arg2.view.ty) (f5 : BufTy.Contents (Elt F) arg5.view.ty) (f8 : BufTy.Contents (Elt F) arg8.view.ty) : FVec F S1x128 .f32 :=
  gainBack (qIn arg2 f2) (k0_pay129 (qIn arg2 f2)) (dqNorm S (q0 arg2 arg5 f2 f5) (q1 arg2 arg5 f2 f5) (d0 arg8 f8) (d1 arg8 f8) (kOwn arg14 i X14) (vOwn arg15 i X15))
/-- What the block adds to the gradient by its own keys. -/
def outK (i : grid0.Coords) (S : FVec F S512x128 .f32 × FVec F S512x128 .f32 × FVec F S512x128 .f32 × FVec F S512x128 .f32 × FVec F S512x128 .f32) (X14 : BufTy.Contents (Elt F) arg14.view.ty) (X15 : BufTy.Contents (Elt F) arg15.view.ty) (f2 : BufTy.Contents (Elt F) arg2.view.ty) (f5 : BufTy.Contents (Elt F) arg5.view.ty) (f8 : BufTy.Contents (Elt F) arg8.view.ty) : FVec F S128x512 .f32 :=
  byKey (q0t arg2 arg5 f2 f5) (q1t arg2 arg5 f2 f5) (ownZ k0_pay135 triB (q0 arg2 arg5 f2 f5) (d0 arg8 f8) (kOwn arg14 i X14) (vOwn arg15 i X15) S.2.1 S.2.2.2.1) (ownZ k0_pay135 triB (q1 arg2 arg5 f2 f5) (d1 arg8 f8) (kOwn arg14 i X14) (vOwn arg15 i X15) S.2.2.1 S.2.2.2.2)
/-- What the block adds to the gradient by its own values. -/
def outV (i : grid0.Coords) (S : FVec F S512x128 .f32 × FVec F S512x128 .f32 × FVec F S512x128 .f32 × FVec F S512x128 .f32 × FVec F S512x128 .f32) (X14 : BufTy.Contents (Elt F) arg14.view.ty) (f2 : BufTy.Contents (Elt F) arg2.view.ty) (f5 : BufTy.Contents (Elt F) arg5.view.ty) (f8 : BufTy.Contents (Elt F) arg8.view.ty) : FVec F S128x512 .f32 :=
  byKey (d0t arg8 f8) (d1t arg8 f8) (truncf .bf16 (ownW k0_pay135 (q0 arg2 arg5 f2 f5) (kOwn arg14 i X14) S.2.1) bitsLt_bf16_f32) (truncf .bf16 (ownW k0_pay135 (q1 arg2 arg5 f2 f5) (kOwn arg14 i X14) S.2.2.1) bitsLt_bf16_f32)

/-- The columns of the block's own keys, with `w` added. -/
def put7 (i : grid0.Coords) (M : Memref sig .tc .vmem S128x4096 .f32) (f : BufTy.Contents (Elt F) M.view.ty) (L : List (View.Piece (Elt F) S128x4096 .f32)) (w : FVec F S128x512 .f32) :=
  M.view.writes (Elt F) f (⟨Rect.unit (s := S128x4096) (k0_off7 i) S128x512.size (k0_off7_inb i), shapeCast S128x512 (addf (View.readAt (Elt F) M.view (Rect.unit (s := S128x4096) (k0_off7 i) S128x512.size (k0_off7_inb i)).toLoadRect (M.view.writes (Elt F) f L)) w) shapeCasts_S128x512_S128x512⟩ :: L)

/-- The gain's gradient with `w` added. -/
def put12 (M : Memref sig .tc .vmem S1x1x128 .f32) (f : BufTy.Contents (Elt F) M.view.ty) (L : List (View.Piece (Elt F) S1x1x128 .f32)) (old : FVec F S1x1x128 .f32) (w : FVec F S1x128 .f32) :=
  M.view.writes (Elt F) f (⟨Rect.unit (s := S1x1x128) ![0, 0, 0] S1x1x128.size inb_S1x1x128_S1x1x128_0_0_0, shapeCast S1x1x128 (addf (shapeCast S1x128 old shapeCasts_S1x1x128_S1x128) w) shapeCasts_S1x128_S1x1x128⟩ :: L)

/-- A block of rows, written whole. -/
def put9 (M : Memref sig .tc .vmem S512x128 .f32) (f : BufTy.Contents (Elt F) M.view.ty) (w : FVec F S512x128 .f32) :=
  M.view.writes (Elt F) f [⟨Rect.unit (s := S512x128) ![0, 0] S512x128.size inb_S512x128_S512x128_0_0, w⟩]

theorem runM_q (𝒱 : Variants) (c : Dev nD) (bd : Option 𝒱.V) (i : grid0.Coords) (h1 : ¬ k0_cond1 i = 1#1) (h2 : ¬ k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runM (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).1 =
      put9 arg9 f9 (outQ arg2 arg5 arg8 arg14 arg15 i (loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8 (arg16.view.writes (Elt F) f16 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (arg17.view.writes (Elt F) f17 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2)).1 f14 f15 f2 f5 f8) := by
  unfold runM
  rfl

theorem runM_g (𝒱 : Variants) (c : Dev nD) (bd : Option 𝒱.V) (i : grid0.Coords) (h1 : ¬ k0_cond1 i = 1#1) (h2 : ¬ k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runM (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.1 =
      put12 arg12 f12 [] (View.readAt (Elt F) arg12.view (Rect.unit (s := S1x1x128) ![0, 0, 0] S1x1x128.size inb_S1x1x128_S1x1x128_0_0_0).toLoadRect f12) (outG arg2 arg5 arg8 arg14 arg15 i (loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8 (arg16.view.writes (Elt F) f16 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (arg17.view.writes (Elt F) f17 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2)).1 f14 f15 f2 f5 f8) := by
  unfold runM
  rfl

theorem runM_k (𝒱 : Variants) (c : Dev nD) (bd : Option 𝒱.V) (i : grid0.Coords) (h1 : ¬ k0_cond1 i = 1#1) (h2 : ¬ k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runM (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.1 =
      put7 i arg16 f16 ((loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8 (arg16.view.writes (Elt F) f16 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (arg17.view.writes (Elt F) f17 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2)).2.1 ++ (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (outK arg2 arg5 arg8 arg14 arg15 i (loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8 (arg16.view.writes (Elt F) f16 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (arg17.view.writes (Elt F) f17 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2)).1 f14 f15 f2 f5 f8) := by
  unfold runM
  rfl

theorem runM_v (𝒱 : Variants) (c : Dev nD) (bd : Option 𝒱.V) (i : grid0.Coords) (h1 : ¬ k0_cond1 i = 1#1) (h2 : ¬ k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runM (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.1 =
      put7 i arg17 f17 ((loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8 (arg16.view.writes (Elt F) f16 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (arg17.view.writes (Elt F) f17 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2)).2.2 ++ (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2) (outV arg2 arg5 arg8 arg14 i (loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8 (arg16.view.writes (Elt F) f16 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (arg17.view.writes (Elt F) f17 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2)).1 f14 f2 f5 f8) := by
  unfold runM
  rfl

theorem runZ_q (𝒱 : Variants) (c : Dev nD) (bd : Option 𝒱.V) (i : grid0.Coords) (h1 : ¬ k0_cond1 i = 1#1) (h2 : k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runZ (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).1 =
      put9 arg9 arg9.view.junk (outQ arg2 arg5 arg8 arg14 arg15 i (loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8 (arg16.view.writes (Elt F) f16 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (arg17.view.writes (Elt F) f17 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2)).1 f14 f15 f2 f5 f8) := by
  unfold runZ
  rfl

theorem runZ_g (𝒱 : Variants) (c : Dev nD) (bd : Option 𝒱.V) (i : grid0.Coords) (h1 : ¬ k0_cond1 i = 1#1) (h2 : k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runZ (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.1 =
      put12 arg12 arg12.view.junk [] (View.readAt (Elt F) arg12.view (Rect.unit (s := S1x1x128) ![0, 0, 0] S1x1x128.size inb_S1x1x128_S1x1x128_0_0_0).toLoadRect f12) (outG arg2 arg5 arg8 arg14 arg15 i (loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8 (arg16.view.writes (Elt F) f16 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (arg17.view.writes (Elt F) f17 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2)).1 f14 f15 f2 f5 f8) := by
  unfold runZ
  rfl

theorem runZ_k (𝒱 : Variants) (c : Dev nD) (bd : Option 𝒱.V) (i : grid0.Coords) (h1 : ¬ k0_cond1 i = 1#1) (h2 : k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runZ (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.2.2.1 =
      put7 i arg16 f16 ((loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8 (arg16.view.writes (Elt F) f16 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (arg17.view.writes (Elt F) f17 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2)).2.1 ++ (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (outK arg2 arg5 arg8 arg14 arg15 i (loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8 (arg16.view.writes (Elt F) f16 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (arg17.view.writes (Elt F) f17 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2)).1 f14 f15 f2 f5 f8) := by
  unfold runZ
  rfl

theorem runZ_v (𝒱 : Variants) (c : Dev nD) (bd : Option 𝒱.V) (i : grid0.Coords) (h1 : ¬ k0_cond1 i = 1#1) (h2 : k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runZ (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.2.2.2.1 =
      put7 i arg17 f17 ((loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8 (arg16.view.writes (Elt F) f16 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (arg17.view.writes (Elt F) f17 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2)).2.2 ++ (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2) (outV arg2 arg5 arg8 arg14 i (loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8 (arg16.view.writes (Elt F) f16 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.1) (arg17.view.writes (Elt F) f17 (loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i f14 f15 f16 f17 f2 f5 f7 f8).2.2)).1 f14 f2 f5 f8) := by
  unfold runZ
  rfl

/-- The normalised keys and the values, stored by the first query block of a head pair. -/
def fill (𝒱 : Variants) (c : Dev nD) (bd : Option 𝒱.V) (i : grid0.Coords) (h1 : k0_cond1 i = 1#1) (f3 : BufTy.Contents (Elt F) arg3.view.ty) (f4 : BufTy.Contents (Elt F) arg4.view.ty) (f6 : BufTy.Contents (Elt F) arg6.view.ty) (f14 : BufTy.Contents (Elt F) arg14.view.ty) (f15 : BufTy.Contents (Elt F) arg15.view.ty) : BufTy.Contents (Elt F) arg14.view.ty × BufTy.Contents (Elt F) arg15.view.ty :=
  (arg14.view.writes (Elt F) f14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 f3 f4 f6 k0_t1_loop.trips).1,
    arg15.view.writes (Elt F) f15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 f3 f4 f6 k0_t1_loop.trips).2)
/-- A cleared accumulator. -/
def clear (w : FVec F S128x4096 .f32) : List (View.Piece (Elt F) S128x4096 .f32) := [⟨Rect.unit (s := S128x4096) ![0, 0] S128x4096.size inb_S128x4096_S128x4096_0_0, w⟩]
/-- A cleared gradient of the gain. -/
def clear12 : List (View.Piece (Elt F) S1x1x128 .f32) := [⟨Rect.unit (s := S1x1x128) ![0, 0, 0] S1x1x128.size inb_S1x1x128_S1x1x128_0_0_0, k0_pay128⟩]

theorem runA_q (𝒱 : Variants) (c : Dev nD) (bd : Option 𝒱.V) (i : grid0.Coords) (h1 : k0_cond1 i = 1#1) (h2 : ¬ k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runA (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).1 =
      put9 arg9 f9 (outQ arg2 arg5 arg8 arg14 arg15 i (loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8 (arg16.view.writes (Elt F) arg16.view.junk ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.1 ++ clear k0_pay126)) (arg17.view.writes (Elt F) arg17.view.junk ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.2 ++ clear k0_pay127))).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 f2 f5 f8) := by
  unfold runA
  rfl

theorem runA_g (𝒱 : Variants) (c : Dev nD) (bd : Option 𝒱.V) (i : grid0.Coords) (h1 : k0_cond1 i = 1#1) (h2 : ¬ k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runA (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.1 =
      put12 arg12 arg12.view.junk clear12 (arg12.view.readCov clear12 (Rect.unit (s := S1x1x128) ![0, 0, 0] S1x1x128.size inb_S1x1x128_S1x1x128_0_0_0).toLoadRect) (outG arg2 arg5 arg8 arg14 arg15 i (loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8 (arg16.view.writes (Elt F) arg16.view.junk ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.1 ++ clear k0_pay126)) (arg17.view.writes (Elt F) arg17.view.junk ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.2 ++ clear k0_pay127))).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 f2 f5 f8) := by
  unfold runA
  rfl

theorem runA_kn (𝒱 : Variants) (c : Dev nD) (bd : Option 𝒱.V) (i : grid0.Coords) (h1 : k0_cond1 i = 1#1) (h2 : ¬ k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runA (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.1 =
      (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 := by
  unfold runA
  rfl

theorem runA_vb (𝒱 : Variants) (c : Dev nD) (bd : Option 𝒱.V) (i : grid0.Coords) (h1 : k0_cond1 i = 1#1) (h2 : ¬ k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runA (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.1 =
      (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 := by
  unfold runA
  rfl

theorem runA_k (𝒱 : Variants) (c : Dev nD) (bd : Option 𝒱.V) (i : grid0.Coords) (h1 : k0_cond1 i = 1#1) (h2 : ¬ k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runA (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.2.1 =
      put7 i arg16 arg16.view.junk ((loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8 (arg16.view.writes (Elt F) arg16.view.junk ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.1 ++ clear k0_pay126)) (arg17.view.writes (Elt F) arg17.view.junk ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.2 ++ clear k0_pay127))).2.1 ++ ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.1 ++ clear k0_pay126)) (outK arg2 arg5 arg8 arg14 arg15 i (loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8 (arg16.view.writes (Elt F) arg16.view.junk ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.1 ++ clear k0_pay126)) (arg17.view.writes (Elt F) arg17.view.junk ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.2 ++ clear k0_pay127))).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 f2 f5 f8) := by
  unfold runA
  rfl

theorem runA_v (𝒱 : Variants) (c : Dev nD) (bd : Option 𝒱.V) (i : grid0.Coords) (h1 : k0_cond1 i = 1#1) (h2 : ¬ k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runA (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.2.2.1 =
      put7 i arg17 arg17.view.junk ((loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8 (arg16.view.writes (Elt F) arg16.view.junk ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.1 ++ clear k0_pay126)) (arg17.view.writes (Elt F) arg17.view.junk ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.2 ++ clear k0_pay127))).2.2 ++ ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.2 ++ clear k0_pay127)) (outV arg2 arg5 arg8 arg14 i (loop3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8 (arg16.view.writes (Elt F) arg16.view.junk ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.1 ++ clear k0_pay126)) (arg17.view.writes (Elt F) arg17.view.junk ((loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).2 (arg16.view.writes (Elt F) arg16.view.junk (clear k0_pay126)) (arg17.view.writes (Elt F) arg17.view.junk (clear k0_pay127)) f2 f5 f7 f8).2.2 ++ clear k0_pay127))).1 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 f3 f4 f6 f14 f15).1 f2 f5 f8) := by
  unfold runA
  rfl

/-- The closing loop over the keys: the gradient of their gain, and what it stores. -/
def finish (𝒱 : Variants) (c : Dev nD) (bd : Option 𝒱.V) (i : grid0.Coords) (h2 : k0_cond2 i = 1#1) (f3 : BufTy.Contents (Elt F) arg3.view.ty) (f6 : BufTy.Contents (Elt F) arg6.view.ty) (X16 : BufTy.Contents (Elt F) arg16.view.ty) (X17 : BufTy.Contents (Elt F) arg17.view.ty) :=
  st_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h2 f3 f6 X16 X17 k0_pay3 k0_t4_loop.trips

theorem runZ_dk (𝒱 : Variants) (c : Dev nD) (bd : Option 𝒱.V) (i : grid0.Coords) (h1 : ¬ k0_cond1 i = 1#1) (h2 : k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runZ (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.1 =
      arg10.view.writes (Elt F) f10 (finish arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h2 f3 f6 (runZ (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.2.2.1 (runZ (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.2.2.2.1).2.1 := by
  unfold runZ
  rfl

theorem runZ_dv (𝒱 : Variants) (c : Dev nD) (bd : Option 𝒱.V) (i : grid0.Coords) (h1 : ¬ k0_cond1 i = 1#1) (h2 : k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runZ (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.1 =
      arg11.view.writes (Elt F) f11 (finish arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h2 f3 f6 (runZ (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.2.2.1 (runZ (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.2.2.2.1).2.2 := by
  unfold runZ
  rfl

theorem runZ_dg (𝒱 : Variants) (c : Dev nD) (bd : Option 𝒱.V) (i : grid0.Coords) (h1 : ¬ k0_cond1 i = 1#1) (h2 : k0_cond2 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    (runZ (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.2.1 =
      arg13.view.writes (Elt F) f13 [⟨Rect.unit (s := S1x1x128) ![0, 0, 0] S1x1x128.size inb_S1x1x128_S1x1x128_0_0_0, k0_pay7 (finish arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h2 f3 f6 (runZ (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.2.2.1 (runZ (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i h1 h2 f2 f3 f4 f5 f6 f7 f8 f9 f10 f11 f12 f13 f14 f15 f16 f17).2.2.2.2.2.2.1).1⟩] := by
  unfold runZ
  rfl

end
end Cert.KernelIdeal.Hand
end
-- ==== Proof.Step.lean ====
/-
  Hand-written, untrusted. What one run of the attention backward body computes, as functions of real numbers: a block of 512 query rows against all keys.
-/
module

public import proofs.«01_k».proof.Proof.Own
public import proofs.«01_k».proof.Proof.Words

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable (Q K D V : ℕ → ℕ → ℝ)
theorem wS_zero {a k : ℕ} (h : a ≤ k) : wS Q K a k = 0 := if_neg (by omega)
theorem dzS_zero {a k : ℕ} (h : a ≤ k) : dzS Q K D V a k = 0 := if_neg (by omega)
end

/-- The first head's columns of the pair. -/
def lo (f : ℕ → ℕ → ℝ) (a c : ℕ) : ℝ := if c < 64 then f a c else 0
/-- The second head's columns of the pair. -/
def hi (f : ℕ → ℕ → ℝ) (a c : ℕ) : ℝ := if ¬ c < 64 then f a c else 0
/-- The normalised rows. -/
def normR (X : ℕ → ℕ → ℝ) (G : ℕ → ℝ) (a c : ℕ) : ℝ := X a c * rmsR X a c * G c
/-- The gradient by the rows before normalisation, `N` the gradient by the normalised ones. -/
def rmsGrad (X : ℕ → ℕ → ℝ) (G : ℕ → ℝ) (N : ℕ → ℕ → ℝ) (a c : ℕ) : ℝ :=
  rmsR X a c * (N a c * G c) - X a c * (rmsR X a c * rmsR X a c * rmsR X a c * headMean (fun a c => N a c * G c * X a c) a c)

section
variable (Qn K D V : ℕ → ℕ → ℝ)
/-- The gradient by the normalised queries, `Qn` the scaled normalised ones. -/
def dqN (a c : ℕ) : ℝ := (∑ k ∈ Finset.range 4096, dqS (lo Qn) (hi Qn) K (lo D) (hi D) V a k c) * (1 / 8)
/-- What row `a` adds to the gradient by the normalised key `k`. -/
def dkN (a c k : ℕ) : ℝ := dkS (lo Qn) (hi Qn) K (lo D) (hi D) V a c k
/-- What row `a` adds to the gradient by the value `k`. -/
def dvN (a c k : ℕ) : ℝ := dvS (lo Qn) (hi Qn) K (lo D) (hi D) a c k

theorem dqS_zero {Q0 Q1 D0 D1 : ℕ → ℕ → ℝ} {a k c : ℕ} (h : a ≤ k) : dqS Q0 Q1 K D0 D1 V a k c = 0 := by
  unfold dqS; rw [dzS_zero _ _ _ _ h, dzS_zero _ _ _ _ h]; simp
theorem dkS_zero {Q0 Q1 D0 D1 : ℕ → ℕ → ℝ} {a k c : ℕ} (h : a ≤ k) : dkS Q0 Q1 K D0 D1 V a c k = 0 := by
  unfold dkS; rw [dzS_zero _ _ _ _ h, dzS_zero _ _ _ _ h]; simp
theorem dvS_zero {Q0 Q1 D0 D1 : ℕ → ℕ → ℝ} {a k c : ℕ} (h : a ≤ k) : dvS Q0 Q1 K D0 D1 a c k = 0 := by
  unfold dvS; rw [wS_zero _ _ h, wS_zero _ _ h]; simp

theorem dqN_eq {n a c : ℕ} (h : n ≤ 4096) (ha : a < n) : dqN Qn K D V a c = (∑ k ∈ Finset.range n, dqS (lo Qn) (hi Qn) K (lo D) (hi D) V a k c) * (1 / 8) := by
  unfold dqN
  obtain ⟨m, hm⟩ := Nat.exists_eq_add_of_le h
  rw [hm, Finset.sum_range_add, Finset.sum_eq_zero (s := Finset.range m) (fun k _ => dqS_zero K V (by omega)), add_zero]
end

theorem block_word (x : Fin 8) : (Scalar.indexCast (Scalar.muli (BitVec.ofNat 32 x.val) 512#32)).toNat = 512 * x.val := by
  revert x; decide +kernel
theorem off6_closed (i : grid0.Coords) : k0_off6 i = ![512 * (i 1).val, 0] := by
  show ![_, 0] = _
  rw [← block_word (i 1)]
theorem off7_closed (i : grid0.Coords) : k0_off7 i = ![0, 512 * (i 1).val] := by
  show ![0, _] = _
  rw [← block_word (i 1)]

theorem put7_is {i : grid0.Coords} {M : Memref sig .tc .vmem S128x4096 .f32} {f : BufTy.Contents (Elt Ideal) M.view.ty} {L : List (View.Piece (Elt Ideal) S128x4096 .f32)}
    {E G : ℕ → ℕ → ℝ} (h : Holds M (M.view.writes (Elt Ideal) f L) E) {w : FVec Ideal S128x512 .f32} (hw : Is w G) :
    Holds M (put7 i M f L w) (fun c k => if 512 * (i 1).val ≤ k ∧ k < 512 * (i 1).val + 512 then E c k + G c (k - 512 * (i 1).val) else E c k) :=
  (put_is h (off7_closed i) (k0_off7_inb i) (cast_is (add_is (cols_is h (off7_closed i) (k0_off7_inb i)) hw))).congr fun c k _ _ => by
    simp only []
    split
    · rename_i hk
      rw [show 512 * (i 1).val + (k - 512 * (i 1).val) = k by omega]
    · rfl

variable {arg2 : Memref sig .tc .vmem S512x128 .f32} {harg2 : arg2.IsWhole} {arg3 : Memref sig .tc .vmem S4096x128 .f32} {harg3 : arg3.IsWhole} {arg4 : Memref sig .tc .vmem S4096x128 .f32} {harg4 : arg4.IsWhole} {arg5 : Memref sig .tc .vmem S1x128 .f32} {harg5 : arg5.IsWhole} {arg6 : Memref sig .tc .vmem S1x128 .f32} {harg6 : arg6.IsWhole} {arg7 : Memref sig .tc .vmem S2x512x1 .f32} {harg7 : arg7.IsWhole} {arg8 : Memref sig .tc .vmem S512x128 .f32} {harg8 : arg8.IsWhole} {arg9 : Memref sig .tc .vmem S512x128 .f32} {harg9 : arg9.IsWhole} {arg10 : Memref sig .tc .vmem S4096x128 .f32} {harg10 : arg10.IsWhole} {arg11 : Memref sig .tc .vmem S4096x128 .f32} {harg11 : arg11.IsWhole} {arg12 : Memref sig .tc .vmem S1x1x128 .f32} {harg12 : arg12.IsWhole} {arg13 : Memref sig .tc .vmem S1x1x128 .f32} {harg13 : arg13.IsWhole} {arg14 : Memref sig .tc .vmem S4096x128 .bf16} {harg14 : arg14.IsWhole} {arg15 : Memref sig .tc .vmem S4096x128 .bf16} {harg15 : arg15.IsWhole} {arg16 : Memref sig .tc .vmem S128x4096 .f32} {harg16 : arg16.IsWhole} {arg17 : Memref sig .tc .vmem S128x4096 .f32} {harg17 : arg17.IsWhole}

/-- A block of query rows: the gradient by its rows, what it adds to the gradient by the gain, and the two accumulators with what
    it adds to the gradients by the keys and values. -/
theorem block_is {𝒱 : Variants} {c : Dev nD} {bd : Option 𝒱.V} {i : grid0.Coords} {X14 : BufTy.Contents (Elt Ideal) arg14.view.ty} {X15 : BufTy.Contents (Elt Ideal) arg15.view.ty} {f16 : BufTy.Contents (Elt Ideal) arg16.view.ty} {f17 : BufTy.Contents (Elt Ideal) arg17.view.ty}
    {L16 L17 : List (View.Piece (Elt Ideal) S128x4096 .f32)} {f2 : BufTy.Contents (Elt Ideal) arg2.view.ty} {f5 : BufTy.Contents (Elt Ideal) arg5.view.ty} {f7 : BufTy.Contents (Elt Ideal) arg7.view.ty} {f8 : BufTy.Contents (Elt Ideal) arg8.view.ty}
    {X K D V E16 E17 : ℕ → ℕ → ℝ} {G : ℕ → ℝ} {n : ℕ} (hn : n = 512 * (i 1).val)
    (hx : Is (qIn arg2 f2) fun a c => X (n + a) c) (hg : Is (gqIn arg5 f5) fun _ c => G c) (hd : Is (doIn arg8 f8) fun a c => D (n + a) c)
    (hr0 : Is (start arg7 f7).2.1 fun a _ => leftS (lo fun a c => normR X G a c * (1 / 8)) K (n + a) 0)
    (hr1 : Is (start arg7 f7).2.2.1 fun a _ => leftS (hi fun a c => normR X G a c * (1 / 8)) K (n + a) 0)
    (hK : Holds16 arg14 X14 K) (hV : Holds16 arg15 X15 V)
    (h16 : Holds arg16 (arg16.view.writes (Elt Ideal) f16 L16) E16) (h17 : Holds arg17 (arg17.view.writes (Elt Ideal) f17 L17) E17)
    {S : _} (hS : S = loop2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 𝒱 c bd i X14 X15 (arg16.view.writes (Elt Ideal) f16 L16) (arg17.view.writes (Elt Ideal) f17 L17) f2 f5 f7 f8) :
    Is (outQ arg2 arg5 arg8 arg14 arg15 i S.1 X14 X15 f2 f5 f8) (fun a c => rmsGrad X G (dqN (fun a c => normR X G a c * (1 / 8)) K D V) (n + a) c) ∧
    Is (outG arg2 arg5 arg8 arg14 arg15 i S.1 X14 X15 f2 f5 f8) (fun _ c => ∑ a ∈ Finset.range 512, dqN (fun a c => normR X G a c * (1 / 8)) K D V (n + a) c * X (n + a) c * rmsR X (n + a) c) ∧
    Holds arg16 (put7 i arg16 f16 (S.2.1 ++ L16) (outK arg2 arg5 arg8 arg14 arg15 i S.1 X14 X15 f2 f5 f8))
      (fun c k => E16 c k + ∑ a ∈ Finset.range 512, dkN (fun a c => normR X G a c * (1 / 8)) K D V (n + a) c k) ∧
    Holds arg17 (put7 i arg17 f17 (S.2.2 ++ L17) (outV arg2 arg5 arg8 arg14 i S.1 X14 f2 f5 f8))
      (fun c k => E17 c k + ∑ a ∈ Finset.range 512, dvN (fun a c => normR X G a c * (1 / 8)) K D (n + a) c k) := by
  set Qn : ℕ → ℕ → ℝ := fun a c => normR X G a c * (1 / 8) with hQn
  have hi8 : (i 1).val < 8 := (i 1).isLt
  have hq : Is (k0_pay130 (qIn arg2 f2) (gqIn arg5 f5)) (fun a c => Qn (n + a) c) := scaled_is hx hg
  have hqt : Is (k0_pay131 (qIn arg2 f2) (gqIn arg5 f5)) (fun c a => Qn (n + a) c) := transpose_is hq
  have hdt : Is (k0_pay132 (doIn arg8 f8)) (fun c a => D (n + a) c) := transpose_is hd
  have q0_ : Is (q0 arg2 arg5 f2 f5) (fun a c => lo Qn (n + a) c) := lo_is hq
  have q1_ : Is (q1 arg2 arg5 f2 f5) (fun a c => hi Qn (n + a) c) := hi_is hq
  have q0t_ : Is (q0t arg2 arg5 f2 f5) (fun c a => lo Qn (n + a) c) := loT_is hqt
  have q1t_ : Is (q1t arg2 arg5 f2 f5) (fun c a => hi Qn (n + a) c) := hiT_is hqt
  have d0_ : Is (d0 arg8 f8) (fun a c => lo D (n + a) c) := lo_is hd
  have d1_ : Is (d1 arg8 f8) (fun a c => hi D (n + a) c) := hi_is hd
  have d0t_ : Is (d0t arg8 f8) (fun c a => lo D (n + a) c) := loT_is hdt
  have d1t_ : Is (d1t arg8 f8) (fun c a => hi D (n + a) c) := hiT_is hdt
  have hz : Is (n := 128) (k0_pay150 (F := Ideal)) (fun _ _ => 0) := zero_is
  have hl := loop_is (𝒱 := 𝒱) (c := c) (bd := bd) (i := i) (arg1 := BitVec.ofNat 32 (i 1)) (v125 := k0_pay150) (v126 := k0_pay151) (init := start arg7 f7) (E16 := E16) (E17 := E17) (Q0 := lo Qn) (Q1 := hi Qn) (K := K) (D0 := lo D) (D1 := hi D) (V := V)
    (G16 := arg16.view.writes (Elt Ideal) f16 L16) (G17 := arg17.view.writes (Elt Ideal) f17 L17)
    (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17)
    hn first_row triU_is triB_is q0_ q1_ q0t_ q1t_ d0_ d1_ d0t_ d1t_ hK hV
    (⟨zero_is.congr (fun _ _ _ _ => by simp), hr0, hr1, hz.congr (fun _ _ _ _ => (preS_zero _ _ _ _ _).symm), hz.congr (fun _ _ _ _ => (preS_zero _ _ _ _ _).symm), h16.congr (fun _ _ _ _ => by simp), h17.congr (fun _ _ _ _ => by simp)⟩) (k0_t2_loop i).trips le_rfl
  have hS' : S = st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1)) k0_pay133 k0_pay135 triB (q0 arg2 arg5 f2 f5) (q1 arg2 arg5 f2 f5) (q0t arg2 arg5 f2 f5) (q1t arg2 arg5 f2 f5) (d0 arg8 f8) (d1 arg8 f8) (d0t arg8 f8) (d1t arg8 f8) k0_pay150 k0_pay151 X14 X15 (arg16.view.writes (Elt Ideal) f16 L16) (arg17.view.writes (Elt Ideal) f17 L17) (start arg7 f7) (k0_t2_loop i).trips := hS
  rw [← hS', trips2 i] at hl
  obtain ⟨b0, b1, b2, b3, b4, b5, b6⟩ := hl
  rw [← hn] at b0 b1 b2 b3 b4 b5 b6
  have hk := rows16_is hK (off6_closed i) (k0_off6_inb i)
  have hv := rows16_is hV (off6_closed i) (k0_off6_inb i)
  rw [← hn] at hk hv
  have hdq : Is (dqNorm S.1 (q0 arg2 arg5 f2 f5) (q1 arg2 arg5 f2 f5) (d0 arg8 f8) (d1 arg8 f8) (kOwn arg14 i X14) (vOwn arg15 i X15)) (fun a c => dqN Qn K D V (n + a) c) :=
    (dqNorm_is q0_ q1_ d0_ d1_ hk hv b0 b1 b2 b3 b4).congr fun a c ha _ => (dqN_eq Qn K D V (by omega) (by omega)).symm
  have hf : Is (k0_pay129 (qIn arg2 f2)) (fun a c => rmsR X (n + a) c) := factor_is hx
  refine ⟨backs_is hx hf hdq hg, gainBack_is hx hf hdq, ?_, ?_⟩
  · rw [← View.writes_append] at b5
    refine (put7_is b5 (byKey_is q0t_ q1t_ (ownZ_is triU_is triB_is q0_ hk d0_ hv b1 b3) (ownZ_is triU_is triB_is q1_ hk d1_ hv b2 b4))).congr fun c k _ hk' => ?_
    simp only [← hn]
    unfold dkN
    split
    · rename_i h
      rw [if_neg (by omega), add_zero, show n + (k - n) = k by omega]
      rfl
    · rename_i h
      by_cases h1 : k < n
      · rw [if_pos h1]
      · rw [if_neg h1, Finset.sum_eq_zero (fun a ha => dkS_zero K V (by have := Finset.mem_range.1 ha; omega))]
  · rw [← View.writes_append] at b6
    refine (put7_is b6 (byKey_is d0t_ d1t_ (trunc_is (ownW_is triU_is q0_ hk b1)) (trunc_is (ownW_is triU_is q1_ hk b2)))).congr fun c k _ hk' => ?_
    simp only [← hn]
    unfold dvN
    split
    · rename_i h
      rw [if_neg (by omega), add_zero, show n + (k - n) = k by omega]
      rfl
    · rename_i h
      by_cases h1 : k < n
      · rw [if_pos h1]
      · rw [if_neg h1, Finset.sum_eq_zero (fun a ha => dvS_zero K (by have := Finset.mem_range.1 ha; omega))]

end Cert.KernelIdeal.Hand
end
-- ==== Proof.Ends.lean ====
/-
  Hand-written, untrusted. The loop over the keys that opens a head pair (it stores the normalised keys and the values) and the one that closes it (it
  writes the gradients of the keys and values out), each by its trips.
-/
module

public import proofs.«01_k».proof.Proof.Step

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable {F : FTy → Type} [FloatOps F]
variable (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2x512x1 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S128x4096 .f32) (harg16 : arg16.IsWhole) (arg17 : Memref sig .tc .vmem S128x4096 .f32) (harg17 : arg17.IsWhole)

/-- The gain of the keys. -/
def gkIn (f6 : BufTy.Contents (Elt F) arg6.view.ty) : FVec F S1x128 .f32 := View.readAt (Elt F) arg6.view (Rect.unit (s := S1x128) ![0, 0] S1x128.size inb_S1x128_S1x128_0_0).toLoadRect f6

theorem fill_keys (𝒱 : Variants) (c : Dev nD) (bd : Option 𝒱.V) (i : grid0.Coords) (h : k0_cond1 i = 1#1) (f3 : BufTy.Contents (Elt F) arg3.view.ty) (f4 : BufTy.Contents (Elt F) arg4.view.ty) (f6 : BufTy.Contents (Elt F) arg6.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f4 f6 k).1 = [⟨Rect.unit (s := S4096x128) (k0_off1 k) S512x128.size (k0_off1_inb i k h), k0_pay8 (View.readAt (Elt F) arg3.view (Rect.unit (s := S4096x128) (k0_off1 k) S512x128.size (k0_off1_inb i k h)).toLoadRect f3) (gkIn arg6 f6)⟩] := by
  unfold trip_k0_t1
  rfl
theorem fill_values (𝒱 : Variants) (c : Dev nD) (bd : Option 𝒱.V) (i : grid0.Coords) (h : k0_cond1 i = 1#1) (f3 : BufTy.Contents (Elt F) arg3.view.ty) (f4 : BufTy.Contents (Elt F) arg4.view.ty) (f6 : BufTy.Contents (Elt F) arg6.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f4 f6 k).2.1 = [⟨Rect.unit (s := S4096x128) (k0_off1 k) S512x128.size (k0_off1_inb i k h), k0_pay125 (View.readAt (Elt F) arg4.view (Rect.unit (s := S4096x128) (k0_off1 k) S512x128.size (k0_off1_inb i k h)).toLoadRect f4)⟩] := by
  unfold trip_k0_t1
  rfl
theorem finish_gain (𝒱 : Variants) (c : Dev nD) (bd : Option 𝒱.V) (i : grid0.Coords) (h : k0_cond2 i = 1#1) (f3 : BufTy.Contents (Elt F) arg3.view.ty) (f6 : BufTy.Contents (Elt F) arg6.view.ty) (f16 : BufTy.Contents (Elt F) arg16.view.ty) (f17 : BufTy.Contents (Elt F) arg17.view.ty) (k : Fin k0_t4_loop.trips) (acc : FVec F S1x128 .f32) :
    (trip_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f6 f16 f17 k).1 acc = addf acc (gainBack (View.readAt (Elt F) arg3.view (Rect.unit (s := S4096x128) (k0_off8 k) S512x128.size (k0_off8_inb i k h)).toLoadRect f3) (k0_pay129 (View.readAt (Elt F) arg3.view (Rect.unit (s := S4096x128) (k0_off8 k) S512x128.size (k0_off8_inb i k h)).toLoadRect f3)) (transpose S512x128 [1, 0] (View.readAt (Elt F) arg16.view (Rect.unit (s := S128x4096) (k0_off9 k) S128x512.size (k0_off9_inb i k h)).toLoadRect f16) transposes_S128x512_p1_0_S512x128)) := by
  unfold trip_k0_t4
  rfl
theorem finish_keys (𝒱 : Variants) (c : Dev nD) (bd : Option 𝒱.V) (i : grid0.Coords) (h : k0_cond2 i = 1#1) (f3 : BufTy.Contents (Elt F) arg3.view.ty) (f6 : BufTy.Contents (Elt F) arg6.view.ty) (f16 : BufTy.Contents (Elt F) arg16.view.ty) (f17 : BufTy.Contents (Elt F) arg17.view.ty) (k : Fin k0_t4_loop.trips) (acc : FVec F S1x128 .f32) :
    (trip_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f6 f16 f17 k).2.1 acc = [⟨Rect.unit (s := S4096x128) (k0_off8 k) S512x128.size (k0_off8_inb i k h), rmsBack (View.readAt (Elt F) arg3.view (Rect.unit (s := S4096x128) (k0_off8 k) S512x128.size (k0_off8_inb i k h)).toLoadRect f3) (k0_pay129 (View.readAt (Elt F) arg3.view (Rect.unit (s := S4096x128) (k0_off8 k) S512x128.size (k0_off8_inb i k h)).toLoadRect f3)) (gkIn arg6 f6) (transpose S512x128 [1, 0] (View.readAt (Elt F) arg16.view (Rect.unit (s := S128x4096) (k0_off9 k) S128x512.size (k0_off9_inb i k h)).toLoadRect f16) transposes_S128x512_p1_0_S512x128)⟩] := by
  unfold trip_k0_t4
  rfl
theorem finish_values (𝒱 : Variants) (c : Dev nD) (bd : Option 𝒱.V) (i : grid0.Coords) (h : k0_cond2 i = 1#1) (f3 : BufTy.Contents (Elt F) arg3.view.ty) (f6 : BufTy.Contents (Elt F) arg6.view.ty) (f16 : BufTy.Contents (Elt F) arg16.view.ty) (f17 : BufTy.Contents (Elt F) arg17.view.ty) (k : Fin k0_t4_loop.trips) (acc : FVec F S1x128 .f32) :
    (trip_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f6 f16 f17 k).2.2.1 acc = [⟨Rect.unit (s := S4096x128) (k0_off8 k) S512x128.size (k0_off8_inb i k h), transpose S512x128 [1, 0] (View.readAt (Elt F) arg17.view (Rect.unit (s := S128x4096) (k0_off9 k) S128x512.size (k0_off9_inb i k h)).toLoadRect f17) transposes_S128x512_p1_0_S512x128⟩] := by
  unfold trip_k0_t4
  rfl
end

theorem trips1 : k0_t1_loop.trips = 8 := by decide +kernel
theorem trips4 : k0_t4_loop.trips = 8 := by decide +kernel
theorem off1_closed (k : Fin k0_t1_loop.trips) : k0_off1 k = ![512 * k.val, 0] := by
  have hk : k.val < 8 := lt_of_lt_of_eq k.isLt trips1
  have := off_word ⟨k.val, hk⟩
  show ![_, 0] = _
  rw [← this]
theorem off8_closed (k : Fin k0_t4_loop.trips) : k0_off8 k = ![512 * k.val, 0] := by
  have hk : k.val < 8 := lt_of_lt_of_eq k.isLt trips4
  have := off_word ⟨k.val, hk⟩
  show ![_, 0] = _
  rw [← this]
theorem off9_closed (k : Fin k0_t4_loop.trips) : k0_off9 k = ![0, 512 * k.val] := by
  have hk : k.val < 8 := lt_of_lt_of_eq k.isLt trips4
  have := off_word ⟨k.val, hk⟩
  show ![0, _] = _
  rw [← this]

/-- The numbers that the first `n` rows of a buffer hold. -/
def HoldsTo (M : Memref sig .tc .vmem S4096x128 .f32) (f : BufTy.Contents (Elt Ideal) M.view.ty) (n : ℕ) (E : ℕ → ℕ → ℝ) : Prop :=
  ∀ (i : Fin 4096) (j : Fin 128), i.val < n → M.view.read (Elt Ideal) f (ix2 i j) = ((E i j : ℝ) : EReal)

theorem rowsPut {M : Memref sig .tc .vmem S4096x128 .f32} {f : BufTy.Contents (Elt Ideal) M.view.ty} {L : List (View.Piece (Elt Ideal) S4096x128 .f32)}
    {E : ℕ → ℕ → ℝ} {m : ℕ} (h : HoldsTo M (M.view.writes (Elt Ideal) f L) m E)
    {off : Fin 2 → ℕ} (ho : off = ![m, 0]) (inb : ∀ a, off a + S512x128.size a ≤ S4096x128.size a) {w : FVec Ideal S512x128 .f32} (hw : Is w fun a c => E (m + a) c) :
    HoldsTo M (M.view.writes (Elt Ideal) f (⟨Rect.unit (s := S4096x128) off S512x128.size inb, w⟩ :: L)) (m + 512) E := by
  intro i j hi
  by_cases hj : m ≤ i.val
  · have he := hw ⟨i.val - m, by omega⟩ j
    simp only [show m + (i.val - m) = i.val by omega] at he
    refine (View.read_writes_cons_unit_of_mem M.view f inb w L (ix2 i j) (ix2 ⟨i.val - m, by omega⟩ j) ho ?_).trans he
    refine Fin.forall_fin_two.2 ⟨?_, ?_⟩
    · show i.val = m + (i.val - m); omega
    · show j.val = 0 + j.val; omega
  · refine (View.read_writes_cons_unit_of_not_mem M.view f inb w L (ix2 i j) ho 0 ?_).trans (h i j (by omega))
    show i.val < m ∨ m + 512 ≤ i.val
    omega

/-- The numbers that the first `n` rows of a buffer hold. -/
def HoldsTo16 (M : Memref sig .tc .vmem S4096x128 .bf16) (f : BufTy.Contents (Elt Ideal) M.view.ty) (n : ℕ) (E : ℕ → ℕ → ℝ) : Prop :=
  ∀ (i : Fin 4096) (j : Fin 128), i.val < n → M.view.read (Elt Ideal) f (ix2 i j) = ((E i j : ℝ) : EReal)

theorem rowsPut16 {M : Memref sig .tc .vmem S4096x128 .bf16} {f : BufTy.Contents (Elt Ideal) M.view.ty} {L : List (View.Piece (Elt Ideal) S4096x128 .bf16)}
    {E : ℕ → ℕ → ℝ} {m : ℕ} (h : HoldsTo16 M (M.view.writes (Elt Ideal) f L) m E)
    {off : Fin 2 → ℕ} (ho : off = ![m, 0]) (inb : ∀ a, off a + S512x128.size a ≤ S4096x128.size a) {w : FVec Ideal S512x128 .bf16} (hw : Is w fun a c => E (m + a) c) :
    HoldsTo16 M (M.view.writes (Elt Ideal) f (⟨Rect.unit (s := S4096x128) off S512x128.size inb, w⟩ :: L)) (m + 512) E := by
  intro i j hi
  by_cases hj : m ≤ i.val
  · have he := hw ⟨i.val - m, by omega⟩ j
    simp only [show m + (i.val - m) = i.val by omega] at he
    refine (View.read_writes_cons_unit_of_mem M.view f inb w L (ix2 i j) (ix2 ⟨i.val - m, by omega⟩ j) ho ?_).trans he
    refine Fin.forall_fin_two.2 ⟨?_, ?_⟩
    · show i.val = m + (i.val - m); omega
    · show j.val = 0 + j.val; omega
  · refine (View.read_writes_cons_unit_of_not_mem M.view f inb w L (ix2 i j) ho 0 ?_).trans (h i j (by omega))
    show i.val < m ∨ m + 512 ≤ i.val
    omega

theorem cast16_is {w : FVec Ideal S512x128 .bf16} {G : ℕ → ℕ → ℝ} (hw : Is w G) : Is (shapeCast S512x128 w shapeCasts_S512x128_S512x128) G := by
  intro i j
  pointwise
  exact hw i j

variable {arg2 : Memref sig .tc .vmem S512x128 .f32} {harg2 : arg2.IsWhole} {arg3 : Memref sig .tc .vmem S4096x128 .f32} {harg3 : arg3.IsWhole} {arg4 : Memref sig .tc .vmem S4096x128 .f32} {harg4 : arg4.IsWhole} {arg5 : Memref sig .tc .vmem S1x128 .f32} {harg5 : arg5.IsWhole} {arg6 : Memref sig .tc .vmem S1x128 .f32} {harg6 : arg6.IsWhole} {arg7 : Memref sig .tc .vmem S2x512x1 .f32} {harg7 : arg7.IsWhole} {arg8 : Memref sig .tc .vmem S512x128 .f32} {harg8 : arg8.IsWhole} {arg9 : Memref sig .tc .vmem S512x128 .f32} {harg9 : arg9.IsWhole} {arg10 : Memref sig .tc .vmem S4096x128 .f32} {harg10 : arg10.IsWhole} {arg11 : Memref sig .tc .vmem S4096x128 .f32} {harg11 : arg11.IsWhole} {arg12 : Memref sig .tc .vmem S1x1x128 .f32} {harg12 : arg12.IsWhole} {arg13 : Memref sig .tc .vmem S1x1x128 .f32} {harg13 : arg13.IsWhole} {arg14 : Memref sig .tc .vmem S4096x128 .bf16} {harg14 : arg14.IsWhole} {arg15 : Memref sig .tc .vmem S4096x128 .bf16} {harg15 : arg15.IsWhole} {arg16 : Memref sig .tc .vmem S128x4096 .f32} {harg16 : arg16.IsWhole} {arg17 : Memref sig .tc .vmem S128x4096 .f32} {harg17 : arg17.IsWhole}

theorem fill_is {𝒱 : Variants} {c : Dev nD} {bd : Option 𝒱.V} {i : grid0.Coords} {h : k0_cond1 i = 1#1} {f3 : BufTy.Contents (Elt Ideal) arg3.view.ty} {f4 : BufTy.Contents (Elt Ideal) arg4.view.ty} {f6 : BufTy.Contents (Elt Ideal) arg6.view.ty} {f14 : BufTy.Contents (Elt Ideal) arg14.view.ty} {f15 : BufTy.Contents (Elt Ideal) arg15.view.ty}
    {X V : ℕ → ℕ → ℝ} {G : ℕ → ℝ} (hx : Holds (m := 4096) (n := 128) arg3 f3 X) (hv : Holds (m := 4096) (n := 128) arg4 f4 V) (hg : Is (gkIn arg6 f6) fun _ c => G c) (t : ℕ) (ht : t ≤ k0_t1_loop.trips) :
    HoldsTo16 arg14 (arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f4 f6 t).1) (512 * t) (normR X G) ∧
    HoldsTo16 arg15 (arg15.view.writes (Elt Ideal) f15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f4 f6 t).2) (512 * t) V := by
  induction t with
  | zero => exact ⟨fun i j hi => absurd hi (by omega), fun i j hi => absurd hi (by omega)⟩
  | succ t ih =>
    obtain ⟨b0, b1⟩ := ih (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f4 f6 ⟨t, ht⟩
    simp only [] at e
    rw [e]
    clear e
    have kk := rows_is hx (off1_closed ⟨t, ht⟩) (k0_off1_inb i ⟨t, ht⟩ h)
    have vv := rows_is hv (off1_closed ⟨t, ht⟩) (k0_off1_inb i ⟨t, ht⟩ h)
    refine ⟨?_, ?_⟩
    · show HoldsTo16 arg14 (arg14.view.writes (Elt Ideal) f14 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f4 f6 ⟨t, ht⟩).1 ++ _)) _ _
      rw [fill_keys]
      exact rowsPut16 b0 (off1_closed ⟨t, ht⟩) _ (cast16_is (trunc_is (mul_is (mul_is kk (factor_is kk)) (gain_is hg))))
    · show HoldsTo16 arg15 (arg15.view.writes (Elt Ideal) f15 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f4 f6 ⟨t, ht⟩).2.1 ++ _)) _ _
      rw [fill_values]
      exact rowsPut16 b1 (off1_closed ⟨t, ht⟩) _ (cast16_is (trunc_is vv))

theorem finish_is {𝒱 : Variants} {c : Dev nD} {bd : Option 𝒱.V} {i : grid0.Coords} {h : k0_cond2 i = 1#1} {f3 : BufTy.Contents (Elt Ideal) arg3.view.ty} {f6 : BufTy.Contents (Elt Ideal) arg6.view.ty} {f10 : BufTy.Contents (Elt Ideal) arg10.view.ty} {f11 : BufTy.Contents (Elt Ideal) arg11.view.ty} {f16 : BufTy.Contents (Elt Ideal) arg16.view.ty} {f17 : BufTy.Contents (Elt Ideal) arg17.view.ty}
    {X N W : ℕ → ℕ → ℝ} {G : ℕ → ℝ} (hx : Holds (m := 4096) (n := 128) arg3 f3 X) (hg : Is (gkIn arg6 f6) fun _ c => G c)
    (h16 : Holds arg16 f16 fun c k => N k c) (h17 : Holds arg17 f17 fun c k => W k c) (t : ℕ) (ht : t ≤ k0_t4_loop.trips) :
    Is (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f6 f16 f17 k0_pay3 t).1 (fun _ c => ∑ a ∈ Finset.range (512 * t), N a c * X a c * rmsR X a c) ∧
    HoldsTo arg10 (arg10.view.writes (Elt Ideal) f10 (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f6 f16 f17 k0_pay3 t).2.1) (512 * t) (rmsGrad X G N) ∧
    HoldsTo arg11 (arg11.view.writes (Elt Ideal) f11 (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f6 f16 f17 k0_pay3 t).2.2) (512 * t) W := by
  induction t with
  | zero => exact ⟨zero_is.congr fun _ _ _ _ => by simp, fun i j hi => absurd hi (by omega), fun i j hi => absurd hi (by omega)⟩
  | succ t ih =>
    obtain ⟨b0, b1, b2⟩ := ih (by omega)
    have e := st_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f6 f16 f17 k0_pay3 ⟨t, ht⟩
    simp only [] at e
    rw [e]
    clear e
    have kk := rows_is hx (off8_closed ⟨t, ht⟩) (k0_off8_inb i ⟨t, ht⟩ h)
    have nn := transpose_is' (cols_is h16 (off9_closed ⟨t, ht⟩) (k0_off9_inb i ⟨t, ht⟩ h))
    have ww := transpose_is' (cols_is h17 (off9_closed ⟨t, ht⟩) (k0_off9_inb i ⟨t, ht⟩ h))
    refine ⟨?_, ?_, ?_⟩
    · show Is ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f6 f16 f17 ⟨t, ht⟩).1 _) _
      rw [finish_gain]
      refine (add_is b0 (gainBack_is kk (factor_is kk) nn)).congr fun a b _ _ => ?_
      rw [show 512 * (t + 1) = 512 * t + 512 by omega, Finset.sum_range_add (fun a => N a b * X a b * rmsR X a b)]
      rfl
    · show HoldsTo arg10 (arg10.view.writes (Elt Ideal) f10 ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f6 f16 f17 ⟨t, ht⟩).2.1 _ ++ _)) _ _
      rw [finish_keys]
      exact rowsPut b1 (off8_closed ⟨t, ht⟩) _ (backs_is kk (factor_is kk) nn hg)
    · show HoldsTo arg11 (arg11.view.writes (Elt Ideal) f11 ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f3 f6 f16 f17 ⟨t, ht⟩).2.2.1 _ ++ _)) _ _
      rw [finish_values]
      exact rowsPut b2 (off8_closed ⟨t, ht⟩) _ ww

end Cert.KernelIdeal.Hand
end
-- ==== Proof.Whole.lean ====
/-
  Hand-written, untrusted. What the body of the attention backward kernel leaves at a grid point, in real numbers: the block of query gradients, the running sums, and at
  the last query block of a head pair the gradients of its keys and values.
-/
module

public import proofs.«01_k».proof.Proof.Ends
public import proofs.«01_k».proof.Proof.Rel
public import Idealize.ShloMosaic.Lib.Pipeline.ValueKit.Basic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem cond1_iff (i : grid0.Coords) : k0_cond1 i = 1#1 ↔ (i 1).val = 0 := by
  have key : ∀ x : Fin 8, (Scalar.cmpi .ne (Scalar.extui (Scalar.cmpi .eq (BitVec.ofNat 32 x.val) 0#32) : BitVec 32) 0#32) = 1#1 ↔ x.val = 0 := by decide +kernel
  exact key (i 1)
theorem cond2_iff (i : grid0.Coords) : k0_cond2 i = 1#1 ↔ (i 1).val = 7 := by
  have key : ∀ x : Fin 8, (Scalar.cmpi .ne (Scalar.extui (Scalar.cmpi .eq (BitVec.ofNat 32 x.val) 7#32) : BitVec 32) 0#32) = 1#1 ↔ x.val = 7 := by decide +kernel
  exact key (i 1)

/-- A load of a whole buffer. -/
theorem whole_is {m n : ℕ} {M : Memref sig .tc .vmem ⟨2, ![m, n]⟩ .f32} {f : BufTy.Contents (Elt Ideal) M.view.ty} {E : ℕ → ℕ → ℝ} (h : Holds M f E)
    (inb : ∀ a, (![0, 0] : Fin 2 → ℕ) a + (![m, n] : Fin 2 → ℕ) a ≤ (![m, n] : Fin 2 → ℕ) a) :
    Is (m := m) (n := n) (φ := .f32) (View.readAt (Elt Ideal) M.view (Rect.unit (s := ⟨2, ![m, n]⟩) ![0, 0] ![m, n] inb).toLoadRect f) E := by
  intro i j
  rw [View.readAt_apply]
  refine Eq.trans (congrArg _ ?_) (h i j)
  funext a
  refine Fin.ext ?_
  revert a
  refine Fin.forall_fin_two.2 ⟨?_, ?_⟩
  · show 0 + 1 * i.val = i.val; omega
  · show 0 + 1 * j.val = j.val; omega

theorem put9_is {M : Memref sig .tc .vmem S512x128 .f32} {f : BufTy.Contents (Elt Ideal) M.view.ty} {w : FVec Ideal S512x128 .f32} {G : ℕ → ℕ → ℝ} (hw : Is w G) :
    Holds M (put9 M f w) G := by
  intro i j
  refine (View.read_writes_cons_unit_of_mem M.view f _ w [] (ix2 i j) (ix2 i j) rfl ?_).trans (hw i j)
  refine Fin.forall_fin_two.2 ⟨?_, ?_⟩
  · show i.val = 0 + i.val; omega
  · show j.val = 0 + j.val; omega

theorem clear_is {M : Memref sig .tc .vmem S128x4096 .f32} {f : BufTy.Contents (Elt Ideal) M.view.ty} {w : FVec Ideal S128x4096 .f32} {G : ℕ → ℕ → ℝ} (hw : Is w G) :
    Holds M (M.view.writes (Elt Ideal) f (clear w)) G := by
  intro i j
  refine (View.read_writes_cons_unit_of_mem M.view f _ w [] (ix2 i j) (ix2 i j) rfl ?_).trans (hw i j)
  refine Fin.forall_fin_two.2 ⟨?_, ?_⟩
  · show i.val = 0 + i.val; omega
  · show j.val = 0 + j.val; omega

/-- One row of numbers in a block of one. -/
abbrev Row (v : FVec Ideal S1x1x128 .f32) (f : ℕ → ℝ) : Prop := ∀ c : Fin 128, v (ix3 0 0 c) = ((f c : ℝ) : EReal)

theorem row_write {M : Memref sig .tc .vmem S1x1x128 .f32} {f : BufTy.Contents (Elt Ideal) M.view.ty} {L : List (View.Piece (Elt Ideal) S1x1x128 .f32)} {w : FVec Ideal S1x1x128 .f32}
    (inb : ∀ a, (![0, 0, 0] : Fin 3 → ℕ) a + S1x1x128.size a ≤ S1x1x128.size a) :
    M.view.read (Elt Ideal) (M.view.writes (Elt Ideal) f (⟨Rect.unit (s := S1x1x128) ![0, 0, 0] S1x1x128.size inb, w⟩ :: L)) = w := by
  funext x
  refine View.read_writes_cons_unit_of_mem M.view f inb w L x x rfl fun a => ?_
  have : ∀ a : Fin 3, (![0, 0, 0] : Fin 3 → ℕ) a = 0 := by decide
  rw [this a, Nat.zero_add]

theorem row_read {M : Memref sig .tc .vmem S1x1x128 .f32} {f : BufTy.Contents (Elt Ideal) M.view.ty}
    (inb : ∀ a, (![0, 0, 0] : Fin 3 → ℕ) a + S1x1x128.size a ≤ S1x1x128.size a) :
    View.readAt (Elt Ideal) M.view (Rect.unit (s := S1x1x128) ![0, 0, 0] S1x1x128.size inb).toLoadRect f = M.view.read (Elt Ideal) f := by
  funext x
  rw [View.readAt_apply]
  refine congrArg _ (funext fun a => Fin.ext ?_)
  have : ∀ a : Fin 3, (![0, 0, 0] : Fin 3 → ℕ) a = 0 := by decide
  show (![0, 0, 0] : Fin 3 → ℕ) a + 1 * (x a).val = _
  rw [this a]; omega

theorem put12_is {M : Memref sig .tc .vmem S1x1x128 .f32} {f : BufTy.Contents (Elt Ideal) M.view.ty} {L : List (View.Piece (Elt Ideal) S1x1x128 .f32)} {old : FVec Ideal S1x1x128 .f32}
    {w : FVec Ideal S1x128 .f32} {A B : ℕ → ℝ} (ho : Row old A) (hw : Is w fun _ c => B c) :
    Row (M.view.read (Elt Ideal) (put12 M f L old w)) (fun c => A c + B c) := by
  intro c
  unfold put12
  rw [row_write]
  pointwise
  rw [ho c, hw 0 c, ← EReal.coe_add]

theorem start0_is {M : Memref sig .tc .vmem S2x512x1 .f32} {f : BufTy.Contents (Elt Ideal) M.view.ty} {R : ℕ → ℝ}
    (h : ∀ a : Fin 512, M.view.read (Elt Ideal) f (ix3 0 a 0) = ((R a : ℝ) : EReal)) : Is (start M f).2.1 fun a _ => R a := by
  intro a b
  refine Eq.trans ?_ (h a)
  unfold start k0_pay152
  pointwise
  rw [View.readAt_apply]
  refine congrArg _ (funext fun x => Fin.ext ?_)
  revert x
  refine Fin.forall_fin_succ.2 ⟨?_, Fin.forall_fin_two.2 ⟨?_, ?_⟩⟩
  · rfl
  · show 0 + 1 * a.val = a.val; omega
  · rfl

theorem start1_is {M : Memref sig .tc .vmem S2x512x1 .f32} {f : BufTy.Contents (Elt Ideal) M.view.ty} {R : ℕ → ℝ}
    (h : ∀ a : Fin 512, M.view.read (Elt Ideal) f (ix3 1 a 0) = ((R a : ℝ) : EReal)) : Is (start M f).2.2.1 fun a _ => R a := by
  intro a b
  refine Eq.trans ?_ (h a)
  unfold start k0_pay153
  pointwise
  rw [View.readAt_apply]
  refine congrArg _ (funext fun x => Fin.ext ?_)
  revert x
  refine Fin.forall_fin_succ.2 ⟨?_, Fin.forall_fin_two.2 ⟨?_, ?_⟩⟩
  · rfl
  · show 0 + 1 * a.val = a.val; omega
  · rfl

theorem cast_zero : Is (m := 128) (n := 4096) (k0_pay126 (F := Ideal)) fun _ _ => 0 := by
  intro i j
  unfold k0_pay126
  pointwise
  simp

theorem clear12_read {M : Memref sig .tc .vmem S1x1x128 .f32} :
    M.view.readCov (clear12 (F := Ideal)) (Rect.unit (s := S1x1x128) ![0, 0, 0] S1x1x128.size inb_S1x1x128_S1x1x128_0_0_0).toLoadRect = k0_pay128 (F := Ideal) :=
  View.readCov_unit_lit (Val := Elt Ideal) (S := S1x1x128) (e := .f32) M.view inb_S1x1x128_S1x1x128_0_0_0 (k0_pay128 (F := Ideal)) (by decide)

variable {arg2 : Memref sig .tc .vmem S512x128 .f32} {harg2 : arg2.IsWhole} {arg3 : Memref sig .tc .vmem S4096x128 .f32} {harg3 : arg3.IsWhole} {arg4 : Memref sig .tc .vmem S4096x128 .f32} {harg4 : arg4.IsWhole} {arg5 : Memref sig .tc .vmem S1x128 .f32} {harg5 : arg5.IsWhole} {arg6 : Memref sig .tc .vmem S1x128 .f32} {harg6 : arg6.IsWhole} {arg7 : Memref sig .tc .vmem S2x512x1 .f32} {harg7 : arg7.IsWhole} {arg8 : Memref sig .tc .vmem S512x128 .f32} {harg8 : arg8.IsWhole} {arg9 : Memref sig .tc .vmem S512x128 .f32} {harg9 : arg9.IsWhole} {arg10 : Memref sig .tc .vmem S4096x128 .f32} {harg10 : arg10.IsWhole} {arg11 : Memref sig .tc .vmem S4096x128 .f32} {harg11 : arg11.IsWhole} {arg12 : Memref sig .tc .vmem S1x1x128 .f32} {harg12 : arg12.IsWhole} {arg13 : Memref sig .tc .vmem S1x1x128 .f32} {harg13 : arg13.IsWhole} {arg14 : Memref sig .tc .vmem S4096x128 .bf16} {harg14 : arg14.IsWhole} {arg15 : Memref sig .tc .vmem S4096x128 .bf16} {harg15 : arg15.IsWhole} {arg16 : Memref sig .tc .vmem S128x4096 .f32} {harg16 : arg16.IsWhole} {arg17 : Memref sig .tc .vmem S128x4096 .f32} {harg17 : arg17.IsWhole}

theorem body_is {c : Dev nD} {i : grid0.Coords} {f2 : BufTy.Contents (Elt Ideal) arg2.view.ty} {f3 : BufTy.Contents (Elt Ideal) arg3.view.ty} {f4 : BufTy.Contents (Elt Ideal) arg4.view.ty} {f5 : BufTy.Contents (Elt Ideal) arg5.view.ty} {f6 : BufTy.Contents (Elt Ideal) arg6.view.ty} {f7 : BufTy.Contents (Elt Ideal) arg7.view.ty} {f8 : BufTy.Contents (Elt Ideal) arg8.view.ty} {f9 : BufTy.Contents (Elt Ideal) arg9.view.ty} {f10 : BufTy.Contents (Elt Ideal) arg10.view.ty} {f11 : BufTy.Contents (Elt Ideal) arg11.view.ty} {f12 : BufTy.Contents (Elt Ideal) arg12.view.ty} {f13 : BufTy.Contents (Elt Ideal) arg13.view.ty} {f14 : BufTy.Contents (Elt Ideal) arg14.view.ty} {f15 : BufTy.Contents (Elt Ideal) arg15.view.ty} {f16 : BufTy.Contents (Elt Ideal) arg16.view.ty} {f17 : BufTy.Contents (Elt Ideal) arg17.view.ty} {g9 : BufTy.Contents (Elt Ideal) arg9.view.ty} {g10 : BufTy.Contents (Elt Ideal) arg10.view.ty} {g11 : BufTy.Contents (Elt Ideal) arg11.view.ty} {g12 : BufTy.Contents (Elt Ideal) arg12.view.ty} {g13 : BufTy.Contents (Elt Ideal) arg13.view.ty} {g14 : BufTy.Contents (Elt Ideal) arg14.view.ty} {g15 : BufTy.Contents (Elt Ideal) arg15.view.ty} {g16 : BufTy.Contents (Elt Ideal) arg16.view.ty} {g17 : BufTy.Contents (Elt Ideal) arg17.view.ty}
    {X XK V D : ℕ → ℕ → ℝ} {G GK : ℕ → ℝ} {n : ℕ} (hn : n = 512 * (i 1).val)
    (h2 : Holds (m := 512) (n := 128) arg2 f2 fun a c => X (n + a) c) (h3 : Holds (m := 4096) (n := 128) arg3 f3 XK) (h4 : Holds (m := 4096) (n := 128) arg4 f4 V)
    (h5 : Holds (m := 1) (n := 128) arg5 f5 fun _ c => G c) (h6 : Holds (m := 1) (n := 128) arg6 f6 fun _ c => GK c)
    (h7 : ∀ a : Fin 512, arg7.view.read (Elt Ideal) f7 (ix3 0 a 0) = ((leftS (lo (fun a c => normR X G a c * (1 / 8))) (normR XK GK) (n + a) 0 : ℝ) : EReal))
    (h7' : ∀ a : Fin 512, arg7.view.read (Elt Ideal) f7 (ix3 1 a 0) = ((leftS (hi (fun a c => normR X G a c * (1 / 8))) (normR XK GK) (n + a) 0 : ℝ) : EReal))
    (h8 : Holds (m := 512) (n := 128) arg8 f8 fun a c => D (n + a) c)
    (hs : (i 1).val ≠ 0 → Holds16 arg14 f14 (normR XK GK) ∧ Holds16 arg15 f15 V ∧
      Holds arg16 f16 (fun c k => ∑ a ∈ Finset.range n, dkN (fun a c => normR X G a c * (1 / 8)) (normR XK GK) D V a c k) ∧ Holds arg17 f17 (fun c k => ∑ a ∈ Finset.range n, dvN (fun a c => normR X G a c * (1 / 8)) (normR XK GK) D a c k))
    (hr : BodyRel arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c i f2 f3 f4 f5 f6 f7 f8 f9 f10 f11 f12 f13 f14 f15 f16 f17 g9 g10 g11 g12 g13 g14 g15 g16 g17) :
    Holds (m := 512) (n := 128) arg9 g9 (fun a c => rmsGrad X G (dqN (fun a c => normR X G a c * (1 / 8)) (normR XK GK) D V) (n + a) c) ∧
    (Holds16 arg14 g14 (normR XK GK) ∧ Holds16 arg15 g15 V ∧
      Holds arg16 g16 (fun c k => ∑ a ∈ Finset.range (n + 512), dkN (fun a c => normR X G a c * (1 / 8)) (normR XK GK) D V a c k) ∧ Holds arg17 g17 (fun c k => ∑ a ∈ Finset.range (n + 512), dvN (fun a c => normR X G a c * (1 / 8)) (normR XK GK) D a c k)) ∧
    (((i 1).val ≠ 0 → Row (arg12.view.read (Elt Ideal) f12) fun c => ∑ a ∈ Finset.range n, dqN (fun a c => normR X G a c * (1 / 8)) (normR XK GK) D V a c * X a c * rmsR X a c) →
      Row (arg12.view.read (Elt Ideal) g12) fun c => ∑ a ∈ Finset.range (n + 512), dqN (fun a c => normR X G a c * (1 / 8)) (normR XK GK) D V a c * X a c * rmsR X a c) ∧
    ((i 1).val = 7 →
      Holds (m := 4096) (n := 128) arg10 g10 (rmsGrad XK GK fun k c => ∑ a ∈ Finset.range 4096, dkN (fun a c => normR X G a c * (1 / 8)) (normR XK GK) D V a c k) ∧
      Holds (m := 4096) (n := 128) arg11 g11 (fun k c => ∑ a ∈ Finset.range 4096, dvN (fun a c => normR X G a c * (1 / 8)) (normR XK GK) D a c k) ∧
      Row (arg13.view.read (Elt Ideal) g13) fun c => ∑ k ∈ Finset.range 4096, (∑ a ∈ Finset.range 4096, dkN (fun a c => normR X G a c * (1 / 8)) (normR XK GK) D V a c k) * XK k c * rmsR XK k c) := by
  have hx : Is (qIn arg2 f2) fun a c => X (n + a) c := whole_is h2 _
  have hg : Is (gqIn arg5 f5) fun _ c => G c := whole_is h5 _
  have hgk : Is (gkIn arg6 f6) fun _ c => GK c := whole_is h6 _
  have hd : Is (doIn arg8 f8) fun a c => D (n + a) c := whole_is h8 _
  have hr0 : Is (start arg7 f7).2.1 fun a _ => leftS (lo (fun a c => normR X G a c * (1 / 8))) (normR XK GK) (n + a) 0 := by
    exact start0_is h7
  have hr1 : Is (start arg7 f7).2.2.1 fun a _ => leftS (hi (fun a c => normR X G a c * (1 / 8))) (normR XK GK) (n + a) 0 := by
    exact start1_is h7'
  have step := fun (L : ℕ → ℝ) => (Finset.sum_range_add L n 512).symm
  rcases hr with ⟨c1, c2, e9, e10, e11, e12, e13, e14, e15, e16, e17⟩ | ⟨c1, c2, e9, e10, e11, e12, e13, e14, e15, e16, e17⟩ | ⟨c1, c2, e9, e10, e11, e12, e13, e14, e15, e16, e17⟩
  · have hi0 := (cond1_iff i).1 c1
    have hn0 : n = 0 := by omega
    obtain ⟨k0, k1⟩ := fill_is (𝒱 := Variants.none) (c := c) (bd := none) (h := c1) (f14 := f14) (f15 := f15)
      (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) h3 h4 hgk _ le_rfl
    have hK : Holds16 arg14 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i c1 f3 f4 f6 f14 f15).1 (normR XK GK) := fun a b => k0 a b (by have := trips1; omega)
    have hV : Holds16 arg15 (fill arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Variants.none c none i c1 f3 f4 f6 f14 f15).2 V := fun a b => k1 a b (by have := trips1; omega)
    have z16 : Holds arg16 (arg16.view.writes (Elt Ideal) arg16.view.junk (clear k0_pay126)) fun _ _ => 0 := clear_is (cast_zero)
    have z17 : Holds arg17 (arg17.view.writes (Elt Ideal) arg17.view.junk (clear k0_pay127)) fun _ _ => 0 := clear_is (cast_zero)
    obtain ⟨b0, b1, b2, b3⟩ := block_is (𝒱 := Variants.none) (c := c) (bd := none)
      (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) hn hx hg hd hr0 hr1 hK hV z16 z17 rfl
    rw [runA_q, loop3_eq (h := trips3 i)] at e9
    rw [runA_g, loop3_eq (h := trips3 i), clear12_read] at e12
    rw [runA_kn] at e14
    rw [runA_vb] at e15
    rw [runA_k, loop3_eq (h := trips3 i)] at e16
    rw [runA_v, loop3_eq (h := trips3 i)] at e17
    subst e9 e12 e14 e15 e16 e17
    refine ⟨put9_is b0, ⟨hK, hV, b2.congr fun a b _ _ => ?_, b3.congr fun a b _ _ => ?_⟩, fun _ => ?_, fun h => absurd h (by omega)⟩
    · subst hn0; simp
    · subst hn0; simp
    · refine fun x => (put12_is (A := fun _ => 0) (fun x => ?_) b1 x).trans ?_
      · unfold k0_pay128; pointwise; simp
      · subst hn0; simp
  · have hi0 : (i 1).val ≠ 0 := fun h => c1 ((cond1_iff i).2 h)
    obtain ⟨hK, hV, s16, s17⟩ := hs hi0
    obtain ⟨b0, b1, b2, b3⟩ := block_is (𝒱 := Variants.none) (c := c) (bd := none) (L16 := []) (L17 := [])
      (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) hn hx hg hd hr0 hr1 hK hV s16 s17 rfl
    rw [runM_q, loop3_eq (h := trips3 i)] at e9
    rw [runM_g, loop3_eq (h := trips3 i), row_read] at e12
    rw [runM_k, loop3_eq (h := trips3 i)] at e16
    rw [runM_v, loop3_eq (h := trips3 i)] at e17
    rw [List.append_nil] at b2 b3
    subst e9 e12 e14 e15 e16 e17
    refine ⟨put9_is b0, ⟨hK, hV, b2.congr fun a b _ _ => step _, b3.congr fun a b _ _ => step _⟩, fun h12 => ?_, fun h => absurd ((cond2_iff i).2 h) c2⟩
    exact fun x => (put12_is (h12 hi0) b1 x).trans (congrArg Real.toEReal (step (fun a => dqN (fun a c => normR X G a c * (1 / 8)) (normR XK GK) D V a x * X a x * rmsR X a x)))
  · have hi0 : (i 1).val ≠ 0 := fun h => c1 ((cond1_iff i).2 h)
    have hi7 := (cond2_iff i).1 c2
    obtain ⟨hK, hV, s16, s17⟩ := hs hi0
    obtain ⟨b0, b1, b2, b3⟩ := block_is (𝒱 := Variants.none) (c := c) (bd := none) (L16 := []) (L17 := [])
      (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) hn hx hg hd hr0 hr1 hK hV s16 s17 rfl
    rw [runZ_dk] at e10
    rw [runZ_dv] at e11
    rw [runZ_dg] at e13
    have u16 := e16
    have u17 := e17
    rw [runZ_q, loop3_eq (h := trips3 i)] at e9
    rw [runZ_g, loop3_eq (h := trips3 i), row_read] at e12
    rw [runZ_k, loop3_eq (h := trips3 i)] at e16
    rw [runZ_v, loop3_eq (h := trips3 i)] at e17
    rw [List.append_nil] at b2 b3
    have t16 : Holds arg16 g16 (fun c k => ∑ a ∈ Finset.range (n + 512), dkN (fun a c => normR X G a c * (1 / 8)) (normR XK GK) D V a c k) := by
      rw [e16]; exact b2.congr fun a b _ _ => step _
    have t17 : Holds arg17 g17 (fun c k => ∑ a ∈ Finset.range (n + 512), dvN (fun a c => normR X G a c * (1 / 8)) (normR XK GK) D a c k) := by
      rw [e17]; exact b3.congr fun a b _ _ => step _
    have hn' : n + 512 = 4096 := by omega
    have v16 := t16
    have v17 := t17
    rw [u16] at v16
    rw [u17] at v17
    obtain ⟨o0, o1, o2⟩ := finish_is (𝒱 := Variants.none) (c := c) (bd := none) (h := c2) (f10 := f10) (f11 := f11)
      (N := fun k c => ∑ a ∈ Finset.range (n + 512), dkN (fun a c => normR X G a c * (1 / 8)) (normR XK GK) D V a c k) (W := fun k c => ∑ a ∈ Finset.range (n + 512), dvN (fun a c => normR X G a c * (1 / 8)) (normR XK GK) D a c k)
      (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) h3 hgk v16 v17 _ le_rfl
    have h4 := trips4
    rw [hn'] at o0 o1 o2
    clear hs h2 h3 h5 h6 h7 h7' h8 hx hg hgk hd hr0 hr1 u16 u17 v16 v17
    refine ⟨by rw [e9]; exact put9_is b0, ⟨by rw [e14]; exact hK, by rw [e15]; exact hV, t16, t17⟩, fun h12 => ?_, fun _ => ⟨?_, ?_, ?_⟩⟩
    · rw [e12]; exact fun x => (put12_is (h12 hi0) b1 x).trans (congrArg Real.toEReal (step (fun a => dqN (fun a c => normR X G a c * (1 / 8)) (normR XK GK) D V a x * X a x * rmsR X a x)))
    · rw [e10]; exact fun a b => o1 a b (by omega)
    · rw [e11]; exact fun a b => o2 a b (by omega)
    · rw [e13, row_write]
      intro x
      unfold k0_pay7
      pointwise
      refine (o0 0 x).trans ?_
      rw [h4]

end Cert.KernelIdeal.Hand
end
-- ==== Proof.Chain.lean ====
/-
  Hand-written, untrusted. What every point of the attention backward kernel's grid may leave, in real numbers.
  The grid has four head pairs with eight query blocks each; the point numbered `t` works on head pair `t / 8` and query block `t % 8`.
-/
module

public import proofs.«01_k».proof.Proof.Whole
public import proofs.«01_k».proof.Proof.Run

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ)

/-- The kernel's inputs as real numbers: for every head pair its columns of the queries, keys, values and output gradients, and the two gains. -/
structure Nums where
  q : ℕ → ℕ → ℕ → ℝ
  k : ℕ → ℕ → ℕ → ℝ
  v : ℕ → ℕ → ℕ → ℝ
  d : ℕ → ℕ → ℕ → ℝ
  gq : ℕ → ℝ
  gk : ℕ → ℝ

/-- The normalised and scaled queries of a head pair. -/
def Nums.Q (N : Nums) (p : ℕ) : ℕ → ℕ → ℝ := fun a c => normR (N.q p) N.gq a c * (1 / 8)
/-- The normalised keys of a head pair. -/
def Nums.K (N : Nums) (p : ℕ) : ℕ → ℕ → ℝ := normR (N.k p) N.gk
/-- The gradients of the normalised queries. -/
def Nums.dq (N : Nums) (p : ℕ) : ℕ → ℕ → ℝ := dqN (N.Q p) (N.K p) (N.d p) (N.v p)
/-- The gradients of the normalised keys that come from the first `n` queries. -/
def Nums.dk (N : Nums) (p n : ℕ) : ℕ → ℕ → ℝ := fun k c => ∑ a ∈ Finset.range n, dkN (N.Q p) (N.K p) (N.d p) (N.v p) a c k
/-- The gradients of the values that come from the first `n` queries. -/
def Nums.dv (N : Nums) (p n : ℕ) : ℕ → ℕ → ℝ := fun k c => ∑ a ∈ Finset.range n, dvN (N.Q p) (N.K p) (N.d p) a c k
/-- The gradient of the queries' gains that comes from the first `n` queries. -/
def Nums.dg (N : Nums) (p n c : ℕ) : ℝ := ∑ a ∈ Finset.range n, N.dq p a c * N.q p a c * rmsR (N.q p) a c

/-- The blocks that the kernel reads at a point are the numbers `N`. -/
structure FitsAt (c : Dev nD) (N : Nums) (t : Fin cfg0.N) : Prop where
  b0 : Is (m := 512) (n := 128) (φ := .f32) (iblk m c 0 t) fun a x => N.q (t.val / 8) (512 * (t.val % 8) + a) x
  b1 : Is (m := 4096) (n := 128) (φ := .f32) (iblk m c 1 t) (N.k (t.val / 8))
  b2 : Is (m := 4096) (n := 128) (φ := .f32) (iblk m c 2 t) (N.v (t.val / 8))
  b3 : Is (m := 1) (n := 128) (φ := .f32) (iblk m c 3 t) fun _ x => N.gq x
  b4 : Is (m := 1) (n := 128) (φ := .f32) (iblk m c 4 t) fun _ x => N.gk x
  b5 : ∀ a : Fin 512, (iblk m c 5 t : FVec Ideal S2x512x1 .f32) (ix3 0 a 0) = ((leftS (lo (N.Q (t.val / 8))) (N.K (t.val / 8)) (512 * (t.val % 8) + a) 0 : ℝ) : EReal)
  b5' : ∀ a : Fin 512, (iblk m c 5 t : FVec Ideal S2x512x1 .f32) (ix3 1 a 0) = ((leftS (hi (N.Q (t.val / 8))) (N.K (t.val / 8)) (512 * (t.val % 8) + a) 0 : ℝ) : EReal)
  b6 : Is (m := 512) (n := 128) (φ := .f32) (iblk m c 6 t) fun a x => N.d (t.val / 8) (512 * (t.val % 8) + a) x

/-- The scratch of head pair `p` after its first `n` queries. -/
def StateAt (N : Nums) (p n : ℕ) (s : Scr Ideal) : Prop :=
  Holds16 (Memref.whole cc0_scratch0) s.s14 (N.K p) ∧ Holds16 (Memref.whole cc0_scratch1) s.s15 (N.v p) ∧
  Holds (Memref.whole cc0_scratch2) s.s16 (fun c k => N.dk p n k c) ∧ Holds (Memref.whole cc0_scratch3) s.s17 (fun c k => N.dv p n k c)

theorem coords_mod : ∀ t : Fin cfg0.N, ((grid0.coords t) 1).val = t.val % 8 := by decide +kernel

theorem point_is {c : Dev nD} {N : Nums} {t : Fin cfg0.N} (hf : FitsAt m c N t) {Y X : Blocks Ideal} {s s' : Scr Ideal} (hY : InBlocks m c t Y) (hp : Point c t Y s X s')
    (hs : t.val % 8 ≠ 0 → StateAt N (t.val / 8) (512 * (t.val % 8)) s) :
    Is (m := 512) (n := 128) (φ := .f32) (X 7) (fun a x => rmsGrad (N.q (t.val / 8)) N.gq (N.dq (t.val / 8)) (512 * (t.val % 8) + a) x) ∧
    StateAt N (t.val / 8) (512 * (t.val % 8) + 512) s' ∧
    ((t.val % 8 ≠ 0 → Row (Y 10) (N.dg (t.val / 8) (512 * (t.val % 8)))) → Row (X 10) (N.dg (t.val / 8) (512 * (t.val % 8) + 512))) ∧
    (t.val % 8 = 7 →
      Is (m := 4096) (n := 128) (φ := .f32) (X 8) (rmsGrad (N.k (t.val / 8)) N.gk (N.dk (t.val / 8) 4096)) ∧
      Is (m := 4096) (n := 128) (φ := .f32) (X 9) (N.dv (t.val / 8) 4096) ∧
      Row (X 11) fun x => ∑ k ∈ Finset.range 4096, N.dk (t.val / 8) 4096 k x * N.k (t.val / 8) k x * rmsR (N.k (t.val / 8)) k x) := by
  obtain ⟨f2, f3, f4, f5, f6, f7, f8, f9, f10, f11, f12, f13, g9, g10, g11, g12, g13, r2, r3, r4, r5, r6, r7, r8, r9, r10, r11, r12, r13, e9, e10, e11, e12, e13, hb⟩ := hp
  obtain ⟨y0, y1, y2, y3, y4, y5, y6⟩ := hY
  rw [y0] at r2
  rw [y1] at r3
  rw [y2] at r4
  rw [y3] at r5
  rw [y4] at r6
  rw [y5] at r7
  rw [y6] at r8
  have hm := coords_mod t
  obtain ⟨a0, a1, a2, a3⟩ := body_is (X := N.q (t.val / 8)) (XK := N.k (t.val / 8)) (V := N.v (t.val / 8)) (D := N.d (t.val / 8)) (G := N.gq) (GK := N.gk) (n := 512 * (t.val % 8)) (by rw [hm])
    (by intro i j; rw [r2]; exact hf.b0 i j) (by intro i j; rw [r3]; exact hf.b1 i j) (by intro i j; rw [r4]; exact hf.b2 i j)
    (by intro i j; rw [r5]; exact hf.b3 i j) (by intro i j; rw [r6]; exact hf.b4 i j)
    (by intro i; rw [r7]; exact hf.b5 i) (by intro i; rw [r7]; exact hf.b5' i) (by intro i j; rw [r8]; exact hf.b6 i j)
    (by rw [hm]; exact hs) hb
  rw [hm] at a2 a3
  refine ⟨fun i j => ?_, a1, fun h => ?_, fun h => ?_⟩
  · rw [← e9]; exact a0 i j
  · rw [← e12]; refine a2 fun h' => ?_; rw [r12]; exact h h'
  · obtain ⟨b0, b1, b2⟩ := a3 h
    exact ⟨fun i j => by rw [← e10]; exact b0 i j, fun i j => by rw [← e11]; exact b1 i j, by rw [← e13]; exact b2⟩

variable {m} {c : Dev nD} {N : Nums} (hf : ∀ t, FitsAt m c N t)
include hf

/-- Between the points of one head pair the scratch is that pair's. -/
theorem inv_state (n : ℕ) : ∀ s : Scr Ideal, Inv m c n s → n % 8 ≠ 0 → StateAt N (n / 8) (512 * (n % 8)) s := by
  induction n with
  | zero => intro s _ h; exact absurd rfl h
  | succ n ih =>
    intro s' hi hn
    obtain ⟨h, Y, s, X, hY, hs, hp⟩ := hi
    have r := (point_is m (hf ⟨n, h⟩) hY hp fun h0 => ih s hs h0).2.1
    have e1 : (n + 1) / 8 = n / 8 := by omega
    have e2 : 512 * ((n + 1) % 8) = 512 * (n % 8) + 512 := by omega
    rw [e1, e2]
    exact r

theorem after_is {w : Fin cfg0.W} {t : Fin cfg0.N} {Y X : (cfg0.win w).block.Idx → Elt Ideal (cfg0.win w).elt} (hw : 7 ≤ w.val) (h : After m c w t Y X) :
    ∃ Y' X' : Blocks Ideal, Y' w = Y ∧ X' w = X ∧
    Is (m := 512) (n := 128) (φ := .f32) (X' 7) (fun a x => rmsGrad (N.q (t.val / 8)) N.gq (N.dq (t.val / 8)) (512 * (t.val % 8) + a) x) ∧
    ((t.val % 8 ≠ 0 → Row (Y' 10) (N.dg (t.val / 8) (512 * (t.val % 8)))) → Row (X' 10) (N.dg (t.val / 8) (512 * (t.val % 8) + 512))) ∧
    (t.val % 8 = 7 →
      Is (m := 4096) (n := 128) (φ := .f32) (X' 8) (rmsGrad (N.k (t.val / 8)) N.gk (N.dk (t.val / 8) 4096)) ∧
      Is (m := 4096) (n := 128) (φ := .f32) (X' 9) (N.dv (t.val / 8) 4096) ∧
      Row (X' 11) fun x => ∑ k ∈ Finset.range 4096, N.dk (t.val / 8) 4096 k x * N.k (t.val / 8) k x * rmsR (N.k (t.val / 8)) k x) := by
  obtain ⟨Y', s, X', s', hY, hs, hp, h1, h2⟩ := h.2 hw
  have r := point_is m (hf t) hY hp fun h0 => inv_state hf t.val s hs h0
  exact ⟨Y', X', h1, h2, r.1, r.2.2⟩

theorem leaves_dq {t : Fin cfg0.N} {X : (cfg0.win 7).block.Idx → Elt Ideal (cfg0.win 7).elt} (h : (rdats m 0 c).Leaves 7 t X) :
    Is (m := 512) (n := 128) (φ := .f32) X (fun a x => rmsGrad (N.q (t.val / 8)) N.gq (N.dq (t.val / 8)) (512 * (t.val % 8) + a) x) := by
  obtain ⟨Y, -, ha⟩ := h
  obtain ⟨Y', X', -, rfl, r, -⟩ := after_is hf (by decide) ha
  exact r

theorem leaves_dk {t : Fin cfg0.N} (ht : t.val % 8 = 7) {X : (cfg0.win 8).block.Idx → Elt Ideal (cfg0.win 8).elt} (h : (rdats m 0 c).Leaves 8 t X) :
    Is (m := 4096) (n := 128) (φ := .f32) X (rmsGrad (N.k (t.val / 8)) N.gk (N.dk (t.val / 8) 4096)) := by
  obtain ⟨Y, -, ha⟩ := h
  obtain ⟨Y', X', -, rfl, -, -, r⟩ := after_is hf (by decide) ha
  exact (r ht).1

theorem leaves_dv {t : Fin cfg0.N} (ht : t.val % 8 = 7) {X : (cfg0.win 9).block.Idx → Elt Ideal (cfg0.win 9).elt} (h : (rdats m 0 c).Leaves 9 t X) :
    Is (m := 4096) (n := 128) (φ := .f32) X (N.dv (t.val / 8) 4096) := by
  obtain ⟨Y, -, ha⟩ := h
  obtain ⟨Y', X', -, rfl, -, -, r⟩ := after_is hf (by decide) ha
  exact (r ht).2.1

theorem leaves_dgk {t : Fin cfg0.N} (ht : t.val % 8 = 7) {X : (cfg0.win 11).block.Idx → Elt Ideal (cfg0.win 11).elt} (h : (rdats m 0 c).Leaves 11 t X) :
    Row X fun x => ∑ k ∈ Finset.range 4096, N.dk (t.val / 8) 4096 k x * N.k (t.val / 8) k x * rmsR (N.k (t.val / 8)) k x := by
  obtain ⟨Y, -, ha⟩ := h
  obtain ⟨Y', X', -, rfl, -, -, r⟩ := after_is hf (by decide) ha
  exact (r ht).2.2

omit hf in
theorem flush10 : ∀ t : Fin cfg0.N, (cfg0.win 10).flush t = true → t.val % 8 = 7 := by decide +kernel
omit hf in
theorem fetch10 : ∀ t : Fin cfg0.N, (cfg0.win 10).fetch t = false := by decide +kernel

theorem leaves_dgq (n : ℕ) : ∀ (t : Fin cfg0.N), t.val = n → ∀ {X : (cfg0.win 10).block.Idx → Elt Ideal (cfg0.win 10).elt}, (rdats m 0 c).Leaves 10 t X →
    Row X (N.dg (t.val / 8) (512 * (t.val % 8) + 512)) := by
  induction n with
  | zero =>
    intro t ht X h
    obtain ⟨Y, -, ha⟩ := h
    obtain ⟨Y', X', -, rfl, -, r, -⟩ := after_is hf (by decide) ha
    exact r fun h0 => absurd (by omega) h0
  | succ n ih =>
    intro t ht X h
    obtain ⟨Y, hy, ha⟩ := h
    obtain ⟨Y', X', rfl, rfl, -, r, -⟩ := after_is hf (by decide) ha
    refine r fun h0 => ?_
    rcases ((rdats m 0 c).finds_of_pos (fetch10 t) (by omega) _).1 hy with hfl | hl
    · have := flush10 _ hfl
      simp only at this
      omega
    · have := ih _ (by simp only; omega) hl
      simp only at this
      have e1 : (t.val - 1) / 8 = t.val / 8 := by omega
      have e2 : 512 * ((t.val - 1) % 8) + 512 = 512 * (t.val % 8) := by omega
      rw [e1, e2] at this
      exact this

end Cert.KernelIdeal.Hand
end
-- ==== Proof.Host.lean ====
/-
  Hand-written, untrusted. What the host operations before the call put into the arrays the call takes.
-/
module

public import proofs.«01_k».proof.Proof.Heads
public import proofs.«01_k».proof.Proof.Chain
public import Idealize.ShloMosaic.Lib.StableHlo.Run

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after)
open Cert.ReferenceIdeal.Hand (Is3 HNums headNums msq fac nrm msq_pos sum_is div_coe ofBits_64 sp sp_coe mask_if)

/-! ## The operations' results as terms of the arguments -/

section
variable (V0 : Valuation τ sig (Elt Ideal))

def k15 : FVec Ideal S8x4096x64 .f32 := transpose S8x4096x64 [1, 0, 2] (shapeCast _ (extractStridedSlice S4096x512 ![0, 1024] (V0 (Proc.devRef .tc main_arg0)) slices_S4096x3072_S4096x512_0_1024) shapeCasts_S4096x512_S4096x8x64) transposes_S4096x8x64_S8x4096x64_1_0_2
def k22 : FVec Ideal S8x4096x1 .f32 := addf (Host.divf (broadcastInDim S8x4096x1 ![0, 1] bcast_S8x4096_S8x4096x1_0_1 (Host.reduceAdd (mulf (k15 V0) (k15 V0)) (constant S_ .f32 0x00000000#32) reducesTo_S8x4096x64_S8x4096_d2 h_S_)) (broadcastInDim S8x4096x1 ![] bcast_S_S8x4096x1 (constant S_ .f32 0x42800000#32))) (broadcastInDim S8x4096x1 ![] bcast_S_S8x4096x1 (constant S_ .f32 0x358637BD#32))
def k23 : FVec Ideal S8x4096x1 .f32 := Host.rsqrt (k22 V0)
def k28 : FVec Ideal S8x4096x64 .f32 := mulf (mulf (k15 V0) (broadcastInDim S8x4096x64 ![0, 1, 2] bcast_S8x4096x1_S8x4096x64_0_1_2 (k23 V0))) (broadcastInDim S8x4096x64 ![0, 1, 2] bcast_S1x1x64_S8x4096x64_0_1_2 (broadcastInDim S1x1x64 ![2] bcast_S64_S1x1x64_2 (V0 (Proc.devRef .tc main_arg1))))
def k30 : FVec Ideal S8x4096x64 .f32 := transpose S8x4096x64 [1, 0, 2] (shapeCast _ (extractStridedSlice S4096x512 ![0, 1536] (V0 (Proc.devRef .tc main_arg0)) slices_S4096x3072_S4096x512_0_1536) shapeCasts_S4096x512_S4096x8x64) transposes_S4096x8x64_S8x4096x64_1_0_2
def k37 : FVec Ideal S8x4096x1 .f32 := addf (Host.divf (broadcastInDim S8x4096x1 ![0, 1] bcast_S8x4096_S8x4096x1_0_1 (Host.reduceAdd (mulf (k30 V0) (k30 V0)) (constant S_ .f32 0x00000000#32) reducesTo_S8x4096x64_S8x4096_d2 h_S_)) (broadcastInDim S8x4096x1 ![] bcast_S_S8x4096x1 (constant S_ .f32 0x42800000#32))) (broadcastInDim S8x4096x1 ![] bcast_S_S8x4096x1 (constant S_ .f32 0x358637BD#32))
def k38 : FVec Ideal S8x4096x1 .f32 := Host.rsqrt (k37 V0)
def k43 : FVec Ideal S8x4096x64 .f32 := mulf (mulf (k30 V0) (broadcastInDim S8x4096x64 ![0, 1, 2] bcast_S8x4096x1_S8x4096x64_0_1_2 (k38 V0))) (broadcastInDim S8x4096x64 ![0, 1, 2] bcast_S1x1x64_S8x4096x64_0_1_2 (broadcastInDim S1x1x64 ![2] bcast_S64_S1x1x64_2 (V0 (Proc.devRef .tc main_arg2))))
def k46 : FVec Ideal S8x4096x4096 .f32 := mulf (Host.dotGeneral (φ₁ := .f32) (φ₂ := .f32) dot_S8x4096x64_S8x4096x64_S8x4096x4096_2_2_1_1_0_0 none (k28 V0) (k43 V0)) (broadcastInDim S8x4096x4096 ![] bcast_S_S8x4096x4096 (constant S_ .f32 0x3E000000#32))
def kc0 : FVec Ideal S8x4096x4096 .f32 := Host.negf (Host.negf (k46 V0))
def kc3 : FVec Ideal S8x4096x4096 .f32 := subf (kc0 V0) (broadcastInDim S8x4096x4096 ![] bcast_S_S8x4096x4096 (constant S_ .f32 0x00000000#32))
def kc1 : FVec Ideal S8x4096x4096 .f32 := select (cmpf .une (kc3 V0) (kc3 V0)) (addf (kc0 V0) (broadcastInDim S8x4096x4096 ![] bcast_S_S8x4096x4096 (constant S_ .f32 0x00000000#32))) (addf (maximumf (kc0 V0) (broadcastInDim S8x4096x4096 ![] bcast_S_S8x4096x4096 (constant S_ .f32 0x00000000#32))) (Host.log1p (Host.exp (Host.negf (Host.absf (kc3 V0))))))
def k53 : IVec S4096x4096 1 := cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))
def k56 : FVec Ideal S8x4096x4096 .f32 := select (broadcastInDim S8x4096x4096 ![1, 2] bcast_S4096x4096_S8x4096x4096_1_2 k53) (Host.negf (kc1 V0)) (broadcastInDim S8x4096x4096 ![] bcast_S_S8x4096x4096 (id (constant S_ .f32 0x00000000#32)))
def k58 : FVec Ideal S8x4096x1 .f32 := broadcastInDim S8x4096x1 ![0, 1] bcast_S8x4096_S8x4096x1_0_1 (Host.reduceAdd (k56 V0) (constant S_ .f32 0x00000000#32) reducesTo_S8x4096x4096_S8x4096_d2 h_S_)
def k3 : FVec Ideal S1x128 .f32 := broadcastInDim S1x128 ![1] bcast_S128_S1x128_1 (shapeCast _ (broadcastInDim S2x64 ![0, 1] bcast_S1x64_S2x64_0_1 (shapeCast S1x64 (V0 (Proc.devRef .tc main_arg1)) shapeCasts_S64_S1x64)) shapeCasts_S2x64_S128)
def k7 : FVec Ideal S1x128 .f32 := broadcastInDim S1x128 ![1] bcast_S128_S1x128_1 (shapeCast _ (broadcastInDim S2x64 ![0, 1] bcast_S1x64_S2x64_0_1 (shapeCast S1x64 (V0 (Proc.devRef .tc main_arg2)) shapeCasts_S64_S1x64)) shapeCasts_S2x64_S128)

open Idealize.ShloMosaic.StableHlo in
theorem h0_3 : after hostOps0 V0 (Proc.devRef .tc main_v3) = k3 V0 := by
  unfold k3
  after_results_simp
  rfl
open Idealize.ShloMosaic.StableHlo in
theorem h0_7 : after hostOps0 V0 (Proc.devRef .tc main_v7) = k7 V0 := by
  unfold k7
  after_results_simp
  rfl
open Idealize.ShloMosaic.StableHlo in
theorem h0_54 : after hostOps0 V0 (Proc.devRef .tc main_v54) = Host.negf (k46 V0) := by
  unfold k46 k28 k43 k23 k38 k22 k37 k15 k30
  after_results_simp
  rfl
open Idealize.ShloMosaic.StableHlo in
theorem h0_53 : after hostOps0 V0 (Proc.devRef .tc main_v53) = k53 := by
  unfold k53
  after_results_simp
  try rfl
end

/-! ## As real numbers -/

/-- The inputs are the real numbers `P`, `gq`, `gk`, `D`. -/
structure Takes (V0 : Valuation τ sig (Elt Ideal)) (P : ℕ → ℕ → ℝ) (gq gk : ℕ → ℝ) (D : ℕ → ℕ → ℝ) : Prop where
  proj : ∀ (a : Fin 4096) (c : Fin 3072), (V0 (Proc.devRef .tc main_arg0) : FVec Ideal S4096x3072 .f32) (ix2 a c) = ((P a c : ℝ) : EReal)
  gq : ∀ (c : Fin 64), (V0 (Proc.devRef .tc main_arg1) : FVec Ideal S64 .f32) (ix1 c) = ((gq c : ℝ) : EReal)
  gk : ∀ (c : Fin 64), (V0 (Proc.devRef .tc main_arg2) : FVec Ideal S64 .f32) (ix1 c) = ((gk c : ℝ) : EReal)
  do_ : ∀ (a : Fin 4096) (c : Fin 512), (V0 (Proc.devRef .tc main_arg3) : FVec Ideal S4096x512 .f32) (ix2 a c) = ((D a c : ℝ) : EReal)

variable {V0 : Valuation τ sig (Elt Ideal)} {P D : ℕ → ℕ → ℝ} {gq gk : ℕ → ℝ} (hV : Takes V0 P gq gk D)
include hV

theorem k15_is : Is3 (l := 8) (m := 4096) (n := 64) (k15 V0) (headNums P gq gk D).q := by
  intro h a x
  unfold k15
  clean_types
  pointwise
  exact (hV.proj _ _).trans rfl
theorem k22_is : Is3 (l := 8) (m := 4096) (n := 1) (k22 V0) fun h a _ => msq (headNums P gq gk D).q h a := by
  intro h a x
  unfold k22
  clean_types
  pointwise
  rw [sum_is (f := fun x => (headNums P gq gk D).q h a x * (headNums P gq gk D).q h a x) (fun x => by rw [k15_is hV h a x, EReal.coe_mul]), ofBits_64, ofBits_eps, div_coe _ (by norm_num), ← EReal.coe_add]
  rfl
theorem k23_is : Is3 (l := 8) (m := 4096) (n := 1) (k23 V0) fun h a _ => fac (headNums P gq gk D).q h a := by
  intro h a x
  unfold k23
  clean_types
  pointwise
  rw [k22_is hV h a x, rsqrt_coe (msq_pos _ _ _)]
  rfl
theorem k28_is : Is3 (l := 8) (m := 4096) (n := 64) (k28 V0) (headNums P gq gk D).qn := by
  intro h a x
  unfold k28
  clean_types
  pointwise
  rw [k15_is hV h a x, k23_is hV h a, hV.gq x, ← EReal.coe_mul, ← EReal.coe_mul]
  rfl
theorem k30_is : Is3 (l := 8) (m := 4096) (n := 64) (k30 V0) (headNums P gq gk D).k := by
  intro h a x
  unfold k30
  clean_types
  pointwise
  exact (hV.proj _ _).trans rfl
theorem k37_is : Is3 (l := 8) (m := 4096) (n := 1) (k37 V0) fun h a _ => msq (headNums P gq gk D).k h a := by
  intro h a x
  unfold k37
  clean_types
  pointwise
  rw [sum_is (f := fun x => (headNums P gq gk D).k h a x * (headNums P gq gk D).k h a x) (fun x => by rw [k30_is hV h a x, EReal.coe_mul]), ofBits_64, ofBits_eps, div_coe _ (by norm_num), ← EReal.coe_add]
  rfl
theorem k38_is : Is3 (l := 8) (m := 4096) (n := 1) (k38 V0) fun h a _ => fac (headNums P gq gk D).k h a := by
  intro h a x
  unfold k38
  clean_types
  pointwise
  rw [k37_is hV h a x, rsqrt_coe (msq_pos _ _ _)]
  rfl
theorem k43_is : Is3 (l := 8) (m := 4096) (n := 64) (k43 V0) (headNums P gq gk D).kn := by
  intro h a x
  unfold k43
  clean_types
  pointwise
  rw [k30_is hV h a x, k38_is hV h a, hV.gk x, ← EReal.coe_mul, ← EReal.coe_mul]
  rfl
theorem k46_is : Is3 (l := 8) (m := 4096) (n := 4096) (k46 V0) (headNums P gq gk D).z := by
  intro h a b
  unfold k46
  clean_types
  pointwise
  rw [sum_is (f := fun x => (headNums P gq gk D).qn h a x * (headNums P gq gk D).kn h b x) (fun x => by rw [k28_is hV h a x, k43_is hV h b x, EReal.coe_mul]), ofBits_eighth, ← EReal.coe_mul]
  rfl
theorem kc0_is : Is3 (l := 8) (m := 4096) (n := 4096) (kc0 V0) (headNums P gq gk D).z := by
  intro h a b
  unfold kc0
  clean_types
  pointwise
  rw [k46_is hV h a b, neg_neg]
theorem kc1_is : Is3 (l := 8) (m := 4096) (n := 4096) (kc1 V0) fun h a b => sp ((headNums P gq gk D).z h a b) := by
  intro h a b
  unfold kc1 kc3
  clean_types
  pointwise
  rw [if_neg (by simp), kc0_is hV h a b]
  exact sp_coe _
theorem k56_is : Is3 (l := 8) (m := 4096) (n := 4096) (k56 V0) (headNums P gq gk D).stay := by
  intro h a b
  unfold k56 k53
  clean_types
  pointwise
  rw [kc1_is hV h a b, ← EReal.coe_neg]
  refine Eq.trans ?_ (mask_if a.isLt b.isLt _ _)
  exact congrArg _ Ideal.ofBits_zero_f32
theorem k58_is : Is3 (l := 8) (m := 4096) (n := 1) (k58 V0) fun h a _ => ∑ b ∈ Finset.range 4096, (headNums P gq gk D).stay h a b := by
  intro h a x
  unfold k58
  clean_types
  pointwise
  exact sum_is (f := fun b => (headNums P gq gk D).stay h a b) fun b => k56_is hV h a b
theorem k3_is (x : Fin 128) : k3 V0 (ix2 0 x) = ((gq (x.val % 64) : ℝ) : EReal) := by
  unfold k3
  clean_types
  pointwise
  exact (hV.gq _).trans rfl
theorem k7_is (x : Fin 128) : k7 V0 (ix2 0 x) = ((gk (x.val % 64) : ℝ) : EReal) := by
  unfold k7
  clean_types
  pointwise
  exact (hV.gk _).trans rfl

end Cert.KernelIdeal.Hand
end
-- ==== Proof.Final.lean ====
/-
  Hand-written, untrusted. What the attention backward kernel leaves in its five result arrays, in real numbers.
-/
module

public import proofs.«01_k».proof.Proof.Chain
public import Idealize.ShloMosaic.Lib.Pipeline.ArrRel

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat RDat)
open Idealize.SL Idealize.SL.Sem

theorem Is.at {m n : ℕ} {v : FVec Ideal ⟨2, ![m, n]⟩ .f32} {f : ℕ → ℕ → ℝ} (h : Is v f) (y : (⟨2, ![m, n]⟩ : Shape).Idx) :
    v y = ((f (y 0).val (y 1).val : ℝ) : EReal) :=
  (congrArg v (eq_ix2 y)).trans (h (y 0) (y 1))

theorem row_at {v : FVec Ideal S1x1x128 .f32} {f : ℕ → ℝ} (h : Row v f) (y : S1x1x128.Idx) : v y = ((f (y 2).val : ℝ) : EReal) := by
  have e : y = ix3 0 0 (y 2) := by
    refine (eq_ix3 y).trans ?_
    have h0 : y 0 = (0 : Fin 1) := Fin.ext (Nat.lt_one_iff.1 (y 0).isLt)
    have h1 : y 1 = (0 : Fin 1) := Fin.ext (Nat.lt_one_iff.1 (y 1).isLt)
    exact congrArg₂ (fun (a b : Fin 1) => (ix3 a b (y 2) : S1x1x128.Idx)) h0 h1
  exact (congrArg v e).trans (h (y 2))

variable {m : (ℓ : Loc nD τ sig) → Buf (Elt Ideal) ℓ} {r : PUnit × MemSt nD τ sig (Elt Ideal)} {c : Dev nD} {N : Nums}
  (h : RDat.FramePost (cfgs 0) (fun c => rdats m 0 c) (V m) r) (hf : ∀ t, FitsAt m c N t)
include h hf

omit h hf in
theorem index7 : ∀ t : Fin cfg0.N, win0_7.index t = ![t.val % 8, t.val / 8] := by decide +kernel
omit h hf in
theorem index8 : ∀ t : Fin cfg0.N, win0_8.index t = ![0, t.val / 8] := by decide +kernel
omit h hf in
theorem index9 : ∀ t : Fin cfg0.N, win0_9.index t = ![0, t.val / 8] := by decide +kernel
omit h hf in
theorem index10 : ∀ t : Fin cfg0.N, win0_10.index t = ![t.val / 8, 0, 0] := by decide +kernel
omit h hf in
theorem index11 : ∀ t : Fin cfg0.N, win0_11.index t = ![t.val / 8, 0, 0] := by decide +kernel

omit h hf in
theorem flush8 : ∀ t : Fin cfg0.N, (cfg0.win 8).flush t = true → t.val % 8 = 7 := by decide +kernel
omit h hf in
theorem flush9 : ∀ t : Fin cfg0.N, (cfg0.win 9).flush t = true → t.val % 8 = 7 := by decide +kernel
omit h hf in
theorem flush11 : ∀ t : Fin cfg0.N, (cfg0.win 11).flush t = true → t.val % 8 = 7 := by decide +kernel

omit h hf in
theorem emb7_0 (t : Fin cfg0.N) (y : ((cfg0.win 7).xblock (cfg0.grid.coords t)).Idx) : (((win0_7.blk t).view.emb y 0 : Fin 4096) : ℕ) = t.val % 8 * 512 + (y 0 : ℕ) := by
  blk_simp [index7]
  all_goals rfl
omit h hf in
theorem emb7_1 (t : Fin cfg0.N) (y : ((cfg0.win 7).xblock (cfg0.grid.coords t)).Idx) : (((win0_7.blk t).view.emb y 1 : Fin 512) : ℕ) = t.val / 8 * 128 + (y 1 : ℕ) := by
  blk_simp [index7]
  all_goals rfl

/-- The gradient of the queries. -/
def G_dq (N : Nums) (x : S4096x512.Idx) : ℝ := rmsGrad (N.q ((x 1).val / 128)) N.gq (N.dq ((x 1).val / 128)) (x 0).val ((x 1).val % 128)

theorem final_dq (i : Fin 4096) (j : Fin 512) :
    (r.2.mem ((c.tc : Thread nD τ).loc main_v59_0) : FVec Ideal S4096x512 .f32) (ix2 i j) = ((G_dq N (ix2 i j) : ℝ) : EReal) := by
  obtain ⟨after, hL, hA⟩ := RDat.FramePost.exists_exact h c
  refine (congrFun (hA 7) (ix2 i j)).trans ?_
  refine Dat.arrAt_forall_of_covers ((rdats m 0 c).withAfter after) 7 (fun x v => v = ((G_dq N x : ℝ) : EReal)) (by decide +kernel) (fun t ht y => ?_) (ix2 i j)
  have hl := leaves_dq hf (hL 7 t ht)
  blk_simp
  have hb : (y 1 : ℕ) < 128 := (y 1).isLt
  refine (hl.at y).trans (congrArg Real.toEReal ?_)
  unfold G_dq
  rw [emb7_0, emb7_1, show (t.val / 8 * 128 + (y 1 : ℕ)) / 128 = t.val / 8 by omega, show (t.val / 8 * 128 + (y 1 : ℕ)) % 128 = (y 1 : ℕ) by omega, Nat.mul_comm (t.val % 8) 512]

omit h hf in
theorem emb8_0 (t : Fin cfg0.N) (y : ((cfg0.win 8).xblock (cfg0.grid.coords t)).Idx) : (((win0_8.blk t).view.emb y 0 : Fin 4096) : ℕ) = 0 * 4096 + (y 0 : ℕ) := by
  blk_simp [index8]
  all_goals rfl
omit h hf in
theorem emb8_1 (t : Fin cfg0.N) (y : ((cfg0.win 8).xblock (cfg0.grid.coords t)).Idx) : (((win0_8.blk t).view.emb y 1 : Fin 512) : ℕ) = t.val / 8 * 128 + (y 1 : ℕ) := by
  blk_simp [index8]
  all_goals rfl

/-- The gradient of the keys. -/
def G_dk (N : Nums) (x : S4096x512.Idx) : ℝ := rmsGrad (N.k ((x 1).val / 128)) N.gk (N.dk ((x 1).val / 128) 4096) (x 0).val ((x 1).val % 128)

theorem final_dk (i : Fin 4096) (j : Fin 512) :
    (r.2.mem ((c.tc : Thread nD τ).loc main_v59_1) : FVec Ideal S4096x512 .f32) (ix2 i j) = ((G_dk N (ix2 i j) : ℝ) : EReal) := by
  obtain ⟨after, hL, hA⟩ := RDat.FramePost.exists_exact h c
  refine (congrFun (hA 8) (ix2 i j)).trans ?_
  refine Dat.arrAt_forall_of_covers ((rdats m 0 c).withAfter after) 8 (fun x v => v = ((G_dk N x : ℝ) : EReal)) (by decide +kernel) (fun t ht y => ?_) (ix2 i j)
  have hl := leaves_dk hf (flush8 t ht) (hL 8 t ht)
  blk_simp
  have hb : (y 1 : ℕ) < 128 := (y 1).isLt
  refine (hl.at y).trans (congrArg Real.toEReal ?_)
  unfold G_dk
  rw [emb8_0, emb8_1, show (t.val / 8 * 128 + (y 1 : ℕ)) / 128 = t.val / 8 by omega, show (t.val / 8 * 128 + (y 1 : ℕ)) % 128 = (y 1 : ℕ) by omega, Nat.zero_mul, Nat.zero_add]

omit h hf in
theorem emb9_0 (t : Fin cfg0.N) (y : ((cfg0.win 9).xblock (cfg0.grid.coords t)).Idx) : (((win0_9.blk t).view.emb y 0 : Fin 4096) : ℕ) = 0 * 4096 + (y 0 : ℕ) := by
  blk_simp [index9]
  all_goals rfl
omit h hf in
theorem emb9_1 (t : Fin cfg0.N) (y : ((cfg0.win 9).xblock (cfg0.grid.coords t)).Idx) : (((win0_9.blk t).view.emb y 1 : Fin 512) : ℕ) = t.val / 8 * 128 + (y 1 : ℕ) := by
  blk_simp [index9]
  all_goals rfl

/-- The gradient of the values. -/
def G_dv (N : Nums) (x : S4096x512.Idx) : ℝ := N.dv ((x 1).val / 128) 4096 (x 0).val ((x 1).val % 128)

theorem final_dv (i : Fin 4096) (j : Fin 512) :
    (r.2.mem ((c.tc : Thread nD τ).loc main_v59_2) : FVec Ideal S4096x512 .f32) (ix2 i j) = ((G_dv N (ix2 i j) : ℝ) : EReal) := by
  obtain ⟨after, hL, hA⟩ := RDat.FramePost.exists_exact h c
  refine (congrFun (hA 9) (ix2 i j)).trans ?_
  refine Dat.arrAt_forall_of_covers ((rdats m 0 c).withAfter after) 9 (fun x v => v = ((G_dv N x : ℝ) : EReal)) (by decide +kernel) (fun t ht y => ?_) (ix2 i j)
  have hl := leaves_dv hf (flush9 t ht) (hL 9 t ht)
  blk_simp
  have hb : (y 1 : ℕ) < 128 := (y 1).isLt
  refine (hl.at y).trans (congrArg Real.toEReal ?_)
  unfold G_dv
  rw [emb9_0, emb9_1, show (t.val / 8 * 128 + (y 1 : ℕ)) / 128 = t.val / 8 by omega, show (t.val / 8 * 128 + (y 1 : ℕ)) % 128 = (y 1 : ℕ) by omega, Nat.zero_mul, Nat.zero_add]

omit h hf in
theorem emb10_0 (t : Fin cfg0.N) (y : ((cfg0.win 10).xblock (cfg0.grid.coords t)).Idx) : (((win0_10.blk t).view.emb y 0 : Fin 4) : ℕ) = t.val / 8 := by
  have hb : (y 0 : ℕ) < 1 := (y 0).isLt
  blk_simp [index10]
  all_goals (show t.val / 8 * 1 + (y 0 : ℕ) = t.val / 8; omega)
omit h hf in
theorem emb10_2 (t : Fin cfg0.N) (y : ((cfg0.win 10).xblock (cfg0.grid.coords t)).Idx) : (((win0_10.blk t).view.emb y 2 : Fin 128) : ℕ) = (y 2 : ℕ) := by
  blk_simp [index10]
  all_goals (show 0 * 128 + (y 2 : ℕ) = (y 2 : ℕ); omega)

/-- The gradient of the queries' gain, one row for each head pair. -/
def G_dgq (N : Nums) (x : S4x1x128.Idx) : ℝ := N.dg (x 0).val 4096 (x 2).val

theorem final_dgq (i : Fin 4) (j : Fin 128) :
    (r.2.mem ((c.tc : Thread nD τ).loc main_v59_3) : FVec Ideal S4x1x128 .f32) (ix3 i 0 j) = ((G_dgq N (ix3 i 0 j) : ℝ) : EReal) := by
  obtain ⟨after, hL, hA⟩ := RDat.FramePost.exists_exact h c
  refine (congrFun (hA 10) (ix3 i 0 j)).trans ?_
  refine Dat.arrAt_forall_of_covers ((rdats m 0 c).withAfter after) 10 (fun x v => v = ((G_dgq N x : ℝ) : EReal)) (by decide +kernel) (fun t ht y => ?_) (ix3 i 0 j)
  have h7 := flush10 t ht
  have hl := leaves_dgq hf t.val t rfl (hL 10 t ht)
  blk_simp
  refine (row_at hl y).trans (congrArg Real.toEReal ?_)
  unfold G_dgq
  rw [emb10_0, emb10_2, h7]

omit h hf in
theorem emb11_0 (t : Fin cfg0.N) (y : ((cfg0.win 11).xblock (cfg0.grid.coords t)).Idx) : (((win0_11.blk t).view.emb y 0 : Fin 4) : ℕ) = t.val / 8 := by
  have hb : (y 0 : ℕ) < 1 := (y 0).isLt
  blk_simp [index11]
  all_goals (show t.val / 8 * 1 + (y 0 : ℕ) = t.val / 8; omega)
omit h hf in
theorem emb11_2 (t : Fin cfg0.N) (y : ((cfg0.win 11).xblock (cfg0.grid.coords t)).Idx) : (((win0_11.blk t).view.emb y 2 : Fin 128) : ℕ) = (y 2 : ℕ) := by
  blk_simp [index11]
  all_goals (show 0 * 128 + (y 2 : ℕ) = (y 2 : ℕ); omega)

/-- The gradient of the keys' gain, one row for each head pair. -/
def G_dgk (N : Nums) (x : S4x1x128.Idx) : ℝ := ∑ k ∈ Finset.range 4096, N.dk (x 0).val 4096 k (x 2).val * N.k (x 0).val k (x 2).val * rmsR (N.k (x 0).val) k (x 2).val

theorem final_dgk (i : Fin 4) (j : Fin 128) :
    (r.2.mem ((c.tc : Thread nD τ).loc main_v59_4) : FVec Ideal S4x1x128 .f32) (ix3 i 0 j) = ((G_dgk N (ix3 i 0 j) : ℝ) : EReal) := by
  obtain ⟨after, hL, hA⟩ := RDat.FramePost.exists_exact h c
  refine (congrFun (hA 11) (ix3 i 0 j)).trans ?_
  refine Dat.arrAt_forall_of_covers ((rdats m 0 c).withAfter after) 11 (fun x v => v = ((G_dgk N x : ℝ) : EReal)) (by decide +kernel) (fun t ht y => ?_) (ix3 i 0 j)
  have h7 := flush11 t ht
  have hl := leaves_dgk hf h7 (hL 11 t ht)
  blk_simp
  refine (row_at hl y).trans (congrArg Real.toEReal ?_)
  unfold G_dgk
  rw [emb11_0, emb11_2]

end Cert.KernelIdeal.Hand
end
-- ==== Proof.Equal.lean ====
/-
  Hand-written, untrusted. The kernel's real numbers, by pairs of heads, are the reference's, head by head.
-/
module

public import proofs.«01_k».proof.Proof.Chain
public import proofs.«01_k».proof.Proof.Heads

@[expose] public section

set_option maxRecDepth 16384
set_option maxHeartbeats 400000

noncomputable section

namespace Cert.Value

open Cert.KernelIdeal.Hand (lbR zS stayS leftS wS gS preS dzS dqS dkS dvS lo hi rmsR normR rmsGrad dqN dkN dvN headMean epsR half_lo half_hi Nums)
open Cert.ReferenceIdeal.Hand (HNums sp msq fac nrm back rowGrad gainGrad headNums msq_pos)

/-! ## The logarithms -/

theorem lbR_eq (z : ℝ) : lbR z = -sp (-z) := by
  unfold lbR sp
  rw [neg_neg, max_comm z (-z), zero_sub, show max (-z) 0 = -min z 0 by rw [← neg_zero, max_neg_neg, neg_zero]]
  ring

theorem lbR_sub (z : ℝ) : lbR z - z = -sp z := by
  unfold lbR sp
  rw [zero_sub, show min z 0 = z - max z 0 by rcases le_total z 0 with h | h <;> simp [h]]
  ring

theorem sig_add (z : ℝ) : Real.exp (lbR z) + Real.exp (lbR z - z) = 1 := by
  unfold lbR
  rw [zero_sub]
  have hp : ∀ y : ℝ, (0 : ℝ) < 1 + Real.exp y := fun y => by positivity
  rcases le_total z 0 with h | h
  · rw [min_eq_left h, max_eq_right (by linarith), neg_neg, Real.exp_sub, Real.exp_log (hp _), show z - Real.log (1 + Real.exp z) - z = -Real.log (1 + Real.exp z) by ring, Real.exp_neg,
      Real.exp_log (hp _)]
    have := (hp z).ne'
    field_simp
    ring
  · rw [min_eq_right h, max_eq_left (by linarith), zero_sub, show -Real.log (1 + Real.exp (-z)) - z = -z - Real.log (1 + Real.exp (-z)) by ring, Real.exp_sub, Real.exp_neg (Real.log _), Real.exp_log (hp _)]
    have := (hp (-z)).ne'
    field_simp

theorem sum_from_eq {b n : ℕ} (h : b ≤ n) (f : ℕ → ℝ) :
    (∑ k ∈ Finset.range n, if b ≤ k then f k else 0) = (∑ k ∈ Finset.range n, f k) - ∑ k ∈ Finset.range b, f k := by
  obtain ⟨m, rfl⟩ := Nat.exists_eq_add_of_le h
  rw [Finset.sum_range_add, Finset.sum_range_add, Finset.sum_eq_zero (s := Finset.range b), zero_add, add_sub_cancel_left]
  · exact Finset.sum_congr rfl fun k _ => if_pos (Nat.le_add_right b k)
  · intro k hk; rw [Finset.mem_range] at hk; exact if_neg (by omega)

theorem sum_upto_eq {b n : ℕ} (h : b < n) (f : ℕ → ℝ) :
    (∑ k ∈ Finset.range n, if k ≤ b then f k else 0) = ∑ k ∈ Finset.range (b + 1), f k := by
  obtain ⟨m, rfl⟩ := Nat.exists_eq_add_of_le (show b + 1 ≤ n by omega)
  rw [Finset.sum_range_add, Finset.sum_eq_zero (s := Finset.range m), add_zero]
  · refine Finset.sum_congr rfl fun k hk => if_pos ?_; rw [Finset.mem_range] at hk; omega
  · intro k _; exact if_neg (by omega)

/-! ## One head -/

section head
variable {Q K D V : ℕ → ℕ → ℝ} {H : HNums} {h : ℕ} (hz : ∀ a k, zS Q K a k = H.z h a k)
include hz

theorem stay_eq (a k : ℕ) : stayS Q K a k = H.stay h a k := by
  unfold stayS HNums.stay
  rw [hz, lbR_sub]

theorem w_eq {a k : ℕ} (hk : k < 4096) : wS Q K a k = H.w h a k := by
  unfold wS HNums.w HNums.ex leftS
  simp only [stay_eq hz]
  rw [hz, lbR_eq, sum_from_eq (by omega), Finset.sum_range_succ _ k, sub_sub]

variable (hd : ∀ a k, (∑ c ∈ Finset.range 128, D a c * V k c) = ∑ x ∈ Finset.range 64, H.d h a x * H.v h k x)
include hd

theorem g_eq {a k : ℕ} (hk : k < 4096) : gS Q K D V a k = H.g h a k := by
  unfold gS HNums.g
  rw [w_eq hz hk, hd]
  unfold HNums.w
  split <;> ring

theorem dz_eq {a k : ℕ} (hk : k < 4096) : H.dz h a k = dzS Q K D V a k * (1 / 8) := by
  unfold HNums.dz dzS preS
  rw [sum_upto_eq hk, Finset.sum_range_succ _ k, Finset.sum_congr rfl fun j hj => g_eq hz hd (a := a) (show j < 4096 from by rw [Finset.mem_range] at hj; omega), g_eq hz hd hk, hz]
  have h1 : Real.exp (-H.z h a k - sp (-H.z h a k)) = 1 - Real.exp (lbR (H.z h a k)) := by
    rw [show -H.z h a k - sp (-H.z h a k) = lbR (H.z h a k) - H.z h a k by rw [lbR_eq]; ring]
    linarith [sig_add (H.z h a k)]
  have h2 : Real.exp (H.z h a k - sp (H.z h a k)) = Real.exp (lbR (H.z h a k)) := by
    rw [show H.z h a k - sp (H.z h a k) = lbR (H.z h a k) by rw [show lbR (H.z h a k) = (lbR (H.z h a k) - H.z h a k) + H.z h a k by ring, lbR_sub]; ring]
  rw [h1, h2]
  split
  · ring
  · rw [show H.g h a k = 0 by unfold HNums.g; rw [if_neg (by assumption), zero_mul]]; ring
end head

/-! ## The normalisation -/

section rows
variable {X : ℕ → ℕ → ℝ} {f : ℕ → ℕ → ℕ → ℝ} {h e : ℕ} (hX : ∀ a x, x < 64 → X a (64 * e + x) = f h a x)

theorem headMean_at (Y : ℕ → ℕ → ℝ) (a : ℕ) {x : ℕ} (hx : x < 64) : headMean Y a (64 * e + x) = (∑ j ∈ Finset.range 64, Y a (64 * e + j)) * (1 / 64) := by
  unfold headMean
  rw [show (64 * e + x) / 64 = e by omega]

include hX

theorem rms_eq (a : ℕ) {x : ℕ} (hx : x < 64) : rmsR X a (64 * e + x) = fac f h a := by
  unfold rmsR fac msq
  rw [headMean_at _ a hx, Finset.sum_congr rfl fun j hj => by rw [hX a j (Finset.mem_range.1 hj)], mul_one_div]

theorem norm_eq {G g : ℕ → ℝ} (hG : ∀ x, x < 64 → G (64 * e + x) = g x) (a : ℕ) {x : ℕ} (hx : x < 64) : normR X G a (64 * e + x) = nrm f g h a x := by
  unfold normR nrm
  rw [rms_eq hX a hx, hX a x hx, hG x hx]

theorem grad_eq {G g : ℕ → ℝ} (hG : ∀ x, x < 64 → G (64 * e + x) = g x) {N : ℕ → ℕ → ℝ} {n : ℕ → ℕ → ℕ → ℝ} {a : ℕ} (hN : ∀ x, x < 64 → N a (64 * e + x) = n h a x) {x : ℕ} (hx : x < 64) :
    rmsGrad X G N a (64 * e + x) = rowGrad f g n h a x := by
  unfold rmsGrad rowGrad back
  rw [headMean_at _ a hx, rms_eq hX a hx, hX a x hx, hG x hx, hN x hx,
    Finset.sum_congr rfl fun j hj => by rw [hX a j (Finset.mem_range.1 hj), hG j (Finset.mem_range.1 hj), hN j (Finset.mem_range.1 hj), mul_comm (n h a j * g j) (f h a j)]]
  have hm := msq_pos f h a
  have hf : fac f h a / msq f h a = fac f h a * fac f h a * fac f h a := by
    have h2 : fac f h a * fac f h a = (msq f h a)⁻¹ := by
      unfold fac
      rw [← mul_inv, Real.mul_self_sqrt hm.le]
    rw [mul_assoc, h2, div_eq_mul_inv]
  rw [hf]
  ring
end rows

/-! ## A pair of heads -/

/-- The kernel's numbers in the inputs, by pairs of heads. -/
def pairNums (P : ℕ → ℕ → ℝ) (gq gk : ℕ → ℝ) (D : ℕ → ℕ → ℝ) : Nums where
  q p a x := P a (1024 + (p * 128 + x))
  k p a x := P a (1536 + (p * 128 + x))
  v p a x := P a (2048 + (p * 128 + x))
  d p a x := D a (p * 128 + x)
  gq x := gq (x % 64)
  gk x := gk (x % 64)

theorem sum_lo (A : ℕ → ℕ → ℝ) (B : ℕ → ℝ) (a : ℕ) : (∑ c ∈ Finset.range 128, lo A a c * B c) = ∑ x ∈ Finset.range 64, A a (64 * 0 + x) * B (64 * 0 + x) := by
  unfold lo
  simp only [ite_mul, zero_mul, mul_zero, zero_add]
  exact half_lo fun c => A a c * B c
theorem sum_hi (A : ℕ → ℕ → ℝ) (B : ℕ → ℝ) (a : ℕ) : (∑ c ∈ Finset.range 128, hi A a c * B c) = ∑ x ∈ Finset.range 64, A a (64 * 1 + x) * B (64 * 1 + x) := by
  unfold hi
  simp only [ite_not, ite_mul, zero_mul, mul_one]
  exact half_hi fun c => A a c * B c

section pair
variable (P D : ℕ → ℕ → ℝ) (gq gk : ℕ → ℝ) (p : ℕ)

theorem q_at (e a x : ℕ) : (pairNums P gq gk D).q p a (64 * e + x) = (headNums P gq gk D).q (2 * p + e) a x :=
  congrArg (P a) (by omega)
theorem k_at (e a x : ℕ) : (pairNums P gq gk D).k p a (64 * e + x) = (headNums P gq gk D).k (2 * p + e) a x :=
  congrArg (P a) (by omega)
theorem v_at (e a x : ℕ) : (pairNums P gq gk D).v p a (64 * e + x) = (headNums P gq gk D).v (2 * p + e) a x :=
  congrArg (P a) (by omega)
theorem d_at (e a x : ℕ) : (pairNums P gq gk D).d p a (64 * e + x) = (headNums P gq gk D).d (2 * p + e) a x :=
  congrArg (D a) (by omega)
theorem gq_at (e x : ℕ) (hx : x < 64) : (pairNums P gq gk D).gq (64 * e + x) = gq x := congrArg gq (by omega)
theorem gk_at (e x : ℕ) (hx : x < 64) : (pairNums P gq gk D).gk (64 * e + x) = gk x := congrArg gk (by omega)

theorem Q_at (e a : ℕ) {x : ℕ} (hx : x < 64) : (pairNums P gq gk D).Q p a (64 * e + x) = (headNums P gq gk D).qn (2 * p + e) a x * (1 / 8) :=
  congrArg (· * (1 / 8)) (norm_eq (fun a x _ => q_at P D gq gk p e a x) (fun x hx => gq_at P D gq gk e x hx) a hx)
theorem K_at (e a : ℕ) {x : ℕ} (hx : x < 64) : (pairNums P gq gk D).K p a (64 * e + x) = (headNums P gq gk D).kn (2 * p + e) a x :=
  norm_eq (fun a x _ => k_at P D gq gk p e a x) (fun x hx => gk_at P D gq gk e x hx) a hx

theorem z_at (e a k : ℕ) : (∑ x ∈ Finset.range 64, (pairNums P gq gk D).Q p a (64 * e + x) * (pairNums P gq gk D).K p k (64 * e + x)) = (headNums P gq gk D).z (2 * p + e) a k := by
  unfold HNums.z
  rw [Finset.sum_mul]
  refine Finset.sum_congr rfl fun x hx => ?_
  rw [Q_at P D gq gk p e a (Finset.mem_range.1 hx), K_at P D gq gk p e k (Finset.mem_range.1 hx)]
  ring
theorem dv_at (e a k : ℕ) : (∑ x ∈ Finset.range 64, (pairNums P gq gk D).d p a (64 * e + x) * (pairNums P gq gk D).v p k (64 * e + x)) = ∑ x ∈ Finset.range 64, (headNums P gq gk D).d (2 * p + e) a x * (headNums P gq gk D).v (2 * p + e) k x :=
  Finset.sum_congr rfl fun x _ => by rw [d_at, v_at]

theorem z_lo (a k : ℕ) : zS (lo ((pairNums P gq gk D).Q p)) ((pairNums P gq gk D).K p) a k = (headNums P gq gk D).z (2 * p + 0) a k :=
  (sum_lo _ _ _).trans (z_at P D gq gk p 0 a k)
theorem z_hi (a k : ℕ) : zS (hi ((pairNums P gq gk D).Q p)) ((pairNums P gq gk D).K p) a k = (headNums P gq gk D).z (2 * p + 1) a k :=
  (sum_hi _ _ _).trans (z_at P D gq gk p 1 a k)
theorem d_lo (a k : ℕ) : (∑ c ∈ Finset.range 128, lo ((pairNums P gq gk D).d p) a c * (pairNums P gq gk D).v p k c) = ∑ x ∈ Finset.range 64, (headNums P gq gk D).d (2 * p + 0) a x * (headNums P gq gk D).v (2 * p + 0) k x :=
  (sum_lo _ _ _).trans (dv_at P D gq gk p 0 a k)
theorem d_hi (a k : ℕ) : (∑ c ∈ Finset.range 128, hi ((pairNums P gq gk D).d p) a c * (pairNums P gq gk D).v p k c) = ∑ x ∈ Finset.range 64, (headNums P gq gk D).d (2 * p + 1) a x * (headNums P gq gk D).v (2 * p + 1) k x :=
  (sum_hi _ _ _).trans (dv_at P D gq gk p 1 a k)

theorem dq_at {e : ℕ} (he : e < 2) (a : ℕ) {x : ℕ} (hx : x < 64) : (pairNums P gq gk D).dq p a (64 * e + x) = (headNums P gq gk D).dq (2 * p + e) a x := by
  unfold Nums.dq dqN HNums.dq
  rw [Finset.sum_mul]
  refine Finset.sum_congr rfl fun k hk => ?_
  unfold dqS
  rw [K_at P D gq gk p e k hx]
  rcases (show e = 0 ∨ e = 1 by omega) with rfl | rfl
  · rw [if_pos (by omega), dz_eq (z_lo P D gq gk p) (d_lo P D gq gk p) (Finset.mem_range.1 hk)]; ring
  · rw [if_neg (by omega), dz_eq (z_hi P D gq gk p) (d_hi P D gq gk p) (Finset.mem_range.1 hk)]; ring

theorem dk_at {e : ℕ} (he : e < 2) {k : ℕ} (hk : k < 4096) {x : ℕ} (hx : x < 64) : (pairNums P gq gk D).dk p 4096 k (64 * e + x) = (headNums P gq gk D).dk (2 * p + e) k x := by
  unfold Nums.dk dkN HNums.dk
  refine Finset.sum_congr rfl fun a _ => ?_
  unfold dkS
  rcases (show e = 0 ∨ e = 1 by omega) with rfl | rfl
  · rw [dz_eq (z_lo P D gq gk p) (d_lo P D gq gk p) hk]
    unfold lo hi
    rw [if_pos (by omega), if_neg (by omega), Q_at P D gq gk p 0 a hx]; ring
  · rw [dz_eq (z_hi P D gq gk p) (d_hi P D gq gk p) hk]
    unfold lo hi
    rw [if_neg (by omega), if_pos (by omega), Q_at P D gq gk p 1 a hx]; ring

theorem dv_eq {e : ℕ} (he : e < 2) {k : ℕ} (hk : k < 4096) {x : ℕ} (hx : x < 64) : (pairNums P gq gk D).dv p 4096 k (64 * e + x) = (headNums P gq gk D).dv (2 * p + e) k x := by
  unfold Nums.dv dvN HNums.dv
  refine Finset.sum_congr rfl fun a _ => ?_
  unfold dvS
  rcases (show e = 0 ∨ e = 1 by omega) with rfl | rfl
  · rw [w_eq (z_lo P D gq gk p) hk]
    unfold lo hi
    rw [if_pos (by omega), if_neg (by omega), d_at P D gq gk p 0 a x]; ring
  · rw [w_eq (z_hi P D gq gk p) hk]
    unfold lo hi
    rw [if_neg (by omega), if_pos (by omega), d_at P D gq gk p 1 a x]; ring

/-! ## The results -/

/-- A column is a head pair, a head of it and a column of the head. -/
theorem col_split (j : ℕ) : ∃ e x : ℕ, e < 2 ∧ x < 64 ∧ j % 128 = 64 * e + x ∧ j / 64 = 2 * (j / 128) + e ∧ j % 64 = x :=
  ⟨j % 128 / 64, j % 64, by omega, by omega, by omega, by omega, rfl⟩

theorem dq_res (a j : ℕ) :
    rmsGrad ((pairNums P gq gk D).q (j / 128)) (pairNums P gq gk D).gq ((pairNums P gq gk D).dq (j / 128)) a (j % 128)
      = rowGrad (headNums P gq gk D).q gq (headNums P gq gk D).dq (j / 64) a (j % 64) := by
  obtain ⟨e, x, he, hx, h1, h2, h3⟩ := col_split j
  rw [h1, h2, h3]
  exact grad_eq (fun a x _ => q_at P D gq gk _ e a x) (fun x hx => gq_at P D gq gk e x hx) (fun x hx => dq_at P D gq gk _ he a hx) hx

theorem dk_res {a : ℕ} (ha : a < 4096) (j : ℕ) :
    rmsGrad ((pairNums P gq gk D).k (j / 128)) (pairNums P gq gk D).gk ((pairNums P gq gk D).dk (j / 128) 4096) a (j % 128)
      = rowGrad (headNums P gq gk D).k gk (headNums P gq gk D).dk (j / 64) a (j % 64) := by
  obtain ⟨e, x, he, hx, h1, h2, h3⟩ := col_split j
  rw [h1, h2, h3]
  exact grad_eq (fun a x _ => k_at P D gq gk _ e a x) (fun x hx => gk_at P D gq gk e x hx) (fun x hx => dk_at P D gq gk _ he ha hx) hx

theorem dv_res {a : ℕ} (ha : a < 4096) (j : ℕ) :
    (pairNums P gq gk D).dv (j / 128) 4096 a (j % 128) = (headNums P gq gk D).dv (j / 64) a (j % 64) := by
  obtain ⟨e, x, he, hx, h1, h2, h3⟩ := col_split j
  rw [h1, h2, h3]
  exact dv_eq P D gq gk _ he ha hx

theorem gq_res {j : ℕ} (hj : j < 128) :
    (pairNums P gq gk D).dg p 4096 j = gainGrad (headNums P gq gk D).q (headNums P gq gk D).dq (p * 2 + j / 64) (j % 64) := by
  have h1 : j = 64 * (j / 64) + j % 64 := by omega
  have hx : j % 64 < 64 := by omega
  have he : j / 64 < 2 := by omega
  generalize j / 64 = e at *
  generalize j % 64 = x at *
  subst h1
  unfold Nums.dg gainGrad
  refine Finset.sum_congr rfl fun a _ => ?_
  rw [dq_at P D gq gk p he a hx, q_at P D gq gk p e a x, rms_eq (fun a x _ => q_at P D gq gk p e a x) a hx, Nat.mul_comm p 2]
  ring

theorem gk_res {j : ℕ} (hj : j < 128) :
    (∑ k ∈ Finset.range 4096, (pairNums P gq gk D).dk p 4096 k j * (pairNums P gq gk D).k p k j * rmsR ((pairNums P gq gk D).k p) k j)
      = gainGrad (headNums P gq gk D).k (headNums P gq gk D).dk (p * 2 + j / 64) (j % 64) := by
  have h1 : j = 64 * (j / 64) + j % 64 := by omega
  have hx : j % 64 < 64 := by omega
  have he : j / 64 < 2 := by omega
  generalize j / 64 = e at *
  generalize j % 64 = x at *
  subst h1
  unfold gainGrad
  refine Finset.sum_congr rfl fun k hk => ?_
  rw [dk_at P D gq gk p he (Finset.mem_range.1 hk) hx, k_at P D gq gk p e k x, rms_eq (fun a x _ => k_at P D gq gk p e a x) k hx, Nat.mul_comm p 2]
  ring
end pair

end Cert.Value
end
-- ==== Proof.Fits.lean ====
/-
  Hand-written, untrusted. What the attention backward kernel finds in the blocks of its arguments, in real numbers.
-/
module

public import proofs.«01_k».proof.Proof.Host
public import proofs.«01_k».proof.Proof.Final
public import proofs.«01_k».proof.Proof.Equal

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after)
open Cert.ReferenceIdeal.Hand (Is3 HNums headNums)
open Cert.Value (pairNums stay_eq z_lo z_hi)

theorem after_two (l₁ l₂ : List (HloOp τ sig (Elt Ideal))) (V0 : Valuation τ sig (Elt Ideal)) : after (l₁ ++ l₂) V0 = after l₂ (after l₁ V0) := by
  induction l₁ generalizing V0 with
  | nil => rfl
  | cons op l ih => exact ih _

theorem after_all (V0 : Valuation τ sig (Elt Ideal)) :
    after (List.flatten [hostOps0, hostOps0_1, hostOps0_2, hostOps0_3, hostOps0_4]) V0
      = after hostOps0_4 (after hostOps0_3 (after hostOps0_2 (after hostOps0_1 (after hostOps0 V0)))) := by
  rw [List.flatten_cons, List.flatten_cons, List.flatten_cons, List.flatten_cons, List.flatten_cons, List.flatten_nil, List.append_nil]
  rw [after_two, after_two, after_two, after_two]

section
variable (V0 : Valuation τ sig (Elt Ideal))
open Idealize.ShloMosaic.StableHlo

/-- The logarithm of the sigmoid, as the host computes it. -/
def hostLog (z : FVec Ideal S8x4096x4096 .f32) : FVec Ideal S8x4096x4096 .f32 :=
  Host.negf (select (cmpf .une (subf (Host.negf z) (broadcastInDim S8x4096x4096 ![] bcast_S_S8x4096x4096 (constant S_ .f32 0x00000000#32))) (subf (Host.negf z) (broadcastInDim S8x4096x4096 ![] bcast_S_S8x4096x4096 (constant S_ .f32 0x00000000#32)))) (addf (Host.negf z) (broadcastInDim S8x4096x4096 ![] bcast_S_S8x4096x4096 (constant S_ .f32 0x00000000#32)))
    (addf (maximumf (Host.negf z) (broadcastInDim S8x4096x4096 ![] bcast_S_S8x4096x4096 (constant S_ .f32 0x00000000#32))) (Host.log1p (Host.exp (Host.negf (Host.absf (subf (Host.negf z) (broadcastInDim S8x4096x4096 ![] bcast_S_S8x4096x4096 (constant S_ .f32 0x00000000#32)))))))))
theorem h1_55 : after hostOps0_1 V0 (Proc.devRef .tc main_v55) = hostLog (V0 (Proc.devRef .tc main_v54)) := by
  unfold hostLog
  after_results_simp
  rfl
theorem h1_53 : after hostOps0_1 V0 (Proc.devRef .tc main_v53) = V0 (Proc.devRef .tc main_v53) := by
  after_results_simp
theorem h3_56 : after hostOps0_3 (after hostOps0_2 V0) (Proc.devRef .tc main_v56)
    = (select (broadcastInDim S8x4096x4096 ![1, 2] bcast_S4096x4096_S8x4096x4096_1_2 (V0 (Proc.devRef .tc main_v53) : IVec S4096x4096 1)) (V0 (Proc.devRef .tc main_v55) : FVec Ideal S8x4096x4096 .f32) (broadcastInDim S8x4096x4096 ![] bcast_S_S8x4096x4096 (id (constant S_ .f32 0x00000000#32))) : FVec Ideal S8x4096x4096 .f32) := by
  after_results_simp
  rfl
theorem h4_58 : after hostOps0_4 V0 (Proc.devRef .tc main_v58)
    = (broadcastInDim S8x4096x1 ![0, 1] bcast_S8x4096_S8x4096x1_0_1 (Host.reduceAdd (V0 (Proc.devRef .tc main_v56) : FVec Ideal S8x4096x4096 .f32) (constant S_ .f32 0x00000000#32) reducesTo_S8x4096x4096_S8x4096_d2 h_S_) : FVec Ideal S8x4096x1 .f32) := by
  after_results_simp
theorem all_58 : after (List.flatten [hostOps0, hostOps0_1, hostOps0_2, hostOps0_3, hostOps0_4]) V0 (Proc.devRef .tc main_v58) = k58 V0 := by
  rw [after_all, h4_58, h3_56, h1_55, h1_53, h0_53, h0_54]
  rfl
theorem all_3 : after (List.flatten [hostOps0, hostOps0_1, hostOps0_2, hostOps0_3, hostOps0_4]) V0 (Proc.devRef .tc main_v3) = k3 V0 := by
  rw [after_all, ← h0_3]
  generalize after hostOps0 V0 = V1
  after_results_simp
theorem all_7 : after (List.flatten [hostOps0, hostOps0_1, hostOps0_2, hostOps0_3, hostOps0_4]) V0 (Proc.devRef .tc main_v7) = k7 V0 := by
  rw [after_all, ← h0_7]
  generalize after hostOps0 V0 = V1
  after_results_simp
end

theorem index0 : ∀ t : Fin cfg0.N, win0_0.index t = ![t.val % 8, 8 + t.val / 8] := by decide +kernel
theorem index1 : ∀ t : Fin cfg0.N, win0_1.index t = ![0, 12 + t.val / 8] := by decide +kernel
theorem index2 : ∀ t : Fin cfg0.N, win0_2.index t = ![0, 16 + t.val / 8] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![t.val / 8, t.val % 8, 0] := by decide +kernel
theorem index6 : ∀ t : Fin cfg0.N, win0_6.index t = ![t.val % 8, t.val / 8] := by decide +kernel
theorem point_lt (t : Fin cfg0.N) : t.val < 32 := lt_of_lt_of_eq t.isLt (by decide +kernel)

variable {m : (ℓ : Loc nD τ sig) → Buf (Elt Ideal) ℓ} {c : Dev nD} {P D : ℕ → ℕ → ℝ} {gq gk : ℕ → ℝ}

theorem emb0_0 (t : Fin cfg0.N) (y : ((cfg0.win 0).xblock (cfg0.grid.coords t)).Idx) : (((win0_0.blk t).view.emb y 0 : Fin 4096) : ℕ) = (t.val % 8) * 512 + (y 0 : ℕ) := by
  blk_simp [index0]
  all_goals rfl
theorem emb0_1 (t : Fin cfg0.N) (y : ((cfg0.win 0).xblock (cfg0.grid.coords t)).Idx) : (((win0_0.blk t).view.emb y 1 : Fin 3072) : ℕ) = (8 + t.val / 8) * 128 + (y 1 : ℕ) := by
  blk_simp [index0]
  all_goals rfl
theorem emb1_0 (t : Fin cfg0.N) (y : ((cfg0.win 1).xblock (cfg0.grid.coords t)).Idx) : (((win0_1.blk t).view.emb y 0 : Fin 4096) : ℕ) = 0 * 4096 + (y 0 : ℕ) := by
  blk_simp [index1]
  all_goals rfl
theorem emb1_1 (t : Fin cfg0.N) (y : ((cfg0.win 1).xblock (cfg0.grid.coords t)).Idx) : (((win0_1.blk t).view.emb y 1 : Fin 3072) : ℕ) = (12 + t.val / 8) * 128 + (y 1 : ℕ) := by
  blk_simp [index1]
  all_goals rfl
theorem emb2_0 (t : Fin cfg0.N) (y : ((cfg0.win 2).xblock (cfg0.grid.coords t)).Idx) : (((win0_2.blk t).view.emb y 0 : Fin 4096) : ℕ) = 0 * 4096 + (y 0 : ℕ) := by
  blk_simp [index2]
  all_goals rfl
theorem emb2_1 (t : Fin cfg0.N) (y : ((cfg0.win 2).xblock (cfg0.grid.coords t)).Idx) : (((win0_2.blk t).view.emb y 1 : Fin 3072) : ℕ) = (16 + t.val / 8) * 128 + (y 1 : ℕ) := by
  blk_simp [index2]
  all_goals rfl
theorem emb3_1 (t : Fin cfg0.N) (y : ((cfg0.win 3).xblock (cfg0.grid.coords t)).Idx) : (((win0_3.blk t).view.emb y 1 : Fin 128) : ℕ) = 0 * 128 + (y 1 : ℕ) := by
  blk_simp [index3]
  all_goals rfl
theorem emb4_1 (t : Fin cfg0.N) (y : ((cfg0.win 4).xblock (cfg0.grid.coords t)).Idx) : (((win0_4.blk t).view.emb y 1 : Fin 128) : ℕ) = 0 * 128 + (y 1 : ℕ) := by
  blk_simp [index4]
  all_goals rfl
theorem emb5_0 (t : Fin cfg0.N) (y : ((cfg0.win 5).xblock (cfg0.grid.coords t)).Idx) : (((win0_5.blk t).view.emb y 0 : Fin 8) : ℕ) = (t.val / 8) * 2 + (y 0 : ℕ) := by
  blk_simp [index5]
  all_goals rfl
theorem emb5_1 (t : Fin cfg0.N) (y : ((cfg0.win 5).xblock (cfg0.grid.coords t)).Idx) : (((win0_5.blk t).view.emb y 1 : Fin 4096) : ℕ) = (t.val % 8) * 512 + (y 1 : ℕ) := by
  blk_simp [index5]
  all_goals rfl
theorem emb6_0 (t : Fin cfg0.N) (y : ((cfg0.win 6).xblock (cfg0.grid.coords t)).Idx) : (((win0_6.blk t).view.emb y 0 : Fin 4096) : ℕ) = (t.val % 8) * 512 + (y 0 : ℕ) := by
  blk_simp [index6]
  all_goals rfl
theorem emb6_1 (t : Fin cfg0.N) (y : ((cfg0.win 6).xblock (cfg0.grid.coords t)).Idx) : (((win0_6.blk t).view.emb y 1 : Fin 512) : ℕ) = (t.val / 8) * 128 + (y 1 : ℕ) := by
  blk_simp [index6]
  all_goals rfl

variable (hV : Takes (fun b => m (c, b)) P gq gk D)
include hV

theorem proj_at (x : S4096x3072.Idx) : (V m c main_arg0 : FVec Ideal S4096x3072 .f32) x = ((P (x 0).val (x 1).val : ℝ) : EReal) := by
  rw [V_main_arg0]
  exact (congrArg _ (eq_ix2 x)).trans (hV.proj (x 0) (x 1))
theorem do_at (x : S4096x512.Idx) : (V m c main_arg3 : FVec Ideal S4096x512 .f32) x = ((D (x 0).val (x 1).val : ℝ) : EReal) := by
  rw [V_main_arg3]
  exact (congrArg _ (eq_ix2 x)).trans (hV.do_ (x 0) (x 1))
theorem gq_at (x : S1x128.Idx) : (V m c main_v3 : FVec Ideal S1x128 .f32) x = ((gq ((x 1).val % 64) : ℝ) : EReal) := by
  have e : x = ix2 0 (x 1) := (eq_ix2 x).trans (congrArg (fun a : Fin 1 => (ix2 a (x 1) : S1x128.Idx)) (Fin.ext (Nat.lt_one_iff.1 (x 0).isLt)))
  exact ((congrFun (all_3 (fun b => m (c, b))) x).trans (congrArg _ e)).trans (k3_is hV (x 1))
theorem gk_at (x : S1x128.Idx) : (V m c main_v7 : FVec Ideal S1x128 .f32) x = ((gk ((x 1).val % 64) : ℝ) : EReal) := by
  have e : x = ix2 0 (x 1) := (eq_ix2 x).trans (congrArg (fun a : Fin 1 => (ix2 a (x 1) : S1x128.Idx)) (Fin.ext (Nat.lt_one_iff.1 (x 0).isLt)))
  exact ((congrFun (all_7 (fun b => m (c, b))) x).trans (congrArg _ e)).trans (k7_is hV (x 1))
theorem stays_at (x : S8x4096x1.Idx) : (V m c main_v58 : FVec Ideal S8x4096x1 .f32) x = ((∑ b ∈ Finset.range 4096, (headNums P gq gk D).stay (x 0).val (x 1).val b : ℝ) : EReal) :=
  ((congrFun (all_58 (fun b => m (c, b))) x).trans (congrArg _ (eq_ix3 x))).trans (k58_is hV (x 0) (x 1) (x 2))

omit hV in
theorem left_lo (p a : ℕ) : leftS (lo ((pairNums P gq gk D).Q p)) ((pairNums P gq gk D).K p) a 0 = ∑ b ∈ Finset.range 4096, (headNums P gq gk D).stay (2 * p + 0) a b := by
  unfold leftS
  rw [Finset.sum_range_zero, sub_zero]
  exact Finset.sum_congr rfl fun b _ => stay_eq (z_lo P D gq gk p) a b
omit hV in
theorem left_hi (p a : ℕ) : leftS (hi ((pairNums P gq gk D).Q p)) ((pairNums P gq gk D).K p) a 0 = ∑ b ∈ Finset.range 4096, (headNums P gq gk D).stay (2 * p + 1) a b := by
  unfold leftS
  rw [Finset.sum_range_zero, sub_zero]
  exact Finset.sum_congr rfl fun b _ => stay_eq (z_hi P D gq gk p) a b

theorem fits_b0 (t : Fin cfg0.N) : Is (m := 512) (n := 128) (φ := .f32) (iblk m c 0 t) fun a x => (pairNums P gq gk D).q (t.val / 8) (512 * (t.val % 8) + a) x := by
  intro a x
  refine (proj_at hV _).trans (congrArg Real.toEReal ?_)
  rw [emb0_0, emb0_1]
  show P (t.val % 8 * 512 + a.val) ((8 + t.val / 8) * 128 + x.val) = P (512 * (t.val % 8) + a.val) (1024 + (t.val / 8 * 128 + x.val))
  congr 1 <;> omega
theorem fits_b1 (t : Fin cfg0.N) : Is (m := 4096) (n := 128) (φ := .f32) (iblk m c 1 t) ((pairNums P gq gk D).k (t.val / 8)) := by
  intro a x
  refine (proj_at hV _).trans (congrArg Real.toEReal ?_)
  rw [emb1_0, emb1_1]
  show P (0 * 4096 + a.val) ((12 + t.val / 8) * 128 + x.val) = P a.val (1536 + (t.val / 8 * 128 + x.val))
  congr 1 <;> omega
theorem fits_b2 (t : Fin cfg0.N) : Is (m := 4096) (n := 128) (φ := .f32) (iblk m c 2 t) ((pairNums P gq gk D).v (t.val / 8)) := by
  intro a x
  refine (proj_at hV _).trans (congrArg Real.toEReal ?_)
  rw [emb2_0, emb2_1]
  show P (0 * 4096 + a.val) ((16 + t.val / 8) * 128 + x.val) = P a.val (2048 + (t.val / 8 * 128 + x.val))
  congr 1 <;> omega
theorem fits_b6 (t : Fin cfg0.N) : Is (m := 512) (n := 128) (φ := .f32) (iblk m c 6 t) fun a x => (pairNums P gq gk D).d (t.val / 8) (512 * (t.val % 8) + a) x := by
  intro a x
  refine (do_at hV _).trans (congrArg Real.toEReal ?_)
  rw [emb6_0, emb6_1]
  show D (t.val % 8 * 512 + a.val) (t.val / 8 * 128 + x.val) = D (512 * (t.val % 8) + a.val) (t.val / 8 * 128 + x.val)
  congr 1 <;> omega
theorem fits_b3 (t : Fin cfg0.N) : Is (m := 1) (n := 128) (φ := .f32) (iblk m c 3 t) fun _ x => (pairNums P gq gk D).gq x := by
  intro a x
  refine (gq_at hV _).trans (congrArg Real.toEReal ?_)
  rw [emb3_1]
  show gq ((0 * 128 + x.val) % 64) = gq (x.val % 64)
  rw [Nat.zero_mul, Nat.zero_add]
theorem fits_b4 (t : Fin cfg0.N) : Is (m := 1) (n := 128) (φ := .f32) (iblk m c 4 t) fun _ x => (pairNums P gq gk D).gk x := by
  intro a x
  refine (gk_at hV _).trans (congrArg Real.toEReal ?_)
  rw [emb4_1]
  show gk ((0 * 128 + x.val) % 64) = gk (x.val % 64)
  rw [Nat.zero_mul, Nat.zero_add]
omit hV in
theorem opened (t : Fin cfg0.N) (y : S2x512x1.Idx) : (iblk m c 5 t : FVec Ideal S2x512x1 .f32) y
    = (V m c main_v58 : FVec Ideal S8x4096x1 .f32) ((win0_5.blk t).view.emb y) := rfl
omit hV in
theorem head_in (t : Fin cfg0.N) (y : S2x512x1.Idx) {e : ℕ} (he : ((y 0 : Fin 2) : ℕ) = e) : (((win0_5.blk t).view.emb y 0 : Fin 8) : ℕ) = 2 * (t.val / 8) + e :=
  (emb5_0 t y).trans (congrArg₂ (· + ·) (Nat.mul_comm (t.val / 8) 2) he)
omit hV in
theorem line_in (t : Fin cfg0.N) (y : S2x512x1.Idx) {e : ℕ} (he : ((y 1 : Fin 512) : ℕ) = e) : (((win0_5.blk t).view.emb y 1 : Fin 4096) : ℕ) = 512 * (t.val % 8) + e :=
  (emb5_1 t y).trans (congrArg₂ (· + ·) (Nat.mul_comm (t.val % 8) 512) he)
theorem stays_in (t : Fin cfg0.N) (y : S2x512x1.Idx) {e a : ℕ} (he : ((y 0 : Fin 2) : ℕ) = e) (ha : ((y 1 : Fin 512) : ℕ) = a) :
    (iblk m c 5 t : FVec Ideal S2x512x1 .f32) y = ((∑ b ∈ Finset.range 4096, (headNums P gq gk D).stay (2 * (t.val / 8) + e) (512 * (t.val % 8) + a) b : ℝ) : EReal) := by
  rw [opened, stays_at hV, head_in t y he, line_in t y ha]
theorem fits_b5 (t : Fin cfg0.N) (a : Fin 512) : (iblk m c 5 t : FVec Ideal S2x512x1 .f32) (ix3 0 a 0)
    = ((leftS (lo ((pairNums P gq gk D).Q (t.val / 8))) ((pairNums P gq gk D).K (t.val / 8)) (512 * (t.val % 8) + a) 0 : ℝ) : EReal) := by
  rw [left_lo]
  exact stays_in hV t (ix3 0 a 0) rfl rfl
theorem fits_b5' (t : Fin cfg0.N) (a : Fin 512) : (iblk m c 5 t : FVec Ideal S2x512x1 .f32) (ix3 1 a 0)
    = ((leftS (hi ((pairNums P gq gk D).Q (t.val / 8))) ((pairNums P gq gk D).K (t.val / 8)) (512 * (t.val % 8) + a) 0 : ℝ) : EReal) := by
  rw [left_hi]
  exact stays_in hV t (ix3 1 a 0) rfl rfl

/-- The blocks are those of the real numbers in the inputs. -/
theorem fits (t : Fin cfg0.N) : FitsAt m c (pairNums P gq gk D) t where
  b0 := fits_b0 hV t
  b1 := fits_b1 hV t
  b2 := fits_b2 hV t
  b3 := fits_b3 hV t
  b4 := fits_b4 hV t
  b5 := fits_b5 hV t
  b5' := fits_b5' hV t
  b6 := fits_b6 hV t

end Cert.KernelIdeal.Hand
end
-- ==== Proof.Value.lean ====
/-
  Hand-written, untrusted. The precondition read, and the kernel's five results equal to the reference's.
-/
module

public import proofs.«01_k».proof.Defs
public import proofs.«01_k».proof.Proof.Fits
public import proofs.«01_k».proof.Proof.Gen.ReferenceIdeal.Run

@[expose] public section

set_option maxRecDepth 16384
set_option maxHeartbeats 400000

noncomputable section

namespace Cert.Value

open Idealize.ShloMosaic Idealize.ShloMosaic.TcCoe Idealize.ShloMosaic.Tactic Idealize.SL.Sem
open Cert.KernelIdeal.Hand Cert.ReferenceIdeal.Hand
open Idealize.ShloMosaic.Pipeline (RDat)

/-! ## The precondition -/

theorem andi_one : ∀ {a b : BitVec 1}, IntOp.andi a b = 1#1 → a = 1#1 ∧ b = 1#1 := by decide

theorem foldl_and {β : Type} (l : List β) (f : β → BitVec 1) {v : BitVec 1} (h : l.foldl (fun r n => IntOp.andi r (f n)) v = 1#1) :
    v = 1#1 ∧ ∀ n ∈ l, f n = 1#1 := by
  induction l generalizing v with
  | nil => exact ⟨h, fun n hn => absurd hn (List.not_mem_nil)⟩
  | cons a l ih =>
    obtain ⟨h1, h2⟩ := ih h
    obtain ⟨h3, h4⟩ := andi_one h1
    refine ⟨h3, fun n hn => ?_⟩
    rcases List.mem_cons.1 hn with rfl | hn
    · exact h4
    · exact h2 n hn

/-- A conjunction over a whole array that is true is true at every index. -/
theorem all_true {s : Shape} {axes : List (Fin s.rank)} {u : Shape} (x : s.Idx → BitVec 1) (v : u.Idx → BitVec 1)
    (h : s.ReducesTo axes ⟨0, ![]⟩) (hu : 0 < u.numel) (j : (⟨0, ![]⟩ : Shape).Idx) (e : Host.reduce IntOp.andi x v h hu j = 1#1) (i : s.Idx) : x i = 1#1 := by
  unfold Host.reduce at e
  have := (foldl_and _ (fun n => x (s.rowMajor.symm n)) e).2 (s.rowMajor i) (List.mem_filter.2 ⟨List.mem_finRange _, decide_eq_true (funext fun k => k.elim0)⟩)
  simpa using this

theorem real_of {x : Ideal .f32} (h : FloatOps.cmpf (F := Ideal) (φ := .f32) .olt (FloatOps.hostAbsf x) (FloatOps.ofBits (F := Ideal) .f32 0x7F800000#32) = 1#1) :
    x = (((x : EReal).toReal : ℝ) : EReal) := by
  have h' : Ideal.cmp .olt (max (x : EReal) (-(x : EReal))) (Ideal.ofBits .f32 0x7F800000#32) = 1#1 := h
  rw [ofBits_inf] at h'
  have hl : max (x : EReal) (-(x : EReal)) < ⊤ := by
    by_contra hn
    simp [Ideal.cmp, hn] at h'
  refine (EReal.coe_toReal (x := (x : EReal)) ?_ ?_).symm
  · intro e
    rw [e] at hl
    simp at hl
  · intro e
    rw [e] at hl
    simp at hl

/-- The printed condition's side conditions. -/
theorem finite_facts : Cert.Pre_finite.Facts where
  bcast_S_S4096x3072 := by decide
  reducesTo_S4096x3072_S_d0_1 := by decide
  h_S_ := by decide
  bcast_S_S64 := by decide
  reducesTo_S64_S_d0 := by decide
  bcast_S_S4096x512 := by decide
  reducesTo_S4096x512_S_d0_1 := by decide

attribute [local instance] finite_facts

theorem finite_read {x0 : FVec Ideal Cert.Pre_finite.S4096x3072 .f32} {x1 x2 : FVec Ideal Cert.Pre_finite.S64 .f32} {x3 : FVec Ideal Cert.Pre_finite.S4096x512 .f32}
    (h : Cert.Pre_finite.fn (F := Ideal) x0 x1 x2 x3 = fun _ => 1#1) :
    (∀ i, x0 i = ((x0 i).toReal : EReal)) ∧ (∀ i, x1 i = ((x1 i).toReal : EReal)) ∧ (∀ i, x2 i = ((x2 i).toReal : EReal)) ∧ ∀ i, x3 i = ((x3 i).toReal : EReal) := by
  have e := congrFun h (fun k => k.elim0)
  unfold Cert.Pre_finite.fn Cert.Pre_finite.fn_part1 at e
  obtain ⟨e, e3⟩ := andi_one e
  obtain ⟨e, e2⟩ := andi_one e
  obtain ⟨e0, e1⟩ := andi_one e
  exact ⟨fun i => real_of (all_true _ _ _ _ _ e0 i), fun i => real_of (all_true _ _ _ _ _ e1 i), fun i => real_of (all_true _ _ _ _ _ e2 i), fun i => real_of (all_true _ _ _ _ _ e3 i)⟩

/-! ## The values -/

/-- A two-dimensional array of real numbers, by natural numbers. -/
def nums {M N : ℕ} (x : FVec Ideal ⟨2, ![M, N]⟩ .f32) (a j : ℕ) : ℝ := if h : a < M ∧ j < N then (x (ix2 ⟨a, h.1⟩ ⟨j, h.2⟩) : EReal).toReal else 0
/-- A row of real numbers, by natural numbers. -/
def nums1 {N : ℕ} (x : FVec Ideal ⟨1, ![N]⟩ .f32) (j : ℕ) : ℝ := if h : j < N then (x (ix1 ⟨j, h⟩) : EReal).toReal else 0

theorem nums_at {M N : ℕ} {x : FVec Ideal ⟨2, ![M, N]⟩ .f32} (h : ∀ i, x i = ((x i : EReal).toReal : EReal)) (a : Fin M) (j : Fin N) : x (ix2 a j) = ((nums x a j : ℝ) : EReal) := by
  unfold nums
  rw [dif_pos ⟨a.isLt, j.isLt⟩]
  exact h _
theorem nums1_at {N : ℕ} {x : FVec Ideal ⟨1, ![N]⟩ .f32} (h : ∀ i, x i = ((x i : EReal).toReal : EReal)) (j : Fin N) : x (ix1 j) = ((nums1 x j : ℝ) : EReal) := by
  unfold nums1
  rw [dif_pos j.isLt]
  exact h _

section
variable (m : (ℓ : Loc Cert.KernelIdeal.nD Cert.KernelIdeal.τ Cert.KernelIdeal.sig) → Buf (Elt Ideal) ℓ) (c : Dev Cert.KernelIdeal.nD)

/-- The inputs of a core, as real numbers. -/
abbrev projOf : ℕ → ℕ → ℝ := nums (m ((c.tc : Thread Cert.KernelIdeal.nD Cert.KernelIdeal.τ).loc Cert.KernelIdeal.main_arg0) : FVec Ideal Cert.KernelIdeal.S4096x3072 .f32)
abbrev gqOf : ℕ → ℝ := nums1 (m ((c.tc : Thread Cert.KernelIdeal.nD Cert.KernelIdeal.τ).loc Cert.KernelIdeal.main_arg1) : FVec Ideal Cert.KernelIdeal.S64 .f32)
abbrev gkOf : ℕ → ℝ := nums1 (m ((c.tc : Thread Cert.KernelIdeal.nD Cert.KernelIdeal.τ).loc Cert.KernelIdeal.main_arg2) : FVec Ideal Cert.KernelIdeal.S64 .f32)
abbrev doOf : ℕ → ℕ → ℝ := nums (m ((c.tc : Thread Cert.KernelIdeal.nD Cert.KernelIdeal.τ).loc Cert.KernelIdeal.main_arg3) : FVec Ideal Cert.KernelIdeal.S4096x512 .f32)
/-- Head by head. -/
abbrev headsOf : HNums := headNums (projOf m c) (gqOf m c) (gkOf m c) (doOf m c)

/-- The five results. -/
def val_dq : FVec Ideal Cert.KernelIdeal.S4096x512 .f32 := fun x => ((rowGrad (headsOf m c).q (gqOf m c) (headsOf m c).dq ((x 1).val / 64) (x 0).val ((x 1).val % 64) : ℝ) : EReal)
def val_dk : FVec Ideal Cert.KernelIdeal.S4096x512 .f32 := fun x => ((rowGrad (headsOf m c).k (gkOf m c) (headsOf m c).dk ((x 1).val / 64) (x 0).val ((x 1).val % 64) : ℝ) : EReal)
def val_dv : FVec Ideal Cert.KernelIdeal.S4096x512 .f32 := fun x => (((headsOf m c).dv ((x 1).val / 64) (x 0).val ((x 1).val % 64) : ℝ) : EReal)
def val_gq : FVec Ideal Cert.KernelIdeal.S4x1x128 .f32 := fun x => ((gainGrad (headsOf m c).q (headsOf m c).dq ((x 0).val * 2 + (x 2).val / 64) ((x 2).val % 64) : ℝ) : EReal)
def val_gk : FVec Ideal Cert.KernelIdeal.S4x1x128 .f32 := fun x => ((gainGrad (headsOf m c).k (headsOf m c).dk ((x 0).val * 2 + (x 2).val / 64) ((x 2).val % 64) : ℝ) : EReal)
end

/-- Two arrays equal at every pair of coordinates are equal. -/
theorem ext2 {M N : ℕ} {u v : (⟨2, ![M, N]⟩ : Shape).Idx → EReal} (h : ∀ (a : Fin M) (j : Fin N), u (ix2 a j) = v (ix2 a j)) : u = v :=
  funext fun x => by rw [eq_ix2 x]; exact h _ _
theorem ext3 {M N : ℕ} {u v : (⟨3, ![M, 1, N]⟩ : Shape).Idx → EReal} (h : ∀ (a : Fin M) (j : Fin N), u (ix3 a 0 j) = v (ix3 a 0 j)) : u = v :=
  funext fun x => by
    have e : x = ix3 (x 0) 0 (x 2) := (eq_ix3 x).trans (congrArg (fun b : Fin 1 => (ix3 (x 0) b (x 2) : (⟨3, ![M, 1, N]⟩ : Shape).Idx)) (Fin.ext (Nat.lt_one_iff.1 (x 1).isLt)))
    rw [e]; exact h _ _

section
variable {m : (ℓ : Loc Cert.KernelIdeal.nD Cert.KernelIdeal.τ Cert.KernelIdeal.sig) → Buf (Elt Ideal) ℓ}

theorem takes (hp : Cert.Pre_KernelIdeal_finite (hPre_finite := finite_facts) m) (c : Dev Cert.KernelIdeal.nD) :
    Takes (fun b => m (c, b)) (projOf m c) (gqOf m c) (gkOf m c) (doOf m c) := by
  obtain ⟨h0, h1, h2, h3⟩ := finite_read (hp c)
  exact ⟨fun a j => nums_at h0 a j, fun j => nums1_at h1 j, fun j => nums1_at h2 j, fun a j => nums_at h3 a j⟩

theorem kernel_values (hp : Cert.Pre_KernelIdeal_finite (hPre_finite := finite_facts) m) {r : PUnit × MemSt Cert.KernelIdeal.nD Cert.KernelIdeal.τ Cert.KernelIdeal.sig (Elt Ideal)}
    (h : RDat.FramePost (Cert.KernelIdeal.cfgs 0) (fun c => rdats m 0 c) (Cert.KernelIdeal.Gen.V m) r) (c : Dev Cert.KernelIdeal.nD) :
    r.2.mem ((c.tc : Thread Cert.KernelIdeal.nD Cert.KernelIdeal.τ).loc Cert.KernelIdeal.main_v59_0) = val_dq m c
    ∧ r.2.mem ((c.tc : Thread Cert.KernelIdeal.nD Cert.KernelIdeal.τ).loc Cert.KernelIdeal.main_v59_1) = val_dk m c
    ∧ r.2.mem ((c.tc : Thread Cert.KernelIdeal.nD Cert.KernelIdeal.τ).loc Cert.KernelIdeal.main_v59_2) = val_dv m c
    ∧ r.2.mem ((c.tc : Thread Cert.KernelIdeal.nD Cert.KernelIdeal.τ).loc Cert.KernelIdeal.main_v59_3) = val_gq m c
    ∧ r.2.mem ((c.tc : Thread Cert.KernelIdeal.nD Cert.KernelIdeal.τ).loc Cert.KernelIdeal.main_v59_4) = val_gk m c := by
  have hf := fits (takes hp c)
  refine ⟨ext2 fun a j => (final_dq h hf a j).trans (congrArg Real.toEReal ?_), ext2 fun a j => (final_dk h hf a j).trans (congrArg Real.toEReal ?_),
    ext2 fun a j => (final_dv h hf a j).trans (congrArg Real.toEReal ?_), ext3 fun p j => (final_dgq h hf p j).trans (congrArg Real.toEReal ?_),
    ext3 fun p j => (final_dgk h hf p j).trans (congrArg Real.toEReal ?_)⟩
  · exact dq_res _ _ _ _ a.val j.val
  · exact dk_res _ _ _ _ a.isLt j.val
  · exact dv_res _ _ _ _ a.isLt j.val
  · exact gq_res _ _ _ _ p.val j.isLt
  · exact gk_res _ _ _ _ p.val j.isLt

variable {m' : (ℓ : Loc Cert.ReferenceIdeal.nD Cert.ReferenceIdeal.τ Cert.ReferenceIdeal.sig) → Buf (Elt Ideal) ℓ}

theorem reads (hp : Cert.Pre_KernelIdeal_finite (hPre_finite := finite_facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Reads (StableHlo.launchContents m' c) (projOf m c) (gqOf m c) (gkOf m c) (doOf m c) := by
  have ht := takes hp c
  exact ⟨fun a j => (congrFun h0 (ix2 a j)).trans (ht.proj a j), fun j => (congrFun h1 (ix1 j)).trans (ht.gq j),
    fun j => (congrFun h2 (ix1 j)).trans (ht.gk j), fun a j => (congrFun h3 (ix2 a j)).trans (ht.do_ a j)⟩
end

/-- The kernel's five results are the reference's. -/
theorem same_values : Cert.algebraic_KernelIdeal_ReferenceIdeal_pre_finite (hKernelIdeal := Cert.KernelIdeal.Gen.facts) (hReferenceIdeal := Cert.ReferenceIdeal.Gen.facts) (hPre_finite := finite_facts) := by
  intro m g m' g' hp hm
  refine ⟨val_dq m, val_dk m, val_dv m, val_gq m, val_gk m, ?_, ?_⟩
  · refine (θ_run Cert.KernelIdeal.defs _ _).mono (fun r h c => ?_) (run_main (F := Ideal) m g)
    obtain ⟨e0, e1, e2, e3, e4⟩ := kernel_values hp h.1 c
    exact ⟨e0, e1, e2, e3, e4, args_kept h.1 c⟩
  · refine (θ_run Cert.ReferenceIdeal.defs _ _).mono (fun r h c => ?_) (Cert.ReferenceIdeal.Value.run m' g')
    obtain ⟨e0, e1, e2, e3, e4, e5⟩ := h c
    obtain ⟨h0, h1, h2, h3⟩ := hm c
    have hr := reads hp c h0 h1 h2 h3
    exact ⟨e0.trans (ext2 fun a j => res_dq hr a j), e1.trans (ext2 fun a j => res_dk hr a j), e2.trans (ext2 fun a j => res_dv hr a j),
      e3.trans (ext3 fun p j => res_gq hr p j), e4.trans (ext3 fun p j => res_gk hr p j), e5⟩

end Cert.Value
end
-- ==== Proof.Product.lean ====
/-
  Hand-written, untrusted. Products of matrices among the extended reals, read at natural coordinates.
-/
module

public import proofs.«01_k».proof.Proof.Reals
public import Idealize.ShloMosaic.Lib.Pipeline.Value

@[expose] public section

noncomputable section

namespace Cert.Product

open Idealize.ShloMosaic Idealize.ShloMosaic.Tactic

/-- The entry of a matrix at two natural coordinates, zero outside. -/
def entry {M N : ℕ} (x : (⟨2, ![M, N]⟩ : Shape).Idx → EReal) (a b : ℕ) : EReal :=
  if h : a < M ∧ b < N then x (ix2 ⟨a, h.1⟩ ⟨b, h.2⟩) else 0

theorem entry_ix2 {M N : ℕ} (x : (⟨2, ![M, N]⟩ : Shape).Idx → EReal) (i : Fin M) (j : Fin N) : x (ix2 i j) = entry x i j := by
  unfold entry
  rw [dif_pos ⟨i.isLt, j.isLt⟩]

theorem entry_at {M N : ℕ} (x : (⟨2, ![M, N]⟩ : Shape).Idx → EReal) (y : (⟨2, ![M, N]⟩ : Shape).Idx) : x y = entry x (y 0).val (y 1).val :=
  (congrArg x (eq_ix2 y)).trans (entry_ix2 x (y 0) (y 1))

/-- A sum over `k` blocks of `n` terms, grown by one block. -/
theorem sum_block (f : ℕ → EReal) (k n : ℕ) :
    ∑ s ∈ Finset.range ((k + 1) * n), f s = ∑ s ∈ Finset.range (k * n), f s + ∑ i : Fin n, f (k * n + i) := by
  rw [Nat.succ_mul, Finset.sum_range_add, Finset.sum_range (fun i => f (k * n + i))]

theorem sum_first (f : ℕ → EReal) (n : ℕ) : ∑ s ∈ Finset.range (1 * n), f s = ∑ i : Fin n, f i := by
  rw [Nat.one_mul, Finset.sum_range]

theorem zero_off : (![0, 0] : Fin 2 → ℕ) = fun _ => 0 := by decide

section
variable {Val : EltTy → Type} [∀ e, Nonempty (Val e)] {sig : RefSig} {κ : Kind} {sp : Space} {S : Shape} {e : EltTy}

/-- A load of a whole memref reads what it holds. -/
theorem load_whole {M : Memref sig κ sp S e} (h : M.IsWhole) {off : Fin S.rank → ℕ} (ho : off = fun _ => 0) (inb : ∀ a, off a + S.size a ≤ S.size a) (x : S.Idx → Val e) :
    M.view.readAt Val (Rect.unit off S.size inb).toLoadRect (h.unread x) = x :=
  (View.readAt_eq_ld M.view (h.unread x) (Rect.unit off S.size inb)).trans (by rw [h.read_unread, View.ld_unit_zero ho])

/-- A store to a whole view leaves its payload. -/
theorem store_whole (v : View sig κ sp S e) (f : v.ty.Contents Val) {off : Fin S.rank → ℕ} (ho : off = fun _ => 0) (inb : ∀ a, off a + S.size a ≤ S.size a) (w : S.Idx → Val e) :
    v.read Val (v.writes Val f [⟨Rect.unit off S.size inb, w⟩]) = w := by
  rw [View.read_writes_eq_canon _ _ _ (fun y => ⟨_, List.mem_singleton_self _, View.mem_set_unit_zero ho inb y⟩), View.canon_unit_zero ho]
end

end Cert.Product

end
-- ==== Proof.InProj.lean ====
/-
  Hand-written, untrusted. The product that projects the normed hidden states: what the kernel leaves is the plain product.
-/
module

public import proofs.«01_k».proof.Proof.Product
public import proofs.«01_k».proof.Proof.Gen.InProjIdeal.Value
public import proofs.«01_k».proof.Proof.Gen.InProjPlainIdeal.Run
public import proofs.«01_k».proof.Proof.Gen.InProj.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.InProjIdeal.Hand

open Cert.InProjIdeal Cert.InProjIdeal.Gen Cert.Product
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD)

theorem pay (a b : FVec Ideal S1024x1024 .bf16) (i j : Fin 1024) :
    k0_pay1 (F := Ideal) a b (ix2 i j) = ∑ k : Fin 1024, a (ix2 i k) * b (ix2 k j) := by
  pointwise [k0_pay1]

theorem index0 : ∀ t : Fin cfg0.N, win0_0.index t = ![t.val / 3, 0] := by decide +kernel
theorem index1 : ∀ t : Fin cfg0.N, win0_1.index t = ![0, t.val % 3] := by decide +kernel
theorem index2 : ∀ t : Fin cfg0.N, win0_2.index t = ![t.val / 3, t.val % 3] := by decide +kernel

/-- The arrays the product is taken of are the arguments: rounding keeps an ideal value. -/
theorem left_arg : (V m c main_v0 : S4096x1024.Idx → EReal) = m ((c : Thread nD τ).loc main_arg0) := by
  show StableHlo.after hostOps0 (fun b => m (c, b)) (Proc.devRef .tc main_v0) = _
  after_results_simp
  rfl
theorem right_arg : (V m c main_v1 : S1024x3072.Idx → EReal) = m ((c : Thread nD τ).loc main_arg1) := by
  show StableHlo.after hostOps0 (fun b => m (c, b)) (Proc.devRef .tc main_v1) = _
  after_results_simp
  rfl

abbrev X : ℕ → ℕ → EReal := entry (M := 4096) (N := 1024) (m ((c : Thread nD τ).loc main_arg0))
abbrev Y : ℕ → ℕ → EReal := entry (M := 1024) (N := 3072) (m ((c : Thread nD τ).loc main_arg1))

theorem emb0_0 (t : Fin cfg0.N) (y : S1024x1024.Idx) : (((win0_0.blk t).view.emb y 0 : Fin 4096) : ℕ) = t.val / 3 * 1024 + (y 0 : ℕ) := by
  blk_simp [index0]
  all_goals rfl
theorem emb0_1 (t : Fin cfg0.N) (y : S1024x1024.Idx) : (((win0_0.blk t).view.emb y 1 : Fin 1024) : ℕ) = 0 * 1024 + (y 1 : ℕ) := by
  blk_simp [index0]
  all_goals rfl
theorem emb1_0 (t : Fin cfg0.N) (y : S1024x1024.Idx) : (((win0_1.blk t).view.emb y 0 : Fin 1024) : ℕ) = 0 * 1024 + (y 0 : ℕ) := by
  blk_simp [index1]
  all_goals rfl
theorem emb1_1 (t : Fin cfg0.N) (y : S1024x1024.Idx) : (((win0_1.blk t).view.emb y 1 : Fin 3072) : ℕ) = t.val % 3 * 1024 + (y 1 : ℕ) := by
  blk_simp [index1]
  all_goals rfl
theorem emb2_0 (t : Fin cfg0.N) (y : ((cfg0.win 2).xblock (cfg0.grid.coords t)).Idx) : (((win0_2.blk t).view.emb y 0 : Fin 4096) : ℕ) = t.val / 3 * 1024 + (y 0 : ℕ) := by
  blk_simp [index2]
  all_goals rfl
theorem emb2_1 (t : Fin cfg0.N) (y : ((cfg0.win 2).xblock (cfg0.grid.coords t)).Idx) : (((win0_2.blk t).view.emb y 1 : Fin 3072) : ℕ) = t.val % 3 * 1024 + (y 1 : ℕ) := by
  blk_simp [index2]
  all_goals rfl

theorem block0 (t : Fin cfg0.N) (y : S1024x1024.Idx) : (iblk m c 0 t : S1024x1024.Idx → EReal) y = X m c (t.val / 3 * 1024 + (y 0).val) (y 1).val := by
  refine (entry_at (M := 4096) (N := 1024) (V m c main_v0) ((win0_0.blk t).view.emb y)).trans ?_
  rw [left_arg, emb0_0, emb0_1, Nat.zero_mul, Nat.zero_add]
theorem block1 (t : Fin cfg0.N) (y : S1024x1024.Idx) : (iblk m c 1 t : S1024x1024.Idx → EReal) y = Y m c (y 0).val (t.val % 3 * 1024 + (y 1).val) := by
  refine (entry_at (M := 1024) (N := 3072) (V m c main_v1) ((win0_1.blk t).view.emb y)).trans ?_
  rw [right_arg, emb1_0, emb1_1, Nat.zero_mul, Nat.zero_add]

theorem leaves (t : Fin cfg0.N) (y : S1024x1024.Idx) : (out0_2 (iblk m c 0 t) (iblk m c 1 t) : S1024x1024.Idx → EReal) y
    = ∑ k : Fin 1024, X m c (t.val / 3 * 1024 + (y 0).val) k * Y m c k (t.val % 3 * 1024 + (y 1).val) := by
  unfold out0_2 r0_0
  rw [View.canon_unit_zero zero_off, View.ld_unit_zero zero_off, View.ld_unit_zero zero_off]
  refine (congrArg _ (eq_ix2 y)).trans ((pay _ _ (y 0) (y 1)).trans (Finset.sum_congr rfl fun k _ => ?_))
  exact congrArg₂ (· * ·) (block0 m c t _) (block1 m c t _)

/-- What the result array ends holding. -/
def G (x : S4096x3072.Idx) : EReal := ∑ k : Fin 1024, X m c (x 0).val k * Y m c k (x 1).val

theorem final : ((dats m 0 c).arrAt 2 cfg0.N : S4096x3072.Idx → EReal) = G m c := by
  funext x
  refine Dat.arrAt_forall_of_covers (dats m 0 c) 2 (fun x v => v = G m c x) (by decide +kernel) (fun t ht y => ?_) x
  blk_simp
  rw [after0_2]
  refine (leaves m c t y).trans ?_
  unfold G
  rw [emb2_0, emb2_1]

end Cert.InProjIdeal.Hand

namespace Cert.InProjPlainIdeal.Hand

open Cert.InProjPlainIdeal Cert.Product
open Idealize.ShloMosaic Idealize.ShloMosaic.TcCoe Idealize.ShloMosaic.Tactic
open Idealize.SL Idealize.SL.Sem

theorem plain (x : FVec Ideal S4096x1024 .f32) (w : FVec Ideal S1024x3072 .f32) (i : S4096x3072.Idx) :
    Host.dotGeneral dot_S4096x1024_S1024x3072_S4096x3072_1_0_0_1_n_n none x w i
      = ∑ k : Fin 1024, entry (M := 4096) (N := 1024) x (i 0).val k * entry (M := 1024) (N := 3072) w k (i 1).val := by
  have h : Host.dotGeneral dot_S4096x1024_S1024x3072_S4096x3072_1_0_0_1_n_n none x w (ix2 (i 0) (i 1))
      = ∑ k : Fin 1024, x (ix2 (i 0) k) * w (ix2 k (i 1)) := by
    pointwise
  refine (congrArg _ (eq_ix2 i)).trans (h.trans (Finset.sum_congr rfl fun k _ => ?_))
  exact congrArg₂ (· * ·) (entry_ix2 x (i 0) k) (entry_ix2 w k (i 1))

end Cert.InProjPlainIdeal.Hand

namespace Cert.InProjIdeal.Hand

open Idealize.ShloMosaic Idealize.ShloMosaic.TcCoe
open Idealize.SL Idealize.SL.Sem

/-- The kernel's product and the plain product end with the same values. -/
theorem same : Cert.algebraic_InProjIdeal_InProjPlainIdeal := by
  intro m g m' g' _ hm
  refine ⟨fun c => G m c, ?_, ?_⟩
  · refine (θ_run _ _ _).mono (fun r h c => ⟨(h c).1.trans (final m c), (h c).2⟩) (Value.run_blocks m g)
  · refine (θ_run _ _ _).mono (fun r h c => ⟨(h c).1.trans ?_, (h c).2⟩) (Cert.InProjPlainIdeal.Value.run m' g')
    funext i
    rw [(hm c).1, (hm c).2]
    exact Cert.InProjPlainIdeal.Hand.plain _ _ i

end Cert.InProjIdeal.Hand

end
-- ==== Proof.DIn.lean ====
/-
  Hand-written, untrusted. The gradient of the input projection: what the kernel leaves is the plain gradient.
-/
module

public import proofs.«01_k».proof.Proof.Product
public import proofs.«01_k».proof.Proof.Gen.DInIdeal.Value
public import proofs.«01_k».proof.Proof.Gen.DInPlainIdeal.Run
public import proofs.«01_k».proof.Proof.Gen.DIn.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.DInIdeal.Hand

open Cert.DInIdeal Cert.DInIdeal.Gen Cert.Product
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD)

theorem pay (a : FVec Ideal S1024x1024 .bf16) (b : FVec Ideal S1024x1024 .f32) (i j : Fin 1024) :
    k0_pay1 (F := Ideal) a b (ix2 i j) = ∑ k : Fin 1024, a (ix2 k i) * b (ix2 k j) := by
  pointwise [k0_pay1]

section
variable (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x1024 .bf16) (x1 : Vec Ideal S1024x1024 .f32) (xs0 : Vec Ideal S1024x1024 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0 kernelRun0_A
  refine (store_whole VS0_0 _ zero_off _ _).trans ?_
  exact congrArg₂ k0_pay2 (load_whole harg3 zero_off _ x0) (load_whole harg4 zero_off _ x1)
theorem next (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0 kernelRun0_B
  refine (store_whole VS0_0 _ zero_off _ _).trans ?_
  exact congr (congrArg₂ k0_pay3 (load_whole harg3 zero_off _ x0) (load_whole harg4 zero_off _ x1)) (load_whole harg6 zero_off _ xs0)
theorem last (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2 kernelRun0_C
  refine (store_whole VO0_2 _ zero_off _ _).trans (congrArg k0_pay4 ?_)
  unfold kernelRun0_C.sl.v14 kernelRun0_C.sl.HS0_1
  refine (View.readCov_unit_zero _ zero_off _ _).trans ?_
  exact congr (congrArg₂ k0_pay3 (load_whole harg3 zero_off _ x0) (load_whole harg4 zero_off _ x1)) (load_whole harg6 zero_off _ xs0)
end

theorem index0 : ∀ t : Fin cfg0.N, win0_0.index t = ![t.val % 4, 0] := by decide +kernel
theorem index1 : ∀ t : Fin cfg0.N, win0_1.index t = ![t.val % 4, t.val / 4] := by decide +kernel
theorem index2 : ∀ t : Fin cfg0.N, win0_2.index t = ![0, t.val / 4] := by decide +kernel
theorem flush2 : ∀ t : Fin cfg0.N, (cfg0.win 2).flush t = true → t.val % 4 = 3 := by decide +kernel

/-- The arrays the product is taken of are the arguments: rounding keeps an ideal value. -/
theorem left_arg : (V m c main_v0 : S4096x1024.Idx → EReal) = m ((c : Thread nD τ).loc main_arg0) := by
  show StableHlo.after hostOps0 (fun b => m (c, b)) (Proc.devRef .tc main_v0) = _
  after_results_simp
  rfl
theorem right_arg : (V m c main_arg2 : S4096x3072.Idx → EReal) = m ((c : Thread nD τ).loc main_arg2) := V_main_arg2 m c

abbrev X : ℕ → ℕ → EReal := entry (M := 4096) (N := 1024) (m ((c : Thread nD τ).loc main_arg0))
abbrev Y : ℕ → ℕ → EReal := entry (M := 4096) (N := 3072) (m ((c : Thread nD τ).loc main_arg2))

theorem emb0_0 (t : Fin cfg0.N) (y : S1024x1024.Idx) : (((win0_0.blk t).view.emb y 0 : Fin 4096) : ℕ) = t.val % 4 * 1024 + (y 0 : ℕ) := by
  blk_simp [index0]
  all_goals rfl
theorem emb0_1 (t : Fin cfg0.N) (y : S1024x1024.Idx) : (((win0_0.blk t).view.emb y 1 : Fin 1024) : ℕ) = 0 * 1024 + (y 1 : ℕ) := by
  blk_simp [index0]
  all_goals rfl
theorem emb1_0 (t : Fin cfg0.N) (y : S1024x1024.Idx) : (((win0_1.blk t).view.emb y 0 : Fin 4096) : ℕ) = t.val % 4 * 1024 + (y 0 : ℕ) := by
  blk_simp [index1]
  all_goals rfl
theorem emb1_1 (t : Fin cfg0.N) (y : S1024x1024.Idx) : (((win0_1.blk t).view.emb y 1 : Fin 3072) : ℕ) = t.val / 4 * 1024 + (y 1 : ℕ) := by
  blk_simp [index1]
  all_goals rfl
theorem emb2_0 (t : Fin cfg0.N) (y : ((cfg0.win 2).xblock (cfg0.grid.coords t)).Idx) : (((win0_2.blk t).view.emb y 0 : Fin 1024) : ℕ) = 0 * 1024 + (y 0 : ℕ) := by
  blk_simp [index2]
  all_goals rfl
theorem emb2_1 (t : Fin cfg0.N) (y : ((cfg0.win 2).xblock (cfg0.grid.coords t)).Idx) : (((win0_2.blk t).view.emb y 1 : Fin 3072) : ℕ) = t.val / 4 * 1024 + (y 1 : ℕ) := by
  blk_simp [index2]
  all_goals rfl

theorem block0 (t : Fin cfg0.N) (y : S1024x1024.Idx) : (iblk m c 0 t : S1024x1024.Idx → EReal) y = X m c (t.val % 4 * 1024 + (y 0).val) (y 1).val := by
  refine (entry_at (M := 4096) (N := 1024) (V m c main_v0) ((win0_0.blk t).view.emb y)).trans ?_
  rw [left_arg, emb0_0, emb0_1, Nat.zero_mul, Nat.zero_add]
theorem block1 (t : Fin cfg0.N) (y : S1024x1024.Idx) : (iblk m c 1 t : S1024x1024.Idx → EReal) y = Y m c (t.val % 4 * 1024 + (y 0).val) (t.val / 4 * 1024 + (y 1).val) := by
  refine (entry_at (M := 4096) (N := 3072) (V m c main_arg2) ((win0_1.blk t).view.emb y)).trans ?_
  rw [right_arg, emb1_0, emb1_1]

/-- The terms of one entry of the product. -/
abbrev term (a b : ℕ) (s : ℕ) : EReal := X m c s a * Y m c s b

theorem piece (t : Fin cfg0.N) (y : S1024x1024.Idx) : (k0_pay1 (iblk m c 0 t) (iblk m c 1 t) : S1024x1024.Idx → EReal) y
    = ∑ k : Fin 1024, term m c (y 0).val (t.val / 4 * 1024 + (y 1).val) (t.val % 4 * 1024 + k) :=
  (congrArg _ (eq_ix2 y)).trans ((pay _ _ (y 0) (y 1)).trans (Finset.sum_congr rfl fun k _ =>
    congrArg₂ (· * ·) (block0 m c t (ix2 k (y 0))) (block1 m c t (ix2 k (y 1)))))

theorem pay2_at (a : FVec Ideal S1024x1024 .bf16) (b : FVec Ideal S1024x1024 .f32) (y : S1024x1024.Idx) :
    k0_pay2 (F := Ideal) a b y = k0_pay1 a b y := by
  pointwise [k0_pay2]
theorem pay3_at (a : FVec Ideal S1024x1024 .bf16) (b x : FVec Ideal S1024x1024 .f32) (y : S1024x1024.Idx) :
    (k0_pay3 (F := Ideal) a b x y : EReal) = (x y : EReal) + k0_pay1 a b y := by
  pointwise [k0_pay3]
theorem pay4_at (x : FVec Ideal S1024x1024 .f32) (y : S1024x1024.Idx) : (k0_pay4 (F := Ideal) x y : EReal) = x y := rfl

/-- The sum so far of one entry. -/
abbrev upTo (n : ℕ) (y : S1024x1024.Idx) : EReal :=
  ∑ s ∈ Finset.range ((n % 4 + 1) * 1024), term m c (y 0).val (n / 4 * 1024 + (y 1).val) s

theorem grow (n : ℕ) (h : ¬ (n + 1) % 4 = 0) (hn : n + 1 < cfg0.N) (x : FVec Ideal S1024x1024 .f32) (hx : ∀ y, (x y : EReal) = upTo m c n y) (y : S1024x1024.Idx) :
    (k0_pay3 (F := Ideal) (iblk m c 0 ⟨n + 1, hn⟩) (iblk m c 1 ⟨n + 1, hn⟩) x y : EReal) = upTo m c (n + 1) y := by
  refine (pay3_at _ _ x y).trans ?_
  rw [hx y, piece]
  unfold upTo
  dsimp only
  rw [show (n + 1) % 4 = n % 4 + 1 by omega, show (n + 1) / 4 = n / 4 by omega]
  exact (sum_block _ _ _).symm

theorem carry_A (t : Fin cfg0.N) (h0 : t.val % 4 = 0) : (outsAt0 m c t.val t.isLt).2 = k0_pay2 (iblk m c 0 t) (iblk m c 1 t) := by
  have e := outsAt0_A m c t h0 (by omega) (by omega)
  generalize outsAt0 m c t.val t.isLt = z at e ⊢
  subst e
  dsimp only
  rw [first]
theorem carry_B (t : Fin cfg0.N) (h0 : ¬ t.val % 4 = 0) (h3 : ¬ t.val % 4 = 3) :
    (outsAt0 m c t.val t.isLt).2 = k0_pay3 (iblk m c 0 t) (iblk m c 1 t) (outsAt0 m c (t.val - 1) (Nat.lt_of_le_of_lt (Nat.sub_le _ _) t.isLt)).2 := by
  have e := outsAt0_B m c t h0 (by omega) h3
  generalize outsAt0 m c t.val t.isLt = z at e ⊢
  subst e
  dsimp only
  rw [next]
theorem carry_C (t : Fin cfg0.N) (h3 : t.val % 4 = 3) :
    (outsAt0 m c t.val t.isLt).1 = k0_pay4 (k0_pay3 (iblk m c 0 t) (iblk m c 1 t) (outsAt0 m c (t.val - 1) (Nat.lt_of_le_of_lt (Nat.sub_le _ _) t.isLt)).2) := by
  have e := outsAt0_C m c t (by omega) (by omega) h3
  generalize outsAt0 m c t.val t.isLt = z at e ⊢
  subst e
  dsimp only
  rw [last]

theorem start (t : Fin cfg0.N) (h0 : t.val % 4 = 0) (y : S1024x1024.Idx) : (k0_pay2 (F := Ideal) (iblk m c 0 t) (iblk m c 1 t) y : EReal) = upTo m c t.val y := by
  refine (pay2_at _ _ y).trans ((piece m c t y).trans ?_)
  unfold upTo
  rw [h0, Nat.zero_add, sum_first]
  refine Finset.sum_congr rfl fun k _ => ?_
  rw [Nat.zero_mul, Nat.zero_add]

theorem carried : ∀ (n : ℕ) (hn : n < cfg0.N), ¬ n % 4 = 3 → ∀ y, ((outsAt0 m c n hn).2 y : EReal) = upTo m c n y
  | 0, hn, h3, y => (congrFun (carry_A m c ⟨0, hn⟩ rfl) y).trans (start m c ⟨0, hn⟩ rfl y)
  | n + 1, hn, h3, y => by
    by_cases h0 : (n + 1) % 4 = 0
    · exact (congrFun (carry_A m c ⟨n + 1, hn⟩ h0) y).trans (start m c ⟨n + 1, hn⟩ h0 y)
    · exact (congrFun (carry_B m c ⟨n + 1, hn⟩ h0 h3) y).trans (grow m c n h0 hn _ (carried n (Nat.lt_of_succ_lt hn) (by omega)) y)

theorem ends (n : ℕ) (hn : n + 1 < cfg0.N) (h3 : (n + 1) % 4 = 3) (y : S1024x1024.Idx) :
    ((outsAt0 m c (n + 1) hn).1 y : EReal) = upTo m c (n + 1) y :=
  (congrFun (carry_C m c ⟨n + 1, hn⟩ h3) y).trans ((pay4_at _ y).trans
    (grow m c n (by omega) hn _ (carried m c n (Nat.lt_of_succ_lt hn) (by omega)) y))

theorem leaves (t : Fin cfg0.N) (h3 : t.val % 4 = 3) (y : S1024x1024.Idx) : ((outsAt0 m c t.val t.isLt).1 y : EReal)
    = ∑ s ∈ Finset.range 4096, term m c (y 0).val (t.val / 4 * 1024 + (y 1).val) s := by
  have h : ∀ (n : ℕ) (hn : n < cfg0.N), n % 4 = 3 → ((outsAt0 m c n hn).1 y : EReal) = upTo m c n y := by
    intro n hn h3
    cases n with
    | zero => exact absurd h3 (by decide)
    | succ n => exact ends m c n hn h3 y
  refine (h t.val t.isLt h3).trans ?_
  unfold upTo
  rw [h3]

/-- What the result array ends holding. -/
def G (x : S1024x3072.Idx) : EReal := ∑ s ∈ Finset.range 4096, term m c (x 0).val (x 1).val s

theorem final : ((dats m 0 c).arrAt 2 cfg0.N : S1024x3072.Idx → EReal) = G m c := by
  funext x
  refine Dat.arrAt_forall_of_covers (dats m 0 c) 2 (fun x v => v = G m c x) (by decide +kernel) (fun t ht y => ?_) x
  blk_simp
  rw [after0_2]
  refine (leaves m c t (flush2 t ht) y).trans ?_
  unfold G
  rw [emb2_0, emb2_1, Nat.zero_mul, Nat.zero_add]

end Cert.DInIdeal.Hand

namespace Cert.DInPlainIdeal.Hand

open Cert.DInPlainIdeal Cert.DInPlainIdeal.Gen Cert.Product
open Idealize.ShloMosaic Idealize.ShloMosaic.TcCoe Idealize.ShloMosaic.Tactic
open Idealize.SL Idealize.SL.Sem

theorem plain (d : FVec Ideal S4096x3072 .f32) (x : FVec Ideal S4096x1024 .f32) (i : S1024x3072.Idx) :
    (truncf .bf16 (transpose S1024x3072 [1, 0] (Host.dotGeneral dot_S4096x3072_S4096x1024_S3072x1024_0_0_1_1_n_n none d x) transposes_S3072x1024_S1024x3072_1_0) bitsLt_bf16_f32 i : EReal)
      = ∑ s ∈ Finset.range 4096, entry (M := 4096) (N := 1024) x s (i 0).val * entry (M := 4096) (N := 3072) d s (i 1).val := by
  have h : (truncf .bf16 (transpose S1024x3072 [1, 0] (Host.dotGeneral dot_S4096x3072_S4096x1024_S3072x1024_0_0_1_1_n_n none d x) transposes_S3072x1024_S1024x3072_1_0) bitsLt_bf16_f32 (ix2 (i 0) (i 1)) : EReal)
      = ∑ k : Fin 4096, (d (ix2 k (i 1)) : EReal) * x (ix2 k (i 0)) := by
    pointwise
  refine (congrArg _ (eq_ix2 i)).trans (h.trans ?_)
  rw [Finset.sum_range]
  refine Finset.sum_congr rfl fun k _ => ?_
  rw [mul_comm]
  exact congrArg₂ (· * ·) (entry_ix2 x k (i 0)) (entry_ix2 d k (i 1))

end Cert.DInPlainIdeal.Hand

namespace Cert.DInIdeal.Hand

open Idealize.ShloMosaic Idealize.ShloMosaic.TcCoe
open Idealize.SL Idealize.SL.Sem

/-- The kernel's product and the plain gradient end with the same values. -/
theorem same : Cert.algebraic_DInIdeal_DInPlainIdeal := by
  intro m g m' g' _ hm
  refine ⟨fun c => G m c, ?_, ?_⟩
  · refine (θ_run _ _ _).mono (fun r h c => ⟨(h c).1.trans (final m c), (h c).2⟩) (Value.run_blocks m g)
  · refine (θ_run _ _ _).mono (fun r h c => ⟨(h c).1.trans ?_, (h c).2⟩) (Cert.DInPlainIdeal.Value.run m' g')
    funext i
    rw [(hm c).1, (hm c).2.2]
    exact Cert.DInPlainIdeal.Hand.plain _ _ i

end Cert.DInIdeal.Hand

end
-- ==== Proof.Glu.lean ====
/-
  Hand-written, untrusted. The product in front of the gate of the state-space branch: what the kernel leaves is the plain product.
-/
module

public import proofs.«01_k».proof.Proof.Product
public import proofs.«01_k».proof.Proof.Gen.GluIdeal.Value
public import proofs.«01_k».proof.Proof.Gen.GluPlainIdeal.Run
public import proofs.«01_k».proof.Proof.Gen.Glu.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.GluIdeal.Hand

open Cert.GluIdeal Cert.GluIdeal.Gen Cert.Product
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD)

theorem pay (a : FVec Ideal S1024x512 .bf16) (b : FVec Ideal S512x1024 .bf16) (i : Fin 1024) (j : Fin 1024) :
    k0_pay1 (F := Ideal) a b (ix2 i j) = ∑ k : Fin 512, a (ix2 i k) * b (ix2 k j) := by
  pointwise [k0_pay1]

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- The arrays the product is taken of are the arguments: rounding keeps an ideal value. -/
theorem left_arg : (V m c main_v0 : S4096x512.Idx → EReal) = m ((c : Thread nD τ).loc main_arg0) := by
  show StableHlo.after hostOps0 (fun b => m (c, b)) (Proc.devRef .tc main_v0) = _
  after_results_simp
  rfl
theorem right_arg : (V m c main_v1 : S512x1024.Idx → EReal) = m ((c : Thread nD τ).loc main_arg1) := by
  show StableHlo.after hostOps0 (fun b => m (c, b)) (Proc.devRef .tc main_v1) = _
  after_results_simp
  rfl

abbrev X : ℕ → ℕ → EReal := entry (M := 4096) (N := 512) (m ((c : Thread nD τ).loc main_arg0))
abbrev Y : ℕ → ℕ → EReal := entry (M := 512) (N := 1024) (m ((c : Thread nD τ).loc main_arg1))

theorem emb0_0 (t : Fin cfg0.N) (y : S1024x512.Idx) : (((win0_0.blk t).view.emb y 0 : Fin 4096) : ℕ) = t.val * 1024 + (y 0 : ℕ) := by
  blk_simp [index0]
  all_goals rfl
theorem emb0_1 (t : Fin cfg0.N) (y : S1024x512.Idx) : (((win0_0.blk t).view.emb y 1 : Fin 512) : ℕ) = 0 * 512 + (y 1 : ℕ) := by
  blk_simp [index0]
  all_goals rfl
theorem emb1_0 (t : Fin cfg0.N) (y : S512x1024.Idx) : (((win0_1.blk t).view.emb y 0 : Fin 512) : ℕ) = 0 * 512 + (y 0 : ℕ) := by
  blk_simp [index1]
  all_goals rfl
theorem emb1_1 (t : Fin cfg0.N) (y : S512x1024.Idx) : (((win0_1.blk t).view.emb y 1 : Fin 1024) : ℕ) = 0 * 1024 + (y 1 : ℕ) := by
  blk_simp [index1]
  all_goals rfl
theorem emb2_0 (t : Fin cfg0.N) (y : ((cfg0.win 2).xblock (cfg0.grid.coords t)).Idx) : (((win0_2.blk t).view.emb y 0 : Fin 4096) : ℕ) = t.val * 1024 + (y 0 : ℕ) := by
  blk_simp [index2]
  all_goals rfl
theorem emb2_1 (t : Fin cfg0.N) (y : ((cfg0.win 2).xblock (cfg0.grid.coords t)).Idx) : (((win0_2.blk t).view.emb y 1 : Fin 1024) : ℕ) = 0 * 1024 + (y 1 : ℕ) := by
  blk_simp [index2]
  all_goals rfl

theorem block0 (t : Fin cfg0.N) (y : S1024x512.Idx) : (iblk m c 0 t : S1024x512.Idx → EReal) y = X m c (t.val * 1024 + (y 0).val) (y 1).val := by
  refine (entry_at (M := 4096) (N := 512) (V m c main_v0) ((win0_0.blk t).view.emb y)).trans ?_
  rw [left_arg, emb0_0, emb0_1, Nat.zero_mul, Nat.zero_add]
theorem block1 (t : Fin cfg0.N) (y : S512x1024.Idx) : (iblk m c 1 t : S512x1024.Idx → EReal) y = Y m c (y 0).val (y 1).val := by
  refine (entry_at (M := 512) (N := 1024) (V m c main_v1) ((win0_1.blk t).view.emb y)).trans ?_
  rw [right_arg, emb1_0, emb1_1]
  simp only [Nat.zero_mul, Nat.zero_add]

theorem leaves (t : Fin cfg0.N) (y : S1024x1024.Idx) : (out0_2 (iblk m c 0 t) (iblk m c 1 t) : S1024x1024.Idx → EReal) y
    = ∑ k : Fin 512, X m c (t.val * 1024 + (y 0).val) k * Y m c k (y 1).val := by
  unfold out0_2 r0_0 r0_1 r0_2
  rw [View.canon_unit_zero zero_off, View.ld_unit_zero zero_off, View.ld_unit_zero zero_off]
  refine (congrArg _ (eq_ix2 y)).trans ((pay _ _ (y 0) (y 1)).trans (Finset.sum_congr rfl fun k _ => ?_))
  exact congrArg₂ (· * ·) (block0 m c t _) (block1 m c t _)

/-- What the result array ends holding. -/
def G (x : S4096x1024.Idx) : EReal := ∑ k : Fin 512, X m c (x 0).val k * Y m c k (x 1).val

theorem final : ((dats m 0 c).arrAt 2 cfg0.N : S4096x1024.Idx → EReal) = G m c := by
  funext x
  refine Dat.arrAt_forall_of_covers (dats m 0 c) 2 (fun x v => v = G m c x) (by decide +kernel) (fun t ht y => ?_) x
  blk_simp
  rw [after0_2]
  refine (leaves m c t y).trans ?_
  unfold G
  rw [emb2_0, emb2_1, Nat.zero_mul, Nat.zero_add]

end Cert.GluIdeal.Hand

namespace Cert.GluPlainIdeal.Hand

open Cert.GluPlainIdeal Cert.Product
open Idealize.ShloMosaic Idealize.ShloMosaic.TcCoe Idealize.ShloMosaic.Tactic
open Idealize.SL Idealize.SL.Sem

theorem plain (x : FVec Ideal S4096x512 .f32) (w : FVec Ideal S512x1024 .f32) (i : S4096x1024.Idx) :
    Host.dotGeneral dot_S4096x512_S512x1024_S4096x1024_1_0_0_1_n_n none x w i
      = ∑ k : Fin 512, entry (M := 4096) (N := 512) x (i 0).val k * entry (M := 512) (N := 1024) w k (i 1).val := by
  have h : Host.dotGeneral dot_S4096x512_S512x1024_S4096x1024_1_0_0_1_n_n none x w (ix2 (i 0) (i 1))
      = ∑ k : Fin 512, x (ix2 (i 0) k) * w (ix2 k (i 1)) := by
    pointwise
  refine (congrArg _ (eq_ix2 i)).trans (h.trans (Finset.sum_congr rfl fun k _ => ?_))
  exact congrArg₂ (· * ·) (entry_ix2 x (i 0) k) (entry_ix2 w k (i 1))

end Cert.GluPlainIdeal.Hand

namespace Cert.GluIdeal.Hand

open Idealize.ShloMosaic Idealize.ShloMosaic.TcCoe
open Idealize.SL Idealize.SL.Sem

/-- The kernel's product and the plain one end with the same values. -/
theorem same : Cert.algebraic_GluIdeal_GluPlainIdeal := by
  intro m g m' g' _ hm
  refine ⟨fun c => G m c, ?_, ?_⟩
  · refine (θ_run _ _ _).mono (fun r h c => ⟨(h c).1.trans (final m c), (h c).2⟩) (Value.run_blocks m g)
  · refine (θ_run _ _ _).mono (fun r h c => ⟨(h c).1.trans ?_, (h c).2⟩) (Cert.GluPlainIdeal.Value.run m' g')
    funext i
    rw [(hm c).1, (hm c).2]
    exact Cert.GluPlainIdeal.Hand.plain _ _ i

end Cert.GluIdeal.Hand

end
-- ==== Proof.PleProj.lean ====
/-
  Hand-written, untrusted. The product that projects the per-layer embedding: what the kernel leaves is the plain product.
-/
module

public import proofs.«01_k».proof.Proof.Product
public import proofs.«01_k».proof.Proof.Gen.PleProjIdeal.Value
public import proofs.«01_k».proof.Proof.Gen.PleProjPlainIdeal.Run
public import proofs.«01_k».proof.Proof.Gen.PleProj.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.PleProjIdeal.Hand

open Cert.PleProjIdeal Cert.PleProjIdeal.Gen Cert.Product
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD)

theorem pay (a : FVec Ideal S1024x256 .f32) (b : FVec Ideal S256x1024 .bf16) (i : Fin 1024) (j : Fin 1024) :
    k0_pay1 (F := Ideal) a b (ix2 i j) = ∑ k : Fin 256, a (ix2 i k) * b (ix2 k j) := by
  pointwise [k0_pay1]

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- The arrays the product is taken of are the arguments: rounding keeps an ideal value. -/
theorem left_arg : (V m c main_arg0 : S4096x256.Idx → EReal) = m ((c : Thread nD τ).loc main_arg0) := V_main_arg0 m c
theorem right_arg : (V m c main_v0 : S256x1024.Idx → EReal) = m ((c : Thread nD τ).loc main_arg1) := by
  show StableHlo.after hostOps0 (fun b => m (c, b)) (Proc.devRef .tc main_v0) = _
  after_results_simp
  rfl

abbrev X : ℕ → ℕ → EReal := entry (M := 4096) (N := 256) (m ((c : Thread nD τ).loc main_arg0))
abbrev Y : ℕ → ℕ → EReal := entry (M := 256) (N := 1024) (m ((c : Thread nD τ).loc main_arg1))

theorem emb0_0 (t : Fin cfg0.N) (y : S1024x256.Idx) : (((win0_0.blk t).view.emb y 0 : Fin 4096) : ℕ) = t.val * 1024 + (y 0 : ℕ) := by
  blk_simp [index0]
  all_goals rfl
theorem emb0_1 (t : Fin cfg0.N) (y : S1024x256.Idx) : (((win0_0.blk t).view.emb y 1 : Fin 256) : ℕ) = 0 * 256 + (y 1 : ℕ) := by
  blk_simp [index0]
  all_goals rfl
theorem emb1_0 (t : Fin cfg0.N) (y : S256x1024.Idx) : (((win0_1.blk t).view.emb y 0 : Fin 256) : ℕ) = 0 * 256 + (y 0 : ℕ) := by
  blk_simp [index1]
  all_goals rfl
theorem emb1_1 (t : Fin cfg0.N) (y : S256x1024.Idx) : (((win0_1.blk t).view.emb y 1 : Fin 1024) : ℕ) = 0 * 1024 + (y 1 : ℕ) := by
  blk_simp [index1]
  all_goals rfl
theorem emb2_0 (t : Fin cfg0.N) (y : ((cfg0.win 2).xblock (cfg0.grid.coords t)).Idx) : (((win0_2.blk t).view.emb y 0 : Fin 4096) : ℕ) = t.val * 1024 + (y 0 : ℕ) := by
  blk_simp [index2]
  all_goals rfl
theorem emb2_1 (t : Fin cfg0.N) (y : ((cfg0.win 2).xblock (cfg0.grid.coords t)).Idx) : (((win0_2.blk t).view.emb y 1 : Fin 1024) : ℕ) = 0 * 1024 + (y 1 : ℕ) := by
  blk_simp [index2]
  all_goals rfl

theorem block0 (t : Fin cfg0.N) (y : S1024x256.Idx) : (iblk m c 0 t : S1024x256.Idx → EReal) y = X m c (t.val * 1024 + (y 0).val) (y 1).val := by
  refine (entry_at (M := 4096) (N := 256) (V m c main_arg0) ((win0_0.blk t).view.emb y)).trans ?_
  rw [left_arg, emb0_0, emb0_1, Nat.zero_mul, Nat.zero_add]
theorem block1 (t : Fin cfg0.N) (y : S256x1024.Idx) : (iblk m c 1 t : S256x1024.Idx → EReal) y = Y m c (y 0).val (y 1).val := by
  refine (entry_at (M := 256) (N := 1024) (V m c main_v0) ((win0_1.blk t).view.emb y)).trans ?_
  rw [right_arg, emb1_0, emb1_1]
  simp only [Nat.zero_mul, Nat.zero_add]

theorem leaves (t : Fin cfg0.N) (y : S1024x1024.Idx) : (out0_2 (iblk m c 0 t) (iblk m c 1 t) : S1024x1024.Idx → EReal) y
    = ∑ k : Fin 256, X m c (t.val * 1024 + (y 0).val) k * Y m c k (y 1).val := by
  unfold out0_2 r0_0 r0_1 r0_2
  rw [View.canon_unit_zero zero_off, View.ld_unit_zero zero_off, View.ld_unit_zero zero_off]
  refine (congrArg _ (eq_ix2 y)).trans ((pay _ _ (y 0) (y 1)).trans (Finset.sum_congr rfl fun k _ => ?_))
  exact congrArg₂ (· * ·) (block0 m c t _) (block1 m c t _)

/-- What the result array ends holding. -/
def G (x : S4096x1024.Idx) : EReal := ∑ k : Fin 256, X m c (x 0).val k * Y m c k (x 1).val

theorem final : ((dats m 0 c).arrAt 2 cfg0.N : S4096x1024.Idx → EReal) = G m c := by
  funext x
  refine Dat.arrAt_forall_of_covers (dats m 0 c) 2 (fun x v => v = G m c x) (by decide +kernel) (fun t ht y => ?_) x
  blk_simp
  rw [after0_2]
  refine (leaves m c t y).trans ?_
  unfold G
  rw [emb2_0, emb2_1, Nat.zero_mul, Nat.zero_add]

end Cert.PleProjIdeal.Hand

namespace Cert.PleProjPlainIdeal.Hand

open Cert.PleProjPlainIdeal Cert.Product
open Idealize.ShloMosaic Idealize.ShloMosaic.TcCoe Idealize.ShloMosaic.Tactic
open Idealize.SL Idealize.SL.Sem

theorem plain (x : FVec Ideal S4096x256 .f32) (w : FVec Ideal S256x1024 .f32) (i : S4096x1024.Idx) :
    Host.dotGeneral dot_S4096x256_S256x1024_S4096x1024_1_0_0_1_n_n none x w i
      = ∑ k : Fin 256, entry (M := 4096) (N := 256) x (i 0).val k * entry (M := 256) (N := 1024) w k (i 1).val := by
  have h : Host.dotGeneral dot_S4096x256_S256x1024_S4096x1024_1_0_0_1_n_n none x w (ix2 (i 0) (i 1))
      = ∑ k : Fin 256, x (ix2 (i 0) k) * w (ix2 k (i 1)) := by
    pointwise
  refine (congrArg _ (eq_ix2 i)).trans (h.trans (Finset.sum_congr rfl fun k _ => ?_))
  exact congrArg₂ (· * ·) (entry_ix2 x (i 0) k) (entry_ix2 w k (i 1))

end Cert.PleProjPlainIdeal.Hand

namespace Cert.PleProjIdeal.Hand

open Idealize.ShloMosaic Idealize.ShloMosaic.TcCoe
open Idealize.SL Idealize.SL.Sem

/-- The kernel's product and the plain one end with the same values. -/
theorem same : Cert.algebraic_PleProjIdeal_PleProjPlainIdeal := by
  intro m g m' g' _ hm
  refine ⟨fun c => G m c, ?_, ?_⟩
  · refine (θ_run _ _ _).mono (fun r h c => ⟨(h c).1.trans (final m c), (h c).2⟩) (Value.run_blocks m g)
  · refine (θ_run _ _ _).mono (fun r h c => ⟨(h c).1.trans ?_, (h c).2⟩) (Cert.PleProjPlainIdeal.Value.run m' g')
    funext i
    rw [(hm c).1, (hm c).2]
    exact Cert.PleProjPlainIdeal.Hand.plain _ _ i

end Cert.PleProjIdeal.Hand

end
-- ==== Proof.DPleGate.lean ====
/-
  Hand-written, untrusted. The gradient of the weights of the per-layer gate: what the kernel leaves is the plain gradient.
-/
module

public import proofs.«01_k».proof.Proof.Product
public import proofs.«01_k».proof.Proof.Gen.DPleGateIdeal.Value
public import proofs.«01_k».proof.Proof.Gen.DPleGatePlainIdeal.Run
public import proofs.«01_k».proof.Proof.Gen.DPleGate.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.DPleGateIdeal.Hand

open Cert.DPleGateIdeal Cert.DPleGateIdeal.Gen Cert.Product
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD)

theorem pay (a : FVec Ideal S1024x1024 .bf16) (b : FVec Ideal S1024x1024 .bf16) (i : Fin 1024) (j : Fin 1024) :
    k0_pay1 (F := Ideal) a b (ix2 i j) = ∑ k : Fin 1024, a (ix2 k i) * b (ix2 k j) := by
  pointwise [k0_pay1]

section
variable (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x1024 .bf16) (x1 : Vec Ideal S1024x1024 .bf16) (xs0 : Vec Ideal S1024x1024 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0 kernelRun0_A
  refine (store_whole VS0_0 _ zero_off _ _).trans ?_
  exact congrArg₂ k0_pay2 (load_whole harg3 zero_off _ x0) (load_whole harg4 zero_off _ x1)
theorem next (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0 kernelRun0_B
  refine (store_whole VS0_0 _ zero_off _ _).trans ?_
  exact congr (congrArg₂ k0_pay3 (load_whole harg3 zero_off _ x0) (load_whole harg4 zero_off _ x1)) (load_whole harg6 zero_off _ xs0)
theorem last (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2 kernelRun0_C
  refine (store_whole VO0_2 _ zero_off _ _).trans (congrArg k0_pay4 ?_)
  unfold kernelRun0_C.sl.v14 kernelRun0_C.sl.HS0_1
  refine (View.readCov_unit_zero _ zero_off _ _).trans ?_
  exact congr (congrArg₂ k0_pay3 (load_whole harg3 zero_off _ x0) (load_whole harg4 zero_off _ x1)) (load_whole harg6 zero_off _ xs0)
end

theorem count : cfg0.N = 4 := by decide +kernel
theorem index0 : ∀ t : Fin cfg0.N, win0_0.index t = ![t.val % 4, 0] := by decide +kernel
theorem index1 : ∀ t : Fin cfg0.N, win0_1.index t = ![t.val % 4, t.val / 4] := by decide +kernel
theorem index2 : ∀ t : Fin cfg0.N, win0_2.index t = ![0, t.val / 4] := by decide +kernel
theorem flush2 : ∀ t : Fin cfg0.N, (cfg0.win 2).flush t = true → t.val % 4 = 3 := by decide +kernel

/-- The arrays the product is taken of are the arguments: rounding keeps an ideal value. -/
theorem left_arg : (V m c main_v0 : S4096x1024.Idx → EReal) = m ((c : Thread nD τ).loc main_arg0) := by
  show StableHlo.after hostOps0 (fun b => m (c, b)) (Proc.devRef .tc main_v0) = _
  after_results_simp
  rfl
theorem right_arg : (V m c main_v1 : S4096x1024.Idx → EReal) = m ((c : Thread nD τ).loc main_arg2) := by
  show StableHlo.after hostOps0 (fun b => m (c, b)) (Proc.devRef .tc main_v1) = _
  after_results_simp
  rfl

abbrev X : ℕ → ℕ → EReal := entry (M := 4096) (N := 1024) (m ((c : Thread nD τ).loc main_arg0))
abbrev Y : ℕ → ℕ → EReal := entry (M := 4096) (N := 1024) (m ((c : Thread nD τ).loc main_arg2))

theorem emb0_0 (t : Fin cfg0.N) (y : S1024x1024.Idx) : (((win0_0.blk t).view.emb y 0 : Fin 4096) : ℕ) = t.val % 4 * 1024 + (y 0 : ℕ) := by
  blk_simp [index0]
  all_goals rfl
theorem emb0_1 (t : Fin cfg0.N) (y : S1024x1024.Idx) : (((win0_0.blk t).view.emb y 1 : Fin 1024) : ℕ) = 0 * 1024 + (y 1 : ℕ) := by
  blk_simp [index0]
  all_goals rfl
theorem emb1_0 (t : Fin cfg0.N) (y : S1024x1024.Idx) : (((win0_1.blk t).view.emb y 0 : Fin 4096) : ℕ) = t.val % 4 * 1024 + (y 0 : ℕ) := by
  blk_simp [index1]
  all_goals rfl
theorem emb1_1 (t : Fin cfg0.N) (y : S1024x1024.Idx) : (((win0_1.blk t).view.emb y 1 : Fin 1024) : ℕ) = t.val / 4 * 1024 + (y 1 : ℕ) := by
  blk_simp [index1]
  all_goals rfl
theorem emb2_0 (t : Fin cfg0.N) (y : ((cfg0.win 2).xblock (cfg0.grid.coords t)).Idx) : (((win0_2.blk t).view.emb y 0 : Fin 1024) : ℕ) = 0 * 1024 + (y 0 : ℕ) := by
  blk_simp [index2]
  all_goals rfl
theorem emb2_1 (t : Fin cfg0.N) (y : ((cfg0.win 2).xblock (cfg0.grid.coords t)).Idx) : (((win0_2.blk t).view.emb y 1 : Fin 1024) : ℕ) = t.val / 4 * 1024 + (y 1 : ℕ) := by
  blk_simp [index2]
  all_goals rfl

theorem block0 (t : Fin cfg0.N) (y : S1024x1024.Idx) : (iblk m c 0 t : S1024x1024.Idx → EReal) y = X m c (t.val % 4 * 1024 + (y 0).val) (y 1).val := by
  refine (entry_at (M := 4096) (N := 1024) (V m c main_v0) ((win0_0.blk t).view.emb y)).trans ?_
  rw [left_arg, emb0_0, emb0_1, Nat.zero_mul, Nat.zero_add]
theorem block1 (t : Fin cfg0.N) (y : S1024x1024.Idx) : (iblk m c 1 t : S1024x1024.Idx → EReal) y = Y m c (t.val % 4 * 1024 + (y 0).val) (t.val / 4 * 1024 + (y 1).val) := by
  refine (entry_at (M := 4096) (N := 1024) (V m c main_v1) ((win0_1.blk t).view.emb y)).trans ?_
  rw [right_arg, emb1_0, emb1_1]

/-- The terms of one entry of the product. -/
abbrev term (a b : ℕ) (s : ℕ) : EReal := X m c s a * Y m c s b

theorem piece (t : Fin cfg0.N) (y : S1024x1024.Idx) : (k0_pay1 (iblk m c 0 t) (iblk m c 1 t) : S1024x1024.Idx → EReal) y
    = ∑ k : Fin 1024, term m c (y 0).val (t.val / 4 * 1024 + (y 1).val) (t.val % 4 * 1024 + k) :=
  (congrArg _ (eq_ix2 y)).trans ((pay _ _ (y 0) (y 1)).trans (Finset.sum_congr rfl fun k _ =>
    congrArg₂ (· * ·) (block0 m c t (ix2 k (y 0))) (block1 m c t (ix2 k (y 1)))))

theorem pay2_at (a : FVec Ideal S1024x1024 .bf16) (b : FVec Ideal S1024x1024 .bf16) (y : S1024x1024.Idx) :
    k0_pay2 (F := Ideal) a b y = k0_pay1 a b y := by
  pointwise [k0_pay2]
theorem pay3_at (a : FVec Ideal S1024x1024 .bf16) (b : FVec Ideal S1024x1024 .bf16) (x : FVec Ideal S1024x1024 .f32) (y : S1024x1024.Idx) :
    (k0_pay3 (F := Ideal) a b x y : EReal) = (x y : EReal) + k0_pay1 a b y := by
  pointwise [k0_pay3]
theorem pay4_at (x : FVec Ideal S1024x1024 .f32) (y : S1024x1024.Idx) : (k0_pay4 (F := Ideal) x y : EReal) = x y := rfl

/-- The sum so far of one entry. -/
abbrev upTo (n : ℕ) (y : S1024x1024.Idx) : EReal :=
  ∑ s ∈ Finset.range ((n % 4 + 1) * 1024), term m c (y 0).val (n / 4 * 1024 + (y 1).val) s

theorem grow (n : ℕ) (h : ¬ (n + 1) % 4 = 0) (hn : n + 1 < cfg0.N) (x : FVec Ideal S1024x1024 .f32) (hx : ∀ y, (x y : EReal) = upTo m c n y) (y : S1024x1024.Idx) :
    (k0_pay3 (F := Ideal) (iblk m c 0 ⟨n + 1, hn⟩) (iblk m c 1 ⟨n + 1, hn⟩) x y : EReal) = upTo m c (n + 1) y := by
  refine (pay3_at _ _ x y).trans ?_
  rw [hx y, piece]
  unfold upTo
  dsimp only
  rw [show (n + 1) % 4 = n % 4 + 1 by omega, show (n + 1) / 4 = n / 4 by omega]
  exact (sum_block _ _ _).symm

theorem carry_A (t : Fin cfg0.N) (h0 : t.val % 4 = 0) : (outsAt0 m c t.val t.isLt).2 = k0_pay2 (iblk m c 0 t) (iblk m c 1 t) := by
  have e := outsAt0_A m c t h0 (by have h := t.isLt; have e := count; omega) (by omega)
  generalize outsAt0 m c t.val t.isLt = z at e ⊢
  subst e
  dsimp only
  rw [first]
theorem carry_B (t : Fin cfg0.N) (h0 : ¬ t.val % 4 = 0) (h3 : ¬ t.val % 4 = 3) :
    (outsAt0 m c t.val t.isLt).2 = k0_pay3 (iblk m c 0 t) (iblk m c 1 t) (outsAt0 m c (t.val - 1) (Nat.lt_of_le_of_lt (Nat.sub_le _ _) t.isLt)).2 := by
  have e := outsAt0_B m c t h0 (by omega) h3
  generalize outsAt0 m c t.val t.isLt = z at e ⊢
  subst e
  dsimp only
  rw [next]
theorem carry_C (t : Fin cfg0.N) (h3 : t.val % 4 = 3) :
    (outsAt0 m c t.val t.isLt).1 = k0_pay4 (k0_pay3 (iblk m c 0 t) (iblk m c 1 t) (outsAt0 m c (t.val - 1) (Nat.lt_of_le_of_lt (Nat.sub_le _ _) t.isLt)).2) := by
  have e := outsAt0_C m c t (by omega) (by omega) h3
  generalize outsAt0 m c t.val t.isLt = z at e ⊢
  subst e
  dsimp only
  rw [last]

theorem start (t : Fin cfg0.N) (h0 : t.val % 4 = 0) (y : S1024x1024.Idx) : (k0_pay2 (F := Ideal) (iblk m c 0 t) (iblk m c 1 t) y : EReal) = upTo m c t.val y := by
  refine (pay2_at _ _ y).trans ((piece m c t y).trans ?_)
  unfold upTo
  rw [h0, Nat.zero_add, sum_first]
  refine Finset.sum_congr rfl fun k _ => ?_
  rw [Nat.zero_mul, Nat.zero_add]

theorem carried : ∀ (n : ℕ) (hn : n < cfg0.N), ¬ n % 4 = 3 → ∀ y, ((outsAt0 m c n hn).2 y : EReal) = upTo m c n y
  | 0, hn, h3, y => (congrFun (carry_A m c ⟨0, hn⟩ rfl) y).trans (start m c ⟨0, hn⟩ rfl y)
  | n + 1, hn, h3, y => by
    by_cases h0 : (n + 1) % 4 = 0
    · exact (congrFun (carry_A m c ⟨n + 1, hn⟩ h0) y).trans (start m c ⟨n + 1, hn⟩ h0 y)
    · exact (congrFun (carry_B m c ⟨n + 1, hn⟩ h0 h3) y).trans (grow m c n h0 hn _ (carried n (Nat.lt_of_succ_lt hn) (by omega)) y)

theorem ends (n : ℕ) (hn : n + 1 < cfg0.N) (h3 : (n + 1) % 4 = 3) (y : S1024x1024.Idx) :
    ((outsAt0 m c (n + 1) hn).1 y : EReal) = upTo m c (n + 1) y :=
  (congrFun (carry_C m c ⟨n + 1, hn⟩ h3) y).trans ((pay4_at _ y).trans
    (grow m c n (by omega) hn _ (carried m c n (Nat.lt_of_succ_lt hn) (by omega)) y))

theorem leaves (t : Fin cfg0.N) (h3 : t.val % 4 = 3) (y : S1024x1024.Idx) : ((outsAt0 m c t.val t.isLt).1 y : EReal)
    = ∑ s ∈ Finset.range 4096, term m c (y 0).val (t.val / 4 * 1024 + (y 1).val) s := by
  have h : ∀ (n : ℕ) (hn : n < cfg0.N), n % 4 = 3 → ((outsAt0 m c n hn).1 y : EReal) = upTo m c n y := by
    intro n hn h3
    cases n with
    | zero => exact absurd h3 (by decide)
    | succ n => exact ends m c n hn h3 y
  refine (h t.val t.isLt h3).trans ?_
  unfold upTo
  rw [h3]

/-- What the result array ends holding. -/
def G (x : S1024x1024.Idx) : EReal := ∑ s ∈ Finset.range 4096, term m c (x 0).val (x 1).val s

theorem final : ((dats m 0 c).arrAt 2 cfg0.N : S1024x1024.Idx → EReal) = G m c := by
  funext x
  refine Dat.arrAt_forall_of_covers (dats m 0 c) 2 (fun x v => v = G m c x) (by decide +kernel) (fun t ht y => ?_) x
  blk_simp
  rw [after0_2]
  refine (leaves m c t (flush2 t ht) y).trans ?_
  unfold G
  rw [emb2_0, emb2_1, Nat.zero_mul, Nat.zero_add]

end Cert.DPleGateIdeal.Hand

namespace Cert.DPleGatePlainIdeal.Hand

open Cert.DPleGatePlainIdeal Cert.DPleGatePlainIdeal.Gen Cert.Product
open Idealize.ShloMosaic Idealize.ShloMosaic.TcCoe Idealize.ShloMosaic.Tactic
open Idealize.SL Idealize.SL.Sem

theorem plain (d : FVec Ideal S4096x1024 .f32) (x : FVec Ideal S4096x1024 .f32) (i : S1024x1024.Idx) :
    (truncf .bf16 (transpose S1024x1024 [1, 0] (Host.dotGeneral dot_S4096x1024_S4096x1024_S1024x1024_0_0_1_1_n_n none d x) transposes_S1024x1024_S1024x1024_1_0) bitsLt_bf16_f32 i : EReal)
      = ∑ s ∈ Finset.range 4096, entry (M := 4096) (N := 1024) x s (i 0).val * entry (M := 4096) (N := 1024) d s (i 1).val := by
  have h : (truncf .bf16 (transpose S1024x1024 [1, 0] (Host.dotGeneral dot_S4096x1024_S4096x1024_S1024x1024_0_0_1_1_n_n none d x) transposes_S1024x1024_S1024x1024_1_0) bitsLt_bf16_f32 (ix2 (i 0) (i 1)) : EReal)
      = ∑ k : Fin 4096, (d (ix2 k (i 1)) : EReal) * x (ix2 k (i 0)) := by
    pointwise
  refine (congrArg _ (eq_ix2 i)).trans (h.trans ?_)
  rw [Finset.sum_range]
  refine Finset.sum_congr rfl fun k _ => ?_
  rw [mul_comm]
  exact congrArg₂ (· * ·) (entry_ix2 x k (i 0)) (entry_ix2 d k (i 1))

end Cert.DPleGatePlainIdeal.Hand

namespace Cert.DPleGateIdeal.Hand

open Idealize.ShloMosaic Idealize.ShloMosaic.TcCoe
open Idealize.SL Idealize.SL.Sem

/-- The kernel's product and the plain gradient end with the same values. -/
theorem same : Cert.algebraic_DPleGateIdeal_DPleGatePlainIdeal := by
  intro m g m' g' _ hm
  refine ⟨fun c => G m c, ?_, ?_⟩
  · refine (θ_run _ _ _).mono (fun r h c => ⟨(h c).1.trans (final m c), (h c).2⟩) (Value.run_blocks m g)
  · refine (θ_run _ _ _).mono (fun r h c => ⟨(h c).1.trans ?_, (h c).2⟩) (Cert.DPleGatePlainIdeal.Value.run m' g')
    funext i
    rw [(hm c).1, (hm c).2.2]
    exact Cert.DPleGatePlainIdeal.Hand.plain _ _ i

end Cert.DPleGateIdeal.Hand

end
-- ==== Proof.DPleProj.lean ====
/-
  Hand-written, untrusted. The gradient of the weights that project the per-layer embedding: what the kernel leaves is the plain gradient.
-/
module

public import proofs.«01_k».proof.Proof.Product
public import proofs.«01_k».proof.Proof.Gen.DPleProjIdeal.Value
public import proofs.«01_k».proof.Proof.Gen.DPleProjPlainIdeal.Run
public import proofs.«01_k».proof.Proof.Gen.DPleProj.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.DPleProjIdeal.Hand

open Cert.DPleProjIdeal Cert.DPleProjIdeal.Gen Cert.Product
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD)

theorem pay (a : FVec Ideal S1024x256 .f32) (b : FVec Ideal S1024x1024 .bf16) (i : Fin 256) (j : Fin 1024) :
    k0_pay1 (F := Ideal) a b (ix2 i j) = ∑ k : Fin 1024, a (ix2 k i) * b (ix2 k j) := by
  pointwise [k0_pay1]

section
variable (i : grid0.Coords) (arg3 : Memref sig .tc .vmem S1024x256 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .f32) (harg6 : arg6.IsWhole)
  (x0 : Vec Ideal S1024x256 .f32) (x1 : Vec Ideal S1024x1024 .bf16) (xs0 : Vec Ideal S256x1024 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0 kernelRun0_A
  refine (store_whole VS0_0 _ zero_off _ _).trans ?_
  exact congrArg₂ k0_pay2 (load_whole harg3 zero_off _ x0) (load_whole harg4 zero_off _ x1)
theorem next (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0 kernelRun0_B
  refine (store_whole VS0_0 _ zero_off _ _).trans ?_
  exact congr (congrArg₂ k0_pay3 (load_whole harg3 zero_off _ x0) (load_whole harg4 zero_off _ x1)) (load_whole harg6 zero_off _ xs0)
theorem last (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2 kernelRun0_C
  refine (store_whole VO0_2 _ zero_off _ _).trans (congrArg k0_pay4 ?_)
  unfold kernelRun0_C.sl.v14 kernelRun0_C.sl.HS0_1
  refine (View.readCov_unit_zero _ zero_off _ _).trans ?_
  exact congr (congrArg₂ k0_pay3 (load_whole harg3 zero_off _ x0) (load_whole harg4 zero_off _ x1)) (load_whole harg6 zero_off _ xs0)
end

theorem count : cfg0.N = 4 := by decide +kernel
theorem index0 : ∀ t : Fin cfg0.N, win0_0.index t = ![t.val % 4, 0] := by decide +kernel
theorem index1 : ∀ t : Fin cfg0.N, win0_1.index t = ![t.val % 4, t.val / 4] := by decide +kernel
theorem index2 : ∀ t : Fin cfg0.N, win0_2.index t = ![0, t.val / 4] := by decide +kernel
theorem flush2 : ∀ t : Fin cfg0.N, (cfg0.win 2).flush t = true → t.val % 4 = 3 := by decide +kernel

/-- The arrays the product is taken of are the arguments: rounding keeps an ideal value. -/
theorem left_arg : (V m c main_arg0 : S4096x256.Idx → EReal) = m ((c : Thread nD τ).loc main_arg0) := V_main_arg0 m c
theorem right_arg : (V m c main_v0 : S4096x1024.Idx → EReal) = m ((c : Thread nD τ).loc main_arg2) := by
  show StableHlo.after hostOps0 (fun b => m (c, b)) (Proc.devRef .tc main_v0) = _
  after_results_simp
  rfl

abbrev X : ℕ → ℕ → EReal := entry (M := 4096) (N := 256) (m ((c : Thread nD τ).loc main_arg0))
abbrev Y : ℕ → ℕ → EReal := entry (M := 4096) (N := 1024) (m ((c : Thread nD τ).loc main_arg2))

theorem emb0_0 (t : Fin cfg0.N) (y : S1024x256.Idx) : (((win0_0.blk t).view.emb y 0 : Fin 4096) : ℕ) = t.val % 4 * 1024 + (y 0 : ℕ) := by
  blk_simp [index0]
  all_goals rfl
theorem emb0_1 (t : Fin cfg0.N) (y : S1024x256.Idx) : (((win0_0.blk t).view.emb y 1 : Fin 256) : ℕ) = 0 * 256 + (y 1 : ℕ) := by
  blk_simp [index0]
  all_goals rfl
theorem emb1_0 (t : Fin cfg0.N) (y : S1024x1024.Idx) : (((win0_1.blk t).view.emb y 0 : Fin 4096) : ℕ) = t.val % 4 * 1024 + (y 0 : ℕ) := by
  blk_simp [index1]
  all_goals rfl
theorem emb1_1 (t : Fin cfg0.N) (y : S1024x1024.Idx) : (((win0_1.blk t).view.emb y 1 : Fin 1024) : ℕ) = t.val / 4 * 1024 + (y 1 : ℕ) := by
  blk_simp [index1]
  all_goals rfl
theorem emb2_0 (t : Fin cfg0.N) (y : ((cfg0.win 2).xblock (cfg0.grid.coords t)).Idx) : (((win0_2.blk t).view.emb y 0 : Fin 256) : ℕ) = 0 * 256 + (y 0 : ℕ) := by
  blk_simp [index2]
  all_goals rfl
theorem emb2_1 (t : Fin cfg0.N) (y : ((cfg0.win 2).xblock (cfg0.grid.coords t)).Idx) : (((win0_2.blk t).view.emb y 1 : Fin 1024) : ℕ) = t.val / 4 * 1024 + (y 1 : ℕ) := by
  blk_simp [index2]
  all_goals rfl

theorem block0 (t : Fin cfg0.N) (y : S1024x256.Idx) : (iblk m c 0 t : S1024x256.Idx → EReal) y = X m c (t.val % 4 * 1024 + (y 0).val) (y 1).val := by
  refine (entry_at (M := 4096) (N := 256) (V m c main_arg0) ((win0_0.blk t).view.emb y)).trans ?_
  rw [left_arg, emb0_0, emb0_1, Nat.zero_mul, Nat.zero_add]
theorem block1 (t : Fin cfg0.N) (y : S1024x1024.Idx) : (iblk m c 1 t : S1024x1024.Idx → EReal) y = Y m c (t.val % 4 * 1024 + (y 0).val) (t.val / 4 * 1024 + (y 1).val) := by
  refine (entry_at (M := 4096) (N := 1024) (V m c main_v0) ((win0_1.blk t).view.emb y)).trans ?_
  rw [right_arg, emb1_0, emb1_1]

/-- The terms of one entry of the product. -/
abbrev term (a b : ℕ) (s : ℕ) : EReal := X m c s a * Y m c s b

theorem piece (t : Fin cfg0.N) (y : S256x1024.Idx) : (k0_pay1 (iblk m c 0 t) (iblk m c 1 t) : S256x1024.Idx → EReal) y
    = ∑ k : Fin 1024, term m c (y 0).val (t.val / 4 * 1024 + (y 1).val) (t.val % 4 * 1024 + k) :=
  (congrArg _ (eq_ix2 y)).trans ((pay _ _ (y 0) (y 1)).trans (Finset.sum_congr rfl fun k _ =>
    congrArg₂ (· * ·) (block0 m c t (ix2 k (y 0))) (block1 m c t (ix2 k (y 1)))))

theorem pay2_at (a : FVec Ideal S1024x256 .f32) (b : FVec Ideal S1024x1024 .bf16) (y : S256x1024.Idx) :
    k0_pay2 (F := Ideal) a b y = k0_pay1 a b y := by
  pointwise [k0_pay2]
theorem pay3_at (a : FVec Ideal S1024x256 .f32) (b : FVec Ideal S1024x1024 .bf16) (x : FVec Ideal S256x1024 .f32) (y : S256x1024.Idx) :
    (k0_pay3 (F := Ideal) a b x y : EReal) = (x y : EReal) + k0_pay1 a b y := by
  pointwise [k0_pay3]
theorem pay4_at (x : FVec Ideal S256x1024 .f32) (y : S256x1024.Idx) : (k0_pay4 (F := Ideal) x y : EReal) = x y := rfl

/-- The sum so far of one entry. -/
abbrev upTo (n : ℕ) (y : S256x1024.Idx) : EReal :=
  ∑ s ∈ Finset.range ((n % 4 + 1) * 1024), term m c (y 0).val (n / 4 * 1024 + (y 1).val) s

theorem grow (n : ℕ) (h : ¬ (n + 1) % 4 = 0) (hn : n + 1 < cfg0.N) (x : FVec Ideal S256x1024 .f32) (hx : ∀ y, (x y : EReal) = upTo m c n y) (y : S256x1024.Idx) :
    (k0_pay3 (F := Ideal) (iblk m c 0 ⟨n + 1, hn⟩) (iblk m c 1 ⟨n + 1, hn⟩) x y : EReal) = upTo m c (n + 1) y := by
  refine (pay3_at _ _ x y).trans ?_
  rw [hx y, piece]
  unfold upTo
  dsimp only
  rw [show (n + 1) % 4 = n % 4 + 1 by omega, show (n + 1) / 4 = n / 4 by omega]
  exact (sum_block _ _ _).symm

theorem carry_A (t : Fin cfg0.N) (h0 : t.val % 4 = 0) : (outsAt0 m c t.val t.isLt).2 = k0_pay2 (iblk m c 0 t) (iblk m c 1 t) := by
  have e := outsAt0_A m c t h0 (by have h := t.isLt; have e := count; omega) (by omega)
  generalize outsAt0 m c t.val t.isLt = z at e ⊢
  subst e
  dsimp only
  rw [first]
theorem carry_B (t : Fin cfg0.N) (h0 : ¬ t.val % 4 = 0) (h3 : ¬ t.val % 4 = 3) :
    (outsAt0 m c t.val t.isLt).2 = k0_pay3 (iblk m c 0 t) (iblk m c 1 t) (outsAt0 m c (t.val - 1) (Nat.lt_of_le_of_lt (Nat.sub_le _ _) t.isLt)).2 := by
  have e := outsAt0_B m c t h0 (by omega) h3
  generalize outsAt0 m c t.val t.isLt = z at e ⊢
  subst e
  dsimp only
  rw [next]
theorem carry_C (t : Fin cfg0.N) (h3 : t.val % 4 = 3) :
    (outsAt0 m c t.val t.isLt).1 = k0_pay4 (k0_pay3 (iblk m c 0 t) (iblk m c 1 t) (outsAt0 m c (t.val - 1) (Nat.lt_of_le_of_lt (Nat.sub_le _ _) t.isLt)).2) := by
  have e := outsAt0_C m c t (by omega) (by omega) h3
  generalize outsAt0 m c t.val t.isLt = z at e ⊢
  subst e
  dsimp only
  rw [last]

theorem start (t : Fin cfg0.N) (h0 : t.val % 4 = 0) (y : S256x1024.Idx) : (k0_pay2 (F := Ideal) (iblk m c 0 t) (iblk m c 1 t) y : EReal) = upTo m c t.val y := by
  refine (pay2_at _ _ y).trans ((piece m c t y).trans ?_)
  unfold upTo
  rw [h0, Nat.zero_add, sum_first]
  refine Finset.sum_congr rfl fun k _ => ?_
  rw [Nat.zero_mul, Nat.zero_add]

theorem carried : ∀ (n : ℕ) (hn : n < cfg0.N), ¬ n % 4 = 3 → ∀ y, ((outsAt0 m c n hn).2 y : EReal) = upTo m c n y
  | 0, hn, h3, y => (congrFun (carry_A m c ⟨0, hn⟩ rfl) y).trans (start m c ⟨0, hn⟩ rfl y)
  | n + 1, hn, h3, y => by
    by_cases h0 : (n + 1) % 4 = 0
    · exact (congrFun (carry_A m c ⟨n + 1, hn⟩ h0) y).trans (start m c ⟨n + 1, hn⟩ h0 y)
    · exact (congrFun (carry_B m c ⟨n + 1, hn⟩ h0 h3) y).trans (grow m c n h0 hn _ (carried n (Nat.lt_of_succ_lt hn) (by omega)) y)

theorem ends (n : ℕ) (hn : n + 1 < cfg0.N) (h3 : (n + 1) % 4 = 3) (y : S256x1024.Idx) :
    ((outsAt0 m c (n + 1) hn).1 y : EReal) = upTo m c (n + 1) y :=
  (congrFun (carry_C m c ⟨n + 1, hn⟩ h3) y).trans ((pay4_at _ y).trans
    (grow m c n (by omega) hn _ (carried m c n (Nat.lt_of_succ_lt hn) (by omega)) y))

theorem leaves (t : Fin cfg0.N) (h3 : t.val % 4 = 3) (y : S256x1024.Idx) : ((outsAt0 m c t.val t.isLt).1 y : EReal)
    = ∑ s ∈ Finset.range 4096, term m c (y 0).val (t.val / 4 * 1024 + (y 1).val) s := by
  have h : ∀ (n : ℕ) (hn : n < cfg0.N), n % 4 = 3 → ((outsAt0 m c n hn).1 y : EReal) = upTo m c n y := by
    intro n hn h3
    cases n with
    | zero => exact absurd h3 (by decide)
    | succ n => exact ends m c n hn h3 y
  refine (h t.val t.isLt h3).trans ?_
  unfold upTo
  rw [h3]

/-- What the result array ends holding. -/
def G (x : S256x1024.Idx) : EReal := ∑ s ∈ Finset.range 4096, term m c (x 0).val (x 1).val s

theorem final : ((dats m 0 c).arrAt 2 cfg0.N : S256x1024.Idx → EReal) = G m c := by
  funext x
  refine Dat.arrAt_forall_of_covers (dats m 0 c) 2 (fun x v => v = G m c x) (by decide +kernel) (fun t ht y => ?_) x
  blk_simp
  rw [after0_2]
  refine (leaves m c t (flush2 t ht) y).trans ?_
  unfold G
  rw [emb2_0, emb2_1, Nat.zero_mul, Nat.zero_add]

end Cert.DPleProjIdeal.Hand

namespace Cert.DPleProjPlainIdeal.Hand

open Cert.DPleProjPlainIdeal Cert.DPleProjPlainIdeal.Gen Cert.Product
open Idealize.ShloMosaic Idealize.ShloMosaic.TcCoe Idealize.ShloMosaic.Tactic
open Idealize.SL Idealize.SL.Sem

theorem plain (d : FVec Ideal S4096x1024 .f32) (x : FVec Ideal S4096x256 .f32) (i : S256x1024.Idx) :
    (truncf .bf16 (transpose S256x1024 [1, 0] (Host.dotGeneral dot_S4096x1024_S4096x256_S1024x256_0_0_1_1_n_n none d x) transposes_S1024x256_S256x1024_1_0) bitsLt_bf16_f32 i : EReal)
      = ∑ s ∈ Finset.range 4096, entry (M := 4096) (N := 256) x s (i 0).val * entry (M := 4096) (N := 1024) d s (i 1).val := by
  have h : (truncf .bf16 (transpose S256x1024 [1, 0] (Host.dotGeneral dot_S4096x1024_S4096x256_S1024x256_0_0_1_1_n_n none d x) transposes_S1024x256_S256x1024_1_0) bitsLt_bf16_f32 (ix2 (i 0) (i 1)) : EReal)
      = ∑ k : Fin 4096, (d (ix2 k (i 1)) : EReal) * x (ix2 k (i 0)) := by
    pointwise
  refine (congrArg _ (eq_ix2 i)).trans (h.trans ?_)
  rw [Finset.sum_range]
  refine Finset.sum_congr rfl fun k _ => ?_
  rw [mul_comm]
  exact congrArg₂ (· * ·) (entry_ix2 x k (i 0)) (entry_ix2 d k (i 1))

end Cert.DPleProjPlainIdeal.Hand

namespace Cert.DPleProjIdeal.Hand

open Idealize.ShloMosaic Idealize.ShloMosaic.TcCoe
open Idealize.SL Idealize.SL.Sem

/-- The kernel's product and the plain gradient end with the same values. -/
theorem same : Cert.algebraic_DPleProjIdeal_DPleProjPlainIdeal := by
  intro m g m' g' _ hm
  refine ⟨fun c => G m c, ?_, ?_⟩
  · refine (θ_run _ _ _).mono (fun r h c => ⟨(h c).1.trans (final m c), (h c).2⟩) (Value.run_blocks m g)
  · refine (θ_run _ _ _).mono (fun r h c => ⟨(h c).1.trans ?_, (h c).2⟩) (Cert.DPleProjPlainIdeal.Value.run m' g')
    funext i
    rw [(hm c).1, (hm c).2.2]
    exact Cert.DPleProjPlainIdeal.Hand.plain _ _ i

end Cert.DPleProjIdeal.Hand

end
-- ==== Proof.DOut.lean ====
/-
  Hand-written, untrusted. The gradient of the output projection: what the kernel leaves is the plain gradient.
-/
module

public import proofs.«01_k».proof.Proof.Product
public import proofs.«01_k».proof.Proof.Gen.DOutIdeal.Value
public import proofs.«01_k».proof.Proof.Gen.DOutPlainIdeal.Run
public import proofs.«01_k».proof.Proof.Gen.DOut.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.DOutIdeal.Hand

open Cert.DOutIdeal Cert.DOutIdeal.Gen Cert.Product
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD)

theorem pay (a : FVec Ideal S1024x1024 .bf16) (b : FVec Ideal S1024x1024 .f32) (i : Fin 1024) (j : Fin 1024) :
    k0_pay1 (F := Ideal) a b (ix2 i j) = ∑ k : Fin 1024, a (ix2 k i) * b (ix2 k j) := by
  pointwise [k0_pay1]

section
variable (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x1024 .bf16) (x1 : Vec Ideal S1024x1024 .f32) (xs0 : Vec Ideal S1024x1024 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0 kernelRun0_A
  refine (store_whole VS0_0 _ zero_off _ _).trans ?_
  exact congrArg₂ k0_pay2 (load_whole harg3 zero_off _ x0) (load_whole harg4 zero_off _ x1)
theorem next (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0 kernelRun0_B
  refine (store_whole VS0_0 _ zero_off _ _).trans ?_
  exact congr (congrArg₂ k0_pay3 (load_whole harg3 zero_off _ x0) (load_whole harg4 zero_off _ x1)) (load_whole harg6 zero_off _ xs0)
theorem last (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2 kernelRun0_C
  refine (store_whole VO0_2 _ zero_off _ _).trans (congrArg k0_pay4 ?_)
  unfold kernelRun0_C.sl.v14 kernelRun0_C.sl.HS0_1
  refine (View.readCov_unit_zero _ zero_off _ _).trans ?_
  exact congr (congrArg₂ k0_pay3 (load_whole harg3 zero_off _ x0) (load_whole harg4 zero_off _ x1)) (load_whole harg6 zero_off _ xs0)
end

theorem count : cfg0.N = 4 := by decide +kernel
theorem index0 : ∀ t : Fin cfg0.N, win0_0.index t = ![t.val % 4, 0] := by decide +kernel
theorem index1 : ∀ t : Fin cfg0.N, win0_1.index t = ![t.val % 4, t.val / 4] := by decide +kernel
theorem index2 : ∀ t : Fin cfg0.N, win0_2.index t = ![0, t.val / 4] := by decide +kernel
theorem flush2 : ∀ t : Fin cfg0.N, (cfg0.win 2).flush t = true → t.val % 4 = 3 := by decide +kernel

/-- The arrays the product is taken of are the arguments: rounding keeps an ideal value. -/
theorem left_arg : (V m c main_v0 : S4096x1024.Idx → EReal) = m ((c : Thread nD τ).loc main_arg0) := by
  show StableHlo.after hostOps0 (fun b => m (c, b)) (Proc.devRef .tc main_v0) = _
  after_results_simp
  rfl
theorem right_arg : (V m c main_arg2 : S4096x1024.Idx → EReal) = m ((c : Thread nD τ).loc main_arg2) := V_main_arg2 m c

abbrev X : ℕ → ℕ → EReal := entry (M := 4096) (N := 1024) (m ((c : Thread nD τ).loc main_arg0))
abbrev Y : ℕ → ℕ → EReal := entry (M := 4096) (N := 1024) (m ((c : Thread nD τ).loc main_arg2))

theorem emb0_0 (t : Fin cfg0.N) (y : S1024x1024.Idx) : (((win0_0.blk t).view.emb y 0 : Fin 4096) : ℕ) = t.val % 4 * 1024 + (y 0 : ℕ) := by
  blk_simp [index0]
  all_goals rfl
theorem emb0_1 (t : Fin cfg0.N) (y : S1024x1024.Idx) : (((win0_0.blk t).view.emb y 1 : Fin 1024) : ℕ) = 0 * 1024 + (y 1 : ℕ) := by
  blk_simp [index0]
  all_goals rfl
theorem emb1_0 (t : Fin cfg0.N) (y : S1024x1024.Idx) : (((win0_1.blk t).view.emb y 0 : Fin 4096) : ℕ) = t.val % 4 * 1024 + (y 0 : ℕ) := by
  blk_simp [index1]
  all_goals rfl
theorem emb1_1 (t : Fin cfg0.N) (y : S1024x1024.Idx) : (((win0_1.blk t).view.emb y 1 : Fin 1024) : ℕ) = t.val / 4 * 1024 + (y 1 : ℕ) := by
  blk_simp [index1]
  all_goals rfl
theorem emb2_0 (t : Fin cfg0.N) (y : ((cfg0.win 2).xblock (cfg0.grid.coords t)).Idx) : (((win0_2.blk t).view.emb y 0 : Fin 1024) : ℕ) = 0 * 1024 + (y 0 : ℕ) := by
  blk_simp [index2]
  all_goals rfl
theorem emb2_1 (t : Fin cfg0.N) (y : ((cfg0.win 2).xblock (cfg0.grid.coords t)).Idx) : (((win0_2.blk t).view.emb y 1 : Fin 1024) : ℕ) = t.val / 4 * 1024 + (y 1 : ℕ) := by
  blk_simp [index2]
  all_goals rfl

theorem block0 (t : Fin cfg0.N) (y : S1024x1024.Idx) : (iblk m c 0 t : S1024x1024.Idx → EReal) y = X m c (t.val % 4 * 1024 + (y 0).val) (y 1).val := by
  refine (entry_at (M := 4096) (N := 1024) (V m c main_v0) ((win0_0.blk t).view.emb y)).trans ?_
  rw [left_arg, emb0_0, emb0_1, Nat.zero_mul, Nat.zero_add]
theorem block1 (t : Fin cfg0.N) (y : S1024x1024.Idx) : (iblk m c 1 t : S1024x1024.Idx → EReal) y = Y m c (t.val % 4 * 1024 + (y 0).val) (t.val / 4 * 1024 + (y 1).val) := by
  refine (entry_at (M := 4096) (N := 1024) (V m c main_arg2) ((win0_1.blk t).view.emb y)).trans ?_
  rw [right_arg, emb1_0, emb1_1]

/-- The terms of one entry of the product. -/
abbrev term (a b : ℕ) (s : ℕ) : EReal := X m c s a * Y m c s b

theorem piece (t : Fin cfg0.N) (y : S1024x1024.Idx) : (k0_pay1 (iblk m c 0 t) (iblk m c 1 t) : S1024x1024.Idx → EReal) y
    = ∑ k : Fin 1024, term m c (y 0).val (t.val / 4 * 1024 + (y 1).val) (t.val % 4 * 1024 + k) :=
  (congrArg _ (eq_ix2 y)).trans ((pay _ _ (y 0) (y 1)).trans (Finset.sum_congr rfl fun k _ =>
    congrArg₂ (· * ·) (block0 m c t (ix2 k (y 0))) (block1 m c t (ix2 k (y 1)))))

theorem pay2_at (a : FVec Ideal S1024x1024 .bf16) (b : FVec Ideal S1024x1024 .f32) (y : S1024x1024.Idx) :
    k0_pay2 (F := Ideal) a b y = k0_pay1 a b y := by
  pointwise [k0_pay2]
theorem pay3_at (a : FVec Ideal S1024x1024 .bf16) (b : FVec Ideal S1024x1024 .f32) (x : FVec Ideal S1024x1024 .f32) (y : S1024x1024.Idx) :
    (k0_pay3 (F := Ideal) a b x y : EReal) = (x y : EReal) + k0_pay1 a b y := by
  pointwise [k0_pay3]
theorem pay4_at (x : FVec Ideal S1024x1024 .f32) (y : S1024x1024.Idx) : (k0_pay4 (F := Ideal) x y : EReal) = x y := rfl

/-- The sum so far of one entry. -/
abbrev upTo (n : ℕ) (y : S1024x1024.Idx) : EReal :=
  ∑ s ∈ Finset.range ((n % 4 + 1) * 1024), term m c (y 0).val (n / 4 * 1024 + (y 1).val) s

theorem grow (n : ℕ) (h : ¬ (n + 1) % 4 = 0) (hn : n + 1 < cfg0.N) (x : FVec Ideal S1024x1024 .f32) (hx : ∀ y, (x y : EReal) = upTo m c n y) (y : S1024x1024.Idx) :
    (k0_pay3 (F := Ideal) (iblk m c 0 ⟨n + 1, hn⟩) (iblk m c 1 ⟨n + 1, hn⟩) x y : EReal) = upTo m c (n + 1) y := by
  refine (pay3_at _ _ x y).trans ?_
  rw [hx y, piece]
  unfold upTo
  dsimp only
  rw [show (n + 1) % 4 = n % 4 + 1 by omega, show (n + 1) / 4 = n / 4 by omega]
  exact (sum_block _ _ _).symm

theorem carry_A (t : Fin cfg0.N) (h0 : t.val % 4 = 0) : (outsAt0 m c t.val t.isLt).2 = k0_pay2 (iblk m c 0 t) (iblk m c 1 t) := by
  have e := outsAt0_A m c t h0 (by have h := t.isLt; have e := count; omega) (by omega)
  generalize outsAt0 m c t.val t.isLt = z at e ⊢
  subst e
  dsimp only
  rw [first]
theorem carry_B (t : Fin cfg0.N) (h0 : ¬ t.val % 4 = 0) (h3 : ¬ t.val % 4 = 3) :
    (outsAt0 m c t.val t.isLt).2 = k0_pay3 (iblk m c 0 t) (iblk m c 1 t) (outsAt0 m c (t.val - 1) (Nat.lt_of_le_of_lt (Nat.sub_le _ _) t.isLt)).2 := by
  have e := outsAt0_B m c t h0 (by omega) h3
  generalize outsAt0 m c t.val t.isLt = z at e ⊢
  subst e
  dsimp only
  rw [next]
theorem carry_C (t : Fin cfg0.N) (h3 : t.val % 4 = 3) :
    (outsAt0 m c t.val t.isLt).1 = k0_pay4 (k0_pay3 (iblk m c 0 t) (iblk m c 1 t) (outsAt0 m c (t.val - 1) (Nat.lt_of_le_of_lt (Nat.sub_le _ _) t.isLt)).2) := by
  have e := outsAt0_C m c t (by omega) (by omega) h3
  generalize outsAt0 m c t.val t.isLt = z at e ⊢
  subst e
  dsimp only
  rw [last]

theorem start (t : Fin cfg0.N) (h0 : t.val % 4 = 0) (y : S1024x1024.Idx) : (k0_pay2 (F := Ideal) (iblk m c 0 t) (iblk m c 1 t) y : EReal) = upTo m c t.val y := by
  refine (pay2_at _ _ y).trans ((piece m c t y).trans ?_)
  unfold upTo
  rw [h0, Nat.zero_add, sum_first]
  refine Finset.sum_congr rfl fun k _ => ?_
  rw [Nat.zero_mul, Nat.zero_add]

theorem carried : ∀ (n : ℕ) (hn : n < cfg0.N), ¬ n % 4 = 3 → ∀ y, ((outsAt0 m c n hn).2 y : EReal) = upTo m c n y
  | 0, hn, h3, y => (congrFun (carry_A m c ⟨0, hn⟩ rfl) y).trans (start m c ⟨0, hn⟩ rfl y)
  | n + 1, hn, h3, y => by
    by_cases h0 : (n + 1) % 4 = 0
    · exact (congrFun (carry_A m c ⟨n + 1, hn⟩ h0) y).trans (start m c ⟨n + 1, hn⟩ h0 y)
    · exact (congrFun (carry_B m c ⟨n + 1, hn⟩ h0 h3) y).trans (grow m c n h0 hn _ (carried n (Nat.lt_of_succ_lt hn) (by omega)) y)

theorem ends (n : ℕ) (hn : n + 1 < cfg0.N) (h3 : (n + 1) % 4 = 3) (y : S1024x1024.Idx) :
    ((outsAt0 m c (n + 1) hn).1 y : EReal) = upTo m c (n + 1) y :=
  (congrFun (carry_C m c ⟨n + 1, hn⟩ h3) y).trans ((pay4_at _ y).trans
    (grow m c n (by omega) hn _ (carried m c n (Nat.lt_of_succ_lt hn) (by omega)) y))

theorem leaves (t : Fin cfg0.N) (h3 : t.val % 4 = 3) (y : S1024x1024.Idx) : ((outsAt0 m c t.val t.isLt).1 y : EReal)
    = ∑ s ∈ Finset.range 4096, term m c (y 0).val (t.val / 4 * 1024 + (y 1).val) s := by
  have h : ∀ (n : ℕ) (hn : n < cfg0.N), n % 4 = 3 → ((outsAt0 m c n hn).1 y : EReal) = upTo m c n y := by
    intro n hn h3
    cases n with
    | zero => exact absurd h3 (by decide)
    | succ n => exact ends m c n hn h3 y
  refine (h t.val t.isLt h3).trans ?_
  unfold upTo
  rw [h3]

/-- What the result array ends holding. -/
def G (x : S1024x1024.Idx) : EReal := ∑ s ∈ Finset.range 4096, term m c (x 0).val (x 1).val s

theorem final : ((dats m 0 c).arrAt 2 cfg0.N : S1024x1024.Idx → EReal) = G m c := by
  funext x
  refine Dat.arrAt_forall_of_covers (dats m 0 c) 2 (fun x v => v = G m c x) (by decide +kernel) (fun t ht y => ?_) x
  blk_simp
  rw [after0_2]
  refine (leaves m c t (flush2 t ht) y).trans ?_
  unfold G
  rw [emb2_0, emb2_1, Nat.zero_mul, Nat.zero_add]

end Cert.DOutIdeal.Hand

namespace Cert.DOutPlainIdeal.Hand

open Cert.DOutPlainIdeal Cert.DOutPlainIdeal.Gen Cert.Product
open Idealize.ShloMosaic Idealize.ShloMosaic.TcCoe Idealize.ShloMosaic.Tactic
open Idealize.SL Idealize.SL.Sem

theorem plain (d : FVec Ideal S4096x1024 .f32) (x : FVec Ideal S4096x1024 .f32) (i : S1024x1024.Idx) :
    (truncf .bf16 (transpose S1024x1024 [1, 0] (Host.dotGeneral dot_S4096x1024_S4096x1024_S1024x1024_0_0_1_1_n_n none d x) transposes_S1024x1024_S1024x1024_1_0) bitsLt_bf16_f32 i : EReal)
      = ∑ s ∈ Finset.range 4096, entry (M := 4096) (N := 1024) x s (i 0).val * entry (M := 4096) (N := 1024) d s (i 1).val := by
  have h : (truncf .bf16 (transpose S1024x1024 [1, 0] (Host.dotGeneral dot_S4096x1024_S4096x1024_S1024x1024_0_0_1_1_n_n none d x) transposes_S1024x1024_S1024x1024_1_0) bitsLt_bf16_f32 (ix2 (i 0) (i 1)) : EReal)
      = ∑ k : Fin 4096, (d (ix2 k (i 1)) : EReal) * x (ix2 k (i 0)) := by
    pointwise
  refine (congrArg _ (eq_ix2 i)).trans (h.trans ?_)
  rw [Finset.sum_range]
  refine Finset.sum_congr rfl fun k _ => ?_
  rw [mul_comm]
  exact congrArg₂ (· * ·) (entry_ix2 x k (i 0)) (entry_ix2 d k (i 1))

end Cert.DOutPlainIdeal.Hand

namespace Cert.DOutIdeal.Hand

open Idealize.ShloMosaic Idealize.ShloMosaic.TcCoe
open Idealize.SL Idealize.SL.Sem

/-- The kernel's product and the plain gradient end with the same values. -/
theorem same : Cert.algebraic_DOutIdeal_DOutPlainIdeal := by
  intro m g m' g' _ hm
  refine ⟨fun c => G m c, ?_, ?_⟩
  · refine (θ_run _ _ _).mono (fun r h c => ⟨(h c).1.trans (final m c), (h c).2⟩) (Value.run_blocks m g)
  · refine (θ_run _ _ _).mono (fun r h c => ⟨(h c).1.trans ?_, (h c).2⟩) (Cert.DOutPlainIdeal.Value.run m' g')
    funext i
    rw [(hm c).1, (hm c).2.2]
    exact Cert.DOutPlainIdeal.Hand.plain _ _ i

end Cert.DOutIdeal.Hand

end
-- ==== Proof.DGlu.lean ====
/-
  Hand-written, untrusted. The gradient of the weights in front of the gate: what the kernel leaves is the plain gradient.
-/
module

public import proofs.«01_k».proof.Proof.Product
public import proofs.«01_k».proof.Proof.Gen.DGluIdeal.Value
public import proofs.«01_k».proof.Proof.Gen.DGluPlainIdeal.Run
public import proofs.«01_k».proof.Proof.Gen.DGlu.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.DGluIdeal.Hand

open Cert.DGluIdeal Cert.DGluIdeal.Gen Cert.Product
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD)

theorem pay (a : FVec Ideal S1024x512 .bf16) (b : FVec Ideal S1024x1024 .bf16) (i : Fin 512) (j : Fin 1024) :
    k0_pay1 (F := Ideal) a b (ix2 i j) = ∑ k : Fin 1024, a (ix2 k i) * b (ix2 k j) := by
  pointwise [k0_pay1]

section
variable (i : grid0.Coords) (arg3 : Memref sig .tc .vmem S1024x512 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .f32) (harg6 : arg6.IsWhole)
  (x0 : Vec Ideal S1024x512 .bf16) (x1 : Vec Ideal S1024x1024 .bf16) (xs0 : Vec Ideal S512x1024 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0 kernelRun0_A
  refine (store_whole VS0_0 _ zero_off _ _).trans ?_
  exact congrArg₂ k0_pay2 (load_whole harg3 zero_off _ x0) (load_whole harg4 zero_off _ x1)
theorem next (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0 kernelRun0_B
  refine (store_whole VS0_0 _ zero_off _ _).trans ?_
  exact congr (congrArg₂ k0_pay3 (load_whole harg3 zero_off _ x0) (load_whole harg4 zero_off _ x1)) (load_whole harg6 zero_off _ xs0)
theorem last (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2 kernelRun0_C
  refine (store_whole VO0_2 _ zero_off _ _).trans (congrArg k0_pay4 ?_)
  unfold kernelRun0_C.sl.v14 kernelRun0_C.sl.HS0_1
  refine (View.readCov_unit_zero _ zero_off _ _).trans ?_
  exact congr (congrArg₂ k0_pay3 (load_whole harg3 zero_off _ x0) (load_whole harg4 zero_off _ x1)) (load_whole harg6 zero_off _ xs0)
end

theorem count : cfg0.N = 4 := by decide +kernel
theorem index0 : ∀ t : Fin cfg0.N, win0_0.index t = ![t.val % 4, 0] := by decide +kernel
theorem index1 : ∀ t : Fin cfg0.N, win0_1.index t = ![t.val % 4, t.val / 4] := by decide +kernel
theorem index2 : ∀ t : Fin cfg0.N, win0_2.index t = ![0, t.val / 4] := by decide +kernel
theorem flush2 : ∀ t : Fin cfg0.N, (cfg0.win 2).flush t = true → t.val % 4 = 3 := by decide +kernel

/-- The arrays the product is taken of are the arguments: rounding keeps an ideal value. -/
theorem left_arg : (V m c main_v0 : S4096x512.Idx → EReal) = m ((c : Thread nD τ).loc main_arg0) := by
  show StableHlo.after hostOps0 (fun b => m (c, b)) (Proc.devRef .tc main_v0) = _
  after_results_simp
  rfl
theorem right_arg : (V m c main_v1 : S4096x1024.Idx → EReal) = m ((c : Thread nD τ).loc main_arg2) := by
  show StableHlo.after hostOps0 (fun b => m (c, b)) (Proc.devRef .tc main_v1) = _
  after_results_simp
  rfl

abbrev X : ℕ → ℕ → EReal := entry (M := 4096) (N := 512) (m ((c : Thread nD τ).loc main_arg0))
abbrev Y : ℕ → ℕ → EReal := entry (M := 4096) (N := 1024) (m ((c : Thread nD τ).loc main_arg2))

theorem emb0_0 (t : Fin cfg0.N) (y : S1024x512.Idx) : (((win0_0.blk t).view.emb y 0 : Fin 4096) : ℕ) = t.val % 4 * 1024 + (y 0 : ℕ) := by
  blk_simp [index0]
  all_goals rfl
theorem emb0_1 (t : Fin cfg0.N) (y : S1024x512.Idx) : (((win0_0.blk t).view.emb y 1 : Fin 512) : ℕ) = 0 * 512 + (y 1 : ℕ) := by
  blk_simp [index0]
  all_goals rfl
theorem emb1_0 (t : Fin cfg0.N) (y : S1024x1024.Idx) : (((win0_1.blk t).view.emb y 0 : Fin 4096) : ℕ) = t.val % 4 * 1024 + (y 0 : ℕ) := by
  blk_simp [index1]
  all_goals rfl
theorem emb1_1 (t : Fin cfg0.N) (y : S1024x1024.Idx) : (((win0_1.blk t).view.emb y 1 : Fin 1024) : ℕ) = t.val / 4 * 1024 + (y 1 : ℕ) := by
  blk_simp [index1]
  all_goals rfl
theorem emb2_0 (t : Fin cfg0.N) (y : ((cfg0.win 2).xblock (cfg0.grid.coords t)).Idx) : (((win0_2.blk t).view.emb y 0 : Fin 512) : ℕ) = 0 * 512 + (y 0 : ℕ) := by
  blk_simp [index2]
  all_goals rfl
theorem emb2_1 (t : Fin cfg0.N) (y : ((cfg0.win 2).xblock (cfg0.grid.coords t)).Idx) : (((win0_2.blk t).view.emb y 1 : Fin 1024) : ℕ) = t.val / 4 * 1024 + (y 1 : ℕ) := by
  blk_simp [index2]
  all_goals rfl

theorem block0 (t : Fin cfg0.N) (y : S1024x512.Idx) : (iblk m c 0 t : S1024x512.Idx → EReal) y = X m c (t.val % 4 * 1024 + (y 0).val) (y 1).val := by
  refine (entry_at (M := 4096) (N := 512) (V m c main_v0) ((win0_0.blk t).view.emb y)).trans ?_
  rw [left_arg, emb0_0, emb0_1, Nat.zero_mul, Nat.zero_add]
theorem block1 (t : Fin cfg0.N) (y : S1024x1024.Idx) : (iblk m c 1 t : S1024x1024.Idx → EReal) y = Y m c (t.val % 4 * 1024 + (y 0).val) (t.val / 4 * 1024 + (y 1).val) := by
  refine (entry_at (M := 4096) (N := 1024) (V m c main_v1) ((win0_1.blk t).view.emb y)).trans ?_
  rw [right_arg, emb1_0, emb1_1]

/-- The terms of one entry of the product. -/
abbrev term (a b : ℕ) (s : ℕ) : EReal := X m c s a * Y m c s b

theorem piece (t : Fin cfg0.N) (y : S512x1024.Idx) : (k0_pay1 (iblk m c 0 t) (iblk m c 1 t) : S512x1024.Idx → EReal) y
    = ∑ k : Fin 1024, term m c (y 0).val (t.val / 4 * 1024 + (y 1).val) (t.val % 4 * 1024 + k) :=
  (congrArg _ (eq_ix2 y)).trans ((pay _ _ (y 0) (y 1)).trans (Finset.sum_congr rfl fun k _ =>
    congrArg₂ (· * ·) (block0 m c t (ix2 k (y 0))) (block1 m c t (ix2 k (y 1)))))

theorem pay2_at (a : FVec Ideal S1024x512 .bf16) (b : FVec Ideal S1024x1024 .bf16) (y : S512x1024.Idx) :
    k0_pay2 (F := Ideal) a b y = k0_pay1 a b y := by
  pointwise [k0_pay2]
theorem pay3_at (a : FVec Ideal S1024x512 .bf16) (b : FVec Ideal S1024x1024 .bf16) (x : FVec Ideal S512x1024 .f32) (y : S512x1024.Idx) :
    (k0_pay3 (F := Ideal) a b x y : EReal) = (x y : EReal) + k0_pay1 a b y := by
  pointwise [k0_pay3]
theorem pay4_at (x : FVec Ideal S512x1024 .f32) (y : S512x1024.Idx) : (k0_pay4 (F := Ideal) x y : EReal) = x y := rfl

/-- The sum so far of one entry. -/
abbrev upTo (n : ℕ) (y : S512x1024.Idx) : EReal :=
  ∑ s ∈ Finset.range ((n % 4 + 1) * 1024), term m c (y 0).val (n / 4 * 1024 + (y 1).val) s

theorem grow (n : ℕ) (h : ¬ (n + 1) % 4 = 0) (hn : n + 1 < cfg0.N) (x : FVec Ideal S512x1024 .f32) (hx : ∀ y, (x y : EReal) = upTo m c n y) (y : S512x1024.Idx) :
    (k0_pay3 (F := Ideal) (iblk m c 0 ⟨n + 1, hn⟩) (iblk m c 1 ⟨n + 1, hn⟩) x y : EReal) = upTo m c (n + 1) y := by
  refine (pay3_at _ _ x y).trans ?_
  rw [hx y, piece]
  unfold upTo
  dsimp only
  rw [show (n + 1) % 4 = n % 4 + 1 by omega, show (n + 1) / 4 = n / 4 by omega]
  exact (sum_block _ _ _).symm

theorem carry_A (t : Fin cfg0.N) (h0 : t.val % 4 = 0) : (outsAt0 m c t.val t.isLt).2 = k0_pay2 (iblk m c 0 t) (iblk m c 1 t) := by
  have e := outsAt0_A m c t h0 (by have h := t.isLt; have e := count; omega) (by omega)
  generalize outsAt0 m c t.val t.isLt = z at e ⊢
  subst e
  dsimp only
  rw [first]
theorem carry_B (t : Fin cfg0.N) (h0 : ¬ t.val % 4 = 0) (h3 : ¬ t.val % 4 = 3) :
    (outsAt0 m c t.val t.isLt).2 = k0_pay3 (iblk m c 0 t) (iblk m c 1 t) (outsAt0 m c (t.val - 1) (Nat.lt_of_le_of_lt (Nat.sub_le _ _) t.isLt)).2 := by
  have e := outsAt0_B m c t h0 (by omega) h3
  generalize outsAt0 m c t.val t.isLt = z at e ⊢
  subst e
  dsimp only
  rw [next]
theorem carry_C (t : Fin cfg0.N) (h3 : t.val % 4 = 3) :
    (outsAt0 m c t.val t.isLt).1 = k0_pay4 (k0_pay3 (iblk m c 0 t) (iblk m c 1 t) (outsAt0 m c (t.val - 1) (Nat.lt_of_le_of_lt (Nat.sub_le _ _) t.isLt)).2) := by
  have e := outsAt0_C m c t (by omega) (by omega) h3
  generalize outsAt0 m c t.val t.isLt = z at e ⊢
  subst e
  dsimp only
  rw [last]

theorem start (t : Fin cfg0.N) (h0 : t.val % 4 = 0) (y : S512x1024.Idx) : (k0_pay2 (F := Ideal) (iblk m c 0 t) (iblk m c 1 t) y : EReal) = upTo m c t.val y := by
  refine (pay2_at _ _ y).trans ((piece m c t y).trans ?_)
  unfold upTo
  rw [h0, Nat.zero_add, sum_first]
  refine Finset.sum_congr rfl fun k _ => ?_
  rw [Nat.zero_mul, Nat.zero_add]

theorem carried : ∀ (n : ℕ) (hn : n < cfg0.N), ¬ n % 4 = 3 → ∀ y, ((outsAt0 m c n hn).2 y : EReal) = upTo m c n y
  | 0, hn, h3, y => (congrFun (carry_A m c ⟨0, hn⟩ rfl) y).trans (start m c ⟨0, hn⟩ rfl y)
  | n + 1, hn, h3, y => by
    by_cases h0 : (n + 1) % 4 = 0
    · exact (congrFun (carry_A m c ⟨n + 1, hn⟩ h0) y).trans (start m c ⟨n + 1, hn⟩ h0 y)
    · exact (congrFun (carry_B m c ⟨n + 1, hn⟩ h0 h3) y).trans (grow m c n h0 hn _ (carried n (Nat.lt_of_succ_lt hn) (by omega)) y)

theorem ends (n : ℕ) (hn : n + 1 < cfg0.N) (h3 : (n + 1) % 4 = 3) (y : S512x1024.Idx) :
    ((outsAt0 m c (n + 1) hn).1 y : EReal) = upTo m c (n + 1) y :=
  (congrFun (carry_C m c ⟨n + 1, hn⟩ h3) y).trans ((pay4_at _ y).trans
    (grow m c n (by omega) hn _ (carried m c n (Nat.lt_of_succ_lt hn) (by omega)) y))

theorem leaves (t : Fin cfg0.N) (h3 : t.val % 4 = 3) (y : S512x1024.Idx) : ((outsAt0 m c t.val t.isLt).1 y : EReal)
    = ∑ s ∈ Finset.range 4096, term m c (y 0).val (t.val / 4 * 1024 + (y 1).val) s := by
  have h : ∀ (n : ℕ) (hn : n < cfg0.N), n % 4 = 3 → ((outsAt0 m c n hn).1 y : EReal) = upTo m c n y := by
    intro n hn h3
    cases n with
    | zero => exact absurd h3 (by decide)
    | succ n => exact ends m c n hn h3 y
  refine (h t.val t.isLt h3).trans ?_
  unfold upTo
  rw [h3]

/-- What the result array ends holding. -/
def G (x : S512x1024.Idx) : EReal := ∑ s ∈ Finset.range 4096, term m c (x 0).val (x 1).val s

theorem final : ((dats m 0 c).arrAt 2 cfg0.N : S512x1024.Idx → EReal) = G m c := by
  funext x
  refine Dat.arrAt_forall_of_covers (dats m 0 c) 2 (fun x v => v = G m c x) (by decide +kernel) (fun t ht y => ?_) x
  blk_simp
  rw [after0_2]
  refine (leaves m c t (flush2 t ht) y).trans ?_
  unfold G
  rw [emb2_0, emb2_1, Nat.zero_mul, Nat.zero_add]

end Cert.DGluIdeal.Hand

namespace Cert.DGluPlainIdeal.Hand

open Cert.DGluPlainIdeal Cert.DGluPlainIdeal.Gen Cert.Product
open Idealize.ShloMosaic Idealize.ShloMosaic.TcCoe Idealize.ShloMosaic.Tactic
open Idealize.SL Idealize.SL.Sem

theorem plain (d : FVec Ideal S4096x1024 .f32) (x : FVec Ideal S4096x512 .f32) (i : S512x1024.Idx) :
    (truncf .bf16 (transpose S512x1024 [1, 0] (Host.dotGeneral dot_S4096x1024_S4096x512_S1024x512_0_0_1_1_n_n none d x) transposes_S1024x512_S512x1024_1_0) bitsLt_bf16_f32 i : EReal)
      = ∑ s ∈ Finset.range 4096, entry (M := 4096) (N := 512) x s (i 0).val * entry (M := 4096) (N := 1024) d s (i 1).val := by
  have h : (truncf .bf16 (transpose S512x1024 [1, 0] (Host.dotGeneral dot_S4096x1024_S4096x512_S1024x512_0_0_1_1_n_n none d x) transposes_S1024x512_S512x1024_1_0) bitsLt_bf16_f32 (ix2 (i 0) (i 1)) : EReal)
      = ∑ k : Fin 4096, (d (ix2 k (i 1)) : EReal) * x (ix2 k (i 0)) := by
    pointwise
  refine (congrArg _ (eq_ix2 i)).trans (h.trans ?_)
  rw [Finset.sum_range]
  refine Finset.sum_congr rfl fun k _ => ?_
  rw [mul_comm]
  exact congrArg₂ (· * ·) (entry_ix2 x k (i 0)) (entry_ix2 d k (i 1))

end Cert.DGluPlainIdeal.Hand

namespace Cert.DGluIdeal.Hand

open Idealize.ShloMosaic Idealize.ShloMosaic.TcCoe
open Idealize.SL Idealize.SL.Sem

/-- The kernel's product and the plain gradient end with the same values. -/
theorem same : Cert.algebraic_DGluIdeal_DGluPlainIdeal := by
  intro m g m' g' _ hm
  refine ⟨fun c => G m c, ?_, ?_⟩
  · refine (θ_run _ _ _).mono (fun r h c => ⟨(h c).1.trans (final m c), (h c).2⟩) (Value.run_blocks m g)
  · refine (θ_run _ _ _).mono (fun r h c => ⟨(h c).1.trans ?_, (h c).2⟩) (Cert.DGluPlainIdeal.Value.run m' g')
    funext i
    rw [(hm c).1, (hm c).2.2]
    exact Cert.DGluPlainIdeal.Hand.plain _ _ i

end Cert.DGluIdeal.Hand

end
-- ==== Proof.DYcat.lean ====
/-
  Hand-written, untrusted. The gradient of the mixed heads through the output projection: what the kernel leaves is the plain gradient.
-/
module

public import proofs.«01_k».proof.Proof.Product
public import proofs.«01_k».proof.Proof.Gen.DYcatIdeal.Value
public import proofs.«01_k».proof.Proof.Gen.DYcatPlainIdeal.Run
public import proofs.«01_k».proof.Proof.Gen.DYcat.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.DYcatIdeal.Hand

open Cert.DYcatIdeal Cert.DYcatIdeal.Gen Cert.Product
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD)

theorem pay (a : FVec Ideal S1024x1024 .f32) (b : FVec Ideal S1024x1024 .bf16) (i : Fin 1024) (j : Fin 1024) :
    k0_pay1 (F := Ideal) a b (ix2 i j) = ∑ k : Fin 1024, a (ix2 i k) * b (ix2 j k) := by
  pointwise [k0_pay1]

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- The arrays the product is taken of are the arguments: rounding keeps an ideal value. -/
theorem left_arg : (V m c main_arg2 : S4096x1024.Idx → EReal) = m ((c : Thread nD τ).loc main_arg2) := V_main_arg2 m c
theorem right_arg : (V m c main_v0 : S1024x1024.Idx → EReal) = m ((c : Thread nD τ).loc main_arg1) := by
  show StableHlo.after hostOps0 (fun b => m (c, b)) (Proc.devRef .tc main_v0) = _
  after_results_simp
  rfl

abbrev X : ℕ → ℕ → EReal := entry (M := 4096) (N := 1024) (m ((c : Thread nD τ).loc main_arg2))
abbrev Y : ℕ → ℕ → EReal := entry (M := 1024) (N := 1024) (m ((c : Thread nD τ).loc main_arg1))

theorem emb0_0 (t : Fin cfg0.N) (y : S1024x1024.Idx) : (((win0_0.blk t).view.emb y 0 : Fin 4096) : ℕ) = t.val * 1024 + (y 0 : ℕ) := by
  blk_simp [index0]
  all_goals rfl
theorem emb0_1 (t : Fin cfg0.N) (y : S1024x1024.Idx) : (((win0_0.blk t).view.emb y 1 : Fin 1024) : ℕ) = 0 * 1024 + (y 1 : ℕ) := by
  blk_simp [index0]
  all_goals rfl
theorem emb1_0 (t : Fin cfg0.N) (y : S1024x1024.Idx) : (((win0_1.blk t).view.emb y 0 : Fin 1024) : ℕ) = 0 * 1024 + (y 0 : ℕ) := by
  blk_simp [index1]
  all_goals rfl
theorem emb1_1 (t : Fin cfg0.N) (y : S1024x1024.Idx) : (((win0_1.blk t).view.emb y 1 : Fin 1024) : ℕ) = 0 * 1024 + (y 1 : ℕ) := by
  blk_simp [index1]
  all_goals rfl
theorem emb2_0 (t : Fin cfg0.N) (y : ((cfg0.win 2).xblock (cfg0.grid.coords t)).Idx) : (((win0_2.blk t).view.emb y 0 : Fin 4096) : ℕ) = t.val * 1024 + (y 0 : ℕ) := by
  blk_simp [index2]
  all_goals rfl
theorem emb2_1 (t : Fin cfg0.N) (y : ((cfg0.win 2).xblock (cfg0.grid.coords t)).Idx) : (((win0_2.blk t).view.emb y 1 : Fin 1024) : ℕ) = 0 * 1024 + (y 1 : ℕ) := by
  blk_simp [index2]
  all_goals rfl

theorem block0 (t : Fin cfg0.N) (y : S1024x1024.Idx) : (iblk m c 0 t : S1024x1024.Idx → EReal) y = X m c (t.val * 1024 + (y 0).val) (y 1).val := by
  refine (entry_at (M := 4096) (N := 1024) (V m c main_arg2) ((win0_0.blk t).view.emb y)).trans ?_
  rw [left_arg, emb0_0, emb0_1, Nat.zero_mul, Nat.zero_add]
theorem block1 (t : Fin cfg0.N) (y : S1024x1024.Idx) : (iblk m c 1 t : S1024x1024.Idx → EReal) y = Y m c (y 0).val (y 1).val := by
  refine (entry_at (M := 1024) (N := 1024) (V m c main_v0) ((win0_1.blk t).view.emb y)).trans ?_
  rw [right_arg, emb1_0, emb1_1]
  simp only [Nat.zero_mul, Nat.zero_add]

theorem leaves (t : Fin cfg0.N) (y : S1024x1024.Idx) : (out0_2 (iblk m c 0 t) (iblk m c 1 t) : S1024x1024.Idx → EReal) y
    = ∑ k : Fin 1024, X m c (t.val * 1024 + (y 0).val) k * Y m c (y 1).val k := by
  unfold out0_2 r0_0
  rw [View.canon_unit_zero zero_off, View.ld_unit_zero zero_off, View.ld_unit_zero zero_off]
  refine (congrArg _ (eq_ix2 y)).trans ((pay _ _ (y 0) (y 1)).trans (Finset.sum_congr rfl fun k _ => ?_))
  exact congrArg₂ (· * ·) (block0 m c t _) (block1 m c t _)

/-- What the result array ends holding. -/
def G (x : S4096x1024.Idx) : EReal := ∑ k : Fin 1024, X m c (x 0).val k * Y m c (x 1).val k

theorem final : ((dats m 0 c).arrAt 2 cfg0.N : S4096x1024.Idx → EReal) = G m c := by
  funext x
  refine Dat.arrAt_forall_of_covers (dats m 0 c) 2 (fun x v => v = G m c x) (by decide +kernel) (fun t ht y => ?_) x
  blk_simp
  rw [after0_2]
  refine (leaves m c t y).trans ?_
  unfold G
  rw [emb2_0, emb2_1, Nat.zero_mul, Nat.zero_add]

end Cert.DYcatIdeal.Hand

namespace Cert.DYcatPlainIdeal.Hand

open Cert.DYcatPlainIdeal Cert.Product
open Idealize.ShloMosaic Idealize.ShloMosaic.TcCoe Idealize.ShloMosaic.Tactic
open Idealize.SL Idealize.SL.Sem

theorem plain (x : FVec Ideal S4096x1024 .f32) (w : FVec Ideal S1024x1024 .f32) (i : S4096x1024.Idx) :
    Host.dotGeneral dot_S4096x1024_S1024x1024_S4096x1024_1_1_0_0_n_n none x w i
      = ∑ k : Fin 1024, entry (M := 4096) (N := 1024) x (i 0).val k * entry (M := 1024) (N := 1024) w (i 1).val k := by
  have h : Host.dotGeneral dot_S4096x1024_S1024x1024_S4096x1024_1_1_0_0_n_n none x w (ix2 (i 0) (i 1))
      = ∑ k : Fin 1024, x (ix2 (i 0) k) * w (ix2 (i 1) k) := by
    pointwise
  refine (congrArg _ (eq_ix2 i)).trans (h.trans (Finset.sum_congr rfl fun k _ => ?_))
  exact congrArg₂ (· * ·) (entry_ix2 x (i 0) k) (entry_ix2 w (i 1) k)

end Cert.DYcatPlainIdeal.Hand

namespace Cert.DYcatIdeal.Hand

open Idealize.ShloMosaic Idealize.ShloMosaic.TcCoe
open Idealize.SL Idealize.SL.Sem

/-- The kernel's product and the plain one end with the same values. -/
theorem same : Cert.algebraic_DYcatIdeal_DYcatPlainIdeal := by
  intro m g m' g' _ hm
  refine ⟨fun c => G m c, ?_, ?_⟩
  · refine (θ_run _ _ _).mono (fun r h c => ⟨(h c).1.trans (final m c), (h c).2⟩) (Value.run_blocks m g)
  · refine (θ_run _ _ _).mono (fun r h c => ⟨(h c).1.trans ?_, (h c).2⟩) (Cert.DYcatPlainIdeal.Value.run m' g')
    funext i
    rw [(hm c).2.2, (hm c).2.1]
    exact Cert.DYcatPlainIdeal.Hand.plain _ _ i

end Cert.DYcatIdeal.Hand

end
-- ==== Proof.DZ.lean ====
/-
  Hand-written, untrusted. The gradient through the product in front of the gate: what the kernel leaves is the plain gradient.
-/
module

public import proofs.«01_k».proof.Proof.Product
public import proofs.«01_k».proof.Proof.Gen.DZIdeal.Value
public import proofs.«01_k».proof.Proof.Gen.DZPlainIdeal.Run
public import proofs.«01_k».proof.Proof.Gen.DZ.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.DZIdeal.Hand

open Cert.DZIdeal Cert.DZIdeal.Gen Cert.Product
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD)

theorem pay (a : FVec Ideal S1024x1024 .bf16) (b : FVec Ideal S512x1024 .bf16) (i : Fin 1024) (j : Fin 512) :
    k0_pay1 (F := Ideal) a b (ix2 i j) = ∑ k : Fin 1024, a (ix2 i k) * b (ix2 j k) := by
  pointwise [k0_pay1]

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

/-- The arrays the product is taken of are the arguments: rounding keeps an ideal value. -/
theorem left_arg : (V m c main_v0 : S4096x1024.Idx → EReal) = m ((c : Thread nD τ).loc main_arg2) := by
  show StableHlo.after hostOps0 (fun b => m (c, b)) (Proc.devRef .tc main_v0) = _
  after_results_simp
  rfl
theorem right_arg : (V m c main_v1 : S512x1024.Idx → EReal) = m ((c : Thread nD τ).loc main_arg1) := by
  show StableHlo.after hostOps0 (fun b => m (c, b)) (Proc.devRef .tc main_v1) = _
  after_results_simp
  rfl

abbrev X : ℕ → ℕ → EReal := entry (M := 4096) (N := 1024) (m ((c : Thread nD τ).loc main_arg2))
abbrev Y : ℕ → ℕ → EReal := entry (M := 512) (N := 1024) (m ((c : Thread nD τ).loc main_arg1))

theorem emb0_0 (t : Fin cfg0.N) (y : S1024x1024.Idx) : (((win0_0.blk t).view.emb y 0 : Fin 4096) : ℕ) = t.val * 1024 + (y 0 : ℕ) := by
  blk_simp [index0]
  all_goals rfl
theorem emb0_1 (t : Fin cfg0.N) (y : S1024x1024.Idx) : (((win0_0.blk t).view.emb y 1 : Fin 1024) : ℕ) = 0 * 1024 + (y 1 : ℕ) := by
  blk_simp [index0]
  all_goals rfl
theorem emb1_0 (t : Fin cfg0.N) (y : S512x1024.Idx) : (((win0_1.blk t).view.emb y 0 : Fin 512) : ℕ) = 0 * 512 + (y 0 : ℕ) := by
  blk_simp [index1]
  all_goals rfl
theorem emb1_1 (t : Fin cfg0.N) (y : S512x1024.Idx) : (((win0_1.blk t).view.emb y 1 : Fin 1024) : ℕ) = 0 * 1024 + (y 1 : ℕ) := by
  blk_simp [index1]
  all_goals rfl
theorem emb2_0 (t : Fin cfg0.N) (y : ((cfg0.win 2).xblock (cfg0.grid.coords t)).Idx) : (((win0_2.blk t).view.emb y 0 : Fin 4096) : ℕ) = t.val * 1024 + (y 0 : ℕ) := by
  blk_simp [index2]
  all_goals rfl
theorem emb2_1 (t : Fin cfg0.N) (y : ((cfg0.win 2).xblock (cfg0.grid.coords t)).Idx) : (((win0_2.blk t).view.emb y 1 : Fin 512) : ℕ) = 0 * 512 + (y 1 : ℕ) := by
  blk_simp [index2]
  all_goals rfl

theorem block0 (t : Fin cfg0.N) (y : S1024x1024.Idx) : (iblk m c 0 t : S1024x1024.Idx → EReal) y = X m c (t.val * 1024 + (y 0).val) (y 1).val := by
  refine (entry_at (M := 4096) (N := 1024) (V m c main_v0) ((win0_0.blk t).view.emb y)).trans ?_
  rw [left_arg, emb0_0, emb0_1, Nat.zero_mul, Nat.zero_add]
theorem block1 (t : Fin cfg0.N) (y : S512x1024.Idx) : (iblk m c 1 t : S512x1024.Idx → EReal) y = Y m c (y 0).val (y 1).val := by
  refine (entry_at (M := 512) (N := 1024) (V m c main_v1) ((win0_1.blk t).view.emb y)).trans ?_
  rw [right_arg, emb1_0, emb1_1]
  simp only [Nat.zero_mul, Nat.zero_add]

theorem leaves (t : Fin cfg0.N) (y : S1024x512.Idx) : (out0_2 (iblk m c 0 t) (iblk m c 1 t) : S1024x512.Idx → EReal) y
    = ∑ k : Fin 1024, X m c (t.val * 1024 + (y 0).val) k * Y m c (y 1).val k := by
  unfold out0_2 r0_0 r0_1 r0_2
  rw [View.canon_unit_zero zero_off, View.ld_unit_zero zero_off, View.ld_unit_zero zero_off]
  refine (congrArg _ (eq_ix2 y)).trans ((pay _ _ (y 0) (y 1)).trans (Finset.sum_congr rfl fun k _ => ?_))
  exact congrArg₂ (· * ·) (block0 m c t _) (block1 m c t _)

/-- What the result array ends holding. -/
def G (x : S4096x512.Idx) : EReal := ∑ k : Fin 1024, X m c (x 0).val k * Y m c (x 1).val k

theorem final : ((dats m 0 c).arrAt 2 cfg0.N : S4096x512.Idx → EReal) = G m c := by
  funext x
  refine Dat.arrAt_forall_of_covers (dats m 0 c) 2 (fun x v => v = G m c x) (by decide +kernel) (fun t ht y => ?_) x
  blk_simp
  rw [after0_2]
  refine (leaves m c t y).trans ?_
  unfold G
  rw [emb2_0, emb2_1, Nat.zero_mul, Nat.zero_add]

end Cert.DZIdeal.Hand

namespace Cert.DZPlainIdeal.Hand

open Cert.DZPlainIdeal Cert.Product
open Idealize.ShloMosaic Idealize.ShloMosaic.TcCoe Idealize.ShloMosaic.Tactic
open Idealize.SL Idealize.SL.Sem

theorem plain (x : FVec Ideal S4096x1024 .f32) (w : FVec Ideal S512x1024 .f32) (i : S4096x512.Idx) :
    Host.dotGeneral dot_S4096x1024_S512x1024_S4096x512_1_1_0_0_n_n none x w i
      = ∑ k : Fin 1024, entry (M := 4096) (N := 1024) x (i 0).val k * entry (M := 512) (N := 1024) w (i 1).val k := by
  have h : Host.dotGeneral dot_S4096x1024_S512x1024_S4096x512_1_1_0_0_n_n none x w (ix2 (i 0) (i 1))
      = ∑ k : Fin 1024, x (ix2 (i 0) k) * w (ix2 (i 1) k) := by
    pointwise
  refine (congrArg _ (eq_ix2 i)).trans (h.trans (Finset.sum_congr rfl fun k _ => ?_))
  exact congrArg₂ (· * ·) (entry_ix2 x (i 0) k) (entry_ix2 w (i 1) k)

end Cert.DZPlainIdeal.Hand

namespace Cert.DZIdeal.Hand

open Idealize.ShloMosaic Idealize.ShloMosaic.TcCoe
open Idealize.SL Idealize.SL.Sem

/-- The kernel's product and the plain one end with the same values. -/
theorem same : Cert.algebraic_DZIdeal_DZPlainIdeal := by
  intro m g m' g' _ hm
  refine ⟨fun c => G m c, ?_, ?_⟩
  · refine (θ_run _ _ _).mono (fun r h c => ⟨(h c).1.trans (final m c), (h c).2⟩) (Value.run_blocks m g)
  · refine (θ_run _ _ _).mono (fun r h c => ⟨(h c).1.trans ?_, (h c).2⟩) (Cert.DZPlainIdeal.Value.run m' g')
    funext i
    rw [(hm c).2.2, (hm c).2.1]
    exact Cert.DZPlainIdeal.Hand.plain _ _ i

end Cert.DZIdeal.Hand

end
-- ==== Proof.PleGate.lean ====
/-
  Hand-written, untrusted. The product in front of the per-layer gate, with the gate and the sum that follow it in one call: what the kernel leaves is the plain gated sum.
-/
module

public import proofs.«01_k».proof.Proof.Product
public import proofs.«01_k».proof.Proof.Gen.PleGateIdeal.Value
public import proofs.«01_k».proof.Proof.Gen.PleGatePlainIdeal.Run
public import proofs.«01_k».proof.Proof.Gen.PleGate.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.PleGateIdeal.Hand

open Cert.PleGateIdeal Cert.PleGateIdeal.Gen Cert.Product
open Idealize.ShloMosaic Idealize.ShloMosaic.TcCoe Idealize.ShloMosaic.Tactic
open Idealize.SL Idealize.SL.Sem
open Idealize.ShloMosaic.Pipeline (Dat)

theorem half : Ideal.ofBits .f32 0x3F000000#32 = ((1 / 2 : ℝ) : EReal) := by
  simp [Ideal.ofBits, Ideal.ieee, -EReal.coe_mul]; norm_num

/-- The kernel's sigmoid, by the hyperbolic tangent, is the plain one on all extended reals. -/
theorem sigmoid (x : EReal) : ((1/2 : ℝ) : EReal) * Ideal.tanh (((1/2 : ℝ) : EReal) * x) + ((1/2 : ℝ) : EReal) = Ideal.div 1 (1 + Ideal.exp (-x)) := by
  induction x using EReal.rec with
  | bot =>
    rw [EReal.coe_mul_bot_of_pos (by norm_num), Ideal.tanh_bot, EReal.neg_bot]
    show _ = Ideal.div 1 (1 + ⊤)
    unfold Ideal.div
    rw [EReal.add_top_of_ne_bot (by decide), if_neg (by decide), EReal.inv_top, mul_zero]
    rw [show (-1 : EReal) = ((-1 : ℝ) : EReal) from rfl, ← EReal.coe_mul, ← EReal.coe_add]
    norm_num
  | top =>
    rw [EReal.coe_mul_top_of_pos (by norm_num), Ideal.tanh_top, EReal.neg_top]
    show _ = Ideal.div 1 (1 + 0)
    unfold Ideal.div
    rw [add_zero, if_neg one_ne_zero, mul_one, ← EReal.coe_add, show (1 : EReal) = ((1 : ℝ) : EReal) from rfl, ← EReal.coe_inv, ← EReal.coe_mul]
    norm_num
  | coe r =>
    rw [← EReal.coe_mul, Ideal.tanh_coe, ← EReal.coe_neg]
    show _ = Ideal.div 1 (1 + ((Real.exp (-r) : ℝ) : EReal))
    unfold Ideal.div
    have h : (0 : ℝ) < 1 + Real.exp (-r) := by positivity
    rw [show (1 : EReal) = ((1 : ℝ) : EReal) from rfl, ← EReal.coe_add, if_neg (by exact_mod_cast h.ne'), ← EReal.coe_inv, ← EReal.coe_mul, ← EReal.coe_mul, ← EReal.coe_add]
    refine congrArg _ ?_
    rw [Real.tanh_eq_sinh_div_cosh, Real.sinh_eq, Real.cosh_eq]
    have e : Real.exp (-r) = Real.exp (-(1 / 2 * r)) * Real.exp (-(1 / 2 * r)) := by rw [← Real.exp_add]; congr 1; ring
    have i : Real.exp (1 / 2 * r) * Real.exp (-(1 / 2 * r)) = 1 := by rw [← Real.exp_add, add_neg_cancel, Real.exp_zero]
    have p := Real.exp_pos (1 / 2 * r)
    have q := Real.exp_pos (-(1 / 2 * r))
    rw [e]
    generalize Real.exp (1 / 2 * r) = u at *
    generalize Real.exp (-(1 / 2 * r)) = v at *
    field_simp
    nlinarith

theorem pay (a b : FVec Ideal S1024x1024 .bf16) (i j : Fin 1024) :
    k0_pay1 (F := Ideal) a b (ix2 i j) = ∑ k : Fin 1024, a (ix2 i k) * b (ix2 k j) := by
  pointwise [k0_pay1]
theorem pay2_at (a b : FVec Ideal S1024x1024 .bf16) (h p : FVec Ideal S1024x1024 .f32) (y : S1024x1024.Idx) :
    (k0_pay2 (F := Ideal) a b h p y : EReal) = (h y : EReal) + Ideal.div 1 (1 + Ideal.exp (-(k0_pay1 (F := Ideal) a b y))) * p y := by
  rw [← sigmoid, ← half]
  pointwise [k0_pay2]

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![t.val, 0] := by decide +kernel

/-- The arrays the product is taken of are the arguments: rounding keeps an ideal value. -/
theorem left_arg : (V m c main_v0 : S4096x1024.Idx → EReal) = m ((c : Thread nD τ).loc main_arg0) := by
  show StableHlo.after hostOps0 (fun b => m (c, b)) (Proc.devRef .tc main_v0) = _
  after_results_simp
  rfl
theorem right_arg : (V m c main_v1 : S1024x1024.Idx → EReal) = m ((c : Thread nD τ).loc main_arg1) := by
  show StableHlo.after hostOps0 (fun b => m (c, b)) (Proc.devRef .tc main_v1) = _
  after_results_simp
  rfl

abbrev X : ℕ → ℕ → EReal := entry (M := 4096) (N := 1024) (m ((c : Thread nD τ).loc main_arg0))
abbrev Y : ℕ → ℕ → EReal := entry (M := 1024) (N := 1024) (m ((c : Thread nD τ).loc main_arg1))
abbrev H : ℕ → ℕ → EReal := entry (M := 4096) (N := 1024) (m ((c : Thread nD τ).loc main_arg2))

theorem emb0_0 (t : Fin cfg0.N) (y : S1024x1024.Idx) : (((win0_0.blk t).view.emb y 0 : Fin 4096) : ℕ) = t.val * 1024 + (y 0 : ℕ) := by
  blk_simp [index0]
  all_goals rfl
theorem emb0_1 (t : Fin cfg0.N) (y : S1024x1024.Idx) : (((win0_0.blk t).view.emb y 1 : Fin 1024) : ℕ) = 0 * 1024 + (y 1 : ℕ) := by
  blk_simp [index0]
  all_goals rfl
theorem emb1_0 (t : Fin cfg0.N) (y : S1024x1024.Idx) : (((win0_1.blk t).view.emb y 0 : Fin 1024) : ℕ) = 0 * 1024 + (y 0 : ℕ) := by
  blk_simp [index1]
  all_goals rfl
theorem emb1_1 (t : Fin cfg0.N) (y : S1024x1024.Idx) : (((win0_1.blk t).view.emb y 1 : Fin 1024) : ℕ) = 0 * 1024 + (y 1 : ℕ) := by
  blk_simp [index1]
  all_goals rfl
theorem emb2_0 (t : Fin cfg0.N) (y : S1024x1024.Idx) : (((win0_2.blk t).view.emb y 0 : Fin 4096) : ℕ) = t.val * 1024 + (y 0 : ℕ) := by
  blk_simp [index2]
  all_goals rfl
theorem emb2_1 (t : Fin cfg0.N) (y : S1024x1024.Idx) : (((win0_2.blk t).view.emb y 1 : Fin 1024) : ℕ) = 0 * 1024 + (y 1 : ℕ) := by
  blk_simp [index2]
  all_goals rfl
theorem emb3_0 (t : Fin cfg0.N) (y : S1024x1024.Idx) : (((win0_3.blk t).view.emb y 0 : Fin 4096) : ℕ) = t.val * 1024 + (y 0 : ℕ) := by
  blk_simp [index3]
  all_goals rfl
theorem emb3_1 (t : Fin cfg0.N) (y : S1024x1024.Idx) : (((win0_3.blk t).view.emb y 1 : Fin 1024) : ℕ) = 0 * 1024 + (y 1 : ℕ) := by
  blk_simp [index3]
  all_goals rfl
theorem emb4_0 (t : Fin cfg0.N) (y : ((cfg0.win 4).xblock (cfg0.grid.coords t)).Idx) : (((win0_4.blk t).view.emb y 0 : Fin 4096) : ℕ) = t.val * 1024 + (y 0 : ℕ) := by
  blk_simp [index4]
  all_goals rfl
theorem emb4_1 (t : Fin cfg0.N) (y : ((cfg0.win 4).xblock (cfg0.grid.coords t)).Idx) : (((win0_4.blk t).view.emb y 1 : Fin 1024) : ℕ) = 0 * 1024 + (y 1 : ℕ) := by
  blk_simp [index4]
  all_goals rfl
theorem emb5_0 (t : Fin cfg0.N) (y : ((cfg0.win 5).xblock (cfg0.grid.coords t)).Idx) : (((win0_5.blk t).view.emb y 0 : Fin 4096) : ℕ) = t.val * 1024 + (y 0 : ℕ) := by
  blk_simp [index5]
  all_goals rfl
theorem emb5_1 (t : Fin cfg0.N) (y : ((cfg0.win 5).xblock (cfg0.grid.coords t)).Idx) : (((win0_5.blk t).view.emb y 1 : Fin 1024) : ℕ) = 0 * 1024 + (y 1 : ℕ) := by
  blk_simp [index5]
  all_goals rfl

theorem block0 (t : Fin cfg0.N) (y : S1024x1024.Idx) : (iblk m c 0 t : S1024x1024.Idx → EReal) y = X m c (t.val * 1024 + (y 0).val) (y 1).val := by
  refine (entry_at (M := 4096) (N := 1024) (V m c main_v0) ((win0_0.blk t).view.emb y)).trans ?_
  rw [left_arg, emb0_0, emb0_1, Nat.zero_mul, Nat.zero_add]
theorem block1 (t : Fin cfg0.N) (y : S1024x1024.Idx) : (iblk m c 1 t : S1024x1024.Idx → EReal) y = Y m c (y 0).val (y 1).val := by
  refine (entry_at (M := 1024) (N := 1024) (V m c main_v1) ((win0_1.blk t).view.emb y)).trans ?_
  rw [right_arg, emb1_0, emb1_1]
  simp only [Nat.zero_mul, Nat.zero_add]
theorem block2 (t : Fin cfg0.N) (y : S1024x1024.Idx) : (iblk m c 2 t : S1024x1024.Idx → EReal) y = H m c (t.val * 1024 + (y 0).val) (y 1).val := by
  refine (entry_at (M := 4096) (N := 1024) (V m c main_arg2) ((win0_2.blk t).view.emb y)).trans ?_
  rw [V_main_arg2, emb2_0, emb2_1, Nat.zero_mul, Nat.zero_add]
abbrev P : ℕ → ℕ → EReal := entry (M := 4096) (N := 1024) (m ((c : Thread nD τ).loc main_arg3))
theorem block3 (t : Fin cfg0.N) (y : S1024x1024.Idx) : (iblk m c 3 t : S1024x1024.Idx → EReal) y = P m c (t.val * 1024 + (y 0).val) (y 1).val := by
  refine (entry_at (M := 4096) (N := 1024) (V m c main_arg3) ((win0_3.blk t).view.emb y)).trans ?_
  rw [V_main_arg3, emb3_0, emb3_1, Nat.zero_mul, Nat.zero_add]

/-- The logits and the gated sum, entry by entry. -/
def logit (a : ℕ) (j : Fin 1024) : EReal := ∑ k : Fin 1024, X m c a k * Y m c k j
def gated (a : ℕ) (j : Fin 1024) : EReal := H m c a j + Ideal.div 1 (1 + Ideal.exp (-(logit m c a j))) * P m c a j

theorem product (t : Fin cfg0.N) (y : S1024x1024.Idx) : (k0_pay1 (iblk m c 0 t) (iblk m c 1 t) : S1024x1024.Idx → EReal) y = logit m c (t.val * 1024 + (y 0).val) (y 1) :=
  (congrArg _ (eq_ix2 y)).trans ((pay _ _ (y 0) (y 1)).trans (Finset.sum_congr rfl fun k _ =>
    congrArg₂ (· * ·) (block0 m c t _) (block1 m c t _)))

theorem leaves4 (t : Fin cfg0.N) (y : S1024x1024.Idx) : (out0_4 (iblk m c 0 t) (iblk m c 1 t) (iblk m c 2 t) (iblk m c 3 t) : S1024x1024.Idx → EReal) y = logit m c (t.val * 1024 + (y 0).val) (y 1) := by
  unfold out0_4 r0_0
  rw [View.canon_unit_zero zero_off, View.ld_unit_zero zero_off, View.ld_unit_zero zero_off]
  exact product m c t y
theorem leaves5 (t : Fin cfg0.N) (y : S1024x1024.Idx) : (out0_5 (iblk m c 0 t) (iblk m c 1 t) (iblk m c 2 t) (iblk m c 3 t) : S1024x1024.Idx → EReal) y = gated m c (t.val * 1024 + (y 0).val) (y 1) := by
  unfold out0_5 r0_0
  rw [View.canon_unit_zero zero_off, View.ld_unit_zero zero_off, View.ld_unit_zero zero_off, View.ld_unit_zero zero_off, View.ld_unit_zero zero_off]
  refine (pay2_at _ _ _ _ y).trans ?_
  rw [product, block2, block3]
  rfl

/-- What the result arrays end holding. -/
def G4 (x : S4096x1024.Idx) : EReal := logit m c (x 0).val (x 1)
def G5 (x : S4096x1024.Idx) : EReal := gated m c (x 0).val (x 1)

theorem final4 : ((dats m 0 c).arrAt 4 cfg0.N : S4096x1024.Idx → EReal) = G4 m c := by
  funext x
  refine Dat.arrAt_forall_of_covers (dats m 0 c) 4 (fun x v => v = G4 m c x) (by decide +kernel) (fun t ht y => ?_) x
  blk_simp
  rw [after0_4]
  refine (leaves4 m c t y).trans ?_
  unfold G4
  have e : (win0_4.blk t).view.emb y 1 = (y 1 : Fin 1024) := Fin.ext ((emb4_1 t y).trans (by rw [Nat.zero_mul, Nat.zero_add]))
  rw [emb4_0, e]
theorem final5 : ((dats m 0 c).arrAt 5 cfg0.N : S4096x1024.Idx → EReal) = G5 m c := by
  funext x
  refine Dat.arrAt_forall_of_covers (dats m 0 c) 5 (fun x v => v = G5 m c x) (by decide +kernel) (fun t ht y => ?_) x
  blk_simp
  rw [after0_5]
  refine (leaves5 m c t y).trans ?_
  unfold G5
  have e : (win0_5.blk t).view.emb y 1 = (y 1 : Fin 1024) := Fin.ext ((emb5_1 t y).trans (by rw [Nat.zero_mul, Nat.zero_add]))
  rw [emb5_0, e]

end Cert.PleGateIdeal.Hand

namespace Cert.PleGatePlainIdeal.Hand

open Cert.PleGatePlainIdeal Cert.PleGatePlainIdeal.Gen Cert.Product
open Idealize.ShloMosaic Idealize.ShloMosaic.TcCoe Idealize.ShloMosaic.Tactic
open Idealize.SL Idealize.SL.Sem

theorem plain (x : FVec Ideal S4096x1024 .f32) (w : FVec Ideal S1024x1024 .f32) (i : S4096x1024.Idx) :
    Host.dotGeneral dot_S4096x1024_S1024x1024_S4096x1024_1_0_0_1_n_n none x w i
      = ∑ k : Fin 1024, entry (M := 4096) (N := 1024) x (i 0).val k * entry (M := 1024) (N := 1024) w k (i 1).val := by
  have h : Host.dotGeneral dot_S4096x1024_S1024x1024_S4096x1024_1_0_0_1_n_n none x w (ix2 (i 0) (i 1))
      = ∑ k : Fin 1024, x (ix2 (i 0) k) * w (ix2 k (i 1)) := by
    pointwise
  refine (congrArg _ (eq_ix2 i)).trans (h.trans (Finset.sum_congr rfl fun k _ => ?_))
  exact congrArg₂ (· * ·) (entry_ix2 x (i 0) k) (entry_ix2 w k (i 1))

theorem gate (l h p : FVec Ideal S4096x1024 .f32) (i : S4096x1024.Idx) :
    (addf h (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf l)))) p) i : EReal)
      = (h i : EReal) + Ideal.div 1 (1 + Ideal.exp (-(l i : EReal))) * p i := by
  pointwise

end Cert.PleGatePlainIdeal.Hand

namespace Cert.PleGateIdeal.Hand

open Cert.Product
open Idealize.ShloMosaic Idealize.ShloMosaic.TcCoe
open Idealize.SL Idealize.SL.Sem

/-- The kernel's two results and the plain ones end with the same values. -/
theorem same : Cert.algebraic_PleGateIdeal_PleGatePlainIdeal := by
  intro m g m' g' _ hm
  refine ⟨fun c => G4 m c, fun c => G5 m c, ?_, ?_⟩
  · refine (θ_run _ _ _).mono (fun r h c => ⟨(h c).1.trans (final4 m c), (h c).2.1.trans (final5 m c), (h c).2.2⟩) (Value.run_blocks m g)
  · refine (θ_run _ _ _).mono (fun r h c => ⟨(h c).1.trans ?_, (h c).2.1.trans ?_, (h c).2.2⟩) (Cert.PleGatePlainIdeal.Value.run m' g')
    · funext i
      rw [(hm c).1, (hm c).2.1]
      exact Cert.PleGatePlainIdeal.Hand.plain _ _ i
    · funext i
      rw [(hm c).1, (hm c).2.1, (hm c).2.2.1, (hm c).2.2.2]
      refine (Cert.PleGatePlainIdeal.Hand.gate _ _ _ i).trans ?_
      rw [Cert.PleGatePlainIdeal.Hand.plain]
      unfold G5 gated
      exact congrArg₂ (· + ·) (entry_at (M := 4096) (N := 1024) _ i) (congrArg₂ (· * ·) rfl (entry_at (M := 4096) (N := 1024) _ i))

end Cert.PleGateIdeal.Hand

end
-- ==== Proof.MixOut.lean ====
/-
  Hand-written, untrusted. The output projection, with the residual sum and the norm that follow it in one call: what the kernel leaves is the plain sum and its plain norm.
-/
module

public import proofs.«01_k».proof.Proof.Product
public import proofs.«01_k».proof.Proof.Gen.MixOutIdeal.Value
public import proofs.«01_k».proof.Proof.Gen.MixOutPlainIdeal.Run
public import proofs.«01_k».proof.Proof.Gen.MixOut.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.MixOutIdeal.Hand

open Cert.MixOutIdeal Cert.MixOutIdeal.Gen Cert.Product
open Idealize.ShloMosaic Idealize.ShloMosaic.TcCoe Idealize.ShloMosaic.Tactic
open Idealize.SL Idealize.SL.Sem
open Idealize.ShloMosaic.Pipeline (Dat)

theorem pay (a b : FVec Ideal S1024x1024 .bf16) (h : FVec Ideal S1024x1024 .f32) (i j : Fin 1024) :
    (k0_pay1 (F := Ideal) a b h (ix2 i j) : EReal) = (∑ k : Fin 1024, a (ix2 i k) * b (ix2 k j)) + h (ix2 i j) := by
  pointwise [k0_pay1]
/-- A row of numbers over the root of its mean square, times a gain. -/
abbrev normed (f : Fin 1024 → EReal) (g : EReal) (j : Fin 1024) : EReal :=
  f j * Ideal.rsqrt (Ideal.div (∑ x : Fin 1024, f x * f x) (Ideal.ofBits .f32 0x44800000#32) + Ideal.ofBits .f32 0x358637BD#32) * g
theorem pay2_at (a b : FVec Ideal S1024x1024 .bf16) (h : FVec Ideal S1024x1024 .f32) (g : FVec Ideal S1x1024 .f32) (i j : Fin 1024) :
    (k0_pay2 (F := Ideal) a b h g (ix2 i j) : EReal) = normed (fun x => k0_pay1 (F := Ideal) a b h (ix2 i x)) (g (ix2 0 j)) j := by
  pointwise [k0_pay2]

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index4 : ∀ t : Fin cfg0.N, win0_4.index t = ![t.val, 0] := by decide +kernel
theorem index5 : ∀ t : Fin cfg0.N, win0_5.index t = ![t.val, 0] := by decide +kernel

/-- The arrays the product is taken of are the arguments: rounding keeps an ideal value. -/
theorem left_arg : (V m c main_v0 : S4096x1024.Idx → EReal) = m ((c : Thread nD τ).loc main_arg0) := by
  show StableHlo.after hostOps0 (fun b => m (c, b)) (Proc.devRef .tc main_v0) = _
  after_results_simp
  rfl
theorem right_arg : (V m c main_v1 : S1024x1024.Idx → EReal) = m ((c : Thread nD τ).loc main_arg1) := by
  show StableHlo.after hostOps0 (fun b => m (c, b)) (Proc.devRef .tc main_v1) = _
  after_results_simp
  rfl

abbrev X : ℕ → ℕ → EReal := entry (M := 4096) (N := 1024) (m ((c : Thread nD τ).loc main_arg0))
abbrev Y : ℕ → ℕ → EReal := entry (M := 1024) (N := 1024) (m ((c : Thread nD τ).loc main_arg1))
abbrev H : ℕ → ℕ → EReal := entry (M := 4096) (N := 1024) (m ((c : Thread nD τ).loc main_arg2))

theorem emb0_0 (t : Fin cfg0.N) (y : S1024x1024.Idx) : (((win0_0.blk t).view.emb y 0 : Fin 4096) : ℕ) = t.val * 1024 + (y 0 : ℕ) := by
  blk_simp [index0]
  all_goals rfl
theorem emb0_1 (t : Fin cfg0.N) (y : S1024x1024.Idx) : (((win0_0.blk t).view.emb y 1 : Fin 1024) : ℕ) = 0 * 1024 + (y 1 : ℕ) := by
  blk_simp [index0]
  all_goals rfl
theorem emb1_0 (t : Fin cfg0.N) (y : S1024x1024.Idx) : (((win0_1.blk t).view.emb y 0 : Fin 1024) : ℕ) = 0 * 1024 + (y 0 : ℕ) := by
  blk_simp [index1]
  all_goals rfl
theorem emb1_1 (t : Fin cfg0.N) (y : S1024x1024.Idx) : (((win0_1.blk t).view.emb y 1 : Fin 1024) : ℕ) = 0 * 1024 + (y 1 : ℕ) := by
  blk_simp [index1]
  all_goals rfl
theorem emb2_0 (t : Fin cfg0.N) (y : S1024x1024.Idx) : (((win0_2.blk t).view.emb y 0 : Fin 4096) : ℕ) = t.val * 1024 + (y 0 : ℕ) := by
  blk_simp [index2]
  all_goals rfl
theorem emb2_1 (t : Fin cfg0.N) (y : S1024x1024.Idx) : (((win0_2.blk t).view.emb y 1 : Fin 1024) : ℕ) = 0 * 1024 + (y 1 : ℕ) := by
  blk_simp [index2]
  all_goals rfl
theorem emb4_0 (t : Fin cfg0.N) (y : ((cfg0.win 4).xblock (cfg0.grid.coords t)).Idx) : (((win0_4.blk t).view.emb y 0 : Fin 4096) : ℕ) = t.val * 1024 + (y 0 : ℕ) := by
  blk_simp [index4]
  all_goals rfl
theorem emb4_1 (t : Fin cfg0.N) (y : ((cfg0.win 4).xblock (cfg0.grid.coords t)).Idx) : (((win0_4.blk t).view.emb y 1 : Fin 1024) : ℕ) = 0 * 1024 + (y 1 : ℕ) := by
  blk_simp [index4]
  all_goals rfl
theorem emb5_0 (t : Fin cfg0.N) (y : ((cfg0.win 5).xblock (cfg0.grid.coords t)).Idx) : (((win0_5.blk t).view.emb y 0 : Fin 4096) : ℕ) = t.val * 1024 + (y 0 : ℕ) := by
  blk_simp [index5]
  all_goals rfl
theorem emb5_1 (t : Fin cfg0.N) (y : ((cfg0.win 5).xblock (cfg0.grid.coords t)).Idx) : (((win0_5.blk t).view.emb y 1 : Fin 1024) : ℕ) = 0 * 1024 + (y 1 : ℕ) := by
  blk_simp [index5]
  all_goals rfl

theorem block0 (t : Fin cfg0.N) (y : S1024x1024.Idx) : (iblk m c 0 t : S1024x1024.Idx → EReal) y = X m c (t.val * 1024 + (y 0).val) (y 1).val := by
  refine (entry_at (M := 4096) (N := 1024) (V m c main_v0) ((win0_0.blk t).view.emb y)).trans ?_
  rw [left_arg, emb0_0, emb0_1, Nat.zero_mul, Nat.zero_add]
theorem block1 (t : Fin cfg0.N) (y : S1024x1024.Idx) : (iblk m c 1 t : S1024x1024.Idx → EReal) y = Y m c (y 0).val (y 1).val := by
  refine (entry_at (M := 1024) (N := 1024) (V m c main_v1) ((win0_1.blk t).view.emb y)).trans ?_
  rw [right_arg, emb1_0, emb1_1]
  simp only [Nat.zero_mul, Nat.zero_add]
theorem block2 (t : Fin cfg0.N) (y : S1024x1024.Idx) : (iblk m c 2 t : S1024x1024.Idx → EReal) y = H m c (t.val * 1024 + (y 0).val) (y 1).val := by
  refine (entry_at (M := 4096) (N := 1024) (V m c main_arg2) ((win0_2.blk t).view.emb y)).trans ?_
  rw [V_main_arg2, emb2_0, emb2_1, Nat.zero_mul, Nat.zero_add]

theorem index3 : ∀ t : Fin cfg0.N, win0_3.index t = ![0, 0] := by decide +kernel
theorem emb3_0 (t : Fin cfg0.N) (y : S1x1024.Idx) : (((win0_3.blk t).view.emb y 0 : Fin 1) : ℕ) = 0 * 1 + (y 0 : ℕ) := by
  blk_simp [index3]
  all_goals rfl
theorem emb3_1 (t : Fin cfg0.N) (y : S1x1024.Idx) : (((win0_3.blk t).view.emb y 1 : Fin 1024) : ℕ) = 0 * 1024 + (y 1 : ℕ) := by
  blk_simp [index3]
  all_goals rfl
theorem gain_arg (j : Fin 1024) : (V m c main_v2 : S1x1024.Idx → EReal) (ix2 0 j) = m ((c : Thread nD τ).loc main_arg3) (ix1 j) := by
  show (StableHlo.after hostOps0 (fun b => m (c, b)) (Proc.devRef .tc main_v2) : S1x1024.Idx → EReal) (ix2 0 j) = _
  after_results_simp
  pointwise
theorem block3 (t : Fin cfg0.N) (j : Fin 1024) : (iblk m c 3 t : S1x1024.Idx → EReal) (ix2 0 j) = m ((c : Thread nD τ).loc main_arg3) (ix1 j) := by
  refine Eq.trans ?_ (gain_arg m c j)
  show V m c main_v2 ((win0_3.blk t).view.emb (ix2 0 j)) = V m c main_v2 (ix2 0 j)
  refine congrArg (V m c main_v2) (funext fun a => ?_)
  match a with
  | ⟨0, _⟩ => exact Fin.ext ((emb3_0 t (ix2 0 j)).trans rfl)
  | ⟨1, _⟩ => exact Fin.ext ((emb3_1 t (ix2 0 j)).trans ((congrArg (· + j.val) (Nat.zero_mul 1024)).trans (Nat.zero_add j.val)))

/-- The residual sum and its norm, entry by entry. -/
def total (a : ℕ) (j : Fin 1024) : EReal := (∑ k : Fin 1024, X m c a k * Y m c k j) + H m c a j
def unit (a : ℕ) (j : Fin 1024) : EReal := normed (total m c a) (m ((c : Thread nD τ).loc main_arg3) (ix1 j)) j

theorem product (t : Fin cfg0.N) (y : S1024x1024.Idx) : (k0_pay1 (iblk m c 0 t) (iblk m c 1 t) (iblk m c 2 t) : S1024x1024.Idx → EReal) y = total m c (t.val * 1024 + (y 0).val) (y 1) :=
  (congrArg _ (eq_ix2 y)).trans ((pay _ _ _ (y 0) (y 1)).trans (congrArg₂ (· + ·) (Finset.sum_congr rfl fun k _ =>
    congrArg₂ (· * ·) (block0 m c t _) (block1 m c t _)) (block2 m c t _)))

theorem leaves4 (t : Fin cfg0.N) (y : S1024x1024.Idx) : (out0_4 (iblk m c 0 t) (iblk m c 1 t) (iblk m c 2 t) (iblk m c 3 t) : S1024x1024.Idx → EReal) y = total m c (t.val * 1024 + (y 0).val) (y 1) := by
  unfold out0_4 r0_0
  rw [View.canon_unit_zero zero_off, View.ld_unit_zero zero_off, View.ld_unit_zero zero_off, View.ld_unit_zero zero_off]
  exact product m c t y
theorem leaves5 (t : Fin cfg0.N) (y : S1024x1024.Idx) : (out0_5 (iblk m c 0 t) (iblk m c 1 t) (iblk m c 2 t) (iblk m c 3 t) : S1024x1024.Idx → EReal) y = unit m c (t.val * 1024 + (y 0).val) (y 1) := by
  unfold out0_5 r0_0 r0_1
  rw [View.canon_unit_zero zero_off, View.ld_unit_zero zero_off, View.ld_unit_zero zero_off, View.ld_unit_zero zero_off, View.ld_unit_zero zero_off]
  refine (congrArg _ (eq_ix2 y)).trans ((pay2_at _ _ _ _ (y 0) (y 1)).trans ?_)
  exact congrArg₂ (fun f g => normed f g (y 1)) (funext fun x => product m c t (ix2 (y 0) x)) (block3 m c t (y 1))

/-- What the result arrays end holding. -/
def G4 (x : S4096x1024.Idx) : EReal := total m c (x 0).val (x 1)
def G5 (x : S4096x1024.Idx) : EReal := unit m c (x 0).val (x 1)

theorem final4 : ((dats m 0 c).arrAt 4 cfg0.N : S4096x1024.Idx → EReal) = G4 m c := by
  funext x
  refine Dat.arrAt_forall_of_covers (dats m 0 c) 4 (fun x v => v = G4 m c x) (by decide +kernel) (fun t ht y => ?_) x
  blk_simp
  rw [after0_4]
  refine (leaves4 m c t y).trans ?_
  unfold G4
  have e : (win0_4.blk t).view.emb y 1 = (y 1 : Fin 1024) := Fin.ext ((emb4_1 t y).trans (by rw [Nat.zero_mul, Nat.zero_add]))
  rw [emb4_0, e]
theorem final5 : ((dats m 0 c).arrAt 5 cfg0.N : S4096x1024.Idx → EReal) = G5 m c := by
  funext x
  refine Dat.arrAt_forall_of_covers (dats m 0 c) 5 (fun x v => v = G5 m c x) (by decide +kernel) (fun t ht y => ?_) x
  blk_simp
  rw [after0_5]
  refine (leaves5 m c t y).trans ?_
  unfold G5
  have e : (win0_5.blk t).view.emb y 1 = (y 1 : Fin 1024) := Fin.ext ((emb5_1 t y).trans (by rw [Nat.zero_mul, Nat.zero_add]))
  rw [emb5_0, e]

end Cert.MixOutIdeal.Hand

namespace Cert.MixOutPlainIdeal.Hand

open Cert.MixOutPlainIdeal Cert.MixOutPlainIdeal.Gen Cert.Product
open Idealize.ShloMosaic Idealize.ShloMosaic.TcCoe Idealize.ShloMosaic.Tactic
open Idealize.SL Idealize.SL.Sem
open Cert.MixOutIdeal.Hand (normed)

theorem plain (x : FVec Ideal S4096x1024 .f32) (w : FVec Ideal S1024x1024 .f32) (i : S4096x1024.Idx) :
    Host.dotGeneral dot_S4096x1024_S1024x1024_S4096x1024_1_0_0_1_n_n none x w i
      = ∑ k : Fin 1024, entry (M := 4096) (N := 1024) x (i 0).val k * entry (M := 1024) (N := 1024) w k (i 1).val := by
  have h : Host.dotGeneral dot_S4096x1024_S1024x1024_S4096x1024_1_0_0_1_n_n none x w (ix2 (i 0) (i 1))
      = ∑ k : Fin 1024, x (ix2 (i 0) k) * w (ix2 k (i 1)) := by
    pointwise
  refine (congrArg _ (eq_ix2 i)).trans (h.trans (Finset.sum_congr rfl fun k _ => ?_))
  exact congrArg₂ (· * ·) (entry_ix2 x (i 0) k) (entry_ix2 w k (i 1))

theorem norm (h : FVec Ideal S4096x1024 .f32) (g : FVec Ideal S1024 .f32) (i : Fin 4096) (j : Fin 1024) :
    (truncf .bf16 (mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32 (ix2 i j) : EReal)
      = normed (fun x => h (ix2 i x)) (g (ix1 j)) j := by
  pointwise

end Cert.MixOutPlainIdeal.Hand

namespace Cert.MixOutIdeal.Hand

open Cert.Product
open Idealize.ShloMosaic Idealize.ShloMosaic.TcCoe
open Idealize.SL Idealize.SL.Sem

theorem sum_at (x h : FVec Ideal MixOutPlainIdeal.S4096x1024 .f32) (w : FVec Ideal MixOutPlainIdeal.S1024x1024 .f32) (i : MixOutPlainIdeal.S4096x1024.Idx) :
    (addf h (Host.dotGeneral MixOutPlainIdeal.dot_S4096x1024_S1024x1024_S4096x1024_1_0_0_1_n_n none x w) i : EReal)
      = (∑ k : Fin 1024, entry (M := 4096) (N := 1024) x (i 0).val k * entry (M := 1024) (N := 1024) w k (i 1).val) + entry (M := 4096) (N := 1024) h (i 0).val (i 1).val :=
  (add_comm _ _).trans (congrArg₂ (· + ·) (Cert.MixOutPlainIdeal.Hand.plain x w i) (entry_at (M := 4096) (N := 1024) h i))

/-- The kernel's two results and the plain ones end with the same values. -/
theorem same : Cert.algebraic_MixOutIdeal_MixOutPlainIdeal := by
  intro m g m' g' _ hm
  refine ⟨fun c => G4 m c, fun c => G5 m c, ?_, ?_⟩
  · refine (θ_run _ _ _).mono (fun r h c => ⟨(h c).1.trans (final4 m c), (h c).2.1.trans (final5 m c), (h c).2.2⟩) (Value.run_blocks m g)
  · refine (θ_run _ _ _).mono (fun r h c => ⟨(h c).1.trans ?_, (h c).2.1.trans ?_, (h c).2.2⟩) (Cert.MixOutPlainIdeal.Value.run m' g')
    · funext i
      rw [(hm c).1, (hm c).2.1, (hm c).2.2.1]
      exact sum_at _ _ _ i
    · funext i
      rw [(hm c).1, (hm c).2.1, (hm c).2.2.1, (hm c).2.2.2]
      refine (congrArg _ (eq_ix2 i)).trans ((Cert.MixOutPlainIdeal.Hand.norm _ _ (i 0) (i 1)).trans ?_)
      exact congrArg (fun f => normed f _ (i 1)) (funext fun x => sum_at _ _ _ (ix2 (i 0) x))

end Cert.MixOutIdeal.Hand

end
-- ==== Proof.NormGrad.lean ====
/-
  Hand-written, untrusted. The gradient of a row over the root of its mean square: as one call writes it and as the chain rule writes it, the same extended real.
-/
module

public import proofs.«01_k».proof.Proof.Heads
public import Idealize.ShloMosaic.Lib.Pipeline.Value

@[expose] public section

noncomputable section

namespace Cert.NormGrad

open Idealize.ShloMosaic
open Cert.KernelIdeal.Hand (rsqrt_coe ofBits_eps epsR)
open Cert.ReferenceIdeal.Hand (eps_pos ofBits_neghalf)

/-- The mean square of a row, and a little more. -/
abbrev mean (h : Fin 1024 → EReal) : EReal :=
  Ideal.div (∑ x : Fin 1024, h x * h x) (Ideal.ofBits .f32 0x44800000#32) + Ideal.ofBits .f32 0x358637BD#32
/-- What a row is multiplied by. -/
abbrev factor (h : Fin 1024 → EReal) : EReal := Ideal.rsqrt (mean h)
/-- One entry of the gradient in one piece, `e` being what is added. -/
abbrev inOne (h d g : Fin 1024 → EReal) (e : EReal) (j : Fin 1024) : EReal :=
  factor h * (d j * g j) - h j * (factor h * factor h * factor h * Ideal.div (∑ x : Fin 1024, d x * g x * h x) (Ideal.ofBits .f32 0x44800000#32)) + e
/-- The share of the mean square in the gradient. -/
abbrev share (h d g : Fin 1024 → EReal) : EReal :=
  Ideal.div ((∑ x : Fin 1024, h x * (d x * g x)) * (Ideal.ofBits .f32 0xBF000000#32 * Ideal.div (factor h) (mean h))) (Ideal.ofBits .f32 0x44800000#32)
/-- One entry of the gradient by the chain rule. -/
abbrev byChain (h d g : Fin 1024 → EReal) (e : EReal) (j : Fin 1024) : EReal :=
  e + (d j * g j * factor h + h j * share h d g + share h d g * h j)

theorem ofBits_1024 : Ideal.ofBits FTy.f32 0x44800000#32 = ((1024 : ℝ) : EReal) := by
  simp [Ideal.ofBits, Ideal.ieee, -EReal.coe_mul]; norm_num

theorem div_1024 (x : EReal) : Ideal.div x ((1024 : ℝ) : EReal) = x * ((1024⁻¹ : ℝ) : EReal) := by
  unfold Ideal.div
  rw [if_neg (by rw [EReal.coe_eq_zero]; norm_num), EReal.coe_inv]

theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

theorem mean_pos (h : Fin 1024 → EReal) : 0 < mean h := by
  unfold mean
  rw [ofBits_1024, ofBits_eps, div_1024]
  have e : (0 : EReal) < ((epsR : ℝ) : EReal) := EReal.coe_pos.mpr eps_pos
  have s : (0 : EReal) ≤ (∑ x : Fin 1024, h x * h x) * ((1024⁻¹ : ℝ) : EReal) :=
    mul_nonneg (Finset.sum_nonneg fun x _ => square_nonneg (h x)) (EReal.coe_nonneg.mpr (by norm_num))
  exact lt_of_lt_of_le e (le_add_of_nonneg_left s)

/-- The derivative of the root is its cube, up to the half. -/
theorem cube (v : EReal) (hv : 0 < v) : Ideal.div (Ideal.rsqrt v) v = Ideal.rsqrt v * Ideal.rsqrt v * Ideal.rsqrt v := by
  induction v with
  | bot => exact absurd hv (by simp)
  | top =>
    show Ideal.div 0 ⊤ = 0 * 0 * 0
    unfold Ideal.div
    rw [if_neg (by simp), zero_mul, zero_mul, zero_mul]
  | coe r =>
    have hr : 0 < r := EReal.coe_pos.mp hv
    rw [rsqrt_coe hr, Cert.ReferenceIdeal.Hand.div_coe _ hr.ne', ← EReal.coe_mul, ← EReal.coe_mul]
    refine congrArg _ ?_
    have q : Real.sqrt r * Real.sqrt r = r := Real.mul_self_sqrt hr.le
    have p : Real.sqrt r ≠ 0 := (Real.sqrt_pos.mpr hr).ne'
    rw [div_eq_mul_inv]
    conv_lhs => rw [← q, mul_inv, Real.sqrt_mul_self (Real.sqrt_nonneg _)]
    ring

theorem halves (z : EReal) : ((-(1 / 2) : ℝ) : EReal) * z + ((-(1 / 2) : ℝ) : EReal) * z = -z := by
  induction z with
  | bot => rw [EReal.coe_mul_bot_of_neg (by norm_num)]; rfl
  | top => rw [EReal.coe_mul_top_of_neg (by norm_num)]; rfl
  | coe r => rw [← EReal.coe_mul, ← EReal.coe_add, ← EReal.coe_neg]; refine congrArg _ ?_; ring

theorem same (h d g : Fin 1024 → EReal) (e : EReal) (j : Fin 1024) : byChain h d g e j = inOne h d g e j := by
  have s : (∑ x : Fin 1024, h x * (d x * g x)) = ∑ x : Fin 1024, d x * g x * h x := Finset.sum_congr rfl fun x _ => mul_comm _ _
  unfold byChain inOne share factor
  rw [cube _ (mean_pos h), s]
  generalize Ideal.rsqrt (mean h) = r
  generalize (∑ x : Fin 1024, d x * g x * h x) = t
  rw [ofBits_1024, div_1024, div_1024, ofBits_neghalf]
  generalize ((1024⁻¹ : ℝ) : EReal) = k
  generalize d j * g j = a
  generalize h j = b
  have p : b * (t * (((-(1 / 2) : ℝ) : EReal) * (r * r * r)) * k) = ((-(1 / 2) : ℝ) : EReal) * (b * (r * r * r * (t * k))) := by ac_rfl
  rw [mul_comm (t * (((-(1 / 2) : ℝ) : EReal) * (r * r * r)) * k) b, p, add_assoc, halves, add_comm, mul_comm a r, sub_eq_add_neg]

section
variable {Val : EltTy → Type} [∀ e, Nonempty (Val e)] {sig : RefSig} {κ : Kind} {sp : Space} {S : Shape} {e : EltTy}

/-- The last store to a whole view leaves its payload, whatever was stored before. -/
theorem store_last (v : View sig κ sp S e) (f : v.ty.Contents Val) {off : Fin S.rank → ℕ} (ho : off = fun _ => 0) (inb : ∀ a, off a + S.size a ≤ S.size a) (w : S.Idx → Val e)
    (L : List (View.Piece Val S e)) : v.read Val (v.writes Val f (⟨Rect.unit off S.size inb, w⟩ :: L)) = w := by
  rw [View.read_writes_eq_canon _ _ _ (fun y => ⟨_, List.mem_cons_self, View.mem_set_unit_zero ho inb y⟩), View.canon_cons_unit_zero ho]
end

end Cert.NormGrad

end
-- ==== Proof.DHn2.lean ====
/-
  Hand-written, untrusted. The gradient through the gate's product and the norm before it, in one call: what the kernel leaves is the chain rule's gradient for the rows and for the gains.
-/
module

public import proofs.«01_k».proof.Proof.Product
public import proofs.«01_k».proof.Proof.NormGrad
public import proofs.«01_k».proof.Proof.Gen.DHn2Ideal.Value
public import proofs.«01_k».proof.Proof.Gen.DHn2PlainIdeal.Run
public import proofs.«01_k».proof.Proof.Gen.DHn2.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.DHn2Ideal.Hand

open Cert.DHn2Ideal Cert.DHn2Ideal.Gen Cert.Product
open Idealize.ShloMosaic Idealize.ShloMosaic.TcCoe Idealize.ShloMosaic.Tactic
open Idealize.SL Idealize.SL.Sem
open Idealize.ShloMosaic.Pipeline (Dat)
open Cert.NormGrad

theorem pay3_at (a b : FVec Ideal S1024x1024 .bf16) (i j : Fin 1024) :
    (k0_pay3 (F := Ideal) a b (ix2 i j) : EReal) = ∑ k : Fin 1024, a (ix2 i k) * b (ix2 j k) := by
  pointwise [k0_pay3]
theorem pay6_at (a b : FVec Ideal S1024x1024 .bf16) (h e : FVec Ideal S1024x1024 .f32) (g : FVec Ideal S1x1024 .f32) (i j : Fin 1024) :
    (k0_pay6 (F := Ideal) a b h g e (ix2 i j) : EReal)
      = inOne (fun x => h (ix2 i x)) (fun x => k0_pay3 (F := Ideal) a b (ix2 i x)) (fun x => g (ix2 0 x)) (e (ix2 i j)) j := by
  pointwise [k0_pay6, k0_pay4]
theorem pay5_at (a b : FVec Ideal S1024x1024 .bf16) (h : FVec Ideal S1024x1024 .f32) (j : Fin 1024) :
    (k0_pay5 (F := Ideal) a b h (ix2 0 j) : EReal)
      = ∑ i : Fin 1024, k0_pay3 (F := Ideal) a b (ix2 i j) * h (ix2 i j) * factor (fun x => h (ix2 i x)) := by
  pointwise [k0_pay5, k0_pay4]
theorem pay2_at (d x : FVec Ideal S1x1024 .f32) (j : Fin 1024) : (k0_pay2 (F := Ideal) d x (ix2 0 j) : EReal) = x (ix2 0 j) + d (ix2 0 j) := by
  pointwise [k0_pay2]
theorem pay1_at (j : Fin 1024) : (k0_pay1 (F := Ideal) (ix2 0 j) : EReal) = 0 := by
  pointwise [k0_pay1]

variable (m : (ℓ : Loc nD τ sig) → Buf (Elt Ideal) ℓ) (c : Dev nD)

theorem count : cfg0.N = 4 := by decide +kernel
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index4 : ∀ t : Fin cfg0.N, win0_4.index t = ![t.val, 0] := by decide +kernel
theorem index5 : ∀ t : Fin cfg0.N, win0_5.index t = ![t.val, 0] := by decide +kernel

/-- The arrays the product is taken of are the arguments: rounding keeps an ideal value. -/
theorem left_arg : (V m c main_v0 : S4096x1024.Idx → EReal) = m ((c : Thread nD τ).loc main_arg0) := by
  show StableHlo.after hostOps0 (fun b => m (c, b)) (Proc.devRef .tc main_v0) = _
  after_results_simp
  rfl
theorem right_arg : (V m c main_v1 : S1024x1024.Idx → EReal) = m ((c : Thread nD τ).loc main_arg1) := by
  show StableHlo.after hostOps0 (fun b => m (c, b)) (Proc.devRef .tc main_v1) = _
  after_results_simp
  rfl

abbrev X : ℕ → ℕ → EReal := entry (M := 4096) (N := 1024) (m ((c : Thread nD τ).loc main_arg0))
abbrev Y : ℕ → ℕ → EReal := entry (M := 1024) (N := 1024) (m ((c : Thread nD τ).loc main_arg1))
abbrev E : ℕ → ℕ → EReal := entry (M := 4096) (N := 1024) (m ((c : Thread nD τ).loc main_arg4))
abbrev H : ℕ → ℕ → EReal := entry (M := 4096) (N := 1024) (m ((c : Thread nD τ).loc main_arg2))

theorem emb0_0 (t : Fin cfg0.N) (y : S1024x1024.Idx) : (((win0_0.blk t).view.emb y 0 : Fin 4096) : ℕ) = t.val * 1024 + (y 0 : ℕ) := by
  blk_simp [index0]
  all_goals rfl
theorem emb0_1 (t : Fin cfg0.N) (y : S1024x1024.Idx) : (((win0_0.blk t).view.emb y 1 : Fin 1024) : ℕ) = 0 * 1024 + (y 1 : ℕ) := by
  blk_simp [index0]
  all_goals rfl
theorem emb1_0 (t : Fin cfg0.N) (y : S1024x1024.Idx) : (((win0_1.blk t).view.emb y 0 : Fin 1024) : ℕ) = 0 * 1024 + (y 0 : ℕ) := by
  blk_simp [index1]
  all_goals rfl
theorem emb1_1 (t : Fin cfg0.N) (y : S1024x1024.Idx) : (((win0_1.blk t).view.emb y 1 : Fin 1024) : ℕ) = 0 * 1024 + (y 1 : ℕ) := by
  blk_simp [index1]
  all_goals rfl
theorem emb2_0 (t : Fin cfg0.N) (y : S1024x1024.Idx) : (((win0_2.blk t).view.emb y 0 : Fin 4096) : ℕ) = t.val * 1024 + (y 0 : ℕ) := by
  blk_simp [index2]
  all_goals rfl
theorem emb2_1 (t : Fin cfg0.N) (y : S1024x1024.Idx) : (((win0_2.blk t).view.emb y 1 : Fin 1024) : ℕ) = 0 * 1024 + (y 1 : ℕ) := by
  blk_simp [index2]
  all_goals rfl
theorem emb4_0 (t : Fin cfg0.N) (y : S1024x1024.Idx) : (((win0_4.blk t).view.emb y 0 : Fin 4096) : ℕ) = t.val * 1024 + (y 0 : ℕ) := by
  blk_simp [index4]
  all_goals rfl
theorem emb4_1 (t : Fin cfg0.N) (y : S1024x1024.Idx) : (((win0_4.blk t).view.emb y 1 : Fin 1024) : ℕ) = 0 * 1024 + (y 1 : ℕ) := by
  blk_simp [index4]
  all_goals rfl
theorem emb5_0 (t : Fin cfg0.N) (y : ((cfg0.win 5).xblock (cfg0.grid.coords t)).Idx) : (((win0_5.blk t).view.emb y 0 : Fin 4096) : ℕ) = t.val * 1024 + (y 0 : ℕ) := by
  blk_simp [index5]
  all_goals rfl
theorem emb5_1 (t : Fin cfg0.N) (y : ((cfg0.win 5).xblock (cfg0.grid.coords t)).Idx) : (((win0_5.blk t).view.emb y 1 : Fin 1024) : ℕ) = 0 * 1024 + (y 1 : ℕ) := by
  blk_simp [index5]
  all_goals rfl

theorem block0 (t : Fin cfg0.N) (y : S1024x1024.Idx) : (iblk m c 0 t : S1024x1024.Idx → EReal) y = X m c (t.val * 1024 + (y 0).val) (y 1).val := by
  refine (entry_at (M := 4096) (N := 1024) (V m c main_v0) ((win0_0.blk t).view.emb y)).trans ?_
  rw [left_arg, emb0_0, emb0_1, Nat.zero_mul, Nat.zero_add]
theorem block1 (t : Fin cfg0.N) (y : S1024x1024.Idx) : (iblk m c 1 t : S1024x1024.Idx → EReal) y = Y m c (y 0).val (y 1).val := by
  refine (entry_at (M := 1024) (N := 1024) (V m c main_v1) ((win0_1.blk t).view.emb y)).trans ?_
  rw [right_arg, emb1_0, emb1_1]
  simp only [Nat.zero_mul, Nat.zero_add]
theorem block2 (t : Fin cfg0.N) (y : S1024x1024.Idx) : (iblk m c 2 t : S1024x1024.Idx → EReal) y = H m c (t.val * 1024 + (y 0).val) (y 1).val := by
  refine (entry_at (M := 4096) (N := 1024) (V m c main_arg2) ((win0_2.blk t).view.emb y)).trans ?_
  rw [V_main_arg2, emb2_0, emb2_1, Nat.zero_mul, Nat.zero_add]
theorem block4 (t : Fin cfg0.N) (y : S1024x1024.Idx) : (iblk m c 4 t : S1024x1024.Idx → EReal) y = E m c (t.val * 1024 + (y 0).val) (y 1).val := by
  refine (entry_at (M := 4096) (N := 1024) (V m c main_arg4) ((win0_4.blk t).view.emb y)).trans ?_
  rw [V_main_arg4, emb4_0, emb4_1, Nat.zero_mul, Nat.zero_add]

theorem index3 : ∀ t : Fin cfg0.N, win0_3.index t = ![0, 0] := by decide +kernel
theorem emb3_0 (t : Fin cfg0.N) (y : S1x1024.Idx) : (((win0_3.blk t).view.emb y 0 : Fin 1) : ℕ) = 0 * 1 + (y 0 : ℕ) := by
  blk_simp [index3]
  all_goals rfl
theorem emb3_1 (t : Fin cfg0.N) (y : S1x1024.Idx) : (((win0_3.blk t).view.emb y 1 : Fin 1024) : ℕ) = 0 * 1024 + (y 1 : ℕ) := by
  blk_simp [index3]
  all_goals rfl
theorem gain_arg (j : Fin 1024) : (V m c main_v2 : S1x1024.Idx → EReal) (ix2 0 j) = m ((c : Thread nD τ).loc main_arg3) (ix1 j) := by
  show (StableHlo.after hostOps0 (fun b => m (c, b)) (Proc.devRef .tc main_v2) : S1x1024.Idx → EReal) (ix2 0 j) = _
  after_results_simp
  pointwise
theorem block3 (t : Fin cfg0.N) (j : Fin 1024) : (iblk m c 3 t : S1x1024.Idx → EReal) (ix2 0 j) = m ((c : Thread nD τ).loc main_arg3) (ix1 j) := by
  refine Eq.trans ?_ (gain_arg m c j)
  show V m c main_v2 ((win0_3.blk t).view.emb (ix2 0 j)) = V m c main_v2 (ix2 0 j)
  refine congrArg (V m c main_v2) (funext fun a => ?_)
  match a with
  | ⟨0, _⟩ => exact Fin.ext ((emb3_0 t (ix2 0 j)).trans rfl)
  | ⟨1, _⟩ => exact Fin.ext ((emb3_1 t (ix2 0 j)).trans ((congrArg (· + j.val) (Nat.zero_mul 1024)).trans (Nat.zero_add j.val)))

theorem index6 : ∀ t : Fin cfg0.N, win0_6.index t = ![0, 0] := by decide +kernel
theorem emb6_1 (t : Fin cfg0.N) (y : ((cfg0.win 6).xblock (cfg0.grid.coords t)).Idx) : (((win0_6.blk t).view.emb y 1 : Fin 1024) : ℕ) = 0 * 1024 + (y 1 : ℕ) := by
  blk_simp [index6]
  all_goals rfl
theorem flush6 : ∀ t : Fin cfg0.N, (cfg0.win 6).flush t = true → t.val = 3 := by decide +kernel

/-- The gradient of the normed row, the row, and the gains. -/
def dn (a j : ℕ) : EReal := ∑ s ∈ Finset.range 1024, X m c a s * Y m c j s
def row (a : ℕ) (j : Fin 1024) : EReal := H m c a j
def gain (j : Fin 1024) : EReal := m ((c : Thread nD τ).loc main_arg3) (ix1 j)
/-- One entry of the gradient of the rows, and one row's share of that of a gain. -/
def grad (a : ℕ) (j : Fin 1024) : EReal := inOne (row m c a) (fun x => dn m c a x.val) (gain m c) (E m c a j.val) j
def term (j : Fin 1024) (a : ℕ) : EReal := dn m c a j.val * row m c a j * factor (row m c a)

theorem product (t : Fin cfg0.N) (i j : Fin 1024) : (k0_pay3 (F := Ideal) (iblk m c 0 t) (iblk m c 1 t) (ix2 i j) : EReal) = dn m c (t.val * 1024 + i.val) j.val := by
  refine (pay3_at _ _ i j).trans ?_
  unfold dn
  rw [Finset.sum_range]
  exact Finset.sum_congr rfl fun k _ => congrArg₂ (· * ·) (block0 m c t (ix2 i k)) (block1 m c t (ix2 j k))

theorem rows (t : Fin cfg0.N) (y : S1024x1024.Idx) :
    (k0_pay6 (F := Ideal) (iblk m c 0 t) (iblk m c 1 t) (iblk m c 2 t) (iblk m c 3 t) (iblk m c 4 t) y : EReal) = grad m c (t.val * 1024 + (y 0).val) (y 1) := by
  refine (congrArg _ (eq_ix2 y)).trans ((pay6_at _ _ _ _ _ (y 0) (y 1)).trans ?_)
  unfold grad
  rw [show (fun x : Fin 1024 => (k0_pay3 (F := Ideal) (iblk m c 0 t) (iblk m c 1 t) (ix2 (y 0) x) : EReal)) = fun x : Fin 1024 => dn m c (t.val * 1024 + (y 0).val) x.val from
      funext fun x => product m c t (y 0) x,
    show (fun x : Fin 1024 => ((iblk m c 2 t : S1024x1024.Idx → EReal) (ix2 (y 0) x))) = row m c (t.val * 1024 + (y 0).val) from
      funext fun x => block2 m c t (ix2 (y 0) x),
    show (fun x : Fin 1024 => ((iblk m c 3 t : S1x1024.Idx → EReal) (ix2 0 x))) = gain m c from funext fun x => block3 m c t x]
  exact congrArg (fun e => inOne _ _ _ e (y 1)) (block4 m c t (ix2 (y 0) (y 1)))

theorem gains (t : Fin cfg0.N) (j : Fin 1024) :
    (k0_pay5 (F := Ideal) (iblk m c 0 t) (iblk m c 1 t) (iblk m c 2 t) (ix2 0 j) : EReal) = ∑ i : Fin 1024, term m c j (t.val * 1024 + i.val) := by
  refine (pay5_at _ _ _ j).trans (Finset.sum_congr rfl fun i _ => ?_)
  unfold term
  rw [product m c t i j,
    show (fun x : Fin 1024 => ((iblk m c 2 t : S1024x1024.Idx → EReal) (ix2 i x))) = row m c (t.val * 1024 + i.val) from
      funext fun x => block2 m c t (ix2 i x)]
  exact congrArg (fun h => dn m c (t.val * 1024 + i.val) j.val * h * factor (row m c (t.val * 1024 + i.val))) (block2 m c t (ix2 i j))

section
variable (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .f32) (harg5 : arg5.IsWhole) (arg6 : Memref sig .tc .vmem S1x1024 .f32) (harg6 : arg6.IsWhole)
  (arg7 : Memref sig .tc .vmem S1024x1024 .f32) (harg7 : arg7.IsWhole) (arg8 : Memref sig .tc .vmem S1024x1024 .f32) (harg8 : arg8.IsWhole)
  (arg9 : Memref sig .tc .vmem S1x1024 .f32) (harg9 : arg9.IsWhole)
  (x0 x1 : Vec Ideal S1024x1024 .bf16) (x2 : Vec Ideal S1024x1024 .f32) (x3 : Vec Ideal S1x1024 .f32) (x4 : Vec Ideal S1024x1024 .f32) (xo6 : Vec Ideal S1x1024 .f32)

theorem rows_A (hc0 : cond0_0 i) : out0_A_5 c i arg3 harg3 arg4 harg4 arg5 harg5 arg6 harg6 arg7 harg7 arg8 harg8 arg9 harg9 hc0 x0 x1 x2 x3 x4 = k0_pay6 x0 x1 x2 x3 x4 := by
  unfold out0_A_5 kernelRun0_A
  refine (store_whole VO0_5 _ zero_off _ _).trans ?_
  unfold kernelRun0_A.sl.r_1
  exact congr (congr (congr (congrArg₂ k0_pay6 (load_whole harg3 zero_off _ x0) (load_whole harg4 zero_off _ x1)) (load_whole harg5 zero_off _ x2)) (load_whole harg6 zero_off _ x3)) (load_whole harg7 zero_off _ x4)
theorem rows_B (hc0 : ¬cond0_0 i) : out0_B_5 c i arg3 harg3 arg4 harg4 arg5 harg5 arg6 harg6 arg7 harg7 arg8 harg8 arg9 harg9 hc0 x0 x1 x2 x3 x4 xo6 = k0_pay6 x0 x1 x2 x3 x4 := by
  unfold out0_B_5 kernelRun0_B
  refine (store_whole VO0_5 _ zero_off _ _).trans ?_
  unfold kernelRun0_B.sl.r_1
  exact congr (congr (congr (congrArg₂ k0_pay6 (load_whole harg3 zero_off _ x0) (load_whole harg4 zero_off _ x1)) (load_whole harg5 zero_off _ x2)) (load_whole harg6 zero_off _ x3)) (load_whole harg7 zero_off _ x4)
theorem sum_A (hc0 : cond0_0 i) : out0_A_6 c i arg3 harg3 arg4 harg4 arg5 harg5 arg6 harg6 arg7 harg7 arg8 harg8 arg9 harg9 hc0 x0 x1 x2 x3 x4 = k0_pay2 (k0_pay5 x0 x1 x2) (k0_pay1 (F := Ideal)) := by
  unfold out0_A_6 kernelRun0_A
  refine (store_last VO0_6 _ zero_off _ _ _).trans ?_
  refine congrArg₂ k0_pay2 ?_ ?_
  · unfold kernelRun0_A.sl.r
    exact congr (congrArg₂ k0_pay5 (load_whole harg3 zero_off _ x0) (load_whole harg4 zero_off _ x1)) (load_whole harg5 zero_off _ x2)
  · unfold kernelRun0_A.sl.v42 kernelRun0_A.sl.H6_1
    exact View.readCov_unit_zero _ zero_off _ _
theorem sum_B (hc0 : ¬cond0_0 i) : out0_B_6 c i arg3 harg3 arg4 harg4 arg5 harg5 arg6 harg6 arg7 harg7 arg8 harg8 arg9 harg9 hc0 x0 x1 x2 x3 x4 xo6 = k0_pay2 (k0_pay5 x0 x1 x2) xo6 := by
  unfold out0_B_6 kernelRun0_B
  refine (store_whole VO0_6 _ zero_off _ _).trans ?_
  refine congrArg₂ k0_pay2 ?_ (load_whole harg9 zero_off _ xo6)
  unfold kernelRun0_B.sl.r
  exact congr (congrArg₂ k0_pay5 (load_whole harg3 zero_off _ x0) (load_whole harg4 zero_off _ x1)) (load_whole harg5 zero_off _ x2)
end

theorem left5 (t : Fin cfg0.N) : (outsAt0 m c t.val t.isLt).1 = k0_pay6 (iblk m c 0 t) (iblk m c 1 t) (iblk m c 2 t) (iblk m c 3 t) (iblk m c 4 t) := by
  by_cases h0 : t.val % 4 = 0
  · have e := outsAt0_A m c t h0
    generalize outsAt0 m c t.val t.isLt = z at e ⊢
    subst e
    dsimp only
    rw [rows_A]
  · have e := outsAt0_B m c t h0
    generalize outsAt0 m c t.val t.isLt = z at e ⊢
    subst e
    dsimp only
    rw [rows_B]
theorem carry_A (t : Fin cfg0.N) (h0 : t.val % 4 = 0) : (outsAt0 m c t.val t.isLt).2 = k0_pay2 (k0_pay5 (iblk m c 0 t) (iblk m c 1 t) (iblk m c 2 t)) (k0_pay1 (F := Ideal)) := by
  have e := outsAt0_A m c t h0
  generalize outsAt0 m c t.val t.isLt = z at e ⊢
  subst e
  dsimp only
  rw [sum_A]
theorem carry_B (t : Fin cfg0.N) (h0 : ¬ t.val % 4 = 0) :
    (outsAt0 m c t.val t.isLt).2 = k0_pay2 (k0_pay5 (iblk m c 0 t) (iblk m c 1 t) (iblk m c 2 t)) (outsAt0 m c (t.val - 1) (Nat.lt_of_le_of_lt (Nat.sub_le _ _) t.isLt)).2 := by
  have e := outsAt0_B m c t h0
  generalize outsAt0 m c t.val t.isLt = z at e ⊢
  subst e
  dsimp only
  rw [sum_B]

theorem carried : ∀ (n : ℕ) (hn : n < cfg0.N) (j : Fin 1024), ((outsAt0 m c n hn).2 (ix2 0 j) : EReal) = ∑ a ∈ Finset.range ((n + 1) * 1024), term m c j a
  | 0, hn, j => by
    refine (congrFun (carry_A m c ⟨0, hn⟩ rfl) (ix2 0 j)).trans ((pay2_at _ _ j).trans ?_)
    rw [pay1_at, zero_add, gains, Nat.zero_add, sum_first]
    refine Finset.sum_congr rfl fun k _ => ?_
    rw [Nat.zero_mul, Nat.zero_add]
  | n + 1, hn, j => by
    have b : n + 1 < 4 := by have e := count; omega
    refine (congrFun (carry_B m c ⟨n + 1, hn⟩ (by dsimp only; omega)) (ix2 0 j)).trans ((pay2_at _ _ j).trans ?_)
    rw [gains]
    refine (congrArg (· + _) (carried n (Nat.lt_of_succ_lt hn) j)).trans ?_
    exact (sum_block _ _ _).symm

/-- What the result arrays end holding. -/
def G5 (x : S4096x1024.Idx) : EReal := grad m c (x 0).val (x 1)
def G6 (x : S1x1024.Idx) : EReal := ∑ a ∈ Finset.range 4096, term m c (x 1) a

theorem final5 : ((dats m 0 c).arrAt 5 cfg0.N : S4096x1024.Idx → EReal) = G5 m c := by
  funext x
  refine Dat.arrAt_forall_of_covers (dats m 0 c) 5 (fun x v => v = G5 m c x) (by decide +kernel) (fun t ht y => ?_) x
  blk_simp
  rw [after0_5]
  refine (congrFun (left5 m c t) y).trans ((rows m c t y).trans ?_)
  unfold G5
  have e : (win0_5.blk t).view.emb y 1 = (y 1 : Fin 1024) := Fin.ext ((emb5_1 t y).trans (by rw [Nat.zero_mul, Nat.zero_add]))
  rw [emb5_0, e]
theorem final6 : ((dats m 0 c).arrAt 6 cfg0.N : S1x1024.Idx → EReal) = G6 m c := by
  funext x
  refine Dat.arrAt_forall_of_covers (dats m 0 c) 6 (fun x v => v = G6 m c x) (by decide +kernel) (fun t ht y => ?_) x
  blk_simp
  rw [after0_6]
  have z : y = ix2 (0 : Fin 1) (y 1) := (eq_ix2 y).trans (congrArg (fun a : Fin 1 => ix2 a (y 1)) (Subsingleton.elim _ _))
  refine (congrArg (outsAt0 m c t.val t.isLt).2 z).trans ((carried m c t.val t.isLt (y 1)).trans ?_)
  unfold G6
  have e : (win0_6.blk t).view.emb y 1 = (y 1 : Fin 1024) := Fin.ext ((emb6_1 t y).trans (by rw [Nat.zero_mul, Nat.zero_add]))
  rw [flush6 t ht, e]

end Cert.DHn2Ideal.Hand

namespace Cert.DHn2PlainIdeal.Hand

open Cert.DHn2PlainIdeal Cert.DHn2PlainIdeal.Gen Cert.Product
open Idealize.ShloMosaic Idealize.ShloMosaic.TcCoe Idealize.ShloMosaic.Tactic
open Idealize.SL Idealize.SL.Sem
open Cert.NormGrad

theorem plain (x : FVec Ideal S4096x1024 .f32) (w : FVec Ideal S1024x1024 .f32) (i : Fin 4096) (j : Fin 1024) :
    Host.dotGeneral dot_S4096x1024_S1024x1024_S4096x1024_1_1_0_0_n_n none x w (ix2 i j)
      = ∑ s ∈ Finset.range 1024, entry (M := 4096) (N := 1024) x i.val s * entry (M := 1024) (N := 1024) w j.val s := by
  have h : Host.dotGeneral dot_S4096x1024_S1024x1024_S4096x1024_1_1_0_0_n_n none x w (ix2 i j)
      = ∑ k : Fin 1024, x (ix2 i k) * w (ix2 j k) := by
    pointwise
  refine h.trans ?_
  rw [Finset.sum_range]
  refine Finset.sum_congr rfl fun k _ => ?_
  exact congrArg₂ (· * ·) (entry_ix2 x i k) (entry_ix2 w j k)

set_option maxHeartbeats 2000000 in
theorem rows (y h e : FVec Ideal S4096x1024 .f32) (g : FVec Ideal S1024 .f32) (i : Fin 4096) (j : Fin 1024) :
    (addf e (addf (addf (mulf (mulf y (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf h (broadcastInDim S4096x1024 ![0] bcast_S4096_S4096x1024_0 (Host.reduceAdd (Host.divf (mulf (shapeCast _ (Host.reduceAdd (mulf h (mulf y (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf h (mulf y (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) h)) : FVec Ideal S4096x1024 .f32) (ix2 i j)
      = byChain (fun x => h (ix2 i x)) (fun x => y (ix2 i x)) (fun x => g (ix1 x)) (e (ix2 i j)) j := by
  pointwise
  simp only [Fin.sum_univ_one]

theorem gains (y h : FVec Ideal S4096x1024 .f32) (j : Fin 1024) :
    (broadcastInDim S1x1024 ![1] bcast_S1024_S1x1024_1 (Host.reduceAdd (shapeCast _ (Host.reduceAdd (mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) y) (constant S_ .f32 0x00000000#32) reducesTo_S4096x1024_S1024_d0 h_S_) shapeCasts_S1024_S1x1024) (constant S_ .f32 0x00000000#32) reducesTo_S1x1024_S1024_d0 h_S_) : FVec Ideal S1x1024 .f32) (ix2 0 j)
      = ∑ i : Fin 4096, h (ix2 i j) * factor (fun x => h (ix2 i x)) * y (ix2 i j) := by
  pointwise
  simp only [Fin.sum_univ_one]

end Cert.DHn2PlainIdeal.Hand

namespace Cert.DHn2Ideal.Hand

open Cert.Product Cert.NormGrad
open Idealize.ShloMosaic Idealize.ShloMosaic.TcCoe
open Idealize.SL Idealize.SL.Sem

/-- The kernel's two results and the chain rule's end with the same values. -/
theorem same : Cert.algebraic_DHn2Ideal_DHn2PlainIdeal := by
  intro m g m' g' _ hm
  refine ⟨fun c => G5 m c, fun c => G6 m c, ?_, ?_⟩
  · refine (θ_run _ _ _).mono (fun r h c => ⟨(h c).1.trans (final5 m c), (h c).2.1.trans (final6 m c), (h c).2.2⟩) (Value.run_blocks m g)
  · refine (θ_run _ _ _).mono (fun r h c => ⟨(h c).1.trans ?_, (h c).2.1.trans ?_, (h c).2.2⟩) (Cert.DHn2PlainIdeal.Value.run m' g')
    · funext i
      unfold Cert.DHn2PlainIdeal.Value.res_main_v38
      rw [(hm c).1, (hm c).2.1, (hm c).2.2.1, (hm c).2.2.2.1, (hm c).2.2.2.2]
      refine (congrArg _ (eq_ix2 i)).trans ((Cert.DHn2PlainIdeal.Hand.rows _ _ _ _ (i 0) (i 1)).trans ((Cert.NormGrad.same _ _ _ _ _).trans ?_))
      unfold G5 grad
      rw [funext fun x => Cert.DHn2PlainIdeal.Hand.plain _ _ (i 0) x, funext fun x => entry_ix2 (m ((c : Thread DHn2Ideal.nD DHn2Ideal.τ).loc DHn2Ideal.main_arg2)) (i 0) x]
      exact congrArg (fun e => inOne _ _ _ e (i 1)) (entry_ix2 (m ((c : Thread DHn2Ideal.nD DHn2Ideal.τ).loc DHn2Ideal.main_arg4)) (i 0) (i 1))
    · funext i
      rw [(hm c).1, (hm c).2.1, (hm c).2.2.1]
      have z : i = ix2 (0 : Fin 1) (i 1) := (eq_ix2 i).trans (congrArg (fun a : Fin 1 => ix2 a (i 1 : Fin 1024)) (Subsingleton.elim _ _))
      refine (congrArg _ z).trans ((Cert.DHn2PlainIdeal.Hand.gains _ _ (i 1)).trans ?_)
      refine Eq.trans ?_ (Finset.sum_range _).symm
      refine Finset.sum_congr rfl fun k _ => ?_
      unfold term
      rw [Cert.DHn2PlainIdeal.Hand.plain _ _ k (i 1), funext fun x => entry_ix2 (m ((c : Thread DHn2Ideal.nD DHn2Ideal.τ).loc DHn2Ideal.main_arg2)) k x,
        entry_ix2 (m ((c : Thread DHn2Ideal.nD DHn2Ideal.τ).loc DHn2Ideal.main_arg2)) k (i 1)]
      show row m c k.val (i 1) * factor (row m c k.val) * dn m c k.val (i 1 : Fin 1024).val = dn m c k.val (i 1 : Fin 1024).val * row m c k.val (i 1) * factor (row m c k.val)
      rw [mul_comm, mul_assoc]

end Cert.DHn2Ideal.Hand

end
-- ==== Proof.DHn.lean ====
/-
  Hand-written, untrusted. The gradient through the input projection and the norm before it, in one call: what the kernel leaves is the chain rule's gradient for the rows and for the gains.
-/
module

public import proofs.«01_k».proof.Proof.Product
public import proofs.«01_k».proof.Proof.NormGrad
public import proofs.«01_k».proof.Proof.Gen.DHnIdeal.Value
public import proofs.«01_k».proof.Proof.Gen.DHnPlainIdeal.Run
public import proofs.«01_k».proof.Proof.Gen.DHn.Frame
public import proofs.«01_k».proof.Defs
public import Idealize.ShloMosaic.Lib.StableHlo.Run
public import Idealize.ShloMosaic.Lib.Pipeline.ArrRel
public import Idealize.ShloMosaic.Lib.Pipeline.ValueKit

@[expose] public section

set_option maxRecDepth 16384

noncomputable section

namespace Cert.DHnIdeal.Hand

open Cert.DHnIdeal Cert.DHnIdeal.Gen Cert.Product
open Idealize.ShloMosaic Idealize.ShloMosaic.TcCoe Idealize.ShloMosaic.Tactic
open Idealize.SL Idealize.SL.Sem
open Idealize.ShloMosaic.Pipeline (Dat)
open Cert.NormGrad

theorem pay1_at (a : FVec Ideal S1024x1024 .f32) (b : FVec Ideal S1024x1024 .bf16) (i j : Fin 1024) :
    (k0_pay1 (F := Ideal) a b (ix2 i j) : EReal) = ∑ k : Fin 1024, a (ix2 i k) * b (ix2 j k) := by
  pointwise [k0_pay1]
theorem pay2_at (a : FVec Ideal S1024x1024 .f32) (b : FVec Ideal S1024x1024 .bf16) (y : S1024x1024.Idx) :
    k0_pay2 (F := Ideal) a b y = k0_pay1 a b y := by
  pointwise [k0_pay2]
theorem pay3_at (a : FVec Ideal S1024x1024 .f32) (b : FVec Ideal S1024x1024 .bf16) (x : FVec Ideal S1024x1024 .f32) (y : S1024x1024.Idx) :
    (k0_pay3 (F := Ideal) a b x y : EReal) = (x y : EReal) + k0_pay1 a b y := by
  pointwise [k0_pay3]
theorem pay7_at (d h e : FVec Ideal S1024x1024 .f32) (g : FVec Ideal S1x1024 .f32) (i j : Fin 1024) :
    (k0_pay7 (F := Ideal) d h g e (ix2 i j) : EReal)
      = inOne (fun x => h (ix2 i x)) (fun x => d (ix2 i x)) (fun x => g (ix2 0 x)) (e (ix2 i j)) j := by
  pointwise [k0_pay7, k0_pay5]
theorem pay6_at (d h : FVec Ideal S1024x1024 .f32) (j : Fin 1024) :
    (k0_pay6 (F := Ideal) d h (ix2 0 j) : EReal)
      = ∑ i : Fin 1024, d (ix2 i j) * h (ix2 i j) * factor (fun x => h (ix2 i x)) := by
  pointwise [k0_pay6, k0_pay5]
theorem pay4_at (d x : FVec Ideal S1x1024 .f32) (j : Fin 1024) : (k0_pay4 (F := Ideal) d x (ix2 0 j) : EReal) = x (ix2 0 j) + d (ix2 0 j) := by
  pointwise [k0_pay4]
theorem pay8_at (j : Fin 1024) : (k0_pay8 (F := Ideal) (ix2 0 j) : EReal) = 0 := by
  pointwise [k0_pay8]

variable (m : (ℓ : Loc nD τ sig) → Buf (Elt Ideal) ℓ) (c : Dev nD)

theorem count : cfg0.N = 12 := by decide +kernel
theorem index0 : ∀ t : Fin cfg0.N, win0_0.index t = ![t.val / 3, t.val % 3] := by decide +kernel
theorem index1 : ∀ t : Fin cfg0.N, win0_1.index t = ![0, t.val % 3] := by decide +kernel
theorem index2 : ∀ t : Fin cfg0.N, win0_2.index t = ![t.val / 3, 0] := by decide +kernel
theorem index4 : ∀ t : Fin cfg0.N, win0_4.index t = ![t.val / 3, 0] := by decide +kernel
theorem index5 : ∀ t : Fin cfg0.N, win0_5.index t = ![t.val / 3, 0] := by decide +kernel
theorem flush5 : ∀ t : Fin cfg0.N, (cfg0.win 5).flush t = true → t.val % 3 = 2 := by decide +kernel
theorem flush6 : ∀ t : Fin cfg0.N, (cfg0.win 6).flush t = true → t.val = 11 := by decide +kernel

/-- The array of weights is the argument: rounding keeps an ideal value. -/
theorem right_arg : (V m c main_v0 : S1024x3072.Idx → EReal) = m ((c : Thread nD τ).loc main_arg1) := by
  show StableHlo.after hostOps0 (fun b => m (c, b)) (Proc.devRef .tc main_v0) = _
  after_results_simp
  rfl

abbrev X : ℕ → ℕ → EReal := entry (M := 4096) (N := 3072) (m ((c : Thread nD τ).loc main_arg0))
abbrev Y : ℕ → ℕ → EReal := entry (M := 1024) (N := 3072) (m ((c : Thread nD τ).loc main_arg1))
abbrev H : ℕ → ℕ → EReal := entry (M := 4096) (N := 1024) (m ((c : Thread nD τ).loc main_arg2))
abbrev E : ℕ → ℕ → EReal := entry (M := 4096) (N := 1024) (m ((c : Thread nD τ).loc main_arg4))

theorem emb0_0 (t : Fin cfg0.N) (y : S1024x1024.Idx) : (((win0_0.blk t).view.emb y 0 : Fin 4096) : ℕ) = t.val / 3 * 1024 + (y 0 : ℕ) := by
  blk_simp [index0]
  all_goals rfl
theorem emb0_1 (t : Fin cfg0.N) (y : S1024x1024.Idx) : (((win0_0.blk t).view.emb y 1 : Fin 3072) : ℕ) = t.val % 3 * 1024 + (y 1 : ℕ) := by
  blk_simp [index0]
  all_goals rfl
theorem emb1_0 (t : Fin cfg0.N) (y : S1024x1024.Idx) : (((win0_1.blk t).view.emb y 0 : Fin 1024) : ℕ) = 0 * 1024 + (y 0 : ℕ) := by
  blk_simp [index1]
  all_goals rfl
theorem emb1_1 (t : Fin cfg0.N) (y : S1024x1024.Idx) : (((win0_1.blk t).view.emb y 1 : Fin 3072) : ℕ) = t.val % 3 * 1024 + (y 1 : ℕ) := by
  blk_simp [index1]
  all_goals rfl
theorem emb2_0 (t : Fin cfg0.N) (y : S1024x1024.Idx) : (((win0_2.blk t).view.emb y 0 : Fin 4096) : ℕ) = t.val / 3 * 1024 + (y 0 : ℕ) := by
  blk_simp [index2]
  all_goals rfl
theorem emb2_1 (t : Fin cfg0.N) (y : S1024x1024.Idx) : (((win0_2.blk t).view.emb y 1 : Fin 1024) : ℕ) = 0 * 1024 + (y 1 : ℕ) := by
  blk_simp [index2]
  all_goals rfl
theorem emb4_0 (t : Fin cfg0.N) (y : S1024x1024.Idx) : (((win0_4.blk t).view.emb y 0 : Fin 4096) : ℕ) = t.val / 3 * 1024 + (y 0 : ℕ) := by
  blk_simp [index4]
  all_goals rfl
theorem emb4_1 (t : Fin cfg0.N) (y : S1024x1024.Idx) : (((win0_4.blk t).view.emb y 1 : Fin 1024) : ℕ) = 0 * 1024 + (y 1 : ℕ) := by
  blk_simp [index4]
  all_goals rfl
theorem emb5_0 (t : Fin cfg0.N) (y : ((cfg0.win 5).xblock (cfg0.grid.coords t)).Idx) : (((win0_5.blk t).view.emb y 0 : Fin 4096) : ℕ) = t.val / 3 * 1024 + (y 0 : ℕ) := by
  blk_simp [index5]
  all_goals rfl
theorem emb5_1 (t : Fin cfg0.N) (y : ((cfg0.win 5).xblock (cfg0.grid.coords t)).Idx) : (((win0_5.blk t).view.emb y 1 : Fin 1024) : ℕ) = 0 * 1024 + (y 1 : ℕ) := by
  blk_simp [index5]
  all_goals rfl

theorem block0 (t : Fin cfg0.N) (y : S1024x1024.Idx) : (iblk m c 0 t : S1024x1024.Idx → EReal) y = X m c (t.val / 3 * 1024 + (y 0).val) (t.val % 3 * 1024 + (y 1).val) := by
  refine (entry_at (M := 4096) (N := 3072) (V m c main_arg0) ((win0_0.blk t).view.emb y)).trans ?_
  rw [V_main_arg0, emb0_0, emb0_1]
theorem block1 (t : Fin cfg0.N) (y : S1024x1024.Idx) : (iblk m c 1 t : S1024x1024.Idx → EReal) y = Y m c (y 0).val (t.val % 3 * 1024 + (y 1).val) := by
  refine (entry_at (M := 1024) (N := 3072) (V m c main_v0) ((win0_1.blk t).view.emb y)).trans ?_
  rw [right_arg, emb1_0, emb1_1, Nat.zero_mul, Nat.zero_add]
theorem block2 (t : Fin cfg0.N) (y : S1024x1024.Idx) : (iblk m c 2 t : S1024x1024.Idx → EReal) y = H m c (t.val / 3 * 1024 + (y 0).val) (y 1).val := by
  refine (entry_at (M := 4096) (N := 1024) (V m c main_arg2) ((win0_2.blk t).view.emb y)).trans ?_
  rw [V_main_arg2, emb2_0, emb2_1, Nat.zero_mul, Nat.zero_add]
theorem block4 (t : Fin cfg0.N) (y : S1024x1024.Idx) : (iblk m c 4 t : S1024x1024.Idx → EReal) y = E m c (t.val / 3 * 1024 + (y 0).val) (y 1).val := by
  refine (entry_at (M := 4096) (N := 1024) (V m c main_arg4) ((win0_4.blk t).view.emb y)).trans ?_
  rw [V_main_arg4, emb4_0, emb4_1, Nat.zero_mul, Nat.zero_add]

theorem index3 : ∀ t : Fin cfg0.N, win0_3.index t = ![0, 0] := by decide +kernel
theorem emb3_0 (t : Fin cfg0.N) (y : S1x1024.Idx) : (((win0_3.blk t).view.emb y 0 : Fin 1) : ℕ) = 0 * 1 + (y 0 : ℕ) := by
  blk_simp [index3]
  all_goals rfl
theorem emb3_1 (t : Fin cfg0.N) (y : S1x1024.Idx) : (((win0_3.blk t).view.emb y 1 : Fin 1024) : ℕ) = 0 * 1024 + (y 1 : ℕ) := by
  blk_simp [index3]
  all_goals rfl
theorem gain_arg (j : Fin 1024) : (V m c main_v1 : S1x1024.Idx → EReal) (ix2 0 j) = m ((c : Thread nD τ).loc main_arg3) (ix1 j) := by
  show (StableHlo.after hostOps0 (fun b => m (c, b)) (Proc.devRef .tc main_v1) : S1x1024.Idx → EReal) (ix2 0 j) = _
  after_results_simp
  pointwise
theorem block3 (t : Fin cfg0.N) (j : Fin 1024) : (iblk m c 3 t : S1x1024.Idx → EReal) (ix2 0 j) = m ((c : Thread nD τ).loc main_arg3) (ix1 j) := by
  refine Eq.trans ?_ (gain_arg m c j)
  show V m c main_v1 ((win0_3.blk t).view.emb (ix2 0 j)) = V m c main_v1 (ix2 0 j)
  refine congrArg (V m c main_v1) (funext fun a => ?_)
  match a with
  | ⟨0, _⟩ => exact Fin.ext ((emb3_0 t (ix2 0 j)).trans rfl)
  | ⟨1, _⟩ => exact Fin.ext ((emb3_1 t (ix2 0 j)).trans ((congrArg (· + j.val) (Nat.zero_mul 1024)).trans (Nat.zero_add j.val)))

theorem index6 : ∀ t : Fin cfg0.N, win0_6.index t = ![0, 0] := by decide +kernel
theorem emb6_1 (t : Fin cfg0.N) (y : ((cfg0.win 6).xblock (cfg0.grid.coords t)).Idx) : (((win0_6.blk t).view.emb y 1 : Fin 1024) : ℕ) = 0 * 1024 + (y 1 : ℕ) := by
  blk_simp [index6]
  all_goals rfl

/-- The gradient of the normed row, the row, and the gains. -/
def dn (a j : ℕ) : EReal := ∑ s ∈ Finset.range 3072, X m c a s * Y m c j s
def row (a : ℕ) (j : Fin 1024) : EReal := H m c a j
def gain (j : Fin 1024) : EReal := m ((c : Thread nD τ).loc main_arg3) (ix1 j)
/-- One entry of the gradient of the rows, and one row's share of that of a gain. -/
def grad (a : ℕ) (j : Fin 1024) : EReal := inOne (row m c a) (fun x => dn m c a x.val) (gain m c) (E m c a j.val) j
def term (j : Fin 1024) (a : ℕ) : EReal := dn m c a j.val * row m c a j * factor (row m c a)

/-- The terms of one entry of the product, and their sum so far. -/
abbrev part (a j : ℕ) (s : ℕ) : EReal := X m c a s * Y m c j s
abbrev upTo (n : ℕ) (y : S1024x1024.Idx) : EReal :=
  ∑ s ∈ Finset.range ((n % 3 + 1) * 1024), part m c (n / 3 * 1024 + (y 0).val) (y 1).val s

theorem piece (t : Fin cfg0.N) (y : S1024x1024.Idx) : (k0_pay1 (iblk m c 0 t) (iblk m c 1 t) : S1024x1024.Idx → EReal) y
    = ∑ k : Fin 1024, part m c (t.val / 3 * 1024 + (y 0).val) (y 1).val (t.val % 3 * 1024 + k) :=
  (congrArg _ (eq_ix2 y)).trans ((pay1_at _ _ (y 0) (y 1)).trans (Finset.sum_congr rfl fun k _ =>
    congrArg₂ (· * ·) (block0 m c t (ix2 (y 0) k)) (block1 m c t (ix2 (y 1) k))))

theorem start (t : Fin cfg0.N) (h0 : t.val % 3 = 0) (y : S1024x1024.Idx) : (k0_pay2 (F := Ideal) (iblk m c 0 t) (iblk m c 1 t) y : EReal) = upTo m c t.val y := by
  refine (pay2_at _ _ y).trans ((piece m c t y).trans ?_)
  unfold upTo
  rw [h0, Nat.zero_add, sum_first]
  refine Finset.sum_congr rfl fun k _ => ?_
  rw [Nat.zero_mul, Nat.zero_add]
theorem grow (n : ℕ) (h : ¬ (n + 1) % 3 = 0) (hn : n + 1 < cfg0.N) (x : FVec Ideal S1024x1024 .f32) (hx : ∀ y, (x y : EReal) = upTo m c n y) (y : S1024x1024.Idx) :
    (k0_pay3 (F := Ideal) (iblk m c 0 ⟨n + 1, hn⟩) (iblk m c 1 ⟨n + 1, hn⟩) x y : EReal) = upTo m c (n + 1) y := by
  refine (pay3_at _ _ x y).trans ?_
  rw [hx y, piece]
  unfold upTo
  dsimp only
  rw [show (n + 1) % 3 = n % 3 + 1 by omega, show (n + 1) / 3 = n / 3 by omega]
  exact (sum_block _ _ _).symm

/-- The last step of a block of rows, once the product is whole. -/
theorem rows (t : Fin cfg0.N) (d : FVec Ideal S1024x1024 .f32) (hd : ∀ i j : Fin 1024, (d (ix2 i j) : EReal) = dn m c (t.val / 3 * 1024 + i.val) j.val) (y : S1024x1024.Idx) :
    (k0_pay7 (F := Ideal) d (iblk m c 2 t) (iblk m c 3 t) (iblk m c 4 t) y : EReal) = grad m c (t.val / 3 * 1024 + (y 0).val) (y 1) := by
  refine (congrArg _ (eq_ix2 y)).trans ((pay7_at _ _ _ _ (y 0) (y 1)).trans ?_)
  unfold grad
  rw [show (fun x : Fin 1024 => (d (ix2 (y 0) x) : EReal)) = fun x : Fin 1024 => dn m c (t.val / 3 * 1024 + (y 0).val) x.val from
      funext fun x => hd (y 0) x,
    show (fun x : Fin 1024 => ((iblk m c 2 t : S1024x1024.Idx → EReal) (ix2 (y 0) x))) = row m c (t.val / 3 * 1024 + (y 0).val) from
      funext fun x => block2 m c t (ix2 (y 0) x),
    show (fun x : Fin 1024 => ((iblk m c 3 t : S1x1024.Idx → EReal) (ix2 0 x))) = gain m c from funext fun x => block3 m c t x]
  exact congrArg (fun e => inOne _ _ _ e (y 1)) (block4 m c t (ix2 (y 0) (y 1)))
theorem gains (t : Fin cfg0.N) (d : FVec Ideal S1024x1024 .f32) (hd : ∀ i j : Fin 1024, (d (ix2 i j) : EReal) = dn m c (t.val / 3 * 1024 + i.val) j.val) (j : Fin 1024) :
    (k0_pay6 (F := Ideal) d (iblk m c 2 t) (ix2 0 j) : EReal) = ∑ i : Fin 1024, term m c j (t.val / 3 * 1024 + i.val) := by
  refine (pay6_at _ _ j).trans (Finset.sum_congr rfl fun i _ => ?_)
  unfold term
  rw [hd i j,
    show (fun x : Fin 1024 => ((iblk m c 2 t : S1024x1024.Idx → EReal) (ix2 i x))) = row m c (t.val / 3 * 1024 + i.val) from
      funext fun x => block2 m c t (ix2 i x)]
  exact congrArg (fun h => dn m c (t.val / 3 * 1024 + i.val) j.val * h * factor (row m c (t.val / 3 * 1024 + i.val))) (block2 m c t (ix2 i j))

section
variable (i : grid0.Coords) (arg3 : Memref sig .tc .vmem S1024x1024 .f32) (harg3 : arg3.IsWhole) (arg4 : Memref sig .tc .vmem S1024x1024 .bf16) (harg4 : arg4.IsWhole)
  (arg5 : Memref sig .tc .vmem S1024x1024 .f32) (harg5 : arg5.IsWhole) (arg6 : Memref sig .tc .vmem S1x1024 .f32) (harg6 : arg6.IsWhole)
  (arg7 : Memref sig .tc .vmem S1024x1024 .f32) (harg7 : arg7.IsWhole) (arg8 : Memref sig .tc .vmem S1024x1024 .f32) (harg8 : arg8.IsWhole)
  (arg9 : Memref sig .tc .vmem S1x1024 .f32) (harg9 : arg9.IsWhole) (arg10 : Memref sig .tc .vmem S1024x1024 .f32) (harg10 : arg10.IsWhole)
  (x0 : Vec Ideal S1024x1024 .f32) (x1 : Vec Ideal S1024x1024 .bf16) (x2 : Vec Ideal S1024x1024 .f32) (x3 : Vec Ideal S1x1024 .f32) (x4 : Vec Ideal S1024x1024 .f32)
  (xo6 : Vec Ideal S1x1024 .f32) (xs0 : Vec Ideal S1024x1024 .f32)

theorem first (hc0 : cond0_0 i) (hc1 : ¬cond0_1 i) (hc2 : ¬cond0_2 i) : sout0_A_0 c i arg3 harg3 arg4 harg4 arg5 harg5 arg6 harg6 arg7 harg7 arg8 harg8 arg9 harg9 arg10 harg10 hc0 hc1 hc2 x0 x1 x2 x3 x4 = k0_pay2 x0 x1 := by
  unfold sout0_A_0 kernelRun0_A
  refine (store_whole VS0_0 _ zero_off _ _).trans ?_
  exact congrArg₂ k0_pay2 (load_whole harg3 zero_off _ x0) (load_whole harg4 zero_off _ x1)
theorem next (hc0 : ¬cond0_0 i) (hc1 : cond0_1 i) (hc2 : ¬cond0_2 i) : sout0_B_0 c i arg3 harg3 arg4 harg4 arg5 harg5 arg6 harg6 arg7 harg7 arg8 harg8 arg9 harg9 arg10 harg10 hc0 hc1 hc2 x0 x1 x2 x3 x4 xs0 = k0_pay3 x0 x1 xs0 := by
  unfold sout0_B_0 kernelRun0_B
  refine (store_whole VS0_0 _ zero_off _ _).trans ?_
  exact congr (congrArg₂ k0_pay3 (load_whole harg3 zero_off _ x0) (load_whole harg4 zero_off _ x1)) (load_whole harg10 zero_off _ xs0)
theorem rows_C (hc0 : ¬cond0_0 i) (hc1 : cond0_1 i) (hc2 : cond0_2 i) (hc3 : cond0_3 i) :
    out0_C_5 c i arg3 harg3 arg4 harg4 arg5 harg5 arg6 harg6 arg7 harg7 arg8 harg8 arg9 harg9 arg10 harg10 hc0 hc1 hc2 hc3 x0 x1 x2 x3 x4 xs0 = k0_pay7 (k0_pay3 x0 x1 xs0) x2 x3 x4 := by
  unfold out0_C_5 kernelRun0_C
  refine (store_whole VO0_5 _ zero_off _ _).trans ?_
  refine congr (congr (congrArg₂ k0_pay7 ?_ (load_whole harg5 zero_off _ x2)) (load_whole harg6 zero_off _ x3)) (load_whole harg7 zero_off _ x4)
  unfold kernelRun0_C.sl.v14 kernelRun0_C.sl.HS0_1
  refine (View.readCov_unit_zero _ zero_off _ _).trans ?_
  exact congr (congrArg₂ k0_pay3 (load_whole harg3 zero_off _ x0) (load_whole harg4 zero_off _ x1)) (load_whole harg10 zero_off _ xs0)
theorem sum_C (hc0 : ¬cond0_0 i) (hc1 : cond0_1 i) (hc2 : cond0_2 i) (hc3 : cond0_3 i) :
    out0_C_6 c i arg3 harg3 arg4 harg4 arg5 harg5 arg6 harg6 arg7 harg7 arg8 harg8 arg9 harg9 arg10 harg10 hc0 hc1 hc2 hc3 x0 x1 x2 x3 x4 xs0 = k0_pay4 (k0_pay6 (k0_pay3 x0 x1 xs0) x2) (k0_pay8 (F := Ideal)) := by
  unfold out0_C_6 kernelRun0_C
  refine (store_last VO0_6 _ zero_off _ _ _).trans ?_
  refine congrArg₂ k0_pay4 ?_ ?_
  · unfold kernelRun0_C.sl.r
    refine congrArg₂ k0_pay6 ?_ (load_whole harg5 zero_off _ x2)
    unfold kernelRun0_C.sl.v14 kernelRun0_C.sl.HS0_1
    refine (View.readCov_unit_zero _ zero_off _ _).trans ?_
    exact congr (congrArg₂ k0_pay3 (load_whole harg3 zero_off _ x0) (load_whole harg4 zero_off _ x1)) (load_whole harg10 zero_off _ xs0)
  · unfold kernelRun0_C.sl.v52 kernelRun0_C.sl.H6_1
    exact View.readCov_unit_zero _ zero_off _ _
theorem rows_D (hc0 : ¬cond0_0 i) (hc1 : cond0_1 i) (hc2 : cond0_2 i) (hc3 : ¬cond0_3 i) :
    out0_D_5 c i arg3 harg3 arg4 harg4 arg5 harg5 arg6 harg6 arg7 harg7 arg8 harg8 arg9 harg9 arg10 harg10 hc0 hc1 hc2 hc3 x0 x1 x2 x3 x4 xo6 xs0 = k0_pay7 (k0_pay3 x0 x1 xs0) x2 x3 x4 := by
  unfold out0_D_5 kernelRun0_D
  refine (store_whole VO0_5 _ zero_off _ _).trans ?_
  refine congr (congr (congrArg₂ k0_pay7 ?_ (load_whole harg5 zero_off _ x2)) (load_whole harg6 zero_off _ x3)) (load_whole harg7 zero_off _ x4)
  unfold kernelRun0_D.sl.v14 kernelRun0_D.sl.HS0_1
  refine (View.readCov_unit_zero _ zero_off _ _).trans ?_
  exact congr (congrArg₂ k0_pay3 (load_whole harg3 zero_off _ x0) (load_whole harg4 zero_off _ x1)) (load_whole harg10 zero_off _ xs0)
theorem sum_D (hc0 : ¬cond0_0 i) (hc1 : cond0_1 i) (hc2 : cond0_2 i) (hc3 : ¬cond0_3 i) :
    out0_D_6 c i arg3 harg3 arg4 harg4 arg5 harg5 arg6 harg6 arg7 harg7 arg8 harg8 arg9 harg9 arg10 harg10 hc0 hc1 hc2 hc3 x0 x1 x2 x3 x4 xo6 xs0 = k0_pay4 (k0_pay6 (k0_pay3 x0 x1 xs0) x2) xo6 := by
  unfold out0_D_6 kernelRun0_D
  refine (store_last VO0_6 _ zero_off _ _ _).trans ?_
  refine congrArg₂ k0_pay4 ?_ ?_
  · unfold kernelRun0_D.sl.r
    refine congrArg₂ k0_pay6 ?_ (load_whole harg5 zero_off _ x2)
    unfold kernelRun0_D.sl.v14 kernelRun0_D.sl.HS0_1
    refine (View.readCov_unit_zero _ zero_off _ _).trans ?_
    exact congr (congrArg₂ k0_pay3 (load_whole harg3 zero_off _ x0) (load_whole harg4 zero_off _ x1)) (load_whole harg10 zero_off _ xs0)
  · exact load_whole harg9 zero_off _ xo6
end

/-- The step before. -/
abbrev before (t : Fin cfg0.N) := outsAt0 m c (t.val - 1) (Nat.lt_of_le_of_lt (Nat.sub_le _ _) t.isLt)

theorem carry_A (t : Fin cfg0.N) (h0 : t.val % 3 = 0) : (outsAt0 m c t.val t.isLt).2.2 = k0_pay2 (iblk m c 0 t) (iblk m c 1 t) ∧ (outsAt0 m c t.val t.isLt).2.1 = (before m c t).2.1 := by
  have e := outsAt0_A m c t h0 (by omega) (by omega)
  generalize outsAt0 m c t.val t.isLt = z at e ⊢
  subst e
  dsimp only
  rw [first]
  exact ⟨rfl, rfl⟩
theorem carry_B (t : Fin cfg0.N) (h1 : t.val % 3 = 1) :
    (outsAt0 m c t.val t.isLt).2.2 = k0_pay3 (iblk m c 0 t) (iblk m c 1 t) (before m c t).2.2 ∧ (outsAt0 m c t.val t.isLt).2.1 = (before m c t).2.1 := by
  have e := outsAt0_B m c t (by omega) (by omega) (by omega)
  generalize outsAt0 m c t.val t.isLt = z at e ⊢
  subst e
  dsimp only
  rw [next]
  exact ⟨rfl, rfl⟩
theorem carry_C (t : Fin cfg0.N) (h2 : t.val % 3 = 2) (h3 : t.val < 3) :
    (outsAt0 m c t.val t.isLt).2.1 = k0_pay4 (k0_pay6 (k0_pay3 (iblk m c 0 t) (iblk m c 1 t) (before m c t).2.2) (iblk m c 2 t)) (k0_pay8 (F := Ideal)) := by
  have e := outsAt0_C m c t (by omega) (by omega) h2 h3
  generalize outsAt0 m c t.val t.isLt = z at e ⊢
  subst e
  dsimp only
  rw [sum_C]
theorem carry_D (t : Fin cfg0.N) (h2 : t.val % 3 = 2) (h3 : ¬ t.val < 3) :
    (outsAt0 m c t.val t.isLt).2.1 = k0_pay4 (k0_pay6 (k0_pay3 (iblk m c 0 t) (iblk m c 1 t) (before m c t).2.2) (iblk m c 2 t)) (before m c t).2.1 := by
  have e := outsAt0_D m c t (by omega) (by omega) h2 h3
  generalize outsAt0 m c t.val t.isLt = z at e ⊢
  subst e
  dsimp only
  rw [sum_D]
theorem left5 (t : Fin cfg0.N) (h2 : t.val % 3 = 2) :
    (outsAt0 m c t.val t.isLt).1 = k0_pay7 (k0_pay3 (iblk m c 0 t) (iblk m c 1 t) (before m c t).2.2) (iblk m c 2 t) (iblk m c 3 t) (iblk m c 4 t) := by
  by_cases h3 : t.val < 3
  · have e := outsAt0_C m c t (by omega) (by omega) h2 h3
    generalize outsAt0 m c t.val t.isLt = z at e ⊢
    subst e
    dsimp only
    rw [rows_C]
  · have e := outsAt0_D m c t (by omega) (by omega) h2 h3
    generalize outsAt0 m c t.val t.isLt = z at e ⊢
    subst e
    dsimp only
    rw [rows_D]

theorem held : ∀ (n : ℕ) (hn : n < cfg0.N), ¬ n % 3 = 2 → ∀ y, ((outsAt0 m c n hn).2.2 y : EReal) = upTo m c n y
  | 0, hn, h2, y => (congrFun (carry_A m c ⟨0, hn⟩ rfl).1 y).trans (start m c ⟨0, hn⟩ rfl y)
  | n + 1, hn, h2, y => by
    by_cases h0 : (n + 1) % 3 = 0
    · exact (congrFun (carry_A m c ⟨n + 1, hn⟩ h0).1 y).trans (start m c ⟨n + 1, hn⟩ h0 y)
    · exact (congrFun (carry_B m c ⟨n + 1, hn⟩ (by dsimp only; omega)).1 y).trans (grow m c n h0 hn _ (held n (Nat.lt_of_succ_lt hn) (by omega)) y)

/-- At the last of three steps the product is whole. -/
theorem whole (n : ℕ) (hn : n + 1 < cfg0.N) (h2 : (n + 1) % 3 = 2) (i j : Fin 1024) :
    (k0_pay3 (F := Ideal) (iblk m c 0 ⟨n + 1, hn⟩) (iblk m c 1 ⟨n + 1, hn⟩) (before m c ⟨n + 1, hn⟩).2.2 (ix2 i j) : EReal) = dn m c ((n + 1) / 3 * 1024 + i.val) j.val := by
  refine (grow m c n (by omega) hn _ (held m c n (Nat.lt_of_succ_lt hn) (by omega)) (ix2 i j)).trans ?_
  unfold upTo
  rw [h2]
  rfl

theorem carried : ∀ (n : ℕ) (hn : n < cfg0.N), 2 ≤ n → ∀ j : Fin 1024, ((outsAt0 m c n hn).2.1 (ix2 0 j) : EReal) = ∑ a ∈ Finset.range ((n + 1) / 3 * 1024), term m c j a
  | 0, hn, h2, j => absurd h2 (by decide)
  | n + 1, hn, h2, j => by
    by_cases e2 : (n + 1) % 3 = 2
    · by_cases h3 : n + 1 < 3
      · refine (congrFun (carry_C m c ⟨n + 1, hn⟩ e2 h3) (ix2 0 j)).trans ((pay4_at _ _ j).trans ?_)
        rw [pay8_at, zero_add, gains m c ⟨n + 1, hn⟩ _ (whole m c n hn e2) j]
        dsimp only
        rw [show (n + 1) / 3 = 0 by omega, show (n + 1 + 1) / 3 = 1 by omega, sum_first]
        refine Finset.sum_congr rfl fun k _ => ?_
        rw [Nat.zero_mul, Nat.zero_add]
      · refine (congrFun (carry_D m c ⟨n + 1, hn⟩ e2 h3) (ix2 0 j)).trans ((pay4_at _ _ j).trans ?_)
        rw [gains m c ⟨n + 1, hn⟩ _ (whole m c n hn e2) j]
        refine (congrArg (· + _) (carried n (Nat.lt_of_succ_lt hn) (by omega) j)).trans ?_
        rw [show (n + 1 + 1) / 3 = (n + 1) / 3 + 1 by omega]
        exact (sum_block _ _ _).symm
    · have e : (outsAt0 m c (n + 1) hn).2.1 = (outsAt0 m c n (Nat.lt_of_succ_lt hn)).2.1 := by
        by_cases h0 : (n + 1) % 3 = 0
        · exact (carry_A m c ⟨n + 1, hn⟩ h0).2
        · exact (carry_B m c ⟨n + 1, hn⟩ (by dsimp only; omega)).2
      rw [e, carried n (Nat.lt_of_succ_lt hn) (by omega) j, show (n + 1 + 1) / 3 = (n + 1) / 3 by omega]

theorem leaves (t : Fin cfg0.N) (h2 : t.val % 3 = 2) (y : S1024x1024.Idx) : ((outsAt0 m c t.val t.isLt).1 y : EReal) = grad m c (t.val / 3 * 1024 + (y 0).val) (y 1) := by
  refine (congrFun (left5 m c t h2) y).trans (rows m c t _ (fun i j => ?_) y)
  have h : ∀ (n : ℕ) (hn : n < cfg0.N), n % 3 = 2 → (k0_pay3 (F := Ideal) (iblk m c 0 ⟨n, hn⟩) (iblk m c 1 ⟨n, hn⟩) (before m c ⟨n, hn⟩).2.2 (ix2 i j) : EReal) = dn m c (n / 3 * 1024 + i.val) j.val := by
    intro n hn h2
    cases n with
    | zero => exact absurd h2 (by decide)
    | succ n => exact whole m c n hn h2 i j
  exact h t.val t.isLt h2

/-- What the result arrays end holding. -/
def G5 (x : S4096x1024.Idx) : EReal := grad m c (x 0).val (x 1)
def G6 (x : S1x1024.Idx) : EReal := ∑ a ∈ Finset.range 4096, term m c (x 1) a

theorem final5 : ((dats m 0 c).arrAt 5 cfg0.N : S4096x1024.Idx → EReal) = G5 m c := by
  funext x
  refine Dat.arrAt_forall_of_covers (dats m 0 c) 5 (fun x v => v = G5 m c x) (by decide +kernel) (fun t ht y => ?_) x
  blk_simp
  rw [after0_5]
  refine (leaves m c t (flush5 t ht) y).trans ?_
  unfold G5
  have e : (win0_5.blk t).view.emb y 1 = (y 1 : Fin 1024) := Fin.ext ((emb5_1 t y).trans (by rw [Nat.zero_mul, Nat.zero_add]))
  rw [emb5_0, e]
theorem final6 : ((dats m 0 c).arrAt 6 cfg0.N : S1x1024.Idx → EReal) = G6 m c := by
  funext x
  refine Dat.arrAt_forall_of_covers (dats m 0 c) 6 (fun x v => v = G6 m c x) (by decide +kernel) (fun t ht y => ?_) x
  blk_simp
  rw [after0_6]
  have z : y = ix2 (0 : Fin 1) (y 1) := (eq_ix2 y).trans (congrArg (fun a : Fin 1 => ix2 a (y 1)) (Subsingleton.elim _ _))
  refine (congrArg (outsAt0 m c t.val t.isLt).2.1 z).trans ((carried m c t.val t.isLt (by have h := flush6 t ht; omega) (y 1)).trans ?_)
  unfold G6
  have e : (win0_6.blk t).view.emb y 1 = (y 1 : Fin 1024) := Fin.ext ((emb6_1 t y).trans (by rw [Nat.zero_mul, Nat.zero_add]))
  rw [flush6 t ht, e]

end Cert.DHnIdeal.Hand

namespace Cert.DHnPlainIdeal.Hand

open Cert.DHnPlainIdeal Cert.DHnPlainIdeal.Gen Cert.Product
open Idealize.ShloMosaic Idealize.ShloMosaic.TcCoe Idealize.ShloMosaic.Tactic
open Idealize.SL Idealize.SL.Sem
open Cert.NormGrad

theorem plain (x : FVec Ideal S4096x3072 .f32) (w : FVec Ideal S1024x3072 .f32) (i : Fin 4096) (j : Fin 1024) :
    Host.dotGeneral dot_S4096x3072_S1024x3072_S4096x1024_1_1_0_0_n_n none x w (ix2 i j)
      = ∑ s ∈ Finset.range 3072, entry (M := 4096) (N := 3072) x i.val s * entry (M := 1024) (N := 3072) w j.val s := by
  have h : Host.dotGeneral dot_S4096x3072_S1024x3072_S4096x1024_1_1_0_0_n_n none x w (ix2 i j)
      = ∑ k : Fin 3072, x (ix2 i k) * w (ix2 j k) := by
    pointwise
  refine h.trans ?_
  rw [Finset.sum_range]
  refine Finset.sum_congr rfl fun k _ => ?_
  exact congrArg₂ (· * ·) (entry_ix2 x i k) (entry_ix2 w j k)

set_option maxHeartbeats 2000000 in
theorem rows (y h e : FVec Ideal S4096x1024 .f32) (g : FVec Ideal S1024 .f32) (i : Fin 4096) (j : Fin 1024) :
    (addf e (addf (addf (mulf (mulf y (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf h (broadcastInDim S4096x1024 ![0] bcast_S4096_S4096x1024_0 (Host.reduceAdd (Host.divf (mulf (shapeCast _ (Host.reduceAdd (mulf h (mulf y (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf h (mulf y (broadcastInDim S4096x1024 ![0, 1] bcast_S1x1024_S4096x1024_0_1 (broadcastInDim S1x1024 ![1] bcast_S1024_S1x1024_1 g)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) h)) : FVec Ideal S4096x1024 .f32) (ix2 i j)
      = byChain (fun x => h (ix2 i x)) (fun x => y (ix2 i x)) (fun x => g (ix1 x)) (e (ix2 i j)) j := by
  pointwise
  simp only [Fin.sum_univ_one]

theorem gains (y h : FVec Ideal S4096x1024 .f32) (j : Fin 1024) :
    (broadcastInDim S1x1024 ![1] bcast_S1024_S1x1024_1 (Host.reduceAdd (shapeCast _ (Host.reduceAdd (mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) y) (constant S_ .f32 0x00000000#32) reducesTo_S4096x1024_S1024_d0 h_S_) shapeCasts_S1024_S1x1024) (constant S_ .f32 0x00000000#32) reducesTo_S1x1024_S1024_d0 h_S_) : FVec Ideal S1x1024 .f32) (ix2 0 j)
      = ∑ i : Fin 4096, h (ix2 i j) * factor (fun x => h (ix2 i x)) * y (ix2 i j) := by
  pointwise
  simp only [Fin.sum_univ_one]

end Cert.DHnPlainIdeal.Hand

namespace Cert.DHnIdeal.Hand

open Cert.Product Cert.NormGrad
open Idealize.ShloMosaic Idealize.ShloMosaic.TcCoe
open Idealize.SL Idealize.SL.Sem

/-- The kernel's two results and the chain rule's end with the same values. -/
theorem same : Cert.algebraic_DHnIdeal_DHnPlainIdeal := by
  intro m g m' g' _ hm
  refine ⟨fun c => G5 m c, fun c => G6 m c, ?_, ?_⟩
  · refine (θ_run _ _ _).mono (fun r h c => ⟨(h c).1.trans (final5 m c), (h c).2.1.trans (final6 m c), (h c).2.2⟩) (Value.run_blocks m g)
  · refine (θ_run _ _ _).mono (fun r h c => ⟨(h c).1.trans ?_, (h c).2.1.trans ?_, (h c).2.2⟩) (Cert.DHnPlainIdeal.Value.run m' g')
    · funext i
      unfold Cert.DHnPlainIdeal.Value.res_main_v38
      rw [(hm c).1, (hm c).2.1, (hm c).2.2.1, (hm c).2.2.2.1, (hm c).2.2.2.2]
      refine (congrArg _ (eq_ix2 i)).trans ((Cert.DHnPlainIdeal.Hand.rows _ _ _ _ (i 0) (i 1)).trans ((Cert.NormGrad.same _ _ _ _ _).trans ?_))
      unfold G5 grad
      rw [funext fun x => Cert.DHnPlainIdeal.Hand.plain _ _ (i 0) x, funext fun x => entry_ix2 (m ((c : Thread DHnIdeal.nD DHnIdeal.τ).loc DHnIdeal.main_arg2)) (i 0) x]
      exact congrArg (fun e => inOne _ _ _ e (i 1)) (entry_ix2 (m ((c : Thread DHnIdeal.nD DHnIdeal.τ).loc DHnIdeal.main_arg4)) (i 0) (i 1))
    · funext i
      rw [(hm c).1, (hm c).2.1, (hm c).2.2.1]
      have z : i = ix2 (0 : Fin 1) (i 1) := (eq_ix2 i).trans (congrArg (fun a : Fin 1 => ix2 a (i 1 : Fin 1024)) (Subsingleton.elim _ _))
      refine (congrArg _ z).trans ((Cert.DHnPlainIdeal.Hand.gains _ _ (i 1)).trans ?_)
      refine Eq.trans ?_ (Finset.sum_range _).symm
      refine Finset.sum_congr rfl fun k _ => ?_
      unfold term
      rw [Cert.DHnPlainIdeal.Hand.plain _ _ k (i 1), funext fun x => entry_ix2 (m ((c : Thread DHnIdeal.nD DHnIdeal.τ).loc DHnIdeal.main_arg2)) k x,
        entry_ix2 (m ((c : Thread DHnIdeal.nD DHnIdeal.τ).loc DHnIdeal.main_arg2)) k (i 1)]
      show row m c k.val (i 1) * factor (row m c k.val) * dn m c k.val (i 1 : Fin 1024).val = dn m c k.val (i 1 : Fin 1024).val * row m c k.val (i 1) * factor (row m c k.val)
      rw [mul_comm, mul_assoc]

end Cert.DHnIdeal.Hand

end
-- ==== Proof.FwdRun.lean ====
/-
  Hand-written, untrusted. The launch of the attention forward kernel: its body run once for each of its two control cases (the
  first query block of a head pair, where the normalised keys and the values are stored in scratch, and a later one), the
  relation between what a grid point finds and leaves, and from it the run of the whole program, at any value instance.
-/
module

public import proofs.«01_k».proof.Proof.Gen.FwdIdeal.Frame
public import proofs.«01_k».proof.Proof.Gen.FwdIdeal.Loops
public import Idealize.ShloMosaic.Lib.Pipeline.Frame
public import Idealize.ShloMosaic.Lib.Tactic

@[expose] public section

set_option maxRecDepth 16384
set_option maxHeartbeats 4000000

noncomputable section

namespace Cert.FwdIdeal.Hand

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

/-- A memref's buffer on core `c`, held whole at the contents `f`. -/
abbrev pt (c : Dev nD) {S : Shape} {e : EltTy} (M : Memref sig .tc .vmem S e) (f : BufTy.Contents (Elt F) M.view.ty) :
    sProp (MT nD τ sig Unit (Elt F) ℕ (UR sig nD τ) ℕ) :=
  M.view.loc (c : Thread nD τ) ↦[M.view.set]{fullShare} f

section
variable (arg2 : Memref sig .tc .vmem S512x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S2x512x1 .f32) (harg8 : arg8.IsWhole) (arg9 : Memref sig .tc .vmem S4096x128 .bf16) (harg9 : arg9.IsWhole) (arg10 : Memref sig .tc .vmem S4096x128 .bf16) (harg10 : arg10.IsWhole)

/-- Every buffer that the body is handed, each at its contents. -/
abbrev AllPt (c : Dev nD) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) : sProp (MT nD τ sig Unit (Elt F) ℕ (UR sig nD τ) ℕ) :=
  iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10)

/-- The body at the first query block of a head pair: what it leaves in each buffer that it writes, and the run. -/
@[irreducible] def runA (𝒱 : Variants) (c : Dev nD) (bd : Option 𝒱.V) (i : grid0.Coords) (h1 : k0_cond1 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
    Σ' (G7 : BufTy.Contents (Elt F) arg7.view.ty) (G8 : BufTy.Contents (Elt F) arg8.view.ty) (G9 : BufTy.Contents (Elt F) arg9.view.ty), { G10 : BufTy.Contents (Elt F) arg10.view.ty // ∀ E : Set ℕ,
      AllPt arg2 arg3 arg4 arg5 arg6 arg7 arg8 arg9 arg10 c f2 f3 f4 f5 f6 f7 f8 f9 f10
      ⊢ wp frame (wpE (defs₀ (F := F)) 𝒱 (c : Thread nD τ) bd) E (cc0_attn_fwd i arg2 harg2 arg3 harg3 arg4 harg4 arg5 harg5 arg6 harg6 arg7 harg7 arg8 harg8 arg9 harg9 arg10 harg10)
        (fun _ => AllPt arg2 arg3 arg4 arg5 arg6 arg7 arg8 arg9 arg10 c f2 f3 f4 f5 f6 G7 G8 G9 G10) } := by
  refine ⟨?_, ?_, ?_, ?_, fun E => ?run⟩
  case run =>
    simp only [cc0_attn_fwd_eq_skeleton]; unfold cc0_attn_fwd_skel
    iintro ⟨H2, H3, H4, H5, H6, H7, H8, H9, H10⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body at a later query block: what it leaves in each buffer that it writes, and the run. -/
@[irreducible] def runM (𝒱 : Variants) (c : Dev nD) (bd : Option 𝒱.V) (i : grid0.Coords) (h1 : ¬ k0_cond1 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) :
    Σ' (G7 : BufTy.Contents (Elt F) arg7.view.ty), { G8 : BufTy.Contents (Elt F) arg8.view.ty // ∀ E : Set ℕ,
      AllPt arg2 arg3 arg4 arg5 arg6 arg7 arg8 arg9 arg10 c f2 f3 f4 f5 f6 f7 f8 f9 f10
      ⊢ wp frame (wpE (defs₀ (F := F)) 𝒱 (c : Thread nD τ) bd) E (cc0_attn_fwd i arg2 harg2 arg3 harg3 arg4 harg4 arg5 harg5 arg6 harg6 arg7 harg7 arg8 harg8 arg9 harg9 arg10 harg10)
        (fun _ => AllPt arg2 arg3 arg4 arg5 arg6 arg7 arg8 arg9 arg10 c f2 f3 f4 f5 f6 G7 G8 f9 f10) } := by
  refine ⟨?_, ?_, fun E => ?run⟩
  case run =>
    simp only [cc0_attn_fwd_eq_skeleton]; unfold cc0_attn_fwd_skel
    iintro ⟨H2, H3, H4, H5, H6, H7, H8, H9, H10⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- What the body run at the coordinates `i` leaves (`g`) where it found `f`. -/
def BodyRel (c : Dev nD) (i : grid0.Coords) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (g7 : BufTy.Contents (Elt F) arg7.view.ty) (g8 : BufTy.Contents (Elt F) arg8.view.ty) (g9 : BufTy.Contents (Elt F) arg9.view.ty) (g10 : BufTy.Contents (Elt F) arg10.view.ty) : Prop :=
  (∃ (h1 : k0_cond1 i = 1#1),
    g7 = (runA arg2 harg2 arg3 harg3 arg4 harg4 arg5 harg5 arg6 harg6 arg7 harg7 arg8 harg8 arg9 harg9 arg10 harg10 Variants.none c none i h1 f2 f3 f4 f5 f6 f7 f8 f9 f10).1
    ∧ g8 = (runA arg2 harg2 arg3 harg3 arg4 harg4 arg5 harg5 arg6 harg6 arg7 harg7 arg8 harg8 arg9 harg9 arg10 harg10 Variants.none c none i h1 f2 f3 f4 f5 f6 f7 f8 f9 f10).2.1
    ∧ g9 = (runA arg2 harg2 arg3 harg3 arg4 harg4 arg5 harg5 arg6 harg6 arg7 harg7 arg8 harg8 arg9 harg9 arg10 harg10 Variants.none c none i h1 f2 f3 f4 f5 f6 f7 f8 f9 f10).2.2.1
    ∧ g10 = (runA arg2 harg2 arg3 harg3 arg4 harg4 arg5 harg5 arg6 harg6 arg7 harg7 arg8 harg8 arg9 harg9 arg10 harg10 Variants.none c none i h1 f2 f3 f4 f5 f6 f7 f8 f9 f10).2.2.2.1)
  ∨ (∃ (h1 : ¬ k0_cond1 i = 1#1),
    g7 = (runM arg2 harg2 arg3 harg3 arg4 harg4 arg5 harg5 arg6 harg6 arg7 harg7 arg8 harg8 arg9 harg9 arg10 harg10 Variants.none c none i h1 f2 f3 f4 f5 f6 f7 f8 f9 f10).1
    ∧ g8 = (runM arg2 harg2 arg3 harg3 arg4 harg4 arg5 harg5 arg6 harg6 arg7 harg7 arg8 harg8 arg9 harg9 arg10 harg10 Variants.none c none i h1 f2 f3 f4 f5 f6 f7 f8 f9 f10).2.1
    ∧ g9 = f9
    ∧ g10 = f10)

/-- The body at any coordinates runs to what the relation `BodyRel` says. -/
theorem run_all (c : Dev nD) (i : grid0.Coords) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (E : Set ℕ) :
    AllPt arg2 arg3 arg4 arg5 arg6 arg7 arg8 arg9 arg10 c f2 f3 f4 f5 f6 f7 f8 f9 f10
      ⊢ wp frame (wpE (defs₀ (F := F)) Variants.none (c : Thread nD τ) none) E (cc0_attn_fwd i arg2 harg2 arg3 harg3 arg4 harg4 arg5 harg5 arg6 harg6 arg7 harg7 arg8 harg8 arg9 harg9 arg10 harg10)
        (fun _ => iprop(∃ g7 g8 g9 g10, ⌜BodyRel arg2 harg2 arg3 harg3 arg4 harg4 arg5 harg5 arg6 harg6 arg7 harg7 arg8 harg8 arg9 harg9 arg10 harg10 c i f2 f3 f4 f5 f6 f7 f8 f9 f10 g7 g8 g9 g10⌝ ∗ AllPt arg2 arg3 arg4 arg5 arg6 arg7 arg8 arg9 arg10 c f2 f3 f4 f5 f6 g7 g8 g9 g10)) := by
  by_cases h1 : k0_cond1 i = 1#1
  · refine ((runA arg2 harg2 arg3 harg3 arg4 harg4 arg5 harg5 arg6 harg6 arg7 harg7 arg8 harg8 arg9 harg9 arg10 harg10 Variants.none c none i h1 f2 f3 f4 f5 f6 f7 f8 f9 f10).2.2.2.2 E).trans (Idealize.SL.Sem.wp_mono _ _ _ (fun _ => ?_))
    iintro H
    iexists (runA arg2 harg2 arg3 harg3 arg4 harg4 arg5 harg5 arg6 harg6 arg7 harg7 arg8 harg8 arg9 harg9 arg10 harg10 Variants.none c none i h1 f2 f3 f4 f5 f6 f7 f8 f9 f10).1, (runA arg2 harg2 arg3 harg3 arg4 harg4 arg5 harg5 arg6 harg6 arg7 harg7 arg8 harg8 arg9 harg9 arg10 harg10 Variants.none c none i h1 f2 f3 f4 f5 f6 f7 f8 f9 f10).2.1, (runA arg2 harg2 arg3 harg3 arg4 harg4 arg5 harg5 arg6 harg6 arg7 harg7 arg8 harg8 arg9 harg9 arg10 harg10 Variants.none c none i h1 f2 f3 f4 f5 f6 f7 f8 f9 f10).2.2.1, (runA arg2 harg2 arg3 harg3 arg4 harg4 arg5 harg5 arg6 harg6 arg7 harg7 arg8 harg8 arg9 harg9 arg10 harg10 Variants.none c none i h1 f2 f3 f4 f5 f6 f7 f8 f9 f10).2.2.2.1
    isplitr; swap; · iexact H
    ipureintro
    exact Or.inl ⟨h1, rfl, rfl, rfl, rfl⟩
  · refine ((runM arg2 harg2 arg3 harg3 arg4 harg4 arg5 harg5 arg6 harg6 arg7 harg7 arg8 harg8 arg9 harg9 arg10 harg10 Variants.none c none i h1 f2 f3 f4 f5 f6 f7 f8 f9 f10).2.2 E).trans (Idealize.SL.Sem.wp_mono _ _ _ (fun _ => ?_))
    iintro H
    iexists (runM arg2 harg2 arg3 harg3 arg4 harg4 arg5 harg5 arg6 harg6 arg7 harg7 arg8 harg8 arg9 harg9 arg10 harg10 Variants.none c none i h1 f2 f3 f4 f5 f6 f7 f8 f9 f10).1, (runM arg2 harg2 arg3 harg3 arg4 harg4 arg5 harg5 arg6 harg6 arg7 harg7 arg8 harg8 arg9 harg9 arg10 harg10 Variants.none c none i h1 f2 f3 f4 f5 f6 f7 f8 f9 f10).2.1, f9, f10
    isplitr; swap; · iexact H
    ipureintro
    exact Or.inr ⟨h1, rfl, rfl, rfl, rfl⟩

end

variable (m : (ℓ : Loc nD τ sig) → Buf (Elt F) ℓ) (ρ : Dev nD → PrngReg)

/-- The contents of the two scratch buffers: the normalised keys and the values. -/
structure Scr (F : FTy → Type) where
  s9 : BufTy.Contents (Elt F) (Memref.whole (sig := sig) (κ := .tc) cc0_scratch0).view.ty
  s10 : BufTy.Contents (Elt F) (Memref.whole (sig := sig) (κ := .tc) cc0_scratch1).view.ty

/-- The contents of every window's block. -/
abbrev Blocks (F : FTy → Type) : Type := (w : Fin cfg0.W) → (cfg0.win w).block.Idx → Elt F (cfg0.win w).elt

/-- At point `t`, from the windows' contents `Y` and the scratch `s`, the body may leave the windows at `X` and the scratch at `s'`. -/
def Point (c : Dev nD) (t : Fin cfg0.N) (Y : Blocks F) (s : Scr F) (X : Blocks F) (s' : Scr F) : Prop :=
  ∃ (f2 : BufTy.Contents (Elt F) (st0_0 t).view.ty) (f3 : BufTy.Contents (Elt F) (st0_1 t).view.ty) (f4 : BufTy.Contents (Elt F) (st0_2 t).view.ty) (f5 : BufTy.Contents (Elt F) (st0_3 t).view.ty) (f6 : BufTy.Contents (Elt F) (st0_4 t).view.ty) (f7 : BufTy.Contents (Elt F) (st0_5 t).view.ty) (f8 : BufTy.Contents (Elt F) (st0_6 t).view.ty)
    (g7 : BufTy.Contents (Elt F) (st0_5 t).view.ty) (g8 : BufTy.Contents (Elt F) (st0_6 t).view.ty),
    (st0_0 t).view.read (Elt F) f2 = Y 0 ∧
    (st0_1 t).view.read (Elt F) f3 = Y 1 ∧
    (st0_2 t).view.read (Elt F) f4 = Y 2 ∧
    (st0_3 t).view.read (Elt F) f5 = Y 3 ∧
    (st0_4 t).view.read (Elt F) f6 = Y 4 ∧
    (st0_5 t).view.read (Elt F) f7 = Y 5 ∧
    (st0_6 t).view.read (Elt F) f8 = Y 6 ∧
    (st0_5 t).view.read (Elt F) g7 = X 5 ∧
    (st0_6 t).view.read (Elt F) g8 = X 6 ∧
    BodyRel (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) c (grid0.coords t) f2 f3 f4 f5 f6 f7 f8 s.s9 s.s10 g7 g8 s'.s9 s'.s10

/-- The input windows hold their blocks of the arrays as the region finds them. -/
def InBlocks (c : Dev nD) (t : Fin cfg0.N) (Y : Blocks F) : Prop :=
  Y 0 = iblk m c 0 t ∧ Y 1 = iblk m c 1 t ∧ Y 2 = iblk m c 2 t ∧ Y 3 = iblk m c 3 t ∧ Y 4 = iblk m c 4 t

/-- The scratch contents that the first `n` points may leave. -/
def Inv (c : Dev nD) : ℕ → Scr F → Prop
  | 0, _ => True
  | n + 1, s' => ∃ (h : n < cfg0.N) (Y : Blocks F) (s : Scr F) (X : Blocks F),
      InBlocks m c ⟨n, h⟩ Y ∧ Inv c n s ∧ Point c ⟨n, h⟩ Y s X s'

/-- What the body may leave in window `w`, found at `Y`: an input is left as found. -/
def After (c : Dev nD) (w : Fin cfg0.W) (t : Fin cfg0.N) (Y X : (cfg0.win w).block.Idx → Elt F (cfg0.win w).elt) : Prop :=
  (w.val < 5 → X = Y) ∧ (5 ≤ w.val → ∃ (Y' : Blocks F) (s : Scr F) (X' : Blocks F) (s' : Scr F),
    InBlocks m c t Y' ∧ Inv m c t.val s ∧ Point c t Y' s X' s' ∧ Y' w = Y ∧ X' w = X)

/-- The scratch held at contents that the points before the `n`-th may leave, and the generator register. -/
def Phi (c : Dev nD) (n : ℕ) : sProp (MT nD τ sig Unit (Elt F) ℕ (UR sig nD τ) ℕ) :=
  iprop((∃ s : Scr F, ⌜Inv m c n s⌝ ∗ pt c (Memref.whole cc0_scratch0) s.s9 ∗ pt c (Memref.whole cc0_scratch1) s.s10) ∗ ∃ r, prngReg c r)

/-- The proof data on core `c`. -/
def rdats (_ : Fin 1) (c : Dev nD) : RDat τ (Elt F) Unit ℕ (UR sig nD τ) ℕ cfg0 c where
  A w := V m c (Pipeline.arrRef spec0 w)
  after w t Y X := After m c w t Y X
  Φ t := Phi m c t.val
  q w := Pipeline.shareOf spec0 w
  owed _ := 0

theorem rA_eq (c : Dev nD) (w : Fin cfg0.W) : (rdats m 0 c).A w = V m c (Pipeline.arrRef spec0 w) := by dsimp only [rdats]

theorem scr_pt (c : Dev nD) (b : Ref sig .tc) (f : Buf (Elt F) ((c : Thread nD τ).loc b)) :
    ((c : Thread nD τ).loc b ↦{fullShare} f : sProp (MT nD τ sig Unit (Elt F) ℕ (UR sig nD τ) ℕ)) = ((Memref.whole b).view.loc (c : Thread nD τ) ↦[(Memref.whole b).view.set]{fullShare} f) := by
  simp only [View.set_whole]

theorem phi_in (c : Dev nD) : (Pipeline.ΦA spec0 c : sProp (MT nD τ sig Unit (Elt F) ℕ (UR sig nD τ) ℕ)) ⊢ Phi m c 0 := by
  unfold Pipeline.ΦA Phi
  rw [scopedRest0_eq]
  simp only [scr_pt]
  iintro ⟨⟨⟨%a, Ha⟩, ⟨%b, Hb⟩⟩, Hg⟩
  isplitl [Ha Hb]
  · iexists (⟨a, b⟩ : Scr F)
    isplitr; · ipureintro; exact trivial
    isplitl [Ha]; · iexact Ha
    iexact Hb
  iexact Hg

theorem phi_out (c : Dev nD) (n : ℕ) : Phi m c n ⊢ (Pipeline.ΦA spec0 c : sProp (MT nD τ sig Unit (Elt F) ℕ (UR sig nD τ) ℕ)) := by
  unfold Pipeline.ΦA Phi
  rw [scopedRest0_eq]
  simp only [scr_pt]
  iintro ⟨⟨%s, -, Ha, Hb⟩, Hg⟩
  isplitl [Ha Hb]
  · isplitl [Ha]; · iexists _; iexact Ha
    iexists _; iexact Hb
  iexact Hg

theorem finds_in0 (c : Dev nD) (t : Fin cfg0.N) (Y : (cfg0.win 0).block.Idx → Elt F (cfg0.win 0).elt)
    (h : (rdats m 0 c).Finds 0 t Y) : Y = iblk m c 0 t := by
  obtain ⟨d, hd⟩ := (rdats m 0 c).finds_in_eq_fetched 0 rfl (fun _ _ _ => rfl) (fun t Y X h => h.1 (by decide)) t Y h
  rw [hd]; unfold RDat.fetched RDat.blockOf iblk; rw [rA_eq]; try rfl
theorem finds_in1 (c : Dev nD) (t : Fin cfg0.N) (Y : (cfg0.win 1).block.Idx → Elt F (cfg0.win 1).elt)
    (h : (rdats m 0 c).Finds 1 t Y) : Y = iblk m c 1 t := by
  obtain ⟨d, hd⟩ := (rdats m 0 c).finds_in_eq_fetched 1 rfl (fun _ _ _ => rfl) (fun t Y X h => h.1 (by decide)) t Y h
  rw [hd]; unfold RDat.fetched RDat.blockOf iblk; rw [rA_eq]; try rfl
theorem finds_in2 (c : Dev nD) (t : Fin cfg0.N) (Y : (cfg0.win 2).block.Idx → Elt F (cfg0.win 2).elt)
    (h : (rdats m 0 c).Finds 2 t Y) : Y = iblk m c 2 t := by
  obtain ⟨d, hd⟩ := (rdats m 0 c).finds_in_eq_fetched 2 rfl (fun _ _ _ => rfl) (fun t Y X h => h.1 (by decide)) t Y h
  rw [hd]; unfold RDat.fetched RDat.blockOf iblk; rw [rA_eq]; try rfl
theorem finds_in3 (c : Dev nD) (t : Fin cfg0.N) (Y : (cfg0.win 3).block.Idx → Elt F (cfg0.win 3).elt)
    (h : (rdats m 0 c).Finds 3 t Y) : Y = iblk m c 3 t := by
  obtain ⟨d, hd⟩ := (rdats m 0 c).finds_in_eq_fetched 3 rfl (fun _ _ _ => rfl) (fun t Y X h => h.1 (by decide)) t Y h
  rw [hd]; unfold RDat.fetched RDat.blockOf iblk; rw [rA_eq]; try rfl
theorem finds_in4 (c : Dev nD) (t : Fin cfg0.N) (Y : (cfg0.win 4).block.Idx → Elt F (cfg0.win 4).elt)
    (h : (rdats m 0 c).Finds 4 t Y) : Y = iblk m c 4 t := by
  obtain ⟨d, hd⟩ := (rdats m 0 c).finds_in_eq_fetched 4 rfl (fun _ _ _ => rfl) (fun t Y X h => h.1 (by decide)) t Y h
  rw [hd]; unfold RDat.fetched RDat.blockOf iblk; rw [rA_eq]; try rfl

/-- Every window's buffer at the contents `X`. -/
abbrev OwnAll (c : Dev nD) (t : Fin cfg0.N) (X : Blocks F) : sProp (MT nD τ sig Unit (Elt F) ℕ (UR sig nD τ) ℕ) :=
  iprop(owns (c : Thread nD τ) (st0_0 t) fullShare (X 0) ∗ owns (c : Thread nD τ) (st0_1 t) fullShare (X 1) ∗ owns (c : Thread nD τ) (st0_2 t) fullShare (X 2) ∗ owns (c : Thread nD τ) (st0_3 t) fullShare (X 3) ∗ owns (c : Thread nD τ) (st0_4 t) fullShare (X 4) ∗ owns (c : Thread nD τ) (st0_5 t) fullShare (X 5) ∗ owns (c : Thread nD τ) (st0_6 t) fullShare (X 6))
/-- The two scratch buffers. -/
abbrev ScrPt (c : Dev nD) (s : Scr F) : sProp (MT nD τ sig Unit (Elt F) ℕ (UR sig nD τ) ℕ) :=
  iprop(pt c (Memref.whole cc0_scratch0) s.s9 ∗ pt c (Memref.whole cc0_scratch1) s.s10)

/-- The contents `Y` with the output windows' replaced. -/
def mix (Y : Blocks F) (X7 : S512x128.Idx → Elt F .f32) (X8 : S2x512x1.Idx → Elt F .f32) : Blocks F
  | 0 => Y 0 | 1 => Y 1 | 2 => Y 2 | 3 => Y 3 | 4 => Y 4 | 5 => X7 | 6 => X8

/-- The body at a point, from every window's buffer at `Y` and the scratch at `s`. -/
theorem point_run (c : Dev nD) (t : Fin cfg0.N) (Y : Blocks F) (s : Scr F) (E : Set ℕ) :
    iprop(OwnAll c t Y ∗ ScrPt c s)
      ⊢ wp frame (wpE (defs₀ (F := F)) Variants.none (c : Thread nD τ) none) E (bodyAt0 t) (fun _ =>
        iprop(∃ (X : Blocks F) (s' : Scr F), ⌜Point c t Y s X s' ∧ X 0 = Y 0 ∧ X 1 = Y 1 ∧ X 2 = Y 2 ∧ X 3 = Y 3 ∧ X 4 = Y 4⌝ ∗ OwnAll c t X ∗ ScrPt c s')) := by
  unfold OwnAll ScrPt owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩, H9, H10⟩
  iapply ((run_all (F := F) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) c (grid0.coords t) f2 f3 f4 f5 f6 f7 f8 s.s9 s.s10 E).trans (wp_mono _ _ _ (fun _ => ?post)))
  case post =>
    iintro ⟨%g7, %g8, %g9, %g10, %hr, H2, H3, H4, H5, H6, H7, H8, H9, H10⟩
    iexists (mix Y ((st0_5 t).view.read (Elt F) g7) ((st0_6 t).view.read (Elt F) g8)), (⟨g9, g10⟩ : Scr F)
    isplitr
    · ipureintro
      exact ⟨⟨f2, f3, f4, f5, f6, f7, f8, g7, g8, h2, h3, h4, h5, h6, h7, h8, rfl, rfl, hr⟩, rfl, rfl, rfl, rfl, rfl⟩
    isplitl [H2 H3 H4 H5 H6 H7 H8]
    · isplitl [H2]
      · iexists f2; isplitr; swap; · iexact H2
        ipureintro; exact h2
      isplitl [H3]
      · iexists f3; isplitr; swap; · iexact H3
        ipureintro; exact h3
      isplitl [H4]
      · iexists f4; isplitr; swap; · iexact H4
        ipureintro; exact h4
      isplitl [H5]
      · iexists f5; isplitr; swap; · iexact H5
        ipureintro; exact h5
      isplitl [H6]
      · iexists f6; isplitr; swap; · iexact H6
        ipureintro; exact h6
      isplitl [H7]
      · iexists g7; isplitr; swap; · iexact H7
        ipureintro; rfl
      iexists g8; isplitr; swap; · iexact H8
      ipureintro; rfl
    isplitl [H9]; · iexact H9
    iexact H10
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option backward.isDefEq.respectTransparency.types false in
/-- The body obligation of the relational proof data. -/
theorem body_obligation (c : Dev nD) : (rdats m 0 c).BodyObligation (defs₀ (F := F)) Variants.none () Set.univ := by
  intro t Y hY
  have hin : InBlocks m c t Y := ⟨finds_in0 m c t _ (hY 0), finds_in1 m c t _ (hY 1), finds_in2 m c t _ (hY 2), finds_in3 m c t _ (hY 3), finds_in4 m c t _ (hY 4)⟩
  rw [bigSep_W0, bigSep_W0, defs₀_row]
  rw [show (rdats m 0 c).Φ t.castSucc = Phi m c t.val from rfl, show (rdats m 0 c).Φ t.succ = Phi m c (t.val + 1) from rfl]
  unfold RDat.owesAt Pipeline.owesWithin
  rw [show (rdats m 0 c).owed t.castSucc = 0 from rfl, show (rdats m 0 c).owed t.succ = 0 from rfl]
  unfold Phi
  iintro ⟨⟨⟨%s, %hs, HS⟩, Hg⟩, ⟨%W, %hW, HO⟩, HW⟩
  have hpost : ∀ _ : PUnit, iprop((∃ (X : Blocks F) (s' : Scr F), ⌜Point c t Y s X s' ∧ X 0 = Y 0 ∧ X 1 = Y 1 ∧ X 2 = Y 2 ∧ X 3 = Y 3 ∧ X 4 = Y 4⌝ ∗ OwnAll c t X ∗ ScrPt c s')
        ∗ ((∃ r, prngReg c r) ∗ owes (c : Thread nD τ) 0 W))
      ⊢ (iprop(((∃ s : Scr F, ⌜Inv m c (t.val + 1) s⌝ ∗ ScrPt c s) ∗ ∃ r, prngReg c r)
        ∗ (∃ W' : Waits sig Unit, ⌜(↑W' : Set _) ⊆ (rdats m 0 c).bound () t.succ⌝ ∗ owes (c : Thread nD τ) 0 W')
        ∗ (∃ X, ⌜(rdats m 0 c).after 0 t (Y 0) X⌝ ∗ owns (c : Thread nD τ) (st0_0 t) fullShare X) ∗ (∃ X, ⌜(rdats m 0 c).after 1 t (Y 1) X⌝ ∗ owns (c : Thread nD τ) (st0_1 t) fullShare X) ∗ (∃ X, ⌜(rdats m 0 c).after 2 t (Y 2) X⌝ ∗ owns (c : Thread nD τ) (st0_2 t) fullShare X) ∗ (∃ X, ⌜(rdats m 0 c).after 3 t (Y 3) X⌝ ∗ owns (c : Thread nD τ) (st0_3 t) fullShare X) ∗ (∃ X, ⌜(rdats m 0 c).after 4 t (Y 4) X⌝ ∗ owns (c : Thread nD τ) (st0_4 t) fullShare X) ∗ (∃ X, ⌜(rdats m 0 c).after 5 t (Y 5) X⌝ ∗ owns (c : Thread nD τ) (st0_5 t) fullShare X) ∗ (∃ X, ⌜(rdats m 0 c).after 6 t (Y 6) X⌝ ∗ owns (c : Thread nD τ) (st0_6 t) fullShare X)) : sProp (MT nD τ sig Unit (Elt F) ℕ (UR sig nD τ) ℕ)) := by
    intro _
    iintro ⟨⟨%X, %s', %hp, ⟨H0, H1, H2, H3, H4, H5, H6⟩, HS⟩, Hg, HO⟩
    isplitl [HS Hg]
    · isplitl [HS]
      · iexists s'; isplitr
        · ipureintro; exact ⟨t.isLt, Y, s, X, hin, hs, hp.1⟩
        iexact HS
      iexact Hg
    isplitl [HO]
    · iexists W; isplitr
      · ipureintro; exact hW
      iexact HO
    isplitl [H0]
    · iexists X 0; isplitr
      · ipureintro; exact ⟨fun _ => hp.2.1, fun h => absurd h (by decide)⟩
      iexact H0
    isplitl [H1]
    · iexists X 1; isplitr
      · ipureintro; exact ⟨fun _ => hp.2.2.1, fun h => absurd h (by decide)⟩
      iexact H1
    isplitl [H2]
    · iexists X 2; isplitr
      · ipureintro; exact ⟨fun _ => hp.2.2.2.1, fun h => absurd h (by decide)⟩
      iexact H2
    isplitl [H3]
    · iexists X 3; isplitr
      · ipureintro; exact ⟨fun _ => hp.2.2.2.2.1, fun h => absurd h (by decide)⟩
      iexact H3
    isplitl [H4]
    · iexists X 4; isplitr
      · ipureintro; exact ⟨fun _ => hp.2.2.2.2.2, fun h => absurd h (by decide)⟩
      iexact H4
    isplitl [H5]
    · iexists X 5; isplitr
      · ipureintro; exact ⟨fun h => absurd h (by decide), fun _ => ⟨Y, s, X, s', hin, hs, hp.1, rfl, rfl⟩⟩
      iexact H5
    iexists X 6; isplitr
    · ipureintro; exact ⟨fun h => absurd h (by decide), fun _ => ⟨Y, s, X, s', hin, hs, hp.1, rfl, rfl⟩⟩
    iexact H6
  have hw := (sep_mono_left (Q := iprop((∃ r, prngReg c r) ∗ owes (c : Thread nD τ) 0 W)) (point_run c t Y s Set.univ)).trans
    ((wp_frame_r _ _ _).trans (wp_mono _ _ _ hpost))
  iapply hw
  isplitl [HW HS]
  · isplitl [HW]; · iexact HW
    iexact HS
  isplitl [Hg]; · iexact Hg
  iexact HO

set_option backward.isDefEq.respectTransparency.types false in
/-- Every weakly fair execution of the program terminates, with the windows' arrays at what the points may write to them
    and every counter at zero. -/
theorem run_main :
    θ_run defs (onTc (τ := τ) (main (F := F))) (s₀ m ρ)
      (fun r => RDat.FramePost (cfgs 0) (fun c => rdats m 0 c) (V m) r ∧ r.2.sem = fun _ => 0) :=
  RDat.θ_run_frame_track_shared (Q' := _) cfgs (0 : Fin 1) launch₀0 defs₀ Variants.none (fun c => rdats m 0 c) m ρ main
    (hbody := fun c => body_obligation m c) (hq := fun _ _ _ => rfl)
    (howed := fun _ _ => rfl) (V := V m) (hmain := hmain m Variants.none) (hA := rA_eq m)
    (hin := fun c => phi_in m c) (hout := fun c => phi_out m c _)

variable {m ρ}

/-- What a run leaves in the arguments: nothing wrote them. -/
theorem args_kept {r : PUnit × MemSt nD τ sig (Elt F)}
    (h : RDat.FramePost (cfgs 0) (fun c => rdats m 0 c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(RDat.FramePost.arr_in h c 2 rfl).trans ((rA_eq m c 2).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.FwdIdeal.Hand
end
-- ==== Proof.FwdFrames.lean ====
/-
  Hand-written, untrusted. The frames of the attention's forward call: its run read at the arguments and at the counters, for the
  compiled kernel and for the idealized one, and the reference's generated run read the same way.
-/
module

public import proofs.«01_k».proof.Defs
public import proofs.«01_k».proof.Proof.FwdRun
public import proofs.«01_k».proof.Proof.Gen.Fwd
public import proofs.«01_k».proof.Proof.Gen.FwdIdeal
public import proofs.«01_k».proof.Proof.Gen.FwdPlainIdeal
public import proofs.«01_k».proof.Proof.Gen.FwdPlainIdeal.Run

@[expose] public section

set_option maxHeartbeats 2000000
set_option maxRecDepth 16384

noncomputable section

namespace Cert.FwdProof

open Idealize.ShloMosaic Idealize.SL.Sem
open Cert.FwdIdeal.Hand

/-- The two programs' body tables are one: both run the same body at the same buffers. -/
theorem bodies_eq : Cert.Fwd.defs₀ (F := Bits) = Cert.FwdIdeal.defs₀ (F := Bits) := by
  unfold Cert.Fwd.defs₀ Cert.FwdIdeal.defs₀
  refine congrArg Defs.onTc ?_
  funext l a
  match l, a with
  | 0, (t, s) => rfl

theorem defs_eq : Cert.Fwd.defs (F := Bits) = Cert.FwdIdeal.defs (F := Bits) :=
  congrArg (Pipeline.defs (Cert.FwdIdeal.pcfgs (F := Bits))) bodies_eq

/-- What the frame says of a final state. -/
abbrev Kept {F : FTy → Type} (m : (ℓ : Loc Cert.FwdIdeal.nD Cert.FwdIdeal.τ Cert.FwdIdeal.sig) → Buf (Elt F) ℓ)
    (r : PUnit × MemSt Cert.FwdIdeal.nD Cert.FwdIdeal.τ Cert.FwdIdeal.sig (Elt F)) : Prop :=
  (∀ c : Dev Cert.FwdIdeal.nD,
    r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)) ∧ r.2.sem = fun _ => 0

/-- The compiled kernel's frame: the run at the bit-exact floats. -/
theorem frame_kernel : Cert.quiescent_Fwd (hFwd := Cert.Fwd.Gen.facts) := fun m ρ _ => by
  have key : ∀ D, D = Cert.FwdIdeal.defs (F := Bits) →
      θ_run D (onTc (τ := Cert.FwdIdeal.τ) (Cert.FwdIdeal.main (F := Bits))) (s₀ m ρ) (Kept (F := Bits) m) := by
    rintro _ rfl
    exact (θ_run Cert.FwdIdeal.defs _ _).mono (fun _ h => ⟨fun c => args_kept h.1 c, h.2⟩) (run_main (F := Bits) m ρ)
  exact key (Cert.Fwd.defs (F := Bits)) defs_eq

/-- The idealized kernel's frame. -/
theorem frame_ideal : Cert.quiescent_FwdIdeal (hFwdIdeal := Cert.FwdIdeal.Gen.facts) := fun m ρ _ =>
  (θ_run Cert.FwdIdeal.defs _ _).mono (fun _ h => ⟨fun c => args_kept h.1 c, h.2⟩) (run_main (F := Ideal) m ρ)

/-- The reference's frame: it declares no semaphore. -/
theorem frame_reference : Cert.quiescent_FwdPlainIdeal (hFwdPlainIdeal := Cert.FwdPlainIdeal.Gen.facts) := fun m ρ _ =>
  (θ_run Cert.FwdPlainIdeal.defs _ _).mono
    (fun r h => ⟨fun c => (h c).2.2, Idealize.ShloMosaic.sem_eq_zero_of_no_sems (by decide) r.2⟩)
    (Cert.FwdPlainIdeal.Value.run m ρ)

end Cert.FwdProof

end
-- ==== Proof.lean ====
/- The proof of the claim. Hand-written, untrusted. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Fwd
public import proofs.«01_k».proof.Proof.Gen.Fwd.Skeleton
public import proofs.«01_k».proof.Proof.Gen.Fwd.Loops
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Loops
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdPlainIdeal
public import proofs.«01_k».proof.Proof.Gen.FwdPlainIdeal.Run
public import proofs.«01_k».proof.Proof.Frames
public import proofs.«01_k».proof.Proof.Value
public import proofs.«01_k».proof.Proof.InProj
public import proofs.«01_k».proof.Proof.DIn
public import proofs.«01_k».proof.Proof.Glu
public import proofs.«01_k».proof.Proof.PleProj
public import proofs.«01_k».proof.Proof.DPleGate
public import proofs.«01_k».proof.Proof.DPleProj
public import proofs.«01_k».proof.Proof.DOut
public import proofs.«01_k».proof.Proof.DGlu
public import proofs.«01_k».proof.Proof.DYcat
public import proofs.«01_k».proof.Proof.DZ
public import proofs.«01_k».proof.Proof.PleGate
public import proofs.«01_k».proof.Proof.MixOut
public import proofs.«01_k».proof.Proof.DHn2
public import proofs.«01_k».proof.Proof.DHn
public import proofs.«01_k».proof.Proof.FwdFrames
public import Idealize.ShloMosaic.Adequacy
public import Idealize.ShloMosaic.Init

@[expose] public section

noncomputable section

namespace Cert.Proof

open Idealize.ShloMosaic Idealize.SL.Sem

theorem plain_InProj : Cert.quiescent_InProjPlainIdeal (hInProjPlainIdeal := Cert.InProjPlainIdeal.Gen.facts) := fun m g _ =>
  (θ_run Cert.InProjPlainIdeal.defs _ _).mono (fun r h => ⟨fun c => (h c).2, sem_eq_zero_of_no_sems (by decide) r.2⟩) (Cert.InProjPlainIdeal.Value.run m g)

theorem plain_DIn : Cert.quiescent_DInPlainIdeal (hDInPlainIdeal := Cert.DInPlainIdeal.Gen.facts) := fun m g _ =>
  (θ_run Cert.DInPlainIdeal.defs _ _).mono (fun r h => ⟨fun c => (h c).2, sem_eq_zero_of_no_sems (by decide) r.2⟩) (Cert.DInPlainIdeal.Value.run m g)

theorem plain_Glu : Cert.quiescent_GluPlainIdeal (hGluPlainIdeal := Cert.GluPlainIdeal.Gen.facts) := fun m g _ =>
  (θ_run Cert.GluPlainIdeal.defs _ _).mono (fun r h => ⟨fun c => (h c).2, sem_eq_zero_of_no_sems (by decide) r.2⟩) (Cert.GluPlainIdeal.Value.run m g)

theorem plain_PleProj : Cert.quiescent_PleProjPlainIdeal (hPleProjPlainIdeal := Cert.PleProjPlainIdeal.Gen.facts) := fun m g _ =>
  (θ_run Cert.PleProjPlainIdeal.defs _ _).mono (fun r h => ⟨fun c => (h c).2, sem_eq_zero_of_no_sems (by decide) r.2⟩) (Cert.PleProjPlainIdeal.Value.run m g)

theorem plain_DPleGate : Cert.quiescent_DPleGatePlainIdeal (hDPleGatePlainIdeal := Cert.DPleGatePlainIdeal.Gen.facts) := fun m g _ =>
  (θ_run Cert.DPleGatePlainIdeal.defs _ _).mono (fun r h => ⟨fun c => (h c).2, sem_eq_zero_of_no_sems (by decide) r.2⟩) (Cert.DPleGatePlainIdeal.Value.run m g)

theorem plain_DPleProj : Cert.quiescent_DPleProjPlainIdeal (hDPleProjPlainIdeal := Cert.DPleProjPlainIdeal.Gen.facts) := fun m g _ =>
  (θ_run Cert.DPleProjPlainIdeal.defs _ _).mono (fun r h => ⟨fun c => (h c).2, sem_eq_zero_of_no_sems (by decide) r.2⟩) (Cert.DPleProjPlainIdeal.Value.run m g)

theorem plain_DOut : Cert.quiescent_DOutPlainIdeal (hDOutPlainIdeal := Cert.DOutPlainIdeal.Gen.facts) := fun m g _ =>
  (θ_run Cert.DOutPlainIdeal.defs _ _).mono (fun r h => ⟨fun c => (h c).2, sem_eq_zero_of_no_sems (by decide) r.2⟩) (Cert.DOutPlainIdeal.Value.run m g)

theorem plain_DGlu : Cert.quiescent_DGluPlainIdeal (hDGluPlainIdeal := Cert.DGluPlainIdeal.Gen.facts) := fun m g _ =>
  (θ_run Cert.DGluPlainIdeal.defs _ _).mono (fun r h => ⟨fun c => (h c).2, sem_eq_zero_of_no_sems (by decide) r.2⟩) (Cert.DGluPlainIdeal.Value.run m g)

theorem plain_DYcat : Cert.quiescent_DYcatPlainIdeal (hDYcatPlainIdeal := Cert.DYcatPlainIdeal.Gen.facts) := fun m g _ =>
  (θ_run Cert.DYcatPlainIdeal.defs _ _).mono (fun r h => ⟨fun c => (h c).2, sem_eq_zero_of_no_sems (by decide) r.2⟩) (Cert.DYcatPlainIdeal.Value.run m g)

theorem plain_DZ : Cert.quiescent_DZPlainIdeal (hDZPlainIdeal := Cert.DZPlainIdeal.Gen.facts) := fun m g _ =>
  (θ_run Cert.DZPlainIdeal.defs _ _).mono (fun r h => ⟨fun c => (h c).2, sem_eq_zero_of_no_sems (by decide) r.2⟩) (Cert.DZPlainIdeal.Value.run m g)

theorem plain_PleGate : Cert.quiescent_PleGatePlainIdeal (hPleGatePlainIdeal := Cert.PleGatePlainIdeal.Gen.facts) := fun m g _ =>
  (θ_run Cert.PleGatePlainIdeal.defs _ _).mono (fun r h => ⟨fun c => (h c).2.2, sem_eq_zero_of_no_sems (by decide) r.2⟩) (Cert.PleGatePlainIdeal.Value.run m g)

theorem plain_MixOut : Cert.quiescent_MixOutPlainIdeal (hMixOutPlainIdeal := Cert.MixOutPlainIdeal.Gen.facts) := fun m g _ =>
  (θ_run Cert.MixOutPlainIdeal.defs _ _).mono (fun r h => ⟨fun c => (h c).2.2, sem_eq_zero_of_no_sems (by decide) r.2⟩) (Cert.MixOutPlainIdeal.Value.run m g)

theorem plain_DHn2 : Cert.quiescent_DHn2PlainIdeal (hDHn2PlainIdeal := Cert.DHn2PlainIdeal.Gen.facts) := fun m g _ =>
  (θ_run Cert.DHn2PlainIdeal.defs _ _).mono (fun r h => ⟨fun c => (h c).2.2, sem_eq_zero_of_no_sems (by decide) r.2⟩) (Cert.DHn2PlainIdeal.Value.run m g)

theorem plain_DHn : Cert.quiescent_DHnPlainIdeal (hDHnPlainIdeal := Cert.DHnPlainIdeal.Gen.facts) := fun m g _ =>
  (θ_run Cert.DHnPlainIdeal.defs _ _).mono (fun r h => ⟨fun c => (h c).2.2, sem_eq_zero_of_no_sems (by decide) r.2⟩) (Cert.DHnPlainIdeal.Value.run m g)

theorem claim : Cert.Claim := ⟨Cert.Kernel.Gen.facts, Cert.KernelIdeal.Gen.facts, Cert.ReferenceIdeal.Gen.facts, Cert.Fwd.Gen.facts, Cert.FwdIdeal.Gen.facts, Cert.FwdPlainIdeal.Gen.facts, Cert.InProj.Gen.facts, Cert.InProjIdeal.Gen.facts, Cert.InProjPlainIdeal.Gen.facts, Cert.DIn.Gen.facts, Cert.DInIdeal.Gen.facts, Cert.DInPlainIdeal.Gen.facts, Cert.Glu.Gen.facts, Cert.GluIdeal.Gen.facts, Cert.GluPlainIdeal.Gen.facts, Cert.PleProj.Gen.facts, Cert.PleProjIdeal.Gen.facts, Cert.PleProjPlainIdeal.Gen.facts, Cert.DPleGate.Gen.facts, Cert.DPleGateIdeal.Gen.facts, Cert.DPleGatePlainIdeal.Gen.facts, Cert.DPleProj.Gen.facts, Cert.DPleProjIdeal.Gen.facts, Cert.DPleProjPlainIdeal.Gen.facts, Cert.DOut.Gen.facts, Cert.DOutIdeal.Gen.facts, Cert.DOutPlainIdeal.Gen.facts, Cert.DGlu.Gen.facts, Cert.DGluIdeal.Gen.facts, Cert.DGluPlainIdeal.Gen.facts, Cert.DYcat.Gen.facts, Cert.DYcatIdeal.Gen.facts, Cert.DYcatPlainIdeal.Gen.facts, Cert.DZ.Gen.facts, Cert.DZIdeal.Gen.facts, Cert.DZPlainIdeal.Gen.facts, Cert.PleGate.Gen.facts, Cert.PleGateIdeal.Gen.facts, Cert.PleGatePlainIdeal.Gen.facts, Cert.MixOut.Gen.facts, Cert.MixOutIdeal.Gen.facts, Cert.MixOutPlainIdeal.Gen.facts, Cert.DHn2.Gen.facts, Cert.DHn2Ideal.Gen.facts, Cert.DHn2PlainIdeal.Gen.facts, Cert.DHn.Gen.facts, Cert.DHnIdeal.Gen.facts, Cert.DHnPlainIdeal.Gen.facts,
  Cert.Value.finite_facts,
  frame_kernel,
  frame_ideal,
  fun m g _ => frame_ideal m g trivial,
  frame_reference,
  fun m g _ => frame_reference m g trivial,
  Cert.FwdProof.frame_kernel,
  Cert.FwdProof.frame_ideal,
  Cert.FwdProof.frame_reference,
  fun m g _ => Cert.InProj.Gen.frame m g,
  fun m g _ => Cert.InProjIdeal.Gen.frame m g,
  plain_InProj,
  fun m g _ => Cert.DIn.Gen.frame m g,
  fun m g _ => Cert.DInIdeal.Gen.frame m g,
  plain_DIn,
  fun m g _ => Cert.Glu.Gen.frame m g,
  fun m g _ => Cert.GluIdeal.Gen.frame m g,
  plain_Glu,
  fun m g _ => Cert.PleProj.Gen.frame m g,
  fun m g _ => Cert.PleProjIdeal.Gen.frame m g,
  plain_PleProj,
  fun m g _ => Cert.DPleGate.Gen.frame m g,
  fun m g _ => Cert.DPleGateIdeal.Gen.frame m g,
  plain_DPleGate,
  fun m g _ => Cert.DPleProj.Gen.frame m g,
  fun m g _ => Cert.DPleProjIdeal.Gen.frame m g,
  plain_DPleProj,
  fun m g _ => Cert.DOut.Gen.frame m g,
  fun m g _ => Cert.DOutIdeal.Gen.frame m g,
  plain_DOut,
  fun m g _ => Cert.DGlu.Gen.frame m g,
  fun m g _ => Cert.DGluIdeal.Gen.frame m g,
  plain_DGlu,
  fun m g _ => Cert.DYcat.Gen.frame m g,
  fun m g _ => Cert.DYcatIdeal.Gen.frame m g,
  plain_DYcat,
  fun m g _ => Cert.DZ.Gen.frame m g,
  fun m g _ => Cert.DZIdeal.Gen.frame m g,
  plain_DZ,
  fun m g _ => Cert.PleGate.Gen.frame m g,
  fun m g _ => Cert.PleGateIdeal.Gen.frame m g,
  plain_PleGate,
  fun m g _ => Cert.MixOut.Gen.frame m g,
  fun m g _ => Cert.MixOutIdeal.Gen.frame m g,
  plain_MixOut,
  fun m g _ => Cert.DHn2.Gen.frame m g,
  fun m g _ => Cert.DHn2Ideal.Gen.frame m g,
  plain_DHn2,
  fun m g _ => Cert.DHn.Gen.frame m g,
  fun m g _ => Cert.DHnIdeal.Gen.frame m g,
  plain_DHn,
  trivial,
  Cert.Value.same_values,
  trivial,
  trivial,
  Cert.InProjIdeal.Hand.same,
  trivial,
  Cert.DInIdeal.Hand.same,
  trivial,
  Cert.GluIdeal.Hand.same,
  trivial,
  Cert.PleProjIdeal.Hand.same,
  trivial,
  Cert.DPleGateIdeal.Hand.same,
  trivial,
  Cert.DPleProjIdeal.Hand.same,
  trivial,
  Cert.DOutIdeal.Hand.same,
  trivial,
  Cert.DGluIdeal.Hand.same,
  trivial,
  Cert.DYcatIdeal.Hand.same,
  trivial,
  Cert.DZIdeal.Hand.same,
  trivial,
  Cert.PleGateIdeal.Hand.same,
  trivial,
  Cert.MixOutIdeal.Hand.same,
  trivial,
  Cert.DHn2Ideal.Hand.same,
  trivial,
  Cert.DHnIdeal.Hand.same⟩

end Cert.Proof

end
